-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))) = (fun _ => 1#1)

def Pre_GateOneKernel (m : (ℓ : Loc Cert.GateOneKernel.nD Cert.GateOneKernel.τ Cert.GateOneKernel.sig) → Buf (Elt Bits) ℓ) : Prop :=
  True

def Pre_GateOneKernelIdeal (m : (ℓ : Loc Cert.GateOneKernelIdeal.nD Cert.GateOneKernelIdeal.τ Cert.GateOneKernelIdeal.sig) → Buf (Elt Ideal) ℓ) : Prop :=
  True

def Pre_GateOneKernelIdeal_gate1_finite [hPre_gate1_finite : Cert.Pre_gate1_finite.Facts] (m : (ℓ : Loc Cert.GateOneKernelIdeal.nD Cert.GateOneKernelIdeal.τ Cert.GateOneKernelIdeal.sig) → Buf (Elt Ideal) ℓ) : Prop :=
  ∀ c : Dev Cert.GateOneKernelIdeal.nD,
    (Cert.Pre_gate1_finite.fn (F := Ideal) (m ((c.tc : Thread Cert.GateOneKernelIdeal.nD Cert.GateOneKernelIdeal.τ).loc Cert.GateOneKernelIdeal.main_arg0)) (m ((c.tc : Thread Cert.GateOneKernelIdeal.nD Cert.GateOneKernelIdeal.τ).loc Cert.GateOneKernelIdeal.main_arg1)) (m ((c.tc : Thread Cert.GateOneKernelIdeal.nD Cert.GateOneKernelIdeal.τ).loc Cert.GateOneKernelIdeal.main_arg2)) (m ((c.tc : Thread Cert.GateOneKernelIdeal.nD Cert.GateOneKernelIdeal.τ).loc Cert.GateOneKernelIdeal.main_arg3))) = (fun _ => 1#1)

def Pre_GateOneReferenceIdeal (m : (ℓ : Loc Cert.GateOneReferenceIdeal.nD Cert.GateOneReferenceIdeal.τ Cert.GateOneReferenceIdeal.sig) → Buf (Elt Ideal) ℓ) : Prop :=
  True

def Pre_GateOneReferenceIdeal_gate1_finite [hPre_gate1_finite : Cert.Pre_gate1_finite.Facts] (m : (ℓ : Loc Cert.GateOneReferenceIdeal.nD Cert.GateOneReferenceIdeal.τ Cert.GateOneReferenceIdeal.sig) → Buf (Elt Ideal) ℓ) : Prop :=
  ∀ c : Dev Cert.GateOneReferenceIdeal.nD,
    (Cert.Pre_gate1_finite.fn (F := Ideal) (m ((c.tc : Thread Cert.GateOneReferenceIdeal.nD Cert.GateOneReferenceIdeal.τ).loc Cert.GateOneReferenceIdeal.main_arg0)) (m ((c.tc : Thread Cert.GateOneReferenceIdeal.nD Cert.GateOneReferenceIdeal.τ).loc Cert.GateOneReferenceIdeal.main_arg1)) (m ((c.tc : Thread Cert.GateOneReferenceIdeal.nD Cert.GateOneReferenceIdeal.τ).loc Cert.GateOneReferenceIdeal.main_arg2)) (m ((c.tc : Thread Cert.GateOneReferenceIdeal.nD Cert.GateOneReferenceIdeal.τ).loc Cert.GateOneReferenceIdeal.main_arg3))) = (fun _ => 1#1)

def Pre_GateAKernel (m : (ℓ : Loc Cert.GateAKernel.nD Cert.GateAKernel.τ Cert.GateAKernel.sig) → Buf (Elt Bits) ℓ) : Prop :=
  True

def Pre_GateAKernelIdeal (m : (ℓ : Loc Cert.GateAKernelIdeal.nD Cert.GateAKernelIdeal.τ Cert.GateAKernelIdeal.sig) → Buf (Elt Ideal) ℓ) : Prop :=
  True

def Pre_GateAKernelIdeal_gatea_finite [hPre_gatea_finite : Cert.Pre_gatea_finite.Facts] (m : (ℓ : Loc Cert.GateAKernelIdeal.nD Cert.GateAKernelIdeal.τ Cert.GateAKernelIdeal.sig) → Buf (Elt Ideal) ℓ) : Prop :=
  ∀ c : Dev Cert.GateAKernelIdeal.nD,
    (Cert.Pre_gatea_finite.fn (F := Ideal) (m ((c.tc : Thread Cert.GateAKernelIdeal.nD Cert.GateAKernelIdeal.τ).loc Cert.GateAKernelIdeal.main_arg0)) (m ((c.tc : Thread Cert.GateAKernelIdeal.nD Cert.GateAKernelIdeal.τ).loc Cert.GateAKernelIdeal.main_arg1)) (m ((c.tc : Thread Cert.GateAKernelIdeal.nD Cert.GateAKernelIdeal.τ).loc Cert.GateAKernelIdeal.main_arg2)) (m ((c.tc : Thread Cert.GateAKernelIdeal.nD Cert.GateAKernelIdeal.τ).loc Cert.GateAKernelIdeal.main_arg3))) = (fun _ => 1#1)

def Pre_GateAReferenceIdeal (m : (ℓ : Loc Cert.GateAReferenceIdeal.nD Cert.GateAReferenceIdeal.τ Cert.GateAReferenceIdeal.sig) → Buf (Elt Ideal) ℓ) : Prop :=
  True

def Pre_GateAReferenceIdeal_gatea_finite [hPre_gatea_finite : Cert.Pre_gatea_finite.Facts] (m : (ℓ : Loc Cert.GateAReferenceIdeal.nD Cert.GateAReferenceIdeal.τ Cert.GateAReferenceIdeal.sig) → Buf (Elt Ideal) ℓ) : Prop :=
  ∀ c : Dev Cert.GateAReferenceIdeal.nD,
    (Cert.Pre_gatea_finite.fn (F := Ideal) (m ((c.tc : Thread Cert.GateAReferenceIdeal.nD Cert.GateAReferenceIdeal.τ).loc Cert.GateAReferenceIdeal.main_arg0)) (m ((c.tc : Thread Cert.GateAReferenceIdeal.nD Cert.GateAReferenceIdeal.τ).loc Cert.GateAReferenceIdeal.main_arg1)) (m ((c.tc : Thread Cert.GateAReferenceIdeal.nD Cert.GateAReferenceIdeal.τ).loc Cert.GateAReferenceIdeal.main_arg2)) (m ((c.tc : Thread Cert.GateAReferenceIdeal.nD Cert.GateAReferenceIdeal.τ).loc Cert.GateAReferenceIdeal.main_arg3))) = (fun _ => 1#1)

def Pre_SbKernelIdeal (m : (ℓ : Loc Cert.SbKernelIdeal.nD Cert.SbKernelIdeal.τ Cert.SbKernelIdeal.sig) → Buf (Elt Ideal) ℓ) : Prop :=
  True

def Pre_SbKernelIdeal_sb_finite [hPre_sb_finite : Cert.Pre_sb_finite.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_sb_finite.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1))) = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_sb_finite [hPre_sb_finite : Cert.Pre_sb_finite.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_sb_finite.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1))) = (fun _ => 1#1)

def Pre_SwaKernelIdeal (m : (ℓ : Loc Cert.SwaKernelIdeal.nD Cert.SwaKernelIdeal.τ Cert.SwaKernelIdeal.sig) → Buf (Elt Ideal) ℓ) : Prop :=
  True

def Pre_SwaKernelIdeal_swa_finite [hPre_swa_finite : Cert.Pre_swa_finite.Facts] (m : (ℓ : Loc Cert.SwaKernelIdeal.nD Cert.SwaKernelIdeal.τ Cert.SwaKernelIdeal.sig) → Buf (Elt Ideal) ℓ) : Prop :=
  ∀ c : Dev Cert.SwaKernelIdeal.nD,
    (Cert.Pre_swa_finite.fn (F := Ideal) (m ((c.tc : Thread Cert.SwaKernelIdeal.nD Cert.SwaKernelIdeal.τ).loc Cert.SwaKernelIdeal.main_arg0)) (m ((c.tc : Thread Cert.SwaKernelIdeal.nD Cert.SwaKernelIdeal.τ).loc Cert.SwaKernelIdeal.main_arg1)) (m ((c.tc : Thread Cert.SwaKernelIdeal.nD Cert.SwaKernelIdeal.τ).loc Cert.SwaKernelIdeal.main_arg2)) (m ((c.tc : Thread Cert.SwaKernelIdeal.nD Cert.SwaKernelIdeal.τ).loc Cert.SwaKernelIdeal.main_arg3))) = (fun _ => 1#1)

def Pre_SwaReferenceIdeal (m : (ℓ : Loc Cert.SwaReferenceIdeal.nD Cert.SwaReferenceIdeal.τ Cert.SwaReferenceIdeal.sig) → Buf (Elt Ideal) ℓ) : Prop :=
  True

def Pre_SwaReferenceIdeal_swa_finite [hPre_swa_finite : Cert.Pre_swa_finite.Facts] (m : (ℓ : Loc Cert.SwaReferenceIdeal.nD Cert.SwaReferenceIdeal.τ Cert.SwaReferenceIdeal.sig) → Buf (Elt Ideal) ℓ) : Prop :=
  ∀ c : Dev Cert.SwaReferenceIdeal.nD,
    (Cert.Pre_swa_finite.fn (F := Ideal) (m ((c.tc : Thread Cert.SwaReferenceIdeal.nD Cert.SwaReferenceIdeal.τ).loc Cert.SwaReferenceIdeal.main_arg0)) (m ((c.tc : Thread Cert.SwaReferenceIdeal.nD Cert.SwaReferenceIdeal.τ).loc Cert.SwaReferenceIdeal.main_arg1)) (m ((c.tc : Thread Cert.SwaReferenceIdeal.nD Cert.SwaReferenceIdeal.τ).loc Cert.SwaReferenceIdeal.main_arg2)) (m ((c.tc : Thread Cert.SwaReferenceIdeal.nD Cert.SwaReferenceIdeal.τ).loc Cert.SwaReferenceIdeal.main_arg3))) = (fun _ => 1#1)

def Pre_LoKernel (m : (ℓ : Loc Cert.LoKernel.nD Cert.LoKernel.τ Cert.LoKernel.sig) → Buf (Elt Bits) ℓ) : Prop :=
  True

def Pre_LoKernelIdeal (m : (ℓ : Loc Cert.LoKernelIdeal.nD Cert.LoKernelIdeal.τ Cert.LoKernelIdeal.sig) → Buf (Elt Ideal) ℓ) : Prop :=
  True

def Pre_LoKernelIdeal_lo_finite [hPre_lo_finite : Cert.Pre_lo_finite.Facts] (m : (ℓ : Loc Cert.LoKernelIdeal.nD Cert.LoKernelIdeal.τ Cert.LoKernelIdeal.sig) → Buf (Elt Ideal) ℓ) : Prop :=
  ∀ c : Dev Cert.LoKernelIdeal.nD,
    (Cert.Pre_lo_finite.fn (F := Ideal) (m ((c.tc : Thread Cert.LoKernelIdeal.nD Cert.LoKernelIdeal.τ).loc Cert.LoKernelIdeal.main_arg0)) (m ((c.tc : Thread Cert.LoKernelIdeal.nD Cert.LoKernelIdeal.τ).loc Cert.LoKernelIdeal.main_arg1)) (m ((c.tc : Thread Cert.LoKernelIdeal.nD Cert.LoKernelIdeal.τ).loc Cert.LoKernelIdeal.main_arg2)) (m ((c.tc : Thread Cert.LoKernelIdeal.nD Cert.LoKernelIdeal.τ).loc Cert.LoKernelIdeal.main_arg3)) (m ((c.tc : Thread Cert.LoKernelIdeal.nD Cert.LoKernelIdeal.τ).loc Cert.LoKernelIdeal.main_arg4)) (m ((c.tc : Thread Cert.LoKernelIdeal.nD Cert.LoKernelIdeal.τ).loc Cert.LoKernelIdeal.main_arg5))) = (fun _ => 1#1)

def Pre_LoReferenceIdeal (m : (ℓ : Loc Cert.LoReferenceIdeal.nD Cert.LoReferenceIdeal.τ Cert.LoReferenceIdeal.sig) → Buf (Elt Ideal) ℓ) : Prop :=
  True

def Pre_LoReferenceIdeal_lo_finite [hPre_lo_finite : Cert.Pre_lo_finite.Facts] (m : (ℓ : Loc Cert.LoReferenceIdeal.nD Cert.LoReferenceIdeal.τ Cert.LoReferenceIdeal.sig) → Buf (Elt Ideal) ℓ) : Prop :=
  ∀ c : Dev Cert.LoReferenceIdeal.nD,
    (Cert.Pre_lo_finite.fn (F := Ideal) (m ((c.tc : Thread Cert.LoReferenceIdeal.nD Cert.LoReferenceIdeal.τ).loc Cert.LoReferenceIdeal.main_arg0)) (m ((c.tc : Thread Cert.LoReferenceIdeal.nD Cert.LoReferenceIdeal.τ).loc Cert.LoReferenceIdeal.main_arg1)) (m ((c.tc : Thread Cert.LoReferenceIdeal.nD Cert.LoReferenceIdeal.τ).loc Cert.LoReferenceIdeal.main_arg2)) (m ((c.tc : Thread Cert.LoReferenceIdeal.nD Cert.LoReferenceIdeal.τ).loc Cert.LoReferenceIdeal.main_arg3)) (m ((c.tc : Thread Cert.LoReferenceIdeal.nD Cert.LoReferenceIdeal.τ).loc Cert.LoReferenceIdeal.main_arg4)) (m ((c.tc : Thread Cert.LoReferenceIdeal.nD Cert.LoReferenceIdeal.τ).loc Cert.LoReferenceIdeal.main_arg5))) = (fun _ => 1#1)

def Pre_LnKernel (m : (ℓ : Loc Cert.LnKernel.nD Cert.LnKernel.τ Cert.LnKernel.sig) → Buf (Elt Bits) ℓ) : Prop :=
  True

def Pre_LnKernelIdeal (m : (ℓ : Loc Cert.LnKernelIdeal.nD Cert.LnKernelIdeal.τ Cert.LnKernelIdeal.sig) → Buf (Elt Ideal) ℓ) : Prop :=
  True

def Pre_LnKernelIdeal_ln_finite [hPre_ln_finite : Cert.Pre_ln_finite.Facts] (m : (ℓ : Loc Cert.LnKernelIdeal.nD Cert.LnKernelIdeal.τ Cert.LnKernelIdeal.sig) → Buf (Elt Ideal) ℓ) : Prop :=
  ∀ c : Dev Cert.LnKernelIdeal.nD,
    (Cert.Pre_ln_finite.fn (F := Ideal) (m ((c.tc : Thread Cert.LnKernelIdeal.nD Cert.LnKernelIdeal.τ).loc Cert.LnKernelIdeal.main_arg0)) (m ((c.tc : Thread Cert.LnKernelIdeal.nD Cert.LnKernelIdeal.τ).loc Cert.LnKernelIdeal.main_arg1)) (m ((c.tc : Thread Cert.LnKernelIdeal.nD Cert.LnKernelIdeal.τ).loc Cert.LnKernelIdeal.main_arg2)) (m ((c.tc : Thread Cert.LnKernelIdeal.nD Cert.LnKernelIdeal.τ).loc Cert.LnKernelIdeal.main_arg3)) (m ((c.tc : Thread Cert.LnKernelIdeal.nD Cert.LnKernelIdeal.τ).loc Cert.LnKernelIdeal.main_arg4)) (m ((c.tc : Thread Cert.LnKernelIdeal.nD Cert.LnKernelIdeal.τ).loc Cert.LnKernelIdeal.main_arg5)) (m ((c.tc : Thread Cert.LnKernelIdeal.nD Cert.LnKernelIdeal.τ).loc Cert.LnKernelIdeal.main_arg6))) = (fun _ => 1#1)

def Pre_LnReferenceIdeal (m : (ℓ : Loc Cert.LnReferenceIdeal.nD Cert.LnReferenceIdeal.τ Cert.LnReferenceIdeal.sig) → Buf (Elt Ideal) ℓ) : Prop :=
  True

def Pre_LnReferenceIdeal_ln_finite [hPre_ln_finite : Cert.Pre_ln_finite.Facts] (m : (ℓ : Loc Cert.LnReferenceIdeal.nD Cert.LnReferenceIdeal.τ Cert.LnReferenceIdeal.sig) → Buf (Elt Ideal) ℓ) : Prop :=
  ∀ c : Dev Cert.LnReferenceIdeal.nD,
    (Cert.Pre_ln_finite.fn (F := Ideal) (m ((c.tc : Thread Cert.LnReferenceIdeal.nD Cert.LnReferenceIdeal.τ).loc Cert.LnReferenceIdeal.main_arg0)) (m ((c.tc : Thread Cert.LnReferenceIdeal.nD Cert.LnReferenceIdeal.τ).loc Cert.LnReferenceIdeal.main_arg1)) (m ((c.tc : Thread Cert.LnReferenceIdeal.nD Cert.LnReferenceIdeal.τ).loc Cert.LnReferenceIdeal.main_arg2)) (m ((c.tc : Thread Cert.LnReferenceIdeal.nD Cert.LnReferenceIdeal.τ).loc Cert.LnReferenceIdeal.main_arg3)) (m ((c.tc : Thread Cert.LnReferenceIdeal.nD Cert.LnReferenceIdeal.τ).loc Cert.LnReferenceIdeal.main_arg4)) (m ((c.tc : Thread Cert.LnReferenceIdeal.nD Cert.LnReferenceIdeal.τ).loc Cert.LnReferenceIdeal.main_arg5)) (m ((c.tc : Thread Cert.LnReferenceIdeal.nD Cert.LnReferenceIdeal.τ).loc Cert.LnReferenceIdeal.main_arg6))) = (fun _ => 1#1)

def Pre_RgKernel (m : (ℓ : Loc Cert.RgKernel.nD Cert.RgKernel.τ Cert.RgKernel.sig) → Buf (Elt Bits) ℓ) : Prop :=
  True

def Pre_RgKernelIdeal (m : (ℓ : Loc Cert.RgKernelIdeal.nD Cert.RgKernelIdeal.τ Cert.RgKernelIdeal.sig) → Buf (Elt Ideal) ℓ) : Prop :=
  True

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateOneKernel [hGateOneKernel : Cert.GateOneKernel.Facts] : Prop :=
  ∀ (m : (ℓ : Loc Cert.GateOneKernel.nD Cert.GateOneKernel.τ Cert.GateOneKernel.sig) → Buf (Elt Bits) ℓ) (g : Dev Cert.GateOneKernel.nD → PrngReg), Pre_GateOneKernel m →
    θ_run (Cert.GateOneKernel.defs (F := Bits)) (onTc (τ := Cert.GateOneKernel.τ) (Cert.GateOneKernel.main (F := Bits))) ⟨m, fun _ => 0, g⟩ (fun r => (∀ c : Dev Cert.GateOneKernel.nD,
      r.2.mem ((c.tc : Thread Cert.GateOneKernel.nD Cert.GateOneKernel.τ).loc Cert.GateOneKernel.main_arg0) = m ((c.tc : Thread Cert.GateOneKernel.nD Cert.GateOneKernel.τ).loc Cert.GateOneKernel.main_arg0)
      ∧ r.2.mem ((c.tc : Thread Cert.GateOneKernel.nD Cert.GateOneKernel.τ).loc Cert.GateOneKernel.main_arg1) = m ((c.tc : Thread Cert.GateOneKernel.nD Cert.GateOneKernel.τ).loc Cert.GateOneKernel.main_arg1)
      ∧ r.2.mem ((c.tc : Thread Cert.GateOneKernel.nD Cert.GateOneKernel.τ).loc Cert.GateOneKernel.main_arg2) = m ((c.tc : Thread Cert.GateOneKernel.nD Cert.GateOneKernel.τ).loc Cert.GateOneKernel.main_arg2)
      ∧ r.2.mem ((c.tc : Thread Cert.GateOneKernel.nD Cert.GateOneKernel.τ).loc Cert.GateOneKernel.main_arg3) = m ((c.tc : Thread Cert.GateOneKernel.nD Cert.GateOneKernel.τ).loc Cert.GateOneKernel.main_arg3))
      ∧ r.2.sem = fun _ => 0)

def quiescent_GateOneKernelIdeal [hGateOneKernelIdeal : Cert.GateOneKernelIdeal.Facts] : Prop :=
  ∀ (m : (ℓ : Loc Cert.GateOneKernelIdeal.nD Cert.GateOneKernelIdeal.τ Cert.GateOneKernelIdeal.sig) → Buf (Elt Ideal) ℓ) (g : Dev Cert.GateOneKernelIdeal.nD → PrngReg), Pre_GateOneKernelIdeal m →
    θ_run (Cert.GateOneKernelIdeal.defs (F := Ideal)) (onTc (τ := Cert.GateOneKernelIdeal.τ) (Cert.GateOneKernelIdeal.main (F := Ideal))) ⟨m, fun _ => 0, g⟩ (fun r => (∀ c : Dev Cert.GateOneKernelIdeal.nD,
      r.2.mem ((c.tc : Thread Cert.GateOneKernelIdeal.nD Cert.GateOneKernelIdeal.τ).loc Cert.GateOneKernelIdeal.main_arg0) = m ((c.tc : Thread Cert.GateOneKernelIdeal.nD Cert.GateOneKernelIdeal.τ).loc Cert.GateOneKernelIdeal.main_arg0)
      ∧ r.2.mem ((c.tc : Thread Cert.GateOneKernelIdeal.nD Cert.GateOneKernelIdeal.τ).loc Cert.GateOneKernelIdeal.main_arg1) = m ((c.tc : Thread Cert.GateOneKernelIdeal.nD Cert.GateOneKernelIdeal.τ).loc Cert.GateOneKernelIdeal.main_arg1)
      ∧ r.2.mem ((c.tc : Thread Cert.GateOneKernelIdeal.nD Cert.GateOneKernelIdeal.τ).loc Cert.GateOneKernelIdeal.main_arg2) = m ((c.tc : Thread Cert.GateOneKernelIdeal.nD Cert.GateOneKernelIdeal.τ).loc Cert.GateOneKernelIdeal.main_arg2)
      ∧ r.2.mem ((c.tc : Thread Cert.GateOneKernelIdeal.nD Cert.GateOneKernelIdeal.τ).loc Cert.GateOneKernelIdeal.main_arg3) = m ((c.tc : Thread Cert.GateOneKernelIdeal.nD Cert.GateOneKernelIdeal.τ).loc Cert.GateOneKernelIdeal.main_arg3))
      ∧ r.2.sem = fun _ => 0)

def quiescent_GateOneKernelIdeal_pre_gate1_finite [hGateOneKernelIdeal : Cert.GateOneKernelIdeal.Facts] [hPre_gate1_finite : Cert.Pre_gate1_finite.Facts] : Prop :=
  ∀ (m : (ℓ : Loc Cert.GateOneKernelIdeal.nD Cert.GateOneKernelIdeal.τ Cert.GateOneKernelIdeal.sig) → Buf (Elt Ideal) ℓ) (g : Dev Cert.GateOneKernelIdeal.nD → PrngReg), Pre_GateOneKernelIdeal_gate1_finite m →
    θ_run (Cert.GateOneKernelIdeal.defs (F := Ideal)) (onTc (τ := Cert.GateOneKernelIdeal.τ) (Cert.GateOneKernelIdeal.main (F := Ideal))) ⟨m, fun _ => 0, g⟩ (fun r => (∀ c : Dev Cert.GateOneKernelIdeal.nD,
      r.2.mem ((c.tc : Thread Cert.GateOneKernelIdeal.nD Cert.GateOneKernelIdeal.τ).loc Cert.GateOneKernelIdeal.main_arg0) = m ((c.tc : Thread Cert.GateOneKernelIdeal.nD Cert.GateOneKernelIdeal.τ).loc Cert.GateOneKernelIdeal.main_arg0)
      ∧ r.2.mem ((c.tc : Thread Cert.GateOneKernelIdeal.nD Cert.GateOneKernelIdeal.τ).loc Cert.GateOneKernelIdeal.main_arg1) = m ((c.tc : Thread Cert.GateOneKernelIdeal.nD Cert.GateOneKernelIdeal.τ).loc Cert.GateOneKernelIdeal.main_arg1)
      ∧ r.2.mem ((c.tc : Thread Cert.GateOneKernelIdeal.nD Cert.GateOneKernelIdeal.τ).loc Cert.GateOneKernelIdeal.main_arg2) = m ((c.tc : Thread Cert.GateOneKernelIdeal.nD Cert.GateOneKernelIdeal.τ).loc Cert.GateOneKernelIdeal.main_arg2)
      ∧ r.2.mem ((c.tc : Thread Cert.GateOneKernelIdeal.nD Cert.GateOneKernelIdeal.τ).loc Cert.GateOneKernelIdeal.main_arg3) = m ((c.tc : Thread Cert.GateOneKernelIdeal.nD Cert.GateOneKernelIdeal.τ).loc Cert.GateOneKernelIdeal.main_arg3))
      ∧ r.2.sem = fun _ => 0)

def quiescent_GateOneReferenceIdeal [hGateOneReferenceIdeal : Cert.GateOneReferenceIdeal.Facts] : Prop :=
  ∀ (m : (ℓ : Loc Cert.GateOneReferenceIdeal.nD Cert.GateOneReferenceIdeal.τ Cert.GateOneReferenceIdeal.sig) → Buf (Elt Ideal) ℓ) (g : Dev Cert.GateOneReferenceIdeal.nD → PrngReg), Pre_GateOneReferenceIdeal m →
    θ_run (Cert.GateOneReferenceIdeal.defs (F := Ideal)) (onTc (τ := Cert.GateOneReferenceIdeal.τ) (Cert.GateOneReferenceIdeal.main (F := Ideal))) ⟨m, fun _ => 0, g⟩ (fun r => (∀ c : Dev Cert.GateOneReferenceIdeal.nD,
      r.2.mem ((c.tc : Thread Cert.GateOneReferenceIdeal.nD Cert.GateOneReferenceIdeal.τ).loc Cert.GateOneReferenceIdeal.main_arg0) = m ((c.tc : Thread Cert.GateOneReferenceIdeal.nD Cert.GateOneReferenceIdeal.τ).loc Cert.GateOneReferenceIdeal.main_arg0)
      ∧ r.2.mem ((c.tc : Thread Cert.GateOneReferenceIdeal.nD Cert.GateOneReferenceIdeal.τ).loc Cert.GateOneReferenceIdeal.main_arg1) = m ((c.tc : Thread Cert.GateOneReferenceIdeal.nD Cert.GateOneReferenceIdeal.τ).loc Cert.GateOneReferenceIdeal.main_arg1)
      ∧ r.2.mem ((c.tc : Thread Cert.GateOneReferenceIdeal.nD Cert.GateOneReferenceIdeal.τ).loc Cert.GateOneReferenceIdeal.main_arg2) = m ((c.tc : Thread Cert.GateOneReferenceIdeal.nD Cert.GateOneReferenceIdeal.τ).loc Cert.GateOneReferenceIdeal.main_arg2)
      ∧ r.2.mem ((c.tc : Thread Cert.GateOneReferenceIdeal.nD Cert.GateOneReferenceIdeal.τ).loc Cert.GateOneReferenceIdeal.main_arg3) = m ((c.tc : Thread Cert.GateOneReferenceIdeal.nD Cert.GateOneReferenceIdeal.τ).loc Cert.GateOneReferenceIdeal.main_arg3))
      ∧ r.2.sem = fun _ => 0)

def quiescent_GateOneReferenceIdeal_pre_gate1_finite [hGateOneReferenceIdeal : Cert.GateOneReferenceIdeal.Facts] [hPre_gate1_finite : Cert.Pre_gate1_finite.Facts] : Prop :=
  ∀ (m : (ℓ : Loc Cert.GateOneReferenceIdeal.nD Cert.GateOneReferenceIdeal.τ Cert.GateOneReferenceIdeal.sig) → Buf (Elt Ideal) ℓ) (g : Dev Cert.GateOneReferenceIdeal.nD → PrngReg), Pre_GateOneReferenceIdeal_gate1_finite m →
    θ_run (Cert.GateOneReferenceIdeal.defs (F := Ideal)) (onTc (τ := Cert.GateOneReferenceIdeal.τ) (Cert.GateOneReferenceIdeal.main (F := Ideal))) ⟨m, fun _ => 0, g⟩ (fun r => (∀ c : Dev Cert.GateOneReferenceIdeal.nD,
      r.2.mem ((c.tc : Thread Cert.GateOneReferenceIdeal.nD Cert.GateOneReferenceIdeal.τ).loc Cert.GateOneReferenceIdeal.main_arg0) = m ((c.tc : Thread Cert.GateOneReferenceIdeal.nD Cert.GateOneReferenceIdeal.τ).loc Cert.GateOneReferenceIdeal.main_arg0)
      ∧ r.2.mem ((c.tc : Thread Cert.GateOneReferenceIdeal.nD Cert.GateOneReferenceIdeal.τ).loc Cert.GateOneReferenceIdeal.main_arg1) = m ((c.tc : Thread Cert.GateOneReferenceIdeal.nD Cert.GateOneReferenceIdeal.τ).loc Cert.GateOneReferenceIdeal.main_arg1)
      ∧ r.2.mem ((c.tc : Thread Cert.GateOneReferenceIdeal.nD Cert.GateOneReferenceIdeal.τ).loc Cert.GateOneReferenceIdeal.main_arg2) = m ((c.tc : Thread Cert.GateOneReferenceIdeal.nD Cert.GateOneReferenceIdeal.τ).loc Cert.GateOneReferenceIdeal.main_arg2)
      ∧ r.2.mem ((c.tc : Thread Cert.GateOneReferenceIdeal.nD Cert.GateOneReferenceIdeal.τ).loc Cert.GateOneReferenceIdeal.main_arg3) = m ((c.tc : Thread Cert.GateOneReferenceIdeal.nD Cert.GateOneReferenceIdeal.τ).loc Cert.GateOneReferenceIdeal.main_arg3))
      ∧ r.2.sem = fun _ => 0)

def quiescent_GateAKernel [hGateAKernel : Cert.GateAKernel.Facts] : Prop :=
  ∀ (m : (ℓ : Loc Cert.GateAKernel.nD Cert.GateAKernel.τ Cert.GateAKernel.sig) → Buf (Elt Bits) ℓ) (g : Dev Cert.GateAKernel.nD → PrngReg), Pre_GateAKernel m →
    θ_run (Cert.GateAKernel.defs (F := Bits)) (onTc (τ := Cert.GateAKernel.τ) (Cert.GateAKernel.main (F := Bits))) ⟨m, fun _ => 0, g⟩ (fun r => (∀ c : Dev Cert.GateAKernel.nD,
      r.2.mem ((c.tc : Thread Cert.GateAKernel.nD Cert.GateAKernel.τ).loc Cert.GateAKernel.main_arg0) = m ((c.tc : Thread Cert.GateAKernel.nD Cert.GateAKernel.τ).loc Cert.GateAKernel.main_arg0)
      ∧ r.2.mem ((c.tc : Thread Cert.GateAKernel.nD Cert.GateAKernel.τ).loc Cert.GateAKernel.main_arg1) = m ((c.tc : Thread Cert.GateAKernel.nD Cert.GateAKernel.τ).loc Cert.GateAKernel.main_arg1)
      ∧ r.2.mem ((c.tc : Thread Cert.GateAKernel.nD Cert.GateAKernel.τ).loc Cert.GateAKernel.main_arg2) = m ((c.tc : Thread Cert.GateAKernel.nD Cert.GateAKernel.τ).loc Cert.GateAKernel.main_arg2)
      ∧ r.2.mem ((c.tc : Thread Cert.GateAKernel.nD Cert.GateAKernel.τ).loc Cert.GateAKernel.main_arg3) = m ((c.tc : Thread Cert.GateAKernel.nD Cert.GateAKernel.τ).loc Cert.GateAKernel.main_arg3))
      ∧ r.2.sem = fun _ => 0)

def quiescent_GateAKernelIdeal [hGateAKernelIdeal : Cert.GateAKernelIdeal.Facts] : Prop :=
  ∀ (m : (ℓ : Loc Cert.GateAKernelIdeal.nD Cert.GateAKernelIdeal.τ Cert.GateAKernelIdeal.sig) → Buf (Elt Ideal) ℓ) (g : Dev Cert.GateAKernelIdeal.nD → PrngReg), Pre_GateAKernelIdeal m →
    θ_run (Cert.GateAKernelIdeal.defs (F := Ideal)) (onTc (τ := Cert.GateAKernelIdeal.τ) (Cert.GateAKernelIdeal.main (F := Ideal))) ⟨m, fun _ => 0, g⟩ (fun r => (∀ c : Dev Cert.GateAKernelIdeal.nD,
      r.2.mem ((c.tc : Thread Cert.GateAKernelIdeal.nD Cert.GateAKernelIdeal.τ).loc Cert.GateAKernelIdeal.main_arg0) = m ((c.tc : Thread Cert.GateAKernelIdeal.nD Cert.GateAKernelIdeal.τ).loc Cert.GateAKernelIdeal.main_arg0)
      ∧ r.2.mem ((c.tc : Thread Cert.GateAKernelIdeal.nD Cert.GateAKernelIdeal.τ).loc Cert.GateAKernelIdeal.main_arg1) = m ((c.tc : Thread Cert.GateAKernelIdeal.nD Cert.GateAKernelIdeal.τ).loc Cert.GateAKernelIdeal.main_arg1)
      ∧ r.2.mem ((c.tc : Thread Cert.GateAKernelIdeal.nD Cert.GateAKernelIdeal.τ).loc Cert.GateAKernelIdeal.main_arg2) = m ((c.tc : Thread Cert.GateAKernelIdeal.nD Cert.GateAKernelIdeal.τ).loc Cert.GateAKernelIdeal.main_arg2)
      ∧ r.2.mem ((c.tc : Thread Cert.GateAKernelIdeal.nD Cert.GateAKernelIdeal.τ).loc Cert.GateAKernelIdeal.main_arg3) = m ((c.tc : Thread Cert.GateAKernelIdeal.nD Cert.GateAKernelIdeal.τ).loc Cert.GateAKernelIdeal.main_arg3))
      ∧ r.2.sem = fun _ => 0)

def quiescent_GateAKernelIdeal_pre_gatea_finite [hGateAKernelIdeal : Cert.GateAKernelIdeal.Facts] [hPre_gatea_finite : Cert.Pre_gatea_finite.Facts] : Prop :=
  ∀ (m : (ℓ : Loc Cert.GateAKernelIdeal.nD Cert.GateAKernelIdeal.τ Cert.GateAKernelIdeal.sig) → Buf (Elt Ideal) ℓ) (g : Dev Cert.GateAKernelIdeal.nD → PrngReg), Pre_GateAKernelIdeal_gatea_finite m →
    θ_run (Cert.GateAKernelIdeal.defs (F := Ideal)) (onTc (τ := Cert.GateAKernelIdeal.τ) (Cert.GateAKernelIdeal.main (F := Ideal))) ⟨m, fun _ => 0, g⟩ (fun r => (∀ c : Dev Cert.GateAKernelIdeal.nD,
      r.2.mem ((c.tc : Thread Cert.GateAKernelIdeal.nD Cert.GateAKernelIdeal.τ).loc Cert.GateAKernelIdeal.main_arg0) = m ((c.tc : Thread Cert.GateAKernelIdeal.nD Cert.GateAKernelIdeal.τ).loc Cert.GateAKernelIdeal.main_arg0)
      ∧ r.2.mem ((c.tc : Thread Cert.GateAKernelIdeal.nD Cert.GateAKernelIdeal.τ).loc Cert.GateAKernelIdeal.main_arg1) = m ((c.tc : Thread Cert.GateAKernelIdeal.nD Cert.GateAKernelIdeal.τ).loc Cert.GateAKernelIdeal.main_arg1)
      ∧ r.2.mem ((c.tc : Thread Cert.GateAKernelIdeal.nD Cert.GateAKernelIdeal.τ).loc Cert.GateAKernelIdeal.main_arg2) = m ((c.tc : Thread Cert.GateAKernelIdeal.nD Cert.GateAKernelIdeal.τ).loc Cert.GateAKernelIdeal.main_arg2)
      ∧ r.2.mem ((c.tc : Thread Cert.GateAKernelIdeal.nD Cert.GateAKernelIdeal.τ).loc Cert.GateAKernelIdeal.main_arg3) = m ((c.tc : Thread Cert.GateAKernelIdeal.nD Cert.GateAKernelIdeal.τ).loc Cert.GateAKernelIdeal.main_arg3))
      ∧ r.2.sem = fun _ => 0)

def quiescent_GateAReferenceIdeal [hGateAReferenceIdeal : Cert.GateAReferenceIdeal.Facts] : Prop :=
  ∀ (m : (ℓ : Loc Cert.GateAReferenceIdeal.nD Cert.GateAReferenceIdeal.τ Cert.GateAReferenceIdeal.sig) → Buf (Elt Ideal) ℓ) (g : Dev Cert.GateAReferenceIdeal.nD → PrngReg), Pre_GateAReferenceIdeal m →
    θ_run (Cert.GateAReferenceIdeal.defs (F := Ideal)) (onTc (τ := Cert.GateAReferenceIdeal.τ) (Cert.GateAReferenceIdeal.main (F := Ideal))) ⟨m, fun _ => 0, g⟩ (fun r => (∀ c : Dev Cert.GateAReferenceIdeal.nD,
      r.2.mem ((c.tc : Thread Cert.GateAReferenceIdeal.nD Cert.GateAReferenceIdeal.τ).loc Cert.GateAReferenceIdeal.main_arg0) = m ((c.tc : Thread Cert.GateAReferenceIdeal.nD Cert.GateAReferenceIdeal.τ).loc Cert.GateAReferenceIdeal.main_arg0)
      ∧ r.2.mem ((c.tc : Thread Cert.GateAReferenceIdeal.nD Cert.GateAReferenceIdeal.τ).loc Cert.GateAReferenceIdeal.main_arg1) = m ((c.tc : Thread Cert.GateAReferenceIdeal.nD Cert.GateAReferenceIdeal.τ).loc Cert.GateAReferenceIdeal.main_arg1)
      ∧ r.2.mem ((c.tc : Thread Cert.GateAReferenceIdeal.nD Cert.GateAReferenceIdeal.τ).loc Cert.GateAReferenceIdeal.main_arg2) = m ((c.tc : Thread Cert.GateAReferenceIdeal.nD Cert.GateAReferenceIdeal.τ).loc Cert.GateAReferenceIdeal.main_arg2)
      ∧ r.2.mem ((c.tc : Thread Cert.GateAReferenceIdeal.nD Cert.GateAReferenceIdeal.τ).loc Cert.GateAReferenceIdeal.main_arg3) = m ((c.tc : Thread Cert.GateAReferenceIdeal.nD Cert.GateAReferenceIdeal.τ).loc Cert.GateAReferenceIdeal.main_arg3))
      ∧ r.2.sem = fun _ => 0)

def quiescent_GateAReferenceIdeal_pre_gatea_finite [hGateAReferenceIdeal : Cert.GateAReferenceIdeal.Facts] [hPre_gatea_finite : Cert.Pre_gatea_finite.Facts] : Prop :=
  ∀ (m : (ℓ : Loc Cert.GateAReferenceIdeal.nD Cert.GateAReferenceIdeal.τ Cert.GateAReferenceIdeal.sig) → Buf (Elt Ideal) ℓ) (g : Dev Cert.GateAReferenceIdeal.nD → PrngReg), Pre_GateAReferenceIdeal_gatea_finite m →
    θ_run (Cert.GateAReferenceIdeal.defs (F := Ideal)) (onTc (τ := Cert.GateAReferenceIdeal.τ) (Cert.GateAReferenceIdeal.main (F := Ideal))) ⟨m, fun _ => 0, g⟩ (fun r => (∀ c : Dev Cert.GateAReferenceIdeal.nD,
      r.2.mem ((c.tc : Thread Cert.GateAReferenceIdeal.nD Cert.GateAReferenceIdeal.τ).loc Cert.GateAReferenceIdeal.main_arg0) = m ((c.tc : Thread Cert.GateAReferenceIdeal.nD Cert.GateAReferenceIdeal.τ).loc Cert.GateAReferenceIdeal.main_arg0)
      ∧ r.2.mem ((c.tc : Thread Cert.GateAReferenceIdeal.nD Cert.GateAReferenceIdeal.τ).loc Cert.GateAReferenceIdeal.main_arg1) = m ((c.tc : Thread Cert.GateAReferenceIdeal.nD Cert.GateAReferenceIdeal.τ).loc Cert.GateAReferenceIdeal.main_arg1)
      ∧ r.2.mem ((c.tc : Thread Cert.GateAReferenceIdeal.nD Cert.GateAReferenceIdeal.τ).loc Cert.GateAReferenceIdeal.main_arg2) = m ((c.tc : Thread Cert.GateAReferenceIdeal.nD Cert.GateAReferenceIdeal.τ).loc Cert.GateAReferenceIdeal.main_arg2)
      ∧ r.2.mem ((c.tc : Thread Cert.GateAReferenceIdeal.nD Cert.GateAReferenceIdeal.τ).loc Cert.GateAReferenceIdeal.main_arg3) = m ((c.tc : Thread Cert.GateAReferenceIdeal.nD Cert.GateAReferenceIdeal.τ).loc Cert.GateAReferenceIdeal.main_arg3))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ r.2.sem = fun _ => 0)

def quiescent_SbKernelIdeal_pre_sb_finite [hSbKernelIdeal : Cert.SbKernelIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_sb_finite m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1))
      ∧ r.2.sem = fun _ => 0)

def quiescent_SbReferenceIdeal_pre_sb_finite [hSbReferenceIdeal : Cert.SbReferenceIdeal.Facts] [hPre_sb_finite : Cert.Pre_sb_finite.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_sb_finite m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1))
      ∧ r.2.sem = fun _ => 0)

def quiescent_SwaKernelIdeal [hSwaKernelIdeal : Cert.SwaKernelIdeal.Facts] : Prop :=
  ∀ (m : (ℓ : Loc Cert.SwaKernelIdeal.nD Cert.SwaKernelIdeal.τ Cert.SwaKernelIdeal.sig) → Buf (Elt Ideal) ℓ) (g : Dev Cert.SwaKernelIdeal.nD → PrngReg), Pre_SwaKernelIdeal m →
    θ_run (Cert.SwaKernelIdeal.defs (F := Ideal)) (onTc (τ := Cert.SwaKernelIdeal.τ) (Cert.SwaKernelIdeal.main (F := Ideal))) ⟨m, fun _ => 0, g⟩ (fun r => (∀ c : Dev Cert.SwaKernelIdeal.nD,
      r.2.mem ((c.tc : Thread Cert.SwaKernelIdeal.nD Cert.SwaKernelIdeal.τ).loc Cert.SwaKernelIdeal.main_arg0) = m ((c.tc : Thread Cert.SwaKernelIdeal.nD Cert.SwaKernelIdeal.τ).loc Cert.SwaKernelIdeal.main_arg0)
      ∧ r.2.mem ((c.tc : Thread Cert.SwaKernelIdeal.nD Cert.SwaKernelIdeal.τ).loc Cert.SwaKernelIdeal.main_arg1) = m ((c.tc : Thread Cert.SwaKernelIdeal.nD Cert.SwaKernelIdeal.τ).loc Cert.SwaKernelIdeal.main_arg1)
      ∧ r.2.mem ((c.tc : Thread Cert.SwaKernelIdeal.nD Cert.SwaKernelIdeal.τ).loc Cert.SwaKernelIdeal.main_arg2) = m ((c.tc : Thread Cert.SwaKernelIdeal.nD Cert.SwaKernelIdeal.τ).loc Cert.SwaKernelIdeal.main_arg2)
      ∧ r.2.mem ((c.tc : Thread Cert.SwaKernelIdeal.nD Cert.SwaKernelIdeal.τ).loc Cert.SwaKernelIdeal.main_arg3) = m ((c.tc : Thread Cert.SwaKernelIdeal.nD Cert.SwaKernelIdeal.τ).loc Cert.SwaKernelIdeal.main_arg3))
      ∧ r.2.sem = fun _ => 0)

def quiescent_SwaKernelIdeal_pre_swa_finite [hSwaKernelIdeal : Cert.SwaKernelIdeal.Facts] [hPre_swa_finite : Cert.Pre_swa_finite.Facts] : Prop :=
  ∀ (m : (ℓ : Loc Cert.SwaKernelIdeal.nD Cert.SwaKernelIdeal.τ Cert.SwaKernelIdeal.sig) → Buf (Elt Ideal) ℓ) (g : Dev Cert.SwaKernelIdeal.nD → PrngReg), Pre_SwaKernelIdeal_swa_finite m →
    θ_run (Cert.SwaKernelIdeal.defs (F := Ideal)) (onTc (τ := Cert.SwaKernelIdeal.τ) (Cert.SwaKernelIdeal.main (F := Ideal))) ⟨m, fun _ => 0, g⟩ (fun r => (∀ c : Dev Cert.SwaKernelIdeal.nD,
      r.2.mem ((c.tc : Thread Cert.SwaKernelIdeal.nD Cert.SwaKernelIdeal.τ).loc Cert.SwaKernelIdeal.main_arg0) = m ((c.tc : Thread Cert.SwaKernelIdeal.nD Cert.SwaKernelIdeal.τ).loc Cert.SwaKernelIdeal.main_arg0)
      ∧ r.2.mem ((c.tc : Thread Cert.SwaKernelIdeal.nD Cert.SwaKernelIdeal.τ).loc Cert.SwaKernelIdeal.main_arg1) = m ((c.tc : Thread Cert.SwaKernelIdeal.nD Cert.SwaKernelIdeal.τ).loc Cert.SwaKernelIdeal.main_arg1)
      ∧ r.2.mem ((c.tc : Thread Cert.SwaKernelIdeal.nD Cert.SwaKernelIdeal.τ).loc Cert.SwaKernelIdeal.main_arg2) = m ((c.tc : Thread Cert.SwaKernelIdeal.nD Cert.SwaKernelIdeal.τ).loc Cert.SwaKernelIdeal.main_arg2)
      ∧ r.2.mem ((c.tc : Thread Cert.SwaKernelIdeal.nD Cert.SwaKernelIdeal.τ).loc Cert.SwaKernelIdeal.main_arg3) = m ((c.tc : Thread Cert.SwaKernelIdeal.nD Cert.SwaKernelIdeal.τ).loc Cert.SwaKernelIdeal.main_arg3))
      ∧ r.2.sem = fun _ => 0)

def quiescent_SwaReferenceIdeal [hSwaReferenceIdeal : Cert.SwaReferenceIdeal.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2)
      ∧ r.2.mem ((c.tc : Thread Cert.SwaReferenceIdeal.nD Cert.SwaReferenceIdeal.τ).loc Cert.SwaReferenceIdeal.main_arg3) = m ((c.tc : Thread Cert.SwaReferenceIdeal.nD Cert.SwaReferenceIdeal.τ).loc Cert.SwaReferenceIdeal.main_arg3))
      ∧ r.2.sem = fun _ => 0)

def quiescent_SwaReferenceIdeal_pre_swa_finite [hSwaReferenceIdeal : Cert.SwaReferenceIdeal.Facts] [hPre_swa_finite : Cert.Pre_swa_finite.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal_swa_finite m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2)
      ∧ r.2.mem ((c.tc : Thread Cert.SwaReferenceIdeal.nD Cert.SwaReferenceIdeal.τ).loc Cert.SwaReferenceIdeal.main_arg3) = m ((c.tc : Thread Cert.SwaReferenceIdeal.nD Cert.SwaReferenceIdeal.τ).loc Cert.SwaReferenceIdeal.main_arg3))
      ∧ r.2.sem = fun _ => 0)

def quiescent_LoKernel [hLoKernel : Cert.LoKernel.Facts] : Prop :=
  ∀ (m : (ℓ : Loc Cert.LoKernel.nD Cert.LoKernel.τ Cert.LoKernel.sig) → Buf (Elt Bits) ℓ) (g : Dev Cert.LoKernel.nD → PrngReg), Pre_LoKernel m →
    θ_run (Cert.LoKernel.defs (F := Bits)) (onTc (τ := Cert.LoKernel.τ) (Cert.LoKernel.main (F := Bits))) ⟨m, fun _ => 0, g⟩ (fun r => (∀ c : Dev Cert.LoKernel.nD,
      r.2.mem ((c.tc : Thread Cert.LoKernel.nD Cert.LoKernel.τ).loc Cert.LoKernel.main_arg0) = m ((c.tc : Thread Cert.LoKernel.nD Cert.LoKernel.τ).loc Cert.LoKernel.main_arg0)
      ∧ r.2.mem ((c.tc : Thread Cert.LoKernel.nD Cert.LoKernel.τ).loc Cert.LoKernel.main_arg1) = m ((c.tc : Thread Cert.LoKernel.nD Cert.LoKernel.τ).loc Cert.LoKernel.main_arg1)
      ∧ r.2.mem ((c.tc : Thread Cert.LoKernel.nD Cert.LoKernel.τ).loc Cert.LoKernel.main_arg2) = m ((c.tc : Thread Cert.LoKernel.nD Cert.LoKernel.τ).loc Cert.LoKernel.main_arg2)
      ∧ r.2.mem ((c.tc : Thread Cert.LoKernel.nD Cert.LoKernel.τ).loc Cert.LoKernel.main_arg3) = m ((c.tc : Thread Cert.LoKernel.nD Cert.LoKernel.τ).loc Cert.LoKernel.main_arg3)
      ∧ r.2.mem ((c.tc : Thread Cert.LoKernel.nD Cert.LoKernel.τ).loc Cert.LoKernel.main_arg4) = m ((c.tc : Thread Cert.LoKernel.nD Cert.LoKernel.τ).loc Cert.LoKernel.main_arg4)
      ∧ r.2.mem ((c.tc : Thread Cert.LoKernel.nD Cert.LoKernel.τ).loc Cert.LoKernel.main_arg5) = m ((c.tc : Thread Cert.LoKernel.nD Cert.LoKernel.τ).loc Cert.LoKernel.main_arg5))
      ∧ r.2.sem = fun _ => 0)

def quiescent_LoKernelIdeal [hLoKernelIdeal : Cert.LoKernelIdeal.Facts] : Prop :=
  ∀ (m : (ℓ : Loc Cert.LoKernelIdeal.nD Cert.LoKernelIdeal.τ Cert.LoKernelIdeal.sig) → Buf (Elt Ideal) ℓ) (g : Dev Cert.LoKernelIdeal.nD → PrngReg), Pre_LoKernelIdeal m →
    θ_run (Cert.LoKernelIdeal.defs (F := Ideal)) (onTc (τ := Cert.LoKernelIdeal.τ) (Cert.LoKernelIdeal.main (F := Ideal))) ⟨m, fun _ => 0, g⟩ (fun r => (∀ c : Dev Cert.LoKernelIdeal.nD,
      r.2.mem ((c.tc : Thread Cert.LoKernelIdeal.nD Cert.LoKernelIdeal.τ).loc Cert.LoKernelIdeal.main_arg0) = m ((c.tc : Thread Cert.LoKernelIdeal.nD Cert.LoKernelIdeal.τ).loc Cert.LoKernelIdeal.main_arg0)
      ∧ r.2.mem ((c.tc : Thread Cert.LoKernelIdeal.nD Cert.LoKernelIdeal.τ).loc Cert.LoKernelIdeal.main_arg1) = m ((c.tc : Thread Cert.LoKernelIdeal.nD Cert.LoKernelIdeal.τ).loc Cert.LoKernelIdeal.main_arg1)
      ∧ r.2.mem ((c.tc : Thread Cert.LoKernelIdeal.nD Cert.LoKernelIdeal.τ).loc Cert.LoKernelIdeal.main_arg2) = m ((c.tc : Thread Cert.LoKernelIdeal.nD Cert.LoKernelIdeal.τ).loc Cert.LoKernelIdeal.main_arg2)
      ∧ r.2.mem ((c.tc : Thread Cert.LoKernelIdeal.nD Cert.LoKernelIdeal.τ).loc Cert.LoKernelIdeal.main_arg3) = m ((c.tc : Thread Cert.LoKernelIdeal.nD Cert.LoKernelIdeal.τ).loc Cert.LoKernelIdeal.main_arg3)
      ∧ r.2.mem ((c.tc : Thread Cert.LoKernelIdeal.nD Cert.LoKernelIdeal.τ).loc Cert.LoKernelIdeal.main_arg4) = m ((c.tc : Thread Cert.LoKernelIdeal.nD Cert.LoKernelIdeal.τ).loc Cert.LoKernelIdeal.main_arg4)
      ∧ r.2.mem ((c.tc : Thread Cert.LoKernelIdeal.nD Cert.LoKernelIdeal.τ).loc Cert.LoKernelIdeal.main_arg5) = m ((c.tc : Thread Cert.LoKernelIdeal.nD Cert.LoKernelIdeal.τ).loc Cert.LoKernelIdeal.main_arg5))
      ∧ r.2.sem = fun _ => 0)

def quiescent_LoKernelIdeal_pre_lo_finite [hLoKernelIdeal : Cert.LoKernelIdeal.Facts] [hPre_lo_finite : Cert.Pre_lo_finite.Facts] : Prop :=
  ∀ (m : (ℓ : Loc Cert.LoKernelIdeal.nD Cert.LoKernelIdeal.τ Cert.LoKernelIdeal.sig) → Buf (Elt Ideal) ℓ) (g : Dev Cert.LoKernelIdeal.nD → PrngReg), Pre_LoKernelIdeal_lo_finite m →
    θ_run (Cert.LoKernelIdeal.defs (F := Ideal)) (onTc (τ := Cert.LoKernelIdeal.τ) (Cert.LoKernelIdeal.main (F := Ideal))) ⟨m, fun _ => 0, g⟩ (fun r => (∀ c : Dev Cert.LoKernelIdeal.nD,
      r.2.mem ((c.tc : Thread Cert.LoKernelIdeal.nD Cert.LoKernelIdeal.τ).loc Cert.LoKernelIdeal.main_arg0) = m ((c.tc : Thread Cert.LoKernelIdeal.nD Cert.LoKernelIdeal.τ).loc Cert.LoKernelIdeal.main_arg0)
      ∧ r.2.mem ((c.tc : Thread Cert.LoKernelIdeal.nD Cert.LoKernelIdeal.τ).loc Cert.LoKernelIdeal.main_arg1) = m ((c.tc : Thread Cert.LoKernelIdeal.nD Cert.LoKernelIdeal.τ).loc Cert.LoKernelIdeal.main_arg1)
      ∧ r.2.mem ((c.tc : Thread Cert.LoKernelIdeal.nD Cert.LoKernelIdeal.τ).loc Cert.LoKernelIdeal.main_arg2) = m ((c.tc : Thread Cert.LoKernelIdeal.nD Cert.LoKernelIdeal.τ).loc Cert.LoKernelIdeal.main_arg2)
      ∧ r.2.mem ((c.tc : Thread Cert.LoKernelIdeal.nD Cert.LoKernelIdeal.τ).loc Cert.LoKernelIdeal.main_arg3) = m ((c.tc : Thread Cert.LoKernelIdeal.nD Cert.LoKernelIdeal.τ).loc Cert.LoKernelIdeal.main_arg3)
      ∧ r.2.mem ((c.tc : Thread Cert.LoKernelIdeal.nD Cert.LoKernelIdeal.τ).loc Cert.LoKernelIdeal.main_arg4) = m ((c.tc : Thread Cert.LoKernelIdeal.nD Cert.LoKernelIdeal.τ).loc Cert.LoKernelIdeal.main_arg4)
      ∧ r.2.mem ((c.tc : Thread Cert.LoKernelIdeal.nD Cert.LoKernelIdeal.τ).loc Cert.LoKernelIdeal.main_arg5) = m ((c.tc : Thread Cert.LoKernelIdeal.nD Cert.LoKernelIdeal.τ).loc Cert.LoKernelIdeal.main_arg5))
      ∧ r.2.sem = fun _ => 0)

def quiescent_LoReferenceIdeal [hLoReferenceIdeal : Cert.LoReferenceIdeal.Facts] : Prop :=
  ∀ (m : (ℓ : Loc Cert.LoReferenceIdeal.nD Cert.LoReferenceIdeal.τ Cert.LoReferenceIdeal.sig) → Buf (Elt Ideal) ℓ) (g : Dev Cert.LoReferenceIdeal.nD → PrngReg), Pre_LoReferenceIdeal m →
    θ_run (Cert.LoReferenceIdeal.defs (F := Ideal)) (onTc (τ := Cert.LoReferenceIdeal.τ) (Cert.LoReferenceIdeal.main (F := Ideal))) ⟨m, fun _ => 0, g⟩ (fun r => (∀ c : Dev Cert.LoReferenceIdeal.nD,
      r.2.mem ((c.tc : Thread Cert.LoReferenceIdeal.nD Cert.LoReferenceIdeal.τ).loc Cert.LoReferenceIdeal.main_arg0) = m ((c.tc : Thread Cert.LoReferenceIdeal.nD Cert.LoReferenceIdeal.τ).loc Cert.LoReferenceIdeal.main_arg0)
      ∧ r.2.mem ((c.tc : Thread Cert.LoReferenceIdeal.nD Cert.LoReferenceIdeal.τ).loc Cert.LoReferenceIdeal.main_arg1) = m ((c.tc : Thread Cert.LoReferenceIdeal.nD Cert.LoReferenceIdeal.τ).loc Cert.LoReferenceIdeal.main_arg1)
      ∧ r.2.mem ((c.tc : Thread Cert.LoReferenceIdeal.nD Cert.LoReferenceIdeal.τ).loc Cert.LoReferenceIdeal.main_arg2) = m ((c.tc : Thread Cert.LoReferenceIdeal.nD Cert.LoReferenceIdeal.τ).loc Cert.LoReferenceIdeal.main_arg2)
      ∧ r.2.mem ((c.tc : Thread Cert.LoReferenceIdeal.nD Cert.LoReferenceIdeal.τ).loc Cert.LoReferenceIdeal.main_arg3) = m ((c.tc : Thread Cert.LoReferenceIdeal.nD Cert.LoReferenceIdeal.τ).loc Cert.LoReferenceIdeal.main_arg3)
      ∧ r.2.mem ((c.tc : Thread Cert.LoReferenceIdeal.nD Cert.LoReferenceIdeal.τ).loc Cert.LoReferenceIdeal.main_arg4) = m ((c.tc : Thread Cert.LoReferenceIdeal.nD Cert.LoReferenceIdeal.τ).loc Cert.LoReferenceIdeal.main_arg4)
      ∧ r.2.mem ((c.tc : Thread Cert.LoReferenceIdeal.nD Cert.LoReferenceIdeal.τ).loc Cert.LoReferenceIdeal.main_arg5) = m ((c.tc : Thread Cert.LoReferenceIdeal.nD Cert.LoReferenceIdeal.τ).loc Cert.LoReferenceIdeal.main_arg5))
      ∧ r.2.sem = fun _ => 0)

def quiescent_LoReferenceIdeal_pre_lo_finite [hLoReferenceIdeal : Cert.LoReferenceIdeal.Facts] [hPre_lo_finite : Cert.Pre_lo_finite.Facts] : Prop :=
  ∀ (m : (ℓ : Loc Cert.LoReferenceIdeal.nD Cert.LoReferenceIdeal.τ Cert.LoReferenceIdeal.sig) → Buf (Elt Ideal) ℓ) (g : Dev Cert.LoReferenceIdeal.nD → PrngReg), Pre_LoReferenceIdeal_lo_finite m →
    θ_run (Cert.LoReferenceIdeal.defs (F := Ideal)) (onTc (τ := Cert.LoReferenceIdeal.τ) (Cert.LoReferenceIdeal.main (F := Ideal))) ⟨m, fun _ => 0, g⟩ (fun r => (∀ c : Dev Cert.LoReferenceIdeal.nD,
      r.2.mem ((c.tc : Thread Cert.LoReferenceIdeal.nD Cert.LoReferenceIdeal.τ).loc Cert.LoReferenceIdeal.main_arg0) = m ((c.tc : Thread Cert.LoReferenceIdeal.nD Cert.LoReferenceIdeal.τ).loc Cert.LoReferenceIdeal.main_arg0)
      ∧ r.2.mem ((c.tc : Thread Cert.LoReferenceIdeal.nD Cert.LoReferenceIdeal.τ).loc Cert.LoReferenceIdeal.main_arg1) = m ((c.tc : Thread Cert.LoReferenceIdeal.nD Cert.LoReferenceIdeal.τ).loc Cert.LoReferenceIdeal.main_arg1)
      ∧ r.2.mem ((c.tc : Thread Cert.LoReferenceIdeal.nD Cert.LoReferenceIdeal.τ).loc Cert.LoReferenceIdeal.main_arg2) = m ((c.tc : Thread Cert.LoReferenceIdeal.nD Cert.LoReferenceIdeal.τ).loc Cert.LoReferenceIdeal.main_arg2)
      ∧ r.2.mem ((c.tc : Thread Cert.LoReferenceIdeal.nD Cert.LoReferenceIdeal.τ).loc Cert.LoReferenceIdeal.main_arg3) = m ((c.tc : Thread Cert.LoReferenceIdeal.nD Cert.LoReferenceIdeal.τ).loc Cert.LoReferenceIdeal.main_arg3)
      ∧ r.2.mem ((c.tc : Thread Cert.LoReferenceIdeal.nD Cert.LoReferenceIdeal.τ).loc Cert.LoReferenceIdeal.main_arg4) = m ((c.tc : Thread Cert.LoReferenceIdeal.nD Cert.LoReferenceIdeal.τ).loc Cert.LoReferenceIdeal.main_arg4)
      ∧ r.2.mem ((c.tc : Thread Cert.LoReferenceIdeal.nD Cert.LoReferenceIdeal.τ).loc Cert.LoReferenceIdeal.main_arg5) = m ((c.tc : Thread Cert.LoReferenceIdeal.nD Cert.LoReferenceIdeal.τ).loc Cert.LoReferenceIdeal.main_arg5))
      ∧ r.2.sem = fun _ => 0)

def quiescent_LnKernel [hLnKernel : Cert.LnKernel.Facts] : Prop :=
  ∀ (m : (ℓ : Loc Cert.LnKernel.nD Cert.LnKernel.τ Cert.LnKernel.sig) → Buf (Elt Bits) ℓ) (g : Dev Cert.LnKernel.nD → PrngReg), Pre_LnKernel m →
    θ_run (Cert.LnKernel.defs (F := Bits)) (onTc (τ := Cert.LnKernel.τ) (Cert.LnKernel.main (F := Bits))) ⟨m, fun _ => 0, g⟩ (fun r => (∀ c : Dev Cert.LnKernel.nD,
      r.2.mem ((c.tc : Thread Cert.LnKernel.nD Cert.LnKernel.τ).loc Cert.LnKernel.main_arg0) = m ((c.tc : Thread Cert.LnKernel.nD Cert.LnKernel.τ).loc Cert.LnKernel.main_arg0)
      ∧ r.2.mem ((c.tc : Thread Cert.LnKernel.nD Cert.LnKernel.τ).loc Cert.LnKernel.main_arg1) = m ((c.tc : Thread Cert.LnKernel.nD Cert.LnKernel.τ).loc Cert.LnKernel.main_arg1)
      ∧ r.2.mem ((c.tc : Thread Cert.LnKernel.nD Cert.LnKernel.τ).loc Cert.LnKernel.main_arg2) = m ((c.tc : Thread Cert.LnKernel.nD Cert.LnKernel.τ).loc Cert.LnKernel.main_arg2)
      ∧ r.2.mem ((c.tc : Thread Cert.LnKernel.nD Cert.LnKernel.τ).loc Cert.LnKernel.main_arg3) = m ((c.tc : Thread Cert.LnKernel.nD Cert.LnKernel.τ).loc Cert.LnKernel.main_arg3)
      ∧ r.2.mem ((c.tc : Thread Cert.LnKernel.nD Cert.LnKernel.τ).loc Cert.LnKernel.main_arg4) = m ((c.tc : Thread Cert.LnKernel.nD Cert.LnKernel.τ).loc Cert.LnKernel.main_arg4)
      ∧ r.2.mem ((c.tc : Thread Cert.LnKernel.nD Cert.LnKernel.τ).loc Cert.LnKernel.main_arg5) = m ((c.tc : Thread Cert.LnKernel.nD Cert.LnKernel.τ).loc Cert.LnKernel.main_arg5)
      ∧ r.2.mem ((c.tc : Thread Cert.LnKernel.nD Cert.LnKernel.τ).loc Cert.LnKernel.main_arg6) = m ((c.tc : Thread Cert.LnKernel.nD Cert.LnKernel.τ).loc Cert.LnKernel.main_arg6))
      ∧ r.2.sem = fun _ => 0)

def quiescent_LnKernelIdeal [hLnKernelIdeal : Cert.LnKernelIdeal.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3)
      ∧ r.2.mem ((c.tc : Thread Cert.LnKernelIdeal.nD Cert.LnKernelIdeal.τ).loc Cert.LnKernelIdeal.main_arg4) = m ((c.tc : Thread Cert.LnKernelIdeal.nD Cert.LnKernelIdeal.τ).loc Cert.LnKernelIdeal.main_arg4)
      ∧ r.2.mem ((c.tc : Thread Cert.LnKernelIdeal.nD Cert.LnKernelIdeal.τ).loc Cert.LnKernelIdeal.main_arg5) = m ((c.tc : Thread Cert.LnKernelIdeal.nD Cert.LnKernelIdeal.τ).loc Cert.LnKernelIdeal.main_arg5)
      ∧ r.2.mem ((c.tc : Thread Cert.LnKernelIdeal.nD Cert.LnKernelIdeal.τ).loc Cert.LnKernelIdeal.main_arg6) = m ((c.tc : Thread Cert.LnKernelIdeal.nD Cert.LnKernelIdeal.τ).loc Cert.LnKernelIdeal.main_arg6))
      ∧ r.2.sem = fun _ => 0)

def quiescent_LnKernelIdeal_pre_ln_finite [hLnKernelIdeal : Cert.LnKernelIdeal.Facts] [hPre_ln_finite : Cert.Pre_ln_finite.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal_ln_finite m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3)
      ∧ r.2.mem ((c.tc : Thread Cert.LnKernelIdeal.nD Cert.LnKernelIdeal.τ).loc Cert.LnKernelIdeal.main_arg4) = m ((c.tc : Thread Cert.LnKernelIdeal.nD Cert.LnKernelIdeal.τ).loc Cert.LnKernelIdeal.main_arg4)
      ∧ r.2.mem ((c.tc : Thread Cert.LnKernelIdeal.nD Cert.LnKernelIdeal.τ).loc Cert.LnKernelIdeal.main_arg5) = m ((c.tc : Thread Cert.LnKernelIdeal.nD Cert.LnKernelIdeal.τ).loc Cert.LnKernelIdeal.main_arg5)
      ∧ r.2.mem ((c.tc : Thread Cert.LnKernelIdeal.nD Cert.LnKernelIdeal.τ).loc Cert.LnKernelIdeal.main_arg6) = m ((c.tc : Thread Cert.LnKernelIdeal.nD Cert.LnKernelIdeal.τ).loc Cert.LnKernelIdeal.main_arg6))
      ∧ r.2.sem = fun _ => 0)

def quiescent_LnReferenceIdeal [hLnReferenceIdeal : Cert.LnReferenceIdeal.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3)
      ∧ r.2.mem ((c.tc : Thread Cert.LnReferenceIdeal.nD Cert.LnReferenceIdeal.τ).loc Cert.LnReferenceIdeal.main_arg4) = m ((c.tc : Thread Cert.LnReferenceIdeal.nD Cert.LnReferenceIdeal.τ).loc Cert.LnReferenceIdeal.main_arg4)
      ∧ r.2.mem ((c.tc : Thread Cert.LnReferenceIdeal.nD Cert.LnReferenceIdeal.τ).loc Cert.LnReferenceIdeal.main_arg5) = m ((c.tc : Thread Cert.LnReferenceIdeal.nD Cert.LnReferenceIdeal.τ).loc Cert.LnReferenceIdeal.main_arg5)
      ∧ r.2.mem ((c.tc : Thread Cert.LnReferenceIdeal.nD Cert.LnReferenceIdeal.τ).loc Cert.LnReferenceIdeal.main_arg6) = m ((c.tc : Thread Cert.LnReferenceIdeal.nD Cert.LnReferenceIdeal.τ).loc Cert.LnReferenceIdeal.main_arg6))
      ∧ r.2.sem = fun _ => 0)

def quiescent_LnReferenceIdeal_pre_ln_finite [hLnReferenceIdeal : Cert.LnReferenceIdeal.Facts] [hPre_ln_finite : Cert.Pre_ln_finite.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal_ln_finite m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3)
      ∧ r.2.mem ((c.tc : Thread Cert.LnReferenceIdeal.nD Cert.LnReferenceIdeal.τ).loc Cert.LnReferenceIdeal.main_arg4) = m ((c.tc : Thread Cert.LnReferenceIdeal.nD Cert.LnReferenceIdeal.τ).loc Cert.LnReferenceIdeal.main_arg4)
      ∧ r.2.mem ((c.tc : Thread Cert.LnReferenceIdeal.nD Cert.LnReferenceIdeal.τ).loc Cert.LnReferenceIdeal.main_arg5) = m ((c.tc : Thread Cert.LnReferenceIdeal.nD Cert.LnReferenceIdeal.τ).loc Cert.LnReferenceIdeal.main_arg5)
      ∧ r.2.mem ((c.tc : Thread Cert.LnReferenceIdeal.nD Cert.LnReferenceIdeal.τ).loc Cert.LnReferenceIdeal.main_arg6) = m ((c.tc : Thread Cert.LnReferenceIdeal.nD Cert.LnReferenceIdeal.τ).loc Cert.LnReferenceIdeal.main_arg6))
      ∧ r.2.sem = fun _ => 0)

def quiescent_RgKernel [hRgKernel : Cert.RgKernel.Facts] : Prop :=
  ∀ (m : (ℓ : Loc Cert.RgKernel.nD Cert.RgKernel.τ Cert.RgKernel.sig) → Buf (Elt Bits) ℓ) (g : Dev Cert.RgKernel.nD → PrngReg), Pre_RgKernel m →
    θ_run (Cert.RgKernel.defs (F := Bits)) (onTc (τ := Cert.RgKernel.τ) (Cert.RgKernel.main (F := Bits))) ⟨m, fun _ => 0, g⟩ (fun r => (∀ c : Dev Cert.RgKernel.nD,
      r.2.mem ((c.tc : Thread Cert.RgKernel.nD Cert.RgKernel.τ).loc Cert.RgKernel.main_arg0) = m ((c.tc : Thread Cert.RgKernel.nD Cert.RgKernel.τ).loc Cert.RgKernel.main_arg0)
      ∧ r.2.mem ((c.tc : Thread Cert.RgKernel.nD Cert.RgKernel.τ).loc Cert.RgKernel.main_arg1) = m ((c.tc : Thread Cert.RgKernel.nD Cert.RgKernel.τ).loc Cert.RgKernel.main_arg1)
      ∧ r.2.mem ((c.tc : Thread Cert.RgKernel.nD Cert.RgKernel.τ).loc Cert.RgKernel.main_arg2) = m ((c.tc : Thread Cert.RgKernel.nD Cert.RgKernel.τ).loc Cert.RgKernel.main_arg2)
      ∧ r.2.mem ((c.tc : Thread Cert.RgKernel.nD Cert.RgKernel.τ).loc Cert.RgKernel.main_arg3) = m ((c.tc : Thread Cert.RgKernel.nD Cert.RgKernel.τ).loc Cert.RgKernel.main_arg3)
      ∧ r.2.mem ((c.tc : Thread Cert.RgKernel.nD Cert.RgKernel.τ).loc Cert.RgKernel.main_arg4) = m ((c.tc : Thread Cert.RgKernel.nD Cert.RgKernel.τ).loc Cert.RgKernel.main_arg4)
      ∧ r.2.mem ((c.tc : Thread Cert.RgKernel.nD Cert.RgKernel.τ).loc Cert.RgKernel.main_arg5) = m ((c.tc : Thread Cert.RgKernel.nD Cert.RgKernel.τ).loc Cert.RgKernel.main_arg5))
      ∧ r.2.sem = fun _ => 0)

def quiescent_RgKernelIdeal [hRgKernelIdeal : Cert.RgKernelIdeal.Facts] : Prop :=
  ∀ (m : (ℓ : Loc Cert.RgKernelIdeal.nD Cert.RgKernelIdeal.τ Cert.RgKernelIdeal.sig) → Buf (Elt Ideal) ℓ) (g : Dev Cert.RgKernelIdeal.nD → PrngReg), Pre_RgKernelIdeal m →
    θ_run (Cert.RgKernelIdeal.defs (F := Ideal)) (onTc (τ := Cert.RgKernelIdeal.τ) (Cert.RgKernelIdeal.main (F := Ideal))) ⟨m, fun _ => 0, g⟩ (fun r => (∀ c : Dev Cert.RgKernelIdeal.nD,
      r.2.mem ((c.tc : Thread Cert.RgKernelIdeal.nD Cert.RgKernelIdeal.τ).loc Cert.RgKernelIdeal.main_arg0) = m ((c.tc : Thread Cert.RgKernelIdeal.nD Cert.RgKernelIdeal.τ).loc Cert.RgKernelIdeal.main_arg0)
      ∧ r.2.mem ((c.tc : Thread Cert.RgKernelIdeal.nD Cert.RgKernelIdeal.τ).loc Cert.RgKernelIdeal.main_arg1) = m ((c.tc : Thread Cert.RgKernelIdeal.nD Cert.RgKernelIdeal.τ).loc Cert.RgKernelIdeal.main_arg1)
      ∧ r.2.mem ((c.tc : Thread Cert.RgKernelIdeal.nD Cert.RgKernelIdeal.τ).loc Cert.RgKernelIdeal.main_arg2) = m ((c.tc : Thread Cert.RgKernelIdeal.nD Cert.RgKernelIdeal.τ).loc Cert.RgKernelIdeal.main_arg2)
      ∧ r.2.mem ((c.tc : Thread Cert.RgKernelIdeal.nD Cert.RgKernelIdeal.τ).loc Cert.RgKernelIdeal.main_arg3) = m ((c.tc : Thread Cert.RgKernelIdeal.nD Cert.RgKernelIdeal.τ).loc Cert.RgKernelIdeal.main_arg3)
      ∧ r.2.mem ((c.tc : Thread Cert.RgKernelIdeal.nD Cert.RgKernelIdeal.τ).loc Cert.RgKernelIdeal.main_arg4) = m ((c.tc : Thread Cert.RgKernelIdeal.nD Cert.RgKernelIdeal.τ).loc Cert.RgKernelIdeal.main_arg4)
      ∧ r.2.mem ((c.tc : Thread Cert.RgKernelIdeal.nD Cert.RgKernelIdeal.τ).loc Cert.RgKernelIdeal.main_arg5) = m ((c.tc : Thread Cert.RgKernelIdeal.nD Cert.RgKernelIdeal.τ).loc Cert.RgKernelIdeal.main_arg5))
      ∧ r.2.sem = fun _ => 0)

def preserves_GateKernel_GateKernelIdeal : Prop :=
  True

def algebraic_GateKernelIdeal_GateReferenceIdeal_pre_gate_finite [hGateKernelIdeal : Cert.GateKernelIdeal.Facts] [hGateReferenceIdeal : Cert.GateReferenceIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v3_0)) (v1 : (c : Dev Cert.GateKernelIdeal.nD) → Buf (Elt Ideal) ((c.tc : Thread Cert.GateKernelIdeal.nD Cert.GateKernelIdeal.τ).loc Cert.GateKernelIdeal.main_v3_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v3_0) = v0 c
          ∧ r.2.mem ((c.tc : Thread Cert.GateKernelIdeal.nD Cert.GateKernelIdeal.τ).loc Cert.GateKernelIdeal.main_v3_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v9) = v0 c
          ∧ r.2.mem ((c.tc : Thread Cert.GateReferenceIdeal.nD Cert.GateReferenceIdeal.τ).loc Cert.GateReferenceIdeal.main_v10) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_GateOneKernel_GateOneKernelIdeal : Prop :=
  True

def algebraic_GateOneKernelIdeal_GateOneReferenceIdeal_pre_gate1_finite [hGateOneKernelIdeal : Cert.GateOneKernelIdeal.Facts] [hGateOneReferenceIdeal : Cert.GateOneReferenceIdeal.Facts] [hPre_gate1_finite : Cert.Pre_gate1_finite.Facts] : Prop :=
  ∀ (m : (ℓ : Loc Cert.GateOneKernelIdeal.nD Cert.GateOneKernelIdeal.τ Cert.GateOneKernelIdeal.sig) → Buf (Elt Ideal) ℓ) (g : Dev Cert.GateOneKernelIdeal.nD → PrngReg)
    (m' : (ℓ : Loc Cert.GateOneReferenceIdeal.nD Cert.GateOneReferenceIdeal.τ Cert.GateOneReferenceIdeal.sig) → Buf (Elt Ideal) ℓ) (g' : Dev Cert.GateOneReferenceIdeal.nD → PrngReg), Pre_GateOneKernelIdeal_gate1_finite m →
    (∀ c : Dev Cert.GateOneKernelIdeal.nD,
      m' ((c.tc : Thread Cert.GateOneReferenceIdeal.nD Cert.GateOneReferenceIdeal.τ).loc Cert.GateOneReferenceIdeal.main_arg0) = m ((c.tc : Thread Cert.GateOneKernelIdeal.nD Cert.GateOneKernelIdeal.τ).loc Cert.GateOneKernelIdeal.main_arg0)
      ∧ m' ((c.tc : Thread Cert.GateOneReferenceIdeal.nD Cert.GateOneReferenceIdeal.τ).loc Cert.GateOneReferenceIdeal.main_arg1) = m ((c.tc : Thread Cert.GateOneKernelIdeal.nD Cert.GateOneKernelIdeal.τ).loc Cert.GateOneKernelIdeal.main_arg1)
      ∧ m' ((c.tc : Thread Cert.GateOneReferenceIdeal.nD Cert.GateOneReferenceIdeal.τ).loc Cert.GateOneReferenceIdeal.main_arg2) = m ((c.tc : Thread Cert.GateOneKernelIdeal.nD Cert.GateOneKernelIdeal.τ).loc Cert.GateOneKernelIdeal.main_arg2)
      ∧ m' ((c.tc : Thread Cert.GateOneReferenceIdeal.nD Cert.GateOneReferenceIdeal.τ).loc Cert.GateOneReferenceIdeal.main_arg3) = m ((c.tc : Thread Cert.GateOneKernelIdeal.nD Cert.GateOneKernelIdeal.τ).loc Cert.GateOneKernelIdeal.main_arg3)) →
    ∃ (v0 : (c : Dev Cert.GateOneKernelIdeal.nD) → Buf (Elt Ideal) ((c.tc : Thread Cert.GateOneKernelIdeal.nD Cert.GateOneKernelIdeal.τ).loc Cert.GateOneKernelIdeal.main_v3_0)) (v1 : (c : Dev Cert.GateOneKernelIdeal.nD) → Buf (Elt Ideal) ((c.tc : Thread Cert.GateOneKernelIdeal.nD Cert.GateOneKernelIdeal.τ).loc Cert.GateOneKernelIdeal.main_v3_1)),
      θ_run (Cert.GateOneKernelIdeal.defs (F := Ideal)) (onTc (τ := Cert.GateOneKernelIdeal.τ) (Cert.GateOneKernelIdeal.main (F := Ideal))) ⟨m, fun _ => 0, g⟩ (fun r => ∀ c : Dev Cert.GateOneKernelIdeal.nD,
          r.2.mem ((c.tc : Thread Cert.GateOneKernelIdeal.nD Cert.GateOneKernelIdeal.τ).loc Cert.GateOneKernelIdeal.main_v3_0) = v0 c
          ∧ r.2.mem ((c.tc : Thread Cert.GateOneKernelIdeal.nD Cert.GateOneKernelIdeal.τ).loc Cert.GateOneKernelIdeal.main_v3_1) = v1 c
          ∧ r.2.mem ((c.tc : Thread Cert.GateOneKernelIdeal.nD Cert.GateOneKernelIdeal.τ).loc Cert.GateOneKernelIdeal.main_arg0) = m ((c.tc : Thread Cert.GateOneKernelIdeal.nD Cert.GateOneKernelIdeal.τ).loc Cert.GateOneKernelIdeal.main_arg0)
          ∧ r.2.mem ((c.tc : Thread Cert.GateOneKernelIdeal.nD Cert.GateOneKernelIdeal.τ).loc Cert.GateOneKernelIdeal.main_arg1) = m ((c.tc : Thread Cert.GateOneKernelIdeal.nD Cert.GateOneKernelIdeal.τ).loc Cert.GateOneKernelIdeal.main_arg1)
          ∧ r.2.mem ((c.tc : Thread Cert.GateOneKernelIdeal.nD Cert.GateOneKernelIdeal.τ).loc Cert.GateOneKernelIdeal.main_arg2) = m ((c.tc : Thread Cert.GateOneKernelIdeal.nD Cert.GateOneKernelIdeal.τ).loc Cert.GateOneKernelIdeal.main_arg2)
          ∧ r.2.mem ((c.tc : Thread Cert.GateOneKernelIdeal.nD Cert.GateOneKernelIdeal.τ).loc Cert.GateOneKernelIdeal.main_arg3) = m ((c.tc : Thread Cert.GateOneKernelIdeal.nD Cert.GateOneKernelIdeal.τ).loc Cert.GateOneKernelIdeal.main_arg3))
      ∧ θ_run (Cert.GateOneReferenceIdeal.defs (F := Ideal)) (onTc (τ := Cert.GateOneReferenceIdeal.τ) (Cert.GateOneReferenceIdeal.main (F := Ideal))) ⟨m', fun _ => 0, g'⟩ (fun r => ∀ c : Dev Cert.GateOneReferenceIdeal.nD,
          r.2.mem ((c.tc : Thread Cert.GateOneReferenceIdeal.nD Cert.GateOneReferenceIdeal.τ).loc Cert.GateOneReferenceIdeal.main_v8) = v0 c
          ∧ r.2.mem ((c.tc : Thread Cert.GateOneReferenceIdeal.nD Cert.GateOneReferenceIdeal.τ).loc Cert.GateOneReferenceIdeal.main_v9) = v1 c
          ∧ r.2.mem ((c.tc : Thread Cert.GateOneReferenceIdeal.nD Cert.GateOneReferenceIdeal.τ).loc Cert.GateOneReferenceIdeal.main_arg0) = m' ((c.tc : Thread Cert.GateOneReferenceIdeal.nD Cert.GateOneReferenceIdeal.τ).loc Cert.GateOneReferenceIdeal.main_arg0)
          ∧ r.2.mem ((c.tc : Thread Cert.GateOneReferenceIdeal.nD Cert.GateOneReferenceIdeal.τ).loc Cert.GateOneReferenceIdeal.main_arg1) = m' ((c.tc : Thread Cert.GateOneReferenceIdeal.nD Cert.GateOneReferenceIdeal.τ).loc Cert.GateOneReferenceIdeal.main_arg1)
          ∧ r.2.mem ((c.tc : Thread Cert.GateOneReferenceIdeal.nD Cert.GateOneReferenceIdeal.τ).loc Cert.GateOneReferenceIdeal.main_arg2) = m' ((c.tc : Thread Cert.GateOneReferenceIdeal.nD Cert.GateOneReferenceIdeal.τ).loc Cert.GateOneReferenceIdeal.main_arg2)
          ∧ r.2.mem ((c.tc : Thread Cert.GateOneReferenceIdeal.nD Cert.GateOneReferenceIdeal.τ).loc Cert.GateOneReferenceIdeal.main_arg3) = m' ((c.tc : Thread Cert.GateOneReferenceIdeal.nD Cert.GateOneReferenceIdeal.τ).loc Cert.GateOneReferenceIdeal.main_arg3))

def preserves_GateAKernel_GateAKernelIdeal : Prop :=
  True

def algebraic_GateAKernelIdeal_GateAReferenceIdeal_pre_gatea_finite [hGateAKernelIdeal : Cert.GateAKernelIdeal.Facts] [hGateAReferenceIdeal : Cert.GateAReferenceIdeal.Facts] [hPre_gatea_finite : Cert.Pre_gatea_finite.Facts] : Prop :=
  ∀ (m : (ℓ : Loc Cert.GateAKernelIdeal.nD Cert.GateAKernelIdeal.τ Cert.GateAKernelIdeal.sig) → Buf (Elt Ideal) ℓ) (g : Dev Cert.GateAKernelIdeal.nD → PrngReg)
    (m' : (ℓ : Loc Cert.GateAReferenceIdeal.nD Cert.GateAReferenceIdeal.τ Cert.GateAReferenceIdeal.sig) → Buf (Elt Ideal) ℓ) (g' : Dev Cert.GateAReferenceIdeal.nD → PrngReg), Pre_GateAKernelIdeal_gatea_finite m →
    (∀ c : Dev Cert.GateAKernelIdeal.nD,
      m' ((c.tc : Thread Cert.GateAReferenceIdeal.nD Cert.GateAReferenceIdeal.τ).loc Cert.GateAReferenceIdeal.main_arg0) = m ((c.tc : Thread Cert.GateAKernelIdeal.nD Cert.GateAKernelIdeal.τ).loc Cert.GateAKernelIdeal.main_arg0)
      ∧ m' ((c.tc : Thread Cert.GateAReferenceIdeal.nD Cert.GateAReferenceIdeal.τ).loc Cert.GateAReferenceIdeal.main_arg1) = m ((c.tc : Thread Cert.GateAKernelIdeal.nD Cert.GateAKernelIdeal.τ).loc Cert.GateAKernelIdeal.main_arg1)
      ∧ m' ((c.tc : Thread Cert.GateAReferenceIdeal.nD Cert.GateAReferenceIdeal.τ).loc Cert.GateAReferenceIdeal.main_arg2) = m ((c.tc : Thread Cert.GateAKernelIdeal.nD Cert.GateAKernelIdeal.τ).loc Cert.GateAKernelIdeal.main_arg2)
      ∧ m' ((c.tc : Thread Cert.GateAReferenceIdeal.nD Cert.GateAReferenceIdeal.τ).loc Cert.GateAReferenceIdeal.main_arg3) = m ((c.tc : Thread Cert.GateAKernelIdeal.nD Cert.GateAKernelIdeal.τ).loc Cert.GateAKernelIdeal.main_arg3)) →
    ∃ (v0 : (c : Dev Cert.GateAKernelIdeal.nD) → Buf (Elt Ideal) ((c.tc : Thread Cert.GateAKernelIdeal.nD Cert.GateAKernelIdeal.τ).loc Cert.GateAKernelIdeal.main_v3_0)) (v1 : (c : Dev Cert.GateAKernelIdeal.nD) → Buf (Elt Ideal) ((c.tc : Thread Cert.GateAKernelIdeal.nD Cert.GateAKernelIdeal.τ).loc Cert.GateAKernelIdeal.main_v3_1)),
      θ_run (Cert.GateAKernelIdeal.defs (F := Ideal)) (onTc (τ := Cert.GateAKernelIdeal.τ) (Cert.GateAKernelIdeal.main (F := Ideal))) ⟨m, fun _ => 0, g⟩ (fun r => ∀ c : Dev Cert.GateAKernelIdeal.nD,
          r.2.mem ((c.tc : Thread Cert.GateAKernelIdeal.nD Cert.GateAKernelIdeal.τ).loc Cert.GateAKernelIdeal.main_v3_0) = v0 c
          ∧ r.2.mem ((c.tc : Thread Cert.GateAKernelIdeal.nD Cert.GateAKernelIdeal.τ).loc Cert.GateAKernelIdeal.main_v3_1) = v1 c
          ∧ r.2.mem ((c.tc : Thread Cert.GateAKernelIdeal.nD Cert.GateAKernelIdeal.τ).loc Cert.GateAKernelIdeal.main_arg0) = m ((c.tc : Thread Cert.GateAKernelIdeal.nD Cert.GateAKernelIdeal.τ).loc Cert.GateAKernelIdeal.main_arg0)
          ∧ r.2.mem ((c.tc : Thread Cert.GateAKernelIdeal.nD Cert.GateAKernelIdeal.τ).loc Cert.GateAKernelIdeal.main_arg1) = m ((c.tc : Thread Cert.GateAKernelIdeal.nD Cert.GateAKernelIdeal.τ).loc Cert.GateAKernelIdeal.main_arg1)
          ∧ r.2.mem ((c.tc : Thread Cert.GateAKernelIdeal.nD Cert.GateAKernelIdeal.τ).loc Cert.GateAKernelIdeal.main_arg2) = m ((c.tc : Thread Cert.GateAKernelIdeal.nD Cert.GateAKernelIdeal.τ).loc Cert.GateAKernelIdeal.main_arg2)
          ∧ r.2.mem ((c.tc : Thread Cert.GateAKernelIdeal.nD Cert.GateAKernelIdeal.τ).loc Cert.GateAKernelIdeal.main_arg3) = m ((c.tc : Thread Cert.GateAKernelIdeal.nD Cert.GateAKernelIdeal.τ).loc Cert.GateAKernelIdeal.main_arg3))
      ∧ θ_run (Cert.GateAReferenceIdeal.defs (F := Ideal)) (onTc (τ := Cert.GateAReferenceIdeal.τ) (Cert.GateAReferenceIdeal.main (F := Ideal))) ⟨m', fun _ => 0, g'⟩ (fun r => ∀ c : Dev Cert.GateAReferenceIdeal.nD,
          r.2.mem ((c.tc : Thread Cert.GateAReferenceIdeal.nD Cert.GateAReferenceIdeal.τ).loc Cert.GateAReferenceIdeal.main_v8) = v0 c
          ∧ r.2.mem ((c.tc : Thread Cert.GateAReferenceIdeal.nD Cert.GateAReferenceIdeal.τ).loc Cert.GateAReferenceIdeal.main_v10) = v1 c
          ∧ r.2.mem ((c.tc : Thread Cert.GateAReferenceIdeal.nD Cert.GateAReferenceIdeal.τ).loc Cert.GateAReferenceIdeal.main_arg0) = m' ((c.tc : Thread Cert.GateAReferenceIdeal.nD Cert.GateAReferenceIdeal.τ).loc Cert.GateAReferenceIdeal.main_arg0)
          ∧ r.2.mem ((c.tc : Thread Cert.GateAReferenceIdeal.nD Cert.GateAReferenceIdeal.τ).loc Cert.GateAReferenceIdeal.main_arg1) = m' ((c.tc : Thread Cert.GateAReferenceIdeal.nD Cert.GateAReferenceIdeal.τ).loc Cert.GateAReferenceIdeal.main_arg1)
          ∧ r.2.mem ((c.tc : Thread Cert.GateAReferenceIdeal.nD Cert.GateAReferenceIdeal.τ).loc Cert.GateAReferenceIdeal.main_arg2) = m' ((c.tc : Thread Cert.GateAReferenceIdeal.nD Cert.GateAReferenceIdeal.τ).loc Cert.GateAReferenceIdeal.main_arg2)
          ∧ r.2.mem ((c.tc : Thread Cert.GateAReferenceIdeal.nD Cert.GateAReferenceIdeal.τ).loc Cert.GateAReferenceIdeal.main_arg3) = m' ((c.tc : Thread Cert.GateAReferenceIdeal.nD Cert.GateAReferenceIdeal.τ).loc Cert.GateAReferenceIdeal.main_arg3))

def algebraic_SbKernelIdeal_SbReferenceIdeal_pre_sb_finite [hSbKernelIdeal : Cert.SbKernelIdeal.Facts] [hSbReferenceIdeal : Cert.SbReferenceIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_sb_finite m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)
      ∧ m' ((c.tc : Thread Cert.SbReferenceIdeal.nD Cert.SbReferenceIdeal.τ).loc Cert.SbReferenceIdeal.main_arg1) = m ((c.tc : Thread Cert.SbKernelIdeal.nD Cert.SbKernelIdeal.τ).loc Cert.SbKernelIdeal.main_arg1)) →
    ∃ (v0 : (c : Dev Cert.SbKernelIdeal.nD) → Buf (Elt Ideal) ((c.tc : Thread Cert.SbKernelIdeal.nD Cert.SbKernelIdeal.τ).loc Cert.SbKernelIdeal.main_v2_0)) (v1 : (c : Dev Cert.SbKernelIdeal.nD) → Buf (Elt Ideal) ((c.tc : Thread Cert.SbKernelIdeal.nD Cert.SbKernelIdeal.τ).loc Cert.SbKernelIdeal.main_v2_1)) (v2 : (c : Dev Cert.SbKernelIdeal.nD) → Buf (Elt Ideal) ((c.tc : Thread Cert.SbKernelIdeal.nD Cert.SbKernelIdeal.τ).loc Cert.SbKernelIdeal.main_v2_2)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v2_0) = v0 c
          ∧ r.2.mem ((c.tc : Thread Cert.SbKernelIdeal.nD Cert.SbKernelIdeal.τ).loc Cert.SbKernelIdeal.main_v2_1) = v1 c
          ∧ r.2.mem ((c.tc : Thread Cert.SbKernelIdeal.nD Cert.SbKernelIdeal.τ).loc Cert.SbKernelIdeal.main_v2_2) = v2 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v48) = v0 c
          ∧ r.2.mem ((c.tc : Thread Cert.SbReferenceIdeal.nD Cert.SbReferenceIdeal.τ).loc Cert.SbReferenceIdeal.main_v50) = v1 c
          ∧ r.2.mem ((c.tc : Thread Cert.SbReferenceIdeal.nD Cert.SbReferenceIdeal.τ).loc Cert.SbReferenceIdeal.main_v52) = v2 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1))

def algebraic_SwaKernelIdeal_SwaReferenceIdeal_pre_swa_finite [hSwaKernelIdeal : Cert.SwaKernelIdeal.Facts] [hSwaReferenceIdeal : Cert.SwaReferenceIdeal.Facts] [hPre_swa_finite : Cert.Pre_swa_finite.Facts] : Prop :=
  ∀ (m : (ℓ : Loc Cert.SwaKernelIdeal.nD Cert.SwaKernelIdeal.τ Cert.SwaKernelIdeal.sig) → Buf (Elt Ideal) ℓ) (g : Dev Cert.SwaKernelIdeal.nD → PrngReg)
    (m' : (ℓ : Loc Cert.SwaReferenceIdeal.nD Cert.SwaReferenceIdeal.τ Cert.SwaReferenceIdeal.sig) → Buf (Elt Ideal) ℓ) (g' : Dev Cert.SwaReferenceIdeal.nD → PrngReg), Pre_SwaKernelIdeal_swa_finite m →
    (∀ c : Dev Cert.SwaKernelIdeal.nD,
      m' ((c.tc : Thread Cert.SwaReferenceIdeal.nD Cert.SwaReferenceIdeal.τ).loc Cert.SwaReferenceIdeal.main_arg0) = m ((c.tc : Thread Cert.SwaKernelIdeal.nD Cert.SwaKernelIdeal.τ).loc Cert.SwaKernelIdeal.main_arg0)
      ∧ m' ((c.tc : Thread Cert.SwaReferenceIdeal.nD Cert.SwaReferenceIdeal.τ).loc Cert.SwaReferenceIdeal.main_arg1) = m ((c.tc : Thread Cert.SwaKernelIdeal.nD Cert.SwaKernelIdeal.τ).loc Cert.SwaKernelIdeal.main_arg1)
      ∧ m' ((c.tc : Thread Cert.SwaReferenceIdeal.nD Cert.SwaReferenceIdeal.τ).loc Cert.SwaReferenceIdeal.main_arg2) = m ((c.tc : Thread Cert.SwaKernelIdeal.nD Cert.SwaKernelIdeal.τ).loc Cert.SwaKernelIdeal.main_arg2)
      ∧ m' ((c.tc : Thread Cert.SwaReferenceIdeal.nD Cert.SwaReferenceIdeal.τ).loc Cert.SwaReferenceIdeal.main_arg3) = m ((c.tc : Thread Cert.SwaKernelIdeal.nD Cert.SwaKernelIdeal.τ).loc Cert.SwaKernelIdeal.main_arg3)) →
    ∃ (v0 : (c : Dev Cert.SwaKernelIdeal.nD) → Buf (Elt Ideal) ((c.tc : Thread Cert.SwaKernelIdeal.nD Cert.SwaKernelIdeal.τ).loc Cert.SwaKernelIdeal.main_v6_0)) (v1 : (c : Dev Cert.SwaKernelIdeal.nD) → Buf (Elt Ideal) ((c.tc : Thread Cert.SwaKernelIdeal.nD Cert.SwaKernelIdeal.τ).loc Cert.SwaKernelIdeal.main_v6_1)) (v2 : (c : Dev Cert.SwaKernelIdeal.nD) → Buf (Elt Ideal) ((c.tc : Thread Cert.SwaKernelIdeal.nD Cert.SwaKernelIdeal.τ).loc Cert.SwaKernelIdeal.main_v6_2)),
      θ_run (Cert.SwaKernelIdeal.defs (F := Ideal)) (onTc (τ := Cert.SwaKernelIdeal.τ) (Cert.SwaKernelIdeal.main (F := Ideal))) ⟨m, fun _ => 0, g⟩ (fun r => ∀ c : Dev Cert.SwaKernelIdeal.nD,
          r.2.mem ((c.tc : Thread Cert.SwaKernelIdeal.nD Cert.SwaKernelIdeal.τ).loc Cert.SwaKernelIdeal.main_v6_0) = v0 c
          ∧ r.2.mem ((c.tc : Thread Cert.SwaKernelIdeal.nD Cert.SwaKernelIdeal.τ).loc Cert.SwaKernelIdeal.main_v6_1) = v1 c
          ∧ r.2.mem ((c.tc : Thread Cert.SwaKernelIdeal.nD Cert.SwaKernelIdeal.τ).loc Cert.SwaKernelIdeal.main_v6_2) = v2 c
          ∧ r.2.mem ((c.tc : Thread Cert.SwaKernelIdeal.nD Cert.SwaKernelIdeal.τ).loc Cert.SwaKernelIdeal.main_arg0) = m ((c.tc : Thread Cert.SwaKernelIdeal.nD Cert.SwaKernelIdeal.τ).loc Cert.SwaKernelIdeal.main_arg0)
          ∧ r.2.mem ((c.tc : Thread Cert.SwaKernelIdeal.nD Cert.SwaKernelIdeal.τ).loc Cert.SwaKernelIdeal.main_arg1) = m ((c.tc : Thread Cert.SwaKernelIdeal.nD Cert.SwaKernelIdeal.τ).loc Cert.SwaKernelIdeal.main_arg1)
          ∧ r.2.mem ((c.tc : Thread Cert.SwaKernelIdeal.nD Cert.SwaKernelIdeal.τ).loc Cert.SwaKernelIdeal.main_arg2) = m ((c.tc : Thread Cert.SwaKernelIdeal.nD Cert.SwaKernelIdeal.τ).loc Cert.SwaKernelIdeal.main_arg2)
          ∧ r.2.mem ((c.tc : Thread Cert.SwaKernelIdeal.nD Cert.SwaKernelIdeal.τ).loc Cert.SwaKernelIdeal.main_arg3) = m ((c.tc : Thread Cert.SwaKernelIdeal.nD Cert.SwaKernelIdeal.τ).loc Cert.SwaKernelIdeal.main_arg3))
      ∧ θ_run (Cert.SwaReferenceIdeal.defs (F := Ideal)) (onTc (τ := Cert.SwaReferenceIdeal.τ) (Cert.SwaReferenceIdeal.main (F := Ideal))) ⟨m', fun _ => 0, g'⟩ (fun r => ∀ c : Dev Cert.SwaReferenceIdeal.nD,
          r.2.mem ((c.tc : Thread Cert.SwaReferenceIdeal.nD Cert.SwaReferenceIdeal.τ).loc Cert.SwaReferenceIdeal.main_v203) = v0 c
          ∧ r.2.mem ((c.tc : Thread Cert.SwaReferenceIdeal.nD Cert.SwaReferenceIdeal.τ).loc Cert.SwaReferenceIdeal.main_v204) = v1 c
          ∧ r.2.mem ((c.tc : Thread Cert.SwaReferenceIdeal.nD Cert.SwaReferenceIdeal.τ).loc Cert.SwaReferenceIdeal.main_v206) = v2 c
          ∧ r.2.mem ((c.tc : Thread Cert.SwaReferenceIdeal.nD Cert.SwaReferenceIdeal.τ).loc Cert.SwaReferenceIdeal.main_arg0) = m' ((c.tc : Thread Cert.SwaReferenceIdeal.nD Cert.SwaReferenceIdeal.τ).loc Cert.SwaReferenceIdeal.main_arg0)
          ∧ r.2.mem ((c.tc : Thread Cert.SwaReferenceIdeal.nD Cert.SwaReferenceIdeal.τ).loc Cert.SwaReferenceIdeal.main_arg1) = m' ((c.tc : Thread Cert.SwaReferenceIdeal.nD Cert.SwaReferenceIdeal.τ).loc Cert.SwaReferenceIdeal.main_arg1)
          ∧ r.2.mem ((c.tc : Thread Cert.SwaReferenceIdeal.nD Cert.SwaReferenceIdeal.τ).loc Cert.SwaReferenceIdeal.main_arg2) = m' ((c.tc : Thread Cert.SwaReferenceIdeal.nD Cert.SwaReferenceIdeal.τ).loc Cert.SwaReferenceIdeal.main_arg2)
          ∧ r.2.mem ((c.tc : Thread Cert.SwaReferenceIdeal.nD Cert.SwaReferenceIdeal.τ).loc Cert.SwaReferenceIdeal.main_arg3) = m' ((c.tc : Thread Cert.SwaReferenceIdeal.nD Cert.SwaReferenceIdeal.τ).loc Cert.SwaReferenceIdeal.main_arg3))

def preserves_LoKernel_LoKernelIdeal : Prop :=
  True

def algebraic_LoKernelIdeal_LoReferenceIdeal_pre_lo_finite [hLoKernelIdeal : Cert.LoKernelIdeal.Facts] [hLoReferenceIdeal : Cert.LoReferenceIdeal.Facts] [hPre_lo_finite : Cert.Pre_lo_finite.Facts] : Prop :=
  ∀ (m : (ℓ : Loc Cert.LoKernelIdeal.nD Cert.LoKernelIdeal.τ Cert.LoKernelIdeal.sig) → Buf (Elt Ideal) ℓ) (g : Dev Cert.LoKernelIdeal.nD → PrngReg)
    (m' : (ℓ : Loc Cert.LoReferenceIdeal.nD Cert.LoReferenceIdeal.τ Cert.LoReferenceIdeal.sig) → Buf (Elt Ideal) ℓ) (g' : Dev Cert.LoReferenceIdeal.nD → PrngReg), Pre_LoKernelIdeal_lo_finite m →
    (∀ c : Dev Cert.LoKernelIdeal.nD,
      m' ((c.tc : Thread Cert.LoReferenceIdeal.nD Cert.LoReferenceIdeal.τ).loc Cert.LoReferenceIdeal.main_arg0) = m ((c.tc : Thread Cert.LoKernelIdeal.nD Cert.LoKernelIdeal.τ).loc Cert.LoKernelIdeal.main_arg0)
      ∧ m' ((c.tc : Thread Cert.LoReferenceIdeal.nD Cert.LoReferenceIdeal.τ).loc Cert.LoReferenceIdeal.main_arg1) = m ((c.tc : Thread Cert.LoKernelIdeal.nD Cert.LoKernelIdeal.τ).loc Cert.LoKernelIdeal.main_arg1)
      ∧ m' ((c.tc : Thread Cert.LoReferenceIdeal.nD Cert.LoReferenceIdeal.τ).loc Cert.LoReferenceIdeal.main_arg2) = m ((c.tc : Thread Cert.LoKernelIdeal.nD Cert.LoKernelIdeal.τ).loc Cert.LoKernelIdeal.main_arg2)
      ∧ m' ((c.tc : Thread Cert.LoReferenceIdeal.nD Cert.LoReferenceIdeal.τ).loc Cert.LoReferenceIdeal.main_arg3) = m ((c.tc : Thread Cert.LoKernelIdeal.nD Cert.LoKernelIdeal.τ).loc Cert.LoKernelIdeal.main_arg3)
      ∧ m' ((c.tc : Thread Cert.LoReferenceIdeal.nD Cert.LoReferenceIdeal.τ).loc Cert.LoReferenceIdeal.main_arg4) = m ((c.tc : Thread Cert.LoKernelIdeal.nD Cert.LoKernelIdeal.τ).loc Cert.LoKernelIdeal.main_arg4)
      ∧ m' ((c.tc : Thread Cert.LoReferenceIdeal.nD Cert.LoReferenceIdeal.τ).loc Cert.LoReferenceIdeal.main_arg5) = m ((c.tc : Thread Cert.LoKernelIdeal.nD Cert.LoKernelIdeal.τ).loc Cert.LoKernelIdeal.main_arg5)) →
    ∃ (v0 : (c : Dev Cert.LoKernelIdeal.nD) → Buf (Elt Ideal) ((c.tc : Thread Cert.LoKernelIdeal.nD Cert.LoKernelIdeal.τ).loc Cert.LoKernelIdeal.main_v3_0)) (v1 : (c : Dev Cert.LoKernelIdeal.nD) → Buf (Elt Ideal) ((c.tc : Thread Cert.LoKernelIdeal.nD Cert.LoKernelIdeal.τ).loc Cert.LoKernelIdeal.main_v3_1)) (v2 : (c : Dev Cert.LoKernelIdeal.nD) → Buf (Elt Ideal) ((c.tc : Thread Cert.LoKernelIdeal.nD Cert.LoKernelIdeal.τ).loc Cert.LoKernelIdeal.main_v3_2)) (v3 : (c : Dev Cert.LoKernelIdeal.nD) → Buf (Elt Ideal) ((c.tc : Thread Cert.LoKernelIdeal.nD Cert.LoKernelIdeal.τ).loc Cert.LoKernelIdeal.main_v3_3)) (v4 : (c : Dev Cert.LoKernelIdeal.nD) → Buf (Elt Ideal) ((c.tc : Thread Cert.LoKernelIdeal.nD Cert.LoKernelIdeal.τ).loc Cert.LoKernelIdeal.main_v3_4)),
      θ_run (Cert.LoKernelIdeal.defs (F := Ideal)) (onTc (τ := Cert.LoKernelIdeal.τ) (Cert.LoKernelIdeal.main (F := Ideal))) ⟨m, fun _ => 0, g⟩ (fun r => ∀ c : Dev Cert.LoKernelIdeal.nD,
          r.2.mem ((c.tc : Thread Cert.LoKernelIdeal.nD Cert.LoKernelIdeal.τ).loc Cert.LoKernelIdeal.main_v3_0) = v0 c
          ∧ r.2.mem ((c.tc : Thread Cert.LoKernelIdeal.nD Cert.LoKernelIdeal.τ).loc Cert.LoKernelIdeal.main_v3_1) = v1 c
          ∧ r.2.mem ((c.tc : Thread Cert.LoKernelIdeal.nD Cert.LoKernelIdeal.τ).loc Cert.LoKernelIdeal.main_v3_2) = v2 c
          ∧ r.2.mem ((c.tc : Thread Cert.LoKernelIdeal.nD Cert.LoKernelIdeal.τ).loc Cert.LoKernelIdeal.main_v3_3) = v3 c
          ∧ r.2.mem ((c.tc : Thread Cert.LoKernelIdeal.nD Cert.LoKernelIdeal.τ).loc Cert.LoKernelIdeal.main_v3_4) = v4 c
          ∧ r.2.mem ((c.tc : Thread Cert.LoKernelIdeal.nD Cert.LoKernelIdeal.τ).loc Cert.LoKernelIdeal.main_arg0) = m ((c.tc : Thread Cert.LoKernelIdeal.nD Cert.LoKernelIdeal.τ).loc Cert.LoKernelIdeal.main_arg0)
          ∧ r.2.mem ((c.tc : Thread Cert.LoKernelIdeal.nD Cert.LoKernelIdeal.τ).loc Cert.LoKernelIdeal.main_arg1) = m ((c.tc : Thread Cert.LoKernelIdeal.nD Cert.LoKernelIdeal.τ).loc Cert.LoKernelIdeal.main_arg1)
          ∧ r.2.mem ((c.tc : Thread Cert.LoKernelIdeal.nD Cert.LoKernelIdeal.τ).loc Cert.LoKernelIdeal.main_arg2) = m ((c.tc : Thread Cert.LoKernelIdeal.nD Cert.LoKernelIdeal.τ).loc Cert.LoKernelIdeal.main_arg2)
          ∧ r.2.mem ((c.tc : Thread Cert.LoKernelIdeal.nD Cert.LoKernelIdeal.τ).loc Cert.LoKernelIdeal.main_arg3) = m ((c.tc : Thread Cert.LoKernelIdeal.nD Cert.LoKernelIdeal.τ).loc Cert.LoKernelIdeal.main_arg3)
          ∧ r.2.mem ((c.tc : Thread Cert.LoKernelIdeal.nD Cert.LoKernelIdeal.τ).loc Cert.LoKernelIdeal.main_arg4) = m ((c.tc : Thread Cert.LoKernelIdeal.nD Cert.LoKernelIdeal.τ).loc Cert.LoKernelIdeal.main_arg4)
          ∧ r.2.mem ((c.tc : Thread Cert.LoKernelIdeal.nD Cert.LoKernelIdeal.τ).loc Cert.LoKernelIdeal.main_arg5) = m ((c.tc : Thread Cert.LoKernelIdeal.nD Cert.LoKernelIdeal.τ).loc Cert.LoKernelIdeal.main_arg5))
      ∧ θ_run (Cert.LoReferenceIdeal.defs (F := Ideal)) (onTc (τ := Cert.LoReferenceIdeal.τ) (Cert.LoReferenceIdeal.main (F := Ideal))) ⟨m', fun _ => 0, g'⟩ (fun r => ∀ c : Dev Cert.LoReferenceIdeal.nD,
          r.2.mem ((c.tc : Thread Cert.LoReferenceIdeal.nD Cert.LoReferenceIdeal.τ).loc Cert.LoReferenceIdeal.main_v80) = v0 c
          ∧ r.2.mem ((c.tc : Thread Cert.LoReferenceIdeal.nD Cert.LoReferenceIdeal.τ).loc Cert.LoReferenceIdeal.main_v81) = v1 c
          ∧ r.2.mem ((c.tc : Thread Cert.LoReferenceIdeal.nD Cert.LoReferenceIdeal.τ).loc Cert.LoReferenceIdeal.main_v41) = v2 c
          ∧ r.2.mem ((c.tc : Thread Cert.LoReferenceIdeal.nD Cert.LoReferenceIdeal.τ).loc Cert.LoReferenceIdeal.main_v54) = v3 c
          ∧ r.2.mem ((c.tc : Thread Cert.LoReferenceIdeal.nD Cert.LoReferenceIdeal.τ).loc Cert.LoReferenceIdeal.main_v51) = v4 c
          ∧ r.2.mem ((c.tc : Thread Cert.LoReferenceIdeal.nD Cert.LoReferenceIdeal.τ).loc Cert.LoReferenceIdeal.main_arg0) = m' ((c.tc : Thread Cert.LoReferenceIdeal.nD Cert.LoReferenceIdeal.τ).loc Cert.LoReferenceIdeal.main_arg0)
          ∧ r.2.mem ((c.tc : Thread Cert.LoReferenceIdeal.nD Cert.LoReferenceIdeal.τ).loc Cert.LoReferenceIdeal.main_arg1) = m' ((c.tc : Thread Cert.LoReferenceIdeal.nD Cert.LoReferenceIdeal.τ).loc Cert.LoReferenceIdeal.main_arg1)
          ∧ r.2.mem ((c.tc : Thread Cert.LoReferenceIdeal.nD Cert.LoReferenceIdeal.τ).loc Cert.LoReferenceIdeal.main_arg2) = m' ((c.tc : Thread Cert.LoReferenceIdeal.nD Cert.LoReferenceIdeal.τ).loc Cert.LoReferenceIdeal.main_arg2)
          ∧ r.2.mem ((c.tc : Thread Cert.LoReferenceIdeal.nD Cert.LoReferenceIdeal.τ).loc Cert.LoReferenceIdeal.main_arg3) = m' ((c.tc : Thread Cert.LoReferenceIdeal.nD Cert.LoReferenceIdeal.τ).loc Cert.LoReferenceIdeal.main_arg3)
          ∧ r.2.mem ((c.tc : Thread Cert.LoReferenceIdeal.nD Cert.LoReferenceIdeal.τ).loc Cert.LoReferenceIdeal.main_arg4) = m' ((c.tc : Thread Cert.LoReferenceIdeal.nD Cert.LoReferenceIdeal.τ).loc Cert.LoReferenceIdeal.main_arg4)
          ∧ r.2.mem ((c.tc : Thread Cert.LoReferenceIdeal.nD Cert.LoReferenceIdeal.τ).loc Cert.LoReferenceIdeal.main_arg5) = m' ((c.tc : Thread Cert.LoReferenceIdeal.nD Cert.LoReferenceIdeal.τ).loc Cert.LoReferenceIdeal.main_arg5))

def preserves_LnKernel_LnKernelIdeal : Prop :=
  True

def algebraic_LnKernelIdeal_LnReferenceIdeal_pre_ln_finite [hLnKernelIdeal : Cert.LnKernelIdeal.Facts] [hLnReferenceIdeal : Cert.LnReferenceIdeal.Facts] [hPre_ln_finite : Cert.Pre_ln_finite.Facts] : Prop :=
  ∀ (m : (ℓ : Loc Cert.LnKernelIdeal.nD Cert.LnKernelIdeal.τ Cert.LnKernelIdeal.sig) → Buf (Elt Ideal) ℓ) (g : Dev Cert.LnKernelIdeal.nD → PrngReg)
    (m' : (ℓ : Loc Cert.LnReferenceIdeal.nD Cert.LnReferenceIdeal.τ Cert.LnReferenceIdeal.sig) → Buf (Elt Ideal) ℓ) (g' : Dev Cert.LnReferenceIdeal.nD → PrngReg), Pre_LnKernelIdeal_ln_finite m →
    (∀ c : Dev Cert.LnKernelIdeal.nD,
      m' ((c.tc : Thread Cert.LnReferenceIdeal.nD Cert.LnReferenceIdeal.τ).loc Cert.LnReferenceIdeal.main_arg0) = m ((c.tc : Thread Cert.LnKernelIdeal.nD Cert.LnKernelIdeal.τ).loc Cert.LnKernelIdeal.main_arg0)
      ∧ m' ((c.tc : Thread Cert.LnReferenceIdeal.nD Cert.LnReferenceIdeal.τ).loc Cert.LnReferenceIdeal.main_arg1) = m ((c.tc : Thread Cert.LnKernelIdeal.nD Cert.LnKernelIdeal.τ).loc Cert.LnKernelIdeal.main_arg1)
      ∧ m' ((c.tc : Thread Cert.LnReferenceIdeal.nD Cert.LnReferenceIdeal.τ).loc Cert.LnReferenceIdeal.main_arg2) = m ((c.tc : Thread Cert.LnKernelIdeal.nD Cert.LnKernelIdeal.τ).loc Cert.LnKernelIdeal.main_arg2)
      ∧ m' ((c.tc : Thread Cert.LnReferenceIdeal.nD Cert.LnReferenceIdeal.τ).loc Cert.LnReferenceIdeal.main_arg3) = m ((c.tc : Thread Cert.LnKernelIdeal.nD Cert.LnKernelIdeal.τ).loc Cert.LnKernelIdeal.main_arg3)
      ∧ m' ((c.tc : Thread Cert.LnReferenceIdeal.nD Cert.LnReferenceIdeal.τ).loc Cert.LnReferenceIdeal.main_arg4) = m ((c.tc : Thread Cert.LnKernelIdeal.nD Cert.LnKernelIdeal.τ).loc Cert.LnKernelIdeal.main_arg4)
      ∧ m' ((c.tc : Thread Cert.LnReferenceIdeal.nD Cert.LnReferenceIdeal.τ).loc Cert.LnReferenceIdeal.main_arg5) = m ((c.tc : Thread Cert.LnKernelIdeal.nD Cert.LnKernelIdeal.τ).loc Cert.LnKernelIdeal.main_arg5)
      ∧ m' ((c.tc : Thread Cert.LnReferenceIdeal.nD Cert.LnReferenceIdeal.τ).loc Cert.LnReferenceIdeal.main_arg6) = m ((c.tc : Thread Cert.LnKernelIdeal.nD Cert.LnKernelIdeal.τ).loc Cert.LnKernelIdeal.main_arg6)) →
    ∃ (v0 : (c : Dev Cert.LnKernelIdeal.nD) → Buf (Elt Ideal) ((c.tc : Thread Cert.LnKernelIdeal.nD Cert.LnKernelIdeal.τ).loc Cert.LnKernelIdeal.main_v11_0)) (v1 : (c : Dev Cert.LnKernelIdeal.nD) → Buf (Elt Ideal) ((c.tc : Thread Cert.LnKernelIdeal.nD Cert.LnKernelIdeal.τ).loc Cert.LnKernelIdeal.main_v11_1)) (v2 : (c : Dev Cert.LnKernelIdeal.nD) → Buf (Elt Ideal) ((c.tc : Thread Cert.LnKernelIdeal.nD Cert.LnKernelIdeal.τ).loc Cert.LnKernelIdeal.main_v11_2)) (v3 : (c : Dev Cert.LnKernelIdeal.nD) → Buf (Elt Ideal) ((c.tc : Thread Cert.LnKernelIdeal.nD Cert.LnKernelIdeal.τ).loc Cert.LnKernelIdeal.main_v11_3)),
      θ_run (Cert.LnKernelIdeal.defs (F := Ideal)) (onTc (τ := Cert.LnKernelIdeal.τ) (Cert.LnKernelIdeal.main (F := Ideal))) ⟨m, fun _ => 0, g⟩ (fun r => ∀ c : Dev Cert.LnKernelIdeal.nD,
          r.2.mem ((c.tc : Thread Cert.LnKernelIdeal.nD Cert.LnKernelIdeal.τ).loc Cert.LnKernelIdeal.main_v11_0) = v0 c
          ∧ r.2.mem ((c.tc : Thread Cert.LnKernelIdeal.nD Cert.LnKernelIdeal.τ).loc Cert.LnKernelIdeal.main_v11_1) = v1 c
          ∧ r.2.mem ((c.tc : Thread Cert.LnKernelIdeal.nD Cert.LnKernelIdeal.τ).loc Cert.LnKernelIdeal.main_v11_2) = v2 c
          ∧ r.2.mem ((c.tc : Thread Cert.LnKernelIdeal.nD Cert.LnKernelIdeal.τ).loc Cert.LnKernelIdeal.main_v11_3) = v3 c
          ∧ r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
          ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
          ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
          ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3)
          ∧ r.2.mem ((c.tc : Thread Cert.LnKernelIdeal.nD Cert.LnKernelIdeal.τ).loc Cert.LnKernelIdeal.main_arg4) = m ((c.tc : Thread Cert.LnKernelIdeal.nD Cert.LnKernelIdeal.τ).loc Cert.LnKernelIdeal.main_arg4)
          ∧ r.2.mem ((c.tc : Thread Cert.LnKernelIdeal.nD Cert.LnKernelIdeal.τ).loc Cert.LnKernelIdeal.main_arg5) = m ((c.tc : Thread Cert.LnKernelIdeal.nD Cert.LnKernelIdeal.τ).loc Cert.LnKernelIdeal.main_arg5)
          ∧ r.2.mem ((c.tc : Thread Cert.LnKernelIdeal.nD Cert.LnKernelIdeal.τ).loc Cert.LnKernelIdeal.main_arg6) = m ((c.tc : Thread Cert.LnKernelIdeal.nD Cert.LnKernelIdeal.τ).loc Cert.LnKernelIdeal.main_arg6))
      ∧ θ_run (Cert.LnReferenceIdeal.defs (F := Ideal)) (onTc (τ := Cert.LnReferenceIdeal.τ) (Cert.LnReferenceIdeal.main (F := Ideal))) ⟨m', fun _ => 0, g'⟩ (fun r => ∀ c : Dev Cert.LnReferenceIdeal.nD,
          r.2.mem ((c.tc : Thread Cert.LnReferenceIdeal.nD Cert.LnReferenceIdeal.τ).loc Cert.LnReferenceIdeal.main_v71) = v0 c
          ∧ r.2.mem ((c.tc : Thread Cert.LnReferenceIdeal.nD Cert.LnReferenceIdeal.τ).loc Cert.LnReferenceIdeal.main_v72) = v1 c
          ∧ r.2.mem ((c.tc : Thread Cert.LnReferenceIdeal.nD Cert.LnReferenceIdeal.τ).loc Cert.LnReferenceIdeal.main_v45) = v2 c
          ∧ r.2.mem ((c.tc : Thread Cert.LnReferenceIdeal.nD Cert.LnReferenceIdeal.τ).loc Cert.LnReferenceIdeal.main_v42) = v3 c
          ∧ r.2.mem ((c.tc : Thread Cert.LnReferenceIdeal.nD Cert.LnReferenceIdeal.τ).loc Cert.LnReferenceIdeal.main_arg0) = m' ((c.tc : Thread Cert.LnReferenceIdeal.nD Cert.LnReferenceIdeal.τ).loc Cert.LnReferenceIdeal.main_arg0)
          ∧ r.2.mem ((c.tc : Thread Cert.LnReferenceIdeal.nD Cert.LnReferenceIdeal.τ).loc Cert.LnReferenceIdeal.main_arg1) = m' ((c.tc : Thread Cert.LnReferenceIdeal.nD Cert.LnReferenceIdeal.τ).loc Cert.LnReferenceIdeal.main_arg1)
          ∧ r.2.mem ((c.tc : Thread Cert.LnReferenceIdeal.nD Cert.LnReferenceIdeal.τ).loc Cert.LnReferenceIdeal.main_arg2) = m' ((c.tc : Thread Cert.LnReferenceIdeal.nD Cert.LnReferenceIdeal.τ).loc Cert.LnReferenceIdeal.main_arg2)
          ∧ r.2.mem ((c.tc : Thread Cert.LnReferenceIdeal.nD Cert.LnReferenceIdeal.τ).loc Cert.LnReferenceIdeal.main_arg3) = m' ((c.tc : Thread Cert.LnReferenceIdeal.nD Cert.LnReferenceIdeal.τ).loc Cert.LnReferenceIdeal.main_arg3)
          ∧ r.2.mem ((c.tc : Thread Cert.LnReferenceIdeal.nD Cert.LnReferenceIdeal.τ).loc Cert.LnReferenceIdeal.main_arg4) = m' ((c.tc : Thread Cert.LnReferenceIdeal.nD Cert.LnReferenceIdeal.τ).loc Cert.LnReferenceIdeal.main_arg4)
          ∧ r.2.mem ((c.tc : Thread Cert.LnReferenceIdeal.nD Cert.LnReferenceIdeal.τ).loc Cert.LnReferenceIdeal.main_arg5) = m' ((c.tc : Thread Cert.LnReferenceIdeal.nD Cert.LnReferenceIdeal.τ).loc Cert.LnReferenceIdeal.main_arg5)
          ∧ r.2.mem ((c.tc : Thread Cert.LnReferenceIdeal.nD Cert.LnReferenceIdeal.τ).loc Cert.LnReferenceIdeal.main_arg6) = m' ((c.tc : Thread Cert.LnReferenceIdeal.nD Cert.LnReferenceIdeal.τ).loc Cert.LnReferenceIdeal.main_arg6))

def preserves_RgKernel_RgKernelIdeal : Prop :=
  True

def Claim : Prop :=
  ∃ (hGateKernel : Cert.GateKernel.Facts) (hGateKernelIdeal : Cert.GateKernelIdeal.Facts) (hGateReferenceIdeal : Cert.GateReferenceIdeal.Facts) (hGateOneKernel : Cert.GateOneKernel.Facts) (hGateOneKernelIdeal : Cert.GateOneKernelIdeal.Facts) (hGateOneReferenceIdeal : Cert.GateOneReferenceIdeal.Facts) (hGateAKernel : Cert.GateAKernel.Facts) (hGateAKernelIdeal : Cert.GateAKernelIdeal.Facts) (hGateAReferenceIdeal : Cert.GateAReferenceIdeal.Facts) (hSbKernelIdeal : Cert.SbKernelIdeal.Facts) (hSbReferenceIdeal : Cert.SbReferenceIdeal.Facts) (hSwaKernelIdeal : Cert.SwaKernelIdeal.Facts) (hSwaReferenceIdeal : Cert.SwaReferenceIdeal.Facts) (hLoKernel : Cert.LoKernel.Facts) (hLoKernelIdeal : Cert.LoKernelIdeal.Facts) (hLoReferenceIdeal : Cert.LoReferenceIdeal.Facts) (hLnKernel : Cert.LnKernel.Facts) (hLnKernelIdeal : Cert.LnKernelIdeal.Facts) (hLnReferenceIdeal : Cert.LnReferenceIdeal.Facts) (hRgKernel : Cert.RgKernel.Facts) (hRgKernelIdeal : Cert.RgKernelIdeal.Facts) (hPre_gate_finite : Cert.Pre_gate_finite.Facts) (hPre_gate1_finite : Cert.Pre_gate1_finite.Facts) (hPre_gatea_finite : Cert.Pre_gatea_finite.Facts) (hPre_sb_finite : Cert.Pre_sb_finite.Facts) (hPre_swa_finite : Cert.Pre_swa_finite.Facts) (hPre_lo_finite : Cert.Pre_lo_finite.Facts) (hPre_ln_finite : Cert.Pre_ln_finite.Facts),
    quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_GateOneKernel (hGateOneKernel := hGateOneKernel)
    ∧ quiescent_GateOneKernelIdeal (hGateOneKernelIdeal := hGateOneKernelIdeal)
    ∧ quiescent_GateOneKernelIdeal_pre_gate1_finite (hGateOneKernelIdeal := hGateOneKernelIdeal) (hPre_gate1_finite := hPre_gate1_finite)
    ∧ quiescent_GateOneReferenceIdeal (hGateOneReferenceIdeal := hGateOneReferenceIdeal)
    ∧ quiescent_GateOneReferenceIdeal_pre_gate1_finite (hGateOneReferenceIdeal := hGateOneReferenceIdeal) (hPre_gate1_finite := hPre_gate1_finite)
    ∧ quiescent_GateAKernel (hGateAKernel := hGateAKernel)
    ∧ quiescent_GateAKernelIdeal (hGateAKernelIdeal := hGateAKernelIdeal)
    ∧ quiescent_GateAKernelIdeal_pre_gatea_finite (hGateAKernelIdeal := hGateAKernelIdeal) (hPre_gatea_finite := hPre_gatea_finite)
    ∧ quiescent_GateAReferenceIdeal (hGateAReferenceIdeal := hGateAReferenceIdeal)
    ∧ quiescent_GateAReferenceIdeal_pre_gatea_finite (hGateAReferenceIdeal := hGateAReferenceIdeal) (hPre_gatea_finite := hPre_gatea_finite)
    ∧ quiescent_SbKernelIdeal (hSbKernelIdeal := hSbKernelIdeal)
    ∧ quiescent_SbKernelIdeal_pre_sb_finite (hSbKernelIdeal := hSbKernelIdeal) (hPre_sb_finite := hPre_sb_finite)
    ∧ quiescent_SbReferenceIdeal (hSbReferenceIdeal := hSbReferenceIdeal)
    ∧ quiescent_SbReferenceIdeal_pre_sb_finite (hSbReferenceIdeal := hSbReferenceIdeal) (hPre_sb_finite := hPre_sb_finite)
    ∧ quiescent_SwaKernelIdeal (hSwaKernelIdeal := hSwaKernelIdeal)
    ∧ quiescent_SwaKernelIdeal_pre_swa_finite (hSwaKernelIdeal := hSwaKernelIdeal) (hPre_swa_finite := hPre_swa_finite)
    ∧ quiescent_SwaReferenceIdeal (hSwaReferenceIdeal := hSwaReferenceIdeal)
    ∧ quiescent_SwaReferenceIdeal_pre_swa_finite (hSwaReferenceIdeal := hSwaReferenceIdeal) (hPre_swa_finite := hPre_swa_finite)
    ∧ quiescent_LoKernel (hLoKernel := hLoKernel)
    ∧ quiescent_LoKernelIdeal (hLoKernelIdeal := hLoKernelIdeal)
    ∧ quiescent_LoKernelIdeal_pre_lo_finite (hLoKernelIdeal := hLoKernelIdeal) (hPre_lo_finite := hPre_lo_finite)
    ∧ quiescent_LoReferenceIdeal (hLoReferenceIdeal := hLoReferenceIdeal)
    ∧ quiescent_LoReferenceIdeal_pre_lo_finite (hLoReferenceIdeal := hLoReferenceIdeal) (hPre_lo_finite := hPre_lo_finite)
    ∧ quiescent_LnKernel (hLnKernel := hLnKernel)
    ∧ quiescent_LnKernelIdeal (hLnKernelIdeal := hLnKernelIdeal)
    ∧ quiescent_LnKernelIdeal_pre_ln_finite (hLnKernelIdeal := hLnKernelIdeal) (hPre_ln_finite := hPre_ln_finite)
    ∧ quiescent_LnReferenceIdeal (hLnReferenceIdeal := hLnReferenceIdeal)
    ∧ quiescent_LnReferenceIdeal_pre_ln_finite (hLnReferenceIdeal := hLnReferenceIdeal) (hPre_ln_finite := hPre_ln_finite)
    ∧ quiescent_RgKernel (hRgKernel := hRgKernel)
    ∧ quiescent_RgKernelIdeal (hRgKernelIdeal := hRgKernelIdeal)
    ∧ preserves_GateKernel_GateKernelIdeal
    ∧ algebraic_GateKernelIdeal_GateReferenceIdeal_pre_gate_finite (hGateKernelIdeal := hGateKernelIdeal) (hGateReferenceIdeal := hGateReferenceIdeal) (hPre_gate_finite := hPre_gate_finite)
    ∧ preserves_GateOneKernel_GateOneKernelIdeal
    ∧ algebraic_GateOneKernelIdeal_GateOneReferenceIdeal_pre_gate1_finite (hGateOneKernelIdeal := hGateOneKernelIdeal) (hGateOneReferenceIdeal := hGateOneReferenceIdeal) (hPre_gate1_finite := hPre_gate1_finite)
    ∧ preserves_GateAKernel_GateAKernelIdeal
    ∧ algebraic_GateAKernelIdeal_GateAReferenceIdeal_pre_gatea_finite (hGateAKernelIdeal := hGateAKernelIdeal) (hGateAReferenceIdeal := hGateAReferenceIdeal) (hPre_gatea_finite := hPre_gatea_finite)
    ∧ algebraic_SbKernelIdeal_SbReferenceIdeal_pre_sb_finite (hSbKernelIdeal := hSbKernelIdeal) (hSbReferenceIdeal := hSbReferenceIdeal) (hPre_sb_finite := hPre_sb_finite)
    ∧ algebraic_SwaKernelIdeal_SwaReferenceIdeal_pre_swa_finite (hSwaKernelIdeal := hSwaKernelIdeal) (hSwaReferenceIdeal := hSwaReferenceIdeal) (hPre_swa_finite := hPre_swa_finite)
    ∧ preserves_LoKernel_LoKernelIdeal
    ∧ algebraic_LoKernelIdeal_LoReferenceIdeal_pre_lo_finite (hLoKernelIdeal := hLoKernelIdeal) (hLoReferenceIdeal := hLoReferenceIdeal) (hPre_lo_finite := hPre_lo_finite)
    ∧ preserves_LnKernel_LnKernelIdeal
    ∧ algebraic_LnKernelIdeal_LnReferenceIdeal_pre_ln_finite (hLnKernelIdeal := hLnKernelIdeal) (hLnReferenceIdeal := hLnReferenceIdeal) (hPre_ln_finite := hPre_ln_finite)
    ∧ preserves_RgKernel_RgKernelIdeal
-- ==== Pre_gate1_finite.lean ====
abbrev S8192x1024 : Shape := ⟨2, ![8192, 1024]⟩
abbrev S1x1024x1024 : Shape := ⟨3, ![1, 1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn {F : FTy → Type} [FloatOps F] (main_arg0 : FVec F S8192x1024 .f32) (main_arg1 : FVec F S1x1024x1024 .f32) (main_arg2 : FVec F S8192x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_gate_finite.lean ====
abbrev S8192x1024 : Shape := ⟨2, ![8192, 1024]⟩
abbrev S1x2048x1024 : Shape := ⟨3, ![1, 2048, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x2048x1024 : S_.BroadcastsInDim S1x2048x1024 (![] : Fin 0 → Fin S1x2048x1024.rank)
  reducesTo_S1x2048x1024_S_d0_1_2 : S1x2048x1024.ReducesTo [0, 1, 2] S_

variable [Facts]

def fn {F : FTy → Type} [FloatOps F] (main_arg0 : FVec F S8192x1024 .f32) (main_arg1 : FVec F S1x2048x1024 .f32) (main_arg2 : FVec F S8192x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x2048x1024 .f32 := Host.absf main_arg1
  let main_cst_0 : FVec F S_ .f32 := constant S_ .f32 0x7F800000#32
  let main_v5 : FVec F S1x2048x1024 .f32 := broadcastInDim S1x2048x1024 ![] bcast_S_S1x2048x1024 main_cst_0
  let main_v6 : IVec S1x2048x1024 1 := cmpf .olt main_v4 main_v5
  let main_c_1 : IVec S_ 1 := constantI S_ 1 1#1
  let main_v7 : IVec S_ 1 := (fun x v => Host.reduce IntOp.andi x v reducesTo_S1x2048x1024_S_d0_1_2 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_gatea_finite.lean ====
abbrev S8192x1024 : Shape := ⟨2, ![8192, 1024]⟩
abbrev S1x2048x1024 : Shape := ⟨3, ![1, 2048, 1024]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x2048x1024 : S_.BroadcastsInDim S1x2048x1024 (![] : Fin 0 → Fin S1x2048x1024.rank)
  reducesTo_S1x2048x1024_S_d0_1_2 : S1x2048x1024.ReducesTo [0, 1, 2] S_

variable [Facts]

def fn {F : FTy → Type} [FloatOps F] (main_arg0 : FVec F S8192x1024 .f32) (main_arg1 : FVec F S1x2048x1024 .f32) (main_arg2 : FVec F S8192x1024 .f32) (main_arg3 : FVec F S8192x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x2048x1024 .f32 := Host.absf main_arg1
  let main_cst_0 : FVec F S_ .f32 := constant S_ .f32 0x7F800000#32
  let main_v5 : FVec F S1x2048x1024 .f32 := broadcastInDim S1x2048x1024 ![] bcast_S_S1x2048x1024 main_cst_0
  let main_v6 : IVec S1x2048x1024 1 := cmpf .olt main_v4 main_v5
  let main_c_1 : IVec S_ 1 := constantI S_ 1 1#1
  let main_v7 : IVec S_ 1 := (fun x v => Host.reduce IntOp.andi x v reducesTo_S1x2048x1024_S_d0_1_2 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_ln_finite.lean ====
abbrev S8192x2304 : Shape := ⟨2, ![8192, 2304]⟩
abbrev S1x1024x2304 : Shape := ⟨3, ![1, 1024, 2304]⟩
abbrev S8192x1024 : Shape := ⟨2, ![8192, 1024]⟩
abbrev S8192x2048 : Shape := ⟨2, ![8192, 2048]⟩
abbrev S1x2048x1024 : Shape := ⟨3, ![1, 2048, 1024]⟩
abbrev S1x1024 : Shape := ⟨2, ![1, 1024]⟩
abbrev S_ : Shape := ⟨0, ![]⟩

class Facts : Prop where
  bcast_S_S8192x2304 : S_.BroadcastsInDim S8192x2304 (![] : Fin 0 → Fin S8192x2304.rank)
  reducesTo_S8192x2304_S_d0_1 : S8192x2304.ReducesTo [0, 1] S_
  h_S_ : 0 < S_.numel
  bcast_S_S1x1024x2304 : S_.BroadcastsInDim S1x1024x2304 (![] : Fin 0 → Fin S1x1024x2304.rank)
  reducesTo_S1x1024x2304_S_d0_1_2 : S1x1024x2304.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x2048x1024 .f32) (main_arg5 : FVec F S8192x1024 .f32) (main_arg6 : FVec F S1x1024 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S1x2048x1024 .f32 := Host.absf main_arg4
  let main_cst_6 : FVec F S_ .f32 := constant S_ .f32 0x7F800000#32
  let main_v20 : FVec F S1x2048x1024 .f32 := broadcastInDim S1x2048x1024 ![] bcast_S_S1x2048x1024 main_cst_6
  let main_v21 : IVec S1x2048x1024 1 := cmpf .olt main_v19 main_v20
  let main_c_7 : IVec S_ 1 := constantI S_ 1 1#1
  let main_v22 : IVec S_ 1 := (fun x v => Host.reduce IntOp.andi x v reducesTo_S1x2048x1024_S_d0_1_2 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S8192x2304 .f32) (main_arg1 : FVec F S1x1024x2304 .f32) (main_arg2 : FVec F S8192x1024 .f32) (main_arg3 : FVec F S8192x2048 .f32) (main_arg4 : FVec F S1x2048x1024 .f32) (main_arg5 : FVec F S8192x1024 .f32) (main_arg6 : FVec F S1x1024 .f32) : IVec S_ 1 :=
  let main_v0 : FVec F S8192x2304 .f32 := Host.absf main_arg0
  let main_cst : FVec F S_ .f32 := constant S_ .f32 0x7F800000#32
  let main_v1 : FVec F S8192x2304 .f32 := broadcastInDim S8192x2304 ![] bcast_S_S8192x2304 main_cst
  let main_v2 : IVec S8192x2304 1 := cmpf .olt main_v0 main_v1
  let main_c : IVec S_ 1 := constantI S_ 1 1#1
  let main_v3 : IVec S_ 1 := (fun x v => Host.reduce IntOp.andi x v reducesTo_S8192x2304_S_d0_1 h_S_) main_v2 main_c
  let main_v4 : FVec F S1x1024x2304 .f32 := Host.absf main_arg1
  let main_cst_0 : FVec F S_ .f32 := constant S_ .f32 0x7F800000#32
  let main_v5 : FVec F S1x1024x2304 .f32 := broadcastInDim S1x1024x2304 ![] bcast_S_S1x1024x2304 main_cst_0
  let main_v6 : IVec S1x1024x2304 1 := cmpf .olt main_v4 main_v5
  let main_c_1 : IVec S_ 1 := constantI S_ 1 1#1
  let main_v7 : IVec S_ 1 := (fun x v => Host.reduce IntOp.andi x v reducesTo_S1x1024x2304_S_d0_1_2 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Pre_lo_finite.lean ====
abbrev S8192x1024 : Shape := ⟨2, ![8192, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S8192x1024 .f32) (main_arg1 : FVec F S1x1024x1024 .f32) (main_arg2 : FVec F S8192x1024 .f32) (main_arg3 : FVec F S8192x1024 .f32) (main_arg4 : FVec F S1x1024 .f32) (main_arg5 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024x1024 .f32 := Host.absf main_arg1
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_v13 main_v16
-- ==== Pre_sb_finite.lean ====
abbrev S8192x3072 : Shape := ⟨2, ![8192, 3072]⟩
abbrev S8192x1024 : Shape := ⟨2, ![8192, 1024]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x3072 .f32) (main_arg1 : FVec F S8192x1024 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Pre_swa_finite.lean ====
abbrev S8192x1024 : Shape := ⟨2, ![8192, 1024]⟩
abbrev S8192x256 : Shape := ⟨2, ![8192, 256]⟩
abbrev S1x16 : Shape := ⟨2, ![1, 16]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S8192x256 .f32) (main_arg2 : FVec F S1x16 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== GateKernel.lean ====
abbrev S8192x1024 : Shape := ⟨2, ![8192, 1024]⟩
abbrev S1x2048x1024 : Shape := ⟨3, ![1, 2048, 1024]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x2048x1024, .f32⟩
  | .hbm, ⟨2, _⟩ => ⟨S8192x1024, .f32⟩
  | .hbm, ⟨3, _⟩ => ⟨S8192x1024, .f32⟩
  | .hbm, ⟨4, _⟩ => ⟨S2048x1024, .f32⟩
  | .hbm, ⟨5, _⟩ => ⟨S2048x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateReferenceIdeal.lean ====
abbrev S8192x1024 : Shape := ⟨2, ![8192, 1024]⟩
abbrev S1x2048x1024 : Shape := ⟨3, ![1, 2048, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x2048x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024x1024, .f32⟩
  | .hbm, ⟨19, _⟩ => ⟨S1024x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== GateOneKernel.lean ====
abbrev S8192x1024 : Shape := ⟨2, ![8192, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateOneReferenceIdeal.lean ====
abbrev S8192x1024 : Shape := ⟨2, ![8192, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== GateAKernel.lean ====
abbrev S8192x1024 : Shape := ⟨2, ![8192, 1024]⟩
abbrev S1x2048x1024 : Shape := ⟨3, ![1, 2048, 1024]⟩
abbrev S8192x2048 : Shape := ⟨2, ![8192, 2048]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x2048x1024, .f32⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S2048x1024, .bf16⟩
  | .hbm, ⟨6, _⟩ => ⟨S8192x1024, .bf16⟩
  | .hbm, ⟨7, _⟩ => ⟨S8192x1024, .f32⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateAReferenceIdeal.lean ====
abbrev S8192x1024 : Shape := ⟨2, ![8192, 1024]⟩
abbrev S1x2048x1024 : Shape := ⟨3, ![1, 2048, 1024]⟩
abbrev S8192x2048 : Shape := ⟨2, ![8192, 2048]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x2048x1024, .f32⟩
  | .hbm, ⟨2, _⟩ => ⟨S8192x1024, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1x1024x1024, .f32⟩
  | .hbm, ⟨20, _⟩ => ⟨S1024x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== SbKernelIdeal.lean ====
abbrev S8192x3072 : Shape := ⟨2, ![8192, 3072]⟩
abbrev S8192x1024 : Shape := ⟨2, ![8192, 1024]⟩
abbrev S2048x128 : Shape := ⟨2, ![2048, 128]⟩
abbrev S8192x128 : Shape := ⟨2, ![8192, 128]⟩
abbrev S32x256x256 : Shape := ⟨3, ![32, 256, 256]⟩
abbrev S8x2x256x256 : Shape := ⟨4, ![8, 2, 256, 256]⟩
abbrev S256x256 : Shape := ⟨2, ![256, 256]⟩
abbrev S256x128 : Shape := ⟨2, ![256, 128]⟩
abbrev S256x1 : Shape := ⟨2, ![256, 1]⟩
abbrev S512x256 : Shape := ⟨2, ![512, 256]⟩
abbrev S1x1x256x256 : Shape := ⟨4, ![1, 1, 256, 256]⟩
abbrev S1x256x1 : Shape := ⟨3, ![1, 256, 1]⟩
abbrev S1 : Shape := ⟨1, ![1]⟩
abbrev S1x1x1 : Shape := ⟨3, ![1, 1, 1]⟩
abbrev S1x256x256 : Shape := ⟨3, ![1, 256, 256]⟩

abbrev nBuf : Space → Nat
  | .hbm => 7
  | .vmem => 20
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x3072, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S8192x128, .bf16⟩
  | .local _ .vmem, ⟨11, _⟩ => ⟨S8192x128, .bf16⟩
  | .local _ .vmem, ⟨12, _⟩ => ⟨S8192x128, .bf16⟩
  | .local _ .vmem, ⟨13, _⟩ => ⟨S8192x128, .bf16⟩
  | .local _ .vmem, ⟨14, _⟩ => ⟨S32x256x256, .f32⟩
  | .local _ .vmem, ⟨15, _⟩ => ⟨S32x256x256, .f32⟩
  | .local _ .vmem, ⟨16, _⟩ => ⟨S8x2x256x256, .f32⟩
  | .local _ .vmem, ⟨17, _⟩ => ⟨S8x2x256x256, .f32⟩
  | .local _ .vmem, ⟨18, _⟩ => ⟨S8192x128, .f32⟩
  | .local _ .vmem, ⟨19, _⟩ => ⟨S8192x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "dead" => some ⊥
  | _ => none

abbrev grid0 : Pipeline.Grid := ⟨2, ![8, 4], ![false, false]⟩

def k0_mult1 (i : grid0.Coords) : BitVec 32 :=
  let arg1 : BitVec 32 := BitVec.ofNat 32 (i 1).val
  let c8_i32 : BitVec 32 := 8#32
  let v16 : BitVec 32 := Scalar.muli arg1 c8_i32
  let c0_i32_4 : BitVec 32 := 0#32
  let v17 : BitVec 32 := Scalar.addi v16 c0_i32_4
  let c256_i32 : BitVec 32 := 256#32
  let v25 : BitVec 32 := Scalar.muli v17 c256_i32
  v25
def k0_off1 (i : grid0.Coords) (c0_i32_4 : BitVec 32) : Fin 2 → Nat :=
  let arg1 : BitVec 32 := BitVec.ofNat 32 (i 1).val
  let c8_i32 : BitVec 32 := 8#32
  let v16 : BitVec 32 := Scalar.muli arg1 c8_i32
  let v17 : BitVec 32 := Scalar.addi v16 c0_i32_4
  let c256_i32 : BitVec 32 := 256#32
  let v25 : BitVec 32 := Scalar.muli v17 c256_i32
  let v26 : BitVec 32 := v25
  let v27 : Index := Scalar.indexCast v26
  let c0_10 : Index := 0#32
  ![v27.toNat, 0]
def k0_mult2 (i : grid0.Coords) : BitVec 32 :=
  let arg1 : BitVec 32 := BitVec.ofNat 32 (i 1).val
  let c8_i32 : BitVec 32 := 8#32
  let v16 : BitVec 32 := Scalar.muli arg1 c8_i32
  let c0_i32_4 : BitVec 32 := 0#32
  let v17 : BitVec 32 := Scalar.addi v16 c0_i32_4
  let c1_i32 : BitVec 32 := 1#32
  let v22 : BitVec 32 := Scalar.subi v17 c1_i32
  let c0_i32_8 : BitVec 32 := 0#32
  let v23 : BitVec 32 := Scalar.maxsi v22 c0_i32_8
  let c256_i32_37 : BitVec 32 := 256#32
  let v92 : BitVec 32 := Scalar.muli v23 c256_i32_37
  v92
def k0_off2 (i : grid0.Coords) (c0_i32_4 : BitVec 32) : Fin 2 → Nat :=
  let arg1 : BitVec 32 := BitVec.ofNat 32 (i 1).val
  let c8_i32 : BitVec 32 := 8#32
  let v16 : BitVec 32 := Scalar.muli arg1 c8_i32
  let v17 : BitVec 32 := Scalar.addi v16 c0_i32_4
  let c1_i32 : BitVec 32 := 1#32
  let v22 : BitVec 32 := Scalar.subi v17 c1_i32
  let c0_i32_8 : BitVec 32 := 0#32
  let v23 : BitVec 32 := Scalar.maxsi v22 c0_i32_8
  let c256_i32_37 : BitVec 32 := 256#32
  let v92 : BitVec 32 := Scalar.muli v23 c256_i32_37
  let v93 : BitVec 32 := v92
  let v94 : Index := Scalar.indexCast v93
  let c0_38 : Index := 0#32
  ![v94.toNat, 0]
def k0_mult3 (i : grid0.Coords) : BitVec 32 :=
  let arg1 : BitVec 32 := BitVec.ofNat 32 (i 1).val
  let c8_i32_63 : BitVec 32 := 8#32
  let v158 : BitVec 32 := Scalar.muli arg1 c8_i32_63
  let c1_i32_64 : BitVec 32 := 1#32
  let v159 : BitVec 32 := Scalar.addi v158 c1_i32_64
  let c256_i32_71 : BitVec 32 := 256#32
  let v167 : BitVec 32 := Scalar.muli v159 c256_i32_71
  v167
def k0_mult4 (i : grid0.Coords) : BitVec 32 :=
  let arg1 : BitVec 32 := BitVec.ofNat 32 (i 1).val
  let c8_i32_63 : BitVec 32 := 8#32
  let v158 : BitVec 32 := Scalar.muli arg1 c8_i32_63
  let c1_i32_64 : BitVec 32 := 1#32
  let v159 : BitVec 32 := Scalar.addi v158 c1_i32_64
  let c1_i32_68 : BitVec 32 := 1#32
  let v164 : BitVec 32 := Scalar.subi v159 c1_i32_68
  let c0_i32_69 : BitVec 32 := 0#32
  let v165 : BitVec 32 := Scalar.maxsi v164 c0_i32_69
  let c256_i32_99 : BitVec 32 := 256#32
  let v234 : BitVec 32 := Scalar.muli v165 c256_i32_99
  v234
def k0_mult5 (i : grid0.Coords) : BitVec 32 :=
  let arg1 : BitVec 32 := BitVec.ofNat 32 (i 1).val
  let c8_i32_126 : BitVec 32 := 8#32
  let v300 : BitVec 32 := Scalar.muli arg1 c8_i32_126
  let c2_i32 : BitVec 32 := 2#32
  let v301 : BitVec 32 := Scalar.addi v300 c2_i32
  let c256_i32_133 : BitVec 32 := 256#32
  let v309 : BitVec 32 := Scalar.muli v301 c256_i32_133
  v309
def k0_mult6 (i : grid0.Coords) : BitVec 32 :=
  let arg1 : BitVec 32 := BitVec.ofNat 32 (i 1).val
  let c8_i32_126 : BitVec 32 := 8#32
  let v300 : BitVec 32 := Scalar.muli arg1 c8_i32_126
  let c2_i32 : BitVec 32 := 2#32
  let v301 : BitVec 32 := Scalar.addi v300 c2_i32
  let c1_i32_130 : BitVec 32 := 1#32
  let v306 : BitVec 32 := Scalar.subi v301 c1_i32_130
  let c0_i32_131 : BitVec 32 := 0#32
  let v307 : BitVec 32 := Scalar.maxsi v306 c0_i32_131
  let c256_i32_160 : BitVec 32 := 256#32
  let v376 : BitVec 32 := Scalar.muli v307 c256_i32_160
  v376
def k0_mult7 (i : grid0.Coords) : BitVec 32 :=
  let arg1 : BitVec 32 := BitVec.ofNat 32 (i 1).val
  let c8_i32_187 : BitVec 32 := 8#32
  let v442 : BitVec 32 := Scalar.muli arg1 c8_i32_187
  let c3_i32 : BitVec 32 := 3#32
  let v443 : BitVec 32 := Scalar.addi v442 c3_i32
  let c256_i32_194 : BitVec 32 := 256#32
  let v451 : BitVec 32 := Scalar.muli v443 c256_i32_194
  v451
def k0_mult8 (i : grid0.Coords) : BitVec 32 :=
  let arg1 : BitVec 32 := BitVec.ofNat 32 (i 1).val
  let c8_i32_187 : BitVec 32 := 8#32
  let v442 : BitVec 32 := Scalar.muli arg1 c8_i32_187
  let c3_i32 : BitVec 32 := 3#32
  let v443 : BitVec 32 := Scalar.addi v442 c3_i32
  let c1_i32_191 : BitVec 32 := 1#32
  let v448 : BitVec 32 := Scalar.subi v443 c1_i32_191
  let c0_i32_192 : BitVec 32 := 0#32
  let v449 : BitVec 32 := Scalar.maxsi v448 c0_i32_192
  let c256_i32_221 : BitVec 32 := 256#32
  let v518 : BitVec 32 := Scalar.muli v449 c256_i32_221
  v518
def k0_mult9 (i : grid0.Coords) : BitVec 32 :=
  let arg1 : BitVec 32 := BitVec.ofNat 32 (i 1).val
  let c8_i32_248 : BitVec 32 := 8#32
  let v584 : BitVec 32 := Scalar.muli arg1 c8_i32_248
  let c4_i32 : BitVec 32 := 4#32
  let v585 : BitVec 32 := Scalar.addi v584 c4_i32
  let c256_i32_255 : BitVec 32 := 256#32
  let v593 : BitVec 32 := Scalar.muli v585 c256_i32_255
  v593
def k0_mult10 (i : grid0.Coords) : BitVec 32 :=
  let arg1 : BitVec 32 := BitVec.ofNat 32 (i 1).val
  let c8_i32_248 : BitVec 32 := 8#32
  let v584 : BitVec 32 := Scalar.muli arg1 c8_i32_248
  let c4_i32 : BitVec 32 := 4#32
  let v585 : BitVec 32 := Scalar.addi v584 c4_i32
  let c1_i32_252 : BitVec 32 := 1#32
  let v590 : BitVec 32 := Scalar.subi v585 c1_i32_252
  let c0_i32_253 : BitVec 32 := 0#32
  let v591 : BitVec 32 := Scalar.maxsi v590 c0_i32_253
  let c256_i32_282 : BitVec 32 := 256#32
  let v660 : BitVec 32 := Scalar.muli v591 c256_i32_282
  v660
def k0_mult11 (i : grid0.Coords) : BitVec 32 :=
  let arg1 : BitVec 32 := BitVec.ofNat 32 (i 1).val
  let c8_i32_309 : BitVec 32 := 8#32
  let v726 : BitVec 32 := Scalar.muli arg1 c8_i32_309
  let c5_i32 : BitVec 32 := 5#32
  let v727 : BitVec 32 := Scalar.addi v726 c5_i32
  let c256_i32_316 : BitVec 32 := 256#32
  let v735 : BitVec 32 := Scalar.muli v727 c256_i32_316
  v735
def k0_mult12 (i : grid0.Coords) : BitVec 32 :=
  let arg1 : BitVec 32 := BitVec.ofNat 32 (i 1).val
  let c8_i32_309 : BitVec 32 := 8#32
  let v726 : BitVec 32 := Scalar.muli arg1 c8_i32_309
  let c5_i32 : BitVec 32 := 5#32
  let v727 : BitVec 32 := Scalar.addi v726 c5_i32
  let c1_i32_313 : BitVec 32 := 1#32
  let v732 : BitVec 32 := Scalar.subi v727 c1_i32_313
  let c0_i32_314 : BitVec 32 := 0#32
  let v733 : BitVec 32 := Scalar.maxsi v732 c0_i32_314
  let c256_i32_343 : BitVec 32 := 256#32
  let v802 : BitVec 32 := Scalar.muli v733 c256_i32_343
  v802
def k0_mult13 (i : grid0.Coords) : BitVec 32 :=
  let arg1 : BitVec 32 := BitVec.ofNat 32 (i 1).val
  let c8_i32_370 : BitVec 32 := 8#32
  let v868 : BitVec 32 := Scalar.muli arg1 c8_i32_370
  let c6_i32 : BitVec 32 := 6#32
  let v869 : BitVec 32 := Scalar.addi v868 c6_i32
  let c256_i32_377 : BitVec 32 := 256#32
  let v877 : BitVec 32 := Scalar.muli v869 c256_i32_377
  v877
def k0_mult14 (i : grid0.Coords) : BitVec 32 :=
  let arg1 : BitVec 32 := BitVec.ofNat 32 (i 1).val
  let c8_i32_370 : BitVec 32 := 8#32
  let v868 : BitVec 32 := Scalar.muli arg1 c8_i32_370
  let c6_i32 : BitVec 32 := 6#32
  let v869 : BitVec 32 := Scalar.addi v868 c6_i32
  let c1_i32_374 : BitVec 32 := 1#32
  let v874 : BitVec 32 := Scalar.subi v869 c1_i32_374
  let c0_i32_375 : BitVec 32 := 0#32
  let v875 : BitVec 32 := Scalar.maxsi v874 c0_i32_375
  let c256_i32_404 : BitVec 32 := 256#32
  let v944 : BitVec 32 := Scalar.muli v875 c256_i32_404
  v944
def k0_mult15 (i : grid0.Coords) : BitVec 32 :=
  let arg1 : BitVec 32 := BitVec.ofNat 32 (i 1).val
  let c8_i32_431 : BitVec 32 := 8#32
  let v1010 : BitVec 32 := Scalar.muli arg1 c8_i32_431
  let c7_i32 : BitVec 32 := 7#32
  let v1011 : BitVec 32 := Scalar.addi v1010 c7_i32
  let c256_i32_438 : BitVec 32 := 256#32
  let v1019 : BitVec 32 := Scalar.muli v1011 c256_i32_438
  v1019
def k0_mult16 (i : grid0.Coords) : BitVec 32 :=
  let arg1 : BitVec 32 := BitVec.ofNat 32 (i 1).val
  let c8_i32_431 : BitVec 32 := 8#32
  let v1010 : BitVec 32 := Scalar.muli arg1 c8_i32_431
  let c7_i32 : BitVec 32 := 7#32
  let v1011 : BitVec 32 := Scalar.addi v1010 c7_i32
  let c1_i32_435 : BitVec 32 := 1#32
  let v1016 : BitVec 32 := Scalar.subi v1011 c1_i32_435
  let c0_i32_436 : BitVec 32 := 0#32
  let v1017 : BitVec 32 := Scalar.maxsi v1016 c0_i32_436
  let c256_i32_465 : BitVec 32 := 256#32
  let v1086 : BitVec 32 := Scalar.muli v1017 c256_i32_465
  v1086
def k0_mult17 (arg15 : BitVec 32) : BitVec 32 :=
  let c256_i32_886 : BitVec 32 := 256#32
  let v2003 : BitVec 32 := Scalar.muli arg15 c256_i32_886
  v2003

def k0_off3 (arg15 : BitVec 32) : Fin 2 → Nat :=
  let c256_i32_886 : BitVec 32 := 256#32
  let v2003 : BitVec 32 := Scalar.muli arg15 c256_i32_886
  let v2004 : BitVec 32 := v2003
  let v2005 : Index := Scalar.indexCast v2004
  let c0_887 : Index := 0#32
  ![v2005.toNat, 0]
def k0_off4 (arg15 : BitVec 32) : Fin 3 → Nat :=
  let v2043 : Index := Scalar.indexCast arg15
  let c0_897 : Index := 0#32
  let c0_898 : Index := 0#32
  ![v2043.toNat, 0, 0]

def k0_chk1 (arg15 : BitVec 32) : Prop :=
  (256 ∣ (k0_mult17 arg15).toNat) ∧
  (∀ a, (k0_off3 arg15) a + S256x128.size a ≤ S8192x128.size a) ∧
  (∀ a, (k0_off4 arg15) a + S1x256x256.size a ≤ S32x256x256.size a)
theorem k0_mult17_dvd : ∀ (arg15 : BitVec 32) (k0_hw1 : k0_chk1 arg15), 256 ∣ (k0_mult17 arg15).toNat := fun arg15 k0_hw1 => k0_hw1.1
theorem k0_off3_inb : ∀ (arg15 : BitVec 32) (k0_hw1 : k0_chk1 arg15), ∀ a, (k0_off3 arg15) a + S256x128.size a ≤ S8192x128.size a := fun arg15 k0_hw1 => k0_hw1.2.1
theorem k0_off4_inb : ∀ (arg15 : BitVec 32) (k0_hw1 : k0_chk1 arg15), ∀ a, (k0_off4 arg15) a + S1x256x256.size a ≤ S32x256x256.size a := fun arg15 k0_hw1 => k0_hw1.2.2

@[reducible] def k0_t1_loop (i : grid0.Coords) (v1159_0 : BitVec 32) : Scf.Loop 32 :=
  let c1_i32_495 : BitVec 32 := 1#32
  let v1160 : BitVec 32 := Scalar.addi v1159_0 c1_i32_495
  let arg1 : BitVec 32 := BitVec.ofNat 32 (i 1).val
  let c8_i32 : BitVec 32 := 8#32
  let v16 : BitVec 32 := Scalar.muli arg1 c8_i32
  let c0_i32_4 : BitVec 32 := 0#32
  let v17 : BitVec 32 := Scalar.addi v16 c0_i32_4
  let c1_i32_496 : BitVec 32 := 1#32
  let v1161 : BitVec 32 := Scalar.subi v17 c1_i32_496
  let v1164 : BitVec 32 := Scalar.subi v1161 v1160
  let c1_i32_499 : BitVec 32 := 1#32
  let v1166 : BitVec 32 := Scalar.divsi v1164 c1_i32_499
  let v1167 : BitVec 32 := Scalar.muli v1166 c1_i32_499
  let v1168 : BitVec 32 := Scalar.addi v1160 v1167
  let c1_i32_500 : BitVec 32 := 1#32
  ⟨v1160, v1168, c1_i32_500⟩

def k0_mult18 (i : grid0.Coords) (v1159_0 : BitVec 32) (k0_t1 : Fin (k0_t1_loop i v1159_0).trips) : BitVec 32 :=
  let c1_i32_495 : BitVec 32 := 1#32
  let v1160 : BitVec 32 := Scalar.addi v1159_0 c1_i32_495
  let c1_i32_500 : BitVec 32 := 1#32
  let arg15 : BitVec 32 := Scf.iv v1160 c1_i32_500 k0_t1
  let c256_i32_886 : BitVec 32 := 256#32
  let v2003 : BitVec 32 := Scalar.muli arg15 c256_i32_886
  v2003
def k0_off5 (i : grid0.Coords) (v1159_0 : BitVec 32) (k0_t1 : Fin (k0_t1_loop i v1159_0).trips) : Fin 3 → Nat :=
  let c1_i32_495 : BitVec 32 := 1#32
  let v1160 : BitVec 32 := Scalar.addi v1159_0 c1_i32_495
  let c1_i32_500 : BitVec 32 := 1#32
  let arg15 : BitVec 32 := Scf.iv v1160 c1_i32_500 k0_t1
  let v2005 : Index := Scalar.indexCast arg15
  let c0_887 : Index := 0#32
  let c0_888 : Index := 0#32
  ![v2005.toNat, 0, 0]
def k0_off6 (i : grid0.Coords) (v1159_0 : BitVec 32) (k0_t1 : Fin (k0_t1_loop i v1159_0).trips) : Fin 2 → Nat :=
  let c1_i32_495 : BitVec 32 := 1#32
  let v1160 : BitVec 32 := Scalar.addi v1159_0 c1_i32_495
  let c1_i32_500 : BitVec 32 := 1#32
  let arg15 : BitVec 32 := Scf.iv v1160 c1_i32_500 k0_t1
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]
@[reducible] def k0_t2_loop (i : grid0.Coords) (v1159_0 : BitVec 32) : Scf.Loop 32 :=
  let c1_i32_495 : BitVec 32 := 1#32
  let v1160 : BitVec 32 := Scalar.addi v1159_0 c1_i32_495
  let arg1 : BitVec 32 := BitVec.ofNat 32 (i 1).val
  let c8_i32 : BitVec 32 := 8#32
  let v16 : BitVec 32 := Scalar.muli arg1 c8_i32
  let c0_i32_4 : BitVec 32 := 0#32
  let v17 : BitVec 32 := Scalar.addi v16 c0_i32_4
  let c1_i32_496 : BitVec 32 := 1#32
  let v1161 : BitVec 32 := Scalar.subi v17 c1_i32_496
  let v1164 : BitVec 32 := Scalar.subi v1161 v1160
  let c1_i32_499 : BitVec 32 := 1#32
  let v1166 : BitVec 32 := Scalar.divsi v1164 c1_i32_499
  let v1167 : BitVec 32 := Scalar.muli v1166 c1_i32_499
  let v1168 : BitVec 32 := Scalar.addi v1160 v1167
  let v1165 : BitVec 32 := Scalar.addi v1160 v1164
  let c1_i32_501 : BitVec 32 := 1#32
  ⟨v1168, v1165, c1_i32_501⟩
def k0_mult19 (i : grid0.Coords) (v1159_0 : BitVec 32) (k0_t2 : Fin (k0_t2_loop i v1159_0).trips) : BitVec 32 :=
  let c1_i32_495 : BitVec 32 := 1#32
  let v1160 : BitVec 32 := Scalar.addi v1159_0 c1_i32_495
  let arg1 : BitVec 32 := BitVec.ofNat 32 (i 1).val
  let c8_i32 : BitVec 32 := 8#32
  let v16 : BitVec 32 := Scalar.muli arg1 c8_i32
  let c0_i32_4 : BitVec 32 := 0#32
  let v17 : BitVec 32 := Scalar.addi v16 c0_i32_4
  let c1_i32_496 : BitVec 32 := 1#32
  let v1161 : BitVec 32 := Scalar.subi v17 c1_i32_496
  let v1164 : BitVec 32 := Scalar.subi v1161 v1160
  let c1_i32_499 : BitVec 32 := 1#32
  let v1166 : BitVec 32 := Scalar.divsi v1164 c1_i32_499
  let v1167 : BitVec 32 := Scalar.muli v1166 c1_i32_499
  let v1168 : BitVec 32 := Scalar.addi v1160 v1167
  let c1_i32_501 : BitVec 32 := 1#32
  let arg15 : BitVec 32 := Scf.iv v1168 c1_i32_501 k0_t2
  let c256_i32_886 : BitVec 32 := 256#32
  let v2003 : BitVec 32 := Scalar.muli arg15 c256_i32_886
  v2003
def k0_off7 (i : grid0.Coords) (v1159_0 : BitVec 32) (k0_t2 : Fin (k0_t2_loop i v1159_0).trips) : Fin 3 → Nat :=
  let c1_i32_495 : BitVec 32 := 1#32
  let v1160 : BitVec 32 := Scalar.addi v1159_0 c1_i32_495
  let arg1 : BitVec 32 := BitVec.ofNat 32 (i 1).val
  let c8_i32 : BitVec 32 := 8#32
  let v16 : BitVec 32 := Scalar.muli arg1 c8_i32
  let c0_i32_4 : BitVec 32 := 0#32
  let v17 : BitVec 32 := Scalar.addi v16 c0_i32_4
  let c1_i32_496 : BitVec 32 := 1#32
  let v1161 : BitVec 32 := Scalar.subi v17 c1_i32_496
  let v1164 : BitVec 32 := Scalar.subi v1161 v1160
  let c1_i32_499 : BitVec 32 := 1#32
  let v1166 : BitVec 32 := Scalar.divsi v1164 c1_i32_499
  let v1167 : BitVec 32 := Scalar.muli v1166 c1_i32_499
  let v1168 : BitVec 32 := Scalar.addi v1160 v1167
  let c1_i32_501 : BitVec 32 := 1#32
  let arg15 : BitVec 32 := Scf.iv v1168 c1_i32_501 k0_t2
  let v2005 : Index := Scalar.indexCast arg15
  let c0_887 : Index := 0#32
  let c0_888 : Index := 0#32
  ![v2005.toNat, 0, 0]
def k0_off8 (i : grid0.Coords) (v1159_0 : BitVec 32) (k0_t2 : Fin (k0_t2_loop i v1159_0).trips) : Fin 2 → Nat :=
  let c1_i32_495 : BitVec 32 := 1#32
  let v1160 : BitVec 32 := Scalar.addi v1159_0 c1_i32_495
  let arg1 : BitVec 32 := BitVec.ofNat 32 (i 1).val
  let c8_i32 : BitVec 32 := 8#32
  let v16 : BitVec 32 := Scalar.muli arg1 c8_i32
  let c0_i32_4 : BitVec 32 := 0#32
  let v17 : BitVec 32 := Scalar.addi v16 c0_i32_4
  let c1_i32_496 : BitVec 32 := 1#32
  let v1161 : BitVec 32 := Scalar.subi v17 c1_i32_496
  let v1164 : BitVec 32 := Scalar.subi v1161 v1160
  let c1_i32_499 : BitVec 32 := 1#32
  let v1166 : BitVec 32 := Scalar.divsi v1164 c1_i32_499
  let v1167 : BitVec 32 := Scalar.muli v1166 c1_i32_499
  let v1168 : BitVec 32 := Scalar.addi v1160 v1167
  let c1_i32_501 : BitVec 32 := 1#32
  let arg15 : BitVec 32 := Scf.iv v1168 c1_i32_501 k0_t2
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]

def k0_chk2 (i : grid0.Coords) (v1159_0 : BitVec 32) : Prop :=
  ((k0_t1_loop i v1159_0).OK) ∧
  (∀ k0_t1 : Fin (k0_t1_loop i v1159_0).trips, 256 ∣ (k0_mult18 i v1159_0 k0_t1).toNat) ∧
  (∀ k0_t1 : Fin (k0_t1_loop i v1159_0).trips, ∀ a, (k0_off5 i v1159_0 k0_t1) a + S1x256x256.size a ≤ S32x256x256.size a) ∧
  (∀ k0_t1 : Fin (k0_t1_loop i v1159_0).trips, ∀ a, (k0_off6 i v1159_0 k0_t1) a + S256x128.size a ≤ S8192x128.size a) ∧
  ((k0_t2_loop i v1159_0).OK) ∧
  (∀ k0_t2 : Fin (k0_t2_loop i v1159_0).trips, 256 ∣ (k0_mult19 i v1159_0 k0_t2).toNat) ∧
  (∀ k0_t2 : Fin (k0_t2_loop i v1159_0).trips, ∀ a, (k0_off7 i v1159_0 k0_t2) a + S1x256x256.size a ≤ S32x256x256.size a) ∧
  (∀ k0_t2 : Fin (k0_t2_loop i v1159_0).trips, ∀ a, (k0_off8 i v1159_0 k0_t2) a + S256x128.size a ≤ S8192x128.size a)
theorem k0_t1_ok : ∀ (i : grid0.Coords) (v1159_0 : BitVec 32) (k0_hw2 : k0_chk2 i v1159_0), (k0_t1_loop i v1159_0).OK := fun i v1159_0 k0_hw2 => k0_hw2.1
theorem k0_mult18_dvd : ∀ (i : grid0.Coords) (v1159_0 : BitVec 32) (k0_hw2 : k0_chk2 i v1159_0) (k0_t1 : Fin (k0_t1_loop i v1159_0).trips), 256 ∣ (k0_mult18 i v1159_0 k0_t1).toNat := fun i v1159_0 k0_hw2 k0_t1 => k0_hw2.2.1 k0_t1
theorem k0_off5_inb : ∀ (i : grid0.Coords) (v1159_0 : BitVec 32) (k0_hw2 : k0_chk2 i v1159_0) (k0_t1 : Fin (k0_t1_loop i v1159_0).trips), ∀ a, (k0_off5 i v1159_0 k0_t1) a + S1x256x256.size a ≤ S32x256x256.size a := fun i v1159_0 k0_hw2 k0_t1 => k0_hw2.2.2.1 k0_t1
theorem k0_off6_inb : ∀ (i : grid0.Coords) (v1159_0 : BitVec 32) (k0_hw2 : k0_chk2 i v1159_0) (k0_t1 : Fin (k0_t1_loop i v1159_0).trips), ∀ a, (k0_off6 i v1159_0 k0_t1) a + S256x128.size a ≤ S8192x128.size a := fun i v1159_0 k0_hw2 k0_t1 => k0_hw2.2.2.2.1 k0_t1
theorem k0_t2_ok : ∀ (i : grid0.Coords) (v1159_0 : BitVec 32) (k0_hw2 : k0_chk2 i v1159_0), (k0_t2_loop i v1159_0).OK := fun i v1159_0 k0_hw2 => k0_hw2.2.2.2.2.1
theorem k0_mult19_dvd : ∀ (i : grid0.Coords) (v1159_0 : BitVec 32) (k0_hw2 : k0_chk2 i v1159_0) (k0_t2 : Fin (k0_t2_loop i v1159_0).trips), 256 ∣ (k0_mult19 i v1159_0 k0_t2).toNat := fun i v1159_0 k0_hw2 k0_t2 => k0_hw2.2.2.2.2.2.1 k0_t2
theorem k0_off7_inb : ∀ (i : grid0.Coords) (v1159_0 : BitVec 32) (k0_hw2 : k0_chk2 i v1159_0) (k0_t2 : Fin (k0_t2_loop i v1159_0).trips), ∀ a, (k0_off7 i v1159_0 k0_t2) a + S1x256x256.size a ≤ S32x256x256.size a := fun i v1159_0 k0_hw2 k0_t2 => k0_hw2.2.2.2.2.2.2.1 k0_t2
theorem k0_off8_inb : ∀ (i : grid0.Coords) (v1159_0 : BitVec 32) (k0_hw2 : k0_chk2 i v1159_0) (k0_t2 : Fin (k0_t2_loop i v1159_0).trips), ∀ a, (k0_off8 i v1159_0 k0_t2) a + S256x128.size a ≤ S8192x128.size a := fun i v1159_0 k0_hw2 k0_t2 => k0_hw2.2.2.2.2.2.2.2 k0_t2

def k0_mult20 (arg15 : BitVec 32) : BitVec 32 :=
  let c256_i32_886 : BitVec 32 := 256#32
  let v2003 : BitVec 32 := Scalar.muli arg15 c256_i32_886
  v2003

def k0_off9 (arg15 : BitVec 32) : Fin 2 → Nat :=
  let c256_i32_886 : BitVec 32 := 256#32
  let v2003 : BitVec 32 := Scalar.muli arg15 c256_i32_886
  let v2004 : BitVec 32 := v2003
  let v2005 : Index := Scalar.indexCast v2004
  let c0_887 : Index := 0#32
  ![v2005.toNat, 0]
def k0_off10 (arg15 : BitVec 32) : Fin 3 → Nat :=
  let v2043 : Index := Scalar.indexCast arg15
  let c0_897 : Index := 0#32
  let c0_898 : Index := 0#32
  ![v2043.toNat, 0, 0]

def k0_chk3 (arg15 : BitVec 32) : Prop :=
  (256 ∣ (k0_mult20 arg15).toNat) ∧
  (∀ a, (k0_off9 arg15) a + S256x128.size a ≤ S8192x128.size a) ∧
  (∀ a, (k0_off10 arg15) a + S1x256x256.size a ≤ S32x256x256.size a)
theorem k0_mult20_dvd : ∀ (arg15 : BitVec 32) (k0_hw3 : k0_chk3 arg15), 256 ∣ (k0_mult20 arg15).toNat := fun arg15 k0_hw3 => k0_hw3.1
theorem k0_off9_inb : ∀ (arg15 : BitVec 32) (k0_hw3 : k0_chk3 arg15), ∀ a, (k0_off9 arg15) a + S256x128.size a ≤ S8192x128.size a := fun arg15 k0_hw3 => k0_hw3.2.1
theorem k0_off10_inb : ∀ (arg15 : BitVec 32) (k0_hw3 : k0_chk3 arg15), ∀ a, (k0_off10 arg15) a + S1x256x256.size a ≤ S32x256x256.size a := fun arg15 k0_hw3 => k0_hw3.2.2

@[reducible] def k0_t3_loop (i : grid0.Coords) (v1178_0 : BitVec 32) : Scf.Loop 32 :=
  let c1_i32_505 : BitVec 32 := 1#32
  let v1179 : BitVec 32 := Scalar.addi v1178_0 c1_i32_505
  let arg1 : BitVec 32 := BitVec.ofNat 32 (i 1).val
  let c8_i32_63 : BitVec 32 := 8#32
  let v158 : BitVec 32 := Scalar.muli arg1 c8_i32_63
  let c1_i32_64 : BitVec 32 := 1#32
  let v159 : BitVec 32 := Scalar.addi v158 c1_i32_64
  let c1_i32_506 : BitVec 32 := 1#32
  let v1180 : BitVec 32 := Scalar.subi v159 c1_i32_506
  let v1183 : BitVec 32 := Scalar.subi v1180 v1179
  let c1_i32_509 : BitVec 32 := 1#32
  let v1185 : BitVec 32 := Scalar.divsi v1183 c1_i32_509
  let v1186 : BitVec 32 := Scalar.muli v1185 c1_i32_509
  let v1187 : BitVec 32 := Scalar.addi v1179 v1186
  let c1_i32_510 : BitVec 32 := 1#32
  ⟨v1179, v1187, c1_i32_510⟩

def k0_mult21 (i : grid0.Coords) (v1178_0 : BitVec 32) (k0_t3 : Fin (k0_t3_loop i v1178_0).trips) : BitVec 32 :=
  let c1_i32_505 : BitVec 32 := 1#32
  let v1179 : BitVec 32 := Scalar.addi v1178_0 c1_i32_505
  let c1_i32_510 : BitVec 32 := 1#32
  let arg15 : BitVec 32 := Scf.iv v1179 c1_i32_510 k0_t3
  let c256_i32_886 : BitVec 32 := 256#32
  let v2003 : BitVec 32 := Scalar.muli arg15 c256_i32_886
  v2003
def k0_off11 (i : grid0.Coords) (v1178_0 : BitVec 32) (k0_t3 : Fin (k0_t3_loop i v1178_0).trips) : Fin 3 → Nat :=
  let c1_i32_505 : BitVec 32 := 1#32
  let v1179 : BitVec 32 := Scalar.addi v1178_0 c1_i32_505
  let c1_i32_510 : BitVec 32 := 1#32
  let arg15 : BitVec 32 := Scf.iv v1179 c1_i32_510 k0_t3
  let v2005 : Index := Scalar.indexCast arg15
  let c0_887 : Index := 0#32
  let c0_888 : Index := 0#32
  ![v2005.toNat, 0, 0]
def k0_off12 (i : grid0.Coords) (v1178_0 : BitVec 32) (k0_t3 : Fin (k0_t3_loop i v1178_0).trips) : Fin 2 → Nat :=
  let c1_i32_505 : BitVec 32 := 1#32
  let v1179 : BitVec 32 := Scalar.addi v1178_0 c1_i32_505
  let c1_i32_510 : BitVec 32 := 1#32
  let arg15 : BitVec 32 := Scf.iv v1179 c1_i32_510 k0_t3
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]
@[reducible] def k0_t4_loop (i : grid0.Coords) (v1178_0 : BitVec 32) : Scf.Loop 32 :=
  let c1_i32_505 : BitVec 32 := 1#32
  let v1179 : BitVec 32 := Scalar.addi v1178_0 c1_i32_505
  let arg1 : BitVec 32 := BitVec.ofNat 32 (i 1).val
  let c8_i32_63 : BitVec 32 := 8#32
  let v158 : BitVec 32 := Scalar.muli arg1 c8_i32_63
  let c1_i32_64 : BitVec 32 := 1#32
  let v159 : BitVec 32 := Scalar.addi v158 c1_i32_64
  let c1_i32_506 : BitVec 32 := 1#32
  let v1180 : BitVec 32 := Scalar.subi v159 c1_i32_506
  let v1183 : BitVec 32 := Scalar.subi v1180 v1179
  let c1_i32_509 : BitVec 32 := 1#32
  let v1185 : BitVec 32 := Scalar.divsi v1183 c1_i32_509
  let v1186 : BitVec 32 := Scalar.muli v1185 c1_i32_509
  let v1187 : BitVec 32 := Scalar.addi v1179 v1186
  let v1184 : BitVec 32 := Scalar.addi v1179 v1183
  let c1_i32_511 : BitVec 32 := 1#32
  ⟨v1187, v1184, c1_i32_511⟩
def k0_mult22 (i : grid0.Coords) (v1178_0 : BitVec 32) (k0_t4 : Fin (k0_t4_loop i v1178_0).trips) : BitVec 32 :=
  let c1_i32_505 : BitVec 32 := 1#32
  let v1179 : BitVec 32 := Scalar.addi v1178_0 c1_i32_505
  let arg1 : BitVec 32 := BitVec.ofNat 32 (i 1).val
  let c8_i32_63 : BitVec 32 := 8#32
  let v158 : BitVec 32 := Scalar.muli arg1 c8_i32_63
  let c1_i32_64 : BitVec 32 := 1#32
  let v159 : BitVec 32 := Scalar.addi v158 c1_i32_64
  let c1_i32_506 : BitVec 32 := 1#32
  let v1180 : BitVec 32 := Scalar.subi v159 c1_i32_506
  let v1183 : BitVec 32 := Scalar.subi v1180 v1179
  let c1_i32_509 : BitVec 32 := 1#32
  let v1185 : BitVec 32 := Scalar.divsi v1183 c1_i32_509
  let v1186 : BitVec 32 := Scalar.muli v1185 c1_i32_509
  let v1187 : BitVec 32 := Scalar.addi v1179 v1186
  let c1_i32_511 : BitVec 32 := 1#32
  let arg15 : BitVec 32 := Scf.iv v1187 c1_i32_511 k0_t4
  let c256_i32_886 : BitVec 32 := 256#32
  let v2003 : BitVec 32 := Scalar.muli arg15 c256_i32_886
  v2003
def k0_off13 (i : grid0.Coords) (v1178_0 : BitVec 32) (k0_t4 : Fin (k0_t4_loop i v1178_0).trips) : Fin 3 → Nat :=
  let c1_i32_505 : BitVec 32 := 1#32
  let v1179 : BitVec 32 := Scalar.addi v1178_0 c1_i32_505
  let arg1 : BitVec 32 := BitVec.ofNat 32 (i 1).val
  let c8_i32_63 : BitVec 32 := 8#32
  let v158 : BitVec 32 := Scalar.muli arg1 c8_i32_63
  let c1_i32_64 : BitVec 32 := 1#32
  let v159 : BitVec 32 := Scalar.addi v158 c1_i32_64
  let c1_i32_506 : BitVec 32 := 1#32
  let v1180 : BitVec 32 := Scalar.subi v159 c1_i32_506
  let v1183 : BitVec 32 := Scalar.subi v1180 v1179
  let c1_i32_509 : BitVec 32 := 1#32
  let v1185 : BitVec 32 := Scalar.divsi v1183 c1_i32_509
  let v1186 : BitVec 32 := Scalar.muli v1185 c1_i32_509
  let v1187 : BitVec 32 := Scalar.addi v1179 v1186
  let c1_i32_511 : BitVec 32 := 1#32
  let arg15 : BitVec 32 := Scf.iv v1187 c1_i32_511 k0_t4
  let v2005 : Index := Scalar.indexCast arg15
  let c0_887 : Index := 0#32
  let c0_888 : Index := 0#32
  ![v2005.toNat, 0, 0]
def k0_off14 (i : grid0.Coords) (v1178_0 : BitVec 32) (k0_t4 : Fin (k0_t4_loop i v1178_0).trips) : Fin 2 → Nat :=
  let c1_i32_505 : BitVec 32 := 1#32
  let v1179 : BitVec 32 := Scalar.addi v1178_0 c1_i32_505
  let arg1 : BitVec 32 := BitVec.ofNat 32 (i 1).val
  let c8_i32_63 : BitVec 32 := 8#32
  let v158 : BitVec 32 := Scalar.muli arg1 c8_i32_63
  let c1_i32_64 : BitVec 32 := 1#32
  let v159 : BitVec 32 := Scalar.addi v158 c1_i32_64
  let c1_i32_506 : BitVec 32 := 1#32
  let v1180 : BitVec 32 := Scalar.subi v159 c1_i32_506
  let v1183 : BitVec 32 := Scalar.subi v1180 v1179
  let c1_i32_509 : BitVec 32 := 1#32
  let v1185 : BitVec 32 := Scalar.divsi v1183 c1_i32_509
  let v1186 : BitVec 32 := Scalar.muli v1185 c1_i32_509
  let v1187 : BitVec 32 := Scalar.addi v1179 v1186
  let c1_i32_511 : BitVec 32 := 1#32
  let arg15 : BitVec 32 := Scf.iv v1187 c1_i32_511 k0_t4
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]

def k0_chk4 (i : grid0.Coords) (v1178_0 : BitVec 32) : Prop :=
  ((k0_t3_loop i v1178_0).OK) ∧
  (∀ k0_t3 : Fin (k0_t3_loop i v1178_0).trips, 256 ∣ (k0_mult21 i v1178_0 k0_t3).toNat) ∧
  (∀ k0_t3 : Fin (k0_t3_loop i v1178_0).trips, ∀ a, (k0_off11 i v1178_0 k0_t3) a + S1x256x256.size a ≤ S32x256x256.size a) ∧
  (∀ k0_t3 : Fin (k0_t3_loop i v1178_0).trips, ∀ a, (k0_off12 i v1178_0 k0_t3) a + S256x128.size a ≤ S8192x128.size a) ∧
  ((k0_t4_loop i v1178_0).OK) ∧
  (∀ k0_t4 : Fin (k0_t4_loop i v1178_0).trips, 256 ∣ (k0_mult22 i v1178_0 k0_t4).toNat) ∧
  (∀ k0_t4 : Fin (k0_t4_loop i v1178_0).trips, ∀ a, (k0_off13 i v1178_0 k0_t4) a + S1x256x256.size a ≤ S32x256x256.size a) ∧
  (∀ k0_t4 : Fin (k0_t4_loop i v1178_0).trips, ∀ a, (k0_off14 i v1178_0 k0_t4) a + S256x128.size a ≤ S8192x128.size a)
theorem k0_t3_ok : ∀ (i : grid0.Coords) (v1178_0 : BitVec 32) (k0_hw4 : k0_chk4 i v1178_0), (k0_t3_loop i v1178_0).OK := fun i v1178_0 k0_hw4 => k0_hw4.1
theorem k0_mult21_dvd : ∀ (i : grid0.Coords) (v1178_0 : BitVec 32) (k0_hw4 : k0_chk4 i v1178_0) (k0_t3 : Fin (k0_t3_loop i v1178_0).trips), 256 ∣ (k0_mult21 i v1178_0 k0_t3).toNat := fun i v1178_0 k0_hw4 k0_t3 => k0_hw4.2.1 k0_t3
theorem k0_off11_inb : ∀ (i : grid0.Coords) (v1178_0 : BitVec 32) (k0_hw4 : k0_chk4 i v1178_0) (k0_t3 : Fin (k0_t3_loop i v1178_0).trips), ∀ a, (k0_off11 i v1178_0 k0_t3) a + S1x256x256.size a ≤ S32x256x256.size a := fun i v1178_0 k0_hw4 k0_t3 => k0_hw4.2.2.1 k0_t3
theorem k0_off12_inb : ∀ (i : grid0.Coords) (v1178_0 : BitVec 32) (k0_hw4 : k0_chk4 i v1178_0) (k0_t3 : Fin (k0_t3_loop i v1178_0).trips), ∀ a, (k0_off12 i v1178_0 k0_t3) a + S256x128.size a ≤ S8192x128.size a := fun i v1178_0 k0_hw4 k0_t3 => k0_hw4.2.2.2.1 k0_t3
theorem k0_t4_ok : ∀ (i : grid0.Coords) (v1178_0 : BitVec 32) (k0_hw4 : k0_chk4 i v1178_0), (k0_t4_loop i v1178_0).OK := fun i v1178_0 k0_hw4 => k0_hw4.2.2.2.2.1
theorem k0_mult22_dvd : ∀ (i : grid0.Coords) (v1178_0 : BitVec 32) (k0_hw4 : k0_chk4 i v1178_0) (k0_t4 : Fin (k0_t4_loop i v1178_0).trips), 256 ∣ (k0_mult22 i v1178_0 k0_t4).toNat := fun i v1178_0 k0_hw4 k0_t4 => k0_hw4.2.2.2.2.2.1 k0_t4
theorem k0_off13_inb : ∀ (i : grid0.Coords) (v1178_0 : BitVec 32) (k0_hw4 : k0_chk4 i v1178_0) (k0_t4 : Fin (k0_t4_loop i v1178_0).trips), ∀ a, (k0_off13 i v1178_0 k0_t4) a + S1x256x256.size a ≤ S32x256x256.size a := fun i v1178_0 k0_hw4 k0_t4 => k0_hw4.2.2.2.2.2.2.1 k0_t4
theorem k0_off14_inb : ∀ (i : grid0.Coords) (v1178_0 : BitVec 32) (k0_hw4 : k0_chk4 i v1178_0) (k0_t4 : Fin (k0_t4_loop i v1178_0).trips), ∀ a, (k0_off14 i v1178_0 k0_t4) a + S256x128.size a ≤ S8192x128.size a := fun i v1178_0 k0_hw4 k0_t4 => k0_hw4.2.2.2.2.2.2.2 k0_t4

def k0_mult23 (arg15 : BitVec 32) : BitVec 32 :=
  let c256_i32_886 : BitVec 32 := 256#32
  let v2003 : BitVec 32 := Scalar.muli arg15 c256_i32_886
  v2003

def k0_off15 (arg15 : BitVec 32) : Fin 2 → Nat :=
  let c256_i32_886 : BitVec 32 := 256#32
  let v2003 : BitVec 32 := Scalar.muli arg15 c256_i32_886
  let v2004 : BitVec 32 := v2003
  let v2005 : Index := Scalar.indexCast v2004
  let c0_887 : Index := 0#32
  ![v2005.toNat, 0]
def k0_off16 (arg15 : BitVec 32) : Fin 3 → Nat :=
  let v2043 : Index := Scalar.indexCast arg15
  let c0_897 : Index := 0#32
  let c0_898 : Index := 0#32
  ![v2043.toNat, 0, 0]

def k0_chk5 (arg15 : BitVec 32) : Prop :=
  (256 ∣ (k0_mult23 arg15).toNat) ∧
  (∀ a, (k0_off15 arg15) a + S256x128.size a ≤ S8192x128.size a) ∧
  (∀ a, (k0_off16 arg15) a + S1x256x256.size a ≤ S32x256x256.size a)
theorem k0_mult23_dvd : ∀ (arg15 : BitVec 32) (k0_hw5 : k0_chk5 arg15), 256 ∣ (k0_mult23 arg15).toNat := fun arg15 k0_hw5 => k0_hw5.1
theorem k0_off15_inb : ∀ (arg15 : BitVec 32) (k0_hw5 : k0_chk5 arg15), ∀ a, (k0_off15 arg15) a + S256x128.size a ≤ S8192x128.size a := fun arg15 k0_hw5 => k0_hw5.2.1
theorem k0_off16_inb : ∀ (arg15 : BitVec 32) (k0_hw5 : k0_chk5 arg15), ∀ a, (k0_off16 arg15) a + S1x256x256.size a ≤ S32x256x256.size a := fun arg15 k0_hw5 => k0_hw5.2.2

@[reducible] def k0_t5_loop (i : grid0.Coords) (v1197_0 : BitVec 32) : Scf.Loop 32 :=
  let c1_i32_515 : BitVec 32 := 1#32
  let v1198 : BitVec 32 := Scalar.addi v1197_0 c1_i32_515
  let arg1 : BitVec 32 := BitVec.ofNat 32 (i 1).val
  let c8_i32_126 : BitVec 32 := 8#32
  let v300 : BitVec 32 := Scalar.muli arg1 c8_i32_126
  let c2_i32 : BitVec 32 := 2#32
  let v301 : BitVec 32 := Scalar.addi v300 c2_i32
  let c1_i32_516 : BitVec 32 := 1#32
  let v1199 : BitVec 32 := Scalar.subi v301 c1_i32_516
  let v1202 : BitVec 32 := Scalar.subi v1199 v1198
  let c1_i32_519 : BitVec 32 := 1#32
  let v1204 : BitVec 32 := Scalar.divsi v1202 c1_i32_519
  let v1205 : BitVec 32 := Scalar.muli v1204 c1_i32_519
  let v1206 : BitVec 32 := Scalar.addi v1198 v1205
  let c1_i32_520 : BitVec 32 := 1#32
  ⟨v1198, v1206, c1_i32_520⟩

def k0_mult24 (i : grid0.Coords) (v1197_0 : BitVec 32) (k0_t5 : Fin (k0_t5_loop i v1197_0).trips) : BitVec 32 :=
  let c1_i32_515 : BitVec 32 := 1#32
  let v1198 : BitVec 32 := Scalar.addi v1197_0 c1_i32_515
  let c1_i32_520 : BitVec 32 := 1#32
  let arg15 : BitVec 32 := Scf.iv v1198 c1_i32_520 k0_t5
  let c256_i32_886 : BitVec 32 := 256#32
  let v2003 : BitVec 32 := Scalar.muli arg15 c256_i32_886
  v2003
def k0_off17 (i : grid0.Coords) (v1197_0 : BitVec 32) (k0_t5 : Fin (k0_t5_loop i v1197_0).trips) : Fin 3 → Nat :=
  let c1_i32_515 : BitVec 32 := 1#32
  let v1198 : BitVec 32 := Scalar.addi v1197_0 c1_i32_515
  let c1_i32_520 : BitVec 32 := 1#32
  let arg15 : BitVec 32 := Scf.iv v1198 c1_i32_520 k0_t5
  let v2005 : Index := Scalar.indexCast arg15
  let c0_887 : Index := 0#32
  let c0_888 : Index := 0#32
  ![v2005.toNat, 0, 0]
def k0_off18 (i : grid0.Coords) (v1197_0 : BitVec 32) (k0_t5 : Fin (k0_t5_loop i v1197_0).trips) : Fin 2 → Nat :=
  let c1_i32_515 : BitVec 32 := 1#32
  let v1198 : BitVec 32 := Scalar.addi v1197_0 c1_i32_515
  let c1_i32_520 : BitVec 32 := 1#32
  let arg15 : BitVec 32 := Scf.iv v1198 c1_i32_520 k0_t5
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]
@[reducible] def k0_t6_loop (i : grid0.Coords) (v1197_0 : BitVec 32) : Scf.Loop 32 :=
  let c1_i32_515 : BitVec 32 := 1#32
  let v1198 : BitVec 32 := Scalar.addi v1197_0 c1_i32_515
  let arg1 : BitVec 32 := BitVec.ofNat 32 (i 1).val
  let c8_i32_126 : BitVec 32 := 8#32
  let v300 : BitVec 32 := Scalar.muli arg1 c8_i32_126
  let c2_i32 : BitVec 32 := 2#32
  let v301 : BitVec 32 := Scalar.addi v300 c2_i32
  let c1_i32_516 : BitVec 32 := 1#32
  let v1199 : BitVec 32 := Scalar.subi v301 c1_i32_516
  let v1202 : BitVec 32 := Scalar.subi v1199 v1198
  let c1_i32_519 : BitVec 32 := 1#32
  let v1204 : BitVec 32 := Scalar.divsi v1202 c1_i32_519
  let v1205 : BitVec 32 := Scalar.muli v1204 c1_i32_519
  let v1206 : BitVec 32 := Scalar.addi v1198 v1205
  let v1203 : BitVec 32 := Scalar.addi v1198 v1202
  let c1_i32_521 : BitVec 32 := 1#32
  ⟨v1206, v1203, c1_i32_521⟩
def k0_mult25 (i : grid0.Coords) (v1197_0 : BitVec 32) (k0_t6 : Fin (k0_t6_loop i v1197_0).trips) : BitVec 32 :=
  let c1_i32_515 : BitVec 32 := 1#32
  let v1198 : BitVec 32 := Scalar.addi v1197_0 c1_i32_515
  let arg1 : BitVec 32 := BitVec.ofNat 32 (i 1).val
  let c8_i32_126 : BitVec 32 := 8#32
  let v300 : BitVec 32 := Scalar.muli arg1 c8_i32_126
  let c2_i32 : BitVec 32 := 2#32
  let v301 : BitVec 32 := Scalar.addi v300 c2_i32
  let c1_i32_516 : BitVec 32 := 1#32
  let v1199 : BitVec 32 := Scalar.subi v301 c1_i32_516
  let v1202 : BitVec 32 := Scalar.subi v1199 v1198
  let c1_i32_519 : BitVec 32 := 1#32
  let v1204 : BitVec 32 := Scalar.divsi v1202 c1_i32_519
  let v1205 : BitVec 32 := Scalar.muli v1204 c1_i32_519
  let v1206 : BitVec 32 := Scalar.addi v1198 v1205
  let c1_i32_521 : BitVec 32 := 1#32
  let arg15 : BitVec 32 := Scf.iv v1206 c1_i32_521 k0_t6
  let c256_i32_886 : BitVec 32 := 256#32
  let v2003 : BitVec 32 := Scalar.muli arg15 c256_i32_886
  v2003
def k0_off19 (i : grid0.Coords) (v1197_0 : BitVec 32) (k0_t6 : Fin (k0_t6_loop i v1197_0).trips) : Fin 3 → Nat :=
  let c1_i32_515 : BitVec 32 := 1#32
  let v1198 : BitVec 32 := Scalar.addi v1197_0 c1_i32_515
  let arg1 : BitVec 32 := BitVec.ofNat 32 (i 1).val
  let c8_i32_126 : BitVec 32 := 8#32
  let v300 : BitVec 32 := Scalar.muli arg1 c8_i32_126
  let c2_i32 : BitVec 32 := 2#32
  let v301 : BitVec 32 := Scalar.addi v300 c2_i32
  let c1_i32_516 : BitVec 32 := 1#32
  let v1199 : BitVec 32 := Scalar.subi v301 c1_i32_516
  let v1202 : BitVec 32 := Scalar.subi v1199 v1198
  let c1_i32_519 : BitVec 32 := 1#32
  let v1204 : BitVec 32 := Scalar.divsi v1202 c1_i32_519
  let v1205 : BitVec 32 := Scalar.muli v1204 c1_i32_519
  let v1206 : BitVec 32 := Scalar.addi v1198 v1205
  let c1_i32_521 : BitVec 32 := 1#32
  let arg15 : BitVec 32 := Scf.iv v1206 c1_i32_521 k0_t6
  let v2005 : Index := Scalar.indexCast arg15
  let c0_887 : Index := 0#32
  let c0_888 : Index := 0#32
  ![v2005.toNat, 0, 0]
def k0_off20 (i : grid0.Coords) (v1197_0 : BitVec 32) (k0_t6 : Fin (k0_t6_loop i v1197_0).trips) : Fin 2 → Nat :=
  let c1_i32_515 : BitVec 32 := 1#32
  let v1198 : BitVec 32 := Scalar.addi v1197_0 c1_i32_515
  let arg1 : BitVec 32 := BitVec.ofNat 32 (i 1).val
  let c8_i32_126 : BitVec 32 := 8#32
  let v300 : BitVec 32 := Scalar.muli arg1 c8_i32_126
  let c2_i32 : BitVec 32 := 2#32
  let v301 : BitVec 32 := Scalar.addi v300 c2_i32
  let c1_i32_516 : BitVec 32 := 1#32
  let v1199 : BitVec 32 := Scalar.subi v301 c1_i32_516
  let v1202 : BitVec 32 := Scalar.subi v1199 v1198
  let c1_i32_519 : BitVec 32 := 1#32
  let v1204 : BitVec 32 := Scalar.divsi v1202 c1_i32_519
  let v1205 : BitVec 32 := Scalar.muli v1204 c1_i32_519
  let v1206 : BitVec 32 := Scalar.addi v1198 v1205
  let c1_i32_521 : BitVec 32 := 1#32
  let arg15 : BitVec 32 := Scf.iv v1206 c1_i32_521 k0_t6
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]

def k0_chk6 (i : grid0.Coords) (v1197_0 : BitVec 32) : Prop :=
  ((k0_t5_loop i v1197_0).OK) ∧
  (∀ k0_t5 : Fin (k0_t5_loop i v1197_0).trips, 256 ∣ (k0_mult24 i v1197_0 k0_t5).toNat) ∧
  (∀ k0_t5 : Fin (k0_t5_loop i v1197_0).trips, ∀ a, (k0_off17 i v1197_0 k0_t5) a + S1x256x256.size a ≤ S32x256x256.size a) ∧
  (∀ k0_t5 : Fin (k0_t5_loop i v1197_0).trips, ∀ a, (k0_off18 i v1197_0 k0_t5) a + S256x128.size a ≤ S8192x128.size a) ∧
  ((k0_t6_loop i v1197_0).OK) ∧
  (∀ k0_t6 : Fin (k0_t6_loop i v1197_0).trips, 256 ∣ (k0_mult25 i v1197_0 k0_t6).toNat) ∧
  (∀ k0_t6 : Fin (k0_t6_loop i v1197_0).trips, ∀ a, (k0_off19 i v1197_0 k0_t6) a + S1x256x256.size a ≤ S32x256x256.size a) ∧
  (∀ k0_t6 : Fin (k0_t6_loop i v1197_0).trips, ∀ a, (k0_off20 i v1197_0 k0_t6) a + S256x128.size a ≤ S8192x128.size a)
theorem k0_t5_ok : ∀ (i : grid0.Coords) (v1197_0 : BitVec 32) (k0_hw6 : k0_chk6 i v1197_0), (k0_t5_loop i v1197_0).OK := fun i v1197_0 k0_hw6 => k0_hw6.1
theorem k0_mult24_dvd : ∀ (i : grid0.Coords) (v1197_0 : BitVec 32) (k0_hw6 : k0_chk6 i v1197_0) (k0_t5 : Fin (k0_t5_loop i v1197_0).trips), 256 ∣ (k0_mult24 i v1197_0 k0_t5).toNat := fun i v1197_0 k0_hw6 k0_t5 => k0_hw6.2.1 k0_t5
theorem k0_off17_inb : ∀ (i : grid0.Coords) (v1197_0 : BitVec 32) (k0_hw6 : k0_chk6 i v1197_0) (k0_t5 : Fin (k0_t5_loop i v1197_0).trips), ∀ a, (k0_off17 i v1197_0 k0_t5) a + S1x256x256.size a ≤ S32x256x256.size a := fun i v1197_0 k0_hw6 k0_t5 => k0_hw6.2.2.1 k0_t5
theorem k0_off18_inb : ∀ (i : grid0.Coords) (v1197_0 : BitVec 32) (k0_hw6 : k0_chk6 i v1197_0) (k0_t5 : Fin (k0_t5_loop i v1197_0).trips), ∀ a, (k0_off18 i v1197_0 k0_t5) a + S256x128.size a ≤ S8192x128.size a := fun i v1197_0 k0_hw6 k0_t5 => k0_hw6.2.2.2.1 k0_t5
theorem k0_t6_ok : ∀ (i : grid0.Coords) (v1197_0 : BitVec 32) (k0_hw6 : k0_chk6 i v1197_0), (k0_t6_loop i v1197_0).OK := fun i v1197_0 k0_hw6 => k0_hw6.2.2.2.2.1
theorem k0_mult25_dvd : ∀ (i : grid0.Coords) (v1197_0 : BitVec 32) (k0_hw6 : k0_chk6 i v1197_0) (k0_t6 : Fin (k0_t6_loop i v1197_0).trips), 256 ∣ (k0_mult25 i v1197_0 k0_t6).toNat := fun i v1197_0 k0_hw6 k0_t6 => k0_hw6.2.2.2.2.2.1 k0_t6
theorem k0_off19_inb : ∀ (i : grid0.Coords) (v1197_0 : BitVec 32) (k0_hw6 : k0_chk6 i v1197_0) (k0_t6 : Fin (k0_t6_loop i v1197_0).trips), ∀ a, (k0_off19 i v1197_0 k0_t6) a + S1x256x256.size a ≤ S32x256x256.size a := fun i v1197_0 k0_hw6 k0_t6 => k0_hw6.2.2.2.2.2.2.1 k0_t6
theorem k0_off20_inb : ∀ (i : grid0.Coords) (v1197_0 : BitVec 32) (k0_hw6 : k0_chk6 i v1197_0) (k0_t6 : Fin (k0_t6_loop i v1197_0).trips), ∀ a, (k0_off20 i v1197_0 k0_t6) a + S256x128.size a ≤ S8192x128.size a := fun i v1197_0 k0_hw6 k0_t6 => k0_hw6.2.2.2.2.2.2.2 k0_t6

def k0_mult26 (arg15 : BitVec 32) : BitVec 32 :=
  let c256_i32_886 : BitVec 32 := 256#32
  let v2003 : BitVec 32 := Scalar.muli arg15 c256_i32_886
  v2003

def k0_off21 (arg15 : BitVec 32) : Fin 2 → Nat :=
  let c256_i32_886 : BitVec 32 := 256#32
  let v2003 : BitVec 32 := Scalar.muli arg15 c256_i32_886
  let v2004 : BitVec 32 := v2003
  let v2005 : Index := Scalar.indexCast v2004
  let c0_887 : Index := 0#32
  ![v2005.toNat, 0]
def k0_off22 (arg15 : BitVec 32) : Fin 3 → Nat :=
  let v2043 : Index := Scalar.indexCast arg15
  let c0_897 : Index := 0#32
  let c0_898 : Index := 0#32
  ![v2043.toNat, 0, 0]

def k0_chk7 (arg15 : BitVec 32) : Prop :=
  (256 ∣ (k0_mult26 arg15).toNat) ∧
  (∀ a, (k0_off21 arg15) a + S256x128.size a ≤ S8192x128.size a) ∧
  (∀ a, (k0_off22 arg15) a + S1x256x256.size a ≤ S32x256x256.size a)
theorem k0_mult26_dvd : ∀ (arg15 : BitVec 32) (k0_hw7 : k0_chk7 arg15), 256 ∣ (k0_mult26 arg15).toNat := fun arg15 k0_hw7 => k0_hw7.1
theorem k0_off21_inb : ∀ (arg15 : BitVec 32) (k0_hw7 : k0_chk7 arg15), ∀ a, (k0_off21 arg15) a + S256x128.size a ≤ S8192x128.size a := fun arg15 k0_hw7 => k0_hw7.2.1
theorem k0_off22_inb : ∀ (arg15 : BitVec 32) (k0_hw7 : k0_chk7 arg15), ∀ a, (k0_off22 arg15) a + S1x256x256.size a ≤ S32x256x256.size a := fun arg15 k0_hw7 => k0_hw7.2.2

@[reducible] def k0_t7_loop (i : grid0.Coords) (v1216_0 : BitVec 32) : Scf.Loop 32 :=
  let c1_i32_525 : BitVec 32 := 1#32
  let v1217 : BitVec 32 := Scalar.addi v1216_0 c1_i32_525
  let arg1 : BitVec 32 := BitVec.ofNat 32 (i 1).val
  let c8_i32_187 : BitVec 32 := 8#32
  let v442 : BitVec 32 := Scalar.muli arg1 c8_i32_187
  let c3_i32 : BitVec 32 := 3#32
  let v443 : BitVec 32 := Scalar.addi v442 c3_i32
  let c1_i32_526 : BitVec 32 := 1#32
  let v1218 : BitVec 32 := Scalar.subi v443 c1_i32_526
  let v1221 : BitVec 32 := Scalar.subi v1218 v1217
  let c1_i32_529 : BitVec 32 := 1#32
  let v1223 : BitVec 32 := Scalar.divsi v1221 c1_i32_529
  let v1224 : BitVec 32 := Scalar.muli v1223 c1_i32_529
  let v1225 : BitVec 32 := Scalar.addi v1217 v1224
  let c1_i32_530 : BitVec 32 := 1#32
  ⟨v1217, v1225, c1_i32_530⟩

def k0_mult27 (i : grid0.Coords) (v1216_0 : BitVec 32) (k0_t7 : Fin (k0_t7_loop i v1216_0).trips) : BitVec 32 :=
  let c1_i32_525 : BitVec 32 := 1#32
  let v1217 : BitVec 32 := Scalar.addi v1216_0 c1_i32_525
  let c1_i32_530 : BitVec 32 := 1#32
  let arg15 : BitVec 32 := Scf.iv v1217 c1_i32_530 k0_t7
  let c256_i32_886 : BitVec 32 := 256#32
  let v2003 : BitVec 32 := Scalar.muli arg15 c256_i32_886
  v2003
def k0_off23 (i : grid0.Coords) (v1216_0 : BitVec 32) (k0_t7 : Fin (k0_t7_loop i v1216_0).trips) : Fin 3 → Nat :=
  let c1_i32_525 : BitVec 32 := 1#32
  let v1217 : BitVec 32 := Scalar.addi v1216_0 c1_i32_525
  let c1_i32_530 : BitVec 32 := 1#32
  let arg15 : BitVec 32 := Scf.iv v1217 c1_i32_530 k0_t7
  let v2005 : Index := Scalar.indexCast arg15
  let c0_887 : Index := 0#32
  let c0_888 : Index := 0#32
  ![v2005.toNat, 0, 0]
def k0_off24 (i : grid0.Coords) (v1216_0 : BitVec 32) (k0_t7 : Fin (k0_t7_loop i v1216_0).trips) : Fin 2 → Nat :=
  let c1_i32_525 : BitVec 32 := 1#32
  let v1217 : BitVec 32 := Scalar.addi v1216_0 c1_i32_525
  let c1_i32_530 : BitVec 32 := 1#32
  let arg15 : BitVec 32 := Scf.iv v1217 c1_i32_530 k0_t7
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]
@[reducible] def k0_t8_loop (i : grid0.Coords) (v1216_0 : BitVec 32) : Scf.Loop 32 :=
  let c1_i32_525 : BitVec 32 := 1#32
  let v1217 : BitVec 32 := Scalar.addi v1216_0 c1_i32_525
  let arg1 : BitVec 32 := BitVec.ofNat 32 (i 1).val
  let c8_i32_187 : BitVec 32 := 8#32
  let v442 : BitVec 32 := Scalar.muli arg1 c8_i32_187
  let c3_i32 : BitVec 32 := 3#32
  let v443 : BitVec 32 := Scalar.addi v442 c3_i32
  let c1_i32_526 : BitVec 32 := 1#32
  let v1218 : BitVec 32 := Scalar.subi v443 c1_i32_526
  let v1221 : BitVec 32 := Scalar.subi v1218 v1217
  let c1_i32_529 : BitVec 32 := 1#32
  let v1223 : BitVec 32 := Scalar.divsi v1221 c1_i32_529
  let v1224 : BitVec 32 := Scalar.muli v1223 c1_i32_529
  let v1225 : BitVec 32 := Scalar.addi v1217 v1224
  let v1222 : BitVec 32 := Scalar.addi v1217 v1221
  let c1_i32_531 : BitVec 32 := 1#32
  ⟨v1225, v1222, c1_i32_531⟩
def k0_mult28 (i : grid0.Coords) (v1216_0 : BitVec 32) (k0_t8 : Fin (k0_t8_loop i v1216_0).trips) : BitVec 32 :=
  let c1_i32_525 : BitVec 32 := 1#32
  let v1217 : BitVec 32 := Scalar.addi v1216_0 c1_i32_525
  let arg1 : BitVec 32 := BitVec.ofNat 32 (i 1).val
  let c8_i32_187 : BitVec 32 := 8#32
  let v442 : BitVec 32 := Scalar.muli arg1 c8_i32_187
  let c3_i32 : BitVec 32 := 3#32
  let v443 : BitVec 32 := Scalar.addi v442 c3_i32
  let c1_i32_526 : BitVec 32 := 1#32
  let v1218 : BitVec 32 := Scalar.subi v443 c1_i32_526
  let v1221 : BitVec 32 := Scalar.subi v1218 v1217
  let c1_i32_529 : BitVec 32 := 1#32
  let v1223 : BitVec 32 := Scalar.divsi v1221 c1_i32_529
  let v1224 : BitVec 32 := Scalar.muli v1223 c1_i32_529
  let v1225 : BitVec 32 := Scalar.addi v1217 v1224
  let c1_i32_531 : BitVec 32 := 1#32
  let arg15 : BitVec 32 := Scf.iv v1225 c1_i32_531 k0_t8
  let c256_i32_886 : BitVec 32 := 256#32
  let v2003 : BitVec 32 := Scalar.muli arg15 c256_i32_886
  v2003
def k0_off25 (i : grid0.Coords) (v1216_0 : BitVec 32) (k0_t8 : Fin (k0_t8_loop i v1216_0).trips) : Fin 3 → Nat :=
  let c1_i32_525 : BitVec 32 := 1#32
  let v1217 : BitVec 32 := Scalar.addi v1216_0 c1_i32_525
  let arg1 : BitVec 32 := BitVec.ofNat 32 (i 1).val
  let c8_i32_187 : BitVec 32 := 8#32
  let v442 : BitVec 32 := Scalar.muli arg1 c8_i32_187
  let c3_i32 : BitVec 32 := 3#32
  let v443 : BitVec 32 := Scalar.addi v442 c3_i32
  let c1_i32_526 : BitVec 32 := 1#32
  let v1218 : BitVec 32 := Scalar.subi v443 c1_i32_526
  let v1221 : BitVec 32 := Scalar.subi v1218 v1217
  let c1_i32_529 : BitVec 32 := 1#32
  let v1223 : BitVec 32 := Scalar.divsi v1221 c1_i32_529
  let v1224 : BitVec 32 := Scalar.muli v1223 c1_i32_529
  let v1225 : BitVec 32 := Scalar.addi v1217 v1224
  let c1_i32_531 : BitVec 32 := 1#32
  let arg15 : BitVec 32 := Scf.iv v1225 c1_i32_531 k0_t8
  let v2005 : Index := Scalar.indexCast arg15
  let c0_887 : Index := 0#32
  let c0_888 : Index := 0#32
  ![v2005.toNat, 0, 0]
def k0_off26 (i : grid0.Coords) (v1216_0 : BitVec 32) (k0_t8 : Fin (k0_t8_loop i v1216_0).trips) : Fin 2 → Nat :=
  let c1_i32_525 : BitVec 32 := 1#32
  let v1217 : BitVec 32 := Scalar.addi v1216_0 c1_i32_525
  let arg1 : BitVec 32 := BitVec.ofNat 32 (i 1).val
  let c8_i32_187 : BitVec 32 := 8#32
  let v442 : BitVec 32 := Scalar.muli arg1 c8_i32_187
  let c3_i32 : BitVec 32 := 3#32
  let v443 : BitVec 32 := Scalar.addi v442 c3_i32
  let c1_i32_526 : BitVec 32 := 1#32
  let v1218 : BitVec 32 := Scalar.subi v443 c1_i32_526
  let v1221 : BitVec 32 := Scalar.subi v1218 v1217
  let c1_i32_529 : BitVec 32 := 1#32
  let v1223 : BitVec 32 := Scalar.divsi v1221 c1_i32_529
  let v1224 : BitVec 32 := Scalar.muli v1223 c1_i32_529
  let v1225 : BitVec 32 := Scalar.addi v1217 v1224
  let c1_i32_531 : BitVec 32 := 1#32
  let arg15 : BitVec 32 := Scf.iv v1225 c1_i32_531 k0_t8
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]

def k0_chk8 (i : grid0.Coords) (v1216_0 : BitVec 32) : Prop :=
  ((k0_t7_loop i v1216_0).OK) ∧
  (∀ k0_t7 : Fin (k0_t7_loop i v1216_0).trips, 256 ∣ (k0_mult27 i v1216_0 k0_t7).toNat) ∧
  (∀ k0_t7 : Fin (k0_t7_loop i v1216_0).trips, ∀ a, (k0_off23 i v1216_0 k0_t7) a + S1x256x256.size a ≤ S32x256x256.size a) ∧
  (∀ k0_t7 : Fin (k0_t7_loop i v1216_0).trips, ∀ a, (k0_off24 i v1216_0 k0_t7) a + S256x128.size a ≤ S8192x128.size a) ∧
  ((k0_t8_loop i v1216_0).OK) ∧
  (∀ k0_t8 : Fin (k0_t8_loop i v1216_0).trips, 256 ∣ (k0_mult28 i v1216_0 k0_t8).toNat) ∧
  (∀ k0_t8 : Fin (k0_t8_loop i v1216_0).trips, ∀ a, (k0_off25 i v1216_0 k0_t8) a + S1x256x256.size a ≤ S32x256x256.size a) ∧
  (∀ k0_t8 : Fin (k0_t8_loop i v1216_0).trips, ∀ a, (k0_off26 i v1216_0 k0_t8) a + S256x128.size a ≤ S8192x128.size a)
theorem k0_t7_ok : ∀ (i : grid0.Coords) (v1216_0 : BitVec 32) (k0_hw8 : k0_chk8 i v1216_0), (k0_t7_loop i v1216_0).OK := fun i v1216_0 k0_hw8 => k0_hw8.1
theorem k0_mult27_dvd : ∀ (i : grid0.Coords) (v1216_0 : BitVec 32) (k0_hw8 : k0_chk8 i v1216_0) (k0_t7 : Fin (k0_t7_loop i v1216_0).trips), 256 ∣ (k0_mult27 i v1216_0 k0_t7).toNat := fun i v1216_0 k0_hw8 k0_t7 => k0_hw8.2.1 k0_t7
theorem k0_off23_inb : ∀ (i : grid0.Coords) (v1216_0 : BitVec 32) (k0_hw8 : k0_chk8 i v1216_0) (k0_t7 : Fin (k0_t7_loop i v1216_0).trips), ∀ a, (k0_off23 i v1216_0 k0_t7) a + S1x256x256.size a ≤ S32x256x256.size a := fun i v1216_0 k0_hw8 k0_t7 => k0_hw8.2.2.1 k0_t7
theorem k0_off24_inb : ∀ (i : grid0.Coords) (v1216_0 : BitVec 32) (k0_hw8 : k0_chk8 i v1216_0) (k0_t7 : Fin (k0_t7_loop i v1216_0).trips), ∀ a, (k0_off24 i v1216_0 k0_t7) a + S256x128.size a ≤ S8192x128.size a := fun i v1216_0 k0_hw8 k0_t7 => k0_hw8.2.2.2.1 k0_t7
theorem k0_t8_ok : ∀ (i : grid0.Coords) (v1216_0 : BitVec 32) (k0_hw8 : k0_chk8 i v1216_0), (k0_t8_loop i v1216_0).OK := fun i v1216_0 k0_hw8 => k0_hw8.2.2.2.2.1
theorem k0_mult28_dvd : ∀ (i : grid0.Coords) (v1216_0 : BitVec 32) (k0_hw8 : k0_chk8 i v1216_0) (k0_t8 : Fin (k0_t8_loop i v1216_0).trips), 256 ∣ (k0_mult28 i v1216_0 k0_t8).toNat := fun i v1216_0 k0_hw8 k0_t8 => k0_hw8.2.2.2.2.2.1 k0_t8
theorem k0_off25_inb : ∀ (i : grid0.Coords) (v1216_0 : BitVec 32) (k0_hw8 : k0_chk8 i v1216_0) (k0_t8 : Fin (k0_t8_loop i v1216_0).trips), ∀ a, (k0_off25 i v1216_0 k0_t8) a + S1x256x256.size a ≤ S32x256x256.size a := fun i v1216_0 k0_hw8 k0_t8 => k0_hw8.2.2.2.2.2.2.1 k0_t8
theorem k0_off26_inb : ∀ (i : grid0.Coords) (v1216_0 : BitVec 32) (k0_hw8 : k0_chk8 i v1216_0) (k0_t8 : Fin (k0_t8_loop i v1216_0).trips), ∀ a, (k0_off26 i v1216_0 k0_t8) a + S256x128.size a ≤ S8192x128.size a := fun i v1216_0 k0_hw8 k0_t8 => k0_hw8.2.2.2.2.2.2.2 k0_t8

def k0_mult29 (arg15 : BitVec 32) : BitVec 32 :=
  let c256_i32_886 : BitVec 32 := 256#32
  let v2003 : BitVec 32 := Scalar.muli arg15 c256_i32_886
  v2003

def k0_off27 (arg15 : BitVec 32) : Fin 2 → Nat :=
  let c256_i32_886 : BitVec 32 := 256#32
  let v2003 : BitVec 32 := Scalar.muli arg15 c256_i32_886
  let v2004 : BitVec 32 := v2003
  let v2005 : Index := Scalar.indexCast v2004
  let c0_887 : Index := 0#32
  ![v2005.toNat, 0]
def k0_off28 (arg15 : BitVec 32) : Fin 3 → Nat :=
  let v2043 : Index := Scalar.indexCast arg15
  let c0_897 : Index := 0#32
  let c0_898 : Index := 0#32
  ![v2043.toNat, 0, 0]

def k0_chk9 (arg15 : BitVec 32) : Prop :=
  (256 ∣ (k0_mult29 arg15).toNat) ∧
  (∀ a, (k0_off27 arg15) a + S256x128.size a ≤ S8192x128.size a) ∧
  (∀ a, (k0_off28 arg15) a + S1x256x256.size a ≤ S32x256x256.size a)
theorem k0_mult29_dvd : ∀ (arg15 : BitVec 32) (k0_hw9 : k0_chk9 arg15), 256 ∣ (k0_mult29 arg15).toNat := fun arg15 k0_hw9 => k0_hw9.1
theorem k0_off27_inb : ∀ (arg15 : BitVec 32) (k0_hw9 : k0_chk9 arg15), ∀ a, (k0_off27 arg15) a + S256x128.size a ≤ S8192x128.size a := fun arg15 k0_hw9 => k0_hw9.2.1
theorem k0_off28_inb : ∀ (arg15 : BitVec 32) (k0_hw9 : k0_chk9 arg15), ∀ a, (k0_off28 arg15) a + S1x256x256.size a ≤ S32x256x256.size a := fun arg15 k0_hw9 => k0_hw9.2.2

@[reducible] def k0_t9_loop (i : grid0.Coords) (v1235_0 : BitVec 32) : Scf.Loop 32 :=
  let c1_i32_535 : BitVec 32 := 1#32
  let v1236 : BitVec 32 := Scalar.addi v1235_0 c1_i32_535
  let arg1 : BitVec 32 := BitVec.ofNat 32 (i 1).val
  let c8_i32_248 : BitVec 32 := 8#32
  let v584 : BitVec 32 := Scalar.muli arg1 c8_i32_248
  let c4_i32 : BitVec 32 := 4#32
  let v585 : BitVec 32 := Scalar.addi v584 c4_i32
  let c1_i32_536 : BitVec 32 := 1#32
  let v1237 : BitVec 32 := Scalar.subi v585 c1_i32_536
  let v1240 : BitVec 32 := Scalar.subi v1237 v1236
  let c1_i32_539 : BitVec 32 := 1#32
  let v1242 : BitVec 32 := Scalar.divsi v1240 c1_i32_539
  let v1243 : BitVec 32 := Scalar.muli v1242 c1_i32_539
  let v1244 : BitVec 32 := Scalar.addi v1236 v1243
  let c1_i32_540 : BitVec 32 := 1#32
  ⟨v1236, v1244, c1_i32_540⟩

def k0_mult30 (i : grid0.Coords) (v1235_0 : BitVec 32) (k0_t9 : Fin (k0_t9_loop i v1235_0).trips) : BitVec 32 :=
  let c1_i32_535 : BitVec 32 := 1#32
  let v1236 : BitVec 32 := Scalar.addi v1235_0 c1_i32_535
  let c1_i32_540 : BitVec 32 := 1#32
  let arg15 : BitVec 32 := Scf.iv v1236 c1_i32_540 k0_t9
  let c256_i32_886 : BitVec 32 := 256#32
  let v2003 : BitVec 32 := Scalar.muli arg15 c256_i32_886
  v2003
def k0_off29 (i : grid0.Coords) (v1235_0 : BitVec 32) (k0_t9 : Fin (k0_t9_loop i v1235_0).trips) : Fin 3 → Nat :=
  let c1_i32_535 : BitVec 32 := 1#32
  let v1236 : BitVec 32 := Scalar.addi v1235_0 c1_i32_535
  let c1_i32_540 : BitVec 32 := 1#32
  let arg15 : BitVec 32 := Scf.iv v1236 c1_i32_540 k0_t9
  let v2005 : Index := Scalar.indexCast arg15
  let c0_887 : Index := 0#32
  let c0_888 : Index := 0#32
  ![v2005.toNat, 0, 0]
def k0_off30 (i : grid0.Coords) (v1235_0 : BitVec 32) (k0_t9 : Fin (k0_t9_loop i v1235_0).trips) : Fin 2 → Nat :=
  let c1_i32_535 : BitVec 32 := 1#32
  let v1236 : BitVec 32 := Scalar.addi v1235_0 c1_i32_535
  let c1_i32_540 : BitVec 32 := 1#32
  let arg15 : BitVec 32 := Scf.iv v1236 c1_i32_540 k0_t9
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]
@[reducible] def k0_t10_loop (i : grid0.Coords) (v1235_0 : BitVec 32) : Scf.Loop 32 :=
  let c1_i32_535 : BitVec 32 := 1#32
  let v1236 : BitVec 32 := Scalar.addi v1235_0 c1_i32_535
  let arg1 : BitVec 32 := BitVec.ofNat 32 (i 1).val
  let c8_i32_248 : BitVec 32 := 8#32
  let v584 : BitVec 32 := Scalar.muli arg1 c8_i32_248
  let c4_i32 : BitVec 32 := 4#32
  let v585 : BitVec 32 := Scalar.addi v584 c4_i32
  let c1_i32_536 : BitVec 32 := 1#32
  let v1237 : BitVec 32 := Scalar.subi v585 c1_i32_536
  let v1240 : BitVec 32 := Scalar.subi v1237 v1236
  let c1_i32_539 : BitVec 32 := 1#32
  let v1242 : BitVec 32 := Scalar.divsi v1240 c1_i32_539
  let v1243 : BitVec 32 := Scalar.muli v1242 c1_i32_539
  let v1244 : BitVec 32 := Scalar.addi v1236 v1243
  let v1241 : BitVec 32 := Scalar.addi v1236 v1240
  let c1_i32_541 : BitVec 32 := 1#32
  ⟨v1244, v1241, c1_i32_541⟩
def k0_mult31 (i : grid0.Coords) (v1235_0 : BitVec 32) (k0_t10 : Fin (k0_t10_loop i v1235_0).trips) : BitVec 32 :=
  let c1_i32_535 : BitVec 32 := 1#32
  let v1236 : BitVec 32 := Scalar.addi v1235_0 c1_i32_535
  let arg1 : BitVec 32 := BitVec.ofNat 32 (i 1).val
  let c8_i32_248 : BitVec 32 := 8#32
  let v584 : BitVec 32 := Scalar.muli arg1 c8_i32_248
  let c4_i32 : BitVec 32 := 4#32
  let v585 : BitVec 32 := Scalar.addi v584 c4_i32
  let c1_i32_536 : BitVec 32 := 1#32
  let v1237 : BitVec 32 := Scalar.subi v585 c1_i32_536
  let v1240 : BitVec 32 := Scalar.subi v1237 v1236
  let c1_i32_539 : BitVec 32 := 1#32
  let v1242 : BitVec 32 := Scalar.divsi v1240 c1_i32_539
  let v1243 : BitVec 32 := Scalar.muli v1242 c1_i32_539
  let v1244 : BitVec 32 := Scalar.addi v1236 v1243
  let c1_i32_541 : BitVec 32 := 1#32
  let arg15 : BitVec 32 := Scf.iv v1244 c1_i32_541 k0_t10
  let c256_i32_886 : BitVec 32 := 256#32
  let v2003 : BitVec 32 := Scalar.muli arg15 c256_i32_886
  v2003
def k0_off31 (i : grid0.Coords) (v1235_0 : BitVec 32) (k0_t10 : Fin (k0_t10_loop i v1235_0).trips) : Fin 3 → Nat :=
  let c1_i32_535 : BitVec 32 := 1#32
  let v1236 : BitVec 32 := Scalar.addi v1235_0 c1_i32_535
  let arg1 : BitVec 32 := BitVec.ofNat 32 (i 1).val
  let c8_i32_248 : BitVec 32 := 8#32
  let v584 : BitVec 32 := Scalar.muli arg1 c8_i32_248
  let c4_i32 : BitVec 32 := 4#32
  let v585 : BitVec 32 := Scalar.addi v584 c4_i32
  let c1_i32_536 : BitVec 32 := 1#32
  let v1237 : BitVec 32 := Scalar.subi v585 c1_i32_536
  let v1240 : BitVec 32 := Scalar.subi v1237 v1236
  let c1_i32_539 : BitVec 32 := 1#32
  let v1242 : BitVec 32 := Scalar.divsi v1240 c1_i32_539
  let v1243 : BitVec 32 := Scalar.muli v1242 c1_i32_539
  let v1244 : BitVec 32 := Scalar.addi v1236 v1243
  let c1_i32_541 : BitVec 32 := 1#32
  let arg15 : BitVec 32 := Scf.iv v1244 c1_i32_541 k0_t10
  let v2005 : Index := Scalar.indexCast arg15
  let c0_887 : Index := 0#32
  let c0_888 : Index := 0#32
  ![v2005.toNat, 0, 0]
def k0_off32 (i : grid0.Coords) (v1235_0 : BitVec 32) (k0_t10 : Fin (k0_t10_loop i v1235_0).trips) : Fin 2 → Nat :=
  let c1_i32_535 : BitVec 32 := 1#32
  let v1236 : BitVec 32 := Scalar.addi v1235_0 c1_i32_535
  let arg1 : BitVec 32 := BitVec.ofNat 32 (i 1).val
  let c8_i32_248 : BitVec 32 := 8#32
  let v584 : BitVec 32 := Scalar.muli arg1 c8_i32_248
  let c4_i32 : BitVec 32 := 4#32
  let v585 : BitVec 32 := Scalar.addi v584 c4_i32
  let c1_i32_536 : BitVec 32 := 1#32
  let v1237 : BitVec 32 := Scalar.subi v585 c1_i32_536
  let v1240 : BitVec 32 := Scalar.subi v1237 v1236
  let c1_i32_539 : BitVec 32 := 1#32
  let v1242 : BitVec 32 := Scalar.divsi v1240 c1_i32_539
  let v1243 : BitVec 32 := Scalar.muli v1242 c1_i32_539
  let v1244 : BitVec 32 := Scalar.addi v1236 v1243
  let c1_i32_541 : BitVec 32 := 1#32
  let arg15 : BitVec 32 := Scf.iv v1244 c1_i32_541 k0_t10
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]

def k0_chk10 (i : grid0.Coords) (v1235_0 : BitVec 32) : Prop :=
  ((k0_t9_loop i v1235_0).OK) ∧
  (∀ k0_t9 : Fin (k0_t9_loop i v1235_0).trips, 256 ∣ (k0_mult30 i v1235_0 k0_t9).toNat) ∧
  (∀ k0_t9 : Fin (k0_t9_loop i v1235_0).trips, ∀ a, (k0_off29 i v1235_0 k0_t9) a + S1x256x256.size a ≤ S32x256x256.size a) ∧
  (∀ k0_t9 : Fin (k0_t9_loop i v1235_0).trips, ∀ a, (k0_off30 i v1235_0 k0_t9) a + S256x128.size a ≤ S8192x128.size a) ∧
  ((k0_t10_loop i v1235_0).OK) ∧
  (∀ k0_t10 : Fin (k0_t10_loop i v1235_0).trips, 256 ∣ (k0_mult31 i v1235_0 k0_t10).toNat) ∧
  (∀ k0_t10 : Fin (k0_t10_loop i v1235_0).trips, ∀ a, (k0_off31 i v1235_0 k0_t10) a + S1x256x256.size a ≤ S32x256x256.size a) ∧
  (∀ k0_t10 : Fin (k0_t10_loop i v1235_0).trips, ∀ a, (k0_off32 i v1235_0 k0_t10) a + S256x128.size a ≤ S8192x128.size a)
theorem k0_t9_ok : ∀ (i : grid0.Coords) (v1235_0 : BitVec 32) (k0_hw10 : k0_chk10 i v1235_0), (k0_t9_loop i v1235_0).OK := fun i v1235_0 k0_hw10 => k0_hw10.1
theorem k0_mult30_dvd : ∀ (i : grid0.Coords) (v1235_0 : BitVec 32) (k0_hw10 : k0_chk10 i v1235_0) (k0_t9 : Fin (k0_t9_loop i v1235_0).trips), 256 ∣ (k0_mult30 i v1235_0 k0_t9).toNat := fun i v1235_0 k0_hw10 k0_t9 => k0_hw10.2.1 k0_t9
theorem k0_off29_inb : ∀ (i : grid0.Coords) (v1235_0 : BitVec 32) (k0_hw10 : k0_chk10 i v1235_0) (k0_t9 : Fin (k0_t9_loop i v1235_0).trips), ∀ a, (k0_off29 i v1235_0 k0_t9) a + S1x256x256.size a ≤ S32x256x256.size a := fun i v1235_0 k0_hw10 k0_t9 => k0_hw10.2.2.1 k0_t9
theorem k0_off30_inb : ∀ (i : grid0.Coords) (v1235_0 : BitVec 32) (k0_hw10 : k0_chk10 i v1235_0) (k0_t9 : Fin (k0_t9_loop i v1235_0).trips), ∀ a, (k0_off30 i v1235_0 k0_t9) a + S256x128.size a ≤ S8192x128.size a := fun i v1235_0 k0_hw10 k0_t9 => k0_hw10.2.2.2.1 k0_t9
theorem k0_t10_ok : ∀ (i : grid0.Coords) (v1235_0 : BitVec 32) (k0_hw10 : k0_chk10 i v1235_0), (k0_t10_loop i v1235_0).OK := fun i v1235_0 k0_hw10 => k0_hw10.2.2.2.2.1
theorem k0_mult31_dvd : ∀ (i : grid0.Coords) (v1235_0 : BitVec 32) (k0_hw10 : k0_chk10 i v1235_0) (k0_t10 : Fin (k0_t10_loop i v1235_0).trips), 256 ∣ (k0_mult31 i v1235_0 k0_t10).toNat := fun i v1235_0 k0_hw10 k0_t10 => k0_hw10.2.2.2.2.2.1 k0_t10
theorem k0_off31_inb : ∀ (i : grid0.Coords) (v1235_0 : BitVec 32) (k0_hw10 : k0_chk10 i v1235_0) (k0_t10 : Fin (k0_t10_loop i v1235_0).trips), ∀ a, (k0_off31 i v1235_0 k0_t10) a + S1x256x256.size a ≤ S32x256x256.size a := fun i v1235_0 k0_hw10 k0_t10 => k0_hw10.2.2.2.2.2.2.1 k0_t10
theorem k0_off32_inb : ∀ (i : grid0.Coords) (v1235_0 : BitVec 32) (k0_hw10 : k0_chk10 i v1235_0) (k0_t10 : Fin (k0_t10_loop i v1235_0).trips), ∀ a, (k0_off32 i v1235_0 k0_t10) a + S256x128.size a ≤ S8192x128.size a := fun i v1235_0 k0_hw10 k0_t10 => k0_hw10.2.2.2.2.2.2.2 k0_t10

def k0_mult32 (arg15 : BitVec 32) : BitVec 32 :=
  let c256_i32_886 : BitVec 32 := 256#32
  let v2003 : BitVec 32 := Scalar.muli arg15 c256_i32_886
  v2003

def k0_off33 (arg15 : BitVec 32) : Fin 2 → Nat :=
  let c256_i32_886 : BitVec 32 := 256#32
  let v2003 : BitVec 32 := Scalar.muli arg15 c256_i32_886
  let v2004 : BitVec 32 := v2003
  let v2005 : Index := Scalar.indexCast v2004
  let c0_887 : Index := 0#32
  ![v2005.toNat, 0]
def k0_off34 (arg15 : BitVec 32) : Fin 3 → Nat :=
  let v2043 : Index := Scalar.indexCast arg15
  let c0_897 : Index := 0#32
  let c0_898 : Index := 0#32
  ![v2043.toNat, 0, 0]

def k0_chk11 (arg15 : BitVec 32) : Prop :=
  (256 ∣ (k0_mult32 arg15).toNat) ∧
  (∀ a, (k0_off33 arg15) a + S256x128.size a ≤ S8192x128.size a) ∧
  (∀ a, (k0_off34 arg15) a + S1x256x256.size a ≤ S32x256x256.size a)
theorem k0_mult32_dvd : ∀ (arg15 : BitVec 32) (k0_hw11 : k0_chk11 arg15), 256 ∣ (k0_mult32 arg15).toNat := fun arg15 k0_hw11 => k0_hw11.1
theorem k0_off33_inb : ∀ (arg15 : BitVec 32) (k0_hw11 : k0_chk11 arg15), ∀ a, (k0_off33 arg15) a + S256x128.size a ≤ S8192x128.size a := fun arg15 k0_hw11 => k0_hw11.2.1
theorem k0_off34_inb : ∀ (arg15 : BitVec 32) (k0_hw11 : k0_chk11 arg15), ∀ a, (k0_off34 arg15) a + S1x256x256.size a ≤ S32x256x256.size a := fun arg15 k0_hw11 => k0_hw11.2.2

@[reducible] def k0_t11_loop (i : grid0.Coords) (v1254_0 : BitVec 32) : Scf.Loop 32 :=
  let c1_i32_545 : BitVec 32 := 1#32
  let v1255 : BitVec 32 := Scalar.addi v1254_0 c1_i32_545
  let arg1 : BitVec 32 := BitVec.ofNat 32 (i 1).val
  let c8_i32_309 : BitVec 32 := 8#32
  let v726 : BitVec 32 := Scalar.muli arg1 c8_i32_309
  let c5_i32 : BitVec 32 := 5#32
  let v727 : BitVec 32 := Scalar.addi v726 c5_i32
  let c1_i32_546 : BitVec 32 := 1#32
  let v1256 : BitVec 32 := Scalar.subi v727 c1_i32_546
  let v1259 : BitVec 32 := Scalar.subi v1256 v1255
  let c1_i32_549 : BitVec 32 := 1#32
  let v1261 : BitVec 32 := Scalar.divsi v1259 c1_i32_549
  let v1262 : BitVec 32 := Scalar.muli v1261 c1_i32_549
  let v1263 : BitVec 32 := Scalar.addi v1255 v1262
  let c1_i32_550 : BitVec 32 := 1#32
  ⟨v1255, v1263, c1_i32_550⟩

def k0_mult33 (i : grid0.Coords) (v1254_0 : BitVec 32) (k0_t11 : Fin (k0_t11_loop i v1254_0).trips) : BitVec 32 :=
  let c1_i32_545 : BitVec 32 := 1#32
  let v1255 : BitVec 32 := Scalar.addi v1254_0 c1_i32_545
  let c1_i32_550 : BitVec 32 := 1#32
  let arg15 : BitVec 32 := Scf.iv v1255 c1_i32_550 k0_t11
  let c256_i32_886 : BitVec 32 := 256#32
  let v2003 : BitVec 32 := Scalar.muli arg15 c256_i32_886
  v2003
def k0_off35 (i : grid0.Coords) (v1254_0 : BitVec 32) (k0_t11 : Fin (k0_t11_loop i v1254_0).trips) : Fin 3 → Nat :=
  let c1_i32_545 : BitVec 32 := 1#32
  let v1255 : BitVec 32 := Scalar.addi v1254_0 c1_i32_545
  let c1_i32_550 : BitVec 32 := 1#32
  let arg15 : BitVec 32 := Scf.iv v1255 c1_i32_550 k0_t11
  let v2005 : Index := Scalar.indexCast arg15
  let c0_887 : Index := 0#32
  let c0_888 : Index := 0#32
  ![v2005.toNat, 0, 0]
def k0_off36 (i : grid0.Coords) (v1254_0 : BitVec 32) (k0_t11 : Fin (k0_t11_loop i v1254_0).trips) : Fin 2 → Nat :=
  let c1_i32_545 : BitVec 32 := 1#32
  let v1255 : BitVec 32 := Scalar.addi v1254_0 c1_i32_545
  let c1_i32_550 : BitVec 32 := 1#32
  let arg15 : BitVec 32 := Scf.iv v1255 c1_i32_550 k0_t11
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]
@[reducible] def k0_t12_loop (i : grid0.Coords) (v1254_0 : BitVec 32) : Scf.Loop 32 :=
  let c1_i32_545 : BitVec 32 := 1#32
  let v1255 : BitVec 32 := Scalar.addi v1254_0 c1_i32_545
  let arg1 : BitVec 32 := BitVec.ofNat 32 (i 1).val
  let c8_i32_309 : BitVec 32 := 8#32
  let v726 : BitVec 32 := Scalar.muli arg1 c8_i32_309
  let c5_i32 : BitVec 32 := 5#32
  let v727 : BitVec 32 := Scalar.addi v726 c5_i32
  let c1_i32_546 : BitVec 32 := 1#32
  let v1256 : BitVec 32 := Scalar.subi v727 c1_i32_546
  let v1259 : BitVec 32 := Scalar.subi v1256 v1255
  let c1_i32_549 : BitVec 32 := 1#32
  let v1261 : BitVec 32 := Scalar.divsi v1259 c1_i32_549
  let v1262 : BitVec 32 := Scalar.muli v1261 c1_i32_549
  let v1263 : BitVec 32 := Scalar.addi v1255 v1262
  let v1260 : BitVec 32 := Scalar.addi v1255 v1259
  let c1_i32_551 : BitVec 32 := 1#32
  ⟨v1263, v1260, c1_i32_551⟩
def k0_mult34 (i : grid0.Coords) (v1254_0 : BitVec 32) (k0_t12 : Fin (k0_t12_loop i v1254_0).trips) : BitVec 32 :=
  let c1_i32_545 : BitVec 32 := 1#32
  let v1255 : BitVec 32 := Scalar.addi v1254_0 c1_i32_545
  let arg1 : BitVec 32 := BitVec.ofNat 32 (i 1).val
  let c8_i32_309 : BitVec 32 := 8#32
  let v726 : BitVec 32 := Scalar.muli arg1 c8_i32_309
  let c5_i32 : BitVec 32 := 5#32
  let v727 : BitVec 32 := Scalar.addi v726 c5_i32
  let c1_i32_546 : BitVec 32 := 1#32
  let v1256 : BitVec 32 := Scalar.subi v727 c1_i32_546
  let v1259 : BitVec 32 := Scalar.subi v1256 v1255
  let c1_i32_549 : BitVec 32 := 1#32
  let v1261 : BitVec 32 := Scalar.divsi v1259 c1_i32_549
  let v1262 : BitVec 32 := Scalar.muli v1261 c1_i32_549
  let v1263 : BitVec 32 := Scalar.addi v1255 v1262
  let c1_i32_551 : BitVec 32 := 1#32
  let arg15 : BitVec 32 := Scf.iv v1263 c1_i32_551 k0_t12
  let c256_i32_886 : BitVec 32 := 256#32
  let v2003 : BitVec 32 := Scalar.muli arg15 c256_i32_886
  v2003
def k0_off37 (i : grid0.Coords) (v1254_0 : BitVec 32) (k0_t12 : Fin (k0_t12_loop i v1254_0).trips) : Fin 3 → Nat :=
  let c1_i32_545 : BitVec 32 := 1#32
  let v1255 : BitVec 32 := Scalar.addi v1254_0 c1_i32_545
  let arg1 : BitVec 32 := BitVec.ofNat 32 (i 1).val
  let c8_i32_309 : BitVec 32 := 8#32
  let v726 : BitVec 32 := Scalar.muli arg1 c8_i32_309
  let c5_i32 : BitVec 32 := 5#32
  let v727 : BitVec 32 := Scalar.addi v726 c5_i32
  let c1_i32_546 : BitVec 32 := 1#32
  let v1256 : BitVec 32 := Scalar.subi v727 c1_i32_546
  let v1259 : BitVec 32 := Scalar.subi v1256 v1255
  let c1_i32_549 : BitVec 32 := 1#32
  let v1261 : BitVec 32 := Scalar.divsi v1259 c1_i32_549
  let v1262 : BitVec 32 := Scalar.muli v1261 c1_i32_549
  let v1263 : BitVec 32 := Scalar.addi v1255 v1262
  let c1_i32_551 : BitVec 32 := 1#32
  let arg15 : BitVec 32 := Scf.iv v1263 c1_i32_551 k0_t12
  let v2005 : Index := Scalar.indexCast arg15
  let c0_887 : Index := 0#32
  let c0_888 : Index := 0#32
  ![v2005.toNat, 0, 0]
def k0_off38 (i : grid0.Coords) (v1254_0 : BitVec 32) (k0_t12 : Fin (k0_t12_loop i v1254_0).trips) : Fin 2 → Nat :=
  let c1_i32_545 : BitVec 32 := 1#32
  let v1255 : BitVec 32 := Scalar.addi v1254_0 c1_i32_545
  let arg1 : BitVec 32 := BitVec.ofNat 32 (i 1).val
  let c8_i32_309 : BitVec 32 := 8#32
  let v726 : BitVec 32 := Scalar.muli arg1 c8_i32_309
  let c5_i32 : BitVec 32 := 5#32
  let v727 : BitVec 32 := Scalar.addi v726 c5_i32
  let c1_i32_546 : BitVec 32 := 1#32
  let v1256 : BitVec 32 := Scalar.subi v727 c1_i32_546
  let v1259 : BitVec 32 := Scalar.subi v1256 v1255
  let c1_i32_549 : BitVec 32 := 1#32
  let v1261 : BitVec 32 := Scalar.divsi v1259 c1_i32_549
  let v1262 : BitVec 32 := Scalar.muli v1261 c1_i32_549
  let v1263 : BitVec 32 := Scalar.addi v1255 v1262
  let c1_i32_551 : BitVec 32 := 1#32
  let arg15 : BitVec 32 := Scf.iv v1263 c1_i32_551 k0_t12
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]

def k0_chk12 (i : grid0.Coords) (v1254_0 : BitVec 32) : Prop :=
  ((k0_t11_loop i v1254_0).OK) ∧
  (∀ k0_t11 : Fin (k0_t11_loop i v1254_0).trips, 256 ∣ (k0_mult33 i v1254_0 k0_t11).toNat) ∧
  (∀ k0_t11 : Fin (k0_t11_loop i v1254_0).trips, ∀ a, (k0_off35 i v1254_0 k0_t11) a + S1x256x256.size a ≤ S32x256x256.size a) ∧
  (∀ k0_t11 : Fin (k0_t11_loop i v1254_0).trips, ∀ a, (k0_off36 i v1254_0 k0_t11) a + S256x128.size a ≤ S8192x128.size a) ∧
  ((k0_t12_loop i v1254_0).OK) ∧
  (∀ k0_t12 : Fin (k0_t12_loop i v1254_0).trips, 256 ∣ (k0_mult34 i v1254_0 k0_t12).toNat) ∧
  (∀ k0_t12 : Fin (k0_t12_loop i v1254_0).trips, ∀ a, (k0_off37 i v1254_0 k0_t12) a + S1x256x256.size a ≤ S32x256x256.size a) ∧
  (∀ k0_t12 : Fin (k0_t12_loop i v1254_0).trips, ∀ a, (k0_off38 i v1254_0 k0_t12) a + S256x128.size a ≤ S8192x128.size a)
theorem k0_t11_ok : ∀ (i : grid0.Coords) (v1254_0 : BitVec 32) (k0_hw12 : k0_chk12 i v1254_0), (k0_t11_loop i v1254_0).OK := fun i v1254_0 k0_hw12 => k0_hw12.1
theorem k0_mult33_dvd : ∀ (i : grid0.Coords) (v1254_0 : BitVec 32) (k0_hw12 : k0_chk12 i v1254_0) (k0_t11 : Fin (k0_t11_loop i v1254_0).trips), 256 ∣ (k0_mult33 i v1254_0 k0_t11).toNat := fun i v1254_0 k0_hw12 k0_t11 => k0_hw12.2.1 k0_t11
theorem k0_off35_inb : ∀ (i : grid0.Coords) (v1254_0 : BitVec 32) (k0_hw12 : k0_chk12 i v1254_0) (k0_t11 : Fin (k0_t11_loop i v1254_0).trips), ∀ a, (k0_off35 i v1254_0 k0_t11) a + S1x256x256.size a ≤ S32x256x256.size a := fun i v1254_0 k0_hw12 k0_t11 => k0_hw12.2.2.1 k0_t11
theorem k0_off36_inb : ∀ (i : grid0.Coords) (v1254_0 : BitVec 32) (k0_hw12 : k0_chk12 i v1254_0) (k0_t11 : Fin (k0_t11_loop i v1254_0).trips), ∀ a, (k0_off36 i v1254_0 k0_t11) a + S256x128.size a ≤ S8192x128.size a := fun i v1254_0 k0_hw12 k0_t11 => k0_hw12.2.2.2.1 k0_t11
theorem k0_t12_ok : ∀ (i : grid0.Coords) (v1254_0 : BitVec 32) (k0_hw12 : k0_chk12 i v1254_0), (k0_t12_loop i v1254_0).OK := fun i v1254_0 k0_hw12 => k0_hw12.2.2.2.2.1
theorem k0_mult34_dvd : ∀ (i : grid0.Coords) (v1254_0 : BitVec 32) (k0_hw12 : k0_chk12 i v1254_0) (k0_t12 : Fin (k0_t12_loop i v1254_0).trips), 256 ∣ (k0_mult34 i v1254_0 k0_t12).toNat := fun i v1254_0 k0_hw12 k0_t12 => k0_hw12.2.2.2.2.2.1 k0_t12
theorem k0_off37_inb : ∀ (i : grid0.Coords) (v1254_0 : BitVec 32) (k0_hw12 : k0_chk12 i v1254_0) (k0_t12 : Fin (k0_t12_loop i v1254_0).trips), ∀ a, (k0_off37 i v1254_0 k0_t12) a + S1x256x256.size a ≤ S32x256x256.size a := fun i v1254_0 k0_hw12 k0_t12 => k0_hw12.2.2.2.2.2.2.1 k0_t12
theorem k0_off38_inb : ∀ (i : grid0.Coords) (v1254_0 : BitVec 32) (k0_hw12 : k0_chk12 i v1254_0) (k0_t12 : Fin (k0_t12_loop i v1254_0).trips), ∀ a, (k0_off38 i v1254_0 k0_t12) a + S256x128.size a ≤ S8192x128.size a := fun i v1254_0 k0_hw12 k0_t12 => k0_hw12.2.2.2.2.2.2.2 k0_t12

def k0_mult35 (arg15 : BitVec 32) : BitVec 32 :=
  let c256_i32_886 : BitVec 32 := 256#32
  let v2003 : BitVec 32 := Scalar.muli arg15 c256_i32_886
  v2003

def k0_off39 (arg15 : BitVec 32) : Fin 2 → Nat :=
  let c256_i32_886 : BitVec 32 := 256#32
  let v2003 : BitVec 32 := Scalar.muli arg15 c256_i32_886
  let v2004 : BitVec 32 := v2003
  let v2005 : Index := Scalar.indexCast v2004
  let c0_887 : Index := 0#32
  ![v2005.toNat, 0]
def k0_off40 (arg15 : BitVec 32) : Fin 3 → Nat :=
  let v2043 : Index := Scalar.indexCast arg15
  let c0_897 : Index := 0#32
  let c0_898 : Index := 0#32
  ![v2043.toNat, 0, 0]

def k0_chk13 (arg15 : BitVec 32) : Prop :=
  (256 ∣ (k0_mult35 arg15).toNat) ∧
  (∀ a, (k0_off39 arg15) a + S256x128.size a ≤ S8192x128.size a) ∧
  (∀ a, (k0_off40 arg15) a + S1x256x256.size a ≤ S32x256x256.size a)
theorem k0_mult35_dvd : ∀ (arg15 : BitVec 32) (k0_hw13 : k0_chk13 arg15), 256 ∣ (k0_mult35 arg15).toNat := fun arg15 k0_hw13 => k0_hw13.1
theorem k0_off39_inb : ∀ (arg15 : BitVec 32) (k0_hw13 : k0_chk13 arg15), ∀ a, (k0_off39 arg15) a + S256x128.size a ≤ S8192x128.size a := fun arg15 k0_hw13 => k0_hw13.2.1
theorem k0_off40_inb : ∀ (arg15 : BitVec 32) (k0_hw13 : k0_chk13 arg15), ∀ a, (k0_off40 arg15) a + S1x256x256.size a ≤ S32x256x256.size a := fun arg15 k0_hw13 => k0_hw13.2.2

@[reducible] def k0_t13_loop (i : grid0.Coords) (v1273_0 : BitVec 32) : Scf.Loop 32 :=
  let c1_i32_555 : BitVec 32 := 1#32
  let v1274 : BitVec 32 := Scalar.addi v1273_0 c1_i32_555
  let arg1 : BitVec 32 := BitVec.ofNat 32 (i 1).val
  let c8_i32_370 : BitVec 32 := 8#32
  let v868 : BitVec 32 := Scalar.muli arg1 c8_i32_370
  let c6_i32 : BitVec 32 := 6#32
  let v869 : BitVec 32 := Scalar.addi v868 c6_i32
  let c1_i32_556 : BitVec 32 := 1#32
  let v1275 : BitVec 32 := Scalar.subi v869 c1_i32_556
  let v1278 : BitVec 32 := Scalar.subi v1275 v1274
  let c1_i32_559 : BitVec 32 := 1#32
  let v1280 : BitVec 32 := Scalar.divsi v1278 c1_i32_559
  let v1281 : BitVec 32 := Scalar.muli v1280 c1_i32_559
  let v1282 : BitVec 32 := Scalar.addi v1274 v1281
  let c1_i32_560 : BitVec 32 := 1#32
  ⟨v1274, v1282, c1_i32_560⟩

def k0_mult36 (i : grid0.Coords) (v1273_0 : BitVec 32) (k0_t13 : Fin (k0_t13_loop i v1273_0).trips) : BitVec 32 :=
  let c1_i32_555 : BitVec 32 := 1#32
  let v1274 : BitVec 32 := Scalar.addi v1273_0 c1_i32_555
  let c1_i32_560 : BitVec 32 := 1#32
  let arg15 : BitVec 32 := Scf.iv v1274 c1_i32_560 k0_t13
  let c256_i32_886 : BitVec 32 := 256#32
  let v2003 : BitVec 32 := Scalar.muli arg15 c256_i32_886
  v2003
def k0_off41 (i : grid0.Coords) (v1273_0 : BitVec 32) (k0_t13 : Fin (k0_t13_loop i v1273_0).trips) : Fin 3 → Nat :=
  let c1_i32_555 : BitVec 32 := 1#32
  let v1274 : BitVec 32 := Scalar.addi v1273_0 c1_i32_555
  let c1_i32_560 : BitVec 32 := 1#32
  let arg15 : BitVec 32 := Scf.iv v1274 c1_i32_560 k0_t13
  let v2005 : Index := Scalar.indexCast arg15
  let c0_887 : Index := 0#32
  let c0_888 : Index := 0#32
  ![v2005.toNat, 0, 0]
def k0_off42 (i : grid0.Coords) (v1273_0 : BitVec 32) (k0_t13 : Fin (k0_t13_loop i v1273_0).trips) : Fin 2 → Nat :=
  let c1_i32_555 : BitVec 32 := 1#32
  let v1274 : BitVec 32 := Scalar.addi v1273_0 c1_i32_555
  let c1_i32_560 : BitVec 32 := 1#32
  let arg15 : BitVec 32 := Scf.iv v1274 c1_i32_560 k0_t13
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]
@[reducible] def k0_t14_loop (i : grid0.Coords) (v1273_0 : BitVec 32) : Scf.Loop 32 :=
  let c1_i32_555 : BitVec 32 := 1#32
  let v1274 : BitVec 32 := Scalar.addi v1273_0 c1_i32_555
  let arg1 : BitVec 32 := BitVec.ofNat 32 (i 1).val
  let c8_i32_370 : BitVec 32 := 8#32
  let v868 : BitVec 32 := Scalar.muli arg1 c8_i32_370
  let c6_i32 : BitVec 32 := 6#32
  let v869 : BitVec 32 := Scalar.addi v868 c6_i32
  let c1_i32_556 : BitVec 32 := 1#32
  let v1275 : BitVec 32 := Scalar.subi v869 c1_i32_556
  let v1278 : BitVec 32 := Scalar.subi v1275 v1274
  let c1_i32_559 : BitVec 32 := 1#32
  let v1280 : BitVec 32 := Scalar.divsi v1278 c1_i32_559
  let v1281 : BitVec 32 := Scalar.muli v1280 c1_i32_559
  let v1282 : BitVec 32 := Scalar.addi v1274 v1281
  let v1279 : BitVec 32 := Scalar.addi v1274 v1278
  let c1_i32_561 : BitVec 32 := 1#32
  ⟨v1282, v1279, c1_i32_561⟩
def k0_mult37 (i : grid0.Coords) (v1273_0 : BitVec 32) (k0_t14 : Fin (k0_t14_loop i v1273_0).trips) : BitVec 32 :=
  let c1_i32_555 : BitVec 32 := 1#32
  let v1274 : BitVec 32 := Scalar.addi v1273_0 c1_i32_555
  let arg1 : BitVec 32 := BitVec.ofNat 32 (i 1).val
  let c8_i32_370 : BitVec 32 := 8#32
  let v868 : BitVec 32 := Scalar.muli arg1 c8_i32_370
  let c6_i32 : BitVec 32 := 6#32
  let v869 : BitVec 32 := Scalar.addi v868 c6_i32
  let c1_i32_556 : BitVec 32 := 1#32
  let v1275 : BitVec 32 := Scalar.subi v869 c1_i32_556
  let v1278 : BitVec 32 := Scalar.subi v1275 v1274
  let c1_i32_559 : BitVec 32 := 1#32
  let v1280 : BitVec 32 := Scalar.divsi v1278 c1_i32_559
  let v1281 : BitVec 32 := Scalar.muli v1280 c1_i32_559
  let v1282 : BitVec 32 := Scalar.addi v1274 v1281
  let c1_i32_561 : BitVec 32 := 1#32
  let arg15 : BitVec 32 := Scf.iv v1282 c1_i32_561 k0_t14
  let c256_i32_886 : BitVec 32 := 256#32
  let v2003 : BitVec 32 := Scalar.muli arg15 c256_i32_886
  v2003
def k0_off43 (i : grid0.Coords) (v1273_0 : BitVec 32) (k0_t14 : Fin (k0_t14_loop i v1273_0).trips) : Fin 3 → Nat :=
  let c1_i32_555 : BitVec 32 := 1#32
  let v1274 : BitVec 32 := Scalar.addi v1273_0 c1_i32_555
  let arg1 : BitVec 32 := BitVec.ofNat 32 (i 1).val
  let c8_i32_370 : BitVec 32 := 8#32
  let v868 : BitVec 32 := Scalar.muli arg1 c8_i32_370
  let c6_i32 : BitVec 32 := 6#32
  let v869 : BitVec 32 := Scalar.addi v868 c6_i32
  let c1_i32_556 : BitVec 32 := 1#32
  let v1275 : BitVec 32 := Scalar.subi v869 c1_i32_556
  let v1278 : BitVec 32 := Scalar.subi v1275 v1274
  let c1_i32_559 : BitVec 32 := 1#32
  let v1280 : BitVec 32 := Scalar.divsi v1278 c1_i32_559
  let v1281 : BitVec 32 := Scalar.muli v1280 c1_i32_559
  let v1282 : BitVec 32 := Scalar.addi v1274 v1281
  let c1_i32_561 : BitVec 32 := 1#32
  let arg15 : BitVec 32 := Scf.iv v1282 c1_i32_561 k0_t14
  let v2005 : Index := Scalar.indexCast arg15
  let c0_887 : Index := 0#32
  let c0_888 : Index := 0#32
  ![v2005.toNat, 0, 0]
def k0_off44 (i : grid0.Coords) (v1273_0 : BitVec 32) (k0_t14 : Fin (k0_t14_loop i v1273_0).trips) : Fin 2 → Nat :=
  let c1_i32_555 : BitVec 32 := 1#32
  let v1274 : BitVec 32 := Scalar.addi v1273_0 c1_i32_555
  let arg1 : BitVec 32 := BitVec.ofNat 32 (i 1).val
  let c8_i32_370 : BitVec 32 := 8#32
  let v868 : BitVec 32 := Scalar.muli arg1 c8_i32_370
  let c6_i32 : BitVec 32 := 6#32
  let v869 : BitVec 32 := Scalar.addi v868 c6_i32
  let c1_i32_556 : BitVec 32 := 1#32
  let v1275 : BitVec 32 := Scalar.subi v869 c1_i32_556
  let v1278 : BitVec 32 := Scalar.subi v1275 v1274
  let c1_i32_559 : BitVec 32 := 1#32
  let v1280 : BitVec 32 := Scalar.divsi v1278 c1_i32_559
  let v1281 : BitVec 32 := Scalar.muli v1280 c1_i32_559
  let v1282 : BitVec 32 := Scalar.addi v1274 v1281
  let c1_i32_561 : BitVec 32 := 1#32
  let arg15 : BitVec 32 := Scf.iv v1282 c1_i32_561 k0_t14
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]

def k0_chk14 (i : grid0.Coords) (v1273_0 : BitVec 32) : Prop :=
  ((k0_t13_loop i v1273_0).OK) ∧
  (∀ k0_t13 : Fin (k0_t13_loop i v1273_0).trips, 256 ∣ (k0_mult36 i v1273_0 k0_t13).toNat) ∧
  (∀ k0_t13 : Fin (k0_t13_loop i v1273_0).trips, ∀ a, (k0_off41 i v1273_0 k0_t13) a + S1x256x256.size a ≤ S32x256x256.size a) ∧
  (∀ k0_t13 : Fin (k0_t13_loop i v1273_0).trips, ∀ a, (k0_off42 i v1273_0 k0_t13) a + S256x128.size a ≤ S8192x128.size a) ∧
  ((k0_t14_loop i v1273_0).OK) ∧
  (∀ k0_t14 : Fin (k0_t14_loop i v1273_0).trips, 256 ∣ (k0_mult37 i v1273_0 k0_t14).toNat) ∧
  (∀ k0_t14 : Fin (k0_t14_loop i v1273_0).trips, ∀ a, (k0_off43 i v1273_0 k0_t14) a + S1x256x256.size a ≤ S32x256x256.size a) ∧
  (∀ k0_t14 : Fin (k0_t14_loop i v1273_0).trips, ∀ a, (k0_off44 i v1273_0 k0_t14) a + S256x128.size a ≤ S8192x128.size a)
theorem k0_t13_ok : ∀ (i : grid0.Coords) (v1273_0 : BitVec 32) (k0_hw14 : k0_chk14 i v1273_0), (k0_t13_loop i v1273_0).OK := fun i v1273_0 k0_hw14 => k0_hw14.1
theorem k0_mult36_dvd : ∀ (i : grid0.Coords) (v1273_0 : BitVec 32) (k0_hw14 : k0_chk14 i v1273_0) (k0_t13 : Fin (k0_t13_loop i v1273_0).trips), 256 ∣ (k0_mult36 i v1273_0 k0_t13).toNat := fun i v1273_0 k0_hw14 k0_t13 => k0_hw14.2.1 k0_t13
theorem k0_off41_inb : ∀ (i : grid0.Coords) (v1273_0 : BitVec 32) (k0_hw14 : k0_chk14 i v1273_0) (k0_t13 : Fin (k0_t13_loop i v1273_0).trips), ∀ a, (k0_off41 i v1273_0 k0_t13) a + S1x256x256.size a ≤ S32x256x256.size a := fun i v1273_0 k0_hw14 k0_t13 => k0_hw14.2.2.1 k0_t13
theorem k0_off42_inb : ∀ (i : grid0.Coords) (v1273_0 : BitVec 32) (k0_hw14 : k0_chk14 i v1273_0) (k0_t13 : Fin (k0_t13_loop i v1273_0).trips), ∀ a, (k0_off42 i v1273_0 k0_t13) a + S256x128.size a ≤ S8192x128.size a := fun i v1273_0 k0_hw14 k0_t13 => k0_hw14.2.2.2.1 k0_t13
theorem k0_t14_ok : ∀ (i : grid0.Coords) (v1273_0 : BitVec 32) (k0_hw14 : k0_chk14 i v1273_0), (k0_t14_loop i v1273_0).OK := fun i v1273_0 k0_hw14 => k0_hw14.2.2.2.2.1
theorem k0_mult37_dvd : ∀ (i : grid0.Coords) (v1273_0 : BitVec 32) (k0_hw14 : k0_chk14 i v1273_0) (k0_t14 : Fin (k0_t14_loop i v1273_0).trips), 256 ∣ (k0_mult37 i v1273_0 k0_t14).toNat := fun i v1273_0 k0_hw14 k0_t14 => k0_hw14.2.2.2.2.2.1 k0_t14
theorem k0_off43_inb : ∀ (i : grid0.Coords) (v1273_0 : BitVec 32) (k0_hw14 : k0_chk14 i v1273_0) (k0_t14 : Fin (k0_t14_loop i v1273_0).trips), ∀ a, (k0_off43 i v1273_0 k0_t14) a + S1x256x256.size a ≤ S32x256x256.size a := fun i v1273_0 k0_hw14 k0_t14 => k0_hw14.2.2.2.2.2.2.1 k0_t14
theorem k0_off44_inb : ∀ (i : grid0.Coords) (v1273_0 : BitVec 32) (k0_hw14 : k0_chk14 i v1273_0) (k0_t14 : Fin (k0_t14_loop i v1273_0).trips), ∀ a, (k0_off44 i v1273_0 k0_t14) a + S256x128.size a ≤ S8192x128.size a := fun i v1273_0 k0_hw14 k0_t14 => k0_hw14.2.2.2.2.2.2.2 k0_t14

def k0_mult38 (arg15 : BitVec 32) : BitVec 32 :=
  let c256_i32_886 : BitVec 32 := 256#32
  let v2003 : BitVec 32 := Scalar.muli arg15 c256_i32_886
  v2003

def k0_off45 (arg15 : BitVec 32) : Fin 2 → Nat :=
  let c256_i32_886 : BitVec 32 := 256#32
  let v2003 : BitVec 32 := Scalar.muli arg15 c256_i32_886
  let v2004 : BitVec 32 := v2003
  let v2005 : Index := Scalar.indexCast v2004
  let c0_887 : Index := 0#32
  ![v2005.toNat, 0]
def k0_off46 (arg15 : BitVec 32) : Fin 3 → Nat :=
  let v2043 : Index := Scalar.indexCast arg15
  let c0_897 : Index := 0#32
  let c0_898 : Index := 0#32
  ![v2043.toNat, 0, 0]

def k0_chk15 (arg15 : BitVec 32) : Prop :=
  (256 ∣ (k0_mult38 arg15).toNat) ∧
  (∀ a, (k0_off45 arg15) a + S256x128.size a ≤ S8192x128.size a) ∧
  (∀ a, (k0_off46 arg15) a + S1x256x256.size a ≤ S32x256x256.size a)
theorem k0_mult38_dvd : ∀ (arg15 : BitVec 32) (k0_hw15 : k0_chk15 arg15), 256 ∣ (k0_mult38 arg15).toNat := fun arg15 k0_hw15 => k0_hw15.1
theorem k0_off45_inb : ∀ (arg15 : BitVec 32) (k0_hw15 : k0_chk15 arg15), ∀ a, (k0_off45 arg15) a + S256x128.size a ≤ S8192x128.size a := fun arg15 k0_hw15 => k0_hw15.2.1
theorem k0_off46_inb : ∀ (arg15 : BitVec 32) (k0_hw15 : k0_chk15 arg15), ∀ a, (k0_off46 arg15) a + S1x256x256.size a ≤ S32x256x256.size a := fun arg15 k0_hw15 => k0_hw15.2.2

@[reducible] def k0_t15_loop (i : grid0.Coords) (v1292_0 : BitVec 32) : Scf.Loop 32 :=
  let c1_i32_565 : BitVec 32 := 1#32
  let v1293 : BitVec 32 := Scalar.addi v1292_0 c1_i32_565
  let arg1 : BitVec 32 := BitVec.ofNat 32 (i 1).val
  let c8_i32_431 : BitVec 32 := 8#32
  let v1010 : BitVec 32 := Scalar.muli arg1 c8_i32_431
  let c7_i32 : BitVec 32 := 7#32
  let v1011 : BitVec 32 := Scalar.addi v1010 c7_i32
  let c1_i32_566 : BitVec 32 := 1#32
  let v1294 : BitVec 32 := Scalar.subi v1011 c1_i32_566
  let v1297 : BitVec 32 := Scalar.subi v1294 v1293
  let c1_i32_569 : BitVec 32 := 1#32
  let v1299 : BitVec 32 := Scalar.divsi v1297 c1_i32_569
  let v1300 : BitVec 32 := Scalar.muli v1299 c1_i32_569
  let v1301 : BitVec 32 := Scalar.addi v1293 v1300
  let c1_i32_570 : BitVec 32 := 1#32
  ⟨v1293, v1301, c1_i32_570⟩

def k0_mult39 (i : grid0.Coords) (v1292_0 : BitVec 32) (k0_t15 : Fin (k0_t15_loop i v1292_0).trips) : BitVec 32 :=
  let c1_i32_565 : BitVec 32 := 1#32
  let v1293 : BitVec 32 := Scalar.addi v1292_0 c1_i32_565
  let c1_i32_570 : BitVec 32 := 1#32
  let arg15 : BitVec 32 := Scf.iv v1293 c1_i32_570 k0_t15
  let c256_i32_886 : BitVec 32 := 256#32
  let v2003 : BitVec 32 := Scalar.muli arg15 c256_i32_886
  v2003
def k0_off47 (i : grid0.Coords) (v1292_0 : BitVec 32) (k0_t15 : Fin (k0_t15_loop i v1292_0).trips) : Fin 3 → Nat :=
  let c1_i32_565 : BitVec 32 := 1#32
  let v1293 : BitVec 32 := Scalar.addi v1292_0 c1_i32_565
  let c1_i32_570 : BitVec 32 := 1#32
  let arg15 : BitVec 32 := Scf.iv v1293 c1_i32_570 k0_t15
  let v2005 : Index := Scalar.indexCast arg15
  let c0_887 : Index := 0#32
  let c0_888 : Index := 0#32
  ![v2005.toNat, 0, 0]
def k0_off48 (i : grid0.Coords) (v1292_0 : BitVec 32) (k0_t15 : Fin (k0_t15_loop i v1292_0).trips) : Fin 2 → Nat :=
  let c1_i32_565 : BitVec 32 := 1#32
  let v1293 : BitVec 32 := Scalar.addi v1292_0 c1_i32_565
  let c1_i32_570 : BitVec 32 := 1#32
  let arg15 : BitVec 32 := Scf.iv v1293 c1_i32_570 k0_t15
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]
@[reducible] def k0_t16_loop (i : grid0.Coords) (v1292_0 : BitVec 32) : Scf.Loop 32 :=
  let c1_i32_565 : BitVec 32 := 1#32
  let v1293 : BitVec 32 := Scalar.addi v1292_0 c1_i32_565
  let arg1 : BitVec 32 := BitVec.ofNat 32 (i 1).val
  let c8_i32_431 : BitVec 32 := 8#32
  let v1010 : BitVec 32 := Scalar.muli arg1 c8_i32_431
  let c7_i32 : BitVec 32 := 7#32
  let v1011 : BitVec 32 := Scalar.addi v1010 c7_i32
  let c1_i32_566 : BitVec 32 := 1#32
  let v1294 : BitVec 32 := Scalar.subi v1011 c1_i32_566
  let v1297 : BitVec 32 := Scalar.subi v1294 v1293
  let c1_i32_569 : BitVec 32 := 1#32
  let v1299 : BitVec 32 := Scalar.divsi v1297 c1_i32_569
  let v1300 : BitVec 32 := Scalar.muli v1299 c1_i32_569
  let v1301 : BitVec 32 := Scalar.addi v1293 v1300
  let v1298 : BitVec 32 := Scalar.addi v1293 v1297
  let c1_i32_571 : BitVec 32 := 1#32
  ⟨v1301, v1298, c1_i32_571⟩
def k0_mult40 (i : grid0.Coords) (v1292_0 : BitVec 32) (k0_t16 : Fin (k0_t16_loop i v1292_0).trips) : BitVec 32 :=
  let c1_i32_565 : BitVec 32 := 1#32
  let v1293 : BitVec 32 := Scalar.addi v1292_0 c1_i32_565
  let arg1 : BitVec 32 := BitVec.ofNat 32 (i 1).val
  let c8_i32_431 : BitVec 32 := 8#32
  let v1010 : BitVec 32 := Scalar.muli arg1 c8_i32_431
  let c7_i32 : BitVec 32 := 7#32
  let v1011 : BitVec 32 := Scalar.addi v1010 c7_i32
  let c1_i32_566 : BitVec 32 := 1#32
  let v1294 : BitVec 32 := Scalar.subi v1011 c1_i32_566
  let v1297 : BitVec 32 := Scalar.subi v1294 v1293
  let c1_i32_569 : BitVec 32 := 1#32
  let v1299 : BitVec 32 := Scalar.divsi v1297 c1_i32_569
  let v1300 : BitVec 32 := Scalar.muli v1299 c1_i32_569
  let v1301 : BitVec 32 := Scalar.addi v1293 v1300
  let c1_i32_571 : BitVec 32 := 1#32
  let arg15 : BitVec 32 := Scf.iv v1301 c1_i32_571 k0_t16
  let c256_i32_886 : BitVec 32 := 256#32
  let v2003 : BitVec 32 := Scalar.muli arg15 c256_i32_886
  v2003
def k0_off49 (i : grid0.Coords) (v1292_0 : BitVec 32) (k0_t16 : Fin (k0_t16_loop i v1292_0).trips) : Fin 3 → Nat :=
  let c1_i32_565 : BitVec 32 := 1#32
  let v1293 : BitVec 32 := Scalar.addi v1292_0 c1_i32_565
  let arg1 : BitVec 32 := BitVec.ofNat 32 (i 1).val
  let c8_i32_431 : BitVec 32 := 8#32
  let v1010 : BitVec 32 := Scalar.muli arg1 c8_i32_431
  let c7_i32 : BitVec 32 := 7#32
  let v1011 : BitVec 32 := Scalar.addi v1010 c7_i32
  let c1_i32_566 : BitVec 32 := 1#32
  let v1294 : BitVec 32 := Scalar.subi v1011 c1_i32_566
  let v1297 : BitVec 32 := Scalar.subi v1294 v1293
  let c1_i32_569 : BitVec 32 := 1#32
  let v1299 : BitVec 32 := Scalar.divsi v1297 c1_i32_569
  let v1300 : BitVec 32 := Scalar.muli v1299 c1_i32_569
  let v1301 : BitVec 32 := Scalar.addi v1293 v1300
  let c1_i32_571 : BitVec 32 := 1#32
  let arg15 : BitVec 32 := Scf.iv v1301 c1_i32_571 k0_t16
  let v2005 : Index := Scalar.indexCast arg15
  let c0_887 : Index := 0#32
  let c0_888 : Index := 0#32
  ![v2005.toNat, 0, 0]
def k0_off50 (i : grid0.Coords) (v1292_0 : BitVec 32) (k0_t16 : Fin (k0_t16_loop i v1292_0).trips) : Fin 2 → Nat :=
  let c1_i32_565 : BitVec 32 := 1#32
  let v1293 : BitVec 32 := Scalar.addi v1292_0 c1_i32_565
  let arg1 : BitVec 32 := BitVec.ofNat 32 (i 1).val
  let c8_i32_431 : BitVec 32 := 8#32
  let v1010 : BitVec 32 := Scalar.muli arg1 c8_i32_431
  let c7_i32 : BitVec 32 := 7#32
  let v1011 : BitVec 32 := Scalar.addi v1010 c7_i32
  let c1_i32_566 : BitVec 32 := 1#32
  let v1294 : BitVec 32 := Scalar.subi v1011 c1_i32_566
  let v1297 : BitVec 32 := Scalar.subi v1294 v1293
  let c1_i32_569 : BitVec 32 := 1#32
  let v1299 : BitVec 32 := Scalar.divsi v1297 c1_i32_569
  let v1300 : BitVec 32 := Scalar.muli v1299 c1_i32_569
  let v1301 : BitVec 32 := Scalar.addi v1293 v1300
  let c1_i32_571 : BitVec 32 := 1#32
  let arg15 : BitVec 32 := Scf.iv v1301 c1_i32_571 k0_t16
  let c256_i32_886 : BitVec 32 := 256#32
  let v2003 : BitVec 32 := Scalar.muli arg15 c256_i32_886
  let v2004 : BitVec 32 := v2003
  let v2030 : Index := Scalar.indexCast v2004
  let c0_894 : Index := 0#32
  ![v2030.toNat, 0]

def k0_chk16 (i : grid0.Coords) (v1292_0 : BitVec 32) : Prop :=
  ((k0_t15_loop i v1292_0).OK) ∧
  (∀ k0_t15 : Fin (k0_t15_loop i v1292_0).trips, 256 ∣ (k0_mult39 i v1292_0 k0_t15).toNat) ∧
  (∀ k0_t15 : Fin (k0_t15_loop i v1292_0).trips, ∀ a, (k0_off47 i v1292_0 k0_t15) a + S1x256x256.size a ≤ S32x256x256.size a) ∧
  (∀ k0_t15 : Fin (k0_t15_loop i v1292_0).trips, ∀ a, (k0_off48 i v1292_0 k0_t15) a + S256x128.size a ≤ S8192x128.size a) ∧
  ((k0_t16_loop i v1292_0).OK) ∧
  (∀ k0_t16 : Fin (k0_t16_loop i v1292_0).trips, 256 ∣ (k0_mult40 i v1292_0 k0_t16).toNat) ∧
  (∀ k0_t16 : Fin (k0_t16_loop i v1292_0).trips, ∀ a, (k0_off49 i v1292_0 k0_t16) a + S1x256x256.size a ≤ S32x256x256.size a) ∧
  (∀ k0_t16 : Fin (k0_t16_loop i v1292_0).trips, ∀ a, (k0_off50 i v1292_0 k0_t16) a + S256x128.size a ≤ S8192x128.size a)
theorem k0_t15_ok : ∀ (i : grid0.Coords) (v1292_0 : BitVec 32) (k0_hw16 : k0_chk16 i v1292_0), (k0_t15_loop i v1292_0).OK := fun i v1292_0 k0_hw16 => k0_hw16.1
theorem k0_mult39_dvd : ∀ (i : grid0.Coords) (v1292_0 : BitVec 32) (k0_hw16 : k0_chk16 i v1292_0) (k0_t15 : Fin (k0_t15_loop i v1292_0).trips), 256 ∣ (k0_mult39 i v1292_0 k0_t15).toNat := fun i v1292_0 k0_hw16 k0_t15 => k0_hw16.2.1 k0_t15
theorem k0_off47_inb : ∀ (i : grid0.Coords) (v1292_0 : BitVec 32) (k0_hw16 : k0_chk16 i v1292_0) (k0_t15 : Fin (k0_t15_loop i v1292_0).trips), ∀ a, (k0_off47 i v1292_0 k0_t15) a + S1x256x256.size a ≤ S32x256x256.size a := fun i v1292_0 k0_hw16 k0_t15 => k0_hw16.2.2.1 k0_t15
theorem k0_off48_inb : ∀ (i : grid0.Coords) (v1292_0 : BitVec 32) (k0_hw16 : k0_chk16 i v1292_0) (k0_t15 : Fin (k0_t15_loop i v1292_0).trips), ∀ a, (k0_off48 i v1292_0 k0_t15) a + S256x128.size a ≤ S8192x128.size a := fun i v1292_0 k0_hw16 k0_t15 => k0_hw16.2.2.2.1 k0_t15
theorem k0_t16_ok : ∀ (i : grid0.Coords) (v1292_0 : BitVec 32) (k0_hw16 : k0_chk16 i v1292_0), (k0_t16_loop i v1292_0).OK := fun i v1292_0 k0_hw16 => k0_hw16.2.2.2.2.1
theorem k0_mult40_dvd : ∀ (i : grid0.Coords) (v1292_0 : BitVec 32) (k0_hw16 : k0_chk16 i v1292_0) (k0_t16 : Fin (k0_t16_loop i v1292_0).trips), 256 ∣ (k0_mult40 i v1292_0 k0_t16).toNat := fun i v1292_0 k0_hw16 k0_t16 => k0_hw16.2.2.2.2.2.1 k0_t16
theorem k0_off49_inb : ∀ (i : grid0.Coords) (v1292_0 : BitVec 32) (k0_hw16 : k0_chk16 i v1292_0) (k0_t16 : Fin (k0_t16_loop i v1292_0).trips), ∀ a, (k0_off49 i v1292_0 k0_t16) a + S1x256x256.size a ≤ S32x256x256.size a := fun i v1292_0 k0_hw16 k0_t16 => k0_hw16.2.2.2.2.2.2.1 k0_t16
theorem k0_off50_inb : ∀ (i : grid0.Coords) (v1292_0 : BitVec 32) (k0_hw16 : k0_chk16 i v1292_0) (k0_t16 : Fin (k0_t16_loop i v1292_0).trips), ∀ a, (k0_off50 i v1292_0 k0_t16) a + S256x128.size a ≤ S8192x128.size a := fun i v1292_0 k0_hw16 k0_t16 => k0_hw16.2.2.2.2.2.2.2 k0_t16

def k0_mult41 (i : grid0.Coords) : BitVec 32 :=
  let arg1 : BitVec 32 := BitVec.ofNat 32 (i 1).val
  let c8_i32 : BitVec 32 := 8#32
  let v16 : BitVec 32 := Scalar.muli arg1 c8_i32
  let c0_i32_4 : BitVec 32 := 0#32
  let v17 : BitVec 32 := Scalar.addi v16 c0_i32_4
  let c1_i32 : BitVec 32 := 1#32
  let v22 : BitVec 32 := Scalar.subi v17 c1_i32
  let c0_i32_8 : BitVec 32 := 0#32
  let v23 : BitVec 32 := Scalar.maxsi v22 c0_i32_8
  let c256_i32_573 : BitVec 32 := 256#32
  let v1305 : BitVec 32 := Scalar.muli v23 c256_i32_573
  v1305
def k0_off51 (i : grid0.Coords) (c0_i32_4 : BitVec 32) : Fin 2 → Nat :=
  let arg1 : BitVec 32 := BitVec.ofNat 32 (i 1).val
  let c8_i32 : BitVec 32 := 8#32
  let v16 : BitVec 32 := Scalar.muli arg1 c8_i32
  let v17 : BitVec 32 := Scalar.addi v16 c0_i32_4
  let c1_i32 : BitVec 32 := 1#32
  let v22 : BitVec 32 := Scalar.subi v17 c1_i32
  let c0_i32_8 : BitVec 32 := 0#32
  let v23 : BitVec 32 := Scalar.maxsi v22 c0_i32_8
  let c256_i32_573 : BitVec 32 := 256#32
  let v1305 : BitVec 32 := Scalar.muli v23 c256_i32_573
  let v1306 : BitVec 32 := v1305
  let v1332 : Index := Scalar.indexCast v1306
  let c0_586 : Index := 0#32
  ![v1332.toNat, 0]
def k0_mult42 (i : grid0.Coords) : BitVec 32 :=
  let arg1 : BitVec 32 := BitVec.ofNat 32 (i 1).val
  let c8_i32 : BitVec 32 := 8#32
  let v16 : BitVec 32 := Scalar.muli arg1 c8_i32
  let c0_i32_4 : BitVec 32 := 0#32
  let v17 : BitVec 32 := Scalar.addi v16 c0_i32_4
  let c256_i32_591 : BitVec 32 := 256#32
  let v1348 : BitVec 32 := Scalar.muli v17 c256_i32_591
  v1348
def k0_off52 (i : grid0.Coords) (c0_i32_4 : BitVec 32) : Fin 2 → Nat :=
  let arg1 : BitVec 32 := BitVec.ofNat 32 (i 1).val
  let c8_i32 : BitVec 32 := 8#32
  let v16 : BitVec 32 := Scalar.muli arg1 c8_i32
  let v17 : BitVec 32 := Scalar.addi v16 c0_i32_4
  let c256_i32_591 : BitVec 32 := 256#32
  let v1348 : BitVec 32 := Scalar.muli v17 c256_i32_591
  let v1349 : BitVec 32 := v1348
  let v1375 : Index := Scalar.indexCast v1349
  let c0_604 : Index := 0#32
  ![v1375.toNat, 0]
def k0_mult43 (i : grid0.Coords) : BitVec 32 :=
  let arg1 : BitVec 32 := BitVec.ofNat 32 (i 1).val
  let c8_i32_63 : BitVec 32 := 8#32
  let v158 : BitVec 32 := Scalar.muli arg1 c8_i32_63
  let c1_i32_64 : BitVec 32 := 1#32
  let v159 : BitVec 32 := Scalar.addi v158 c1_i32_64
  let c1_i32_68 : BitVec 32 := 1#32
  let v164 : BitVec 32 := Scalar.subi v159 c1_i32_68
  let c0_i32_69 : BitVec 32 := 0#32
  let v165 : BitVec 32 := Scalar.maxsi v164 c0_i32_69
  let c256_i32_612 : BitVec 32 := 256#32
  let v1392 : BitVec 32 := Scalar.muli v165 c256_i32_612
  v1392
def k0_mult44 (i : grid0.Coords) : BitVec 32 :=
  let arg1 : BitVec 32 := BitVec.ofNat 32 (i 1).val
  let c8_i32_63 : BitVec 32 := 8#32
  let v158 : BitVec 32 := Scalar.muli arg1 c8_i32_63
  let c1_i32_64 : BitVec 32 := 1#32
  let v159 : BitVec 32 := Scalar.addi v158 c1_i32_64
  let c256_i32_630 : BitVec 32 := 256#32
  let v1435 : BitVec 32 := Scalar.muli v159 c256_i32_630
  v1435
def k0_mult45 (i : grid0.Coords) : BitVec 32 :=
  let arg1 : BitVec 32 := BitVec.ofNat 32 (i 1).val
  let c8_i32_126 : BitVec 32 := 8#32
  let v300 : BitVec 32 := Scalar.muli arg1 c8_i32_126
  let c2_i32 : BitVec 32 := 2#32
  let v301 : BitVec 32 := Scalar.addi v300 c2_i32
  let c1_i32_130 : BitVec 32 := 1#32
  let v306 : BitVec 32 := Scalar.subi v301 c1_i32_130
  let c0_i32_131 : BitVec 32 := 0#32
  let v307 : BitVec 32 := Scalar.maxsi v306 c0_i32_131
  let c256_i32_651 : BitVec 32 := 256#32
  let v1479 : BitVec 32 := Scalar.muli v307 c256_i32_651
  v1479
def k0_mult46 (i : grid0.Coords) : BitVec 32 :=
  let arg1 : BitVec 32 := BitVec.ofNat 32 (i 1).val
  let c8_i32_126 : BitVec 32 := 8#32
  let v300 : BitVec 32 := Scalar.muli arg1 c8_i32_126
  let c2_i32 : BitVec 32 := 2#32
  let v301 : BitVec 32 := Scalar.addi v300 c2_i32
  let c256_i32_669 : BitVec 32 := 256#32
  let v1522 : BitVec 32 := Scalar.muli v301 c256_i32_669
  v1522
def k0_mult47 (i : grid0.Coords) : BitVec 32 :=
  let arg1 : BitVec 32 := BitVec.ofNat 32 (i 1).val
  let c8_i32_187 : BitVec 32 := 8#32
  let v442 : BitVec 32 := Scalar.muli arg1 c8_i32_187
  let c3_i32 : BitVec 32 := 3#32
  let v443 : BitVec 32 := Scalar.addi v442 c3_i32
  let c1_i32_191 : BitVec 32 := 1#32
  let v448 : BitVec 32 := Scalar.subi v443 c1_i32_191
  let c0_i32_192 : BitVec 32 := 0#32
  let v449 : BitVec 32 := Scalar.maxsi v448 c0_i32_192
  let c256_i32_690 : BitVec 32 := 256#32
  let v1566 : BitVec 32 := Scalar.muli v449 c256_i32_690
  v1566
def k0_mult48 (i : grid0.Coords) : BitVec 32 :=
  let arg1 : BitVec 32 := BitVec.ofNat 32 (i 1).val
  let c8_i32_187 : BitVec 32 := 8#32
  let v442 : BitVec 32 := Scalar.muli arg1 c8_i32_187
  let c3_i32 : BitVec 32 := 3#32
  let v443 : BitVec 32 := Scalar.addi v442 c3_i32
  let c256_i32_708 : BitVec 32 := 256#32
  let v1609 : BitVec 32 := Scalar.muli v443 c256_i32_708
  v1609
def k0_mult49 (i : grid0.Coords) : BitVec 32 :=
  let arg1 : BitVec 32 := BitVec.ofNat 32 (i 1).val
  let c8_i32_248 : BitVec 32 := 8#32
  let v584 : BitVec 32 := Scalar.muli arg1 c8_i32_248
  let c4_i32 : BitVec 32 := 4#32
  let v585 : BitVec 32 := Scalar.addi v584 c4_i32
  let c1_i32_252 : BitVec 32 := 1#32
  let v590 : BitVec 32 := Scalar.subi v585 c1_i32_252
  let c0_i32_253 : BitVec 32 := 0#32
  let v591 : BitVec 32 := Scalar.maxsi v590 c0_i32_253
  let c256_i32_729 : BitVec 32 := 256#32
  let v1653 : BitVec 32 := Scalar.muli v591 c256_i32_729
  v1653
def k0_mult50 (i : grid0.Coords) : BitVec 32 :=
  let arg1 : BitVec 32 := BitVec.ofNat 32 (i 1).val
  let c8_i32_248 : BitVec 32 := 8#32
  let v584 : BitVec 32 := Scalar.muli arg1 c8_i32_248
  let c4_i32 : BitVec 32 := 4#32
  let v585 : BitVec 32 := Scalar.addi v584 c4_i32
  let c256_i32_747 : BitVec 32 := 256#32
  let v1696 : BitVec 32 := Scalar.muli v585 c256_i32_747
  v1696
def k0_mult51 (i : grid0.Coords) : BitVec 32 :=
  let arg1 : BitVec 32 := BitVec.ofNat 32 (i 1).val
  let c8_i32_309 : BitVec 32 := 8#32
  let v726 : BitVec 32 := Scalar.muli arg1 c8_i32_309
  let c5_i32 : BitVec 32 := 5#32
  let v727 : BitVec 32 := Scalar.addi v726 c5_i32
  let c1_i32_313 : BitVec 32 := 1#32
  let v732 : BitVec 32 := Scalar.subi v727 c1_i32_313
  let c0_i32_314 : BitVec 32 := 0#32
  let v733 : BitVec 32 := Scalar.maxsi v732 c0_i32_314
  let c256_i32_768 : BitVec 32 := 256#32
  let v1740 : BitVec 32 := Scalar.muli v733 c256_i32_768
  v1740
def k0_mult52 (i : grid0.Coords) : BitVec 32 :=
  let arg1 : BitVec 32 := BitVec.ofNat 32 (i 1).val
  let c8_i32_309 : BitVec 32 := 8#32
  let v726 : BitVec 32 := Scalar.muli arg1 c8_i32_309
  let c5_i32 : BitVec 32 := 5#32
  let v727 : BitVec 32 := Scalar.addi v726 c5_i32
  let c256_i32_786 : BitVec 32 := 256#32
  let v1783 : BitVec 32 := Scalar.muli v727 c256_i32_786
  v1783
def k0_mult53 (i : grid0.Coords) : BitVec 32 :=
  let arg1 : BitVec 32 := BitVec.ofNat 32 (i 1).val
  let c8_i32_370 : BitVec 32 := 8#32
  let v868 : BitVec 32 := Scalar.muli arg1 c8_i32_370
  let c6_i32 : BitVec 32 := 6#32
  let v869 : BitVec 32 := Scalar.addi v868 c6_i32
  let c1_i32_374 : BitVec 32 := 1#32
  let v874 : BitVec 32 := Scalar.subi v869 c1_i32_374
  let c0_i32_375 : BitVec 32 := 0#32
  let v875 : BitVec 32 := Scalar.maxsi v874 c0_i32_375
  let c256_i32_807 : BitVec 32 := 256#32
  let v1827 : BitVec 32 := Scalar.muli v875 c256_i32_807
  v1827
def k0_mult54 (i : grid0.Coords) : BitVec 32 :=
  let arg1 : BitVec 32 := BitVec.ofNat 32 (i 1).val
  let c8_i32_370 : BitVec 32 := 8#32
  let v868 : BitVec 32 := Scalar.muli arg1 c8_i32_370
  let c6_i32 : BitVec 32 := 6#32
  let v869 : BitVec 32 := Scalar.addi v868 c6_i32
  let c256_i32_825 : BitVec 32 := 256#32
  let v1870 : BitVec 32 := Scalar.muli v869 c256_i32_825
  v1870
def k0_mult55 (i : grid0.Coords) : BitVec 32 :=
  let arg1 : BitVec 32 := BitVec.ofNat 32 (i 1).val
  let c8_i32_431 : BitVec 32 := 8#32
  let v1010 : BitVec 32 := Scalar.muli arg1 c8_i32_431
  let c7_i32 : BitVec 32 := 7#32
  let v1011 : BitVec 32 := Scalar.addi v1010 c7_i32
  let c1_i32_435 : BitVec 32 := 1#32
  let v1016 : BitVec 32 := Scalar.subi v1011 c1_i32_435
  let c0_i32_436 : BitVec 32 := 0#32
  let v1017 : BitVec 32 := Scalar.maxsi v1016 c0_i32_436
  let c256_i32_846 : BitVec 32 := 256#32
  let v1914 : BitVec 32 := Scalar.muli v1017 c256_i32_846
  v1914
def k0_mult56 (i : grid0.Coords) : BitVec 32 :=
  let arg1 : BitVec 32 := BitVec.ofNat 32 (i 1).val
  let c8_i32_431 : BitVec 32 := 8#32
  let v1010 : BitVec 32 := Scalar.muli arg1 c8_i32_431
  let c7_i32 : BitVec 32 := 7#32
  let v1011 : BitVec 32 := Scalar.addi v1010 c7_i32
  let c256_i32_864 : BitVec 32 := 256#32
  let v1957 : BitVec 32 := Scalar.muli v1011 c256_i32_864
  v1957
def k0_cond2 (i : grid0.Coords) : BitVec 1 :=
  let arg1 : BitVec 32 := BitVec.ofNat 32 (i 1).val
  let c3_i32_884 : BitVec 32 := 3#32
  let v2000 : BitVec 1 := Scalar.cmpi .eq arg1 c3_i32_884
  let v2001 : BitVec 32 := Scalar.extui v2000
  let c0_i32_885 : BitVec 32 := 0#32
  let v2002 : BitVec 1 := Scalar.cmpi .ne v2001 c0_i32_885
  v2002

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SbReferenceIdeal.lean ====
abbrev S8192x3072 : Shape := ⟨2, ![8192, 3072]⟩
abbrev S8192x1024 : Shape := ⟨2, ![8192, 1024]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x8192x128 : Shape := ⟨3, ![8, 8192, 128]⟩

abbrev nBuf : Space → Nat
  | .hbm => 175
  | .vmem => 0
  | .smem => 0
  | _ => 0

abbrev hbmTy0_0 (i : Nat) : BufTy := match i % 128 with
  | 0 => ⟨S8192x3072, .f32⟩
  | 1 => ⟨S8192x1024, .f32⟩
  | 2 => ⟨S8192x1024, .f32⟩
  | 3 => ⟨S8192x1024, .f32⟩
  | 4 => ⟨S8192x1024, .f32⟩
  | 5 => ⟨S8192x8x128, .f32⟩
  | 6 => ⟨S8192x8x128, .f32⟩
  | 7 => ⟨S8192x8x128, .f32⟩
  | 8 => ⟨S8x8192x8192, .f32⟩
  | 9 => ⟨S_, .f32⟩
  | 10 => ⟨S8x8192x8192, .f32⟩
  | 11 => ⟨S8x8192x8192, .f32⟩
  | 12 => ⟨S8192, .i32⟩
  | 13 => ⟨S1x8192, .i32⟩
  | 14 => ⟨S8192x1, .i32⟩
  | 15 => ⟨S8192x8192, .i32⟩
  | 16 => ⟨S8192x8192, .i32⟩
  | 17 => ⟨S8192x8192, .i1⟩
  | 18 => ⟨S8x8192x8192, .f32⟩
  | 19 => ⟨S8x8192x8192, .f32⟩
  | 20 => ⟨S_, .f32⟩
  | 21 => ⟨S8x8192x8192, .f32⟩
  | 22 => ⟨S8x8192x8192, .f32⟩
  | 23 => ⟨S8x8192x8192, .f32⟩
  | 24 => ⟨S8x8192x8192, .f32⟩
  | 25 => ⟨S8x8192x8192, .i1⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S_, .f32⟩
  | 35 => ⟨S8x8192x8192, .f32⟩
  | 36 => ⟨S8x8192x8192, .i1⟩
  | 37 => ⟨S_, .f32⟩
  | 38 => ⟨S8x8192x8192, .f32⟩
  | 39 => ⟨S8x8192x8192, .f32⟩
  | 40 => ⟨S_, .f32⟩
  | 41 => ⟨S8x8192x8192, .f32⟩
  | 42 => ⟨S8x8192x8192, .i1⟩
  | 43 => ⟨S_, .f32⟩
  | 44 => ⟨S8x8192x8192, .f32⟩
  | 45 => ⟨S8x8192x8192, .f32⟩
  | 46 => ⟨S8x8192x8192, .f32⟩
  | 47 => ⟨S8x8192x8192, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x8192x8192, .f32⟩
  | 56 => ⟨S8x8192x8192, .i1⟩
  | 57 => ⟨S_, .f32⟩
  | 58 => ⟨S8x8192x8192, .f32⟩
  | 59 => ⟨S8x8192x8192, .f32⟩
  | 60 => ⟨S8x8192x8192, .f32⟩
  | 61 => ⟨S8x8192x8192, .f32⟩
  | 62 => ⟨S8x8192x8192, .f32⟩
  | 63 => ⟨S_, .f32⟩
  | 64 => ⟨S8x8192x8192, .f32⟩
  | 65 => ⟨S8x8192x8192, .f32⟩
  | 66 => ⟨S8x8192x8192, .f32⟩
  | 67 => ⟨S_, .f32⟩
  | 68 => ⟨S_, .f32⟩
  | 69 => ⟨S8x8192x8192, .i1⟩
  | 70 => ⟨S8x8192x8192, .f32⟩
  | 71 => ⟨S8x8192x8192, .f32⟩
  | 72 => ⟨S_, .f32⟩
  | 73 => ⟨S8x8192x8192, .f32⟩
  | 74 => ⟨S_, .f32⟩
  | 75 => ⟨S_, .f32⟩
  | 76 => ⟨S8x8192x8192, .f32⟩
  | 77 => ⟨S8x8192x8192, .f32⟩
  | 78 => ⟨S8x8192x8192, .f32⟩
  | 79 => ⟨S_, .f32⟩
  | 80 => ⟨S8x8192x8192, .f32⟩
  | 81 => ⟨S8x8192x8192, .f32⟩
  | 82 => ⟨S8x8192x8192, .f32⟩
  | 83 => ⟨S8x8192x8192, .f32⟩
  | 84 => ⟨S8x8192x8192, .i1⟩
  | 85 => ⟨S8x8192x8192, .f32⟩
  | 86 => ⟨S8x8192x8192, .f32⟩
  | 87 => ⟨S8x8192x8192, .f32⟩
  | 88 => ⟨S8x8192x8192, .f32⟩
  | 89 => ⟨S8x8192x8192, .f32⟩
  | 90 => ⟨S8x8192x8192, .f32⟩
  | 91 => ⟨S8x8192x8192, .f32⟩
  | 92 => ⟨S8x8192x8192, .f32⟩
  | 93 => ⟨S_, .f32⟩
  | 94 => ⟨S8x8192x8192, .f32⟩
  | 95 => ⟨S8x8192x8192, .i1⟩
  | 96 => ⟨S_, .f32⟩
  | 97 => ⟨S8x8192x8192, .f32⟩
  | 98 => ⟨S8x8192x8192, .f32⟩
  | 99 => ⟨S_, .f32⟩
  | 100 => ⟨S8x8192x8192, .f32⟩
  | 101 => ⟨S8x8192x8192, .i1⟩
  | 102 => ⟨S_, .f32⟩
  | 103 => ⟨S8x8192x8192, .f32⟩
  | 104 => ⟨S8x8192x8192, .f32⟩
  | 105 => ⟨S8x8192x8192, .f32⟩
  | 106 => ⟨S8x8192x8192, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S8x8192x8192, .f32⟩
  | 115 => ⟨S8x8192x8192, .i1⟩
  | 116 => ⟨S_, .f32⟩
  | 117 => ⟨S8x8192x8192, .f32⟩
  | 118 => ⟨S8x8192x8192, .f32⟩
  | 119 => ⟨S8x8192x8192, .f32⟩
  | 120 => ⟨S8x8192x8192, .f32⟩
  | 121 => ⟨S8x8192x8192, .f32⟩
  | 122 => ⟨S_, .f32⟩
  | 123 => ⟨S8x8192x8192, .f32⟩
  | 124 => ⟨S8x8192x8192, .f32⟩
  | 125 => ⟨S8x8192x8192, .f32⟩
  | 126 => ⟨S8x8192x8192, .f32⟩
  | 127 => ⟨S8x8192x8192, .f32⟩
  | _ => ⟨S8192x3072, .f32⟩

abbrev hbmTy0_1 (i : Nat) : BufTy := match i % 128 with
  | 0 => ⟨S_, .f32⟩
  | 1 => ⟨S_, .f32⟩
  | 2 => ⟨S8x8192x8192, .i1⟩
  | 3 => ⟨S8x8192x8192, .f32⟩
  | 4 => ⟨S8x8192x8192, .f32⟩
  | 5 => ⟨S_, .f32⟩
  | 6 => ⟨S8x8192x8192, .f32⟩
  | 7 => ⟨S8x128x8192, .f32⟩
  | 8 => ⟨S8192x8x128, .f32⟩
  | 9 => ⟨S8192x8x128, .f32⟩
  | 10 => ⟨S8x128x8192, .f32⟩
  | 11 => ⟨S8x8192x8192, .f32⟩
  | 12 => ⟨S8x128x8192, .f32⟩
  | 13 => ⟨S8192x8x128, .f32⟩
  | 14 => ⟨S_, .f32⟩
  | 15 => ⟨S8x8192x8192, .f32⟩
  | 16 => ⟨S8x8192x8192, .f32⟩
  | 17 => ⟨S8x8192x8192, .f32⟩
  | 18 => ⟨S8x8192x8192, .f32⟩
  | 19 => ⟨S8x8192x8192, .f32⟩
  | 20 => ⟨S8x8192x8192, .f32⟩
  | 21 => ⟨S8x8192x8192, .f32⟩
  | 22 => ⟨S_, .f32⟩
  | 23 => ⟨S_, .f32⟩
  | 24 => ⟨S8x8192x8192, .f32⟩
  | 25 => ⟨S8x8192x8192, .f32⟩
  | 26 => ⟨S_, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S_, .f32⟩
  | 35 => ⟨S8x8192x8192, .f32⟩
  | 36 => ⟨S8x8192x8192, .f32⟩
  | 37 => ⟨S8x8192x128, .f32⟩
  | 38 => ⟨S8192x8x128, .f32⟩
  | 39 => ⟨S8x8192x128, .f32⟩
  | 40 => ⟨S8192x8x128, .f32⟩
  | 41 => ⟨S8192x1024, .f32⟩
  | 42 => ⟨S8192x1024, .bf16⟩
  | 43 => ⟨S8192x1024, .f32⟩
  | 44 => ⟨S8192x1024, .bf16⟩
  | 45 => ⟨S8192x1024, .f32⟩
  | 46 => ⟨S8192x1024, .bf16⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_cst_0 : Ref sig .tc := ⟨.hbm, 67, rfl⟩
abbrev main_call1_v0 : Ref sig .tc := ⟨.hbm, 68, rfl⟩
abbrev main_v17_1 : Ref sig .tc := ⟨.hbm, 69, rfl⟩
abbrev main_call1_v2 : Ref sig .tc := ⟨.hbm, 70, rfl⟩
abbrev main_v17_0 : Ref sig .tc := ⟨.hbm, 71, rfl⟩
abbrev main_call1_cst : Ref sig .tc := ⟨.hbm, 72, rfl⟩
abbrev main_v17_2 : Ref sig .tc := ⟨.hbm, 73, rfl⟩
abbrev main_call2_cst : Ref sig .tc := ⟨.hbm, 74, rfl⟩
abbrev main_call2_v0 : Ref sig .tc := ⟨.hbm, 75, rfl⟩
abbrev main_v18 : Ref sig .tc := ⟨.hbm, 76, rfl⟩
abbrev main_v19 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v20_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v20_2 : Ref sig .tc := ⟨.hbm, 124, rfl⟩
abbrev main_v20_0 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_call5_cst : Ref sig .tc := ⟨.hbm, 142, rfl⟩
abbrev main_call5_v0 : Ref sig .tc := ⟨.hbm, 143, rfl⟩
abbrev main_v31 : Ref sig .tc := ⟨.hbm, 144, rfl⟩
abbrev main_v32 : Ref sig .tc := ⟨.hbm, 145, rfl⟩
abbrev main_call6_v0 : Ref sig .tc := ⟨.hbm, 146, rfl⟩
abbrev main_call6_v1 : Ref sig .tc := ⟨.hbm, 147, rfl⟩
abbrev main_v33 : Ref sig .tc := ⟨.hbm, 148, rfl⟩
abbrev main_v34 : Ref sig .tc := ⟨.hbm, 149, rfl⟩
abbrev main_call7_cst : Ref sig .tc := ⟨.hbm, 150, rfl⟩
abbrev main_call7_v0 : Ref sig .tc := ⟨.hbm, 151, rfl⟩
abbrev main_v35 : Ref sig .tc := ⟨.hbm, 152, rfl⟩
abbrev main_v36 : Ref sig .tc := ⟨.hbm, 153, rfl⟩
abbrev main_call8_cst : Ref sig .tc := ⟨.hbm, 154, rfl⟩
abbrev main_call8_v0 : Ref sig .tc := ⟨.hbm, 155, rfl⟩
abbrev main_v37 : Ref sig .tc := ⟨.hbm, 156, rfl⟩
abbrev main_call9_v0 : Ref sig .tc := ⟨.hbm, 157, rfl⟩
abbrev main_call9_v1 : Ref sig .tc := ⟨.hbm, 158, rfl⟩
abbrev main_v38 : Ref sig .tc := ⟨.hbm, 159, rfl⟩
abbrev main_v39 : Ref sig .tc := ⟨.hbm, 160, rfl⟩
abbrev main_v40 : Ref sig .tc := ⟨.hbm, 161, rfl⟩
abbrev main_cst_2 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩

abbrev nD : Nat := 1
abbrev τ : Topo := Topo.v7x

variable {F : FTy → Type} [FloatOps F]
-- ==== SwaKernelIdeal.lean ====
abbrev S8192x1024 : Shape := ⟨2, ![8192, 1024]⟩
abbrev S8192x256 : Shape := ⟨2, ![8192, 256]⟩
abbrev S1x16 : Shape := ⟨2, ![1, 16]⟩
abbrev S_ : Shape := ⟨0, ![]⟩
abbrev S128x256 : Shape := ⟨2, ![128, 256]⟩
abbrev S8320x256 : Shape := ⟨2, ![8320, 256]⟩
abbrev S16 : Shape := ⟨1, ![16]⟩
abbrev S1x128 : Shape := ⟨2, ![1, 128]⟩
abbrev S128x1024 : Shape := ⟨2, ![128, 1024]⟩
abbrev S2x1024x1 : Shape := ⟨3, ![2, 1024, 1]⟩
abbrev S256x256 : Shape := ⟨2, ![256, 256]⟩
abbrev S1024x256 : Shape := ⟨2, ![1024, 256]⟩
abbrev S256x64 : Shape := ⟨2, ![256, 64]⟩
abbrev S128x64 : Shape := ⟨2, ![128, 64]⟩
abbrev S1024x64 : Shape := ⟨2, ![1024, 64]⟩
abbrev S1024x1 : Shape := ⟨2, ![1024, 1]⟩
abbrev S1 : Shape := ⟨1, ![1]⟩
abbrev S1024 : Shape := ⟨1, ![1024]⟩
abbrev S1x1024x1 : Shape := ⟨3, ![1, 1024, 1]⟩
abbrev S1x128x1 : Shape := ⟨3, ![1, 128, 1]⟩
abbrev S128x1 : Shape := ⟨2, ![128, 1]⟩
abbrev S1x1 : Shape := ⟨2, ![1, 1]⟩

abbrev nBuf : Space → Nat
  | .hbm => 14
  | .vmem => 13
  | .smem => 1
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1x16, .f32⟩
  | .hbm, ⟨3, _⟩ => ⟨S8192x1024, .f32⟩
  | .hbm, ⟨4, _⟩ => ⟨S_, .bf16⟩
  | .hbm, ⟨5, _⟩ => ⟨S128x256, .bf16⟩
  | .hbm, ⟨6, _⟩ => ⟨S8192x256, .bf16⟩
  | .hbm, ⟨7, _⟩ => ⟨S8320x256, .bf16⟩
  | .hbm, ⟨8, _⟩ => ⟨S8192x1024, .bf16⟩
  | .hbm, ⟨9, _⟩ => ⟨S8192x1024, .bf16⟩
  | .hbm, ⟨10, _⟩ => ⟨S16, .f32⟩
  | .hbm, ⟨11, _⟩ => ⟨S8192x1024, .bf16⟩
  | .hbm, ⟨12, _⟩ => ⟨S8320x256, .f32⟩
  | .hbm, ⟨13, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x1024, .bf16⟩
  | .local _ .vmem, ⟨9, _⟩ => ⟨S128x1024, .bf16⟩
  | .local _ .vmem, ⟨10, _⟩ => ⟨S8320x256, .f32⟩
  | .local _ .vmem, ⟨11, _⟩ => ⟨S1x128, .f32⟩
  | .local _ .vmem, ⟨12, _⟩ => ⟨S2x1024x1, .f32⟩
  | .local _ .smem, ⟨0, _⟩ => ⟨S16, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F] [Named F]

def κ : String → Option EReal := fun
  | "mask" => some ⊥
  | _ => none

abbrev grid0 : Pipeline.Grid := ⟨1, ![64], ![false]⟩

def k0_mult1 (i : grid0.Coords) : BitVec 32 :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c128_i32 : BitVec 32 := 128#32
  let v14 : BitVec 32 := Scalar.muli v4 c128_i32
  v14
def k0_off1 (i : grid0.Coords) : Fin 2 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c128_i32 : BitVec 32 := 128#32
  let v14 : BitVec 32 := Scalar.muli v4 c128_i32
  let v15 : BitVec 32 := v14
  let v332 : Index := Scalar.indexCast v15
  let c0_102 : Index := 0#32
  ![v332.toNat, 0]
def k0_off2 (i : grid0.Coords) : Fin 2 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c128_i32 : BitVec 32 := 128#32
  let v14 : BitVec 32 := Scalar.muli v4 c128_i32
  let v15 : BitVec 32 := v14
  let v339 : Index := Scalar.indexCast v15
  let c128_105 : Index := 128#32
  ![v339.toNat, 128]
def k0_off3 (i : grid0.Coords) : Fin 2 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c128_i32 : BitVec 32 := 128#32
  let v14 : BitVec 32 := Scalar.muli v4 c128_i32
  let v15 : BitVec 32 := v14
  let v364 : Index := Scalar.indexCast v15
  let c64_117 : Index := 64#32
  ![v364.toNat, 64]
def k0_off4 (i : grid0.Coords) : Fin 2 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c128_i32 : BitVec 32 := 128#32
  let v14 : BitVec 32 := Scalar.muli v4 c128_i32
  let v15 : BitVec 32 := v14
  let v371 : Index := Scalar.indexCast v15
  let c192_120 : Index := 192#32
  ![v371.toNat, 192]
def k0_cond2 (i : grid0.Coords) : BitVec 1 :=
  let arg0 : BitVec 32 := BitVec.ofNat 32 (i 0).val
  let c63_i32 : BitVec 32 := 63#32
  let v378 : BitVec 1 := Scalar.cmpi .eq arg0 c63_i32
  let v379 : BitVec 32 := Scalar.extui v378
  let c0_i32_123 : BitVec 32 := 0#32
  let v380 : BitVec 1 := Scalar.cmpi .ne v379 c0_i32_123
  v380

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.muli arg0 c1_i32
  let c1_i32_0 : BitVec 32 := 1#32
  let v1 : BitVec 32 := Scalar.addi v0 c1_i32_0
  let c0_i32 : BitVec 32 := 0#32
  let c0_i32_1 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8320x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SwaReferenceIdeal.lean ====
abbrev S8192x1024 : Shape := ⟨2, ![8192, 1024]⟩
abbrev S8192x256 : Shape := ⟨2, ![8192, 256]⟩
abbrev S1x16 : Shape := ⟨2, ![1, 16]⟩
abbrev S8192x128 : Shape := ⟨2, ![8192, 128]⟩
abbrev S8192x2x64 : Shape := ⟨3, ![8192, 2, 64]⟩
abbrev S8192x16x64 : Shape := ⟨3, ![8192, 16, 64]⟩
abbrev S16 : Shape := ⟨1, ![16]⟩
abbrev S64x128x2x8x64 : Shape := ⟨5, ![64, 128, 2, 8, 64]⟩
abbrev S_ : Shape := ⟨0, ![]⟩
abbrev S1x128x2x64 : Shape := ⟨4, ![1, 128, 2, 64]⟩
abbrev S64x128x2x64 : Shape := ⟨4, ![64, 128, 2, 64]⟩
abbrev S65x128x2x64 : Shape := ⟨4, ![65, 128, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1 : Shape := ⟨1, ![1]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x2x8x128x256 : Shape := ⟨5, ![1, 2, 8, 128, 256]⟩
abbrev S64x1x1x128x256 : Shape := ⟨5, ![64, 1, 1, 128, 256]⟩
abbrev S64x2x8x128 : Shape := ⟨4, ![64, 2, 8, 128]⟩
abbrev S64x2x8x128x1 : Shape := ⟨5, ![64, 2, 8, 128, 1]⟩
abbrev S1x2x8x1x1 : Shape := ⟨5, ![1, 2, 8, 1, 1]⟩
abbrev S64x2x64x8x128 : Shape := ⟨5, ![64, 2, 64, 8, 128]⟩
abbrev S64x2x64x256 : Shape := ⟨4, ![64, 2, 64, 256]⟩
abbrev S2x8x1 : Shape := ⟨3, ![2, 8, 1]⟩
abbrev S64x2x128x8x64 : Shape := ⟨5, ![64, 2, 128, 8, 64]⟩
abbrev S64x2x256x64 : Shape := ⟨4, ![64, 2, 256, 64]⟩
abbrev S8320x256 : Shape := ⟨2, ![8320, 256]⟩
abbrev S1x128 : Shape := ⟨2, ![1, 128]⟩

abbrev nBuf : Space → Nat
  | .hbm => 273
  | .vmem => 0
  | .smem => 0
  | _ => 0

abbrev hbmTy0_0 (i : Nat) : BufTy := match i % 128 with
  | 0 => ⟨S8192x1024, .f32⟩
  | 1 => ⟨S8192x256, .f32⟩
  | 2 => ⟨S1x16, .f32⟩
  | 3 => ⟨S8192x1024, .f32⟩
  | 4 => ⟨S8192x128, .f32⟩
  | 5 => ⟨S8192x128, .f32⟩
  | 6 => ⟨S8192x2x64, .f32⟩
  | 7 => ⟨S8192x2x64, .f32⟩
  | 8 => ⟨S8192x16x64, .f32⟩
  | 9 => ⟨S16, .f32⟩
  | 10 => ⟨S64x128x2x8x64, .f32⟩
  | 11 => ⟨S_, .f32⟩
  | 12 => ⟨S1x128x2x64, .f32⟩
  | 13 => ⟨S64x128x2x64, .f32⟩
  | 14 => ⟨S65x128x2x64, .f32⟩
  | 15 => ⟨S_, .f32⟩
  | 16 => ⟨S1x128x2x64, .f32⟩
  | 17 => ⟨S64x128x2x64, .f32⟩
  | 18 => ⟨S65x128x2x64, .f32⟩
  | 19 => ⟨S_, .f32⟩
  | 20 => ⟨S1x128x2x64, .f32⟩
  | 21 => ⟨S64x128x2x64, .f32⟩
  | 22 => ⟨S64x128x2x64, .f32⟩
  | 23 => ⟨S64x256x2x64, .f32⟩
  | 24 => ⟨S64x128x2x64, .f32⟩
  | 25 => ⟨S64x128x2x64, .f32⟩
  | 26 => ⟨S64x256x2x64, .f32⟩
  | 27 => ⟨S64x2x256x128x8, .f32⟩
  | 28 => ⟨S64x2x8x128x256, .f32⟩
  | 29 => ⟨S_, .f32⟩
  | 30 => ⟨S64x2x8x128x256, .f32⟩
  | 31 => ⟨S64x2x8x128x256, .f32⟩
  | 32 => ⟨S128, .i32⟩
  | 33 => ⟨S128x1, .i32⟩
  | 34 => ⟨S256, .i32⟩
  | 35 => ⟨S1x256, .i32⟩
  | 36 => ⟨S128x256, .i32⟩
  | 37 => ⟨S128x256, .i32⟩
  | 38 => ⟨S128x256, .i32⟩
  | 39 => ⟨S_, .i32⟩
  | 40 => ⟨S128x256, .i32⟩
  | 41 => ⟨S128x256, .i32⟩
  | 42 => ⟨S128x256, .f32⟩
  | 43 => ⟨S64, .i32⟩
  | 44 => ⟨S64x1x1, .i32⟩
  | 45 => ⟨S_, .i32⟩
  | 46 => ⟨S64x1x1, .i32⟩
  | 47 => ⟨S64x1x1, .i32⟩
  | 48 => ⟨S_, .i32⟩
  | 49 => ⟨S64x1x1, .i32⟩
  | 50 => ⟨S64x1x1, .i32⟩
  | 51 => ⟨S1x1x256, .i32⟩
  | 52 => ⟨S64x1x256, .i32⟩
  | 53 => ⟨S64x1x256, .i32⟩
  | 54 => ⟨S64x1x256, .i32⟩
  | 55 => ⟨S_, .f32⟩
  | 56 => ⟨S128x256, .f32⟩
  | 57 => ⟨S128x256, .i1⟩
  | 58 => ⟨S_, .f32⟩
  | 59 => ⟨S128x256, .f32⟩
  | 60 => ⟨S128x256, .i1⟩
  | 61 => ⟨S128x256, .i1⟩
  | 62 => ⟨S_, .i32⟩
  | 63 => ⟨S64x1x256, .i32⟩
  | 64 => ⟨S64x1x256, .i1⟩
  | 65 => ⟨S1x128x256, .i1⟩
  | 66 => ⟨S64x128x256, .i1⟩
  | 67 => ⟨S64x128x256, .i1⟩
  | 68 => ⟨S64x128x256, .i1⟩
  | 69 => ⟨S_, .f32⟩
  | 70 => ⟨S1, .f32⟩
  | 71 => ⟨S_, .f32⟩
  | 72 => ⟨S1, .f32⟩
  | 73 => ⟨S_, .f32⟩
  | 74 => ⟨S1, .f32⟩
  | 75 => ⟨S_, .f32⟩
  | 76 => ⟨S1, .f32⟩
  | 77 => ⟨S_, .f32⟩
  | 78 => ⟨S1, .f32⟩
  | 79 => ⟨S_, .f32⟩
  | 80 => ⟨S1, .f32⟩
  | 81 => ⟨S_, .f32⟩
  | 82 => ⟨S1, .f32⟩
  | 83 => ⟨S_, .f32⟩
  | 84 => ⟨S1, .f32⟩
  | 85 => ⟨S_, .f32⟩
  | 86 => ⟨S1, .f32⟩
  | 87 => ⟨S_, .f32⟩
  | 88 => ⟨S1, .f32⟩
  | 89 => ⟨S_, .f32⟩
  | 90 => ⟨S1, .f32⟩
  | 91 => ⟨S_, .f32⟩
  | 92 => ⟨S1, .f32⟩
  | 93 => ⟨S_, .f32⟩
  | 94 => ⟨S1, .f32⟩
  | 95 => ⟨S_, .f32⟩
  | 96 => ⟨S1, .f32⟩
  | 97 => ⟨S_, .f32⟩
  | 98 => ⟨S1, .f32⟩
  | 99 => ⟨S_, .f32⟩
  | 100 => ⟨S1, .f32⟩
  | 101 => ⟨S16, .f32⟩
  | 102 => ⟨S2x8, .f32⟩
  | 103 => ⟨S2x8x1x1, .f32⟩
  | 104 => ⟨S2x8x1x1, .f32⟩
  | 105 => ⟨S1x1x128x256, .f32⟩
  | 106 => ⟨S2x8x128x256, .f32⟩
  | 107 => ⟨S2x8x128x256, .f32⟩
  | 108 => ⟨S2x8x128x256, .f32⟩
  | 109 => ⟨S1x2x8x128x256, .f32⟩
  | 110 => ⟨S64x2x8x128x256, .f32⟩
  | 111 => ⟨S64x2x8x128x256, .f32⟩
  | 112 => ⟨S64x1x1x128x256, .i1⟩
  | 113 => ⟨S_, .f32⟩
  | 114 => ⟨S_, .f32⟩
  | 115 => ⟨S64x2x8x128x256, .i1⟩
  | 116 => ⟨S64x2x8x128x256, .f32⟩
  | 117 => ⟨S64x2x8x128x256, .f32⟩
  | 118 => ⟨S_, .f32⟩
  | 119 => ⟨S64x2x8x128x256, .f32⟩
  | 120 => ⟨S2x8, .f32⟩
  | 121 => ⟨S2x8x1x1, .f32⟩
  | 122 => ⟨S_, .f32⟩
  | 123 => ⟨S64x2x8x128, .f32⟩
  | 124 => ⟨S64x2x8x128x1, .f32⟩
  | 125 => ⟨S64x2x8x128x256, .f32⟩
  | 126 => ⟨S64x2x8x128x256, .i1⟩
  | 127 => ⟨S64x2x8x128x256, .f32⟩
  | _ => ⟨S8192x1024, .f32⟩

abbrev hbmTy0_1 (i : Nat) : BufTy := match i % 128 with
  | 0 => ⟨S_, .f32⟩
  | 1 => ⟨S64x2x8x128, .f32⟩
  | 2 => ⟨S64x2x8x128x1, .f32⟩
  | 3 => ⟨S1x2x8x1x1, .f32⟩
  | 4 => ⟨S64x2x8x128x1, .f32⟩
  | 5 => ⟨S64x2x8x128x1, .f32⟩
  | 6 => ⟨S64x2x8x128x1, .f32⟩
  | 7 => ⟨S64x2x8x128x1, .i1⟩
  | 8 => ⟨S64x2x8x128x1, .f32⟩
  | 9 => ⟨S64x2x8x128x1, .i1⟩
  | 10 => ⟨S_, .f32⟩
  | 11 => ⟨S64x2x8x128x1, .f32⟩
  | 12 => ⟨S_, .f32⟩
  | 13 => ⟨S64x2x8x128x1, .f32⟩
  | 14 => ⟨S_, .f32⟩
  | 15 => ⟨S64x2x8x128x1, .f32⟩
  | 16 => ⟨S64x2x8x128x1, .f32⟩
  | 17 => ⟨S64x2x8x128x1, .f32⟩
  | 18 => ⟨S64x2x8x128x1, .f32⟩
  | 19 => ⟨S64x2x8x128x1, .i1⟩
  | 20 => ⟨S64x2x8x128x1, .f32⟩
  | 21 => ⟨S64x2x8x128x1, .i1⟩
  | 22 => ⟨S_, .f32⟩
  | 23 => ⟨S64x2x8x128x1, .f32⟩
  | 24 => ⟨S_, .f32⟩
  | 25 => ⟨S64x2x8x128x1, .f32⟩
  | 26 => ⟨S_, .f32⟩
  | 27 => ⟨S64x2x8x128x1, .f32⟩
  | 28 => ⟨S64x2x8x128x1, .f32⟩
  | 29 => ⟨S64x2x8x128x1, .f32⟩
  | 30 => ⟨S64x2x8x128x256, .f32⟩
  | 31 => ⟨S64x2x8x128x256, .f32⟩
  | 32 => ⟨S64x2x8x128x256, .f32⟩
  | 33 => ⟨S_, .f32⟩
  | 34 => ⟨S64x2x8x128, .f32⟩
  | 35 => ⟨S64x2x8x128x1, .f32⟩
  | 36 => ⟨S1x2x8x1x1, .f32⟩
  | 37 => ⟨S64x2x8x128x1, .f32⟩
  | 38 => ⟨S64x2x8x128x1, .f32⟩
  | 39 => ⟨S64x2x8x128x1, .f32⟩
  | 40 => ⟨S64x2x8x128x1, .f32⟩
  | 41 => ⟨S64x2x8x128x256, .f32⟩
  | 42 => ⟨S64x2x8x128x256, .f32⟩
  | 43 => ⟨S64x2x8x128x1, .f32⟩
  | 44 => ⟨S_, .f32⟩
  | 45 => ⟨S64x2x8x128x1, .f32⟩
  | 46 => ⟨S64x2x8x128x1, .f32⟩
  | 47 => ⟨S64x2x64x8x128, .f32⟩
  | 48 => ⟨S64x128x2x8x64, .f32⟩
  | 49 => ⟨S8192x16x64, .f32⟩
  | 50 => ⟨S8192x16x64, .f32⟩
  | 51 => ⟨S64x128x2x8x64, .f32⟩
  | 52 => ⟨S64x2x64x8x128, .f32⟩
  | 53 => ⟨S64x2x8x128x256, .f32⟩
  | 54 => ⟨S64x2x64x256, .f32⟩
  | 55 => ⟨S64x256x2x64, .f32⟩
  | 56 => ⟨S64x2x8x128x256, .f32⟩
  | 57 => ⟨S64x2x8x128x256, .f32⟩
  | 58 => ⟨S64x2x8x128x256, .f32⟩
  | 59 => ⟨S_, .f32⟩
  | 60 => ⟨S64x2x8x128, .f32⟩
  | 61 => ⟨S64x2x8x128x1, .f32⟩
  | 62 => ⟨S64x2x8x128x1, .f32⟩
  | 63 => ⟨S64x2x8x128x256, .f32⟩
  | 64 => ⟨S64x2x8x128x256, .f32⟩
  | 65 => ⟨S64x2x8x128x1, .f32⟩
  | 66 => ⟨S_, .f32⟩
  | 67 => ⟨S2x8x1, .f32⟩
  | 68 => ⟨S1x2x8x1x1, .f32⟩
  | 69 => ⟨S64x2x8x128x1, .f32⟩
  | 70 => ⟨S_, .f32⟩
  | 71 => ⟨S2x8, .f32⟩
  | 72 => ⟨S2x8x1x1, .f32⟩
  | 73 => ⟨S_, .f32⟩
  | 74 => ⟨S64x2x8x128, .f32⟩
  | 75 => ⟨S64x2x8x128x256, .f32⟩
  | 76 => ⟨S64x2x8x128x256, .f32⟩
  | 77 => ⟨S64x2x8x128x256, .f32⟩
  | 78 => ⟨S64x2x8x128x256, .f32⟩
  | 79 => ⟨S_, .f32⟩
  | 80 => ⟨S64x2x8x128, .f32⟩
  | 81 => ⟨S64x2x8x128x1, .f32⟩
  | 82 => ⟨S64x2x8x128x1, .f32⟩
  | 83 => ⟨S64x2x8x128x1, .f32⟩
  | 84 => ⟨S_, .f32⟩
  | 85 => ⟨S2x8x1, .f32⟩
  | 86 => ⟨S1x2x8x1x1, .f32⟩
  | 87 => ⟨S64x2x8x128x1, .f32⟩
  | 88 => ⟨S_, .f32⟩
  | 89 => ⟨S2x8, .f32⟩
  | 90 => ⟨S2x8x1x1, .f32⟩
  | 91 => ⟨S2x8x1x1, .f32⟩
  | 92 => ⟨S_, .f32⟩
  | 93 => ⟨S64x2x8x128, .f32⟩
  | 94 => ⟨S64x2x8x128, .f32⟩
  | 95 => ⟨S64x2x8x128x256, .f32⟩
  | 96 => ⟨S64x2x8x128x256, .f32⟩
  | 97 => ⟨S64x2x8x128x256, .f32⟩
  | 98 => ⟨S_, .f32⟩
  | 99 => ⟨S2x8, .f32⟩
  | 100 => ⟨S16, .f32⟩
  | 101 => ⟨S_, .f32⟩
  | 102 => ⟨S64x2x8x128x256, .f32⟩
  | 103 => ⟨S64x2x8x128x256, .f32⟩
  | 104 => ⟨S_, .f32⟩
  | 105 => ⟨S64x2x8x128x256, .f32⟩
  | 106 => ⟨S64x2x8x128x256, .f32⟩
  | 107 => ⟨S64x2x256x128x8, .f32⟩
  | 108 => ⟨S64x2x128x8x64, .f32⟩
  | 109 => ⟨S64x128x2x8x64, .f32⟩
  | 110 => ⟨S64x2x256x64, .f32⟩
  | 111 => ⟨S64x256x2x64, .f32⟩
  | 112 => ⟨S64x128x2x64, .f32⟩
  | 113 => ⟨S64x128x2x64, .f32⟩
  | 114 => ⟨S_, .f32⟩
  | 115 => ⟨S65x128x2x64, .f32⟩
  | 116 => ⟨S_, .f32⟩
  | 117 => ⟨S65x128x2x64, .f32⟩
  | 118 => ⟨S65x128x2x64, .f32⟩
  | 119 => ⟨S64x128x2x64, .f32⟩
  | 120 => ⟨S64x128x2x64, .f32⟩
  | 121 => ⟨S_, .f32⟩
  | 122 => ⟨S65x128x2x64, .f32⟩
  | 123 => ⟨S_, .f32⟩
  | 124 => ⟨S65x128x2x64, .f32⟩
  | 125 => ⟨S65x128x2x64, .f32⟩
  | 126 => ⟨S1x128x2x64, .f32⟩
  | 127 => ⟨S64x128x2x64, .f32⟩
  | _ => ⟨S8192x1024, .f32⟩

abbrev hbmTy0_2 (i : Nat) : BufTy := match i % 128 with
  | 0 => ⟨S8192x2x64, .f32⟩
  | 1 => ⟨S1x128x2x64, .f32⟩
  | 2 => ⟨S64x128x2x64, .f32⟩
  | 3 => ⟨S8192x2x64, .f32⟩
  | 4 => ⟨S8192x16x64, .f32⟩
  | 5 => ⟨S8192x128, .f32⟩
  | 6 => ⟨S8192x128, .f32⟩
  | 7 => ⟨S8192x256, .f32⟩
  | 8 => ⟨S8192x1024, .f32⟩
  | 9 => ⟨S8192x1024, .bf16⟩
  | 10 => ⟨S_, .i32⟩
  | 11 => ⟨S_, .f32⟩
  | 12 => ⟨S8320x256, .f32⟩
  | 13 => ⟨S1x16, .f32⟩
  | 14 => ⟨S_, .i32⟩
  | 15 => ⟨S_, .f32⟩
  | 16 => ⟨S1x128, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_cst_14 : Ref sig .tc := ⟨.hbm, 81, rfl⟩
abbrev main_v61 : Ref sig .tc := ⟨.hbm, 82, rfl⟩
abbrev main_cst_15 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_cst_19 : Ref sig .tc := ⟨.hbm, 91, rfl⟩
abbrev main_v66 : Ref sig .tc := ⟨.hbm, 92, rfl⟩
abbrev main_cst_20 : Ref sig .tc := ⟨.hbm, 93, rfl⟩
abbrev main_v67 : Ref sig .tc := ⟨.hbm, 94, rfl⟩
abbrev main_cst_21 : Ref sig .tc := ⟨.hbm, 95, rfl⟩
abbrev main_v68 : Ref sig .tc := ⟨.hbm, 96, rfl⟩
abbrev main_cst_22 : Ref sig .tc := ⟨.hbm, 97, rfl⟩
abbrev main_v69 : Ref sig .tc := ⟨.hbm, 98, rfl⟩
abbrev main_cst_23 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_24 : Ref sig .tc := ⟨.hbm, 113, rfl⟩
abbrev main_call0_v0 : Ref sig .tc := ⟨.hbm, 114, rfl⟩
abbrev main_v83_1 : Ref sig .tc := ⟨.hbm, 115, rfl⟩
abbrev main_call0_v2 : Ref sig .tc := ⟨.hbm, 116, rfl⟩
abbrev main_v83_0 : Ref sig .tc := ⟨.hbm, 117, rfl⟩
abbrev main_call0_cst : Ref sig .tc := ⟨.hbm, 118, rfl⟩
abbrev main_v83_2 : Ref sig .tc := ⟨.hbm, 119, rfl⟩
abbrev main_v84 : Ref sig .tc := ⟨.hbm, 120, rfl⟩
abbrev main_v85 : Ref sig .tc := ⟨.hbm, 121, rfl⟩
abbrev main_cst_25 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_26 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_27 : Ref sig .tc := ⟨.hbm, 138, rfl⟩
abbrev main_v100 : Ref sig .tc := ⟨.hbm, 139, rfl⟩
abbrev main_cst_28 : Ref sig .tc := ⟨.hbm, 140, rfl⟩
abbrev main_v101 : Ref sig .tc := ⟨.hbm, 141, rfl⟩
abbrev main_cst_29 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_30 : Ref sig .tc := ⟨.hbm, 150, rfl⟩
abbrev main_v109 : Ref sig .tc := ⟨.hbm, 151, rfl⟩
abbrev main_cst_31 : Ref sig .tc := ⟨.hbm, 152, rfl⟩
abbrev main_v110 : Ref sig .tc := ⟨.hbm, 153, rfl⟩
abbrev main_cst_32 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_33 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_34 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_35 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_36 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_37 : Ref sig .tc := ⟨.hbm, 198, rfl⟩
abbrev main_v150 : Ref sig .tc := ⟨.hbm, 199, rfl⟩
abbrev main_v151 : Ref sig .tc := ⟨.hbm, 200, rfl⟩
abbrev main_cst_38 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_39 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_40 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_41 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_cst_42 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_cst_43 : Ref sig .tc := ⟨.hbm, 226, rfl⟩
abbrev main_v172 : Ref sig .tc := ⟨.hbm, 227, rfl⟩
abbrev main_v173 : Ref sig .tc := ⟨.hbm, 228, rfl⟩
abbrev main_call1_cst : Ref sig .tc := ⟨.hbm, 229, rfl⟩
abbrev main_call1_v0 : Ref sig .tc := ⟨.hbm, 230, rfl⟩
abbrev main_v174 : Ref sig .tc := ⟨.hbm, 231, rfl⟩
abbrev main_cst_44 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_45 : Ref sig .tc := ⟨.hbm, 242, rfl⟩
abbrev main_v184 : Ref sig .tc := ⟨.hbm, 243, rfl⟩
abbrev main_cst_46 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_cst_47 : Ref sig .tc := ⟨.hbm, 249, rfl⟩
abbrev main_v189 : Ref sig .tc := ⟨.hbm, 250, rfl⟩
abbrev main_cst_48 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_c_49 : Ref sig .tc := ⟨.hbm, 266, rfl⟩
abbrev main_call2_v0 : Ref sig .tc := ⟨.hbm, 267, rfl⟩
abbrev main_v204 : Ref sig .tc := ⟨.hbm, 268, rfl⟩
abbrev main_v205 : Ref sig .tc := ⟨.hbm, 269, rfl⟩
abbrev main_c_50 : Ref sig .tc := ⟨.hbm, 270, rfl⟩
abbrev main_call3_v0 : Ref sig .tc := ⟨.hbm, 271, rfl⟩
abbrev main_v206 : Ref sig .tc := ⟨.hbm, 272, rfl⟩

abbrev nD : Nat := 1
abbrev τ : Topo := Topo.v7x

variable {F : FTy → Type} [FloatOps F]
-- ==== LoKernel.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .bf16⟩
  | .hbm, ⟨7, _⟩ => ⟨S1024x1024, .f32⟩
  | .hbm, ⟨8, _⟩ => ⟨S1024x1024, .bf16⟩
  | .hbm, ⟨9, _⟩ => ⟨S8192x1024, .f32⟩
  | .hbm, ⟨10, _⟩ => ⟨S8192x1024, .bf16⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_31 : BitVec 32 := 0#32
  let v70 : BitVec 1 := Scalar.cmpi .ne v69 c0_i32_31
  v70

def k0_cond2 (i : grid0.Coords) : BitVec 1 :=
  let arg0 : BitVec 32 := BitVec.ofNat 32 (i 0).val
  let c0_i32 : BitVec 32 := 0#32
  let v68 : BitVec 1 := Scalar.cmpi .eq arg0 c0_i32
  let v_true : BitVec 1 := 1#1
  let v71 : BitVec 1 := Scalar.xori v68 v_true
  let v72 : BitVec 32 := Scalar.extui v71
  let c0_i32_32 : BitVec 32 := 0#32
  let v73 : BitVec 1 := Scalar.cmpi .ne v72 c0_i32_32
  v73

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]
-- ==== LoReferenceIdeal.lean ====
abbrev S8192x1024 : Shape := ⟨2, ![8192, 1024]⟩
abbrev S1x1024x1024 : Shape := ⟨3, ![1, 1024, 1024]⟩
abbrev S1x1024 : Shape := ⟨2, ![1, 1024]⟩
abbrev S_ : Shape := ⟨0, ![]⟩
abbrev S1024x1024 : Shape := ⟨2, ![1024, 1024]⟩
abbrev S8192 : Shape := ⟨1, ![8192]⟩
abbrev S8192x1 : Shape := ⟨2, ![8192, 1]⟩
abbrev S1024 : Shape := ⟨1, ![1024]⟩

abbrev nBuf : Space → Nat
  | .hbm => 113
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x1024, .f32⟩
  | .hbm, ⟨86, _⟩ => ⟨S8192x1024, .f32⟩
  | .hbm, ⟨87, _⟩ => ⟨S8192x1, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S8192, .f32⟩
  | .hbm, ⟨102, _⟩ => ⟨S8192x1, .f32⟩
  | .hbm, ⟨103, _⟩ => ⟨S8192x1024, .f32⟩
  | .hbm, ⟨104, _⟩ => ⟨S8192x1, .f32⟩
  | .hbm, ⟨105, _⟩ => ⟨S_, .f32⟩
  | .hbm, ⟨106, _⟩ => ⟨S8192x1, .f32⟩
  | .hbm, ⟨107, _⟩ => ⟨S8192x1, .f32⟩
  | .hbm, ⟨108, _⟩ => ⟨S_, .f32⟩
  | .hbm, ⟨109, _⟩ => ⟨S8192, .f32⟩
  | .hbm, ⟨110, _⟩ => ⟨S8192x1024, .f32⟩
  | .hbm, ⟨111, _⟩ => ⟨S8192x1024, .f32⟩
  | .hbm, ⟨112, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_16 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_18 : Ref sig .tc := ⟨.hbm, 89, rfl⟩
abbrev main_v64 : Ref sig .tc := ⟨.hbm, 90, rfl⟩
abbrev main_v65 : Ref sig .tc := ⟨.hbm, 91, rfl⟩
abbrev main_cst_19 : Ref sig .tc := ⟨.hbm, 92, rfl⟩
abbrev main_v66 : Ref sig .tc := ⟨.hbm, 93, rfl⟩
abbrev main_v67 : Ref sig .tc := ⟨.hbm, 94, rfl⟩
abbrev main_cst_20 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_21 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_22 : Ref sig .tc := ⟨.hbm, 105, rfl⟩
abbrev main_v76 : Ref sig .tc := ⟨.hbm, 106, rfl⟩
abbrev main_v77 : Ref sig .tc := ⟨.hbm, 107, rfl⟩
abbrev main_cst_23 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]
-- ==== LnKernel.lean ====
abbrev S8192x2304 : Shape := ⟨2, ![8192, 2304]⟩
abbrev S1x1024x2304 : Shape := ⟨3, ![1, 1024, 2304]⟩
abbrev S8192x1024 : Shape := ⟨2, ![8192, 1024]⟩
abbrev S8192x2048 : Shape := ⟨2, ![8192, 2048]⟩
abbrev S1x2048x1024 : Shape := ⟨3, ![1, 2048, 1024]⟩
abbrev S1x1024 : Shape := ⟨2, ![1, 1024]⟩
abbrev S_ : Shape := ⟨0, ![]⟩
abbrev S2048x1024 : Shape := ⟨2, ![2048, 1024]⟩
abbrev S1024x2304 : Shape := ⟨2, ![1024, 2304]⟩
abbrev S8192x256 : Shape := ⟨2, ![8192, 256]⟩
abbrev S512x1024 : Shape := ⟨2, ![512, 1024]⟩
abbrev S512x256 : Shape := ⟨2, ![512, 256]⟩
abbrev S1024x1024 : Shape := ⟨2, ![1024, 1024]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 23
  | .vmem => 18
  | .smem => 0
  | _ => 0

abbrev bufTy : (tb : Table) → Fin (tcTables nBuf tb) → BufTy
  | .hbm, ⟨0, _⟩ => ⟨S8192x2304, .f32⟩
  | .hbm, ⟨1, _⟩ => ⟨S1x1024x2304, .f32⟩
  | .hbm, ⟨2, _⟩ => ⟨S8192x1024, .f32⟩
  | .hbm, ⟨3, _⟩ => ⟨S8192x2048, .f32⟩
  | .hbm, ⟨4, _⟩ => ⟨S1x2048x1024, .f32⟩
  | .hbm, ⟨5, _⟩ => ⟨S8192x1024, .f32⟩
  | .hbm, ⟨6, _⟩ => ⟨S1x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S2048x1024, .f32⟩
  | .hbm, ⟨11, _⟩ => ⟨S8192x1024, .f32⟩
  | .hbm, ⟨12, _⟩ => ⟨S8192x1024, .f32⟩
  | .hbm, ⟨13, _⟩ => ⟨S8192x2304, .bf16⟩
  | .hbm, ⟨14, _⟩ => ⟨S1024x2304, .f32⟩
  | .hbm, ⟨15, _⟩ => ⟨S1024x2304, .bf16⟩
  | .hbm, ⟨16, _⟩ => ⟨S8192x1024, .bf16⟩
  | .hbm, ⟨17, _⟩ => ⟨S8192x1024, .bf16⟩
  | .hbm, ⟨18, _⟩ => ⟨S8192x256, .bf16⟩
  | .hbm, ⟨19, _⟩ => ⟨S8192x1024, .f32⟩
  | .hbm, ⟨20, _⟩ => ⟨S8192x1024, .bf16⟩
  | .hbm, ⟨21, _⟩ => ⟨S1x1024, .f32⟩
  | .hbm, ⟨22, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S1024x2304, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_33 : BitVec 32 := 0#32
  let v68 : BitVec 1 := Scalar.cmpi .ne v67 c0_i32_33
  v68

def k0_cond2 (i : grid0.Coords) : BitVec 1 :=
  let arg0 : BitVec 32 := BitVec.ofNat 32 (i 0).val
  let c0_i32 : BitVec 32 := 0#32
  let v66 : BitVec 1 := Scalar.cmpi .eq arg0 c0_i32
  let v_true : BitVec 1 := 1#1
  let v69 : BitVec 1 := Scalar.xori v66 v_true
  let v70 : BitVec 32 := Scalar.extui v69
  let c0_i32_34 : BitVec 32 := 0#32
  let v71 : BitVec 1 := Scalar.cmpi .ne v70 c0_i32_34
  v71

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]
-- ==== LnReferenceIdeal.lean ====
abbrev S8192x2304 : Shape := ⟨2, ![8192, 2304]⟩
abbrev S1x1024x2304 : Shape := ⟨3, ![1, 1024, 2304]⟩
abbrev S8192x1024 : Shape := ⟨2, ![8192, 1024]⟩
abbrev S8192x2048 : Shape := ⟨2, ![8192, 2048]⟩
abbrev S1x2048x1024 : Shape := ⟨3, ![1, 2048, 1024]⟩
abbrev S1x1024 : Shape := ⟨2, ![1, 1024]⟩
abbrev S_ : Shape := ⟨0, ![]⟩
abbrev S2048x1024 : Shape := ⟨2, ![2048, 1024]⟩
abbrev S8192 : Shape := ⟨1, ![8192]⟩
abbrev S8192x1 : Shape := ⟨2, ![8192, 1]⟩
abbrev S1024x2304 : Shape := ⟨2, ![1024, 2304]⟩
abbrev S1024 : Shape := ⟨1, ![1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x2304, .f32⟩
  | .hbm, ⟨1, _⟩ => ⟨S1x1024x2304, .f32⟩
  | .hbm, ⟨2, _⟩ => ⟨S8192x1024, .f32⟩
  | .hbm, ⟨3, _⟩ => ⟨S8192x2048, .f32⟩
  | .hbm, ⟨4, _⟩ => ⟨S1x2048x1024, .f32⟩
  | .hbm, ⟨5, _⟩ => ⟨S8192x1024, .f32⟩
  | .hbm, ⟨6, _⟩ => ⟨S1x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S2048x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S1x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1024x2304, .f32⟩
  | .hbm, ⟨50, _⟩ => ⟨S8192x2304, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .bf16⟩
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_17 : Ref sig .tc := ⟨.hbm, 92, rfl⟩
abbrev main_v67 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== RgKernel.lean ====
abbrev S8192x2048 : Shape := ⟨2, ![8192, 2048]⟩
abbrev S8192x1024 : Shape := ⟨2, ![8192, 1024]⟩
abbrev S8x1024 : Shape := ⟨2, ![8, 1024]⟩
abbrev S8x128x128 : Shape := ⟨3, ![8, 128, 128]⟩
abbrev S512x1024 : Shape := ⟨2, ![512, 1024]⟩
abbrev S520x1024 : Shape := ⟨2, ![520, 1024]⟩
abbrev S1x1024 : Shape := ⟨2, ![1, 1024]⟩
abbrev S512x128 : Shape := ⟨2, ![512, 128]⟩
abbrev S1x128x128 : Shape := ⟨3, ![1, 128, 128]⟩
abbrev S128x128 : Shape := ⟨2, ![128, 128]⟩
abbrev S1024 : Shape := ⟨1, ![1024]⟩

abbrev nBuf : Space → Nat
  | .hbm => 10
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8x1024, .f32⟩
  | .hbm, ⟨4, _⟩ => ⟨S8x128x128, .bf16⟩
  | .hbm, ⟨5, _⟩ => ⟨S8x128x128, .bf16⟩
  | .hbm, ⟨6, _⟩ => ⟨S8192x1024, .bf16⟩
  | .hbm, ⟨7, _⟩ => ⟨S8x128x128, .f32⟩
  | .hbm, ⟨8, _⟩ => ⟨S8x128x128, .f32⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x128x128, .bf16⟩
  | .local _ .vmem, ⟨12, _⟩ => ⟨S8x128x128, .bf16⟩
  | .local _ .vmem, ⟨13, _⟩ => ⟨S512x1024, .bf16⟩
  | .local _ .vmem, ⟨14, _⟩ => ⟨S512x1024, .bf16⟩
  | .local _ .vmem, ⟨15, _⟩ => ⟨S8x128x128, .f32⟩
  | .local _ .vmem, ⟨16, _⟩ => ⟨S8x128x128, .f32⟩
  | .local _ .vmem, ⟨17, _⟩ => ⟨S8x1024, .f32⟩
  | .local _ .vmem, ⟨18, _⟩ => ⟨S520x1024, .f32⟩
  | .local _ .vmem, ⟨19, _⟩ => ⟨S520x1024, .f32⟩
  | .local _ .vmem, ⟨20, _⟩ => ⟨S520x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_98 : BitVec 32 := 0#32
  let c64_i32 : BitVec 32 := 64#32
  let v171 : BitVec 32 := Scalar.addi c0_i32_98 c64_i32
  let c1_i32 : BitVec 32 := 1#32
  ⟨c0_i32_98, v171, c1_i32⟩
def k0_mult1 (k0_t1 : Fin k0_t1_loop.trips) : BitVec 32 :=
  let c504_i32 : BitVec 32 := 504#32
  let c0_i32_98 : BitVec 32 := 0#32
  let c1_i32 : BitVec 32 := 1#32
  let arg19 : BitVec 32 := Scf.iv c0_i32_98 c1_i32 k0_t1
  let c8_i32 : BitVec 32 := 8#32
  let v509 : BitVec 32 := Scalar.muli arg19 c8_i32
  let v510 : BitVec 32 := Scalar.subi c504_i32 v509
  v510
def k0_off1 (k0_t1 : Fin k0_t1_loop.trips) (c7_i32 : BitVec 32) : Fin 2 → Nat :=
  let c504_i32 : BitVec 32 := 504#32
  let c0_i32_98 : BitVec 32 := 0#32
  let c1_i32 : BitVec 32 := 1#32
  let arg19 : BitVec 32 := Scf.iv c0_i32_98 c1_i32 k0_t1
  let c8_i32 : BitVec 32 := 8#32
  let v509 : BitVec 32 := Scalar.muli arg19 c8_i32
  let v510 : BitVec 32 := Scalar.subi c504_i32 v509
  let v511 : BitVec 32 := v510
  let v512 : BitVec 32 := Scalar.addi v511 c7_i32
  let v513 : Index := Scalar.indexCast v512
  let c0_347 : Index := 0#32
  ![v513.toNat, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Proof.Reals.lean ====
/-
  Extended reals that are real numbers, and the precondition "every element is finite" read back.
-/
module

public import Idealize.ShloMosaic.Lib.Pointwise
public import Idealize.ShloMosaic.Lib.ReduceAll

@[expose] public section

namespace Cert.Reals

open Idealize.ShloMosaic

/-- The word of +∞ is the top element. -/
theorem ofBits_inf : Ideal.ofBits .f32 0x7F800000#32 = ⊤ := by
  simp [Ideal.ofBits, Ideal.ieee]

/-- An extended real whose absolute value is below +∞ is a real number. -/
theorem real_of_abs {x : EReal} (h : Ideal.cmp .olt (max x (-x)) (Ideal.ofBits .f32 0x7F800000#32) = 1#1) : ∃ r : ℝ, x = r := by
  rw [ofBits_inf] at h
  induction x with
  | bot => exact absurd h (by simp [Ideal.cmp])
  | coe r => exact ⟨r, rfl⟩
  | top => exact absurd h (by simp [Ideal.cmp])

/-- `jnp.all(jnp.abs(x) < jnp.inf)` says that every element of `x` is a real number. -/
theorem real_of_all {s t u z : Shape} [Subsingleton t.Idx] {axes : List (Fin s.rank)} (x : FVec Ideal s .f32) (d : Fin z.rank → Fin s.rank) (hb : z.BroadcastsInDim s d)
    (init : IVec u 1) (h : s.ReducesTo axes t) (hu : 0 < u.numel) (j : t.Idx)
    (e : Host.reduce IntOp.andi (cmpf .olt (Host.absf x) (broadcastInDim s d hb (constant z .f32 0x7F800000#32))) init h hu j = 1#1)
    (i : s.Idx) : ∃ r : ℝ, x i = r :=
  real_of_abs (Host.reduce_andi_all _ _ h hu j e i)

/-- A sum of real numbers is the real sum. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

end Cert.Reals
-- ==== Proof.Gate.lean ====
module

public import proofs.«01_k».proof.Defs
public import proofs.«01_k».proof.Proof.Gen.GateKernel.Frame
public import proofs.«01_k».proof.Proof.Gen.GateKernelIdeal.Value
public import proofs.«01_k».proof.Proof.Gen.GateReferenceIdeal
public import proofs.«01_k».proof.Proof.Gen.Pre_gate_finite
public import proofs.«01_k».proof.Proof.Gen.GateReferenceIdeal.Run
public import proofs.«01_k».proof.Proof.Gen.GateReferenceIdeal.Read
public import proofs.«01_k».proof.Proof.Reals
public import Idealize.ShloMosaic.Lib.Pipeline.ValueKit
public import Idealize.ShloMosaic.Lib.Pointwise

@[expose] public section

set_option maxRecDepth 16384

noncomputable section

namespace Cert.Gate

open Idealize.ShloMosaic Idealize.ShloMosaic.TcCoe Idealize.SL.Sem
open Cert.Reals Cert.GateReferenceIdeal.Read Cert.GateKernelIdeal Cert.GateKernelIdeal.Gen

variable (m : (ℓ : Loc nD τ sig) → Buf (Elt Ideal) ℓ)

/-- Where each window's block lies: point `t` takes rows `512 t …` of the row arrays, and always the second half of the weight's rows. -/
theorem idx (t : Fin grid0.N) : win0_0.index t = ![t.val, 0] ∧ win0_1.index t = ![1, 0] ∧ win0_2.index t = ![t.val, 0]
    ∧ win0_3.index t = ![t.val, 0] ∧ win0_4.index t = ![t.val, 0] ∧ win0_5.index t = ![t.val, 0] := by
  revert t; decide +kernel

/-- The array of the first result after the run is the reference's first result. -/
theorem final4 (c : Dev nD) : (dats m 0 c).arrAt 4 cfg0.N
    = val_main_v9 (F := Ideal) (m ((c : Thread nD τ).loc main_arg0)) (m ((c : Thread nD τ).loc main_arg1)) (m ((c : Thread nD τ).loc main_arg3)) := by
  refine (dats m 0 c).arrAt_eq_of_covers 4 _ (by decide +kernel) fun t hf y => ?_
  blk_simp
  rw [after0_4]
  frame_out
  pointwise [k0_pay3, k0_pay2, k0_pay1, val_main_v9, val_main_v7, val_main_v0_0, val_main_v5, val_main_v3, val_main_v2, val_main_v0_2, val_main_call0_v4, val_main_call0_v3, val_main_call0_v2, val_main_call0_v1, val_main_call0_v0, val_main_call0_cst, val_main_call0_cst_0]
  simp only [zero_sub]
  blk_point [iblk, V, idx t]

/-- The gate's slope written in one product is the sum that differentiating a product leaves, for a real cotangent. -/
theorem slope (t : ℝ) (g : EReal) :
    (t : EReal) * (Ideal.div 1 (1 + Ideal.exp (-g)) * (1 + g * (1 - Ideal.div 1 (1 + Ideal.exp (-g)))))
      = t * Ideal.div 1 (1 + Ideal.exp (-g))
        + g * t * (Ideal.div 1 (1 + Ideal.exp (-g)) * (1 - Ideal.div 1 (1 + Ideal.exp (-g)))) := by
  change (t : EReal) * (Ideal.logistic g * (1 + g * (1 - Ideal.logistic g)))
      = t * Ideal.logistic g + g * t * (Ideal.logistic g * (1 - Ideal.logistic g))
  have h1 : (1 : EReal) - 1 = 0 := by rw [← EReal.coe_one, ← EReal.coe_sub, sub_self, EReal.coe_zero]
  induction g with
  | bot => simp
  | top => simp [h1]
  | coe r =>
    rw [Ideal.logistic_coe, ← EReal.coe_one]
    simp only [← EReal.coe_sub, ← EReal.coe_mul, ← EReal.coe_add, EReal.coe_eq_coe_iff]
    ring

/-- `slope` between two spellings of the same numbers. -/
theorem slope_congr {A A' o o' g g' : EReal} (hA : A = A') (ho : o = o') (hg : g = g') (hr : ∃ r : ℝ, o' * A' = r) :
    A * o * (Ideal.div 1 (1 + Ideal.exp (-g)) * (1 + g * (1 - Ideal.div 1 (1 + Ideal.exp (-g)))))
      = o' * A' * Ideal.div 1 (1 + Ideal.exp (-g'))
        + g' * (o' * A') * (Ideal.div 1 (1 + Ideal.exp (-g')) * (1 - Ideal.div 1 (1 + Ideal.exp (-g')))) := by
  subst hA ho hg
  obtain ⟨r, hr⟩ := hr
  rw [mul_comm A o, hr, slope]

/-- The array of the second result after the run is the reference's second result. -/
theorem final5 (c : Dev nD)
    (h0 : ∀ i, ∃ r : ℝ, m ((c : Thread nD τ).loc main_arg0) i = (r : EReal)) (h1 : ∀ i, ∃ r : ℝ, m ((c : Thread nD τ).loc main_arg1) i = (r : EReal))
    (h2 : ∀ i, ∃ r : ℝ, m ((c : Thread nD τ).loc main_arg2) i = (r : EReal)) : (dats m 0 c).arrAt 5 cfg0.N
    = val_main_v10 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay4, k0_pay2, k0_pay1, val_main_v10, val_main_v8, val_main_call1_v0, val_main_call1_v1, val_main_call1_v2, val_main_v6, val_main_v0_1, val_main_v5, val_main_v3, val_main_v2, val_main_v0_2, val_main_call0_v4, val_main_call0_v3, val_main_call0_v2, val_main_call0_v1, val_main_call0_v0, val_main_call0_v6, val_main_call0_v7, val_main_call0_cst, val_main_call0_cst_0, val_main_call0_cst_1]
  simp only [zero_sub]
  refine slope_congr ?_ ?_ ?_ ?_
  · blk_point [iblk, V, idx t]
  · blk_point [iblk, V, idx t]
  · blk_point [iblk, V, idx t]
  · choose r0 hr0 using h0
    choose r1 hr1 using h1
    choose r2 hr2 using h2
    simp only [hr0, hr1, hr2, ← EReal.coe_mul, sum_coe]
    exact ⟨_, rfl⟩

/-- The gate's call terminates with its arguments unchanged and its semaphores at zero, on bits. -/
theorem frame_kernel : Cert.quiescent_GateKernel := fun m ρ _ => Cert.GateKernel.Gen.frame m ρ

/-- The same over the extended reals. -/
theorem frame_ideal : Cert.quiescent_GateKernelIdeal := fun m ρ _ => Cert.GateKernelIdeal.Gen.frame m ρ

/-- The same under the precondition. -/
theorem frame_ideal_finite : Cert.quiescent_GateKernelIdeal_pre_gate_finite := fun m ρ _ => Cert.GateKernelIdeal.Gen.frame m ρ

/-- The reference terminates with its arguments unchanged. -/
theorem frame_reference : Cert.quiescent_GateReferenceIdeal := fun m ρ _ =>
  (θ_run Cert.GateReferenceIdeal.defs _ _).mono (fun r h => ⟨fun c => (h c).2.2, sem_eq_zero_of_no_sems (by rfl) r.2⟩)
    (Cert.GateReferenceIdeal.Value.run m ρ)

/-- The same under the precondition. -/
theorem frame_reference_finite : Cert.quiescent_GateReferenceIdeal_pre_gate_finite := fun m ρ _ => frame_reference m ρ trivial

/-- The precondition says that the cotangent, the weight and the attention output hold real numbers. -/
theorem reals_of_pre (x0 : FVec Ideal S8192x1024 .f32) (x1 : FVec Ideal Cert.Pre_gate_finite.S1x2048x1024 .f32) (x2 x3 : FVec Ideal S8192x1024 .f32)
    (h : Cert.Pre_gate_finite.fn (F := Ideal) x0 x1 x2 x3 = fun _ => 1#1) :
    (∀ i, ∃ r : ℝ, x0 i = r) ∧ (∀ i, ∃ r : ℝ, x1 i = r) ∧ ∀ i, ∃ r : ℝ, x2 i = r := by
  have e := congrFun h ix0
  unfold Cert.Pre_gate_finite.fn at e
  haveI : Subsingleton Cert.Pre_gate_finite.S_.Idx := ⟨fun a b => funext fun k => k.elim0⟩
  obtain ⟨e', e2⟩ := IntOp.andi_eq_one.1 e
  obtain ⟨e0, e1⟩ := IntOp.andi_eq_one.1 e'
  exact ⟨real_of_all _ _ _ _ _ _ _ e0, real_of_all _ _ _ _ _ _ _ e1, real_of_all _ _ _ _ _ _ _ e2⟩

/-- For a finite cotangent, weight and attention output, the gate's call computes both gradients that differentiating the
    forward lines gives, over the extended reals. -/
theorem algebraic : Cert.algebraic_GateKernelIdeal_GateReferenceIdeal_pre_gate_finite := by
  intro m g m' g' hpre hagree
  refine ⟨fun c => _, fun c => _, Cert.GateKernelIdeal.Value.run_blocks m g, ?_⟩
  refine (θ_run _ _ _).mono (fun r h c => ?_) (Cert.GateReferenceIdeal.Value.run m' g')
  obtain ⟨a0, a1, a2, a3⟩ := hagree c
  obtain ⟨h0, h1, h2⟩ := reals_of_pre _ _ _ _ (hpre c)
  refine ⟨(h c).1.trans ?_, (h c).2.1.trans ?_, (h c).2.2⟩
  · rw [a0, a1, a3]
    exact (val_main_v9_eq (F := Ideal) _ _ _).trans (final4 m c).symm
  · rw [a0, a1, a2, a3]
    exact (val_main_v10_eq (F := Ideal) _ _ _ _).trans (final5 m c h0 h1 h2).symm

end Cert.Gate
end
-- ==== Proof.GateOne.lean ====
module

public import proofs.«01_k».proof.Defs
public import proofs.«01_k».proof.Proof.Gen.GateOneKernel.Frame
public import proofs.«01_k».proof.Proof.Gen.GateOneKernelIdeal.Value
public import proofs.«01_k».proof.Proof.Gen.GateOneReferenceIdeal
public import proofs.«01_k».proof.Proof.Gen.Pre_gate1_finite
public import proofs.«01_k».proof.Proof.Gen.GateOneReferenceIdeal.Run
public import proofs.«01_k».proof.Proof.Gen.GateOneReferenceIdeal.Read
public import proofs.«01_k».proof.Proof.Gate
public import Idealize.ShloMosaic.Lib.Pipeline.ValueKit
public import Idealize.ShloMosaic.Lib.Pointwise

@[expose] public section

set_option maxRecDepth 16384

noncomputable section

namespace Cert.GateOne

open Idealize.ShloMosaic Idealize.ShloMosaic.TcCoe Idealize.SL.Sem
open Cert.Reals Cert.GateOneReferenceIdeal.Read Cert.GateOneKernelIdeal Cert.GateOneKernelIdeal.Gen

variable (m : (ℓ : Loc nD τ sig) → Buf (Elt Ideal) ℓ)

/-- Where each window's block lies: point `t` takes rows `512 t …` of the row arrays, and always the whole weight. -/
theorem idx (t : Fin grid0.N) : win0_0.index t = ![t.val, 0] ∧ win0_1.index t = ![0, 0] ∧ win0_2.index t = ![t.val, 0]
    ∧ win0_3.index t = ![t.val, 0] ∧ win0_4.index t = ![t.val, 0] ∧ win0_5.index t = ![t.val, 0] := by
  revert t; decide +kernel

/-- The array of the first result after the run is the reference's first result. -/
theorem final4 (c : Dev nD) : (dats m 0 c).arrAt 4 cfg0.N
    = val_main_v8 (F := Ideal) (m ((c : Thread nD τ).loc main_arg0)) (m ((c : Thread nD τ).loc main_arg1)) (m ((c : Thread nD τ).loc main_arg3)) := by
  refine (dats m 0 c).arrAt_eq_of_covers 4 _ (by decide +kernel) fun t hf y => ?_
  blk_simp
  rw [after0_4]
  frame_out
  pointwise [k0_pay3, k0_pay2, k0_pay1, val_main_v8, val_main_v6, val_main_v0_0, val_main_v4, val_main_v2, val_main_v0_2, val_main_call0_v4, val_main_call0_v3, val_main_call0_v2, val_main_call0_v1, val_main_call0_v0, val_main_call0_cst, val_main_call0_cst_0]
  simp only [zero_sub]
  blk_point [iblk, V, idx t]

/-- The array of the second result after the run is the reference's second result. -/
theorem final5 (c : Dev nD)
    (h0 : ∀ i, ∃ r : ℝ, m ((c : Thread nD τ).loc main_arg0) i = (r : EReal)) (h1 : ∀ i, ∃ r : ℝ, m ((c : Thread nD τ).loc main_arg1) i = (r : EReal))
    (h2 : ∀ i, ∃ r : ℝ, m ((c : Thread nD τ).loc main_arg2) i = (r : EReal)) : (dats m 0 c).arrAt 5 cfg0.N
    = val_main_v9 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay4, k0_pay2, k0_pay1, val_main_v9, val_main_v7, val_main_call1_v0, val_main_call1_v1, val_main_call1_v2, val_main_v5, val_main_v0_1, val_main_v4, val_main_v2, val_main_v0_2, val_main_call0_v4, val_main_call0_v3, val_main_call0_v2, val_main_call0_v1, val_main_call0_v0, val_main_call0_v6, val_main_call0_v7, val_main_call0_cst, val_main_call0_cst_0, val_main_call0_cst_1]
  simp only [zero_sub]
  refine Cert.Gate.slope_congr ?_ ?_ ?_ ?_
  · blk_point [iblk, V, idx t]
  · blk_point [iblk, V, idx t]
  · blk_point [iblk, V, idx t]
  · choose r0 hr0 using h0
    choose r1 hr1 using h1
    choose r2 hr2 using h2
    simp only [hr0, hr1, hr2, ← EReal.coe_mul, sum_coe]
    exact ⟨_, rfl⟩

/-- The odd layer's gate call terminates with its arguments unchanged and its semaphores at zero, on bits. -/
theorem frame_kernel : Cert.quiescent_GateOneKernel := fun m ρ _ => Cert.GateOneKernel.Gen.frame m ρ

/-- The same over the extended reals. -/
theorem frame_ideal : Cert.quiescent_GateOneKernelIdeal := fun m ρ _ => Cert.GateOneKernelIdeal.Gen.frame m ρ

/-- The same under the precondition. -/
theorem frame_ideal_finite : Cert.quiescent_GateOneKernelIdeal_pre_gate1_finite := fun m ρ _ => Cert.GateOneKernelIdeal.Gen.frame m ρ

/-- The reference terminates with its arguments unchanged. -/
theorem frame_reference : Cert.quiescent_GateOneReferenceIdeal := fun m ρ _ =>
  (θ_run Cert.GateOneReferenceIdeal.defs _ _).mono (fun r h => ⟨fun c => (h c).2.2, sem_eq_zero_of_no_sems (by rfl) r.2⟩)
    (Cert.GateOneReferenceIdeal.Value.run m ρ)

/-- The same under the precondition. -/
theorem frame_reference_finite : Cert.quiescent_GateOneReferenceIdeal_pre_gate1_finite := fun m ρ _ => frame_reference m ρ trivial

/-- The precondition says that the cotangent, the weight and the attention output hold real numbers. -/
theorem reals_of_pre (x0 : FVec Ideal S8192x1024 .f32) (x1 : FVec Ideal Cert.Pre_gate1_finite.S1x1024x1024 .f32) (x2 x3 : FVec Ideal S8192x1024 .f32)
    (h : Cert.Pre_gate1_finite.fn (F := Ideal) x0 x1 x2 x3 = fun _ => 1#1) :
    (∀ i, ∃ r : ℝ, x0 i = r) ∧ (∀ i, ∃ r : ℝ, x1 i = r) ∧ ∀ i, ∃ r : ℝ, x2 i = r := by
  have e := congrFun h ix0
  unfold Cert.Pre_gate1_finite.fn at e
  haveI : Subsingleton Cert.Pre_gate1_finite.S_.Idx := ⟨fun a b => funext fun k => k.elim0⟩
  obtain ⟨e', e2⟩ := IntOp.andi_eq_one.1 e
  obtain ⟨e0, e1⟩ := IntOp.andi_eq_one.1 e'
  exact ⟨real_of_all _ _ _ _ _ _ _ e0, real_of_all _ _ _ _ _ _ _ e1, real_of_all _ _ _ _ _ _ _ e2⟩

/-- For a finite cotangent, weight and attention output, the odd layer's gate call computes both gradients that differentiating the
    forward lines gives, over the extended reals. -/
theorem algebraic : Cert.algebraic_GateOneKernelIdeal_GateOneReferenceIdeal_pre_gate1_finite := by
  intro m g m' g' hpre hagree
  refine ⟨fun c => _, fun c => _, Cert.GateOneKernelIdeal.Value.run_blocks m g, ?_⟩
  refine (θ_run _ _ _).mono (fun r h c => ?_) (Cert.GateOneReferenceIdeal.Value.run m' g')
  obtain ⟨a0, a1, a2, a3⟩ := hagree c
  obtain ⟨h0, h1, h2⟩ := reals_of_pre _ _ _ _ (hpre c)
  refine ⟨(h c).1.trans ?_, (h c).2.1.trans ?_, (h c).2.2⟩
  · rw [a0, a1, a3]
    exact (val_main_v8_eq (F := Ideal) _ _ _).trans (final4 m c).symm
  · rw [a0, a1, a2, a3]
    exact (val_main_v9_eq (F := Ideal) _ _ _ _).trans (final5 m c h0 h1 h2).symm

end Cert.GateOne
end
-- ==== Proof.GateA.lean ====
module

public import proofs.«01_k».proof.Defs
public import proofs.«01_k».proof.Proof.Gen.GateAKernel.Frame
public import proofs.«01_k».proof.Proof.Gen.GateAKernelIdeal.Value
public import proofs.«01_k».proof.Proof.Gen.GateAReferenceIdeal
public import proofs.«01_k».proof.Proof.Gen.Pre_gatea_finite
public import proofs.«01_k».proof.Proof.Gen.GateAReferenceIdeal.Run
public import proofs.«01_k».proof.Proof.Gen.GateAReferenceIdeal.Read
public import proofs.«01_k».proof.Proof.Gate
public import Idealize.ShloMosaic.Lib.Pipeline.ValueKit
public import Idealize.ShloMosaic.Lib.Pointwise

@[expose] public section

set_option maxRecDepth 16384

noncomputable section

namespace Cert.GateA

open Idealize.ShloMosaic Idealize.ShloMosaic.TcCoe Idealize.SL.Sem
open Cert.Reals Cert.GateAReferenceIdeal.Read Cert.GateAKernelIdeal Cert.GateAKernelIdeal.Gen

variable (m : (ℓ : Loc nD τ sig) → Buf (Elt Ideal) ℓ)

/-- Where each window's block lies: point `t` takes rows `512 t …` of the row arrays, and always the first half of the weight's rows and the second half of the projection's columns. -/
theorem idx (t : Fin grid0.N) : win0_0.index t = ![t.val, 0] ∧ win0_1.index t = ![0, 0] ∧ win0_2.index t = ![t.val, 0]
    ∧ win0_3.index t = ![t.val, 1] ∧ win0_4.index t = ![t.val, 0] ∧ win0_5.index t = ![t.val, 0] := by
  revert t; decide +kernel

/-- The array of the first result after the run is the reference's first result. -/
theorem final4 (c : Dev nD) : (dats m 0 c).arrAt 4 cfg0.N
    = val_main_v8 (F := Ideal) (m ((c : Thread nD τ).loc main_arg0)) (m ((c : Thread nD τ).loc main_arg1)) (m ((c : Thread nD τ).loc main_arg3)) := by
  refine (dats m 0 c).arrAt_eq_of_covers 4 _ (by decide +kernel) fun t hf y => ?_
  blk_simp
  rw [after0_4]
  frame_out
  pointwise [k0_pay3, k0_pay2, k0_pay1, val_main_v8, val_main_v0, val_main_v1_0, val_main_v6, val_main_v4, val_main_v3, val_main_v1_2, val_main_call0_v4, val_main_call0_v3, val_main_call0_v2, val_main_call0_v1, val_main_call0_v0, val_main_call0_cst, val_main_call0_cst_0]
  simp only [zero_sub]
  blk_point [iblk, V, idx t]

/-- The array of the second result after the run is the reference's second result. -/
theorem final5 (c : Dev nD)
    (h0 : ∀ i, ∃ r : ℝ, m ((c : Thread nD τ).loc main_arg0) i = (r : EReal)) (h1 : ∀ i, ∃ r : ℝ, m ((c : Thread nD τ).loc main_arg1) i = (r : EReal))
    (h2 : ∀ i, ∃ r : ℝ, m ((c : Thread nD τ).loc main_arg2) i = (r : EReal)) : (dats m 0 c).arrAt 5 cfg0.N
    = val_main_v10 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay4, k0_pay2, k0_pay1, val_main_v10, val_main_v0, val_main_v9, val_main_call1_v0, val_main_call1_v1, val_main_call1_v2, val_main_v7, val_main_v1_1, val_main_v6, val_main_v4, val_main_v3, val_main_v1_2, val_main_call0_v4, val_main_call0_v3, val_main_call0_v2, val_main_call0_v1, val_main_call0_v0, val_main_call0_v6, val_main_call0_v7, val_main_call0_cst, val_main_call0_cst_0, val_main_call0_cst_1]
  simp only [zero_sub]
  refine Cert.Gate.slope_congr ?_ ?_ ?_ ?_
  · blk_point [iblk, V, idx t]
  · blk_point [iblk, V, idx t]
  · blk_point [iblk, V, idx t]
  · choose r0 hr0 using h0
    choose r1 hr1 using h1
    choose r2 hr2 using h2
    simp only [hr0, hr1, hr2, ← EReal.coe_mul, sum_coe]
    exact ⟨_, rfl⟩

/-- The recurrence's gate call terminates with its arguments unchanged and its semaphores at zero, on bits. -/
theorem frame_kernel : Cert.quiescent_GateAKernel := fun m ρ _ => Cert.GateAKernel.Gen.frame m ρ

/-- The same over the extended reals. -/
theorem frame_ideal : Cert.quiescent_GateAKernelIdeal := fun m ρ _ => Cert.GateAKernelIdeal.Gen.frame m ρ

/-- The same under the precondition. -/
theorem frame_ideal_finite : Cert.quiescent_GateAKernelIdeal_pre_gatea_finite := fun m ρ _ => Cert.GateAKernelIdeal.Gen.frame m ρ

/-- The reference terminates with its arguments unchanged. -/
theorem frame_reference : Cert.quiescent_GateAReferenceIdeal := fun m ρ _ =>
  (θ_run Cert.GateAReferenceIdeal.defs _ _).mono (fun r h => ⟨fun c => (h c).2.2, sem_eq_zero_of_no_sems (by rfl) r.2⟩)
    (Cert.GateAReferenceIdeal.Value.run m ρ)

/-- The same under the precondition. -/
theorem frame_reference_finite : Cert.quiescent_GateAReferenceIdeal_pre_gatea_finite := fun m ρ _ => frame_reference m ρ trivial

/-- The precondition says that the cotangent, the weight and the recurrence's output hold real numbers. -/
theorem reals_of_pre (x0 : FVec Ideal S8192x1024 .f32) (x1 : FVec Ideal S1x2048x1024 .f32) (x2 : FVec Ideal S8192x1024 .f32) (x3 : FVec Ideal S8192x2048 .f32)
    (h : Cert.Pre_gatea_finite.fn (F := Ideal) x0 x1 x2 x3 = fun _ => 1#1) :
    (∀ i, ∃ r : ℝ, x0 i = r) ∧ (∀ i, ∃ r : ℝ, x1 i = r) ∧ ∀ i, ∃ r : ℝ, x2 i = r := by
  have e := congrFun h ix0
  unfold Cert.Pre_gatea_finite.fn at e
  haveI : Subsingleton Cert.Pre_gatea_finite.S_.Idx := ⟨fun a b => funext fun k => k.elim0⟩
  obtain ⟨e', e2⟩ := IntOp.andi_eq_one.1 e
  obtain ⟨e0, e1⟩ := IntOp.andi_eq_one.1 e'
  exact ⟨real_of_all _ _ _ _ _ _ _ e0, real_of_all _ _ _ _ _ _ _ e1, real_of_all _ _ _ _ _ _ _ e2⟩

/-- For a finite cotangent, weight and recurrence's output, the recurrence's gate call computes both gradients that differentiating the
    forward lines gives, over the extended reals. -/
theorem algebraic : Cert.algebraic_GateAKernelIdeal_GateAReferenceIdeal_pre_gatea_finite := by
  intro m g m' g' hpre hagree
  refine ⟨fun c => _, fun c => _, Cert.GateAKernelIdeal.Value.run_blocks m g, ?_⟩
  refine (θ_run _ _ _).mono (fun r h c => ?_) (Cert.GateAReferenceIdeal.Value.run m' g')
  obtain ⟨a0, a1, a2, a3⟩ := hagree c
  obtain ⟨h0, h1, h2⟩ := reals_of_pre _ _ _ _ (hpre c)
  refine ⟨(h c).1.trans ?_, (h c).2.1.trans ?_, (h c).2.2⟩
  · rw [a0, a1, a3]
    exact (val_main_v8_eq (F := Ideal) _ _ _).trans (final4 m c).symm
  · rw [a0, a1, a2, a3]
    exact (val_main_v10_eq (F := Ideal) _ _ _ _).trans (final5 m c h0 h1 h2).symm

end Cert.GateA
end
-- ==== Proof.SbBody.lean ====
/-
  The body of the kernel written with its repetitions as functions: one grid point handles eight blocks of 256 query rows, and for each
  block makes the same steps at other offsets. `Sb.body` is that program; `Cert.SbKernelIdeal.cc0_sb_bwd` is shown equal to it in SbEqual.lean.
-/
module

public import proofs.«01_k».proof.SbKernelIdeal

@[expose] public section

set_option maxRecDepth 16384

noncomputable section

namespace Cert.Sb

open Idealize.ShloMosaic Idealize.SL.Sem
open Cert.SbKernelIdeal Cert.SbKernelIdeal.Facts₀ Cert.SbKernelIdeal.Facts

variable {F : FTy → Type} [FloatOps F] [Named F] [Facts]

/-- Programs of the kernel's core. -/
abbrev P (α : Type) := Prog (TpuEff nD τ sig (Elt F) (Λ₀ F) .tc) α

/-- The number of the `u`-th query block of grid point `i`. -/
abbrev blockNo (i : grid0.Coords) (u : BitVec 32) : BitVec 32 :=
  Scalar.addi (Scalar.muli (BitVec.ofNat 32 (i 1).val) 8#32) u

/-- The first point of each head sets the two running sums to zero. -/
def reset (i : grid0.Coords) (dk dv : Memref sig .tc .vmem S8192x128 .f32) : P (F := F) PUnit := do
  if h : Scalar.cmpi .ne (Scalar.extui (Scalar.cmpi .eq (BitVec.ofNat 32 (i 1).val) 0#32)) 0#32 = 1#1 then do
    have z : FVec F S8192x128 .f32 := broadcast S8192x128 (Scalar.ofBits .f32 0x00000000#32)
    let _x : Vec F S8192x128 .f32 ← Prog.lift (.load dk (Rect.unit (s := S8192x128) ![0, 0] S8192x128.size inb_S8192x128_S8192x128_0_0).toLoadRect (View.loadsAt_vmem h_S8192x128))
    have z' : FVec F S8192x128 .f32 := shapeCast S8192x128 z shapeCasts_S8192x128_S8192x128
    Prog.lift (.store dk (Rect.unit (s := S8192x128) ![0, 0] S8192x128.size inb_S8192x128_S8192x128_0_0) z' Finset.univ (View.stores_vmem_bits_univ h_S8192x128 rfl) (.inl rfl))
    let _y : Vec F S8192x128 .f32 ← Prog.lift (.load dv (Rect.unit (s := S8192x128) ![0, 0] S8192x128.size inb_S8192x128_S8192x128_0_0).toLoadRect (View.loadsAt_vmem h_S8192x128))
    Prog.lift (.store dv (Rect.unit (s := S8192x128) ![0, 0] S8192x128.size inb_S8192x128_S8192x128_0_0) z' Finset.univ (View.stores_vmem_bits_univ h_S8192x128 rfl) (.inl rfl))
    pure ⟨⟩
  else do
    pure ⟨⟩

/-! ### Values -/

/-- The scores of a block of keys: the products of the rows, times the scale. -/
def score (q k : FVec F S256x128 .bf16) : FVec F S256x256 .f32 :=
  mulf (matmul dot_S256x128_S256x128_S256x256_1_1_0_0_n_n none q k (constant S256x256 .f32 0x00000000#32))
    (broadcast S256x256 (Scalar.ofBits .f32 0x3DB504F3#32))

/-- `-log(1 + exp z)`, written so that no exponential is large. -/
def logGap (z : FVec F S256x256 .f32) : FVec F S256x256 .f32 :=
  subf (broadcast S256x256 (Scalar.ofBits .f32 0x00000000#32))
    (addf (maximumf z (broadcast S256x256 (Scalar.ofBits .f32 0x00000000#32)))
      (log (addf (broadcast S256x256 (Scalar.ofBits .f32 0x3F800000#32))
        (exp (subf (broadcast S256x256 (Scalar.ofBits .f32 0x00000000#32)) (absf z))))))

/-- The product with a triangular matrix of ones, of the rounded values and of what the rounding left, added up: sums along a row. -/
def rowSums (x : FVec F S256x256 .f32) (tri : FVec F S256x256 .bf16) : FVec F S256x256 .f32 :=
  have y : FVec F S512x256 .f32 := matmul dot_S512x256_S256x256_S512x256_1_0_0_1_n_n none
    (concatenate S512x256 0 [⟨S256x256, truncf .bf16 x bitsLt_bf16_f32⟩,
      ⟨S256x256, truncf .bf16 (subf x (extf .f32 (truncf .bf16 x bitsLt_bf16_f32) bitsLt_bf16_f32)) bitsLt_bf16_f32⟩]
      concatenates_S256x256_S256x256_S512x256_d0) tri (constant S512x256 .f32 0x00000000#32)
  addf (extractStridedSlice S256x256 ![0, 0] y slices_S512x256_o0_0_S256x256)
    (extractStridedSlice S256x256 ![256, 0] y slices_S512x256_o256_0_S256x256)

/-- The weights: the exponential of the score, the sums to its right in the block, and those of the blocks further right. -/
def weight (z cs : FVec F S256x256 .f32) (run : FVec F S256x1 .f32) : FVec F S256x256 .f32 :=
  exp (addf (addf z cs) (broadcastTo S256x256 run broadcasts_S256x1_S256x256))

/-- The logistic function of the scores. -/
def beta (z : FVec F S256x256 .f32) : FVec F S256x256 .f32 :=
  divf (broadcast S256x256 (Scalar.ofBits .f32 0x3F800000#32))
    (addf (broadcast S256x256 (Scalar.ofBits .f32 0x3F800000#32))
      (exp (subf (broadcast S256x256 (Scalar.ofBits .f32 0x00000000#32)) z)))

/-- The running sum of the row after the block. -/
def runAfter (cs : FVec F S256x256 .f32) (run : FVec F S256x1 .f32) : FVec F S256x1 .f32 :=
  addf run (extractStridedSlice S256x1 ![0, 0] cs slices_S256x256_o0_0_S256x1)

/-- The weights times the cotangents of the weights. -/
def eOf (w : FVec F S256x256 .f32) (d v : FVec F S256x128 .bf16) : FVec F S256x256 .f32 :=
  mulf w (matmul dot_S256x128_S256x128_S256x256_1_1_0_0_n_n none d v (constant S256x256 .f32 0x00000000#32))

/-- Adds to a block of a running sum: the transposed `a` times `b`. -/
def addTo (x : FVec F S256x128 .f32) (a : FVec F S256x256 .bf16) (b : FVec F S256x128 .bf16) : FVec F S256x128 .f32 :=
  addf x (matmul dot_S256x256_S256x128_S256x128_0_0_1_1_n_n none a b (constant S256x128 .f32 0x00000000#32))

/-- The gradient of the scores of a block. -/
def dScore (e b ps : FVec F S256x256 .f32) (pre : FVec F S256x1 .f32) : FVec F S256x256 .f32 :=
  subf (mulf e (subf (broadcast S256x256 (Scalar.ofBits .f32 0x3F800000#32)) b))
    (mulf b (addf ps (broadcastTo S256x256 pre broadcasts_S256x1_S256x256)))

/-- The gradient of the scores times the scale, rounded. -/
def scaled (d : FVec F S256x256 .f32) : FVec F S256x256 .bf16 :=
  truncf .bf16 (mulf d (broadcast S256x256 (Scalar.ofBits .f32 0x3DB504F3#32))) bitsLt_bf16_f32

/-- A block of ones where the row is at least the column, and one where it is less. -/
def ones (b : IVec S256x256 1) : FVec F S256x256 .bf16 :=
  truncf .bf16 (select b (broadcast S256x256 (Scalar.ofBits .f32 0x3F800000#32))
    (broadcast S256x256 (Scalar.ofBits .f32 0x00000000#32))) bitsLt_bf16_f32

/-- The row numbers and the column numbers of a block. -/
abbrev rowNo : IVec S256x256 32 := iota .tc S256x256 32 [0] iota_S256x256_d0_w32
abbrev colNo : IVec S256x256 32 := iota .tc S256x256 32 [1] iota_S256x256_d1_w32

/-- A block that is zero where `b` is not set. -/
def masked (b : IVec S256x256 1) (x : FVec F S256x256 .f32) : FVec F S256x256 .f32 :=
  select b x (broadcast S256x256 (Scalar.ofBits .f32 0x00000000#32))

/-- A block that is zero unless `b` is set. -/
def gated (b : BitVec 1) (x : FVec F S256x256 .f32) : FVec F S256x256 .f32 :=
  Scalar.select b x (broadcast S256x256 (Scalar.ofBits .f32 0x00000000#32))

/-- Whether some row's running sum is still above the threshold. -/
def alive (run : FVec F S256x1 .f32) : BitVec 32 :=
  Scalar.extui (Scalar.cmpf .ogt (extractAt ![0, 0, 0] (shapeCast S1x1x1
    (multiReduction .maximumf [1, 2] S1 (shapeCast S1x256x1 run shapeCasts_S256x1_S1x256x1) 0xFF800000#32 reduces_S1x256x1_S1 (.inl rfl) rfl)
      shapeCasts_S1_S1x1x1) inpos_S1x1x1_p0_0_0) (Named.named κ "dead" 0xC2D20000#32))

/-! ### The first sweep -/

/-- The first sweep over one block of keys that keeps what the second one needs in the slot `o` of the kept blocks: returns the running
    sum after the block. `mz`, `mw` say what becomes of the entries that do not count, in the logarithms and in the weights. -/
def sweepKept (q d : FVec F S256x128 .bf16) (tri : FVec F S256x256 .bf16) (run : FVec F S256x1 .f32)
    (mz mw : FVec F S256x256 .f32 → FVec F S256x256 .f32)
    (o1 : Fin 2 → ℕ) (h1 : ∀ a, o1 a + S256x128.size a ≤ S8192x128.size a)
    (o : Fin 4 → ℕ) (ho : ∀ a, o a + S1x1x256x256.size a ≤ S8x2x256x256.size a)
    (k v : Memref sig .tc .vmem S8192x128 .bf16) (pe pb : Memref sig .tc .vmem S8x2x256x256 .f32)
    (dv : Memref sig .tc .vmem S8192x128 .f32) : P (F := F) (FVec F S256x1 .f32) := do
  let v0 : Vec F S256x128 .bf16 ← Prog.lift (.load v (Rect.unit (s := S8192x128) o1 S256x128.size h1).toLoadRect (View.loadsAt_vmem h_S256x128))
  have vb : FVec F S256x128 .bf16 := shapeCast S256x128 v0 shapeCasts_S256x128_S256x128
  let k0 : Vec F S256x128 .bf16 ← Prog.lift (.load k (Rect.unit (s := S8192x128) o1 S256x128.size h1).toLoadRect (View.loadsAt_vmem h_S256x128))
  have z := score q (shapeCast S256x128 k0 shapeCasts_S256x128_S256x128)
  have cs := rowSums (mz (logGap z)) tri
  have w := mw (weight z cs run)
  let _x : Vec F S1x1x256x256 .f32 ← Prog.lift (.load pe (Rect.unit (s := S8x2x256x256) o S1x1x256x256.size ho).toLoadRect (View.loadsAt_vmem h_S1x1x256x256))
  Prog.lift (.store pe (Rect.unit (s := S8x2x256x256) o S1x1x256x256.size ho) (shapeCast S1x1x256x256 (eOf w d vb) shapeCasts_S256x256_S1x1x256x256) Finset.univ (View.stores_vmem_bits_univ h_S1x1x256x256 rfl) (.inl rfl))
  let _y : Vec F S1x1x256x256 .f32 ← Prog.lift (.load pb (Rect.unit (s := S8x2x256x256) o S1x1x256x256.size ho).toLoadRect (View.loadsAt_vmem h_S1x1x256x256))
  Prog.lift (.store pb (Rect.unit (s := S8x2x256x256) o S1x1x256x256.size ho) (shapeCast S1x1x256x256 (beta z) shapeCasts_S256x256_S1x1x256x256) Finset.univ (View.stores_vmem_bits_univ h_S1x1x256x256 rfl) (.inl rfl))
  let x : Vec F S256x128 .f32 ← Prog.lift (.load dv (Rect.unit (s := S8192x128) o1 S256x128.size h1).toLoadRect (View.loadsAt_vmem h_S256x128))
  let _y : Vec F S256x128 .f32 ← Prog.lift (.load dv (Rect.unit (s := S8192x128) o1 S256x128.size h1).toLoadRect (View.loadsAt_vmem h_S256x128))
  Prog.lift (.store dv (Rect.unit (s := S8192x128) o1 S256x128.size h1) (shapeCast S256x128 (addTo x (truncf .bf16 w bitsLt_bf16_f32) d) shapeCasts_S256x128_S256x128) Finset.univ (View.stores_vmem_bits_univ h_S256x128 rfl) (.inl rfl))
  pure (runAfter cs run)

/-- The first sweep of one query block over its own block of keys and the one to its left: returns the rows of the queries and of
    the cotangents, and the running sum. -/
def sweepPair (i : grid0.Coords) (ub : BitVec 32) (oq : Fin 2 → ℕ) (od ol : Fin 4 → ℕ)
    (hq : ∀ a, oq a + S256x128.size a ≤ S2048x128.size a)
    (h1 : ∀ a, k0_off1 i ub a + S256x128.size a ≤ S8192x128.size a) (h2 : ∀ a, k0_off2 i ub a + S256x128.size a ≤ S8192x128.size a)
    (hd : ∀ a, od a + S1x1x256x256.size a ≤ S8x2x256x256.size a)
    (hl : ∀ a, ol a + S1x1x256x256.size a ≤ S8x2x256x256.size a)
    (q : Memref sig .tc .vmem S2048x128 .bf16) (k v : Memref sig .tc .vmem S8192x128 .bf16) (do_ : Memref sig .tc .vmem S2048x128 .bf16)
    (pe pb : Memref sig .tc .vmem S8x2x256x256 .f32) (dv : Memref sig .tc .vmem S8192x128 .f32) :
    P (F := F) (FVec F S256x128 .bf16 × FVec F S256x128 .bf16 × FVec F S256x1 .f32) := do
  let q0 : Vec F S256x128 .bf16 ← Prog.lift (.load q (Rect.unit (s := S2048x128) oq S256x128.size hq).toLoadRect (View.loadsAt_vmem h_S256x128))
  have qb : FVec F S256x128 .bf16 := shapeCast S256x128 q0 shapeCasts_S256x128_S256x128
  let d0 : Vec F S256x128 .bf16 ← Prog.lift (.load do_ (Rect.unit (s := S2048x128) oq S256x128.size hq).toLoadRect (View.loadsAt_vmem h_S256x128))
  have db : FVec F S256x128 .bf16 := shapeCast S256x128 d0 shapeCasts_S256x128_S256x128
  let run1 ← sweepKept qb db (ones (cmpi .sge rowNo colNo)) (broadcast S256x1 (Scalar.ofBits .f32 0x00000000#32))
    (masked (cmpi .slt colNo rowNo)) (masked (cmpi .slt colNo rowNo)) (k0_off1 i ub) h1 od hd k v pe pb dv
  let run2 ← sweepKept qb db (ones (cmpi .sge rowNo colNo)) run1
    (fun x => x) (gated (Scalar.cmpi .sgt (blockNo i ub) 0#32)) (k0_off2 i ub) h2 ol hl k v pe pb dv
  pure (qb, db, Scalar.select (Scalar.cmpi .sgt (blockNo i ub) 0#32) run2 run1)

/-- One step of the loop to the left, which goes on while there are blocks and some row's running sum is above the threshold; `again` is
    the loop with the next arguments. -/
def leftStep (C : Prop) [Decidable C] (q d : FVec F S256x128 .bf16) (tri : FVec F S256x256 .bf16) (kb al : BitVec 32) (run : FVec F S256x1 .f32)
    (o3 : Fin 2 → ℕ) (h3 : C → ∀ a, o3 a + S256x128.size a ≤ S8192x128.size a)
    (o4 : Fin 3 → ℕ) (h4 : C → ∀ a, o4 a + S1x256x256.size a ≤ S32x256x256.size a)
    (k v : Memref sig .tc .vmem S8192x128 .bf16) (eb bb : Memref sig .tc .vmem S32x256x256 .f32) (dv : Memref sig .tc .vmem S8192x128 .f32)
    (again : BitVec 32 → BitVec 32 → FVec F S256x1 .f32 → P (F := F) (BitVec 32 × BitVec 32 × FVec F S256x1 .f32)) :
    P (F := F) (BitVec 32 × BitVec 32 × FVec F S256x1 .f32) := do
  if Scalar.andi (Scalar.cmpi .sge kb 0#32) (Scalar.cmpi .sgt al 0#32) = 1#1 then do
    have c : C := (← Prog.lift (TpuEff.assume C inferInstance)).down
    let v0 : Vec F S256x128 .bf16 ← Prog.lift (.load v (Rect.unit (s := S8192x128) o3 S256x128.size (h3 c)).toLoadRect (View.loadsAt_vmem h_S256x128))
    have vb : FVec F S256x128 .bf16 := shapeCast S256x128 v0 shapeCasts_S256x128_S256x128
    let k0 : Vec F S256x128 .bf16 ← Prog.lift (.load k (Rect.unit (s := S8192x128) o3 S256x128.size (h3 c)).toLoadRect (View.loadsAt_vmem h_S256x128))
    have z := score q (shapeCast S256x128 k0 shapeCasts_S256x128_S256x128)
    have cs := rowSums (logGap z) tri
    have w := weight z cs run
    let _x : Vec F S1x256x256 .f32 ← Prog.lift (.load eb (Rect.unit (s := S32x256x256) o4 S1x256x256.size (h4 c)).toLoadRect (View.loadsAt_vmem h_S1x256x256))
    Prog.lift (.store eb (Rect.unit (s := S32x256x256) o4 S1x256x256.size (h4 c)) (shapeCast S1x256x256 (eOf w d vb) shapeCasts_S256x256_S1x256x256) Finset.univ (View.stores_vmem_bits_univ h_S1x256x256 rfl) (.inl rfl))
    let _y : Vec F S1x256x256 .f32 ← Prog.lift (.load bb (Rect.unit (s := S32x256x256) o4 S1x256x256.size (h4 c)).toLoadRect (View.loadsAt_vmem h_S1x256x256))
    Prog.lift (.store bb (Rect.unit (s := S32x256x256) o4 S1x256x256.size (h4 c)) (shapeCast S1x256x256 (beta z) shapeCasts_S256x256_S1x256x256) Finset.univ (View.stores_vmem_bits_univ h_S1x256x256 rfl) (.inl rfl))
    let x : Vec F S256x128 .f32 ← Prog.lift (.load dv (Rect.unit (s := S8192x128) o3 S256x128.size (h3 c)).toLoadRect (View.loadsAt_vmem h_S256x128))
    let _y : Vec F S256x128 .f32 ← Prog.lift (.load dv (Rect.unit (s := S8192x128) o3 S256x128.size (h3 c)).toLoadRect (View.loadsAt_vmem h_S256x128))
    Prog.lift (.store dv (Rect.unit (s := S8192x128) o3 S256x128.size (h3 c)) (shapeCast S256x128 (addTo x (truncf .bf16 w bitsLt_bf16_f32) d) shapeCasts_S256x128_S256x128) Finset.univ (View.stores_vmem_bits_univ h_S256x128 rfl) (.inl rfl))
    again (Scalar.subi kb 1#32) (alive (runAfter cs run)) (runAfter cs run)
  else pure (kb, al, run)

/-! ### The second sweep -/

/-- One step of the second sweep: the gradient of the scores of a block of keys, added to the keys' gradient and to the queries'. -/
def backStep (q : FVec F S256x128 .bf16) (trix : FVec F S256x256 .bf16)
    (o5 : Fin 3 → ℕ) (h5 : ∀ a, o5 a + S1x256x256.size a ≤ S32x256x256.size a)
    (o6 : Fin 2 → ℕ) (h6 : ∀ a, o6 a + S256x128.size a ≤ S8192x128.size a)
    (k : Memref sig .tc .vmem S8192x128 .bf16) (eb bb : Memref sig .tc .vmem S32x256x256 .f32) (dk : Memref sig .tc .vmem S8192x128 .f32)
    (pre : FVec F S256x1 .f32) (dq : FVec F S256x128 .f32) : P (F := F) (FVec F S256x1 .f32 × FVec F S256x128 .f32) := do
  let e0 : Vec F S1x256x256 .f32 ← Prog.lift (.load eb (Rect.unit (s := S32x256x256) o5 S1x256x256.size h5).toLoadRect (View.loadsAt_vmem h_S1x256x256))
  have e : FVec F S256x256 .f32 := shapeCast S256x256 e0 shapeCasts_S1x256x256_S256x256
  let b0 : Vec F S1x256x256 .f32 ← Prog.lift (.load bb (Rect.unit (s := S32x256x256) o5 S1x256x256.size h5).toLoadRect (View.loadsAt_vmem h_S1x256x256))
  have b : FVec F S256x256 .f32 := shapeCast S256x256 b0 shapeCasts_S1x256x256_S256x256
  have y : FVec F S512x256 .f32 := matmul dot_S512x256_S256x256_S512x256_1_0_0_1_n_n none
    (concatenate S512x256 0 [⟨S256x256, truncf .bf16 e bitsLt_bf16_f32⟩,
      ⟨S256x256, truncf .bf16 (subf e (extf .f32 (truncf .bf16 e bitsLt_bf16_f32) bitsLt_bf16_f32)) bitsLt_bf16_f32⟩]
      concatenates_S256x256_S256x256_S512x256_d0) trix (constant S512x256 .f32 0x00000000#32)
  have ps : FVec F S256x256 .f32 := addf (extractStridedSlice S256x256 ![0, 0] y slices_S512x256_o0_0_S256x256)
    (extractStridedSlice S256x256 ![256, 0] y slices_S512x256_o256_0_S256x256)
  have dz : FVec F S256x256 .f32 := subf (mulf e (subf (broadcast S256x256 (Scalar.ofBits .f32 0x3F800000#32)) b))
    (mulf b (addf ps (broadcastTo S256x256 pre broadcasts_S256x1_S256x256)))
  have ds : FVec F S256x256 .bf16 := truncf .bf16 (mulf dz (broadcast S256x256 (Scalar.ofBits .f32 0x3DB504F3#32))) bitsLt_bf16_f32
  let x : Vec F S256x128 .f32 ← Prog.lift (.load dk (Rect.unit (s := S8192x128) o6 S256x128.size h6).toLoadRect (View.loadsAt_vmem h_S256x128))
  let _y : Vec F S256x128 .f32 ← Prog.lift (.load dk (Rect.unit (s := S8192x128) o6 S256x128.size h6).toLoadRect (View.loadsAt_vmem h_S256x128))
  Prog.lift (.store dk (Rect.unit (s := S8192x128) o6 S256x128.size h6) (shapeCast S256x128 (addTo x ds q) shapeCasts_S256x128_S256x128) Finset.univ (View.stores_vmem_bits_univ h_S256x128 rfl) (.inl rfl))
  let k0 : Vec F S256x128 .bf16 ← Prog.lift (.load k (Rect.unit (s := S8192x128) o6 S256x128.size h6).toLoadRect (View.loadsAt_vmem h_S256x128))
  pure (addf (addf pre (extractStridedSlice S256x1 ![0, 255] ps slices_S256x256_o0_255_S256x1))
      (extractStridedSlice S256x1 ![0, 255] e slices_S256x256_o0_255_S256x1),
    addf dq (matmul dot_S256x256_S256x128_S256x128_1_0_0_1_n_n none ds (shapeCast S256x128 k0 shapeCasts_S256x128_S256x128) (constant S256x128 .f32 0x00000000#32)))

/-- For one query block: the loop to the left `w`, and then the second sweep over the blocks that the loop went through, in the two
    counted loops `L` and `L'` (the second is for what is left of a division by one). `C` is the side condition of these loops. -/
def leftAndBack (w : P (F := F) (BitVec 32 × BitVec 32 × FVec F S256x1 .f32)) (C : BitVec 32 → Prop) (dec : ∀ r, Decidable (C r))
    (L L' : BitVec 32 → Scf.Loop 32) (hL : ∀ r, C r → (L r).OK) (hL' : ∀ r, C r → (L' r).OK)
    (o5 : ∀ r, Fin (L r).trips → Fin 3 → ℕ) (h5 : ∀ r, C r → ∀ t, ∀ a, o5 r t a + S1x256x256.size a ≤ S32x256x256.size a)
    (o6 : ∀ r, Fin (L r).trips → Fin 2 → ℕ) (h6 : ∀ r, C r → ∀ t, ∀ a, o6 r t a + S256x128.size a ≤ S8192x128.size a)
    (o5' : ∀ r, Fin (L' r).trips → Fin 3 → ℕ) (h5' : ∀ r, C r → ∀ t, ∀ a, o5' r t a + S1x256x256.size a ≤ S32x256x256.size a)
    (o6' : ∀ r, Fin (L' r).trips → Fin 2 → ℕ) (h6' : ∀ r, C r → ∀ t, ∀ a, o6' r t a + S256x128.size a ≤ S8192x128.size a)
    (q : FVec F S256x128 .bf16) (trix : FVec F S256x256 .bf16)
    (k : Memref sig .tc .vmem S8192x128 .bf16) (eb bb : Memref sig .tc .vmem S32x256x256 .f32) (dk : Memref sig .tc .vmem S8192x128 .f32) :
    P (F := F) (Σ' (r : BitVec 32) (_ : C r), FVec F S256x1 .f32 × FVec F S256x128 .f32) := do
  let (r, _, _) ← w
  have c : C r := (← Prog.lift (TpuEff.assume (C r) (dec r))).down
  have p0 : FVec F S256x1 .f32 := broadcast S256x1 (Scalar.ofBits .f32 0x00000000#32)
  have d0 : FVec F S256x128 .f32 := broadcast S256x128 (Scalar.ofBits .f32 0x00000000#32)
  let (p1, d1) ← Scf.Loop.for (L r) (hL r c) (p0, d0)
    fun t (p, d) => backStep q trix (o5 r t) (h5 r c t) (o6 r t) (h6 r c t) k eb bb dk p d
  let (p2, d2) ← Scf.Loop.for (L' r) (hL' r c) (p1, d1)
    fun t (p, d) => backStep q trix (o5' r t) (h5' r c t) (o6' r t) (h6' r c t) k eb bb dk p d
  pure ⟨r, c, p2, d2⟩

/-- The second sweep over a kept block, the one at slot `o`: adds to the keys' gradient and returns the sum that the next block to the
    right starts with, and the block's part of the queries' gradient. `mz` says what becomes of entries that do not count. -/
def backKept (q : FVec F S256x128 .bf16) (trix : FVec F S256x256 .bf16) (pre : FVec F S256x1 .f32)
    (mz : FVec F S256x256 .f32 → FVec F S256x256 .f32)
    (o6 : Fin 2 → ℕ) (h6 : ∀ a, o6 a + S256x128.size a ≤ S8192x128.size a)
    (o : Fin 4 → ℕ) (ho : ∀ a, o a + S1x1x256x256.size a ≤ S8x2x256x256.size a)
    (k : Memref sig .tc .vmem S8192x128 .bf16) (pe pb : Memref sig .tc .vmem S8x2x256x256 .f32) (dk : Memref sig .tc .vmem S8192x128 .f32) :
    P (F := F) (FVec F S256x1 .f32 × FVec F S256x128 .f32) := do
  let e0 : Vec F S1x1x256x256 .f32 ← Prog.lift (.load pe (Rect.unit (s := S8x2x256x256) o S1x1x256x256.size ho).toLoadRect (View.loadsAt_vmem h_S1x1x256x256))
  have e : FVec F S256x256 .f32 := shapeCast S256x256 e0 shapeCasts_S1x1x256x256_S256x256
  let b0 : Vec F S1x1x256x256 .f32 ← Prog.lift (.load pb (Rect.unit (s := S8x2x256x256) o S1x1x256x256.size ho).toLoadRect (View.loadsAt_vmem h_S1x1x256x256))
  have ps := rowSums e trix
  have ds := scaled (mz (dScore e (shapeCast S256x256 b0 shapeCasts_S1x1x256x256_S256x256) ps pre))
  let x : Vec F S256x128 .f32 ← Prog.lift (.load dk (Rect.unit (s := S8192x128) o6 S256x128.size h6).toLoadRect (View.loadsAt_vmem h_S256x128))
  let _y : Vec F S256x128 .f32 ← Prog.lift (.load dk (Rect.unit (s := S8192x128) o6 S256x128.size h6).toLoadRect (View.loadsAt_vmem h_S256x128))
  Prog.lift (.store dk (Rect.unit (s := S8192x128) o6 S256x128.size h6) (shapeCast S256x128 (addTo x ds q) shapeCasts_S256x128_S256x128) Finset.univ (View.stores_vmem_bits_univ h_S256x128 rfl) (.inl rfl))
  let k0 : Vec F S256x128 .bf16 ← Prog.lift (.load k (Rect.unit (s := S8192x128) o6 S256x128.size h6).toLoadRect (View.loadsAt_vmem h_S256x128))
  pure (addf (addf pre (extractStridedSlice S256x1 ![0, 255] ps slices_S256x256_o0_255_S256x1))
      (extractStridedSlice S256x1 ![0, 255] e slices_S256x256_o0_255_S256x1),
    matmul dot_S256x256_S256x128_S256x128_1_0_0_1_n_n none ds (shapeCast S256x128 k0 shapeCasts_S256x128_S256x128) (constant S256x128 .f32 0x00000000#32))

/-- The second sweep of one query block over the block to its left and its own, and the store of its gradient. -/
def backPair (i : grid0.Coords) (ub : BitVec 32) (oq : Fin 2 → ℕ) (od ol : Fin 4 → ℕ)
    (hq : ∀ a, oq a + S256x128.size a ≤ S2048x128.size a)
    (hp : (Rect.unit (s := S2048x128) oq S256x128.size hq).PackedRows (EltTy.packing .bf16))
    (h1 : ∀ a, k0_off52 i ub a + S256x128.size a ≤ S8192x128.size a) (h2 : ∀ a, k0_off51 i ub a + S256x128.size a ≤ S8192x128.size a)
    (hd : ∀ a, od a + S1x1x256x256.size a ≤ S8x2x256x256.size a)
    (hl : ∀ a, ol a + S1x1x256x256.size a ≤ S8x2x256x256.size a)
    (q : FVec F S256x128 .bf16) (pre : FVec F S256x1 .f32) (dq : FVec F S256x128 .f32)
    (k : Memref sig .tc .vmem S8192x128 .bf16) (pe pb : Memref sig .tc .vmem S8x2x256x256 .f32) (dk : Memref sig .tc .vmem S8192x128 .f32)
    (out : Memref sig .tc .vmem S2048x128 .bf16) (hout : out.IsWhole) : P (F := F) PUnit := do
  let (pre1, dq1) ← backKept q (ones (cmpi .slt rowNo colNo)) pre (gated (Scalar.cmpi .sgt (blockNo i ub) 0#32)) (k0_off51 i ub) h2
    ol hl k pe pb dk
  let (_, dq2) ← backKept q (ones (cmpi .slt rowNo colNo)) pre1 (masked (cmpi .slt colNo rowNo)) (k0_off52 i ub) h1
    od hd k pe pb dk
  let _x : Vec F S256x128 .bf16 ← Prog.lift (.load out (Rect.unit (s := S2048x128) oq S256x128.size hq).toLoadRect (View.loadsAt_vmem h_S256x128))
  Prog.lift (.store out (Rect.unit (s := S2048x128) oq S256x128.size hq) (truncf .bf16 (addf (addf dq dq1) dq2) bitsLt_bf16_f32) Finset.univ (View.stores_vmem h_S256x128 (hout.storeExact_slice rfl _ hp) (fun _ => rfl)) (.inl rfl))

/-- The last point of each head writes the two running sums out. -/
def finish (i : grid0.Coords) (dko dvo : Memref sig .tc .vmem S8192x128 .bf16) (hk : dko.IsWhole) (hv : dvo.IsWhole)
    (dk dv : Memref sig .tc .vmem S8192x128 .f32) : P (F := F) PUnit := do
  if h : k0_cond2 i = 1#1 then do
    let x : Vec F S8192x128 .f32 ← Prog.lift (.load dk (Rect.unit (s := S8192x128) ![0, 0] S8192x128.size inb_S8192x128_S8192x128_0_0).toLoadRect (View.loadsAt_vmem h_S8192x128))
    let _z : Vec F S8192x128 .bf16 ← Prog.lift (.load dko (Rect.unit (s := S8192x128) ![0, 0] S8192x128.size inb_S8192x128_S8192x128_0_0).toLoadRect (View.loadsAt_vmem h_S8192x128))
    Prog.lift (.store dko (Rect.unit (s := S8192x128) ![0, 0] S8192x128.size inb_S8192x128_S8192x128_0_0) (truncf .bf16 x bitsLt_bf16_f32) Finset.univ (View.stores_vmem h_S8192x128 (hk.storeExact_slice rfl _ packedbf16_S8192x128_S8192x128_0_0) (fun _ => rfl)) (.inl rfl))
    let y : Vec F S8192x128 .f32 ← Prog.lift (.load dv (Rect.unit (s := S8192x128) ![0, 0] S8192x128.size inb_S8192x128_S8192x128_0_0).toLoadRect (View.loadsAt_vmem h_S8192x128))
    let _z : Vec F S8192x128 .bf16 ← Prog.lift (.load dvo (Rect.unit (s := S8192x128) ![0, 0] S8192x128.size inb_S8192x128_S8192x128_0_0).toLoadRect (View.loadsAt_vmem h_S8192x128))
    Prog.lift (.store dvo (Rect.unit (s := S8192x128) ![0, 0] S8192x128.size inb_S8192x128_S8192x128_0_0) (truncf .bf16 y bitsLt_bf16_f32) Finset.univ (View.stores_vmem h_S8192x128 (hv.storeExact_slice rfl _ packedbf16_S8192x128_S8192x128_0_0) (fun _ => rfl)) (.inl rfl))
    pure ⟨⟩
  else do
    pure ⟨⟩

/-- The whole body of one grid point. -/
def body (i : grid0.Coords) (q : Memref sig .tc .vmem S2048x128 .bf16) (_hq : q.IsWhole) (k : Memref sig .tc .vmem S8192x128 .bf16) (hk : k.IsWhole)
    (v : Memref sig .tc .vmem S8192x128 .bf16) (hv : v.IsWhole) (d : Memref sig .tc .vmem S2048x128 .bf16) (_hd : d.IsWhole)
    (dq : Memref sig .tc .vmem S2048x128 .bf16) (hdq : dq.IsWhole) (dko : Memref sig .tc .vmem S8192x128 .bf16) (hdko : dko.IsWhole)
    (dvo : Memref sig .tc .vmem S8192x128 .bf16) (hdvo : dvo.IsWhole) (eb : Memref sig .tc .vmem S32x256x256 .f32) (heb : eb.IsWhole)
    (bb : Memref sig .tc .vmem S32x256x256 .f32) (hbb : bb.IsWhole) (pe : Memref sig .tc .vmem S8x2x256x256 .f32) (_hpe : pe.IsWhole)
    (pb : Memref sig .tc .vmem S8x2x256x256 .f32) (_hpb : pb.IsWhole) (dk : Memref sig .tc .vmem S8192x128 .f32) (_hdk : dk.IsWhole)
    (dv : Memref sig .tc .vmem S8192x128 .f32) (hdv : dv.IsWhole) : P (F := F) PUnit := do
  reset i dk dv
  let (q0, d0, run0) ← sweepPair i 0#32 ![0, 0] ![0, 0, 0, 0] ![0, 1, 0, 0] inb_S2048x128_S256x128_0_0 (k0_off1_inb i 0) (k0_off2_inb i 0) inb_S8x2x256x256_S1x1x256x256_0_0_0_0
    inb_S8x2x256x256_S1x1x256x256_0_1_0_0 q k v d pe pb dv
  let (q1, d1, run1) ← sweepPair i 1#32 ![256, 0] ![1, 0, 0, 0] ![1, 1, 0, 0] inb_S2048x128_S256x128_256_0 (k0_off1_inb i 1) (k0_off2_inb i 1) inb_S8x2x256x256_S1x1x256x256_1_0_0_0
    inb_S8x2x256x256_S1x1x256x256_1_1_0_0 q k v d pe pb dv
  let (q2, d2, run2) ← sweepPair i 2#32 ![512, 0] ![2, 0, 0, 0] ![2, 1, 0, 0] inb_S2048x128_S256x128_512_0 (k0_off1_inb i 2) (k0_off2_inb i 2) inb_S8x2x256x256_S1x1x256x256_2_0_0_0
    inb_S8x2x256x256_S1x1x256x256_2_1_0_0 q k v d pe pb dv
  let (q3, d3, run3) ← sweepPair i 3#32 ![768, 0] ![3, 0, 0, 0] ![3, 1, 0, 0] inb_S2048x128_S256x128_768_0 (k0_off1_inb i 3) (k0_off2_inb i 3) inb_S8x2x256x256_S1x1x256x256_3_0_0_0
    inb_S8x2x256x256_S1x1x256x256_3_1_0_0 q k v d pe pb dv
  let (q4, d4, run4) ← sweepPair i 4#32 ![1024, 0] ![4, 0, 0, 0] ![4, 1, 0, 0] inb_S2048x128_S256x128_1024_0 (k0_off1_inb i 4) (k0_off2_inb i 4) inb_S8x2x256x256_S1x1x256x256_4_0_0_0
    inb_S8x2x256x256_S1x1x256x256_4_1_0_0 q k v d pe pb dv
  let (q5, d5, run5) ← sweepPair i 5#32 ![1280, 0] ![5, 0, 0, 0] ![5, 1, 0, 0] inb_S2048x128_S256x128_1280_0 (k0_off1_inb i 5) (k0_off2_inb i 5) inb_S8x2x256x256_S1x1x256x256_5_0_0_0
    inb_S8x2x256x256_S1x1x256x256_5_1_0_0 q k v d pe pb dv
  let (q6, d6, run6) ← sweepPair i 6#32 ![1536, 0] ![6, 0, 0, 0] ![6, 1, 0, 0] inb_S2048x128_S256x128_1536_0 (k0_off1_inb i 6) (k0_off2_inb i 6) inb_S8x2x256x256_S1x1x256x256_6_0_0_0
    inb_S8x2x256x256_S1x1x256x256_6_1_0_0 q k v d pe pb dv
  let (q7, d7, run7) ← sweepPair i 7#32 ![1792, 0] ![7, 0, 0, 0] ![7, 1, 0, 0] inb_S2048x128_S256x128_1792_0 (k0_off1_inb i 7) (k0_off2_inb i 7) inb_S8x2x256x256_S1x1x256x256_7_0_0_0
    inb_S8x2x256x256_S1x1x256x256_7_1_0_0 q k v d pe pb dv
  let ⟨r0, c0, pre0, g0⟩ ← leftAndBack
    (Prog.lift (.call (1 : (Λ₀ F).Label) ⟨i, v, hv, k, hk, q0, (ones (cmpi .sge rowNo colNo)), d0, eb, heb, bb, hbb, dv, hdv,
      Scalar.subi (blockNo i 0#32) 2#32, alive run0, run0⟩))
    (k0_chk2 i) (k0_chk2.dec i) (k0_t1_loop i) (k0_t2_loop i) (k0_t1_ok i) (k0_t2_ok i)
    (k0_off5 i) (k0_off5_inb i) (k0_off6 i) (k0_off6_inb i) (k0_off7 i) (k0_off7_inb i) (k0_off8 i) (k0_off8_inb i)
    q0 (truncf .bf16 (select (cmpi .slt (iota .tc S256x256 32 [0] iota_S256x256_d0_w32) (iota .tc S256x256 32 [1] iota_S256x256_d1_w32)) (broadcast S256x256 (Scalar.ofBits .f32 0x3F800000#32))
      (broadcast S256x256 (Scalar.ofBits .f32 0x00000000#32))) bitsLt_bf16_f32) k eb bb dk
  let ⟨r1, c1, pre1, g1⟩ ← leftAndBack
    (Prog.lift (.call (2 : (Λ₀ F).Label) ⟨i, r0, c0, v, hv, k, hk, q1, (ones (cmpi .sge rowNo colNo)), d1, eb, heb, bb, hbb, dv, hdv,
      Scalar.subi (blockNo i 1#32) 2#32, alive run1, run1⟩))
    (k0_chk4 i) (k0_chk4.dec i) (k0_t3_loop i) (k0_t4_loop i) (k0_t3_ok i) (k0_t4_ok i)
    (k0_off11 i) (k0_off11_inb i) (k0_off12 i) (k0_off12_inb i) (k0_off13 i) (k0_off13_inb i) (k0_off14 i) (k0_off14_inb i)
    q1 (truncf .bf16 (select (cmpi .slt (iota .tc S256x256 32 [0] iota_S256x256_d0_w32) (iota .tc S256x256 32 [1] iota_S256x256_d1_w32)) (broadcast S256x256 (Scalar.ofBits .f32 0x3F800000#32))
      (broadcast S256x256 (Scalar.ofBits .f32 0x00000000#32))) bitsLt_bf16_f32) k eb bb dk
  let ⟨r2, c2, pre2, g2⟩ ← leftAndBack
    (Prog.lift (.call (3 : (Λ₀ F).Label) ⟨i, r0, c0, r1, c1, v, hv, k, hk, q2, (ones (cmpi .sge rowNo colNo)), d2, eb, heb, bb, hbb, dv, hdv,
      Scalar.subi (blockNo i 2#32) 2#32, alive run2, run2⟩))
    (k0_chk6 i) (k0_chk6.dec i) (k0_t5_loop i) (k0_t6_loop i) (k0_t5_ok i) (k0_t6_ok i)
    (k0_off17 i) (k0_off17_inb i) (k0_off18 i) (k0_off18_inb i) (k0_off19 i) (k0_off19_inb i) (k0_off20 i) (k0_off20_inb i)
    q2 (truncf .bf16 (select (cmpi .slt (iota .tc S256x256 32 [0] iota_S256x256_d0_w32) (iota .tc S256x256 32 [1] iota_S256x256_d1_w32)) (broadcast S256x256 (Scalar.ofBits .f32 0x3F800000#32))
      (broadcast S256x256 (Scalar.ofBits .f32 0x00000000#32))) bitsLt_bf16_f32) k eb bb dk
  let ⟨r3, c3, pre3, g3⟩ ← leftAndBack
    (Prog.lift (.call (4 : (Λ₀ F).Label) ⟨i, r0, c0, r1, c1, r2, c2, v, hv, k, hk, q3, (ones (cmpi .sge rowNo colNo)), d3, eb, heb, bb, hbb, dv, hdv,
      Scalar.subi (blockNo i 3#32) 2#32, alive run3, run3⟩))
    (k0_chk8 i) (k0_chk8.dec i) (k0_t7_loop i) (k0_t8_loop i) (k0_t7_ok i) (k0_t8_ok i)
    (k0_off23 i) (k0_off23_inb i) (k0_off24 i) (k0_off24_inb i) (k0_off25 i) (k0_off25_inb i) (k0_off26 i) (k0_off26_inb i)
    q3 (truncf .bf16 (select (cmpi .slt (iota .tc S256x256 32 [0] iota_S256x256_d0_w32) (iota .tc S256x256 32 [1] iota_S256x256_d1_w32)) (broadcast S256x256 (Scalar.ofBits .f32 0x3F800000#32))
      (broadcast S256x256 (Scalar.ofBits .f32 0x00000000#32))) bitsLt_bf16_f32) k eb bb dk
  let ⟨r4, c4, pre4, g4⟩ ← leftAndBack
    (Prog.lift (.call (5 : (Λ₀ F).Label) ⟨i, r0, c0, r1, c1, r2, c2, r3, c3, v, hv, k, hk, q4, (ones (cmpi .sge rowNo colNo)), d4, eb, heb, bb, hbb, dv, hdv,
      Scalar.subi (blockNo i 4#32) 2#32, alive run4, run4⟩))
    (k0_chk10 i) (k0_chk10.dec i) (k0_t9_loop i) (k0_t10_loop i) (k0_t9_ok i) (k0_t10_ok i)
    (k0_off29 i) (k0_off29_inb i) (k0_off30 i) (k0_off30_inb i) (k0_off31 i) (k0_off31_inb i) (k0_off32 i) (k0_off32_inb i)
    q4 (truncf .bf16 (select (cmpi .slt (iota .tc S256x256 32 [0] iota_S256x256_d0_w32) (iota .tc S256x256 32 [1] iota_S256x256_d1_w32)) (broadcast S256x256 (Scalar.ofBits .f32 0x3F800000#32))
      (broadcast S256x256 (Scalar.ofBits .f32 0x00000000#32))) bitsLt_bf16_f32) k eb bb dk
  let ⟨r5, c5, pre5, g5⟩ ← leftAndBack
    (Prog.lift (.call (6 : (Λ₀ F).Label) ⟨i, r0, c0, r1, c1, r2, c2, r3, c3, r4, c4, v, hv, k, hk, q5, (ones (cmpi .sge rowNo colNo)), d5, eb, heb, bb, hbb, dv, hdv,
      Scalar.subi (blockNo i 5#32) 2#32, alive run5, run5⟩))
    (k0_chk12 i) (k0_chk12.dec i) (k0_t11_loop i) (k0_t12_loop i) (k0_t11_ok i) (k0_t12_ok i)
    (k0_off35 i) (k0_off35_inb i) (k0_off36 i) (k0_off36_inb i) (k0_off37 i) (k0_off37_inb i) (k0_off38 i) (k0_off38_inb i)
    q5 (truncf .bf16 (select (cmpi .slt (iota .tc S256x256 32 [0] iota_S256x256_d0_w32) (iota .tc S256x256 32 [1] iota_S256x256_d1_w32)) (broadcast S256x256 (Scalar.ofBits .f32 0x3F800000#32))
      (broadcast S256x256 (Scalar.ofBits .f32 0x00000000#32))) bitsLt_bf16_f32) k eb bb dk
  let ⟨r6, c6, pre6, g6⟩ ← leftAndBack
    (Prog.lift (.call (7 : (Λ₀ F).Label) ⟨i, r0, c0, r1, c1, r2, c2, r3, c3, r4, c4, r5, c5, v, hv, k, hk, q6, (ones (cmpi .sge rowNo colNo)), d6, eb, heb, bb, hbb, dv, hdv,
      Scalar.subi (blockNo i 6#32) 2#32, alive run6, run6⟩))
    (k0_chk14 i) (k0_chk14.dec i) (k0_t13_loop i) (k0_t14_loop i) (k0_t13_ok i) (k0_t14_ok i)
    (k0_off41 i) (k0_off41_inb i) (k0_off42 i) (k0_off42_inb i) (k0_off43 i) (k0_off43_inb i) (k0_off44 i) (k0_off44_inb i)
    q6 (truncf .bf16 (select (cmpi .slt (iota .tc S256x256 32 [0] iota_S256x256_d0_w32) (iota .tc S256x256 32 [1] iota_S256x256_d1_w32)) (broadcast S256x256 (Scalar.ofBits .f32 0x3F800000#32))
      (broadcast S256x256 (Scalar.ofBits .f32 0x00000000#32))) bitsLt_bf16_f32) k eb bb dk
  let ⟨r7, c7, pre7, g7⟩ ← leftAndBack
    (Prog.lift (.call (8 : (Λ₀ F).Label) ⟨i, r0, c0, r1, c1, r2, c2, r3, c3, r4, c4, r5, c5, r6, c6, v, hv, k, hk, q7, (ones (cmpi .sge rowNo colNo)), d7, eb, heb, bb, hbb, dv, hdv,
      Scalar.subi (blockNo i 7#32) 2#32, alive run7, run7⟩))
    (k0_chk16 i) (k0_chk16.dec i) (k0_t15_loop i) (k0_t16_loop i) (k0_t15_ok i) (k0_t16_ok i)
    (k0_off47 i) (k0_off47_inb i) (k0_off48 i) (k0_off48_inb i) (k0_off49 i) (k0_off49_inb i) (k0_off50 i) (k0_off50_inb i)
    q7 (truncf .bf16 (select (cmpi .slt (iota .tc S256x256 32 [0] iota_S256x256_d0_w32) (iota .tc S256x256 32 [1] iota_S256x256_d1_w32)) (broadcast S256x256 (Scalar.ofBits .f32 0x3F800000#32))
      (broadcast S256x256 (Scalar.ofBits .f32 0x00000000#32))) bitsLt_bf16_f32) k eb bb dk
  backPair i 0#32 ![0, 0] ![0, 0, 0, 0] ![0, 1, 0, 0] inb_S2048x128_S256x128_0_0 packedbf16_S2048x128_S256x128_0_0 (k0_off52_inb i 0) (k0_off51_inb i 0) inb_S8x2x256x256_S1x1x256x256_0_0_0_0
    inb_S8x2x256x256_S1x1x256x256_0_1_0_0 q0 pre0 g0 k pe pb dk dq hdq
  backPair i 1#32 ![256, 0] ![1, 0, 0, 0] ![1, 1, 0, 0] inb_S2048x128_S256x128_256_0 packedbf16_S2048x128_S256x128_256_0 (k0_off52_inb i 1) (k0_off51_inb i 1) inb_S8x2x256x256_S1x1x256x256_1_0_0_0
    inb_S8x2x256x256_S1x1x256x256_1_1_0_0 q1 pre1 g1 k pe pb dk dq hdq
  backPair i 2#32 ![512, 0] ![2, 0, 0, 0] ![2, 1, 0, 0] inb_S2048x128_S256x128_512_0 packedbf16_S2048x128_S256x128_512_0 (k0_off52_inb i 2) (k0_off51_inb i 2) inb_S8x2x256x256_S1x1x256x256_2_0_0_0
    inb_S8x2x256x256_S1x1x256x256_2_1_0_0 q2 pre2 g2 k pe pb dk dq hdq
  backPair i 3#32 ![768, 0] ![3, 0, 0, 0] ![3, 1, 0, 0] inb_S2048x128_S256x128_768_0 packedbf16_S2048x128_S256x128_768_0 (k0_off52_inb i 3) (k0_off51_inb i 3) inb_S8x2x256x256_S1x1x256x256_3_0_0_0
    inb_S8x2x256x256_S1x1x256x256_3_1_0_0 q3 pre3 g3 k pe pb dk dq hdq
  backPair i 4#32 ![1024, 0] ![4, 0, 0, 0] ![4, 1, 0, 0] inb_S2048x128_S256x128_1024_0 packedbf16_S2048x128_S256x128_1024_0 (k0_off52_inb i 4) (k0_off51_inb i 4) inb_S8x2x256x256_S1x1x256x256_4_0_0_0
    inb_S8x2x256x256_S1x1x256x256_4_1_0_0 q4 pre4 g4 k pe pb dk dq hdq
  backPair i 5#32 ![1280, 0] ![5, 0, 0, 0] ![5, 1, 0, 0] inb_S2048x128_S256x128_1280_0 packedbf16_S2048x128_S256x128_1280_0 (k0_off52_inb i 5) (k0_off51_inb i 5) inb_S8x2x256x256_S1x1x256x256_5_0_0_0
    inb_S8x2x256x256_S1x1x256x256_5_1_0_0 q5 pre5 g5 k pe pb dk dq hdq
  backPair i 6#32 ![1536, 0] ![6, 0, 0, 0] ![6, 1, 0, 0] inb_S2048x128_S256x128_1536_0 packedbf16_S2048x128_S256x128_1536_0 (k0_off52_inb i 6) (k0_off51_inb i 6) inb_S8x2x256x256_S1x1x256x256_6_0_0_0
    inb_S8x2x256x256_S1x1x256x256_6_1_0_0 q6 pre6 g6 k pe pb dk dq hdq
  backPair i 7#32 ![1792, 0] ![7, 0, 0, 0] ![7, 1, 0, 0] inb_S2048x128_S256x128_1792_0 packedbf16_S2048x128_S256x128_1792_0 (k0_off52_inb i 7) (k0_off51_inb i 7) inb_S8x2x256x256_S1x1x256x256_7_0_0_0
    inb_S8x2x256x256_S1x1x256x256_7_1_0_0 q7 pre7 g7 k pe pb dk dq hdq
  finish i dko dvo hdko hdvo dk dv

end Cert.Sb
-- ==== Proof.Owned.lean ====
/-
  A small logic for a kernel body that owns all of its buffers. Its state gives, for each buffer, the array that the
  buffer reads as; `Runs p Q σ` says that the program `p`, started in state `σ`, ends, and that its result and the state
  then satisfy `Q`. The rules below read a program effect by effect, so that what a body does is a statement about plain
  functions.
-/
module

public import Idealize.ShloMosaic.Lib.Memref
public import Idealize.ShloMosaic.Lib.Tactic

@[expose] public section

noncomputable section

namespace Cert.Owned

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The variants of a body's calls: natural numbers. -/
abbrev Steps : Variants := Variants.nat

/-- A kernel's buffers, named by `I`. -/
structure Bufs (sig : RefSig) (I : Type) where
  space : I → CoreSpace
  shape : I → Shape
  elt : I → EltTy
  mem : (i : I) → Memref sig .tc (space i) (shape i) (elt i)

/-- What the buffers read as. -/
abbrev Bufs.State {sig : RefSig} {I : Type} (R : Bufs sig I) (Val : EltTy → Type) : Type :=
  (i : I) → (R.shape i).Idx → Val (R.elt i)

/-- The array `X` with the rectangle `r` overwritten by `w`. -/
def put {Val : EltTy → Type} {s : Shape} {e : EltTy} (X : s.Idx → Val e) (r : Rect s) (w : r.shape.Idx → Val e) : s.Idx → Val e :=
  fun y => if h : ∃ x, r.emb x = y then w h.choose else X y

theorem put_emb {Val : EltTy → Type} {s : Shape} {e : EltTy} (X : s.Idx → Val e) (r : Rect s) (w : r.shape.Idx → Val e) (x : r.shape.Idx) :
    put X r w (r.emb x) = w x := by
  have h : ∃ x', r.emb x' = r.emb x := ⟨x, rfl⟩
  rw [put, dif_pos h, r.emb.injective h.choose_spec]

theorem put_of_not_mem {Val : EltTy → Type} {s : Shape} {e : EltTy} (X : s.Idx → Val e) (r : Rect s) (w : r.shape.Idx → Val e) (y : s.Idx)
    (h : ∀ x, r.emb x ≠ y) : put X r w y = X y := by
  rw [put, dif_neg fun ⟨x, hx⟩ => h x hx]

variable {nD : Nat} {τ : Topo} {sig : RefSig} {Val : EltTy → Type} {Λ : Labels}
variable {Ix : Type} [DecidableEq Ix] {U : Type} [URA U] {Lvl : Type} [Preorder Lvl]
variable {I : Type} [Fintype I] [DecidableEq I]

local notation "𝕄" => MT nD τ sig Ix Val ℕ U Lvl

/-- Core `c` owns every buffer, each reading as the state says. -/
def held (Ix : Type) [DecidableEq Ix] (U : Type) [URA U] (Lvl : Type) [Preorder Lvl] (c : Dev nD) (R : Bufs sig I) (σ : R.State Val) :
    sProp (MT nD τ sig Ix Val ℕ U Lvl) :=
  bigSep Finset.univ fun i => owns (c : Thread nD τ) (R.mem i) fullShare (σ i)

/-- Writing through a rectangle of a memref changes what it reads as by `put`. -/
theorem read_store {cs : CoreSpace} {s : Shape} {e : EltTy} (m : Memref sig .tc cs s e) (r : Rect s) (w : r.shape.Idx → Val e) (f) :
    m.view.read Val ((m.access r).write Val f w Finset.univ) = put (m.view.read Val f) r w := by
  funext y
  by_cases h : ∃ x, r.emb x = y
  · obtain ⟨x, rfl⟩ := h
    rw [put_emb]
    exact View.read_slice_write_emb (v := m.view) r f w (Finset.mem_univ x)
  · rw [put_of_not_mem _ _ _ _ fun x hx => h ⟨x, hx⟩]
    exact View.read_slice_write_of_not_mem (v := m.view) r f w Finset.univ
      fun hm => h ((Finset.mem_map.mp hm).imp fun x hx => hx.2)

variable (Ix U Lvl) in
/-- From state `σ` the program ends, and its result and the state then satisfy `Q`. -/
def Runs (defs : Defs nD τ sig Val Λ) (c : Dev nD) (R : Bufs sig I) (bd : Option ℕ) {α : Type}
    (p : Prog (TpuEff nD τ sig Val Λ .tc) α) (Q : α → R.State Val → Prop) (σ : R.State Val) : Prop :=
  held Ix U Lvl c R σ ⊢ wp frame (wpE (Ix := Ix) (U := U) (Lvl := Lvl) defs Steps (c : Thread nD τ) bd) (Set.univ : Set ℕ) p
    fun a => iprop(∃ σ', ⌜Q a σ'⌝ ∗ held Ix U Lvl c R σ')

variable {defs : Defs nD τ sig Val Λ} {c : Dev nD} {R : Bufs sig I} {bd : Option ℕ} {α β : Type}

local notation "Runs'" => Runs Ix U Lvl defs c R

theorem Runs.ret {a : α} {Q : α → R.State Val → Prop} {σ : R.State Val} (h : Q a σ) : Runs' bd (Prog.ret a) Q σ := by
  unfold Runs
  rw [wp_ret]
  iintro H
  imodintro
  iexists σ
  isplitr
  · ipureintro; exact h
  iexact H

/-- A state change: the buffer `i` reads as `X`. -/
abbrev set (σ : R.State Val) (i : I) (X : (R.shape i).Idx → Val (R.elt i)) : R.State Val := Function.update σ i X

theorem held_split (i : I) (σ : R.State Val) (X : (R.shape i).Idx → Val (R.elt i)) :
    (held Ix U Lvl c R (set σ i X) : sProp 𝕄)
      = iprop(owns (c : Thread nD τ) (R.mem i) fullShare X ∗ bigSep (Finset.univ.erase i) fun j => owns (c : Thread nD τ) (R.mem j) fullShare (σ j)) := by
  unfold held
  rw [BI.bigSep_univ_split i]
  rw [set, Function.update_self]
  rw [BI.bigSep_congr fun j hj => by rw [Function.update_of_ne (Finset.ne_of_mem_erase hj)]]
  rfl

theorem held_split_self (i : I) (σ : R.State Val) :
    (held Ix U Lvl c R σ : sProp 𝕄)
      = iprop(owns (c : Thread nD τ) (R.mem i) fullShare (σ i) ∗ bigSep (Finset.univ.erase i) fun j => owns (c : Thread nD τ) (R.mem j) fullShare (σ j)) := by
  have h := held_split (Ix := Ix) (U := U) (Lvl := Lvl) (c := c) (τ := τ) i σ (σ i)
  rwa [set, Function.update_eq_self] at h

theorem Runs.load (i : I) {r : LoadRect (R.shape i)} {hl : (R.mem i).view.LoadsAt r}
    {k : (r.shape.Idx → Val (R.elt i)) → Prog (TpuEff nD τ sig Val Λ .tc) α} {Q : α → R.State Val → Prop} {σ : R.State Val}
    (h : Runs' bd (k fun x => σ i (r.idx x)) Q σ) : Runs' bd (.op (.load (R.mem i) r hl) k) Q σ := by
  unfold Runs at h ⊢
  rw [held_split_self i] at h ⊢
  iintro ⟨H, Hr⟩
  unfold owns
  icases H with ⟨%f, %hf, H⟩
  iapply (wp_load Steps (c : Thread nD τ) bd Set.univ (m := R.mem i) (r := r) (f := f) (S := (R.mem i).view.set)
    ((Finset.map_subset_map.mpr (Finset.subset_univ _)))) $$ H
  iintro H
  rw [show (R.mem i).view.readAt Val r f = fun x => σ i (r.idx x) from by rw [← hf]; rfl]
  iapply h
  isplitl [H]
  · unfold owns; iexists f; isplitr
    · ipureintro; exact hf
    iexact H
  iexact Hr

theorem Runs.store (i : I) {r : Rect (R.shape i)} {w : r.shape.Idx → Val (R.elt i)} {hx : ((R.mem i).access r).Stores Finset.univ}
    {hm : Finset.univ = Finset.univ ∨ ∀ a, r.stride a = 1}
    {k : PUnit → Prog (TpuEff nD τ sig Val Λ .tc) α} {Q : α → R.State Val → Prop} {σ : R.State Val}
    (h : Runs' bd (k ⟨⟩) Q (set σ i (put (σ i) r w))) : Runs' bd (.op (.store (R.mem i) r w Finset.univ hx hm) k) Q σ := by
  unfold Runs at h ⊢
  rw [held_split i] at h
  rw [held_split_self i]
  iintro ⟨H, Hr⟩
  unfold owns
  icases H with ⟨%f, %hf, H⟩
  iapply (wp_store Steps (c : Thread nD τ) bd Set.univ (m := R.mem i) (r := r) (w := w) (Mk := Finset.univ) (f := f) (S := (R.mem i).view.set)
    (by rw [View.setOn_univ]; exact View.set_slice_subset _ _)) $$ H
  iintro H
  iapply h
  isplitl [H]
  · unfold owns; iexists _; isplitr
    swap; · iexact H
    ipureintro; rw [read_store, hf]
  iexact Hr

/-- The state after the store of `w` at the rectangle `r` of the buffer `i`. -/
def wr {sh : I → Shape} {el : I → EltTy} (σ : (i : I) → (sh i).Idx → Val (el i)) (i : I) (r : Rect (sh i)) (w : r.shape.Idx → Val (el i)) :
    (i : I) → (sh i).Idx → Val (el i) := Function.update σ i (put (σ i) r w)

theorem wr_self {sh : I → Shape} {el : I → EltTy} (σ : (i : I) → (sh i).Idx → Val (el i)) (i : I) (r : Rect (sh i)) (w : r.shape.Idx → Val (el i)) :
    wr σ i r w i = put (σ i) r w := Function.update_self ..

theorem wr_ne {sh : I → Shape} {el : I → EltTy} (σ : (i : I) → (sh i).Idx → Val (el i)) {i j : I} (h : j ≠ i) (r : Rect (sh i)) (w : r.shape.Idx → Val (el i)) :
    wr σ i r w j = σ j := Function.update_of_ne h ..

theorem Runs.write (i : I) {r : Rect (R.shape i)} {w : r.shape.Idx → Val (R.elt i)} {hx : ((R.mem i).access r).Stores Finset.univ}
    {hm : Finset.univ = Finset.univ ∨ ∀ a, r.stride a = 1}
    {k : PUnit → Prog (TpuEff nD τ sig Val Λ .tc) α} {Q : α → R.State Val → Prop} {σ : R.State Val}
    (h : Runs' bd (k ⟨⟩) Q (wr σ i r w)) : Runs' bd (.op (.store (R.mem i) r w Finset.univ hx hm) k) Q σ :=
  Runs.store i h

theorem Runs.assume {P : Prop} {d : Decidable P} {k : PLift P → Prog (TpuEff nD τ sig Val Λ .tc) α} {Q : α → R.State Val → Prop}
    {σ : R.State Val} (hP : P) (h : Runs' bd (k ⟨hP⟩) Q σ) : Runs' bd (.op (.assume P d) k) Q σ :=
  BI.Entails.trans h (wp_assume Steps (c : Thread nD τ) bd Set.univ hP)

/-- A weaker statement about the end. -/
theorem Runs.mono {p : Prog (TpuEff nD τ sig Val Λ .tc) α} {Q Q' : α → R.State Val → Prop} {σ : R.State Val}
    (h : Runs' bd p Q σ) (hQ : ∀ a σ', Q a σ' → Q' a σ') : Runs' bd p Q' σ := by
  unfold Runs at h ⊢
  refine BI.Entails.trans h (wp_mono _ _ _ fun a => ?_)
  iintro ⟨%σ', %h', H⟩
  iexists σ'
  isplitr
  · ipureintro; exact hQ a σ' h'
  iexact H

/-- One program after another. -/
theorem Runs.bind {p : Prog (TpuEff nD τ sig Val Λ .tc) β} {k : β → Prog (TpuEff nD τ sig Val Λ .tc) α} {Q : α → R.State Val → Prop}
    {σ : R.State Val} (h : Runs' bd p (fun b σ' => Runs' bd (k b) Q σ') σ) : Runs' bd (p >>= k) Q σ := by
  unfold Runs at h ⊢
  rw [wp_bind]
  refine BI.Entails.trans h (wp_mono _ _ _ fun a => ?_)
  iintro ⟨%σ', %h', H⟩
  iapply h'
  iexact H

/-- A call of a label: the label's program, entered at a smaller number. -/
theorem Runs.call {ℓ : Λ.Label} {a : Λ.Args ℓ} {k : Λ.Result ℓ → Prog (TpuEff nD τ sig Val Λ .tc) α} {Q : α → R.State Val → Prop}
    {σ : R.State Val} (v : ℕ) (hv : ∀ u ∈ bd, v < u)
    (h : Runs' (some v) (defs .tc ℓ a) (fun b σ' => Runs' bd (k b) Q σ') σ) : Runs' bd (.op (.call ℓ a) k) Q σ := by
  unfold Runs at h ⊢
  refine BI.Entails.trans ?_ (wp_call Steps (c : Thread nD τ) bd Set.univ v hv)
  refine BI.Entails.trans h (wp_mono _ _ _ fun a => ?_)
  iintro ⟨%σ', %h', H⟩
  iapply h'
  iexact H

/-- A counted loop, by an invariant of the trip number. -/
theorem Runs.loop {w : ℕ} {γ : Type} (l : Scf.Loop w) (hok : l.OK) (init : γ)
    (body : Fin l.trips → γ → Prog (TpuEff nD τ sig Val Λ .tc) γ) (J : ℕ → γ → R.State Val → Prop)
    (hstep : ∀ (t : Fin l.trips) (acc : γ) (σ : R.State Val), J t.val acc σ → Runs' bd (body t acc) (fun acc' σ' => J (t.val + 1) acc' σ') σ)
    {σ : R.State Val} (h0 : J 0 init σ) : Runs' bd (Scf.Loop.for l hok init body) (fun acc σ' => J l.trips acc σ') σ := by
  have key : ∀ (n k : ℕ) (_ : k + n = l.trips) (acc : γ) (σ : R.State Val), J k acc σ →
      Runs' bd (Scf.forFrom body ((List.finRange l.trips).drop k) acc) (fun acc' σ' => J l.trips acc' σ') σ := by
    intro n
    induction n with
    | zero =>
      intro k hk acc σ h
      rw [List.drop_of_length_le (by simp; omega), Scf.forFrom_nil]
      obtain rfl : k = l.trips := by omega
      exact Runs.ret h
    | succ n ih =>
      intro k hk acc σ h
      have hlt : k < l.trips := by omega
      rw [List.drop_eq_getElem_cons (by simpa using hlt), List.getElem_finRange, Fin.cast_mk, Scf.forFrom_cons]
      exact Runs.bind ((hstep ⟨k, hlt⟩ acc σ h).mono fun acc' σ' h' => ih (k + 1) (by omega) acc' σ' h')
  show Runs' bd (Scf.for l.lb l.ub l.st hok init body) _ σ
  rw [Scf.for_eq]
  exact key l.trips 0 (by omega) init σ h0

end Cert.Owned

end
-- ==== Proof.SbRuns.lean ====
/-
  What each piece of the kernel's body does to the buffers: the result and the buffers afterwards, as functions of the buffers before.
-/
module

public import proofs.«01_k».proof.Proof.SbBody
public import proofs.«01_k».proof.Proof.Owned

@[expose] public section

set_option maxRecDepth 16384

noncomputable section

namespace Cert.Sb

open Idealize.ShloMosaic Idealize.SL Idealize.SL.Sem Idealize.SL.RA Cert.Owned
open Cert.SbKernelIdeal Cert.SbKernelIdeal.Facts₀ Cert.SbKernelIdeal.Facts

variable {F : FTy → Type} [FloatOps F] [Named F] [Facts]

/-- The buffers that the body works on: the blocks of the four arguments and the three results, the weights' products and the logistic
    values of the blocks to the left, the same of the blocks kept, and the two running sums. -/
inductive B | q | k | v | d | dq | dko | dvo | eb | bb | pe | pb | dk | dv
  deriving DecidableEq

instance : Fintype B :=
  ⟨{.q, .k, .v, .d, .dq, .dko, .dvo, .eb, .bb, .pe, .pb, .dk, .dv}, by intro x; cases x <;> decide⟩

/-- Their shapes. -/
@[reducible] def shp : B → Shape
  | .q => S2048x128 | .k => S8192x128 | .v => S8192x128 | .d => S2048x128 | .dq => S2048x128 | .dko => S8192x128 | .dvo => S8192x128
  | .eb => S32x256x256 | .bb => S32x256x256 | .pe => S8x2x256x256 | .pb => S8x2x256x256 | .dk => S8192x128 | .dv => S8192x128

/-- Their element types. -/
@[reducible] def elt : B → EltTy
  | .q => .bf16 | .k => .bf16 | .v => .bf16 | .d => .bf16 | .dq => .bf16 | .dko => .bf16 | .dvo => .bf16
  | .eb => .f32 | .bb => .f32 | .pe => .f32 | .pb => .f32 | .dk => .f32 | .dv => .f32

/-- The buffers as memory references. -/
abbrev Mems := (b : B) → Memref sig .tc .vmem (shp b) (elt b)

/-- The same as a list of owned buffers. -/
@[reducible] def bufs (M : Mems) : Bufs sig B := ⟨fun _ => .vmem, shp, elt, M⟩

/-- What the buffers hold. -/
abbrev St (F : FTy → Type) := (b : B) → (shp b).Idx → Elt F (elt b)

variable (defs : Defs nD τ sig (Elt F) (Λ₀ F)) (c : Dev nD) (M : Mems)
variable (Ix : Type) [DecidableEq Ix] (U : Type) [URA U] (Lvl : Type) [Preorder Lvl]

/-- From the contents `σ` the program ends in a result and contents that satisfy `Q`. -/
abbrev Does {α : Type} (bd : Option ℕ) (p : P (F := F) α) (Q : α → St F → Prop) (σ : St F) : Prop :=
  Runs (R := bufs M) Ix U Lvl defs c bd p Q σ

/-- Rows of an array of 8192 rows. -/
abbrev rows8 {e : EltTy} (X : S8192x128.Idx → Elt F e) (o : Fin 2 → ℕ) (h : ∀ a, o a + S256x128.size a ≤ S8192x128.size a) : Vec F S256x128 e :=
  shapeCast S256x128 (fun x => X ((Rect.unit (s := S8192x128) o S256x128.size h).toLoadRect.idx x)) shapeCasts_S256x128_S256x128

/-- Rows of an array of 2048 rows. -/
abbrev rows2 {e : EltTy} (X : S2048x128.Idx → Elt F e) (o : Fin 2 → ℕ) (h : ∀ a, o a + S256x128.size a ≤ S2048x128.size a) : Vec F S256x128 e :=
  shapeCast S256x128 (fun x => X ((Rect.unit (s := S2048x128) o S256x128.size h).toLoadRect.idx x)) shapeCasts_S256x128_S256x128

/-- A kept block. -/
abbrev kept {e : EltTy} (X : S8x2x256x256.Idx → Elt F e) (o : Fin 4 → ℕ) (h : ∀ a, o a + S1x1x256x256.size a ≤ S8x2x256x256.size a) : Vec F S256x256 e :=
  shapeCast S256x256 (fun x => X ((Rect.unit (s := S8x2x256x256) o S1x1x256x256.size h).toLoadRect.idx x)) shapeCasts_S1x1x256x256_S256x256

/-- A block of the loop to the left. -/
abbrev left {e : EltTy} (X : S32x256x256.Idx → Elt F e) (o : Fin 3 → ℕ) (h : ∀ a, o a + S1x256x256.size a ≤ S32x256x256.size a) : Vec F S256x256 e :=
  shapeCast S256x256 (fun x => X ((Rect.unit (s := S32x256x256) o S1x256x256.size h).toLoadRect.idx x)) shapeCasts_S1x256x256_S256x256

section Kept

variable (q d : FVec F S256x128 .bf16) (tri : FVec F S256x256 .bf16) (run : FVec F S256x1 .f32)
    (mz mw : FVec F S256x256 .f32 → FVec F S256x256 .f32)
    (o1 : Fin 2 → ℕ) (h1 : ∀ a, o1 a + S256x128.size a ≤ S8192x128.size a)
    (o : Fin 4 → ℕ) (ho : ∀ a, o a + S1x1x256x256.size a ≤ S8x2x256x256.size a)
    (k : Vec F S8192x128 .bf16)

/-- The sums along the rows of a block. -/
abbrev keptSums : FVec F S256x256 .f32 := rowSums (mz (logGap (score q (rows8 k o1 h1)))) tri

/-- The weights of a block. -/
abbrev keptWeight : FVec F S256x256 .f32 := mw (weight (score q (rows8 k o1 h1)) (keptSums q tri mz o1 h1 k) run)

/-- The buffers after the first sweep over a kept block. -/
def afterKept (σ : St F) : St F :=
  Function.update (Function.update (Function.update σ .pe
    (put (σ .pe) (Rect.unit (s := S8x2x256x256) o S1x1x256x256.size ho)
      (shapeCast S1x1x256x256 (eOf (keptWeight q tri run mz mw o1 h1 (σ .k)) d (rows8 (σ .v) o1 h1)) shapeCasts_S256x256_S1x1x256x256))) .pb
    (put (σ .pb) (Rect.unit (s := S8x2x256x256) o S1x1x256x256.size ho)
      (shapeCast S1x1x256x256 (beta (score q (rows8 (σ .k) o1 h1))) shapeCasts_S256x256_S1x1x256x256))) .dv
    (put (σ .dv) (Rect.unit (s := S8192x128) o1 S256x128.size h1)
      (shapeCast S256x128 (addTo (fun x => σ .dv ((Rect.unit (s := S8192x128) o1 S256x128.size h1).toLoadRect.idx x))
        (truncf .bf16 (keptWeight q tri run mz mw o1 h1 (σ .k)) bitsLt_bf16_f32) d) shapeCasts_S256x128_S256x128))

theorem sweepKept_does (bd : Option ℕ) (σ : St F) :
    Does defs c M Ix U Lvl bd (sweepKept q d tri run mz mw o1 h1 o ho (M .k) (M .v) (M .pe) (M .pb) (M .dv))
      (fun r σ' => r = runAfter (keptSums q tri mz o1 h1 (σ .k)) run ∧ σ' = afterKept q d tri run mz mw o1 h1 o ho σ) σ := by
  refine Runs.load (R := bufs M) .v ?_
  refine Runs.load (R := bufs M) .k ?_
  refine Runs.load (R := bufs M) .pe ?_
  refine Runs.store (R := bufs M) .pe ?_
  refine Runs.load (R := bufs M) .pb ?_
  refine Runs.store (R := bufs M) .pb ?_
  refine Runs.load (R := bufs M) .dv ?_
  refine Runs.load (R := bufs M) .dv ?_
  refine Runs.store (R := bufs M) .dv ?_
  exact Runs.ret ⟨rfl, rfl⟩

end Kept

/-- The first sweep of a query block over its own block and the one to its left. -/
theorem sweepPair_does (bd : Option ℕ) (i : grid0.Coords) (ub : BitVec 32) (oq : Fin 2 → ℕ) (od ol : Fin 4 → ℕ)
    (hq : ∀ a, oq a + S256x128.size a ≤ S2048x128.size a)
    (h1 : ∀ a, k0_off1 i ub a + S256x128.size a ≤ S8192x128.size a) (h2 : ∀ a, k0_off2 i ub a + S256x128.size a ≤ S8192x128.size a)
    (hd : ∀ a, od a + S1x1x256x256.size a ≤ S8x2x256x256.size a)
    (hl : ∀ a, ol a + S1x1x256x256.size a ≤ S8x2x256x256.size a)
    {Q : FVec F S256x128 .bf16 × FVec F S256x128 .bf16 × FVec F S256x1 .f32 → St F → Prop} (σ : St F)
    (h : let qb := rows2 (F := F) (σ .q) oq hq
      let db := rows2 (F := F) (σ .d) oq hq
      let tri := ones (F := F) (cmpi .sge rowNo colNo)
      let mz := masked (F := F) (cmpi .slt colNo rowNo)
      let run0 := broadcast S256x1 (Scalar.ofBits (F := F) .f32 0x00000000#32)
      let σ1 := afterKept qb db tri run0 mz mz (k0_off1 i ub) h1 od hd σ
      let run1 := runAfter (keptSums qb tri mz (k0_off1 i ub) h1 (σ .k)) run0
      let mw := gated (F := F) (Scalar.cmpi .sgt (blockNo i ub) 0#32)
      Q (qb, db, Scalar.select (Scalar.cmpi .sgt (blockNo i ub) 0#32) (runAfter (keptSums qb tri (fun x => x) (k0_off2 i ub) h2 (σ .k)) run1) run1)
        (afterKept qb db tri run1 (fun x => x) mw (k0_off2 i ub) h2 ol hl σ1)) :
    Does defs c M Ix U Lvl bd (sweepPair i ub oq od ol hq h1 h2 hd hl (M .q) (M .k) (M .v) (M .d) (M .pe) (M .pb) (M .dv)) Q σ := by
  refine Runs.bind (Runs.load (R := bufs M) .q (Runs.ret ?_))
  refine Runs.bind (Runs.load (R := bufs M) .d (Runs.ret ?_))
  refine Runs.bind ((sweepKept_does defs c M Ix U Lvl _ _ _ _ _ _ _ _ _ _ bd σ).mono ?_)
  rintro r1 σ1 ⟨rfl, rfl⟩
  refine Runs.bind ((sweepKept_does defs c M Ix U Lvl _ _ _ _ _ _ _ _ _ _ bd _).mono ?_)
  rintro r2 σ2 ⟨rfl, rfl⟩
  exact Runs.ret h

/-! ### The loop to the left -/

/-- Whether the loop goes on for this running sum. -/
def go (run : FVec F S256x1 .f32) : Prop := Scalar.cmpi .sgt (alive run) 0#32 = 1#1

/-- The sums along the rows of a block of the loop. -/
abbrev leftSums (q : FVec F S256x128 .bf16) (tri : FVec F S256x256 .bf16) (o3 : Fin 2 → ℕ) (h3 : ∀ a, o3 a + S256x128.size a ≤ S8192x128.size a)
    (k : Vec F S8192x128 .bf16) : FVec F S256x256 .f32 := rowSums (logGap (score q (rows8 k o3 h3))) tri

/-- The weights of a block of the loop. -/
abbrev leftWeight (q : FVec F S256x128 .bf16) (tri : FVec F S256x256 .bf16) (run : FVec F S256x1 .f32) (o3 : Fin 2 → ℕ)
    (h3 : ∀ a, o3 a + S256x128.size a ≤ S8192x128.size a) (k : Vec F S8192x128 .bf16) : FVec F S256x256 .f32 :=
  weight (score q (rows8 k o3 h3)) (leftSums q tri o3 h3 k) run

/-- The buffers after a step of the loop. -/
def afterLeft (q d : FVec F S256x128 .bf16) (tri : FVec F S256x256 .bf16) (run : FVec F S256x1 .f32)
    (o3 : Fin 2 → ℕ) (h3 : ∀ a, o3 a + S256x128.size a ≤ S8192x128.size a)
    (o4 : Fin 3 → ℕ) (h4 : ∀ a, o4 a + S1x256x256.size a ≤ S32x256x256.size a) (σ : St F) : St F :=
  Function.update (Function.update (Function.update σ .eb
    (put (σ .eb) (Rect.unit (s := S32x256x256) o4 S1x256x256.size h4)
      (shapeCast S1x256x256 (eOf (leftWeight q tri run o3 h3 (σ .k)) d (rows8 (σ .v) o3 h3)) shapeCasts_S256x256_S1x256x256))) .bb
    (put (σ .bb) (Rect.unit (s := S32x256x256) o4 S1x256x256.size h4)
      (shapeCast S1x256x256 (beta (score q (rows8 (σ .k) o3 h3))) shapeCasts_S256x256_S1x256x256))) .dv
    (put (σ .dv) (Rect.unit (s := S8192x128) o3 S256x128.size h3)
      (shapeCast S256x128 (addTo (fun x => σ .dv ((Rect.unit (s := S8192x128) o3 S256x128.size h3).toLoadRect.idx x))
        (truncf .bf16 (leftWeight q tri run o3 h3 (σ .k)) bitsLt_bf16_f32) d) shapeCasts_S256x128_S256x128))

theorem leftStep_true (bd : Option ℕ) (C : Prop) [Decidable C] (hC : C) (q d : FVec F S256x128 .bf16) (tri : FVec F S256x256 .bf16)
    (kb al : BitVec 32) (run : FVec F S256x1 .f32)
    (o3 : Fin 2 → ℕ) (h3 : C → ∀ a, o3 a + S256x128.size a ≤ S8192x128.size a)
    (o4 : Fin 3 → ℕ) (h4 : C → ∀ a, o4 a + S1x256x256.size a ≤ S32x256x256.size a)
    (again : BitVec 32 → BitVec 32 → FVec F S256x1 .f32 → P (F := F) (BitVec 32 × BitVec 32 × FVec F S256x1 .f32))
    {Q : BitVec 32 × BitVec 32 × FVec F S256x1 .f32 → St F → Prop} (σ : St F)
    (hif : Scalar.andi (Scalar.cmpi .sge kb 0#32) (Scalar.cmpi .sgt al 0#32) = 1#1)
    (h : let run' := runAfter (leftSums q tri o3 (h3 hC) (σ .k)) run
      Does defs c M Ix U Lvl bd (again (Scalar.subi kb 1#32) (alive run') run') Q (afterLeft q d tri run o3 (h3 hC) o4 (h4 hC) σ)) :
    Does defs c M Ix U Lvl bd (leftStep C q d tri kb al run o3 h3 o4 h4 (M .k) (M .v) (M .eb) (M .bb) (M .dv) again) Q σ := by
  unfold leftStep
  rw [if_pos hif]
  refine Runs.assume hC ?_
  refine Runs.load (R := bufs M) .v ?_
  refine Runs.load (R := bufs M) .k ?_
  refine Runs.load (R := bufs M) .eb ?_
  refine Runs.store (R := bufs M) .eb ?_
  refine Runs.load (R := bufs M) .bb ?_
  refine Runs.store (R := bufs M) .bb ?_
  refine Runs.load (R := bufs M) .dv ?_
  refine Runs.load (R := bufs M) .dv ?_
  refine Runs.store (R := bufs M) .dv ?_
  exact h

theorem leftStep_false (bd : Option ℕ) (C : Prop) [Decidable C] (q d : FVec F S256x128 .bf16) (tri : FVec F S256x256 .bf16)
    (kb al : BitVec 32) (run : FVec F S256x1 .f32)
    (o3 : Fin 2 → ℕ) (h3 : C → ∀ a, o3 a + S256x128.size a ≤ S8192x128.size a)
    (o4 : Fin 3 → ℕ) (h4 : C → ∀ a, o4 a + S1x256x256.size a ≤ S32x256x256.size a)
    (again : BitVec 32 → BitVec 32 → FVec F S256x1 .f32 → P (F := F) (BitVec 32 × BitVec 32 × FVec F S256x1 .f32))
    {Q : BitVec 32 × BitVec 32 × FVec F S256x1 .f32 → St F → Prop} (σ : St F)
    (hif : Scalar.andi (Scalar.cmpi .sge kb 0#32) (Scalar.cmpi .sgt al 0#32) ≠ 1#1) (h : Q (kb, al, run) σ) :
    Does defs c M Ix U Lvl bd (leftStep C q d tri kb al run o3 h3 o4 h4 (M .k) (M .v) (M .eb) (M .bb) (M .dv) again) Q σ := by
  unfold leftStep
  rw [if_neg hif]
  exact Runs.ret h

/-! ### The second sweep -/

/-- The gradient of the products of a block, from the weights' products and the logistic values. -/
abbrev dsOf (trix : FVec F S256x256 .bf16) (mz : FVec F S256x256 .f32 → FVec F S256x256 .f32) (pre : FVec F S256x1 .f32)
    (e b : FVec F S256x256 .f32) : FVec F S256x256 .bf16 := scaled (mz (dScore e b (rowSums e trix) pre))

/-- The sum of the weights' products up to the end of the block. -/
def preAfter (trix : FVec F S256x256 .bf16) (pre : FVec F S256x1 .f32) (e : FVec F S256x256 .f32) : FVec F S256x1 .f32 :=
  addf (addf pre (extractStridedSlice S256x1 ![0, 255] (rowSums e trix) slices_S256x256_o0_255_S256x1))
    (extractStridedSlice S256x1 ![0, 255] e slices_S256x256_o0_255_S256x1)

/-- The part of the queries' gradient that comes from a block. -/
def dqPart (ds : FVec F S256x256 .bf16) (k : FVec F S256x128 .bf16) : FVec F S256x128 .f32 :=
  matmul dot_S256x256_S256x128_S256x128_1_0_0_1_n_n none ds k (constant S256x128 .f32 0x00000000#32)

/-- The buffers after the keys' gradient has been added to. -/
def afterBack (q : FVec F S256x128 .bf16) (ds : FVec F S256x256 .bf16) (o6 : Fin 2 → ℕ) (h6 : ∀ a, o6 a + S256x128.size a ≤ S8192x128.size a)
    (σ : St F) : St F :=
  Function.update σ .dk (put (σ .dk) (Rect.unit (s := S8192x128) o6 S256x128.size h6)
    (shapeCast S256x128 (addTo (fun x => σ .dk ((Rect.unit (s := S8192x128) o6 S256x128.size h6).toLoadRect.idx x)) ds q) shapeCasts_S256x128_S256x128))

theorem backStep_does (bd : Option ℕ) (q : FVec F S256x128 .bf16) (trix : FVec F S256x256 .bf16)
    (o5 : Fin 3 → ℕ) (h5 : ∀ a, o5 a + S1x256x256.size a ≤ S32x256x256.size a)
    (o6 : Fin 2 → ℕ) (h6 : ∀ a, o6 a + S256x128.size a ≤ S8192x128.size a)
    (pre : FVec F S256x1 .f32) (dq : FVec F S256x128 .f32) (σ : St F) :
    Does defs c M Ix U Lvl bd (backStep q trix o5 h5 o6 h6 (M .k) (M .eb) (M .bb) (M .dk) pre dq)
      (fun r σ' =>
        let ds := dsOf trix (fun x => x) pre (left (F := F) (σ .eb) o5 h5) (left (F := F) (σ .bb) o5 h5)
        r = (preAfter trix pre (left (F := F) (σ .eb) o5 h5), addf dq (dqPart ds (rows8 (F := F) (σ .k) o6 h6))) ∧ σ' = afterBack q ds o6 h6 σ) σ := by
  refine Runs.load (R := bufs M) .eb ?_
  refine Runs.load (R := bufs M) .bb ?_
  refine Runs.load (R := bufs M) .dk ?_
  refine Runs.load (R := bufs M) .dk ?_
  refine Runs.store (R := bufs M) .dk ?_
  refine Runs.load (R := bufs M) .k ?_
  exact Runs.ret ⟨rfl, rfl⟩

theorem backKept_does (bd : Option ℕ) (q : FVec F S256x128 .bf16) (trix : FVec F S256x256 .bf16) (pre : FVec F S256x1 .f32)
    (mz : FVec F S256x256 .f32 → FVec F S256x256 .f32)
    (o6 : Fin 2 → ℕ) (h6 : ∀ a, o6 a + S256x128.size a ≤ S8192x128.size a)
    (o : Fin 4 → ℕ) (ho : ∀ a, o a + S1x1x256x256.size a ≤ S8x2x256x256.size a) (σ : St F) :
    Does defs c M Ix U Lvl bd (backKept q trix pre mz o6 h6 o ho (M .k) (M .pe) (M .pb) (M .dk))
      (fun r σ' =>
        let ds := dsOf trix mz pre (kept (F := F) (σ .pe) o ho) (kept (F := F) (σ .pb) o ho)
        r = (preAfter trix pre (kept (F := F) (σ .pe) o ho), dqPart ds (rows8 (F := F) (σ .k) o6 h6)) ∧ σ' = afterBack q ds o6 h6 σ) σ := by
  refine Runs.load (R := bufs M) .pe ?_
  refine Runs.load (R := bufs M) .pb ?_
  refine Runs.load (R := bufs M) .dk ?_
  refine Runs.load (R := bufs M) .dk ?_
  refine Runs.store (R := bufs M) .dk ?_
  refine Runs.load (R := bufs M) .k ?_
  exact Runs.ret ⟨rfl, rfl⟩

theorem backPair_does (bd : Option ℕ) (i : grid0.Coords) (ub : BitVec 32) (oq : Fin 2 → ℕ) (od ol : Fin 4 → ℕ)
    (hq : ∀ a, oq a + S256x128.size a ≤ S2048x128.size a)
    (hp : (Rect.unit (s := S2048x128) oq S256x128.size hq).PackedRows (EltTy.packing .bf16))
    (h1 : ∀ a, k0_off52 i ub a + S256x128.size a ≤ S8192x128.size a) (h2 : ∀ a, k0_off51 i ub a + S256x128.size a ≤ S8192x128.size a)
    (hd : ∀ a, od a + S1x1x256x256.size a ≤ S8x2x256x256.size a)
    (hl : ∀ a, ol a + S1x1x256x256.size a ≤ S8x2x256x256.size a)
    (q : FVec F S256x128 .bf16) (pre : FVec F S256x1 .f32) (dq : FVec F S256x128 .f32) (hout : (M .dq).IsWhole)
    {Q : PUnit → St F → Prop} (σ : St F)
    (h : let trix := ones (F := F) (cmpi .slt rowNo colNo)
      let ds1 := dsOf trix (gated (F := F) (Scalar.cmpi .sgt (blockNo i ub) 0#32)) pre (kept (F := F) (σ .pe) ol hl) (kept (F := F) (σ .pb) ol hl)
      let σ1 := afterBack q ds1 (k0_off51 i ub) h2 σ
      let pre1 := preAfter trix pre (kept (F := F) (σ .pe) ol hl)
      let ds2 := dsOf trix (masked (F := F) (cmpi .slt colNo rowNo)) pre1 (kept (F := F) (σ .pe) od hd) (kept (F := F) (σ .pb) od hd)
      let σ2 := afterBack q ds2 (k0_off52 i ub) h1 σ1
      Q ⟨⟩ (Function.update σ2 .dq (put (σ .dq) (Rect.unit (s := S2048x128) oq S256x128.size hq)
        (truncf .bf16 (addf (addf dq (dqPart ds1 (rows8 (F := F) (σ .k) (k0_off51 i ub) h2)))
          (dqPart ds2 (rows8 (F := F) (σ .k) (k0_off52 i ub) h1))) bitsLt_bf16_f32)))) :
    Does defs c M Ix U Lvl bd (backPair i ub oq od ol hq hp h1 h2 hd hl q pre dq (M .k) (M .pe) (M .pb) (M .dk) (M .dq) hout) Q σ := by
  refine Runs.bind ((backKept_does defs c M Ix U Lvl bd _ _ _ _ _ _ _ _ σ).mono ?_)
  rintro r1 σ1 ⟨rfl, rfl⟩
  refine Runs.bind ((backKept_does defs c M Ix U Lvl bd _ _ _ _ _ _ _ _ _).mono ?_)
  rintro r2 σ2 ⟨rfl, rfl⟩
  refine Runs.load (R := bufs M) .dq ?_
  refine Runs.store (R := bufs M) .dq ?_
  exact Runs.ret h

/-- The buffers after the running sums have been set to zero. -/
def afterReset (σ : St F) : St F :=
  Function.update (Function.update σ .dk (put (σ .dk) (Rect.unit (s := S8192x128) ![0, 0] S8192x128.size inb_S8192x128_S8192x128_0_0)
      (shapeCast S8192x128 (broadcast S8192x128 (Scalar.ofBits .f32 0x00000000#32)) shapeCasts_S8192x128_S8192x128))) .dv
    (put (σ .dv) (Rect.unit (s := S8192x128) ![0, 0] S8192x128.size inb_S8192x128_S8192x128_0_0)
      (shapeCast S8192x128 (broadcast S8192x128 (Scalar.ofBits .f32 0x00000000#32)) shapeCasts_S8192x128_S8192x128))

theorem reset_does (bd : Option ℕ) (i : grid0.Coords) {Q : PUnit → St F → Prop} (σ : St F)
    (h : Scalar.cmpi .ne (Scalar.extui (Scalar.cmpi .eq (BitVec.ofNat 32 (i 1).val) 0#32)) 0#32 = 1#1 → Q ⟨⟩ (afterReset σ))
    (h' : Scalar.cmpi .ne (Scalar.extui (Scalar.cmpi .eq (BitVec.ofNat 32 (i 1).val) 0#32)) 0#32 ≠ 1#1 → Q ⟨⟩ σ) :
    Does defs c M Ix U Lvl bd (reset i (M .dk) (M .dv)) Q σ := by
  unfold reset
  split
  · next hi =>
    refine Runs.load (R := bufs M) .dk ?_
    refine Runs.store (R := bufs M) .dk ?_
    refine Runs.load (R := bufs M) .dv ?_
    refine Runs.store (R := bufs M) .dv ?_
    exact Runs.ret (h hi)
  · next hi => exact Runs.ret (h' hi)

/-- The buffers after the running sums have been written out. -/
def afterFinish (σ : St F) : St F :=
  Function.update (Function.update σ .dko (put (σ .dko) (Rect.unit (s := S8192x128) ![0, 0] S8192x128.size inb_S8192x128_S8192x128_0_0)
      (truncf .bf16 (fun x => σ .dk ((Rect.unit (s := S8192x128) ![0, 0] S8192x128.size inb_S8192x128_S8192x128_0_0).toLoadRect.idx x)) bitsLt_bf16_f32))) .dvo
    (put (σ .dvo) (Rect.unit (s := S8192x128) ![0, 0] S8192x128.size inb_S8192x128_S8192x128_0_0)
      (truncf .bf16 (fun x => σ .dv ((Rect.unit (s := S8192x128) ![0, 0] S8192x128.size inb_S8192x128_S8192x128_0_0).toLoadRect.idx x)) bitsLt_bf16_f32))

theorem finish_does (bd : Option ℕ) (i : grid0.Coords) (hk : (M .dko).IsWhole) (hv : (M .dvo).IsWhole) {Q : PUnit → St F → Prop} (σ : St F)
    (h : k0_cond2 i = 1#1 → Q ⟨⟩ (afterFinish σ)) (h' : k0_cond2 i ≠ 1#1 → Q ⟨⟩ σ) :
    Does defs c M Ix U Lvl bd (finish i (M .dko) (M .dvo) hk hv (M .dk) (M .dv)) Q σ := by
  unfold finish
  split
  · next hi =>
    refine Runs.load (R := bufs M) .dk ?_
    refine Runs.load (R := bufs M) .dko ?_
    refine Runs.store (R := bufs M) .dko ?_
    refine Runs.load (R := bufs M) .dv ?_
    refine Runs.load (R := bufs M) .dvo ?_
    refine Runs.store (R := bufs M) .dvo ?_
    exact Runs.ret (h hi)
  · next hi => exact Runs.ret (h' hi)

end Cert.Sb
-- ==== Proof.SbCounts.lean ====
/-
  The numbers of the kernel's loops: which block of keys each step of the loop to the left and of the counted loop works on. Query block
  number `n` of a head goes left from block `n - 2`, and then right again, up to block `n - 2`.
-/
module

public import proofs.«01_k».proof.Proof.SbBody

@[expose] public section

set_option maxRecDepth 16384

noncomputable section

namespace Cert.Sb

open Idealize.ShloMosaic Idealize.SL.Sem
open Cert.SbKernelIdeal

/-- The block number that the loop to the left of query block `n` is at after `c` steps, as a word: `n - 2 - c`. -/
def leftPos (n c : ℕ) : BitVec 32 := Scalar.subi (Scalar.subi (BitVec.ofNat 32 n) 2#32) (BitVec.ofNat 32 c)

/-- The counted loop of query block `b` from the word `r` on. -/
@[reducible] def loopA (b r : BitVec 32) : Scf.Loop 32 :=
  ⟨Scalar.addi r 1#32, Scalar.addi (Scalar.addi r 1#32)
    (Scalar.muli (Scalar.divsi (Scalar.subi (Scalar.subi b 1#32) (Scalar.addi r 1#32)) 1#32) 1#32), 1#32⟩

/-- What is left of it after the division by one: nothing. -/
@[reducible] def loopB (b r : BitVec 32) : Scf.Loop 32 :=
  ⟨Scalar.addi (Scalar.addi r 1#32) (Scalar.muli (Scalar.divsi (Scalar.subi (Scalar.subi b 1#32) (Scalar.addi r 1#32)) 1#32) 1#32),
    Scalar.addi (Scalar.addi r 1#32) (Scalar.subi (Scalar.subi b 1#32) (Scalar.addi r 1#32)), 1#32⟩

/-- The first block number of a trip. -/
def posA (b r : BitVec 32) (t : Fin (loopA b r).trips) : BitVec 32 := Scf.iv (loopA b r).lb 1#32 t
def posB (b r : BitVec 32) (t : Fin (loopB b r).trips) : BitVec 32 := Scf.iv (loopB b r).lb 1#32 t

/-- The offsets of block `p` in an array of blocks, and those of its rows. -/
def at3 (p : BitVec 32) : Fin 3 → ℕ := ![(Scalar.indexCast p : Index).toNat, 0, 0]
def at2 (p : BitVec 32) : Fin 2 → ℕ := ![(Scalar.indexCast (Scalar.muli p 256#32) : Index).toNat, 0]

/-- The side condition of a step of the loop to the left. -/
def stepOK (p : BitVec 32) : Prop :=
  (256 ∣ (Scalar.muli p 256#32).toNat) ∧ (∀ a, at2 p a + S256x128.size a ≤ S8192x128.size a) ∧ (∀ a, at3 p a + S1x256x256.size a ≤ S32x256x256.size a)

instance (p : BitVec 32) : Decidable (stepOK p) := by unfold stepOK; infer_instance

/-- The side condition of the counted loop. -/
def loopOK (b r : BitVec 32) : Prop :=
  ((loopA b r).OK) ∧
  (∀ t : Fin (loopA b r).trips, 256 ∣ (Scalar.muli (posA b r t) 256#32).toNat) ∧
  (∀ t : Fin (loopA b r).trips, ∀ a, at3 (posA b r t) a + S1x256x256.size a ≤ S32x256x256.size a) ∧
  (∀ t : Fin (loopA b r).trips, ∀ a, at2 (posA b r t) a + S256x128.size a ≤ S8192x128.size a) ∧
  ((loopB b r).OK) ∧
  (∀ t : Fin (loopB b r).trips, 256 ∣ (Scalar.muli (posB b r t) 256#32).toNat) ∧
  (∀ t : Fin (loopB b r).trips, ∀ a, at3 (posB b r t) a + S1x256x256.size a ≤ S32x256x256.size a) ∧
  (∀ t : Fin (loopB b r).trips, ∀ a, at2 (posB b r t) a + S256x128.size a ≤ S8192x128.size a)

instance (b r : BitVec 32) : Decidable (loopOK b r) := by unfold loopOK; infer_instance

theorem leftPos_zero (n : ℕ) : Scalar.subi (BitVec.ofNat 32 n) 2#32 = leftPos n 0 := by
  show _ = (BitVec.ofNat 32 n - 2#32) - 0#32
  rw [BitVec.sub_zero]; rfl

theorem leftPos_succ (n c : ℕ) : Scalar.subi (leftPos n c) 1#32 = leftPos n (c + 1) := by
  show BitVec.ofNat 32 n - 2#32 - BitVec.ofNat 32 c - 1#32 = BitVec.ofNat 32 n - 2#32 - BitVec.ofNat 32 (c + 1)
  rw [BitVec.ofNat_add]; exact BitVec.sub_sub _ _ _

theorem step_facts : ∀ (n c : Fin 32), c.val < n.val - 1 →
    stepOK (leftPos n.val c.val) ∧ at2 (leftPos n.val c.val) = ![256 * (n.val - 2 - c.val), 0] ∧ at3 (leftPos n.val c.val) = ![n.val - 2 - c.val, 0, 0]
      ∧ Scalar.cmpi .sge (leftPos n.val c.val) 0#32 = 1#1 := by
  decide +kernel

theorem stop_facts : ∀ (n : Fin 32), Scalar.cmpi .sge (leftPos n.val (n.val - 1)) 0#32 = 0#1 := by
  decide +kernel

theorem loop_facts : ∀ (n c : Fin 32), c.val ≤ n.val - 1 →
    loopOK (BitVec.ofNat 32 n.val) (leftPos n.val c.val) ∧ (loopA (BitVec.ofNat 32 n.val) (leftPos n.val c.val)).trips = c.val
      ∧ (loopB (BitVec.ofNat 32 n.val) (leftPos n.val c.val)).trips = 0 := by
  decide +kernel

theorem pos_facts : ∀ (n c : Fin 32), c.val ≤ n.val - 1 → ∀ t : Fin (loopA (BitVec.ofNat 32 n.val) (leftPos n.val c.val)).trips,
    at3 (posA (BitVec.ofNat 32 n.val) (leftPos n.val c.val) t) = ![n.val - 1 - c.val + t.val, 0, 0]
      ∧ at2 (posA (BitVec.ofNat 32 n.val) (leftPos n.val c.val) t) = ![256 * (n.val - 1 - c.val + t.val), 0] := by
  decide +kernel

/-- The block number of the `u`-th block of a grid point. -/
theorem blockNo_eq : ∀ (i1 : Fin 4) (u : Fin 8),
    Scalar.addi (Scalar.muli (BitVec.ofNat 32 i1.val) 8#32) (BitVec.ofNat 32 u.val) = BitVec.ofNat 32 (8 * i1.val + u.val) := by
  decide +kernel

theorem pair_facts (i : grid0.Coords) (u : Fin 8) :
    k0_off1 i (BitVec.ofNat 32 u.val) = ![256 * (8 * (i 1).val + u.val), 0] ∧ k0_off52 i (BitVec.ofNat 32 u.val) = ![256 * (8 * (i 1).val + u.val), 0]
      ∧ k0_off2 i (BitVec.ofNat 32 u.val) = ![256 * (8 * (i 1).val + u.val - 1), 0] ∧ k0_off51 i (BitVec.ofNat 32 u.val) = ![256 * (8 * (i 1).val + u.val - 1), 0]
      ∧ Scalar.cmpi .sgt (blockNo i (BitVec.ofNat 32 u.val)) 0#32 = if 8 * (i 1).val + u.val = 0 then 0#1 else 1#1 := by
  have h : ∀ (j : Fin 4) (u : Fin 8),
      (![(Scalar.indexCast (Scalar.muli (Scalar.addi (Scalar.muli (BitVec.ofNat 32 j.val) 8#32) (BitVec.ofNat 32 u.val)) 256#32) : Index).toNat, 0] : Fin 2 → ℕ)
          = ![256 * (8 * j.val + u.val), 0]
      ∧ (![(Scalar.indexCast (Scalar.muli (Scalar.maxsi (Scalar.subi (Scalar.addi (Scalar.muli (BitVec.ofNat 32 j.val) 8#32) (BitVec.ofNat 32 u.val)) 1#32) 0#32) 256#32) : Index).toNat, 0] : Fin 2 → ℕ)
          = ![256 * (8 * j.val + u.val - 1), 0]
      ∧ Scalar.cmpi .sgt (Scalar.addi (Scalar.muli (BitVec.ofNat 32 j.val) 8#32) (BitVec.ofNat 32 u.val)) 0#32 = if 8 * j.val + u.val = 0 then 0#1 else 1#1 := by
    decide +kernel
  obtain ⟨h1, h2, h3⟩ := h (i 1) u
  exact ⟨h1, h1, h2, h2, h3⟩

/-- The first point of a head is the one with second coordinate zero, the last the one with second coordinate three. -/
theorem reset_facts (i : grid0.Coords) :
    Scalar.cmpi .ne (Scalar.extui (Scalar.cmpi .eq (BitVec.ofNat 32 (i 1).val) 0#32)) 0#32 = if (i 1).val = 0 then 1#1 else 0#1 := by
  have h : ∀ j : Fin 4, Scalar.cmpi .ne (Scalar.extui (Scalar.cmpi .eq (BitVec.ofNat 32 j.val) 0#32) : BitVec 32) 0#32 = if j.val = 0 then 1#1 else 0#1 := by
    decide +kernel
  exact h (i 1)

theorem finish_facts (i : grid0.Coords) : k0_cond2 i = if (i 1).val = 3 then 1#1 else 0#1 := by
  have h : ∀ j : Fin 4, Scalar.cmpi .ne (Scalar.extui (Scalar.cmpi .eq (BitVec.ofNat 32 j.val) 3#32) : BitVec 32) 0#32 = if j.val = 3 then 1#1 else 0#1 := by
    decide +kernel
  exact h (i 1)

theorem chk1_eq : k0_chk1 = stepOK := rfl
theorem chk16_eq (i : grid0.Coords) : k0_chk16 i = loopOK (blockNo i 7#32) := rfl
theorem off49_eq (i : grid0.Coords) : k0_off49 i = fun r t => at3 (posB (blockNo i 7#32) r t) := rfl

end Cert.Sb
-- ==== Proof.SbEqual.lean ====
/-
  The printed body of a grid point is `Sb.body`, and each of the eight loops to the left is `Sb.leftStep`.
-/
module

public import proofs.«01_k».proof.Proof.SbBody
public import Idealize.ShloMosaic.Lib.Tactic.ProgEq
public import Idealize.ShloMosaic.PureOps.BitExact

@[expose] public section

set_option maxRecDepth 16384

noncomputable section

namespace Cert.Sb

open Idealize.ShloMosaic Idealize.SL.Sem
open Cert.SbKernelIdeal Cert.SbKernelIdeal.Facts₀ Cert.SbKernelIdeal.Facts
open scoped Idealize.ShloMosaic.ProgEq

set_option maxHeartbeats 0 in
prog_eq Cert.Sb.body_ideal : Cert.SbKernelIdeal.cc0_sb_bwd Cert.Sb.body from Cert.SbKernelIdeal to Cert.Sb at Ideal inferInstance by intros; rfl

set_option maxHeartbeats 0 in
prog_eq Cert.Sb.body_bits : Cert.SbKernelIdeal.cc0_sb_bwd Cert.Sb.body from Cert.SbKernelIdeal to Cert.Sb at Bits inferInstance by intros; rfl

variable {F : FTy → Type} [FloatOps F] [Named F] [Facts]

theorem while1_eq (i : grid0.Coords) (v : Memref sig .tc .vmem S8192x128 .bf16) (hv : v.IsWhole) (k : Memref sig .tc .vmem S8192x128 .bf16) (hk : k.IsWhole)
    (q : FVec F S256x128 .bf16) (tri : FVec F S256x256 .bf16) (d : FVec F S256x128 .bf16) (eb : Memref sig .tc .vmem S32x256x256 .f32) (heb : eb.IsWhole)
    (bb : Memref sig .tc .vmem S32x256x256 .f32) (hbb : bb.IsWhole) (dv : Memref sig .tc .vmem S8192x128 .f32) (hdv : dv.IsWhole)
    (kb al : BitVec 32) (run : FVec F S256x1 .f32) :
    cc0_while1 i v hv k hk q tri d eb heb bb hbb dv hdv kb al run
      = leftStep (k0_chk1 kb) q d tri kb al run (k0_off3 kb) (k0_off3_inb kb) (k0_off4 kb) (k0_off4_inb kb) k v eb bb dv
          fun kb' al' run' => Prog.lift (.call (1 : (Λ₀ F).Label) ⟨i, v, hv, k, hk, q, tri, d, eb, heb, bb, hbb, dv, hdv, kb', al', run'⟩) := by
  rfl

theorem while2_eq (i : grid0.Coords) (r0 : BitVec 32) (c0 : k0_chk2 i r0) (v : Memref sig .tc .vmem S8192x128 .bf16) (hv : v.IsWhole) (k : Memref sig .tc .vmem S8192x128 .bf16) (hk : k.IsWhole)
    (q : FVec F S256x128 .bf16) (tri : FVec F S256x256 .bf16) (d : FVec F S256x128 .bf16) (eb : Memref sig .tc .vmem S32x256x256 .f32) (heb : eb.IsWhole)
    (bb : Memref sig .tc .vmem S32x256x256 .f32) (hbb : bb.IsWhole) (dv : Memref sig .tc .vmem S8192x128 .f32) (hdv : dv.IsWhole)
    (kb al : BitVec 32) (run : FVec F S256x1 .f32) :
    cc0_while2 i r0 c0 v hv k hk q tri d eb heb bb hbb dv hdv kb al run
      = leftStep (k0_chk3 kb) q d tri kb al run (k0_off9 kb) (k0_off9_inb kb) (k0_off10 kb) (k0_off10_inb kb) k v eb bb dv
          fun kb' al' run' => Prog.lift (.call (2 : (Λ₀ F).Label) ⟨i, r0, c0, v, hv, k, hk, q, tri, d, eb, heb, bb, hbb, dv, hdv, kb', al', run'⟩) := by
  rfl

theorem while3_eq (i : grid0.Coords) (r0 : BitVec 32) (c0 : k0_chk2 i r0) (r1 : BitVec 32) (c1 : k0_chk4 i r1) (v : Memref sig .tc .vmem S8192x128 .bf16) (hv : v.IsWhole) (k : Memref sig .tc .vmem S8192x128 .bf16) (hk : k.IsWhole)
    (q : FVec F S256x128 .bf16) (tri : FVec F S256x256 .bf16) (d : FVec F S256x128 .bf16) (eb : Memref sig .tc .vmem S32x256x256 .f32) (heb : eb.IsWhole)
    (bb : Memref sig .tc .vmem S32x256x256 .f32) (hbb : bb.IsWhole) (dv : Memref sig .tc .vmem S8192x128 .f32) (hdv : dv.IsWhole)
    (kb al : BitVec 32) (run : FVec F S256x1 .f32) :
    cc0_while3 i r0 c0 r1 c1 v hv k hk q tri d eb heb bb hbb dv hdv kb al run
      = leftStep (k0_chk5 kb) q d tri kb al run (k0_off15 kb) (k0_off15_inb kb) (k0_off16 kb) (k0_off16_inb kb) k v eb bb dv
          fun kb' al' run' => Prog.lift (.call (3 : (Λ₀ F).Label) ⟨i, r0, c0, r1, c1, v, hv, k, hk, q, tri, d, eb, heb, bb, hbb, dv, hdv, kb', al', run'⟩) := by
  rfl

theorem while4_eq (i : grid0.Coords) (r0 : BitVec 32) (c0 : k0_chk2 i r0) (r1 : BitVec 32) (c1 : k0_chk4 i r1) (r2 : BitVec 32) (c2 : k0_chk6 i r2) (v : Memref sig .tc .vmem S8192x128 .bf16) (hv : v.IsWhole) (k : Memref sig .tc .vmem S8192x128 .bf16) (hk : k.IsWhole)
    (q : FVec F S256x128 .bf16) (tri : FVec F S256x256 .bf16) (d : FVec F S256x128 .bf16) (eb : Memref sig .tc .vmem S32x256x256 .f32) (heb : eb.IsWhole)
    (bb : Memref sig .tc .vmem S32x256x256 .f32) (hbb : bb.IsWhole) (dv : Memref sig .tc .vmem S8192x128 .f32) (hdv : dv.IsWhole)
    (kb al : BitVec 32) (run : FVec F S256x1 .f32) :
    cc0_while4 i r0 c0 r1 c1 r2 c2 v hv k hk q tri d eb heb bb hbb dv hdv kb al run
      = leftStep (k0_chk7 kb) q d tri kb al run (k0_off21 kb) (k0_off21_inb kb) (k0_off22 kb) (k0_off22_inb kb) k v eb bb dv
          fun kb' al' run' => Prog.lift (.call (4 : (Λ₀ F).Label) ⟨i, r0, c0, r1, c1, r2, c2, v, hv, k, hk, q, tri, d, eb, heb, bb, hbb, dv, hdv, kb', al', run'⟩) := by
  rfl

theorem while5_eq (i : grid0.Coords) (r0 : BitVec 32) (c0 : k0_chk2 i r0) (r1 : BitVec 32) (c1 : k0_chk4 i r1) (r2 : BitVec 32) (c2 : k0_chk6 i r2) (r3 : BitVec 32) (c3 : k0_chk8 i r3) (v : Memref sig .tc .vmem S8192x128 .bf16) (hv : v.IsWhole) (k : Memref sig .tc .vmem S8192x128 .bf16) (hk : k.IsWhole)
    (q : FVec F S256x128 .bf16) (tri : FVec F S256x256 .bf16) (d : FVec F S256x128 .bf16) (eb : Memref sig .tc .vmem S32x256x256 .f32) (heb : eb.IsWhole)
    (bb : Memref sig .tc .vmem S32x256x256 .f32) (hbb : bb.IsWhole) (dv : Memref sig .tc .vmem S8192x128 .f32) (hdv : dv.IsWhole)
    (kb al : BitVec 32) (run : FVec F S256x1 .f32) :
    cc0_while5 i r0 c0 r1 c1 r2 c2 r3 c3 v hv k hk q tri d eb heb bb hbb dv hdv kb al run
      = leftStep (k0_chk9 kb) q d tri kb al run (k0_off27 kb) (k0_off27_inb kb) (k0_off28 kb) (k0_off28_inb kb) k v eb bb dv
          fun kb' al' run' => Prog.lift (.call (5 : (Λ₀ F).Label) ⟨i, r0, c0, r1, c1, r2, c2, r3, c3, v, hv, k, hk, q, tri, d, eb, heb, bb, hbb, dv, hdv, kb', al', run'⟩) := by
  rfl

theorem while6_eq (i : grid0.Coords) (r0 : BitVec 32) (c0 : k0_chk2 i r0) (r1 : BitVec 32) (c1 : k0_chk4 i r1) (r2 : BitVec 32) (c2 : k0_chk6 i r2) (r3 : BitVec 32) (c3 : k0_chk8 i r3) (r4 : BitVec 32) (c4 : k0_chk10 i r4) (v : Memref sig .tc .vmem S8192x128 .bf16) (hv : v.IsWhole) (k : Memref sig .tc .vmem S8192x128 .bf16) (hk : k.IsWhole)
    (q : FVec F S256x128 .bf16) (tri : FVec F S256x256 .bf16) (d : FVec F S256x128 .bf16) (eb : Memref sig .tc .vmem S32x256x256 .f32) (heb : eb.IsWhole)
    (bb : Memref sig .tc .vmem S32x256x256 .f32) (hbb : bb.IsWhole) (dv : Memref sig .tc .vmem S8192x128 .f32) (hdv : dv.IsWhole)
    (kb al : BitVec 32) (run : FVec F S256x1 .f32) :
    cc0_while6 i r0 c0 r1 c1 r2 c2 r3 c3 r4 c4 v hv k hk q tri d eb heb bb hbb dv hdv kb al run
      = leftStep (k0_chk11 kb) q d tri kb al run (k0_off33 kb) (k0_off33_inb kb) (k0_off34 kb) (k0_off34_inb kb) k v eb bb dv
          fun kb' al' run' => Prog.lift (.call (6 : (Λ₀ F).Label) ⟨i, r0, c0, r1, c1, r2, c2, r3, c3, r4, c4, v, hv, k, hk, q, tri, d, eb, heb, bb, hbb, dv, hdv, kb', al', run'⟩) := by
  rfl

theorem while7_eq (i : grid0.Coords) (r0 : BitVec 32) (c0 : k0_chk2 i r0) (r1 : BitVec 32) (c1 : k0_chk4 i r1) (r2 : BitVec 32) (c2 : k0_chk6 i r2) (r3 : BitVec 32) (c3 : k0_chk8 i r3) (r4 : BitVec 32) (c4 : k0_chk10 i r4) (r5 : BitVec 32) (c5 : k0_chk12 i r5) (v : Memref sig .tc .vmem S8192x128 .bf16) (hv : v.IsWhole) (k : Memref sig .tc .vmem S8192x128 .bf16) (hk : k.IsWhole)
    (q : FVec F S256x128 .bf16) (tri : FVec F S256x256 .bf16) (d : FVec F S256x128 .bf16) (eb : Memref sig .tc .vmem S32x256x256 .f32) (heb : eb.IsWhole)
    (bb : Memref sig .tc .vmem S32x256x256 .f32) (hbb : bb.IsWhole) (dv : Memref sig .tc .vmem S8192x128 .f32) (hdv : dv.IsWhole)
    (kb al : BitVec 32) (run : FVec F S256x1 .f32) :
    cc0_while7 i r0 c0 r1 c1 r2 c2 r3 c3 r4 c4 r5 c5 v hv k hk q tri d eb heb bb hbb dv hdv kb al run
      = leftStep (k0_chk13 kb) q d tri kb al run (k0_off39 kb) (k0_off39_inb kb) (k0_off40 kb) (k0_off40_inb kb) k v eb bb dv
          fun kb' al' run' => Prog.lift (.call (7 : (Λ₀ F).Label) ⟨i, r0, c0, r1, c1, r2, c2, r3, c3, r4, c4, r5, c5, v, hv, k, hk, q, tri, d, eb, heb, bb, hbb, dv, hdv, kb', al', run'⟩) := by
  rfl

theorem while8_eq (i : grid0.Coords) (r0 : BitVec 32) (c0 : k0_chk2 i r0) (r1 : BitVec 32) (c1 : k0_chk4 i r1) (r2 : BitVec 32) (c2 : k0_chk6 i r2) (r3 : BitVec 32) (c3 : k0_chk8 i r3) (r4 : BitVec 32) (c4 : k0_chk10 i r4) (r5 : BitVec 32) (c5 : k0_chk12 i r5) (r6 : BitVec 32) (c6 : k0_chk14 i r6) (v : Memref sig .tc .vmem S8192x128 .bf16) (hv : v.IsWhole) (k : Memref sig .tc .vmem S8192x128 .bf16) (hk : k.IsWhole)
    (q : FVec F S256x128 .bf16) (tri : FVec F S256x256 .bf16) (d : FVec F S256x128 .bf16) (eb : Memref sig .tc .vmem S32x256x256 .f32) (heb : eb.IsWhole)
    (bb : Memref sig .tc .vmem S32x256x256 .f32) (hbb : bb.IsWhole) (dv : Memref sig .tc .vmem S8192x128 .f32) (hdv : dv.IsWhole)
    (kb al : BitVec 32) (run : FVec F S256x1 .f32) :
    cc0_while8 i r0 c0 r1 c1 r2 c2 r3 c3 r4 c4 r5 c5 r6 c6 v hv k hk q tri d eb heb bb hbb dv hdv kb al run
      = leftStep (k0_chk15 kb) q d tri kb al run (k0_off45 kb) (k0_off45_inb kb) (k0_off46 kb) (k0_off46_inb kb) k v eb bb dv
          fun kb' al' run' => Prog.lift (.call (8 : (Λ₀ F).Label) ⟨i, r0, c0, r1, c1, r2, c2, r3, c3, r4, c4, r5, c5, r6, c6, v, hv, k, hk, q, tri, d, eb, heb, bb, hbb, dv, hdv, kb', al', run'⟩) := by
  rfl

end Cert.Sb
-- ==== Proof.SbChain.lean ====
/-
  The kernel's body, put together: from steps that keep given statements about the buffers, the whole body of a grid point does.
-/
module

public import proofs.«01_k».proof.Proof.SbRuns
public import proofs.«01_k».proof.Proof.SbCounts
public import proofs.«01_k».proof.Proof.SbEqual

@[expose] public section

set_option maxRecDepth 16384

noncomputable section

namespace Cert.Sb

open Idealize.ShloMosaic Idealize.SL Idealize.SL.Sem Idealize.SL.RA Cert.Owned
open Cert.SbKernelIdeal Cert.SbKernelIdeal.Facts₀ Cert.SbKernelIdeal.Facts

variable {F : FTy → Type} [FloatOps F] [Named F] [Facts]
variable (defs : Defs nD τ sig (Elt F) (Λ₀ F)) (c : Dev nD) (M : Mems)
variable (Ix : Type) [DecidableEq Ix] (U : Type) [URA U] (Lvl : Type) [Preorder Lvl]

/-- A call of a loop's label does what the label's program `p` does. -/
theorem called {ℓ : (Λ₀ F).Label} {a : (Λ₀ F).Args ℓ} {p : P (F := F) ((Λ₀ F).Result ℓ)} {bd : Option ℕ} (v : ℕ) (hbd : ∀ u ∈ bd, v < u)
    (e : defs .tc ℓ a = p) {Q : (Λ₀ F).Result ℓ → St F → Prop} {σ : St F} (h : Does defs c M Ix U Lvl (some v) p Q σ) :
    Does defs c M Ix U Lvl bd (Prog.lift (.call ℓ a)) Q σ := by
  subst e
  exact Runs.call v hbd (h.mono fun _ _ hQ => Runs.ret hQ)

/-- The loop to the left of query block `n`, `call` with its arguments: if each of its steps keeps the statement `W`, it ends after some
    number of steps, at most `n - 1` and fewer only if no running sum is above the threshold, with `W` true. -/
theorem leftLoop_does (n : ℕ) (hn : n < 32) (q d : FVec F S256x128 .bf16) (tri : FVec F S256x256 .bf16)
    (dec : ∀ kb, Decidable (stepOK kb)) (call : BitVec 32 → BitVec 32 → FVec F S256x1 .f32 → P (F := F) (BitVec 32 × BitVec 32 × FVec F S256x1 .f32))
    (hcall : ∀ (bd : Option ℕ) (v : ℕ) (_ : ∀ u ∈ bd, v < u) (kb al : BitVec 32) (run : FVec F S256x1 .f32)
      (Q : BitVec 32 × BitVec 32 × FVec F S256x1 .f32 → St F → Prop) (σ : St F),
      Does defs c M Ix U Lvl (some v) (@leftStep F _ _ _ (stepOK kb) (dec kb) q d tri kb al run (at2 kb) (fun h => h.2.1) (at3 kb) (fun h => h.2.2)
        (M .k) (M .v) (M .eb) (M .bb) (M .dv) call) Q σ → Does defs c M Ix U Lvl bd (call kb al run) Q σ)
    (W : ℕ → FVec F S256x1 .f32 → St F → Prop)
    (hstep : ∀ (x : ℕ), x < n - 1 → ∀ (o3 : Fin 2 → ℕ) (h3 : ∀ a, o3 a + S256x128.size a ≤ S8192x128.size a)
      (o4 : Fin 3 → ℕ) (h4 : ∀ a, o4 a + S1x256x256.size a ≤ S32x256x256.size a), o3 = ![256 * (n - 2 - x), 0] → o4 = ![n - 2 - x, 0, 0] →
      ∀ (run : FVec F S256x1 .f32) (σ : St F), W x run σ → W (x + 1) (runAfter (leftSums q tri o3 h3 (σ .k)) run) (afterLeft q d tri run o3 h3 o4 h4 σ)) :
    ∀ (m x : ℕ) (bd : Option ℕ) (run : FVec F S256x1 .f32) (σ : St F), x + m = n - 1 → (∀ u ∈ bd, m < u) → W x run σ →
      Does defs c M Ix U Lvl bd (call (leftPos n x) (alive run) run)
        (fun r σ' => ∃ y ≤ n - 1, ∃ run', r.1 = leftPos n y ∧ W y run' σ' ∧ (y = n - 1 ∨ ¬ go run')) σ := by
  intro m
  induction m with
  | zero =>
    intro x bd run σ hx hbd hW
    obtain rfl : x = n - 1 := by omega
    refine hcall bd 0 hbd _ _ _ _ _ ?_
    refine leftStep_false defs c M Ix U Lvl _ _ _ _ _ _ _ _ _ _ _ _ _ _ ?_ ⟨n - 1, le_rfl, run, rfl, hW, .inl rfl⟩
    rw [show Scalar.cmpi .sge (leftPos n (n - 1)) 0#32 = 0#1 from stop_facts ⟨n, hn⟩]
    generalize Scalar.cmpi .sgt (alive run) 0#32 = a
    revert a; decide
  | succ m ih =>
    intro x bd run σ hx hbd hW
    refine hcall bd (m + 1) hbd _ _ _ _ _ ?_
    obtain ⟨h1, h2, h3, h4⟩ := step_facts ⟨n, hn⟩ ⟨x, by omega⟩ (by show x < n - 1; omega)
    by_cases hg : go run
    · refine leftStep_true defs c M Ix U Lvl _ _ h1 _ _ _ _ _ _ _ _ _ _ _ _ ?_ ?_
      · rw [show Scalar.cmpi .sge (leftPos n x) 0#32 = 1#1 from h4, show Scalar.cmpi .sgt (alive run) 0#32 = 1#1 from hg]; decide
      · rw [leftPos_succ]
        exact ih (x + 1) (some (m + 1)) _ _ (by omega) (by intro u hu; cases hu; omega) (hstep x (by omega) _ _ _ _ h2 h3 run σ hW)
    · refine leftStep_false defs c M Ix U Lvl _ _ _ _ _ _ _ _ _ _ _ _ _ _ ?_ ⟨x, by omega, run, rfl, hW, .inr hg⟩
      rw [show Scalar.cmpi .sge (leftPos n x) 0#32 = 1#1 from h4]
      unfold go at hg
      revert hg
      generalize Scalar.cmpi .sgt (alive run) 0#32 = a
      revert a; decide

/-- The loop to the left and the second sweep: if each step of the second sweep over the blocks that the loop went through keeps the
    statement `J`, that holds at the end. -/
theorem leftAndBack_does (bd : Option ℕ) (n : ℕ) (hn : n < 32) (b : BitVec 32) (hb : b = BitVec.ofNat 32 n)
    (w : P (F := F) (BitVec 32 × BitVec 32 × FVec F S256x1 .f32)) (dec : ∀ r, Decidable (loopOK b r))
    (q : FVec F S256x128 .bf16) (trix : FVec F S256x256 .bf16) (hk1 hk2 hk3 hk4 hk5 hk6)
    {W : ℕ → St F → Prop} (J : ℕ → ℕ → FVec F S256x1 .f32 → FVec F S256x128 .f32 → St F → Prop) (σ : St F)
    (hw : Does defs c M Ix U Lvl bd w (fun r σ' => ∃ y ≤ n - 1, r.1 = leftPos n y ∧ W y σ') σ)
    (h0 : ∀ y ≤ n - 1, ∀ σ, W y σ → J y 0 (broadcast S256x1 (Scalar.ofBits .f32 0x00000000#32)) (broadcast S256x128 (Scalar.ofBits .f32 0x00000000#32)) σ)
    (hstep : ∀ y ≤ n - 1, ∀ t < y, ∀ (o5 : Fin 3 → ℕ) (h5 : ∀ a, o5 a + S1x256x256.size a ≤ S32x256x256.size a)
      (o6 : Fin 2 → ℕ) (h6 : ∀ a, o6 a + S256x128.size a ≤ S8192x128.size a), o5 = ![n - 1 - y + t, 0, 0] → o6 = ![256 * (n - 1 - y + t), 0] →
      ∀ (pre : FVec F S256x1 .f32) (dq : FVec F S256x128 .f32) (σ : St F), J y t pre dq σ →
        let ds := dsOf trix (fun x => x) pre (left (F := F) (σ .eb) o5 h5) (left (F := F) (σ .bb) o5 h5)
        J y (t + 1) (preAfter trix pre (left (F := F) (σ .eb) o5 h5)) (addf dq (dqPart ds (rows8 (F := F) (σ .k) o6 h6))) (afterBack q ds o6 h6 σ)) :
    Does defs c M Ix U Lvl bd (leftAndBack w (loopOK b) dec (loopA b) (loopB b) hk1 hk2 (fun r t => at3 (posA b r t)) hk3 (fun r t => at2 (posA b r t)) hk4
        (fun r t => at3 (posB b r t)) hk5 (fun r t => at2 (posB b r t)) hk6 q trix (M .k) (M .eb) (M .bb) (M .dk))
      (fun r σ' => ∃ y ≤ n - 1, J y y r.2.2.1 r.2.2.2 σ') σ := by
  subst hb
  refine Runs.bind (hw.mono ?_)
  rintro ⟨r, al, run⟩ σ1 ⟨y, hy, hr, hW⟩
  obtain rfl : r = leftPos n y := hr
  obtain ⟨hok, hA, hB⟩ := loop_facts ⟨n, hn⟩ ⟨y, by omega⟩ hy
  have hpos := pos_facts ⟨n, hn⟩ ⟨y, by omega⟩ hy
  dsimp only at hok hA hB hpos ⊢
  refine Runs.bind (Runs.assume hok (Runs.ret ?_))
  refine Runs.bind ((Runs.loop (R := bufs M) (loopA (BitVec.ofNat 32 n) (leftPos n y)) _ _ _ (fun t acc σ' => J y t acc.1 acc.2 σ') ?_ (h0 y hy σ1 hW)).mono ?_)
  · rintro t ⟨pre, dq⟩ σ2 hJ
    refine (backStep_does defs c M Ix U Lvl _ _ _ _ _ _ _ _ _ σ2).mono ?_
    rintro ⟨pre', dq'⟩ σ3 ⟨he, rfl⟩
    obtain ⟨rfl, rfl⟩ := Prod.mk.inj he
    exact hstep y hy t.val (lt_of_lt_of_eq t.isLt hA) _ _ _ _ (hpos t).1 (hpos t).2 pre dq σ2 hJ
  rintro ⟨pre, dq⟩ σ2 hJ
  refine Runs.bind ((Runs.loop (R := bufs M) (loopB (BitVec.ofNat 32 n) (leftPos n y)) _ _ _ (fun _ acc σ' => J y y acc.1 acc.2 σ') ?_ ?_).mono ?_)
  · intro t
    exact absurd (lt_of_lt_of_eq t.isLt hB) (Nat.not_lt_zero _)
  · rw [hA] at hJ; exact hJ
  rintro ⟨pre', dq'⟩ σ3 hJ'
  exact Runs.ret ⟨y, hy, hJ'⟩

/-- Statements about the buffers at each place of the body of grid point `i`, and that the steps keep them. `A u` holds before the first
    sweep of the `u`-th query block over its own block and the one to its left, `Pair u` says what that returned; `Bl u` holds before its
    loop to the left, `W u` in that loop and `J u` in the counted loop after it, and `Kept u` says what the latter returned; `C u` holds
    before the second sweep over the two kept blocks. -/
structure Spec (i : grid0.Coords) where
  Start : St F → Prop
  A : ℕ → St F → Prop
  Pair : ℕ → FVec F S256x128 .bf16 → FVec F S256x128 .bf16 → FVec F S256x1 .f32 → Prop
  Bl : ℕ → St F → Prop
  W : ℕ → ℕ → FVec F S256x1 .f32 → St F → Prop
  J : ℕ → ℕ → ℕ → FVec F S256x1 .f32 → FVec F S256x128 .f32 → St F → Prop
  Kept : ℕ → FVec F S256x1 .f32 → FVec F S256x128 .f32 → Prop
  C : ℕ → St F → Prop
  End : St F → Prop
  reset0 : (i 1).val = 0 → ∀ σ, Start σ → A 0 (afterReset σ)
  reset1 : (i 1).val ≠ 0 → ∀ σ, Start σ → A 0 σ
  pair : ∀ u < 8, ∀ (oq : Fin 2 → ℕ) (hq : ∀ a, oq a + S256x128.size a ≤ S2048x128.size a)
    (o1 : Fin 2 → ℕ) (h1 : ∀ a, o1 a + S256x128.size a ≤ S8192x128.size a) (o2 : Fin 2 → ℕ) (h2 : ∀ a, o2 a + S256x128.size a ≤ S8192x128.size a)
    (od : Fin 4 → ℕ) (hd : ∀ a, od a + S1x1x256x256.size a ≤ S8x2x256x256.size a)
    (ol : Fin 4 → ℕ) (hl : ∀ a, ol a + S1x1x256x256.size a ≤ S8x2x256x256.size a) (b : BitVec 1), oq = ![256 * u, 0] →
    o1 = ![256 * (8 * (i 1).val + u), 0] → o2 = ![256 * (8 * (i 1).val + u - 1), 0] → od = ![u, 0, 0, 0] → ol = ![u, 1, 0, 0] →
    (b = if 8 * (i 1).val + u = 0 then 0#1 else 1#1) → ∀ σ, A u σ →
      let qb := rows2 (F := F) (σ .q) oq hq
      let db := rows2 (F := F) (σ .d) oq hq
      let tri := ones (F := F) (cmpi .sge rowNo colNo)
      let mz := masked (F := F) (cmpi .slt colNo rowNo)
      let run0 := broadcast S256x1 (Scalar.ofBits (F := F) .f32 0x00000000#32)
      let σ1 := afterKept qb db tri run0 mz mz o1 h1 od hd σ
      let run1 := runAfter (keptSums qb tri mz o1 h1 (σ .k)) run0
      Pair u qb db (Scalar.select b (runAfter (keptSums qb tri (fun x => x) o2 h2 (σ .k)) run1) run1)
        ∧ A (u + 1) (afterKept qb db tri run1 (fun x => x) (gated (F := F) b) o2 h2 ol hl σ1)
  mid : ∀ σ, A 8 σ → Bl 0 σ
  left0 : ∀ u < 8, ∀ q d run σ, Pair u q d run → Bl u σ → W u 0 run σ
  leftS : ∀ u < 8, ∀ q d run0, Pair u q d run0 → ∀ (x : ℕ), x < 8 * (i 1).val + u - 1 →
    ∀ (o3 : Fin 2 → ℕ) (h3 : ∀ a, o3 a + S256x128.size a ≤ S8192x128.size a)
      (o4 : Fin 3 → ℕ) (h4 : ∀ a, o4 a + S1x256x256.size a ≤ S32x256x256.size a),
      o3 = ![256 * (8 * (i 1).val + u - 2 - x), 0] → o4 = ![8 * (i 1).val + u - 2 - x, 0, 0] →
      ∀ (run : FVec F S256x1 .f32) (σ : St F), W u x run σ →
        let tri := ones (F := F) (cmpi .sge rowNo colNo)
        W u (x + 1) (runAfter (leftSums q tri o3 h3 (σ .k)) run) (afterLeft q d tri run o3 h3 o4 h4 σ)
  right0 : ∀ u < 8, ∀ y ≤ 8 * (i 1).val + u - 1, ∀ run σ, W u y run σ → (y = 8 * (i 1).val + u - 1 ∨ ¬ go run) →
    J u y 0 (broadcast S256x1 (Scalar.ofBits .f32 0x00000000#32)) (broadcast S256x128 (Scalar.ofBits .f32 0x00000000#32)) σ
  rightS : ∀ u < 8, ∀ q d run0, Pair u q d run0 → ∀ y ≤ 8 * (i 1).val + u - 1, ∀ t < y,
    ∀ (o5 : Fin 3 → ℕ) (h5 : ∀ a, o5 a + S1x256x256.size a ≤ S32x256x256.size a)
      (o6 : Fin 2 → ℕ) (h6 : ∀ a, o6 a + S256x128.size a ≤ S8192x128.size a),
      o5 = ![8 * (i 1).val + u - 1 - y + t, 0, 0] → o6 = ![256 * (8 * (i 1).val + u - 1 - y + t), 0] →
      ∀ (pre : FVec F S256x1 .f32) (dq : FVec F S256x128 .f32) (σ : St F), J u y t pre dq σ →
        let trix := ones (F := F) (cmpi .slt rowNo colNo)
        let ds := dsOf trix (fun x => x) pre (left (F := F) (σ .eb) o5 h5) (left (F := F) (σ .bb) o5 h5)
        J u y (t + 1) (preAfter trix pre (left (F := F) (σ .eb) o5 h5)) (addf dq (dqPart ds (rows8 (F := F) (σ .k) o6 h6))) (afterBack q ds o6 h6 σ)
  rightE : ∀ u < 8, ∀ y ≤ 8 * (i 1).val + u - 1, ∀ pre dq σ, J u y y pre dq σ → Kept u pre dq ∧ Bl (u + 1) σ
  mid2 : ∀ σ, Bl 8 σ → C 0 σ
  back : ∀ u < 8, ∀ q d run pre dq, Pair u q d run → Kept u pre dq →
    ∀ (oq : Fin 2 → ℕ) (hq : ∀ a, oq a + S256x128.size a ≤ S2048x128.size a)
    (o1 : Fin 2 → ℕ) (h1 : ∀ a, o1 a + S256x128.size a ≤ S8192x128.size a) (o2 : Fin 2 → ℕ) (h2 : ∀ a, o2 a + S256x128.size a ≤ S8192x128.size a)
    (od : Fin 4 → ℕ) (hd : ∀ a, od a + S1x1x256x256.size a ≤ S8x2x256x256.size a)
    (ol : Fin 4 → ℕ) (hl : ∀ a, ol a + S1x1x256x256.size a ≤ S8x2x256x256.size a) (b : BitVec 1), oq = ![256 * u, 0] →
    o1 = ![256 * (8 * (i 1).val + u), 0] → o2 = ![256 * (8 * (i 1).val + u - 1), 0] → od = ![u, 0, 0, 0] → ol = ![u, 1, 0, 0] →
    (b = if 8 * (i 1).val + u = 0 then 0#1 else 1#1) → ∀ σ, C u σ →
      let trix := ones (F := F) (cmpi .slt rowNo colNo)
      let ds1 := dsOf trix (gated (F := F) b) pre (kept (F := F) (σ .pe) ol hl) (kept (F := F) (σ .pb) ol hl)
      let σ1 := afterBack q ds1 o2 h2 σ
      let pre1 := preAfter trix pre (kept (F := F) (σ .pe) ol hl)
      let ds2 := dsOf trix (masked (F := F) (cmpi .slt colNo rowNo)) pre1 (kept (F := F) (σ .pe) od hd) (kept (F := F) (σ .pb) od hd)
      let σ2 := afterBack q ds2 o1 h1 σ1
      C (u + 1) (Function.update σ2 .dq (put (σ .dq) (Rect.unit (s := S2048x128) oq S256x128.size hq)
        (truncf .bf16 (addf (addf dq (dqPart ds1 (rows8 (F := F) (σ .k) o2 h2)))
          (dqPart ds2 (rows8 (F := F) (σ .k) o1 h1))) bitsLt_bf16_f32)))
  finish1 : (i 1).val = 3 → ∀ σ, C 8 σ → End (afterFinish σ)
  finish0 : (i 1).val ≠ 3 → ∀ σ, C 8 σ → End σ

section Chain

variable {i : grid0.Coords} (S : Spec (F := F) i)

theorem lt4 (i : grid0.Coords) : (i 1).val < 4 := (i 1).isLt

theorem pair_step (u : ℕ) (hu : u < 8) {oq : Fin 2 → ℕ} {od ol : Fin 4 → ℕ} {hq h1 h2 hd hl}
    (eq : oq = ![256 * u, 0]) (ed : od = ![u, 0, 0, 0]) (el : ol = ![u, 1, 0, 0]) {σ : St F} (h : S.A u σ) :
    Does defs c M Ix U Lvl none (sweepPair i (BitVec.ofNat 32 u) oq od ol hq h1 h2 hd hl (M .q) (M .k) (M .v) (M .d) (M .pe) (M .pb) (M .dv))
      (fun r σ' => S.Pair u r.1 r.2.1 r.2.2 ∧ S.A (u + 1) σ') σ := by
  obtain ⟨e1, -, e2, -, eb⟩ := pair_facts i ⟨u, hu⟩
  exact sweepPair_does defs c M Ix U Lvl none i _ _ _ _ _ _ _ _ _ σ (S.pair u hu _ _ _ _ _ _ _ _ _ _ _ eq e1 e2 ed el eb σ h)

theorem left_step (u : ℕ) (hu : u < 8) {q d : FVec F S256x128 .bf16} {run0 : FVec F S256x1 .f32} (hP : S.Pair u q d run0)
    (dec : ∀ kb, Decidable (stepOK kb))
    (call : BitVec 32 → BitVec 32 → FVec F S256x1 .f32 → P (F := F) (BitVec 32 × BitVec 32 × FVec F S256x1 .f32))
    (hcall : ∀ (bd : Option ℕ) (v : ℕ) (_ : ∀ u ∈ bd, v < u) (kb al : BitVec 32) (run : FVec F S256x1 .f32)
      (Q : BitVec 32 × BitVec 32 × FVec F S256x1 .f32 → St F → Prop) (σ : St F),
      Does defs c M Ix U Lvl (some v) (@leftStep F _ _ _ (stepOK kb) (dec kb) q d (ones (F := F) (cmpi .sge rowNo colNo)) kb al run (at2 kb) (fun h => h.2.1) (at3 kb) (fun h => h.2.2)
        (M .k) (M .v) (M .eb) (M .bb) (M .dv) call) Q σ → Does defs c M Ix U Lvl bd (call kb al run) Q σ)
    (dec' : ∀ r, Decidable (loopOK (blockNo i (BitVec.ofNat 32 u)) r)) {hk1 hk2 hk3 hk4 hk5 hk6} {σ : St F} (h : S.Bl u σ) :
    Does defs c M Ix U Lvl none (leftAndBack (call (Scalar.subi (blockNo i (BitVec.ofNat 32 u)) 2#32) (alive run0) run0)
        (loopOK (blockNo i (BitVec.ofNat 32 u))) dec' (loopA (blockNo i (BitVec.ofNat 32 u))) (loopB (blockNo i (BitVec.ofNat 32 u))) hk1 hk2
        (fun r t => at3 (posA (blockNo i (BitVec.ofNat 32 u)) r t)) hk3 (fun r t => at2 (posA (blockNo i (BitVec.ofNat 32 u)) r t)) hk4
        (fun r t => at3 (posB (blockNo i (BitVec.ofNat 32 u)) r t)) hk5 (fun r t => at2 (posB (blockNo i (BitVec.ofNat 32 u)) r t)) hk6
        q (ones (F := F) (cmpi .slt rowNo colNo)) (M .k) (M .eb) (M .bb) (M .dk))
      (fun r σ' => S.Kept u r.2.2.1 r.2.2.2 ∧ S.Bl (u + 1) σ') σ := by
  have h4 := lt4 i
  have hb : blockNo i (BitVec.ofNat 32 u) = BitVec.ofNat 32 (8 * (i 1).val + u) := blockNo_eq (i 1) ⟨u, hu⟩
  have hn : 8 * (i 1).val + u < 32 := by omega
  refine (leftAndBack_does defs c M Ix U Lvl none (8 * (i 1).val + u) hn _ hb _ _ _ _ _ _ _ _ _ _
    (W := fun y σ => ∃ run, S.W u y run σ ∧ (y = 8 * (i 1).val + u - 1 ∨ ¬ go run)) (S.J u) σ ?_ ?_ ?_).mono ?_
  · rw [hb, leftPos_zero]
    refine (leftLoop_does defs c M Ix U Lvl _ hn q d _ dec call hcall (S.W u) (S.leftS u hu q d run0 hP) _ 0 none run0 σ (Nat.zero_add _)
      (by intro v hv; cases hv) (S.left0 u hu q d run0 σ hP h)).mono ?_
    rintro r σ' ⟨y, hy, run', hr, hW, hg⟩
    exact ⟨y, hy, hr, run', hW, hg⟩
  · rintro y hy σ' ⟨run, hW, hg⟩
    exact S.right0 u hu y hy run σ' hW hg
  · exact S.rightS u hu q d run0 hP
  · rintro r σ' ⟨y, hy, hJ⟩
    exact S.rightE u hu y hy _ _ σ' hJ

theorem back_step (u : ℕ) (hu : u < 8) {q d : FVec F S256x128 .bf16} {run : FVec F S256x1 .f32} {pre : FVec F S256x1 .f32} {dq : FVec F S256x128 .f32}
    (hP : S.Pair u q d run) (hK : S.Kept u pre dq) {oq : Fin 2 → ℕ} {od ol : Fin 4 → ℕ} {hq hp h1 h2 hd hl hout}
    (eq : oq = ![256 * u, 0]) (ed : od = ![u, 0, 0, 0]) (el : ol = ![u, 1, 0, 0]) {σ : St F} (h : S.C u σ) :
    Does defs c M Ix U Lvl none (backPair i (BitVec.ofNat 32 u) oq od ol hq hp h1 h2 hd hl q pre dq (M .k) (M .pe) (M .pb) (M .dk) (M .dq) hout)
      (fun _ σ' => S.C (u + 1) σ') σ := by
  obtain ⟨-, e1, -, e2, eb⟩ := pair_facts i ⟨u, hu⟩
  exact backPair_does defs c M Ix U Lvl none i _ _ _ _ _ _ _ _ _ _ q pre dq _ σ (S.back u hu q d run pre dq hP hK _ _ _ _ _ _ _ _ _ _ _ eq e1 e2 ed el eb σ h)

end Chain

set_option maxHeartbeats 0 in
/-- The whole body of a grid point. -/
theorem body_does {i : grid0.Coords} (S : Spec (F := F) i) (hq hk hv hd hdq hdko hdvo heb hbb hpe hpb hdk hdv) {σ : St F} (h : S.Start σ) :
    Does defs₀ c M Ix U Lvl none (body i (M .q) hq (M .k) hk (M .v) hv (M .d) hd (M .dq) hdq (M .dko) hdko (M .dvo) hdvo (M .eb) heb (M .bb) hbb
      (M .pe) hpe (M .pb) hpb (M .dk) hdk (M .dv) hdv) (fun _ σ' => S.End σ') σ := by
  obtain ⟨hr, hf⟩ := And.intro (reset_facts i) (finish_facts i)
  refine Runs.bind ((show Does defs₀ c M Ix U Lvl none (reset i (M .dk) (M .dv)) (fun _ σ' => S.A 0 σ') σ from ?_).mono fun _ σ hA => ?_)
  · refine reset_does defs₀ c M Ix U Lvl none i σ (fun h' => S.reset0 ?_ σ h) fun h' => S.reset1 ?_ σ h
    · by_contra h0; rw [hr, if_neg h0] at h'; exact absurd h' (by decide)
    · exact fun h0 => h' (by rw [hr, if_pos h0])
  refine Runs.bind ((pair_step defs₀ c M Ix U Lvl S 0 (by decide) rfl rfl rfl hA).mono ?_)
  rintro ⟨q0, d0, run0⟩ σ ⟨hP0, hA⟩
  refine Runs.bind ((pair_step defs₀ c M Ix U Lvl S 1 (by decide) rfl rfl rfl hA).mono ?_)
  rintro ⟨q1, d1, run1⟩ σ ⟨hP1, hA⟩
  refine Runs.bind ((pair_step defs₀ c M Ix U Lvl S 2 (by decide) rfl rfl rfl hA).mono ?_)
  rintro ⟨q2, d2, run2⟩ σ ⟨hP2, hA⟩
  refine Runs.bind ((pair_step defs₀ c M Ix U Lvl S 3 (by decide) rfl rfl rfl hA).mono ?_)
  rintro ⟨q3, d3, run3⟩ σ ⟨hP3, hA⟩
  refine Runs.bind ((pair_step defs₀ c M Ix U Lvl S 4 (by decide) rfl rfl rfl hA).mono ?_)
  rintro ⟨q4, d4, run4⟩ σ ⟨hP4, hA⟩
  refine Runs.bind ((pair_step defs₀ c M Ix U Lvl S 5 (by decide) rfl rfl rfl hA).mono ?_)
  rintro ⟨q5, d5, run5⟩ σ ⟨hP5, hA⟩
  refine Runs.bind ((pair_step defs₀ c M Ix U Lvl S 6 (by decide) rfl rfl rfl hA).mono ?_)
  rintro ⟨q6, d6, run6⟩ σ ⟨hP6, hA⟩
  refine Runs.bind ((pair_step defs₀ c M Ix U Lvl S 7 (by decide) rfl rfl rfl hA).mono ?_)
  rintro ⟨q7, d7, run7⟩ σ ⟨hP7, hA⟩
  replace hA := S.mid _ hA
  refine Runs.bind ((left_step defs₀ c M Ix U Lvl S 0 (by decide) hP0 k0_chk1.dec
    (fun kb al run => Prog.lift (.call (1 : (Λ₀ F).Label) ⟨i, M .v, hv, M .k, hk, q0, ones (cmpi .sge rowNo colNo), d0, M .eb, heb, M .bb, hbb, M .dv, hdv, kb, al, run⟩))
    (fun bd v hbd kb al run Q σ h => called _ _ _ Ix U Lvl v hbd (while1_eq (F := F) i (M .v) hv (M .k) hk q0 (ones (cmpi .sge rowNo colNo)) d0 (M .eb) heb (M .bb) hbb (M .dv) hdv kb al run) h)
    (k0_chk2.dec i) hA).mono ?_)
  rintro ⟨r0, c0, pre0, g0⟩ σ ⟨hK0, hA⟩
  refine Runs.bind ((left_step defs₀ c M Ix U Lvl S 1 (by decide) hP1 k0_chk3.dec
    (fun kb al run => Prog.lift (.call (2 : (Λ₀ F).Label) ⟨i, r0, c0, M .v, hv, M .k, hk, q1, ones (cmpi .sge rowNo colNo), d1, M .eb, heb, M .bb, hbb, M .dv, hdv, kb, al, run⟩))
    (fun bd v hbd kb al run Q σ h => called _ _ _ Ix U Lvl v hbd (while2_eq (F := F) i r0 c0 (M .v) hv (M .k) hk q1 (ones (cmpi .sge rowNo colNo)) d1 (M .eb) heb (M .bb) hbb (M .dv) hdv kb al run) h)
    (k0_chk4.dec i) hA).mono ?_)
  rintro ⟨r1, c1, pre1, g1⟩ σ ⟨hK1, hA⟩
  refine Runs.bind ((left_step defs₀ c M Ix U Lvl S 2 (by decide) hP2 k0_chk5.dec
    (fun kb al run => Prog.lift (.call (3 : (Λ₀ F).Label) ⟨i, r0, c0, r1, c1, M .v, hv, M .k, hk, q2, ones (cmpi .sge rowNo colNo), d2, M .eb, heb, M .bb, hbb, M .dv, hdv, kb, al, run⟩))
    (fun bd v hbd kb al run Q σ h => called _ _ _ Ix U Lvl v hbd (while3_eq (F := F) i r0 c0 r1 c1 (M .v) hv (M .k) hk q2 (ones (cmpi .sge rowNo colNo)) d2 (M .eb) heb (M .bb) hbb (M .dv) hdv kb al run) h)
    (k0_chk6.dec i) hA).mono ?_)
  rintro ⟨r2, c2, pre2, g2⟩ σ ⟨hK2, hA⟩
  refine Runs.bind ((left_step defs₀ c M Ix U Lvl S 3 (by decide) hP3 k0_chk7.dec
    (fun kb al run => Prog.lift (.call (4 : (Λ₀ F).Label) ⟨i, r0, c0, r1, c1, r2, c2, M .v, hv, M .k, hk, q3, ones (cmpi .sge rowNo colNo), d3, M .eb, heb, M .bb, hbb, M .dv, hdv, kb, al, run⟩))
    (fun bd v hbd kb al run Q σ h => called _ _ _ Ix U Lvl v hbd (while4_eq (F := F) i r0 c0 r1 c1 r2 c2 (M .v) hv (M .k) hk q3 (ones (cmpi .sge rowNo colNo)) d3 (M .eb) heb (M .bb) hbb (M .dv) hdv kb al run) h)
    (k0_chk8.dec i) hA).mono ?_)
  rintro ⟨r3, c3, pre3, g3⟩ σ ⟨hK3, hA⟩
  refine Runs.bind ((left_step defs₀ c M Ix U Lvl S 4 (by decide) hP4 k0_chk9.dec
    (fun kb al run => Prog.lift (.call (5 : (Λ₀ F).Label) ⟨i, r0, c0, r1, c1, r2, c2, r3, c3, M .v, hv, M .k, hk, q4, ones (cmpi .sge rowNo colNo), d4, M .eb, heb, M .bb, hbb, M .dv, hdv, kb, al, run⟩))
    (fun bd v hbd kb al run Q σ h => called _ _ _ Ix U Lvl v hbd (while5_eq (F := F) i r0 c0 r1 c1 r2 c2 r3 c3 (M .v) hv (M .k) hk q4 (ones (cmpi .sge rowNo colNo)) d4 (M .eb) heb (M .bb) hbb (M .dv) hdv kb al run) h)
    (k0_chk10.dec i) hA).mono ?_)
  rintro ⟨r4, c4, pre4, g4⟩ σ ⟨hK4, hA⟩
  refine Runs.bind ((left_step defs₀ c M Ix U Lvl S 5 (by decide) hP5 k0_chk11.dec
    (fun kb al run => Prog.lift (.call (6 : (Λ₀ F).Label) ⟨i, r0, c0, r1, c1, r2, c2, r3, c3, r4, c4, M .v, hv, M .k, hk, q5, ones (cmpi .sge rowNo colNo), d5, M .eb, heb, M .bb, hbb, M .dv, hdv, kb, al, run⟩))
    (fun bd v hbd kb al run Q σ h => called _ _ _ Ix U Lvl v hbd (while6_eq (F := F) i r0 c0 r1 c1 r2 c2 r3 c3 r4 c4 (M .v) hv (M .k) hk q5 (ones (cmpi .sge rowNo colNo)) d5 (M .eb) heb (M .bb) hbb (M .dv) hdv kb al run) h)
    (k0_chk12.dec i) hA).mono ?_)
  rintro ⟨r5, c5, pre5, g5⟩ σ ⟨hK5, hA⟩
  refine Runs.bind ((left_step defs₀ c M Ix U Lvl S 6 (by decide) hP6 k0_chk13.dec
    (fun kb al run => Prog.lift (.call (7 : (Λ₀ F).Label) ⟨i, r0, c0, r1, c1, r2, c2, r3, c3, r4, c4, r5, c5, M .v, hv, M .k, hk, q6, ones (cmpi .sge rowNo colNo), d6, M .eb, heb, M .bb, hbb, M .dv, hdv, kb, al, run⟩))
    (fun bd v hbd kb al run Q σ h => called _ _ _ Ix U Lvl v hbd (while7_eq (F := F) i r0 c0 r1 c1 r2 c2 r3 c3 r4 c4 r5 c5 (M .v) hv (M .k) hk q6 (ones (cmpi .sge rowNo colNo)) d6 (M .eb) heb (M .bb) hbb (M .dv) hdv kb al run) h)
    (k0_chk14.dec i) hA).mono ?_)
  rintro ⟨r6, c6, pre6, g6⟩ σ ⟨hK6, hA⟩
  refine Runs.bind ((left_step defs₀ c M Ix U Lvl S 7 (by decide) hP7 k0_chk15.dec
    (fun kb al run => Prog.lift (.call (8 : (Λ₀ F).Label) ⟨i, r0, c0, r1, c1, r2, c2, r3, c3, r4, c4, r5, c5, r6, c6, M .v, hv, M .k, hk, q7, ones (cmpi .sge rowNo colNo), d7, M .eb, heb, M .bb, hbb, M .dv, hdv, kb, al, run⟩))
    (fun bd v hbd kb al run Q σ h => called _ _ _ Ix U Lvl v hbd (while8_eq (F := F) i r0 c0 r1 c1 r2 c2 r3 c3 r4 c4 r5 c5 r6 c6 (M .v) hv (M .k) hk q7 (ones (cmpi .sge rowNo colNo)) d7 (M .eb) heb (M .bb) hbb (M .dv) hdv kb al run) h)
    (k0_chk16.dec i) hA).mono ?_)
  rintro ⟨r7, c7, pre7, g7⟩ σ ⟨hK7, hA⟩
  replace hA := S.mid2 _ hA
  refine Runs.bind ((back_step defs₀ c M Ix U Lvl S 0 (by decide) hP0 hK0 rfl rfl rfl hA).mono ?_)
  rintro - σ hA
  refine Runs.bind ((back_step defs₀ c M Ix U Lvl S 1 (by decide) hP1 hK1 rfl rfl rfl hA).mono ?_)
  rintro - σ hA
  refine Runs.bind ((back_step defs₀ c M Ix U Lvl S 2 (by decide) hP2 hK2 rfl rfl rfl hA).mono ?_)
  rintro - σ hA
  refine Runs.bind ((back_step defs₀ c M Ix U Lvl S 3 (by decide) hP3 hK3 rfl rfl rfl hA).mono ?_)
  rintro - σ hA
  refine Runs.bind ((back_step defs₀ c M Ix U Lvl S 4 (by decide) hP4 hK4 rfl rfl rfl hA).mono ?_)
  rintro - σ hA
  refine Runs.bind ((back_step defs₀ c M Ix U Lvl S 5 (by decide) hP5 hK5 rfl rfl rfl hA).mono ?_)
  rintro - σ hA
  refine Runs.bind ((back_step defs₀ c M Ix U Lvl S 6 (by decide) hP6 hK6 rfl rfl rfl hA).mono ?_)
  rintro - σ hA
  refine Runs.bind ((back_step defs₀ c M Ix U Lvl S 7 (by decide) hP7 hK7 rfl rfl rfl hA).mono ?_)
  rintro - σ hA
  refine finish_does defs₀ c M Ix U Lvl none i hdko hdvo σ (fun h' => S.finish1 ?_ σ hA) fun h' => S.finish0 ?_ σ hA
  · by_contra h0; rw [hf, if_neg h0] at h'; exact absurd h' (by decide)
  · exact fun h0 => h' (by rw [hf, if_pos h0])

end Cert.Sb
-- ==== Proof.SbLaunch.lean ====
/-
  The launch: from what the body does at each grid point, what a run of the whole program does.
-/
module

public import proofs.«01_k».proof.Proof.SbChain
public import proofs.«01_k».proof.Proof.Gen.SbKernelIdeal
public import proofs.«01_k».proof.Proof.Gen.SbKernelIdeal.Launch
public import proofs.«01_k».proof.Proof.Gen.SbKernelIdeal.Points
public import Idealize.ShloMosaic.Lib.Pipeline.FrameBody
public import Idealize.ShloMosaic.Lib.Pipeline.ArrRel
public import Idealize.ShloMosaic.Lib.Ring
public import Idealize.ShloMosaic.Lib.Tactic

@[expose] public section

set_option maxRecDepth 16384

noncomputable section

namespace Cert.SbRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)
open Cert.SbKernelIdeal Cert.SbKernelIdeal.Gen Cert.Owned Cert.Sb

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the region finds: the arrays after the two casts on the host. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))

/-- Window `w`'s block at point `t`. -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- The buffers that the body works on at point `t`. -/
def mems (t : Fin (cfg0 (F := F)).N) : Mems
  | .q => win0_0.stage (cfg0.slots t 0)
  | .k => win0_1.stage (cfg0.slots t 1)
  | .v => win0_2.stage (cfg0.slots t 2)
  | .d => win0_3.stage (cfg0.slots t 3)
  | .dq => win0_4.stage (cfg0.slots t 4)
  | .dko => win0_5.stage (cfg0.slots t 5)
  | .dvo => win0_6.stage (cfg0.slots t 6)
  | .eb => Memref.whole cc0_scratch0
  | .bb => Memref.whole cc0_scratch1
  | .pe => Memref.whole cc0_scratch2
  | .pb => Memref.whole cc0_scratch3
  | .dk => Memref.whole cc0_scratch4
  | .dv => Memref.whole cc0_scratch5

/-- The contents `σ` have the four arguments' blocks at point `t` in place. -/
structure Blocks (c : Dev nD) (t : Fin (cfg0 (F := F)).N) (σ : St F) : Prop where
  q : σ .q = iblk m c 0 t
  k : σ .k = iblk m c 1 t
  v : σ .v = iblk m c 2 t
  d : σ .d = iblk m c 3 t

/-- What is known between grid points of the two running sums, and what each grid point leaves in the results' blocks; and that the body
    makes it so. -/
structure Plan (c : Dev nD) where
  inv : ℕ → (S8192x128.Idx → Elt F .f32) → (S8192x128.Idx → Elt F .f32) → Prop
  dq : Fin (cfg0 (F := F)).N → (S2048x128.Idx → Elt F .bf16) → Prop
  dk : Fin (cfg0 (F := F)).N → (S8192x128.Idx → Elt F .bf16) → Prop
  dv : Fin (cfg0 (F := F)).N → (S8192x128.Idx → Elt F .bf16) → Prop
  init : ∀ x y, inv 0 x y
  step : ∀ (t : Fin (cfg0 (F := F)).N) (σ : St F), Blocks m c t σ → inv t.val (σ .dk) (σ .dv) →
    Does (F := F) defs₀ c (mems t) Unit (UR sig nD τ) ℕ none (bodyAt0 t)
      (fun _ σ' => Blocks m c t σ' ∧ inv (t.val + 1) (σ' .dk) (σ' .dv) ∧ dq t (σ' .dq) ∧ dk t (σ' .dko) ∧ dv t (σ' .dvo)) σ

variable (p : (c : Dev nD) → Plan m c)

/-- What the program holds between grid points. -/
def Phi (c : Dev nD) (n : ℕ) : sProp 𝕄 :=
  iprop(((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d) ∗ (∃ d, owns (c : Thread nD τ) (Memref.whole cc0_scratch3) fullShare d)
    ∗ (∃ x y, ⌜(p c).inv n x y⌝ ∗ owns (c : Thread nD τ) (Memref.whole cc0_scratch4) fullShare x ∗ owns (c : Thread nD τ) (Memref.whole cc0_scratch5) fullShare y))
    ∗ (∃ r, prngReg c r))

theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d) ∗ (∃ d, owns (c : Thread nD τ) (Memref.whole cc0_scratch3) fullShare d)
    ∗ (∃ d, owns (c : Thread nD τ) (Memref.whole cc0_scratch4) fullShare d) ∗ (∃ d, owns (c : Thread nD τ) (Memref.whole cc0_scratch5) fullShare d))
    ∗ (∃ r, prngReg c r)) := by
  unfold Pipeline.ΦA; rw [scopedRest0_eq]; simp only [owns_whole]

/-- The arguments' windows, exactly. -/
def dat (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0 (F := F)) ⟨4, h⟩ t
    | ⟨5, h⟩ => Pipeline.Dat.unnamed (cfg := cfg0 (F := F)) ⟨5, h⟩ t
    | ⟨6, h⟩ => Pipeline.Dat.unnamed (cfg := cfg0 (F := F)) ⟨6, h⟩ t
  Φ t := Phi m p c t.val
  q w := Pipeline.shareOf spec0 w
  owed _ := 0

/-- The results' windows, by what is known of them. -/
def known (c : Dev nD) : (w : Fin (cfg0 (F := F)).W) →
    Option (Fin (cfg0 (F := F)).N → (Y X : ((cfg0 (F := F)).win w).block.Idx → Elt F ((cfg0 (F := F)).win w).elt) → Prop)
  | ⟨0, _⟩ => none
  | ⟨1, _⟩ => none
  | ⟨2, _⟩ => none
  | ⟨3, _⟩ => none
  | ⟨4, _⟩ => some fun t _ X => (p c).dq t X
  | ⟨5, _⟩ => some fun t _ X => (p c).dk t X
  | ⟨6, _⟩ => some fun t _ X => (p c).dv t X

/-- All windows. -/
def rdat (c : Dev nD) : RDat τ (Elt F) Unit ℕ (UR sig nD τ) ℕ (cfg0 (F := F)) c := (dat m p c).toR.override (known m p c)

theorem A_eq (c : Dev nD) (w : Fin (cfg0 (F := F)).W) : (rdat m p c).A w = V m c (Pipeline.arrRef spec0 w) := by
  dsimp only [rdat, RDat.override, Dat.toR, dat]

theorem found0 (c : Dev nD) (t : Fin (cfg0 (F := F)).N) (X) (h : (rdat m p c).Finds 0 t X) : X = iblk m c 0 t := by
  obtain ⟨d, rfl⟩ := (dat m p c).toR_finds 0 t X (((dat m p c).toR.override_finds rfl t X).mp h)
  exact ((dat m p c).before_in_eq_fetched 0 rfl (fun _ => rfl) (fun _ _ _ => rfl) (fun t => rfl) t d).trans rfl
theorem found1 (c : Dev nD) (t : Fin (cfg0 (F := F)).N) (X) (h : (rdat m p c).Finds 1 t X) : X = iblk m c 1 t := by
  obtain ⟨d, rfl⟩ := (dat m p c).toR_finds 1 t X (((dat m p c).toR.override_finds rfl t X).mp h)
  exact ((dat m p c).before_in_eq_fetched 1 rfl (fun _ => rfl) (fun _ _ _ => rfl) (fun t => rfl) t d).trans rfl
theorem found2 (c : Dev nD) (t : Fin (cfg0 (F := F)).N) (X) (h : (rdat m p c).Finds 2 t X) : X = iblk m c 2 t := by
  obtain ⟨d, rfl⟩ := (dat m p c).toR_finds 2 t X (((dat m p c).toR.override_finds rfl t X).mp h)
  exact ((dat m p c).before_in_eq_fetched 2 rfl (fun _ => rfl) (fun _ _ _ => rfl) (fun t => rfl) t d).trans rfl
theorem found3 (c : Dev nD) (t : Fin (cfg0 (F := F)).N) (X) (h : (rdat m p c).Finds 3 t X) : X = iblk m c 3 t := by
  obtain ⟨d, rfl⟩ := (dat m p c).toR_finds 3 t X (((dat m p c).toR.override_finds rfl t X).mp h)
  exact ((dat m p c).before_in_eq_fetched 3 rfl (fun _ => rfl) (fun _ _ _ => rfl) (fun t => rfl) t d).trans rfl

theorem held_eq (c : Dev nD) (M : Mems) (σ : St F) :
    (held Unit (UR sig nD τ) ℕ c (bufs M) σ : sProp 𝕄) = iprop(owns (c : Thread nD τ) (M .q) fullShare (σ .q) ∗ owns (c : Thread nD τ) (M .k) fullShare (σ .k)
      ∗ owns (c : Thread nD τ) (M .v) fullShare (σ .v) ∗ owns (c : Thread nD τ) (M .d) fullShare (σ .d) ∗ owns (c : Thread nD τ) (M .dq) fullShare (σ .dq)
      ∗ owns (c : Thread nD τ) (M .dko) fullShare (σ .dko) ∗ owns (c : Thread nD τ) (M .dvo) fullShare (σ .dvo) ∗ owns (c : Thread nD τ) (M .eb) fullShare (σ .eb)
      ∗ owns (c : Thread nD τ) (M .bb) fullShare (σ .bb) ∗ owns (c : Thread nD τ) (M .pe) fullShare (σ .pe) ∗ owns (c : Thread nD τ) (M .pb) fullShare (σ .pb)
      ∗ owns (c : Thread nD τ) (M .dk) fullShare (σ .dk) ∗ owns (c : Thread nD τ) (M .dv) fullShare (σ .dv)) :=
  bigSep_univ_eq_bigSepL [B.q, .k, .v, .d, .dq, .dko, .dvo, .eb, .bb, .pe, .pb, .dk, .dv] (by decide) (by decide) _

theorem defs₀_row (t : Fin (cfg0 (F := F)).N) :
    defs₀ (F := F) .tc (cfg0 (F := F)).body (cfg0.bodyArgs t (cfg0.slots t)) = bodyAt0 t := by
  unfold defs₀; rw [Defs.onTc_tc]

/-- Contents put together. -/
def state (q : S2048x128.Idx → Elt F .bf16) (k v : S8192x128.Idx → Elt F .bf16) (d dq : S2048x128.Idx → Elt F .bf16) (dko dvo : S8192x128.Idx → Elt F .bf16)
    (eb bb : S32x256x256.Idx → Elt F .f32) (pe pb : S8x2x256x256.Idx → Elt F .f32) (dk dv : S8192x128.Idx → Elt F .f32) : St F
  | .q => q | .k => k | .v => v | .d => d | .dq => dq | .dko => dko | .dvo => dvo | .eb => eb | .bb => bb | .pe => pe | .pb => pb | .dk => dk | .dv => dv

/-- What the program holds after the body, from the contents that the body left. -/
theorem point_end (c : Dev nD) (t : Fin (cfg0 (F := F)).N) (R : sProp 𝕄) (σ : St F)
    (hσ : Blocks m c t σ ∧ (p c).inv (t.val + 1) (σ .dk) (σ .dv) ∧ (p c).dq t (σ .dq) ∧ (p c).dk t (σ .dko) ∧ (p c).dv t (σ .dvo)) :
    iprop(held Unit (UR sig nD τ) ℕ c (bufs (mems t)) σ ∗ R ∗ (∃ r, prngReg c r))
    ⊢ iprop(Phi m p c (t.val + 1) ∗ R ∗ owns (c : Thread nD τ) (mems (F := F) t .q) fullShare (iblk m c 0 t) ∗ owns (c : Thread nD τ) (mems (F := F) t .k) fullShare (iblk m c 1 t)
      ∗ owns (c : Thread nD τ) (mems (F := F) t .v) fullShare (iblk m c 2 t) ∗ owns (c : Thread nD τ) (mems (F := F) t .d) fullShare (iblk m c 3 t)
      ∗ (∃ X, ⌜(p c).dq t X⌝ ∗ owns (c : Thread nD τ) (mems (F := F) t .dq) fullShare X) ∗ (∃ X, ⌜(p c).dk t X⌝ ∗ owns (c : Thread nD τ) (mems (F := F) t .dko) fullShare X)
      ∗ (∃ X, ⌜(p c).dv t X⌝ ∗ owns (c : Thread nD τ) (mems (F := F) t .dvo) fullShare X)) := by
  obtain ⟨hB, hi', h4, h5, h6⟩ := hσ
  rw [held_eq, ← hB.q, ← hB.k, ← hB.v, ← hB.d]
  unfold Phi
  iintro ⟨⟨Hq, Hk, Hv, Hd, Hdq, Hdko, Hdvo, Heb, Hbb, Hpe, Hpb, Hdk, Hdv⟩, HR, Hg⟩
  isplitl [Heb Hbb Hpe Hpb Hdk Hdv Hg]
  · isplitr [Hg]
    · isplitl [Heb]; · iexists _; iexact Heb
      isplitl [Hbb]; · iexists _; iexact Hbb
      isplitl [Hpe]; · iexists _; iexact Hpe
      isplitl [Hpb]; · iexists _; iexact Hpb
      iexists _; iexists _
      isplitr; · ipureintro; exact hi'
      isplitl [Hdk]; · iexact Hdk
      iexact Hdv
    iexact Hg
  isplitl [HR]; · iexact HR
  isplitl [Hq]; · iexact Hq
  isplitl [Hk]; · iexact Hk
  isplitl [Hv]; · iexact Hv
  isplitl [Hd]; · iexact Hd
  isplitl [Hdq]; · iexists _; isplitr; · ipureintro; exact h4
                   iexact Hdq
  isplitl [Hdko]; · iexists _; isplitr; · ipureintro; exact h5
                    iexact Hdko
  iexists _; isplitr; · ipureintro; exact h6
  iexact Hdvo

/-- At one grid point: from the blocks in place and the invariant, the body ends with the blocks in place, the invariant at the next
    point and what is to be known of the results' blocks. -/
theorem sound_body (c : Dev nD) (t : Fin (cfg0 (F := F)).N) (R : sProp 𝕄) (dq0 : S2048x128.Idx → Elt F .bf16) (dko0 dvo0 : S8192x128.Idx → Elt F .bf16) :
    iprop(Phi m p c t.val ∗ R ∗ owns (c : Thread nD τ) (mems (F := F) t .q) fullShare (iblk m c 0 t) ∗ owns (c : Thread nD τ) (mems (F := F) t .k) fullShare (iblk m c 1 t)
      ∗ owns (c : Thread nD τ) (mems (F := F) t .v) fullShare (iblk m c 2 t) ∗ owns (c : Thread nD τ) (mems (F := F) t .d) fullShare (iblk m c 3 t)
      ∗ owns (c : Thread nD τ) (mems (F := F) t .dq) fullShare dq0 ∗ owns (c : Thread nD τ) (mems (F := F) t .dko) fullShare dko0
      ∗ owns (c : Thread nD τ) (mems (F := F) t .dvo) fullShare dvo0)
    ⊢ wp frame (wpE (defs₀ (F := F)) Variants.nat c none) Set.univ (bodyAt0 t) (fun _ =>
      iprop(Phi m p c (t.val + 1) ∗ R ∗ owns (c : Thread nD τ) (mems (F := F) t .q) fullShare (iblk m c 0 t) ∗ owns (c : Thread nD τ) (mems (F := F) t .k) fullShare (iblk m c 1 t)
      ∗ owns (c : Thread nD τ) (mems (F := F) t .v) fullShare (iblk m c 2 t) ∗ owns (c : Thread nD τ) (mems (F := F) t .d) fullShare (iblk m c 3 t)
      ∗ (∃ X, ⌜(p c).dq t X⌝ ∗ owns (c : Thread nD τ) (mems (F := F) t .dq) fullShare X) ∗ (∃ X, ⌜(p c).dk t X⌝ ∗ owns (c : Thread nD τ) (mems (F := F) t .dko) fullShare X)
      ∗ (∃ X, ⌜(p c).dv t X⌝ ∗ owns (c : Thread nD τ) (mems (F := F) t .dvo) fullShare X))) := by
  iintro ⟨HP, HR, Hq, Hk, Hv, Hd, Hdq, Hdko, Hdvo⟩
  unfold Phi
  icases HP with ⟨⟨⟨%eb, Heb⟩, ⟨%bb, Hbb⟩, ⟨%pe, Hpe⟩, ⟨%pb, Hpb⟩, %dk, %dv, %hi, Hdk, Hdv⟩, Hg⟩
  have hd := (p c).step t (state (iblk m c 0 t) (iblk m c 1 t) (iblk m c 2 t) (iblk m c 3 t) dq0 dko0 dvo0 eb bb pe pb dk dv) ⟨rfl, rfl, rfl, rfl⟩ hi
  unfold Does Runs at hd
  iapply (wp_wand_r frame (wpE (defs₀ (F := F)) Variants.nat c none))
  isplitl [Hq Hk Hv Hd Hdq Hdko Hdvo Heb Hbb Hpe Hpb Hdk Hdv]
  · iapply hd
    rw [held_eq]
    isplitl [Hq]; · iexact Hq
    isplitl [Hk]; · iexact Hk
    isplitl [Hv]; · iexact Hv
    isplitl [Hd]; · iexact Hd
    isplitl [Hdq]; · iexact Hdq
    isplitl [Hdko]; · iexact Hdko
    isplitl [Hdvo]; · iexact Hdvo
    isplitl [Heb]; · iexact Heb
    isplitl [Hbb]; · iexact Hbb
    isplitl [Hpe]; · iexact Hpe
    isplitl [Hpb]; · iexact Hpb
    isplitl [Hdk]; · iexact Hdk
    iexact Hdv
  iintro %_ ⟨%σ, %hσ, H⟩
  iapply (point_end m p c t R σ hσ)
  isplitl [H]; · iexact H
  isplitl [HR]; · iexact HR
  iexact Hg

/-- What the body of every grid point is obliged to do. -/
theorem body_obligation (c : Dev nD) : (rdat m p c).BodyObligation (defs₀ (F := F)) Variants.nat () Set.univ := by
  intro t Y hY
  have e0 := found0 m p c t _ (hY 0)
  have e1 := found1 m p c t _ (hY 1)
  have e2 := found2 m p c t _ (hY 2)
  have e3 := found3 m p c t _ (hY 3)
  rw [bigSep_W0, bigSep_W0, defs₀_row, e0, e1, e2, e3]
  refine triple_restated (sound_body m p c t ((rdat m p c).owesAt () t.castSucc) (Y 4) (Y 5) (Y 6)) rfl .rfl fun _ => ?_
  rw [show (rdat m p c).Φ t.succ = Phi m p c (t.val + 1) from rfl]
  iintro ⟨HP, HR, Hq, Hk, Hv, Hd, Hdq, Hdko, Hdvo⟩
  isplitl [HP]; · iexact HP
  isplitl [HR]; · iexact HR
  isplitl [Hq]; · iexists _; isplitr
                  swap; · iexact Hq
                  ipureintro; rfl
  isplitl [Hk]; · iexists _; isplitr
                  swap; · iexact Hk
                  ipureintro; rfl
  isplitl [Hv]; · iexists _; isplitr
                  swap; · iexact Hv
                  ipureintro; rfl
  isplitl [Hd]; · iexists _; isplitr
                  swap; · iexact Hd
                  ipureintro; rfl
  isplitl [Hdq]; · iexact Hdq
  isplitl [Hdko]; · iexact Hdko
  iexact Hdvo

theorem hin (c : Dev nD) : Pipeline.ΦA spec0 c ⊢ (rdat m p c).Φ 0 := by
  rw [show (rdat m p c).Φ 0 = Phi m p c 0 from rfl, PhiA_eq]
  unfold Phi
  iintro ⟨⟨H0, H1, H2, H3, ⟨%x, H4⟩, ⟨%y, H5⟩⟩, Hg⟩
  isplitr [Hg]
  · isplitl [H0]; · iexact H0
    isplitl [H1]; · iexact H1
    isplitl [H2]; · iexact H2
    isplitl [H3]; · iexact H3
    iexists x; iexists y
    isplitr; · ipureintro; exact (p c).init x y
    isplitl [H4]; · iexact H4
    iexact H5
  iexact Hg

theorem hout (c : Dev nD) : (rdat m p c).Φ (Fin.last (cfg0 (F := F)).N) ⊢ Pipeline.ΦA spec0 c := by
  rw [show (rdat m p c).Φ (Fin.last (cfg0 (F := F)).N) = Phi m p c (cfg0 (F := F)).N from rfl, PhiA_eq]
  unfold Phi
  iintro ⟨⟨H0, H1, H2, H3, %x, %y, %_, H4, H5⟩, Hg⟩
  isplitr [Hg]
  · isplitl [H0]; · iexact H0
    isplitl [H1]; · iexact H1
    isplitl [H2]; · iexact H2
    isplitl [H3]; · iexact H3
    isplitl [H4]; · iexists x; iexact H4
    iexists y; iexact H5
  iexact Hg

set_option backward.isDefEq.respectTransparency.types false in
/-- A run of the whole program: it ends, the arrays hold what the windows' data allow, and every counter is zero. -/
theorem run_main : θ_run defs (onTc (τ := τ) (main (F := F))) (s₀ m ρ)
    (fun r => RDat.FramePost (cfgs 0) (rdat m p) (V m) r ∧ r.2.sem = fun _ => 0) :=
  RDat.θ_run_frame_track_shared cfgs (0 : Fin 1) launch₀0 defs₀ Variants.nat (rdat m p) m ρ main
    (hbody := body_obligation m p) (hq := fun _ _ _ => rfl)
    (howed := fun _ _ => rfl) (V := V m) (hmain := hmain m Variants.nat) (hA := A_eq m p) (hin := hin m p) (hout := hout m p) (Q' := _)

theorem mem_arg0 : main_arg0 ∈ Pipeline.restRefs sig spec0 := Pipeline.mem_restRefs_of main_arg0 (by decide) (by decide)
theorem mem_arg1 : main_arg1 ∈ Pipeline.restRefs sig spec0 := Pipeline.mem_restRefs_of main_arg1 (by decide) (by decide)

include p in
/-- The frame: the arguments end unchanged and every counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 mem_arg0).trans (V_arg0 m c),
      ((h.1 c).2 main_arg1 mem_arg1).trans (V_arg1 m c)⟩, h.2⟩) (run_main m ρ p)

end Cert.SbRun
-- ==== Proof.SbFrame.lean ====
/-
  The stick-breaking gradient's frames: a run ends with the arguments as they were, whatever the numbers.
-/
module

public import proofs.«01_k».proof.Proof.SbLaunch
public import proofs.«01_k».proof.Proof.Gen.SbReferenceIdeal
public import proofs.«01_k».proof.Proof.Gen.Pre_sb_finite
public import proofs.«01_k».proof.Defs
public import Idealize.ShloMosaic.Lib.Tactic

@[expose] public section

set_option maxRecDepth 16384

noncomputable section

namespace Cert.SbRun

open Idealize.ShloMosaic Idealize.ShloMosaic.TcCoe Idealize.ShloMosaic.Tactic
open Idealize.SL Idealize.SL.RA Idealize.SL.Sem
open Cert.SbKernelIdeal Cert.SbKernelIdeal.Gen Cert.Owned Cert.Sb

section General

variable {F : FTy → Type} [FloatOps F] [Named F]

/-- The printed body at each grid point is the body read above. -/
def Printed (F : FTy → Type) [FloatOps F] [Named F] : Prop :=
  ∀ t : Fin (cfg0 (F := F)).N, ∃ hq hk hv hd hdq hdko hdvo heb hbb hpe hpb hdk hdv,
    bodyAt0 (F := F) t = body (grid0.coords t) (mems (F := F) t .q) hq (mems (F := F) t .k) hk (mems (F := F) t .v) hv (mems (F := F) t .d) hd
      (mems (F := F) t .dq) hdq (mems (F := F) t .dko) hdko (mems (F := F) t .dvo) hdvo (mems (F := F) t .eb) heb (mems (F := F) t .bb) hbb
      (mems (F := F) t .pe) hpe (mems (F := F) t .pb) hpb (mems (F := F) t .dk) hdk (mems (F := F) t .dv) hdv

variable (m : (ℓ : Loc nD τ sig) → Buf (Elt F) ℓ)

/-- A point's step, from statements kept along the body. -/
theorem step_of (hb : Printed F) (c : Dev nD) (t : Fin (cfg0 (F := F)).N) (S : Spec (F := F) (grid0.coords t)) {σ : St F} (h : S.Start σ)
    {Q : St F → Prop} (hQ : ∀ σ', S.End σ' → Q σ') :
    Does (F := F) defs₀ c (mems t) Unit (UR sig nD τ) ℕ none (bodyAt0 t) (fun _ σ' => Q σ') σ := by
  obtain ⟨hq, hk, hv, hd, hdq, hdko, hdvo, heb, hbb, hpe, hpb, hdk, hdv, e⟩ := hb t
  rw [e]
  exact (body_does c (mems t) Unit (UR sig nD τ) ℕ S hq hk hv hd hdq hdko hdvo heb hbb hpe hpb hdk hdv h).mono fun _ σ' hE => hQ σ' hE

/-- The arguments' blocks are those of `X`. -/
structure Fixed (X σ : St F) : Prop where
  q : σ .q = X .q
  k : σ .k = X .k
  v : σ .v = X .v
  d : σ .d = X .d

theorem Fixed.update {X σ : St F} (h : Fixed X σ) (b : B) (hb : b ∉ [B.q, .k, .v, .d]) (y : (shp b).Idx → Elt F (elt b)) :
    Fixed X (Function.update σ b y) := by
  simp only [List.mem_cons, List.not_mem_nil, or_false, not_or] at hb
  exact ⟨(Function.update_of_ne (Ne.symm hb.1) _ _).trans h.q, (Function.update_of_ne (Ne.symm hb.2.1) _ _).trans h.k,
    (Function.update_of_ne (Ne.symm hb.2.2.1) _ _).trans h.v, (Function.update_of_ne (Ne.symm hb.2.2.2) _ _).trans h.d⟩

theorem Fixed.afterReset {X σ : St F} (h : Fixed X σ) : Fixed X (afterReset σ) :=
  (h.update .dk (by decide) _).update .dv (by decide) _
theorem Fixed.afterFinish {X σ : St F} (h : Fixed X σ) : Fixed X (afterFinish σ) :=
  (h.update .dko (by decide) _).update .dvo (by decide) _
theorem Fixed.afterKept {X σ : St F} (h : Fixed X σ) {q d tri run mz mw o1 h1 o ho} : Fixed X (afterKept q d tri run mz mw o1 h1 o ho σ) :=
  ((h.update .pe (by decide) _).update .pb (by decide) _).update .dv (by decide) _
theorem Fixed.afterLeft {X σ : St F} (h : Fixed X σ) {q d tri run o3 h3 o4 h4} : Fixed X (afterLeft q d tri run o3 h3 o4 h4 σ) :=
  ((h.update .eb (by decide) _).update .bb (by decide) _).update .dv (by decide) _
theorem Fixed.afterBack {X σ : St F} (h : Fixed X σ) {q ds o6 h6} : Fixed X (afterBack q ds o6 h6 σ) :=
  h.update .dk (by decide) _

/-- The body leaves its arguments' blocks alone. -/
def frameSpec (i : grid0.Coords) (X : St F) : Spec (F := F) i where
  Start := Fixed X
  A _ := Fixed X
  Pair _ _ _ _ := True
  Bl _ := Fixed X
  W _ _ _ := Fixed X
  J _ _ _ _ _ := Fixed X
  Kept _ _ _ := True
  C _ := Fixed X
  End := Fixed X
  reset0 _ _ h := h.afterReset
  reset1 _ _ h := h
  pair := fun _ _ _ _ _ _ _ _ _ _ _ _ _ _ _ _ _ _ _ _ h => ⟨trivial, h.afterKept.afterKept⟩
  mid _ h := h
  left0 _ _ _ _ _ _ _ h := h
  leftS := fun _ _ _ _ _ _ _ _ _ _ _ _ _ _ _ _ h => h.afterLeft
  right0 _ _ _ _ _ _ h _ := h
  rightS := fun _ _ _ _ _ _ _ _ _ _ _ _ _ _ _ _ _ _ _ h => h.afterBack
  rightE _ _ _ _ _ _ _ h := ⟨trivial, h⟩
  mid2 _ h := h
  back := fun _ _ _ _ _ _ _ _ _ _ _ _ _ _ _ _ _ _ _ _ _ _ _ _ _ _ _ h => (h.afterBack.afterBack).update .dq (by decide) _
  finish1 _ _ h := h.afterFinish
  finish0 _ _ h := h

/-- The plan that knows nothing of the results. -/
def framePlan (hb : Printed F) (c : Dev nD) : Plan m c where
  inv _ _ _ := True
  dq _ _ := True
  dk _ _ := True
  dv _ _ := True
  init _ _ := trivial
  step t σ hB _ := step_of hb c t (frameSpec (grid0.coords t) σ) ⟨rfl, rfl, rfl, rfl⟩ fun σ' h =>
    ⟨⟨h.q.trans hB.q, h.k.trans hB.k, h.v.trans hB.v, h.d.trans hB.d⟩, trivial, trivial, trivial, trivial⟩

end General

theorem printed_ideal : Printed Ideal := fun _ => ⟨_, _, _, _, _, _, _, _, _, _, _, _, _, body_ideal _ _ _ _ _ _ _ _ _ _ _ _ _ _ _ _ _ _ _ _ _ _ _ _ _ _ _⟩

/-- The stick-breaking gradient's call terminates with its arguments unchanged and its semaphores at zero, over the extended reals. -/
theorem frame_ideal : Cert.quiescent_SbKernelIdeal := fun m ρ _ => frame_main m ρ (framePlan m printed_ideal)

end Cert.SbRun
-- ==== Proof.SbBlocks.lean ====
/-
  What the body computes on blocks of real numbers.
-/
module

public import proofs.«01_k».proof.Proof.SbRuns
public import proofs.«01_k».proof.Proof.Reals
public import proofs.«01_k».proof.Proof.Gen.SbKernelIdeal
public import Idealize.ShloMosaic.Lib.Pointwise

@[expose] public section

set_option maxRecDepth 16384

noncomputable section

namespace Cert.Sb

open Idealize.ShloMosaic Cert.SbKernelIdeal Cert.SbKernelIdeal.Gen

/-- A matrix of real numbers. -/
def R2 (a b : ℕ) {φ : FTy} (f : ℕ → ℕ → ℝ) : FVec Ideal ⟨2, ![a, b]⟩ φ := fun x => ((f (x 0).val (x 1).val : ℝ) : EReal)

theorem R2_congr {a b : ℕ} {φ : FTy} {f g : ℕ → ℕ → ℝ} (h : ∀ i < a, ∀ j < b, f i j = g i j) : R2 a b (φ := φ) f = R2 a b g := by
  funext x
  exact congrArg (fun r : ℝ => (r : EReal)) (h _ (x 0).isLt _ (x 1).isLt)

/-- The scale of the products, as the kernel's word of it says. -/
def scale : ℝ := (Ideal.ofBits .f32 0x3DB504F3#32).toReal

theorem ofBits_scale : Ideal.ofBits .f32 0x3DB504F3#32 = (scale : EReal) := by
  rw [scale]
  simp [Ideal.ofBits, Ideal.ieee, -EReal.coe_mul, -EReal.coe_div, -EReal.coe_add, -EReal.coe_pow]

/-- `-log(1 + exp x)`. -/
def gap (x : ℝ) : ℝ := -Real.log (1 + Real.exp x)

/-- The logistic function. -/
def sig (x : ℝ) : ℝ := (1 + Real.exp (-x))⁻¹

theorem one_add_exp_pos (x : ℝ) : 0 < 1 + Real.exp x := by positivity

theorem gap_eq (x : ℝ) : 0 - (max x 0 + Real.log (1 + Real.exp (0 - |x|))) = gap x := by
  have h : Real.log (1 + Real.exp x) = max x 0 + Real.log (1 + Real.exp (0 - |x|)) := by
    rcases le_total 0 x with hx | hx
    · rw [max_eq_left hx, abs_of_nonneg hx, zero_sub, show 1 + Real.exp x = Real.exp x * (1 + Real.exp (-x)) by
        rw [mul_add, mul_one, ← Real.exp_add, add_neg_cancel, Real.exp_zero, add_comm], Real.log_mul (Real.exp_pos x).ne' (one_add_exp_pos _).ne', Real.log_exp]
    · rw [max_eq_right hx, abs_of_nonpos hx, zero_sub, neg_neg, zero_add]
  rw [gap, h, zero_sub]

theorem score_R2 (q k : ℕ → ℕ → ℝ) :
    score (F := Ideal) (R2 256 128 q) (R2 256 128 k) = R2 256 256 (fun i j => (∑ a : Fin 128, q i a * k j a) * scale) := by
  funext x
  pointwise [score, R2]
  rw [ofBits_scale]
  simp only [← EReal.coe_mul, Reals.sum_coe]

theorem logGap_R2 (f : ℕ → ℕ → ℝ) : logGap (F := Ideal) (R2 256 256 f) = R2 256 256 (fun i j => gap (f i j)) := by
  funext x
  pointwise [logGap, R2]
  rw [← gap_eq]
  generalize f (x 0) (x 1) = r
  rw [show FloatOps.absf (F := Ideal) (φ := .f32) (r : EReal) = ((|r| : ℝ) : EReal) from by
    show max (r : EReal) (-r) = ((max r (-r) : ℝ) : EReal)
    rw [EReal.coe_strictMono.monotone.map_max, EReal.coe_neg]]
  rw [← EReal.coe_zero, ← EReal.coe_one, ← EReal.coe_sub, Ideal.exp_coe, ← EReal.coe_add, Ideal.log_coe, if_neg (not_le.mpr (one_add_exp_pos _)), ← EReal.coe_strictMono.monotone.map_max,
    ← EReal.coe_add, ← EReal.coe_sub]

theorem beta_R2 (f : ℕ → ℕ → ℝ) : beta (F := Ideal) (R2 256 256 f) = R2 256 256 (fun i j => sig (f i j)) := by
  funext x
  pointwise [beta, R2]
  generalize f (x 0) (x 1) = r
  rw [← EReal.coe_zero, ← EReal.coe_one, ← EReal.coe_sub, Ideal.exp_coe, ← EReal.coe_add, Ideal.div_coe (one_add_exp_pos _).ne', ← EReal.coe_mul, sig,
    zero_sub, one_mul, one_div]

theorem rowSums_R2 (f t : ℕ → ℕ → ℝ) : rowSums (F := Ideal) (R2 256 256 f) (R2 256 256 t) = R2 256 256 (fun i j => ∑ k : Fin 256, f i k * t k j) := by
  funext x
  pointwise [rowSums, R2]
  simp only [← EReal.coe_sub, ← EReal.coe_mul, Reals.sum_coe, ← EReal.coe_add, sub_self, zero_mul, Finset.sum_const_zero, add_zero]

theorem weight_R2 (z cs run : ℕ → ℕ → ℝ) :
    weight (F := Ideal) (R2 256 256 z) (R2 256 256 cs) (R2 256 1 run) = R2 256 256 (fun i j => Real.exp (z i j + cs i j + run i 0)) := by
  funext x
  pointwise [weight, R2]
  simp only [← EReal.coe_add, Ideal.exp_coe]

theorem runAfter_R2 (cs run : ℕ → ℕ → ℝ) : runAfter (F := Ideal) (R2 256 256 cs) (R2 256 1 run) = R2 256 1 (fun i _ => run i 0 + cs i 0) := by
  funext x
  pointwise [runAfter, R2]
  simp only [← EReal.coe_add]

theorem eOf_R2 (w d v : ℕ → ℕ → ℝ) :
    eOf (F := Ideal) (R2 256 256 w) (R2 256 128 d) (R2 256 128 v) = R2 256 256 (fun i j => w i j * ∑ a : Fin 128, d i a * v j a) := by
  funext x
  pointwise [eOf, R2]
  simp only [← EReal.coe_mul, Reals.sum_coe]

theorem addTo_R2 (y a b : ℕ → ℕ → ℝ) :
    addTo (F := Ideal) (R2 256 128 y) (R2 256 256 a) (R2 256 128 b) = R2 256 128 (fun j c => y j c + ∑ i : Fin 256, a i j * b i c) := by
  funext x
  pointwise [addTo, R2]
  simp only [← EReal.coe_mul, Reals.sum_coe, ← EReal.coe_add]

theorem dScore_R2 (e b ps pre : ℕ → ℕ → ℝ) :
    dScore (F := Ideal) (R2 256 256 e) (R2 256 256 b) (R2 256 256 ps) (R2 256 1 pre)
      = R2 256 256 (fun i j => e i j * (1 - b i j) - b i j * (ps i j + pre i 0)) := by
  funext x
  pointwise [dScore, R2]
  rw [← EReal.coe_one]
  simp only [← EReal.coe_sub, ← EReal.coe_mul, ← EReal.coe_add]

theorem scaled_R2 (d : ℕ → ℕ → ℝ) : scaled (F := Ideal) (R2 256 256 d) = R2 256 256 (fun i j => d i j * scale) := by
  funext x
  pointwise [scaled, R2]
  rw [ofBits_scale]
  simp only [← EReal.coe_mul]

theorem sge_ofNat (a b : Fin 256) : IntOp.cmpi CmpIPredicate.sge (BitVec.ofNat 32 a.val) (BitVec.ofNat 32 b.val) = if b.val ≤ a.val then 1#1 else 0#1 := by
  have : (BitVec.ofNat 32 b.val).sle (BitVec.ofNat 32 a.val) = decide (b.val ≤ a.val) := by
    rw [BitVec.sle_eq_decide, BitVec.toInt_ofNat', BitVec.toInt_ofNat', Int.bmod_eq_of_le (by omega) (by omega), Int.bmod_eq_of_le (by omega) (by omega)]
    simp
  simp only [IntOp.cmpi, this]
  by_cases h : b.val ≤ a.val <;> simp [h]

theorem slt_ofNat (a b : Fin 256) : IntOp.cmpi CmpIPredicate.slt (BitVec.ofNat 32 a.val) (BitVec.ofNat 32 b.val) = if a.val < b.val then 1#1 else 0#1 := by
  have : (BitVec.ofNat 32 a.val).slt (BitVec.ofNat 32 b.val) = decide (a.val < b.val) := by
    rw [BitVec.slt_eq_decide, BitVec.toInt_ofNat', BitVec.toInt_ofNat', Int.bmod_eq_of_le (by omega) (by omega), Int.bmod_eq_of_le (by omega) (by omega)]
    simp
  simp only [IntOp.cmpi, this]
  by_cases h : a.val < b.val <;> simp [h]

theorem ones_sge : ones (F := Ideal) (cmpi .sge rowNo colNo) = R2 256 256 (fun i j => if j ≤ i then 1 else 0) := by
  funext x
  pointwise [ones, R2]
  rw [sge_ofNat (x 0) (x 1)]
  by_cases h : (x 1).val ≤ (x 0).val <;> simp [h, Scalar.select]

theorem ones_slt : ones (F := Ideal) (cmpi .slt rowNo colNo) = R2 256 256 (fun i j => if i < j then 1 else 0) := by
  funext x
  pointwise [ones, R2]
  rw [slt_ofNat (x 0) (x 1)]
  by_cases h : (x 0).val < (x 1).val <;> simp [h, Scalar.select]

theorem masked_R2 (f : ℕ → ℕ → ℝ) : masked (F := Ideal) (cmpi .slt colNo rowNo) (R2 256 256 f) = R2 256 256 (fun i j => if j < i then f i j else 0) := by
  funext x
  pointwise [masked, R2]
  rw [slt_ofNat (x 1) (x 0)]
  by_cases h : (x 1).val < (x 0).val <;> simp [h, Scalar.select]

theorem zeros_R2 (a b : ℕ) : (broadcast ⟨2, ![a, b]⟩ (Scalar.ofBits (F := Ideal) .f32 0x00000000#32) : FVec Ideal ⟨2, ![a, b]⟩ .f32) = R2 a b (fun _ _ => 0) := by
  funext x
  pointwise [R2]
  exact EReal.coe_zero.symm

theorem gated_R2 (n : ℕ) (f : ℕ → ℕ → ℝ) :
    gated (F := Ideal) (if n = 0 then 0#1 else 1#1) (R2 256 256 f) = R2 256 256 (fun i j => if n = 0 then 0 else f i j) := by
  rw [gated, zeros_R2]
  by_cases h : n = 0 <;> simp [h, Scalar.select]

theorem preAfter_R2 (t pre e : ℕ → ℕ → ℝ) :
    preAfter (F := Ideal) (R2 256 256 t) (R2 256 1 pre) (R2 256 256 e) = R2 256 1 (fun i _ => pre i 0 + (∑ k : Fin 256, e i k * t k 255) + e i 255) := by
  rw [preAfter, rowSums_R2]
  funext x
  pointwise [R2]
  simp only [← EReal.coe_add]

theorem dqPart_R2 (d k : ℕ → ℕ → ℝ) :
    dqPart (F := Ideal) (R2 256 256 d) (R2 256 128 k) = R2 256 128 (fun i a => ∑ j : Fin 256, d i j * k j a) := by
  funext x
  pointwise [dqPart, R2]
  simp only [← EReal.coe_mul, Reals.sum_coe]

theorem truncf_R2 {a b : ℕ} (f : ℕ → ℕ → ℝ) (h : FTy.bf16.bits < FTy.f32.bits) : truncf (F := Ideal) .bf16 (R2 a b (φ := .f32) f) h = R2 a b f := rfl

theorem addf_R2 {a b : ℕ} {φ : FTy} (f g : ℕ → ℕ → ℝ) : addf (F := Ideal) (R2 a b (φ := φ) f) (R2 a b g) = R2 a b (fun i j => f i j + g i j) := by
  funext x
  exact (EReal.coe_add _ _).symm

theorem go_R2 (f : ℕ → ℕ → ℝ) : go (F := Ideal) (R2 256 1 f) := by
  rw [go, alive]
  pointwise [R2]
  rw [show Named.named (F := Ideal) κ "dead" (φ := .f32) 3268542464#32 = (⊥ : EReal) from rfl,
    decide_eq_true ((Finset.lt_fold_max _).mpr (.inr ⟨(0, default), Finset.mem_univ _, EReal.bot_lt_coe _⟩))]
  decide

end Cert.Sb
-- ==== Proof.SbRead.lean ====
/-
  What a load reads of a buffer after the body's stores, for blocks of real numbers.
-/
module

public import proofs.«01_k».proof.Proof.SbBlocks

@[expose] public section

set_option maxRecDepth 16384

noncomputable section

namespace Cert.Sb

open Idealize.ShloMosaic Cert.SbKernelIdeal Cert.Owned
open Cert.SbKernelIdeal.Facts₀ Cert.SbKernelIdeal.Facts

theorem emb_val {s : Shape} (o size : Fin s.rank → ℕ) (h) (x : (Rect.unit (s := s) o size h).shape.Idx) (a : Fin s.rank) :
    ((Rect.unit (s := s) o size h).emb x a).val = o a + 1 * (x a).val := rfl

theorem idx_val {s : Shape} (o size : Fin s.rank → ℕ) (h) (x : (Rect.unit (s := s) o size h).shape.Idx) (a : Fin s.rank) :
    ((Rect.unit (s := s) o size h).toLoadRect.idx x a).val = o a + 1 * (x a).val := rfl

theorem load_rows {φ : FTy} {N : ℕ} (f : ℕ → ℕ → ℝ) (n : ℕ) (o : Fin 2 → ℕ) (h : ∀ a, o a + S256x128.size a ≤ (⟨2, ![N, 128]⟩ : Shape).size a) (ho : o = ![256 * n, 0]) :
    (fun x => R2 N 128 (φ := φ) f ((Rect.unit (s := ⟨2, ![N, 128]⟩) o S256x128.size h).toLoadRect.idx x)) = R2 256 128 (φ := φ) (fun j a => f (256 * n + j) a) := by
  subst ho
  funext x
  rw [R2, R2, idx_val, idx_val]
  show ((f (256 * n + 1 * (x 0).val) (0 + 1 * (x 1).val) : ℝ) : EReal) = _
  rw [one_mul, one_mul, zero_add]

theorem rows8_R2 (f : ℕ → ℕ → ℝ) (n : ℕ) (o : Fin 2 → ℕ) (h : ∀ a, o a + S256x128.size a ≤ S8192x128.size a) (ho : o = ![256 * n, 0]) :
    rows8 (F := Ideal) (e := .bf16) (R2 8192 128 (φ := .bf16) f) o h = R2 256 128 (φ := .bf16) (fun j a => f (256 * n + j) a) :=
  (shapeCast_id _ _).trans (load_rows (φ := .bf16) f n o h ho)

theorem rows2_R2 (f : ℕ → ℕ → ℝ) (n : ℕ) (o : Fin 2 → ℕ) (h : ∀ a, o a + S256x128.size a ≤ S2048x128.size a) (ho : o = ![256 * n, 0]) :
    rows2 (F := Ideal) (e := .bf16) (R2 2048 128 (φ := .bf16) f) o h = R2 256 128 (φ := .bf16) (fun j a => f (256 * n + j) a) :=
  (shapeCast_id _ _).trans (load_rows (φ := .bf16) f n o h ho)

theorem put_rows {Val : EltTy → Type} {e : EltTy} {N : ℕ} (X : (⟨2, ![N, 128]⟩ : Shape).Idx → Val e) (n : ℕ) (o : Fin 2 → ℕ)
    (h : ∀ a, o a + S256x128.size a ≤ (⟨2, ![N, 128]⟩ : Shape).size a) (ho : o = ![n, 0])
    (w : S256x128.Idx → Val e) (x : (⟨2, ![N, 128]⟩ : Shape).Idx) :
    put X (Rect.unit (s := ⟨2, ![N, 128]⟩) o S256x128.size h) w x
      = if hx : n ≤ (x 0).val ∧ (x 0).val < n + 256 then w (ix2 ⟨(x 0).val - n, by omega⟩ (x 1)) else X x := by
  subst ho
  split
  · next hx =>
    have hy : x = (Rect.unit (s := ⟨2, ![N, 128]⟩) ![n, 0] S256x128.size h).emb (ix2 ⟨(x 0).val - n, by omega⟩ (x 1)) := by
      funext a
      refine Fin.ext ?_
      rw [emb_val]
      match a with
      | 0 => show (x 0).val = n + 1 * ((x 0).val - n); omega
      | 1 => show (x 1).val = 0 + 1 * (x 1).val; omega
    exact (congrArg (put X (Rect.unit (s := ⟨2, ![N, 128]⟩) ![n, 0] S256x128.size h) w) hy).trans (put_emb X (Rect.unit (s := ⟨2, ![N, 128]⟩) ![n, 0] S256x128.size h) w _)
  · next hx =>
    refine put_of_not_mem X (Rect.unit (s := ⟨2, ![N, 128]⟩) ![n, 0] S256x128.size h) w x fun y hy => hx ?_
    have h0 : n + 1 * (y 0).val = (x 0).val := congrArg (fun z : (⟨2, ![N, 128]⟩ : Shape).Idx => (z 0).val) hy
    have h1 : (y 0).val < 256 := (y 0).isLt
    omega

theorem put_add (f : ℕ → ℕ → ℝ) (m : ℕ) (o : Fin 2 → ℕ) (h : ∀ a, o a + S256x128.size a ≤ S8192x128.size a) (ho : o = ![256 * m, 0])
    (a b : ℕ → ℕ → ℝ) (hs) :
    put (Val := Elt Ideal) (e := .f32) (R2 8192 128 (φ := .f32) f) (Rect.unit (s := S8192x128) o S256x128.size h)
      (shapeCast S256x128 (addTo (F := Ideal) (fun x => R2 8192 128 (φ := .f32) f ((Rect.unit (s := S8192x128) o S256x128.size h).toLoadRect.idx x)) (R2 256 256 a) (R2 256 128 b)) hs)
      = R2 8192 128 (φ := .f32) (fun j c => f j c + if j / 256 = m then ∑ i : Fin 256, a i (j - 256 * m) * b i c else 0) := by
  refine (congrArg (fun y : FVec Ideal S256x128 .f32 => put (Val := Elt Ideal) (e := .f32) (R2 8192 128 (φ := .f32) f) (Rect.unit (s := S8192x128) o S256x128.size h) (shapeCast S256x128 (addTo y (R2 256 256 a) (R2 256 128 b)) hs))
    (load_rows (φ := .f32) f m o h ho)).trans ?_
  rw [addTo_R2]
  funext x
  refine (put_rows (Val := Elt Ideal) (e := .f32) (R2 8192 128 (φ := .f32) f) (256 * m) o h ho _ x).trans ?_
  split
  · next hx =>
    refine (congrFun (shapeCast_id _ hs) _).trans ?_
    show ((f (256 * m + ((x 0).val - 256 * m)) (x 1).val + _ : ℝ) : EReal) = ((f (x 0).val (x 1).val + _ : ℝ) : EReal)
    rw [if_pos (by omega), show 256 * m + ((x 0).val - 256 * m) = (x 0).val by omega]
    rfl
  · next hx =>
    simp only [R2]
    rw [if_neg (by omega), add_zero]

theorem kept_put_same (X : S8x2x256x256.Idx → Elt Ideal .f32) (o : Fin 4 → ℕ) (h h') (Y : FVec Ideal S256x256 .f32) (hs) :
    kept (F := Ideal) (e := .f32) (put X (Rect.unit (s := S8x2x256x256) o S1x1x256x256.size h) (shapeCast S1x1x256x256 Y hs)) o h' = Y :=
  (congrArg (fun y : S1x1x256x256.Idx → Elt Ideal .f32 => shapeCast S256x256 y shapeCasts_S1x1x256x256_S256x256)
    (funext fun x => put_emb X (Rect.unit (s := S8x2x256x256) o S1x1x256x256.size h) (shapeCast S1x1x256x256 Y hs) x)).trans (shapeCast_shapeCast Y hs _)

theorem kept_put_ne (X : S8x2x256x256.Idx → Elt Ideal .f32) (u l u' l' : ℕ) (o o' : Fin 4 → ℕ) (h h') (ho : o = ![u, l, 0, 0]) (ho' : o' = ![u', l', 0, 0])
    (hne : u ≠ u' ∨ l ≠ l') (Y : S1x1x256x256.Idx → Elt Ideal .f32) :
    kept (F := Ideal) (e := .f32) (put X (Rect.unit (s := S8x2x256x256) o S1x1x256x256.size h) Y) o' h' = kept (F := Ideal) (e := .f32) X o' h' := by
  subst ho ho'
  refine congrArg (fun y : S1x1x256x256.Idx → Elt Ideal .f32 => shapeCast S256x256 y shapeCasts_S1x1x256x256_S256x256) (funext fun x => ?_)
  refine put_of_not_mem X _ _ _ fun y hy => ?_
  have h0 : u + 1 * (y 0).val = u' + 1 * (x 0).val := congrArg (fun z : S8x2x256x256.Idx => (z 0).val) hy
  have h1 : l + 1 * (y 1).val = l' + 1 * (x 1).val := congrArg (fun z : S8x2x256x256.Idx => (z 1).val) hy
  have : (x 0).val < 1 := (x 0).isLt
  have : (x 1).val < 1 := (x 1).isLt
  have : (y 0).val < 1 := (y 0).isLt
  have : (y 1).val < 1 := (y 1).isLt
  omega

theorem left_put_same (X : S32x256x256.Idx → Elt Ideal .f32) (o : Fin 3 → ℕ) (h h') (Y : FVec Ideal S256x256 .f32) (hs) :
    left (F := Ideal) (e := .f32) (put X (Rect.unit (s := S32x256x256) o S1x256x256.size h) (shapeCast S1x256x256 Y hs)) o h' = Y :=
  (congrArg (fun y : S1x256x256.Idx → Elt Ideal .f32 => shapeCast S256x256 y shapeCasts_S1x256x256_S256x256)
    (funext fun x => put_emb X (Rect.unit (s := S32x256x256) o S1x256x256.size h) (shapeCast S1x256x256 Y hs) x)).trans (shapeCast_shapeCast Y hs _)

theorem left_put_ne (X : S32x256x256.Idx → Elt Ideal .f32) (u u' : ℕ) (o o' : Fin 3 → ℕ) (h h') (ho : o = ![u, 0, 0]) (ho' : o' = ![u', 0, 0])
    (hne : u ≠ u') (Y : S1x256x256.Idx → Elt Ideal .f32) :
    left (F := Ideal) (e := .f32) (put X (Rect.unit (s := S32x256x256) o S1x256x256.size h) Y) o' h' = left (F := Ideal) (e := .f32) X o' h' := by
  subst ho ho'
  refine congrArg (fun y : S1x256x256.Idx → Elt Ideal .f32 => shapeCast S256x256 y shapeCasts_S1x256x256_S256x256) (funext fun x => ?_)
  refine put_of_not_mem X _ _ _ fun y hy => ?_
  have h0 : u + 1 * (y 0).val = u' + 1 * (x 0).val := congrArg (fun z : S32x256x256.Idx => (z 0).val) hy
  have : (x 0).val < 1 := (x 0).isLt
  have : (y 0).val < 1 := (y 0).isLt
  omega

theorem whole_emb {Val : EltTy → Type} {e : EltTy} (X w : S8192x128.Idx → Val e) (h) :
    put X (Rect.unit (s := S8192x128) ![0, 0] S8192x128.size h) w = w := by
  funext x
  have hy : (Rect.unit (s := S8192x128) ![0, 0] S8192x128.size h).emb x = x := by
    funext a
    refine Fin.ext ?_
    rw [emb_val]
    match a with
    | 0 => show 0 + 1 * (x 0).val = (x 0).val; omega
    | 1 => show 0 + 1 * (x 1).val = (x 1).val; omega
  exact (congrArg (put X (Rect.unit (s := S8192x128) ![0, 0] S8192x128.size h) w) hy.symm).trans
    (put_emb X (Rect.unit (s := S8192x128) ![0, 0] S8192x128.size h) w x)

theorem zero_put (X : S8192x128.Idx → Elt Ideal .f32) :
    put (Val := Elt Ideal) (e := .f32) X (Rect.unit (s := S8192x128) ![0, 0] S8192x128.size inb_S8192x128_S8192x128_0_0)
      (shapeCast S8192x128 (broadcast S8192x128 (Scalar.ofBits (F := Ideal) .f32 0x00000000#32)) shapeCasts_S8192x128_S8192x128)
      = R2 8192 128 (φ := .f32) (fun _ _ => 0) :=
  (whole_emb (Val := Elt Ideal) (e := .f32) X _ _).trans ((shapeCast_id _ _).trans (zeros_R2 8192 128))

theorem whole_put (X : S8192x128.Idx → Elt Ideal .bf16) (f : ℕ → ℕ → ℝ) (h) :
    put (Val := Elt Ideal) (e := .bf16) X (Rect.unit (s := S8192x128) ![0, 0] S8192x128.size inb_S8192x128_S8192x128_0_0)
      (truncf (F := Ideal) .bf16 (fun x => R2 8192 128 (φ := .f32) f ((Rect.unit (s := S8192x128) ![0, 0] S8192x128.size inb_S8192x128_S8192x128_0_0).toLoadRect.idx x)) h)
      = R2 8192 128 (φ := .bf16) f := by
  refine (whole_emb (Val := Elt Ideal) (e := .bf16) X _ _).trans ?_
  funext x
  show ((f (0 + 1 * (x 0).val) (0 + 1 * (x 1).val) : ℝ) : EReal) = _
  rw [one_mul, one_mul, zero_add, zero_add]
  rfl

end Cert.Sb
-- ==== Proof.SbMath.lean ====
/-
  The stick-breaking gradient of one head in real numbers: the weights, their products with the cotangents, the gradients, and their sums
  over blocks of rows and columns.
-/
module

public import proofs.«01_k».proof.Proof.SbBlocks

@[expose] public section

noncomputable section

namespace Cert.Sb

open Finset

/-- One head's queries, keys, values and cotangents. -/
structure Head where
  q : ℕ → ℕ → ℝ
  k : ℕ → ℕ → ℝ
  v : ℕ → ℕ → ℝ
  d : ℕ → ℕ → ℝ

namespace Head

variable (H : Head)

/-- The products of queries and keys, scaled. -/
def z (i j : ℕ) : ℝ := (∑ a : Fin 128, H.q i a * H.k j a) * scale
/-- The logarithm of what a key leaves of the stick. -/
def g (i j : ℕ) : ℝ := gap (H.z i j)
/-- The sum of those logarithms from column `j` up to the diagonal. -/
def G (i j : ℕ) : ℝ := ∑ j' ∈ Ico j i, H.g i j'
/-- The weights. -/
def w (i j : ℕ) : ℝ := if j < i then Real.exp (H.z i j + H.G i j) else 0
/-- The weights times their cotangents. -/
def e (i j : ℕ) : ℝ := H.w i j * ∑ a : Fin 128, H.d i a * H.v j a
/-- The part that a key takes of what is left of the stick. -/
def β (i j : ℕ) : ℝ := sig (H.z i j)
/-- The sum of the weights times their cotangents before column `j`. -/
def E (i j : ℕ) : ℝ := ∑ j' ∈ range j, H.e i j'
/-- The gradient of the scaled products, times the scale. -/
def ds (i j : ℕ) : ℝ := (if j < i then H.e i j * (1 - H.β i j) - H.β i j * H.E i j else 0) * scale
/-- The queries' gradient from the columns before `t`. -/
def Q (i t a : ℕ) : ℝ := ∑ j ∈ range t, H.ds i j * H.k j a
/-- What a row of the weights adds to the values' gradient. -/
def fV (i j a : ℕ) : ℝ := H.w i j * H.d i a
/-- What a row adds to the keys' gradient. -/
def fK (i j a : ℕ) : ℝ := H.ds i j * H.q i a

theorem sum_range_ite (f : ℕ → ℝ) (c : ℕ) : ∑ k : Fin 256, f k * (if c ≤ k.val then 1 else 0) = ∑ k ∈ Ico c 256, f k := by
  rw [Fin.sum_univ_eq_sum_range (fun k => f k * (if c ≤ k then 1 else 0)) 256]
  simp only [mul_ite, mul_one, mul_zero]
  rw [← sum_filter]
  refine sum_congr (Finset.ext fun k => ?_) fun _ _ => rfl
  simp only [mem_filter, mem_range, mem_Ico]; omega

theorem sum_range_ite' (f : ℕ → ℝ) {c : ℕ} (hc : c ≤ 256) : ∑ k : Fin 256, f k * (if k.val < c then 1 else 0) = ∑ k ∈ range c, f k := by
  rw [Fin.sum_univ_eq_sum_range (fun k => f k * (if k < c then 1 else 0)) 256]
  simp only [mul_ite, mul_one, mul_zero]
  rw [← sum_filter]
  refine sum_congr (Finset.ext fun k => ?_) fun _ _ => rfl
  simp only [mem_filter, mem_range]; omega

/-- The sums of the logarithms in a block to the left of the diagonal. -/
theorem left_sums (n m r c : ℕ) (hm : m < n) (hc : c < 256) :
    (∑ k : Fin 256, H.g (256 * n + r) (256 * m + k) * (if c ≤ k.val then 1 else 0)) + H.G (256 * n + r) (256 * (m + 1)) = H.G (256 * n + r) (256 * m + c) := by
  rw [sum_range_ite (fun k => H.g (256 * n + r) (256 * m + k)), G, G, ← sum_Ico_consecutive _ (show 256 * m + c ≤ 256 * (m + 1) by omega) (show 256 * (m + 1) ≤ 256 * n + r by omega)]
  congr 1
  rw [sum_Ico_add (fun k => H.g (256 * n + r) k) c 256 (256 * m), add_comm c, show 256 + 256 * m = 256 * (m + 1) by omega]

/-- The same in the block on the diagonal. -/
theorem diag_sums (n r c : ℕ) (hr : r < 256) :
    ∑ k : Fin 256, (if k.val < r then H.g (256 * n + r) (256 * n + k) else 0) * (if c ≤ k.val then 1 else 0) = H.G (256 * n + r) (256 * n + c) := by
  rw [sum_range_ite (fun k => if k < r then H.g (256 * n + r) (256 * n + k) else 0), G]
  have : ∑ k ∈ Ico c 256, (if k < r then H.g (256 * n + r) (256 * n + k) else 0) = ∑ k ∈ Ico c r, H.g (256 * n + r) (256 * n + k) := by
    rw [← sum_filter]
    refine sum_congr (Finset.ext fun k => ?_) fun _ _ => rfl
    simp only [mem_filter, mem_Ico]; omega
  rw [this, sum_Ico_add (fun k => H.g (256 * n + r) k) c r (256 * n)]
  rw [add_comm c, add_comm r]

theorem pre_sums (i m c : ℕ) (hc : c ≤ 256) :
    (∑ k : Fin 256, H.e i (256 * m + k) * (if k.val < c then 1 else 0)) + H.E i (256 * m) = H.E i (256 * m + c) := by
  rw [sum_range_ite' (fun k => H.e i (256 * m + k)) hc, E, E, sum_range_add, add_comm]

theorem pre_after (i m : ℕ) :
    H.E i (256 * m) + (∑ k : Fin 256, H.e i (256 * m + k) * (if k.val < 255 then 1 else 0)) + H.e i (256 * m + 255) = H.E i (256 * (m + 1)) := by
  rw [add_comm (H.E i (256 * m)), pre_sums H i m 255 (by omega), E, E, show 256 * (m + 1) = (256 * m + 255) + 1 by omega]
  exact (sum_range_succ _ _).symm

theorem Q_add (i m a : ℕ) : H.Q i (256 * m) a + ∑ j : Fin 256, H.ds i (256 * m + j) * H.k (256 * m + j) a = H.Q i (256 * (m + 1)) a := by
  rw [Fin.sum_univ_eq_sum_range (fun j => H.ds i (256 * m + j) * H.k (256 * m + j) a) 256, Q, Q, show 256 * (m + 1) = 256 * m + 256 by omega, sum_range_add]

end Head

open Classical in
/-- The sum over the blocks `(n, m)` of rows and columns that are `vis`ited. -/
def acc (vis : ℕ → ℕ → Prop) (f : ℕ → ℕ → ℕ → ℝ) (j a : ℕ) : ℝ :=
  ∑ n ∈ range 32, if vis n (j / 256) then ∑ r : Fin 256, f (256 * n + r) j a else 0

theorem acc_congr {vis vis' : ℕ → ℕ → Prop} (h : ∀ n m, n < 32 → (vis n m ↔ vis' n m)) : acc vis = acc vis' := by
  classical
  funext f j a
  refine sum_congr rfl fun n hn => ?_
  exact if_congr (h n (j / 256) (mem_range.mp hn)) rfl rfl

theorem acc_none {vis : ℕ → ℕ → Prop} (h : ∀ n m, n < 32 → ¬ vis n m) (f : ℕ → ℕ → ℕ → ℝ) : acc vis f = fun _ _ => 0 := by
  funext j a
  exact sum_eq_zero fun n hn => if_neg (h n _ (mem_range.mp hn))

theorem acc_add {vis vis' : ℕ → ℕ → Prop} (n m : ℕ) (hn : n < 32) (h : ∀ n' m', n' < 32 → (vis' n' m' ↔ vis n' m' ∨ (n' = n ∧ m' = m))) (h' : ¬ vis n m)
    (f : ℕ → ℕ → ℕ → ℝ) (j a : ℕ) :
    acc vis f j a + (if j / 256 = m then ∑ r : Fin 256, f (256 * n + r) j a else 0) = acc vis' f j a := by
  classical
  unfold acc
  have h2 : (if j / 256 = m then ∑ r : Fin 256, f (256 * n + r) j a else 0)
      = ∑ n' ∈ range 32, if n' = n then (if j / 256 = m then ∑ r : Fin 256, f (256 * n' + r) j a else 0) else 0 := by
    rw [sum_ite_eq' (range 32) n fun n' => if j / 256 = m then ∑ r : Fin 256, f (256 * n' + r) j a else 0, if_pos (mem_range.mpr hn)]
  rw [h2, ← sum_add_distrib]
  refine sum_congr rfl fun n' hn' => ?_
  have := h n' (j / 256) (mem_range.mp hn')
  by_cases h3 : n' = n ∧ j / 256 = m
  · obtain ⟨rfl, rfl⟩ := h3
    rw [if_neg h', if_pos rfl, if_pos rfl, if_pos (this.mpr (.inr ⟨rfl, rfl⟩)), zero_add]
  · rw [show (vis' n' (j / 256)) = vis n' (j / 256) from propext (this.trans (or_iff_left h3))]
    have h4 : (if n' = n then (if j / 256 = m then ∑ r : Fin 256, f (256 * n' + r) j a else 0) else 0) = 0 := by
      split
      · next h5 => exact if_neg fun h6 => h3 ⟨h5, h6⟩
      · rfl
    rw [h4, add_zero]

end Cert.Sb
-- ==== Proof.SbPoint.lean ====
/-
  What one grid point of the stick-breaking gradient computes over the reals: the statements kept along the body.
-/
module

public import proofs.«01_k».proof.Proof.SbRead
public import proofs.«01_k».proof.Proof.SbMath
public import proofs.«01_k».proof.Proof.SbFrame

@[expose] public section

set_option maxRecDepth 16384

noncomputable section

namespace Cert.Sb

open Idealize.ShloMosaic Cert.SbKernelIdeal Cert.Owned
open Cert.SbKernelIdeal.Facts₀ Cert.SbKernelIdeal.Facts

/-! ### The buffers after the stores -/

section After

variable (q d : FVec Ideal S256x128 .bf16) (tri : FVec Ideal S256x256 .bf16) (run : FVec Ideal S256x1 .f32)
    (mz mw : FVec Ideal S256x256 .f32 → FVec Ideal S256x256 .f32) (o1 : Fin 2 → ℕ) (h1 : ∀ a, o1 a + S256x128.size a ≤ S8192x128.size a)
    (o : Fin 4 → ℕ) (ho : ∀ a, o a + S1x1x256x256.size a ≤ S8x2x256x256.size a) (o4 : Fin 3 → ℕ) (h4 : ∀ a, o4 a + S1x256x256.size a ≤ S32x256x256.size a)
    (ds : FVec Ideal S256x256 .bf16) (σ : St Ideal)

theorem afterKept_pe : afterKept q d tri run mz mw o1 h1 o ho σ .pe = put (σ .pe) (Rect.unit (s := S8x2x256x256) o S1x1x256x256.size ho)
      (shapeCast S1x1x256x256 (eOf (keptWeight q tri run mz mw o1 h1 (σ .k)) d (rows8 (F := Ideal) (σ .v) o1 h1)) shapeCasts_S256x256_S1x1x256x256) := by
  rw [afterKept, Function.update_of_ne (by decide), Function.update_of_ne (by decide), Function.update_self]
theorem afterKept_pb : afterKept q d tri run mz mw o1 h1 o ho σ .pb = put (σ .pb) (Rect.unit (s := S8x2x256x256) o S1x1x256x256.size ho)
      (shapeCast S1x1x256x256 (beta (score q (rows8 (F := Ideal) (σ .k) o1 h1))) shapeCasts_S256x256_S1x1x256x256) := by
  rw [afterKept, Function.update_of_ne (by decide), Function.update_self]
theorem afterKept_dv : afterKept q d tri run mz mw o1 h1 o ho σ .dv = put (σ .dv) (Rect.unit (s := S8192x128) o1 S256x128.size h1)
      (shapeCast S256x128 (addTo (fun x => σ .dv ((Rect.unit (s := S8192x128) o1 S256x128.size h1).toLoadRect.idx x))
        (truncf .bf16 (keptWeight q tri run mz mw o1 h1 (σ .k)) bitsLt_bf16_f32) d) shapeCasts_S256x128_S256x128) := by
  rw [afterKept, Function.update_self]
theorem afterKept_dk : afterKept q d tri run mz mw o1 h1 o ho σ .dk = σ .dk := by
  rw [afterKept, Function.update_of_ne (by decide), Function.update_of_ne (by decide), Function.update_of_ne (by decide)]

theorem afterLeft_eb : afterLeft q d tri run o1 h1 o4 h4 σ .eb = put (σ .eb) (Rect.unit (s := S32x256x256) o4 S1x256x256.size h4)
      (shapeCast S1x256x256 (eOf (leftWeight q tri run o1 h1 (σ .k)) d (rows8 (F := Ideal) (σ .v) o1 h1)) shapeCasts_S256x256_S1x256x256) := by
  rw [afterLeft, Function.update_of_ne (by decide), Function.update_of_ne (by decide), Function.update_self]
theorem afterLeft_bb : afterLeft q d tri run o1 h1 o4 h4 σ .bb = put (σ .bb) (Rect.unit (s := S32x256x256) o4 S1x256x256.size h4)
      (shapeCast S1x256x256 (beta (score q (rows8 (F := Ideal) (σ .k) o1 h1))) shapeCasts_S256x256_S1x256x256) := by
  rw [afterLeft, Function.update_of_ne (by decide), Function.update_self]
theorem afterLeft_dv : afterLeft q d tri run o1 h1 o4 h4 σ .dv = put (σ .dv) (Rect.unit (s := S8192x128) o1 S256x128.size h1)
      (shapeCast S256x128 (addTo (fun x => σ .dv ((Rect.unit (s := S8192x128) o1 S256x128.size h1).toLoadRect.idx x))
        (truncf .bf16 (leftWeight q tri run o1 h1 (σ .k)) bitsLt_bf16_f32) d) shapeCasts_S256x128_S256x128) := by
  rw [afterLeft, Function.update_self]
theorem afterLeft_of_ne (b : B) (hb : b ≠ .eb ∧ b ≠ .bb ∧ b ≠ .dv) : afterLeft q d tri run o1 h1 o4 h4 σ b = σ b := by
  rw [afterLeft, Function.update_of_ne hb.2.2, Function.update_of_ne hb.2.1, Function.update_of_ne hb.1]

theorem afterBack_dk : afterBack q ds o1 h1 σ .dk = put (σ .dk) (Rect.unit (s := S8192x128) o1 S256x128.size h1)
    (shapeCast S256x128 (addTo (fun x => σ .dk ((Rect.unit (s := S8192x128) o1 S256x128.size h1).toLoadRect.idx x)) ds q) shapeCasts_S256x128_S256x128) := by
  rw [afterBack, Function.update_self]
theorem afterBack_of_ne (b : B) (hb : b ≠ .dk) : afterBack q ds o1 h1 σ b = σ b := by
  rw [afterBack, Function.update_of_ne hb]

end After

/-! ### The values of a block -/

variable (H : Head)

/-- A query block's row, as a row of the array. -/
theorem score_rows (n m : ℕ) {o1 : Fin 2 → ℕ} {h1} (e1 : o1 = ![256 * m, 0]) :
    score (F := Ideal) (R2 256 128 (fun r a => H.q (256 * n + r) a)) (rows8 (F := Ideal) (e := .bf16) (R2 8192 128 (φ := .bf16) H.k) o1 h1)
      = R2 256 256 (fun r c => H.z (256 * n + r) (256 * m + c)) := by
  rw [rows8_R2 H.k m o1 h1 e1, score_R2]; rfl

theorem beta_rows (n m : ℕ) {o1 : Fin 2 → ℕ} {h1} (e1 : o1 = ![256 * m, 0]) :
    beta (score (F := Ideal) (R2 256 128 (fun r a => H.q (256 * n + r) a)) (rows8 (F := Ideal) (e := .bf16) (R2 8192 128 (φ := .bf16) H.k) o1 h1))
      = R2 256 256 (fun r c => H.β (256 * n + r) (256 * m + c)) := by
  rw [score_rows H n m e1, beta_R2]; rfl

/-- The weights of a block on the diagonal. -/
theorem diag_weight (n : ℕ) {o1 : Fin 2 → ℕ} {h1} (e1 : o1 = ![256 * n, 0]) :
    keptWeight (F := Ideal) (R2 256 128 (fun r a => H.q (256 * n + r) a)) (R2 256 256 (fun i j => if j ≤ i then 1 else 0)) (R2 256 1 (fun _ _ => 0))
        (masked (cmpi .slt colNo rowNo)) (masked (cmpi .slt colNo rowNo)) o1 h1 (R2 8192 128 (φ := .bf16) H.k)
      = R2 256 256 (fun r c => H.w (256 * n + r) (256 * n + c)) := by
  rw [keptWeight, keptSums, score_rows H n n e1, logGap_R2, masked_R2, rowSums_R2, weight_R2, masked_R2]
  refine R2_congr fun r hr c hc => ?_
  refine if_congr (by omega) ?_ rfl
  rw [add_zero]
  exact congrArg (fun x => Real.exp (H.z (256 * n + r) (256 * n + c) + x)) (H.diag_sums n r c hr)

theorem diag_run (n : ℕ) {o1 : Fin 2 → ℕ} {h1} (e1 : o1 = ![256 * n, 0]) :
    runAfter (keptSums (F := Ideal) (R2 256 128 (fun r a => H.q (256 * n + r) a)) (R2 256 256 (fun i j => if j ≤ i then 1 else 0))
        (masked (cmpi .slt colNo rowNo)) o1 h1 (R2 8192 128 (φ := .bf16) H.k)) (R2 256 1 (fun _ _ => 0))
      = R2 256 1 (fun r _ => H.G (256 * n + r) (256 * n)) := by
  rw [keptSums, score_rows H n n e1, logGap_R2, masked_R2, rowSums_R2, runAfter_R2]
  refine R2_congr fun r hr c hc => ?_
  rw [zero_add]
  exact H.diag_sums n r 0 hr

/-- The weights of a block to the left. -/
theorem left_weight (n m : ℕ) (hm : m < n) {o1 : Fin 2 → ℕ} {h1} (e1 : o1 = ![256 * m, 0]) :
    leftWeight (F := Ideal) (R2 256 128 (fun r a => H.q (256 * n + r) a)) (R2 256 256 (fun i j => if j ≤ i then 1 else 0))
        (R2 256 1 (fun r _ => H.G (256 * n + r) (256 * (m + 1)))) o1 h1 (R2 8192 128 (φ := .bf16) H.k)
      = R2 256 256 (fun r c => H.w (256 * n + r) (256 * m + c)) := by
  rw [leftWeight, leftSums, score_rows H n m e1, logGap_R2, rowSums_R2, weight_R2]
  refine R2_congr fun r hr c hc => ?_
  rw [Head.w, if_pos (by omega), ← H.left_sums n m r c hm hc, ← add_assoc]; rfl

theorem left_run (n m : ℕ) (hm : m < n) {o1 : Fin 2 → ℕ} {h1} (e1 : o1 = ![256 * m, 0]) :
    runAfter (leftSums (F := Ideal) (R2 256 128 (fun r a => H.q (256 * n + r) a)) (R2 256 256 (fun i j => if j ≤ i then 1 else 0)) o1 h1 (R2 8192 128 (φ := .bf16) H.k))
        (R2 256 1 (fun r _ => H.G (256 * n + r) (256 * (m + 1))))
      = R2 256 1 (fun r _ => H.G (256 * n + r) (256 * m)) := by
  rw [leftSums, score_rows H n m e1, logGap_R2, rowSums_R2, runAfter_R2]
  refine R2_congr fun r hr c hc => ?_
  rw [add_comm]
  exact H.left_sums n m r 0 hm (by omega)

/-- The weights times their cotangents. -/
theorem e_rows (n m : ℕ) {o1 : Fin 2 → ℕ} {h1} (e1 : o1 = ![256 * m, 0]) :
    eOf (F := Ideal) (R2 256 256 (fun r c => H.w (256 * n + r) (256 * m + c))) (R2 256 128 (fun r a => H.d (256 * n + r) a))
        (rows8 (F := Ideal) (e := .bf16) (R2 8192 128 (φ := .bf16) H.v) o1 h1)
      = R2 256 256 (fun r c => H.e (256 * n + r) (256 * m + c)) := by
  rw [rows8_R2 H.v m o1 h1 e1, eOf_R2]; rfl

/-- The gradient of a block's products. -/
theorem ds_left (n m : ℕ) (hm : m < n) :
    dsOf (F := Ideal) (R2 256 256 (fun i j => if i < j then 1 else 0)) (fun x => x) (R2 256 1 (fun r _ => H.E (256 * n + r) (256 * m)))
        (R2 256 256 (fun r c => H.e (256 * n + r) (256 * m + c))) (R2 256 256 (fun r c => H.β (256 * n + r) (256 * m + c)))
      = R2 256 256 (fun r c => H.ds (256 * n + r) (256 * m + c)) := by
  rw [dsOf, rowSums_R2, dScore_R2, scaled_R2]
  refine R2_congr fun r hr c hc => ?_
  rw [Head.ds, if_pos (by omega), ← H.pre_sums (256 * n + r) m c (by omega)]

theorem ds_diag (n : ℕ) :
    dsOf (F := Ideal) (R2 256 256 (fun i j => if i < j then 1 else 0)) (masked (cmpi .slt colNo rowNo)) (R2 256 1 (fun r _ => H.E (256 * n + r) (256 * n)))
        (R2 256 256 (fun r c => H.e (256 * n + r) (256 * n + c))) (R2 256 256 (fun r c => H.β (256 * n + r) (256 * n + c)))
      = R2 256 256 (fun r c => H.ds (256 * n + r) (256 * n + c)) := by
  rw [dsOf, rowSums_R2, dScore_R2, masked_R2, scaled_R2]
  refine R2_congr fun r hr c hc => ?_
  rw [Head.ds, ← H.pre_sums (256 * n + r) n c (by omega)]
  exact congrArg (· * scale) (if_congr (by omega) rfl rfl)

theorem pre_left (n m : ℕ) :
    preAfter (F := Ideal) (R2 256 256 (fun i j => if i < j then 1 else 0)) (R2 256 1 (fun r _ => H.E (256 * n + r) (256 * m)))
        (R2 256 256 (fun r c => H.e (256 * n + r) (256 * m + c)))
      = R2 256 1 (fun r _ => H.E (256 * n + r) (256 * (m + 1))) := by
  rw [preAfter_R2]
  exact R2_congr fun r hr c hc => H.pre_after (256 * n + r) m

theorem dq_add (n m : ℕ) {o1 : Fin 2 → ℕ} {h1} (e1 : o1 = ![256 * m, 0]) :
    addf (F := Ideal) (R2 256 128 (φ := .f32) (fun r a => H.Q (256 * n + r) (256 * m) a))
        (dqPart (R2 256 256 (fun r c => H.ds (256 * n + r) (256 * m + c))) (rows8 (F := Ideal) (e := .bf16) (R2 8192 128 (φ := .bf16) H.k) o1 h1))
      = R2 256 128 (fun r a => H.Q (256 * n + r) (256 * (m + 1)) a) := by
  rw [rows8_R2 H.k m o1 h1 e1, dqPart_R2, addf_R2]
  exact R2_congr fun r hr c hc => H.Q_add (256 * n + r) m c

/-- A block's rows added to a sum over blocks. -/
theorem put_acc {vis vis' : ℕ → ℕ → Prop} (n m : ℕ) (hn : n < 32) (h : ∀ n' m', n' < 32 → (vis' n' m' ↔ vis n' m' ∨ (n' = n ∧ m' = m))) (h' : ¬ vis n m)
    (a b : ℕ → ℕ → ℝ) {o1 : Fin 2 → ℕ} {h1} (e1 : o1 = ![256 * m, 0]) (hs) :
    put (Val := Elt Ideal) (e := .f32) (R2 8192 128 (φ := .f32) (acc vis fun i j c => a i j * b i c)) (Rect.unit (s := S8192x128) o1 S256x128.size h1)
      (shapeCast S256x128 (addTo (F := Ideal) (fun x => R2 8192 128 (φ := .f32) (acc vis fun i j c => a i j * b i c) ((Rect.unit (s := S8192x128) o1 S256x128.size h1).toLoadRect.idx x))
        (R2 256 256 (fun r c => a (256 * n + r) (256 * m + c))) (R2 256 128 (fun r c => b (256 * n + r) c))) hs)
      = R2 8192 128 (φ := .f32) (acc vis' fun i j c => a i j * b i c) := by
  rw [put_add _ m o1 h1 e1]
  refine R2_congr fun j hj c hc => ?_
  rw [← acc_add n m hn h h' (fun i j c => a i j * b i c) j c]
  congr 1
  split
  · next hm => subst hm; simp only [show 256 * (j / 256) + (j - 256 * (j / 256)) = j by omega]
  · rfl

theorem put_acc_zero {f : ℕ → ℕ → ℝ} (m : ℕ) (b : ℕ → ℕ → ℝ) {o1 : Fin 2 → ℕ} {h1} (e1 : o1 = ![256 * m, 0]) (hs) :
    put (Val := Elt Ideal) (e := .f32) (R2 8192 128 (φ := .f32) f) (Rect.unit (s := S8192x128) o1 S256x128.size h1)
      (shapeCast S256x128 (addTo (F := Ideal) (fun x => R2 8192 128 (φ := .f32) f ((Rect.unit (s := S8192x128) o1 S256x128.size h1).toLoadRect.idx x))
        (R2 256 256 (fun _ _ => 0)) (R2 256 128 b)) hs)
      = R2 8192 128 (φ := .f32) f := by
  rw [put_add _ m o1 h1 e1]
  refine R2_congr fun j hj c hc => ?_
  simp

end Cert.Sb
-- ==== Proof.SbSpec.lean ====
/-
  The statements kept along the body of a grid point, over the reals, and that the body's steps keep them.
-/
module

public import proofs.«01_k».proof.Proof.SbPoint

@[expose] public section

set_option maxRecDepth 16384

noncomputable section

namespace Cert.Sb

open Idealize.ShloMosaic Cert.SbKernelIdeal Cert.Owned Cert.SbRun
open Cert.SbKernelIdeal.Facts₀ Cert.SbKernelIdeal.Facts

variable (H : Head) (I : ℕ)

/-- The blocks of the four arguments at the point `I` of the head `H`. -/
def blocks : St Ideal :=
  state (R2 2048 128 (φ := .bf16) fun r a => H.q (2048 * I + r) a) (R2 8192 128 (φ := .bf16) H.k) (R2 8192 128 (φ := .bf16) H.v)
    (R2 2048 128 (φ := .bf16) fun r a => H.d (2048 * I + r) a) (fun _ => (0 : EReal)) (fun _ => (0 : EReal)) (fun _ => (0 : EReal)) (fun _ => (0 : EReal)) (fun _ => (0 : EReal)) (fun _ => (0 : EReal)) (fun _ => (0 : EReal)) (fun _ => (0 : EReal)) (fun _ => (0 : EReal))

/-- The kept blocks of the `u`-th query block: on the diagonal, and next to it on the left (nothing for the first block of all). -/
structure Kpt (n u : ℕ) (σ : St Ideal) : Prop where
  pe0 : ∀ o h, o = ![u, 0, 0, 0] → kept (F := Ideal) (e := .f32) (σ .pe) o h = R2 256 256 (φ := .f32) (fun r c => H.e (256 * n + r) (256 * n + c))
  pb0 : ∀ o h, o = ![u, 0, 0, 0] → kept (F := Ideal) (e := .f32) (σ .pb) o h = R2 256 256 (φ := .f32) (fun r c => H.β (256 * n + r) (256 * n + c))
  pe1 : ∀ o h, o = ![u, 1, 0, 0] → kept (F := Ideal) (e := .f32) (σ .pe) o h
    = R2 256 256 (φ := .f32) (fun r c => if n = 0 then 0 else H.e (256 * n + r) (256 * (n - 1) + c))
  pb1 : ∀ o h, o = ![u, 1, 0, 0] → kept (F := Ideal) (e := .f32) (σ .pb) o h = R2 256 256 (φ := .f32) (fun r c => H.β (256 * n + r) (256 * (n - 1) + c))

/-- The blocks of the loop to the left, for key block `m`. -/
structure Lft (n m : ℕ) (σ : St Ideal) : Prop where
  eb : ∀ o h, o = ![m, 0, 0] → left (F := Ideal) (e := .f32) (σ .eb) o h = R2 256 256 (φ := .f32) (fun r c => H.e (256 * n + r) (256 * m + c))
  bb : ∀ o h, o = ![m, 0, 0] → left (F := Ideal) (e := .f32) (σ .bb) o h = R2 256 256 (φ := .f32) (fun r c => H.β (256 * n + r) (256 * m + c))

theorem Kpt.congr {n u : ℕ} {σ σ' : St Ideal} (h : Kpt H n u σ) (e : σ' .pe = σ .pe) (b : σ' .pb = σ .pb) : Kpt H n u σ' :=
  ⟨by rw [e]; exact h.pe0, by rw [b]; exact h.pb0, by rw [e]; exact h.pe1, by rw [b]; exact h.pb1⟩

theorem Lft.congr {n m : ℕ} {σ σ' : St Ideal} (h : Lft H n m σ) (e : σ' .eb = σ .eb) (b : σ' .bb = σ .bb) : Lft H n m σ' :=
  ⟨by rw [e]; exact h.eb, by rw [b]; exact h.bb⟩

/-- The blocks whose part of the values' gradient is in the running sum: while the kept blocks are swept. -/
def visV1 (u n m : ℕ) : Prop := m ≤ n ∧ (n < 8 * I ∨ (n < 8 * I + u ∧ n ≤ m + 1))
/-- The same while the blocks to the left are swept. -/
def visV2 (u x n m : ℕ) : Prop := m ≤ n ∧ (n < 8 * I ∨ (n < 8 * I + 8 ∧ n ≤ m + 1) ∨ (n < 8 * I + u ∧ u ≤ 8) ∨ (n = 8 * I + u ∧ u < 8 ∧ n ≤ m + 1 + x))
/-- The blocks whose part of the keys' gradient is in the running sum: while the blocks to the left are swept. -/
def visK1 (u t n m : ℕ) : Prop := m ≤ n ∧ (n < 8 * I ∨ (n < 8 * I + u ∧ m + 1 < n) ∨ (n = 8 * I + u ∧ m < t))
/-- The same while the kept blocks are swept. -/
def visK2 (u n m : ℕ) : Prop := m ≤ n ∧ (n < 8 * I ∨ (n < 8 * I + 8 ∧ m + 1 < n) ∨ n < 8 * I + u)

/-- The running sum of the keys' gradient. -/
abbrev dkOf (vis : ℕ → ℕ → Prop) : FVec Ideal S8192x128 .f32 := R2 8192 128 (acc vis fun i j c => H.ds i j * H.q i c)
/-- The running sum of the values' gradient. -/
abbrev dvOf (vis : ℕ → ℕ → Prop) : FVec Ideal S8192x128 .f32 := R2 8192 128 (acc vis fun i j c => H.w i j * H.d i c)

structure AtA (u : ℕ) (σ : St Ideal) : Prop where
  args : Fixed (blocks H I) σ
  dk : σ .dk = dkOf H (visK1 I 0 0)
  dv : σ .dv = dvOf H (visV1 I u)
  kpt : ∀ u' < u, Kpt H (8 * I + u') u' σ

structure AtPair (u : ℕ) (q d : FVec Ideal S256x128 .bf16) (run : FVec Ideal S256x1 .f32) : Prop where
  q : q = R2 256 128 (fun r a => H.q (256 * (8 * I + u) + r) a)
  d : d = R2 256 128 (fun r a => H.d (256 * (8 * I + u) + r) a)
  run : run = R2 256 1 (fun r _ => H.G (256 * (8 * I + u) + r) (256 * (8 * I + u - 1)))

structure AtBl (u x : ℕ) (σ : St Ideal) : Prop where
  args : Fixed (blocks H I) σ
  dk : σ .dk = dkOf H (visK1 I u 0)
  dv : σ .dv = dvOf H (visV2 I u x)
  kpt : ∀ u' < 8, Kpt H (8 * I + u') u' σ

structure AtW (u x : ℕ) (run : FVec Ideal S256x1 .f32) (σ : St Ideal) : Prop extends AtBl H I u x σ where
  run : run = R2 256 1 (fun r _ => H.G (256 * (8 * I + u) + r) (256 * (8 * I + u - 1 - x)))
  lft : ∀ m, 8 * I + u - 1 - x ≤ m → m < 8 * I + u - 1 → Lft H (8 * I + u) m σ

structure AtJ (u y t : ℕ) (pre : FVec Ideal S256x1 .f32) (dq : FVec Ideal S256x128 .f32) (σ : St Ideal) : Prop where
  all : y = 8 * I + u - 1
  args : Fixed (blocks H I) σ
  dk : σ .dk = dkOf H (visK1 I u t)
  dv : σ .dv = dvOf H (visV2 I (u + 1) 0)
  kpt : ∀ u' < 8, Kpt H (8 * I + u') u' σ
  lft : ∀ m < 8 * I + u - 1, Lft H (8 * I + u) m σ
  pre : pre = R2 256 1 (fun r _ => H.E (256 * (8 * I + u) + r) (256 * t))
  dq : dq = R2 256 128 (fun r a => H.Q (256 * (8 * I + u) + r) (256 * t) a)

structure AtKept (u : ℕ) (pre : FVec Ideal S256x1 .f32) (dq : FVec Ideal S256x128 .f32) : Prop where
  pre : pre = R2 256 1 (fun r _ => H.E (256 * (8 * I + u) + r) (256 * (8 * I + u - 1)))
  dq : dq = R2 256 128 (fun r a => H.Q (256 * (8 * I + u) + r) (256 * (8 * I + u - 1)) a)

/-- The queries' gradient. -/
def Head.dq (i a : ℕ) : ℝ := H.Q i (256 * (i / 256 + 1)) a

structure AtC (u : ℕ) (σ : St Ideal) : Prop where
  args : Fixed (blocks H I) σ
  dk : σ .dk = dkOf H (visK2 I u)
  dv : σ .dv = dvOf H (visV1 (I + 1) 0)
  kpt : ∀ u' < 8, Kpt H (8 * I + u') u' σ
  dq : ∀ x : S2048x128.Idx, (x 0).val < 256 * u → σ .dq x = ((H.dq (2048 * I + (x 0).val) (x 1).val : ℝ) : EReal)

structure AtEnd (σ : St Ideal) : Prop where
  args : Fixed (blocks H I) σ
  dk : σ .dk = dkOf H (visK1 (I + 1) 0 0)
  dv : σ .dv = dvOf H (visV1 (I + 1) 0)
  dq : σ .dq = R2 2048 128 (φ := .bf16) (fun r a => H.dq (2048 * I + r) a)
  dko : I = 3 → σ .dko = R2 8192 128 (φ := .bf16) (acc (visK1 (I + 1) 0 0) fun i j c => H.ds i j * H.q i c)
  dvo : I = 3 → σ .dvo = R2 8192 128 (φ := .bf16) (acc (visV1 (I + 1) 0) fun i j c => H.w i j * H.d i c)

theorem rows_q {σ : St Ideal} (h : Fixed (blocks H I) σ) (u : ℕ) (o h') (e : o = ![256 * u, 0]) :
    rows2 (F := Ideal) (σ .q) o h' = R2 256 128 (φ := .bf16) (fun r a => H.q (256 * (8 * I + u) + r) a) := by
  rw [h.q]
  exact (rows2_R2 (fun r a => H.q (2048 * I + r) a) u o h' e).trans (R2_congr fun r _ a _ => by rw [show 2048 * I + (256 * u + r) = 256 * (8 * I + u) + r by omega])

theorem rows_d {σ : St Ideal} (h : Fixed (blocks H I) σ) (u : ℕ) (o h') (e : o = ![256 * u, 0]) :
    rows2 (F := Ideal) (σ .d) o h' = R2 256 128 (φ := .bf16) (fun r a => H.d (256 * (8 * I + u) + r) a) := by
  rw [h.d]
  exact (rows2_R2 (fun r a => H.d (2048 * I + r) a) u o h' e).trans (R2_congr fun r _ a _ => by rw [show 2048 * I + (256 * u + r) = 256 * (8 * I + u) + r by omega])

/-- The weights of the block next to the diagonal. -/
theorem gated_weight (n : ℕ) {b : BitVec 1} (eb : b = if n = 0 then 0#1 else 1#1) {o2 : Fin 2 → ℕ} {h2} (e2 : o2 = ![256 * (n - 1), 0]) :
    keptWeight (F := Ideal) (R2 256 128 (fun r a => H.q (256 * n + r) a)) (R2 256 256 (fun i j => if j ≤ i then 1 else 0))
        (R2 256 1 (fun r _ => H.G (256 * n + r) (256 * n))) (fun x => x) (gated b) o2 h2 (R2 8192 128 (φ := .bf16) H.k)
      = R2 256 256 (fun r c => if n = 0 then 0 else H.w (256 * n + r) (256 * (n - 1) + c)) := by
  subst eb
  by_cases hn : n = 0
  · rw [keptWeight, keptSums, score_rows H n (n - 1) e2, logGap_R2, rowSums_R2, weight_R2, gated_R2]
    exact R2_congr fun r hr c hc => by rw [if_pos hn, if_pos hn]
  · obtain ⟨m, rfl⟩ : ∃ m, n = m + 1 := ⟨n - 1, by omega⟩
    rw [keptWeight, show gated (F := Ideal) (if m + 1 = 0 then 0#1 else 1#1) = fun x => x from by rw [if_neg hn]; rfl]
    refine (left_weight H (m + 1) m (by omega) (o1 := o2) (h1 := h2) e2).trans (R2_congr fun r hr c hc => ?_)
    rw [if_neg hn]; rfl

theorem gated_run (n : ℕ) {b : BitVec 1} (eb : b = if n = 0 then 0#1 else 1#1) {o2 : Fin 2 → ℕ} {h2} (e2 : o2 = ![256 * (n - 1), 0]) :
    Scalar.select b (runAfter (keptSums (F := Ideal) (R2 256 128 (fun r a => H.q (256 * n + r) a)) (R2 256 256 (fun i j => if j ≤ i then 1 else 0))
        (fun x => x) o2 h2 (R2 8192 128 (φ := .bf16) H.k)) (R2 256 1 (fun r _ => H.G (256 * n + r) (256 * n)))) (R2 256 1 (fun r _ => H.G (256 * n + r) (256 * n)))
      = R2 256 1 (fun r _ => H.G (256 * n + r) (256 * (n - 1))) := by
  subst eb
  by_cases hn : n = 0
  · subst hn; rfl
  · obtain ⟨m, rfl⟩ : ∃ m, n = m + 1 := ⟨n - 1, by omega⟩
    rw [if_neg hn]
    exact left_run H (m + 1) m (by omega) (o1 := o2) (h1 := h2) e2

theorem gated_e (n : ℕ) {o2 : Fin 2 → ℕ} {h2} (e2 : o2 = ![256 * (n - 1), 0]) :
    eOf (F := Ideal) (R2 256 256 (fun r c => if n = 0 then 0 else H.w (256 * n + r) (256 * (n - 1) + c))) (R2 256 128 (fun r a => H.d (256 * n + r) a))
        (rows8 (F := Ideal) (e := .bf16) (R2 8192 128 (φ := .bf16) H.v) o2 h2)
      = R2 256 256 (fun r c => if n = 0 then 0 else H.e (256 * n + r) (256 * (n - 1) + c)) := by
  rw [rows8_R2 H.v (n - 1) o2 h2 e2, eOf_R2]
  refine R2_congr fun r hr c hc => ?_
  by_cases hn : n = 0
  · rw [if_pos hn, if_pos hn, zero_mul]
  · rw [if_neg hn, if_neg hn]; rfl

theorem pair_aux (hI : I < 4) {u : ℕ} (hu : u < 8) {o1 o2 : Fin 2 → ℕ} {h1 h2} {od ol : Fin 4 → ℕ} {hd hl} {b : BitVec 1}
    (e1 : o1 = ![256 * (8 * I + u), 0]) (e2 : o2 = ![256 * (8 * I + u - 1), 0]) (ed : od = ![u, 0, 0, 0]) (el : ol = ![u, 1, 0, 0])
    (eb : b = if 8 * I + u = 0 then 0#1 else 1#1) {σ : St Ideal} (h : AtA H I u σ)
    {q d : FVec Ideal S256x128 .bf16} (hq : q = R2 256 128 (fun r a => H.q (256 * (8 * I + u) + r) a)) (hd' : d = R2 256 128 (fun r a => H.d (256 * (8 * I + u) + r) a))
    {tri : FVec Ideal S256x256 .bf16} (ht : tri = R2 256 256 (fun i j => if j ≤ i then 1 else 0)) {run0 : FVec Ideal S256x1 .f32} (hr : run0 = R2 256 1 (fun _ _ => 0)) :
      let mz := masked (F := Ideal) (cmpi .slt colNo rowNo)
      let σ1 := afterKept q d tri run0 mz mz o1 h1 od hd σ
      let run1 := runAfter (keptSums q tri mz o1 h1 (σ .k)) run0
      AtPair H I u q d (Scalar.select b (runAfter (keptSums q tri (fun x => x) o2 h2 (σ .k)) run1) run1)
        ∧ AtA H I (u + 1) (afterKept q d tri run1 (fun x => x) (gated (F := Ideal) b) o2 h2 ol hl σ1) := by
  intro mz σ1 run1
  subst hq hd' ht hr
  have hk : σ .k = R2 8192 128 (φ := .bf16) H.k := h.args.k
  have hv : σ .v = R2 8192 128 (φ := .bf16) H.v := h.args.v
  have hr1 : run1 = R2 256 1 (fun r _ => H.G (256 * (8 * I + u) + r) (256 * (8 * I + u))) := by
    show runAfter (keptSums _ _ _ o1 h1 (σ .k)) _ = _
    rw [hk]; exact diag_run H (8 * I + u) e1
  clear_value run1
  subst hr1
  have hf1 : Fixed (blocks H I) σ1 := h.args.afterKept
  have hk1 : σ1 .k = R2 8192 128 (φ := .bf16) H.k := hf1.k
  have hv1 : σ1 .v = R2 8192 128 (φ := .bf16) H.v := hf1.v
  have pe1 : σ1 .pe = put (σ .pe) (Rect.unit (s := S8x2x256x256) od S1x1x256x256.size hd)
      (shapeCast S1x1x256x256 (R2 256 256 (φ := .f32) (fun r c => H.e (256 * (8 * I + u) + r) (256 * (8 * I + u) + c))) shapeCasts_S256x256_S1x1x256x256) := by
    refine (afterKept_pe _ _ _ _ _ _ _ _ _ _ σ).trans ?_
    rw [hk, hv, diag_weight H _ e1, e_rows H _ _ e1]
  have pb1 : σ1 .pb = put (σ .pb) (Rect.unit (s := S8x2x256x256) od S1x1x256x256.size hd)
      (shapeCast S1x1x256x256 (R2 256 256 (φ := .f32) (fun r c => H.β (256 * (8 * I + u) + r) (256 * (8 * I + u) + c))) shapeCasts_S256x256_S1x1x256x256) := by
    refine (afterKept_pb _ _ _ _ _ _ _ _ _ _ σ).trans ?_
    rw [hk, beta_rows H _ _ e1]
  have dv1 : σ1 .dv = dvOf H (fun n' m' => visV1 I u n' m' ∨ (n' = 8 * I + u ∧ m' = 8 * I + u)) := by
    refine (afterKept_dv _ _ _ _ _ _ _ _ _ _ σ).trans ?_
    rw [hk, diag_weight H _ e1, h.dv]
    exact put_acc (8 * I + u) (8 * I + u) (by omega) (fun _ _ _ => Iff.rfl) (by simp only [visV1]; omega) H.w H.d e1 _
  have dk1 : σ1 .dk = dkOf H (visK1 I 0 0) := (afterKept_dk _ _ _ _ _ _ _ _ _ _ σ).trans h.dk
  clear_value σ1
  refine ⟨⟨rfl, rfl, ?_⟩, ⟨hf1.afterKept, ?_, ?_, ?_⟩⟩
  · rw [hk]; exact gated_run H _ eb e2
  · exact (afterKept_dk _ _ _ _ _ _ _ _ _ _ σ1).trans dk1
  · refine (afterKept_dv _ _ _ _ _ _ _ _ _ _ σ1).trans ?_
    rw [hk1, gated_weight H _ eb e2, dv1]
    by_cases hn : 8 * I + u = 0
    · simp only [if_pos hn]
      refine (put_acc_zero (8 * I + u - 1) _ e2 _).trans ?_
      rw [dvOf, acc_congr]
      intro n m _; simp only [visV1]; omega
    · simp only [if_neg hn]
      exact put_acc (8 * I + u) (8 * I + u - 1) (by omega) (by intro n m _; simp only [visV1]; omega) (by simp only [visV1]; omega) H.w H.d e2 _
  · intro u' hu'
    have pe2 := afterKept_pe (R2 256 128 (fun r a => H.q (256 * (8 * I + u) + r) a)) (R2 256 128 (fun r a => H.d (256 * (8 * I + u) + r) a))
      (R2 256 256 (fun i j => if j ≤ i then 1 else 0)) (R2 256 1 (fun r _ => H.G (256 * (8 * I + u) + r) (256 * (8 * I + u)))) (fun x => x) (gated (F := Ideal) b) o2 h2 ol hl σ1
    have pb2 := afterKept_pb (R2 256 128 (fun r a => H.q (256 * (8 * I + u) + r) a)) (R2 256 128 (fun r a => H.d (256 * (8 * I + u) + r) a))
      (R2 256 256 (fun i j => if j ≤ i then 1 else 0)) (R2 256 1 (fun r _ => H.G (256 * (8 * I + u) + r) (256 * (8 * I + u)))) (fun x => x) (gated (F := Ideal) b) o2 h2 ol hl σ1
    rw [hk1, hv1, gated_weight H _ eb e2, gated_e H _ e2, pe1] at pe2
    rw [hk1, beta_rows H _ _ e2, pb1] at pb2
    by_cases hu2 : u' = u
    · subst hu2
      constructor
      · intro o h' e
        rw [pe2, kept_put_ne _ u' 1 u' 0 _ _ hl h' el e (by omega)]
        subst ed e; exact kept_put_same _ _ _ _ _ _
      · intro o h' e
        rw [pb2, kept_put_ne _ u' 1 u' 0 _ _ hl h' el e (by omega)]
        subst ed e; exact kept_put_same _ _ _ _ _ _
      · intro o h' e
        rw [pe2]
        subst el e; exact kept_put_same _ _ _ _ _ _
      · intro o h' e
        rw [pb2]
        subst el e; exact kept_put_same _ _ _ _ _ _
    · have hK := h.kpt u' (by omega)
      constructor
      · intro o h' e
        rw [pe2, kept_put_ne _ u 1 u' 0 _ _ hl h' el e (by omega), kept_put_ne _ u 0 u' 0 _ _ hd h' ed e (by omega)]; exact hK.pe0 o h' e
      · intro o h' e
        rw [pb2, kept_put_ne _ u 1 u' 0 _ _ hl h' el e (by omega), kept_put_ne _ u 0 u' 0 _ _ hd h' ed e (by omega)]; exact hK.pb0 o h' e
      · intro o h' e
        rw [pe2, kept_put_ne _ u 1 u' 1 _ _ hl h' el e (by omega), kept_put_ne _ u 0 u' 1 _ _ hd h' ed e (by omega)]; exact hK.pe1 o h' e
      · intro o h' e
        rw [pb2, kept_put_ne _ u 1 u' 1 _ _ hl h' el e (by omega), kept_put_ne _ u 0 u' 1 _ _ hd h' ed e (by omega)]; exact hK.pb1 o h' e

end Cert.Sb
-- ==== Proof.SbIdeal.lean ====
/-
  The body of a grid point over the reals: the later steps, and all of them together.
-/
module

public import proofs.«01_k».proof.Proof.SbSpec

@[expose] public section

set_option maxRecDepth 16384

noncomputable section

namespace Cert.Sb

open Idealize.ShloMosaic Cert.SbKernelIdeal Cert.Owned Cert.SbRun
open Cert.SbKernelIdeal.Facts₀ Cert.SbKernelIdeal.Facts

variable (H : Head) (I : ℕ)

theorem left_aux (hI : I < 4) {u : ℕ} (hu : u < 8) {q d : FVec Ideal S256x128 .bf16} {run0 : FVec Ideal S256x1 .f32} (hp : AtPair H I u q d run0)
    {x : ℕ} (hx : x < 8 * I + u - 1) {o3 : Fin 2 → ℕ} {h3} {o4 : Fin 3 → ℕ} {h4} (e3 : o3 = ![256 * (8 * I + u - 2 - x), 0]) (e4 : o4 = ![8 * I + u - 2 - x, 0, 0])
    {run : FVec Ideal S256x1 .f32} {σ : St Ideal} (h : AtW H I u x run σ) {tri : FVec Ideal S256x256 .bf16} (ht : tri = R2 256 256 (fun i j => if j ≤ i then 1 else 0)) :
    AtW H I u (x + 1) (runAfter (leftSums q tri o3 h3 (σ .k)) run) (afterLeft q d tri run o3 h3 o4 h4 σ) := by
  obtain ⟨rfl, rfl, -⟩ := hp
  subst ht
  have hk : σ .k = R2 8192 128 (φ := .bf16) H.k := h.args.k
  have hv : σ .v = R2 8192 128 (φ := .bf16) H.v := h.args.v
  obtain rfl : run = R2 256 1 (fun r _ => H.G (256 * (8 * I + u) + r) (256 * (8 * I + u - 2 - x + 1))) := by
    rw [h.run, show 8 * I + u - 1 - x = 8 * I + u - 2 - x + 1 by omega]
  have hm : 8 * I + u - 2 - x < 8 * I + u := by omega
  have eb := afterLeft_eb (R2 256 128 (fun r a => H.q (256 * (8 * I + u) + r) a)) (R2 256 128 (fun r a => H.d (256 * (8 * I + u) + r) a))
    (R2 256 256 (fun i j => if j ≤ i then 1 else 0)) (R2 256 1 (fun r _ => H.G (256 * (8 * I + u) + r) (256 * (8 * I + u - 2 - x + 1)))) o3 h3 o4 h4 σ
  have bb := afterLeft_bb (R2 256 128 (fun r a => H.q (256 * (8 * I + u) + r) a)) (R2 256 128 (fun r a => H.d (256 * (8 * I + u) + r) a))
    (R2 256 256 (fun i j => if j ≤ i then 1 else 0)) (R2 256 1 (fun r _ => H.G (256 * (8 * I + u) + r) (256 * (8 * I + u - 2 - x + 1)))) o3 h3 o4 h4 σ
  rw [hk, hv, left_weight H _ _ hm e3, e_rows H _ _ e3] at eb
  rw [hk, beta_rows H _ _ e3] at bb
  refine ⟨⟨h.args.afterLeft, ?_, ?_, fun u' hu' => (h.kpt u' hu').congr H ?_ ?_⟩, ?_, ?_⟩
  · exact (afterLeft_of_ne _ _ _ _ _ _ _ _ σ _ (by decide)).trans h.dk
  · refine (afterLeft_dv _ _ _ _ _ _ _ _ σ).trans ?_
    rw [hk, left_weight H _ _ hm e3, h.dv]
    exact put_acc (8 * I + u) (8 * I + u - 2 - x) (by omega) (by intro n m _; simp only [visV2]; omega) (by simp only [visV2]; omega) H.w H.d e3 _
  · exact afterLeft_of_ne _ _ _ _ _ _ _ _ σ _ (by decide)
  · exact afterLeft_of_ne _ _ _ _ _ _ _ _ σ _ (by decide)
  · rw [hk, left_run H _ _ hm e3, show 8 * I + u - 1 - (x + 1) = 8 * I + u - 2 - x by omega]
  · intro m hm1 hm2
    by_cases hmx : m = 8 * I + u - 2 - x
    · subst hmx
      constructor
      · intro o h' e
        rw [eb]; subst e4 e; exact left_put_same _ _ _ _ _ _
      · intro o h' e
        rw [bb]; subst e4 e; exact left_put_same _ _ _ _ _ _
    · have hL := h.lft m (by omega) hm2
      constructor
      · intro o h' e
        rw [eb, left_put_ne _ _ m _ _ h4 h' e4 e (by omega)]; exact hL.eb o h' e
      · intro o h' e
        rw [bb, left_put_ne _ _ m _ _ h4 h' e4 e (by omega)]; exact hL.bb o h' e

theorem right0_aux {u : ℕ} (hu : u < 8) {y : ℕ} (hy : y ≤ 8 * I + u - 1) {run : FVec Ideal S256x1 .f32} {σ : St Ideal} (h : AtW H I u y run σ)
    (hg : y = 8 * I + u - 1 ∨ ¬ go run) :
    AtJ H I u y 0 (broadcast S256x1 (Scalar.ofBits (F := Ideal) .f32 0x00000000#32)) (broadcast S256x128 (Scalar.ofBits (F := Ideal) .f32 0x00000000#32)) σ := by
  have hy' : y = 8 * I + u - 1 := by
    refine hg.resolve_right fun hn => hn ?_
    rw [h.run]; exact go_R2 _
  subst hy'
  refine ⟨rfl, h.args, h.dk, ?_, h.kpt, fun m hm => h.lft m (by omega) hm, ?_, ?_⟩
  · rw [h.dv, dvOf, dvOf, acc_congr]
    intro n m _; simp only [visV2]; omega
  · refine (zeros_R2 256 1).trans (R2_congr fun r _ c _ => ?_)
    simp [Head.E]
  · refine (zeros_R2 256 128).trans (R2_congr fun r _ c _ => ?_)
    simp [Head.Q]

theorem right_aux (hI : I < 4) {u : ℕ} (hu : u < 8) {q d : FVec Ideal S256x128 .bf16} {run0 : FVec Ideal S256x1 .f32} (hp : AtPair H I u q d run0)
    {y t : ℕ} (hty : t < y) {o5 : Fin 3 → ℕ} {h5} {o6 : Fin 2 → ℕ} {h6} (e5 : o5 = ![8 * I + u - 1 - y + t, 0, 0]) (e6 : o6 = ![256 * (8 * I + u - 1 - y + t), 0])
    {pre : FVec Ideal S256x1 .f32} {dq : FVec Ideal S256x128 .f32} {σ : St Ideal} (h : AtJ H I u y t pre dq σ)
    {trix : FVec Ideal S256x256 .bf16} (ht : trix = R2 256 256 (fun i j => if i < j then 1 else 0)) :
    let ds := dsOf trix (fun x => x) pre (left (F := Ideal) (σ .eb) o5 h5) (left (F := Ideal) (σ .bb) o5 h5)
    AtJ H I u y (t + 1) (preAfter trix pre (left (F := Ideal) (σ .eb) o5 h5)) (addf dq (dqPart ds (rows8 (F := Ideal) (σ .k) o6 h6))) (afterBack q ds o6 h6 σ) := by
  intro ds
  obtain ⟨rfl, rfl, -⟩ := hp
  subst ht
  have hy := h.all
  have hk : σ .k = R2 8192 128 (φ := .bf16) H.k := h.args.k
  rw [show 8 * I + u - 1 - y + t = t by omega] at e5 e6
  have hL := h.lft t (by omega)
  obtain rfl := h.pre
  obtain rfl := h.dq
  have hds : ds = R2 256 256 (fun r c => H.ds (256 * (8 * I + u) + r) (256 * t + c)) := by
    show dsOf (F := Ideal) _ _ _ (left (F := Ideal) (e := .f32) (σ .eb) o5 h5) (left (F := Ideal) (e := .f32) (σ .bb) o5 h5) = _
    rw [hL.eb o5 h5 e5, hL.bb o5 h5 e5]
    exact ds_left H _ _ (by omega)
  clear_value ds
  subst hds
  refine ⟨h.all, h.args.afterBack, ?_, ?_, fun u' hu' => (h.kpt u' hu').congr H ?_ ?_, fun m hm => (h.lft m hm).congr H ?_ ?_, ?_, ?_⟩
  · refine (afterBack_dk _ _ _ _ σ).trans ?_
    rw [h.dk]
    exact put_acc (8 * I + u) t (by omega) (by intro n m _; simp only [visK1]; omega) (by simp only [visK1]; omega) H.ds H.q e6 _
  · exact (afterBack_of_ne _ _ _ _ σ _ (by decide)).trans h.dv
  · exact afterBack_of_ne _ _ _ _ σ _ (by decide)
  · exact afterBack_of_ne _ _ _ _ σ _ (by decide)
  · exact afterBack_of_ne _ _ _ _ σ _ (by decide)
  · exact afterBack_of_ne _ _ _ _ σ _ (by decide)
  · rw [hL.eb o5 h5 e5]; exact pre_left H _ _
  · rw [hk]; exact dq_add H _ _ e6

theorem back_aux (hI : I < 4) {u : ℕ} (hu : u < 8) {q d : FVec Ideal S256x128 .bf16} {run : FVec Ideal S256x1 .f32} (hp : AtPair H I u q d run)
    {pre : FVec Ideal S256x1 .f32} {dq : FVec Ideal S256x128 .f32} (hK : AtKept H I u pre dq) {oq : Fin 2 → ℕ} {hq}
    {o1 o2 : Fin 2 → ℕ} {h1 h2} {od ol : Fin 4 → ℕ} {hd hl} {b : BitVec 1} (eq : oq = ![256 * u, 0])
    (e1 : o1 = ![256 * (8 * I + u), 0]) (e2 : o2 = ![256 * (8 * I + u - 1), 0]) (ed : od = ![u, 0, 0, 0]) (el : ol = ![u, 1, 0, 0])
    (eb : b = if 8 * I + u = 0 then 0#1 else 1#1) {σ : St Ideal} (h : AtC H I u σ)
    {trix : FVec Ideal S256x256 .bf16} (ht : trix = R2 256 256 (fun i j => if i < j then 1 else 0)) :
      let ds1 := dsOf trix (gated (F := Ideal) b) pre (kept (F := Ideal) (σ .pe) ol hl) (kept (F := Ideal) (σ .pb) ol hl)
      let σ1 := afterBack q ds1 o2 h2 σ
      let pre1 := preAfter trix pre (kept (F := Ideal) (σ .pe) ol hl)
      let ds2 := dsOf trix (masked (F := Ideal) (cmpi .slt colNo rowNo)) pre1 (kept (F := Ideal) (σ .pe) od hd) (kept (F := Ideal) (σ .pb) od hd)
      let σ2 := afterBack q ds2 o1 h1 σ1
      AtC H I (u + 1) (Function.update σ2 .dq (put (σ .dq) (Rect.unit (s := S2048x128) oq S256x128.size hq)
        (truncf .bf16 (addf (addf dq (dqPart ds1 (rows8 (F := Ideal) (σ .k) o2 h2)))
          (dqPart ds2 (rows8 (F := Ideal) (σ .k) o1 h1))) bitsLt_bf16_f32))) := by
  intro ds1 σ1 pre1 ds2 σ2
  obtain ⟨rfl, rfl, -⟩ := hp
  obtain ⟨rfl, rfl⟩ := hK
  subst ht
  have hk : σ .k = R2 8192 128 (φ := .bf16) H.k := h.args.k
  have hKp := h.kpt u hu
  have hds1 : ds1 = R2 256 256 (fun r c => if 8 * I + u = 0 then 0 else H.ds (256 * (8 * I + u) + r) (256 * (8 * I + u - 1) + c)) := by
    show dsOf (F := Ideal) _ (gated (F := Ideal) b) _ (kept (F := Ideal) (e := .f32) (σ .pe) ol hl) (kept (F := Ideal) (e := .f32) (σ .pb) ol hl) = _
    rw [hKp.pe1 ol hl el, hKp.pb1 ol hl el]
    subst eb
    by_cases hn : 8 * I + u = 0
    · rw [dsOf, rowSums_R2, dScore_R2, gated_R2, scaled_R2]
      refine R2_congr fun r _ c _ => ?_
      rw [if_pos hn, if_pos hn, zero_mul]
    · simp only [if_neg hn]
      exact ds_left H (8 * I + u) (8 * I + u - 1) (by omega)
  have hpre1 : pre1 = R2 256 1 (fun r _ => H.E (256 * (8 * I + u) + r) (256 * (8 * I + u))) := by
    show preAfter (F := Ideal) (R2 256 256 (fun i j => if i < j then 1 else 0)) (R2 256 1 (fun r _ => H.E (256 * (8 * I + u) + r) (256 * (8 * I + u - 1)))) (kept (F := Ideal) (e := .f32) (σ .pe) ol hl) = _
    rw [hKp.pe1 ol hl el]
    by_cases hn : 8 * I + u = 0
    · rw [preAfter_R2]
      refine R2_congr fun r _ c _ => ?_
      simp [hn]
    · simp only [if_neg hn]
      refine (pre_left H (8 * I + u) (8 * I + u - 1)).trans (R2_congr fun r _ c _ => ?_)
      rw [show 8 * I + u - 1 + 1 = 8 * I + u by omega]
  clear_value pre1
  subst hpre1
  have hds2 : ds2 = R2 256 256 (fun r c => H.ds (256 * (8 * I + u) + r) (256 * (8 * I + u) + c)) := by
    show dsOf (F := Ideal) _ _ _ (kept (F := Ideal) (e := .f32) (σ .pe) od hd) (kept (F := Ideal) (e := .f32) (σ .pb) od hd) = _
    rw [hKp.pe0 od hd ed, hKp.pb0 od hd ed]
    exact ds_diag H _
  have hdk1 : σ1 .dk = dkOf H (fun n m => visK2 I u n m ∨ (n = 8 * I + u ∧ m = 8 * I + u - 1 ∧ n ≠ 0)) := by
    refine (afterBack_dk _ _ _ _ σ).trans ?_
    rw [hds1, h.dk]
    by_cases hn : 8 * I + u = 0
    · simp only [if_pos hn]
      refine (put_acc_zero (8 * I + u - 1) _ e2 _).trans ?_
      rw [dkOf, acc_congr]
      intro n m _; simp only [visK2]; omega
    · simp only [if_neg hn]
      exact put_acc (8 * I + u) (8 * I + u - 1) (by omega) (by intro n m _; simp only [visK2]; omega) (by simp only [visK2]; omega) H.ds H.q e2 _
  have hdk2 : σ2 .dk = dkOf H (visK2 I (u + 1)) := by
    refine (afterBack_dk _ _ _ _ σ1).trans ?_
    rw [hds2, hdk1]
    exact put_acc (8 * I + u) (8 * I + u) (by omega) (by intro n m _; simp only [visK2]; omega) (by simp only [visK2]; omega) H.ds H.q e1 _
  have hne : ∀ b : B, b ≠ .dk → σ2 b = σ b := fun b hb => (afterBack_of_ne _ _ _ _ σ1 b hb).trans (afterBack_of_ne _ _ _ _ σ b hb)
  have hf2 : Fixed (blocks H I) σ2 := h.args.afterBack.afterBack
  clear_value σ2
  have hdq : truncf (F := Ideal) .bf16 (addf (addf (R2 256 128 (φ := .f32) (fun r a => H.Q (256 * (8 * I + u) + r) (256 * (8 * I + u - 1)) a)) (dqPart ds1 (rows8 (F := Ideal) (σ .k) o2 h2)))
          (dqPart ds2 (rows8 (F := Ideal) (σ .k) o1 h1))) bitsLt_bf16_f32 = R2 256 128 (φ := .bf16) (fun r a => H.Q (256 * (8 * I + u) + r) (256 * (8 * I + u + 1)) a) := by
    have : addf (F := Ideal) (R2 256 128 (φ := .f32) (fun r a => H.Q (256 * (8 * I + u) + r) (256 * (8 * I + u - 1)) a)) (dqPart ds1 (rows8 (F := Ideal) (σ .k) o2 h2))
        = R2 256 128 (φ := .f32) (fun r a => H.Q (256 * (8 * I + u) + r) (256 * (8 * I + u)) a) := by
      rw [hds1, hk]
      by_cases hn : 8 * I + u = 0
      · simp only [if_pos hn]
        rw [rows8_R2 H.k _ o2 h2 e2, dqPart_R2, addf_R2]
        refine R2_congr fun r _ c _ => ?_
        simp [hn]
      · simp only [if_neg hn]
        refine (dq_add H (8 * I + u) (8 * I + u - 1) e2).trans (R2_congr fun r _ c _ => ?_)
        rw [show 8 * I + u - 1 + 1 = 8 * I + u by omega]
    rw [this, hds2, hk, dq_add H _ _ e1, truncf_R2]
  refine ⟨hf2.update .dq (by decide) _, ?_, ?_, fun u' hu' => (h.kpt u' hu').congr H ?_ ?_, ?_⟩
  · exact (Function.update_of_ne (by decide) _ _).trans hdk2
  · exact (Function.update_of_ne (by decide) _ _).trans ((hne _ (by decide)).trans h.dv)
  · exact (Function.update_of_ne (by decide) _ _).trans (hne _ (by decide))
  · exact (Function.update_of_ne (by decide) _ _).trans (hne _ (by decide))
  · intro x hx
    refine (congrFun (Function.update_self (β := fun b : B => (shp b).Idx → Elt Ideal (elt b)) B.dq _ _) x).trans ?_
    rw [hdq]
    refine (put_rows (Val := Elt Ideal) (e := .bf16) (N := 2048) (σ .dq) (256 * u) oq hq eq (R2 256 128 (φ := .bf16) _) x).trans ?_
    split
    · next hx' =>
      show ((H.Q (256 * (8 * I + u) + ((x 0).val - 256 * u)) (256 * (8 * I + u + 1)) (x 1).val : ℝ) : EReal) = _
      rw [Head.dq, show 256 * (8 * I + u) + ((x 0).val - 256 * u) = 2048 * I + (x 0).val by omega,
        show (2048 * I + (x 0).val) / 256 = 8 * I + u by omega]
    · next hx' => exact h.dq x (by omega)

theorem finish_aux {σ : St Ideal} (h : AtC H I 8 σ) :
    Fixed (blocks H I) σ ∧ σ .dk = dkOf H (visK1 (I + 1) 0 0) ∧ σ .dv = dvOf H (visV1 (I + 1) 0)
      ∧ σ .dq = R2 2048 128 (φ := .bf16) (fun r a => H.dq (2048 * I + r) a) := by
  refine ⟨h.args, ?_, h.dv, ?_⟩
  · rw [h.dk, dkOf, dkOf, acc_congr]
    intro n m _; simp only [visK1, visK2]; omega
  · funext x
    exact h.dq x (show (x 0).val < 256 * 8 from (x 0).isLt)

/-- What holds before the body: the arguments' blocks are the head's, and after a head's first point the running sums are those so far. -/
structure AtStart (σ : St Ideal) : Prop where
  args : Fixed (blocks H I) σ
  dk : I ≠ 0 → σ .dk = dkOf H (visK1 I 0 0)
  dv : I ≠ 0 → σ .dv = dvOf H (visV1 I 0)

/-- The body of grid point `i` over the reals, on the data of the head `H`. -/
def idealSpec (i : grid0.Coords) (hi : (i 1).val = I) : Spec (F := Ideal) i where
  Start := AtStart H I
  A := AtA H I
  Pair := AtPair H I
  Bl u σ := AtBl H I u 0 σ
  W := AtW H I
  J := AtJ H I
  Kept := AtKept H I
  C := AtC H I
  End := AtEnd H I
  reset0 h0 σ h := by
    obtain rfl : I = 0 := by omega
    refine ⟨h.args.afterReset, ?_, ?_, fun u hu => absurd hu (by omega)⟩
    · refine (Function.update_of_ne (by decide) _ _).trans ((Function.update_self _ _ _).trans ((zero_put _).trans ?_))
      rw [dkOf, acc_none]; intro n m _; simp only [visK1]; omega
    · refine (Function.update_self _ _ _).trans ((zero_put _).trans ?_)
      rw [dvOf, acc_none]; intro n m _; simp only [visV1]; omega
  reset1 h0 σ h := ⟨h.args, h.dk (by omega), h.dv (by omega), fun u hu => absurd hu (by omega)⟩
  pair := by
    subst hi
    intro u hu oq hq o1 h1 o2 h2 od hd ol hl b eq e1 e2 ed el eb σ h
    exact pair_aux H _ (show (i 1).val < 4 from (i 1).isLt) hu e1 e2 ed el eb h (rows_q H _ h.args u oq hq eq) (rows_d H _ h.args u oq hq eq) ones_sge (zeros_R2 256 1)
  mid σ h := by
    refine ⟨h.args, h.dk, ?_, h.kpt⟩
    rw [h.dv, dvOf, dvOf, acc_congr]
    intro n m _; simp only [visV1, visV2]; omega
  left0 u hu q d run σ hp h := ⟨h, hp.run, fun m h1 h2 => by omega⟩
  leftS := by
    subst hi
    intro u hu q d run0 hp x hx o3 h3 o4 h4 e3 e4 run σ h
    exact left_aux H _ (show (i 1).val < 4 from (i 1).isLt) hu hp hx e3 e4 h ones_sge
  right0 := by
    subst hi
    exact fun u hu y hy run σ h hg => right0_aux H _ hu hy h hg
  rightS := by
    subst hi
    intro u hu q d run0 hp y hy t ht o5 h5 o6 h6 e5 e6 pre dq σ h
    exact right_aux H _ (show (i 1).val < 4 from (i 1).isLt) hu hp ht e5 e6 h ones_slt
  rightE u hu y hy pre dq σ h := by
    have hy' := h.all
    subst hy'
    refine ⟨⟨h.pre, h.dq⟩, h.args, ?_, h.dv, h.kpt⟩
    rw [h.dk, dkOf, dkOf, acc_congr]
    intro n m _; simp only [visK1]; omega
  mid2 σ h := by
    refine ⟨h.args, ?_, ?_, h.kpt, fun x hx => absurd hx (by omega)⟩
    · rw [h.dk, dkOf, dkOf, acc_congr]
      intro n m _; simp only [visK1, visK2]; omega
    · rw [h.dv, dvOf, dvOf, acc_congr]
      intro n m _; simp only [visV1, visV2]; omega
  back := by
    subst hi
    intro u hu q d run pre dq hp hK oq hq o1 h1 o2 h2 od hd ol hl b eq e1 e2 ed el eb σ h
    exact back_aux H _ (show (i 1).val < 4 from (i 1).isLt) hu hp hK eq e1 e2 ed el eb h ones_slt
  finish1 h3 σ h := by
    obtain ⟨hf, hdk, hdv, hdq⟩ := finish_aux H I h
    refine ⟨hf.afterFinish, (Function.update_of_ne (by decide) _ _).trans ((Function.update_of_ne (by decide) _ _).trans hdk),
      (Function.update_of_ne (by decide) _ _).trans ((Function.update_of_ne (by decide) _ _).trans hdv),
      (Function.update_of_ne (by decide) _ _).trans ((Function.update_of_ne (by decide) _ _).trans hdq), fun _ => ?_, fun _ => ?_⟩
    · refine (Function.update_of_ne (by decide) _ _).trans ((Function.update_self _ _ _).trans ?_)
      rw [hdk]; exact whole_put _ _ _
    · refine (Function.update_self _ _ _).trans ?_
      rw [hdv]; exact whole_put _ _ _
  finish0 h3 σ h := by
    obtain ⟨hf, hdk, hdv, hdq⟩ := finish_aux H I h
    exact ⟨hf, hdk, hdv, hdq, fun hc => absurd hc (by omega), fun hc => absurd hc (by omega)⟩

end Cert.Sb
-- ==== Proof.SbValue.lean ====
/-
  What the stick-breaking gradient's call leaves in its three arrays, over the reals.
-/
module

public import Idealize.ShloMosaic.Lib.Pipeline.ValueKit
public import Idealize.ShloMosaic.Lib.Pipeline.ArrRel
public import Idealize.ShloMosaic.Lib.Pointwise
public import proofs.«01_k».proof.Proof.SbIdeal

@[expose] public section

set_option maxRecDepth 16384

noncomputable section

namespace Cert.SbRun

open Idealize.ShloMosaic Idealize.ShloMosaic.TcCoe Idealize.ShloMosaic.Tactic Idealize.ShloMosaic.Pipeline
open Cert.SbKernelIdeal Cert.SbKernelIdeal.Gen Cert.Owned Cert.Sb

/-- The data of the `h`-th head. -/
def headOf (X Y : ℕ → ℕ → ℝ) (h : ℕ) : Head :=
  ⟨fun i a => X i (128 * h + a), fun i a => X i (1024 + 128 * h + a), fun i a => X i (2048 + 128 * h + a), fun i a => Y i (128 * h + a)⟩

/-- Each window's block at each grid point. -/
theorem idx (t : Fin grid0.N) : win0_0.index t = ![t.val % 4, t.val / 4] ∧ win0_1.index t = ![0, 8 + t.val / 4] ∧ win0_2.index t = ![0, 16 + t.val / 4]
    ∧ win0_3.index t = ![t.val % 4, t.val / 4] ∧ win0_4.index t = ![t.val % 4, t.val / 4] ∧ win0_5.index t = ![0, t.val / 4] ∧ win0_6.index t = ![0, t.val / 4] := by
  revert t; decide +kernel

theorem coords_val (t : Fin grid0.N) : (grid0.coords t 1).val = t.val % 4 := by
  revert t; decide +kernel

variable (m : (ℓ : Loc nD τ sig) → Buf (Elt Ideal) ℓ) (X Y : ℕ → ℕ → ℝ) (c : Dev nD)
    (hX : m ((c : Thread nD τ).loc main_arg0) = R2 8192 3072 (φ := .f32) X) (hY : m ((c : Thread nD τ).loc main_arg1) = R2 8192 1024 (φ := .f32) Y)

include hX in
theorem V_v0 : V m c main_v0 = R2 8192 3072 (φ := .bf16) X := by
  have : V m c main_v0 = truncf (F := Ideal) .bf16 (m ((c : Thread nD τ).loc main_arg0)) bitsLt_bf16_f32 := by
    unfold_abbrev_sides
    after_results
  rw [this, hX]
  rfl

include hY in
theorem V_v1 : V m c main_v1 = R2 8192 1024 (φ := .bf16) Y := by
  have : V m c main_v1 = truncf (F := Ideal) .bf16 (m ((c : Thread nD τ).loc main_arg1)) bitsLt_bf16_f32 := by
    unfold_abbrev_sides
    after_results
  rw [this, hY]
  rfl

include hX in
theorem iblk0 (t : Fin (cfg0 (F := Ideal)).N) : iblk m c 0 t = R2 2048 128 (φ := .bf16) (fun r a => (headOf X Y (t.val / 4)).q (2048 * (t.val % 4) + r) a) := by
  funext y
  refine (congrFun (V_v0 m X c hX) ((win0_0.blk t).view.emb y)).trans ?_
  have e0 := Window.rect_emb_val win0_0 t y 0
  have e1 := Window.rect_emb_val win0_0 t y 1
  rw [(idx t).1] at e0 e1
  refine congrArg (fun r : ℝ => (r : EReal)) (congrArg₂ X (e0.trans ?_) (e1.trans ?_))
  · show t.val % 4 * 2048 + (y 0).val = 2048 * (t.val % 4) + (y 0).val; omega
  · show t.val / 4 * 128 + (y 1).val = 128 * (t.val / 4) + (y 1).val; omega

include hX in
theorem iblk1 (t : Fin (cfg0 (F := Ideal)).N) : iblk m c 1 t = R2 8192 128 (φ := .bf16) (fun r a => (headOf X Y (t.val / 4)).k (r) a) := by
  funext y
  refine (congrFun (V_v0 m X c hX) ((win0_1.blk t).view.emb y)).trans ?_
  have e0 := Window.rect_emb_val win0_1 t y 0
  have e1 := Window.rect_emb_val win0_1 t y 1
  rw [(idx t).2.1] at e0 e1
  refine congrArg (fun r : ℝ => (r : EReal)) (congrArg₂ X (e0.trans ?_) (e1.trans ?_))
  · show 0 * 8192 + (y 0).val = (y 0).val; omega
  · show (8 + t.val / 4) * 128 + (y 1).val = 1024 + 128 * (t.val / 4) + (y 1).val; omega

include hX in
theorem iblk2 (t : Fin (cfg0 (F := Ideal)).N) : iblk m c 2 t = R2 8192 128 (φ := .bf16) (fun r a => (headOf X Y (t.val / 4)).v (r) a) := by
  funext y
  refine (congrFun (V_v0 m X c hX) ((win0_2.blk t).view.emb y)).trans ?_
  have e0 := Window.rect_emb_val win0_2 t y 0
  have e1 := Window.rect_emb_val win0_2 t y 1
  rw [(idx t).2.2.1] at e0 e1
  refine congrArg (fun r : ℝ => (r : EReal)) (congrArg₂ X (e0.trans ?_) (e1.trans ?_))
  · show 0 * 8192 + (y 0).val = (y 0).val; omega
  · show (16 + t.val / 4) * 128 + (y 1).val = 2048 + 128 * (t.val / 4) + (y 1).val; omega

include hY in
theorem iblk3 (t : Fin (cfg0 (F := Ideal)).N) : iblk m c 3 t = R2 2048 128 (φ := .bf16) (fun r a => (headOf X Y (t.val / 4)).d (2048 * (t.val % 4) + r) a) := by
  funext y
  refine (congrFun (V_v1 m Y c hY) ((win0_3.blk t).view.emb y)).trans ?_
  have e0 := Window.rect_emb_val win0_3 t y 0
  have e1 := Window.rect_emb_val win0_3 t y 1
  rw [(idx t).2.2.2.1] at e0 e1
  refine congrArg (fun r : ℝ => (r : EReal)) (congrArg₂ Y (e0.trans ?_) (e1.trans ?_))
  · show t.val % 4 * 2048 + (y 0).val = 2048 * (t.val % 4) + (y 0).val; omega
  · show t.val / 4 * 128 + (y 1).val = 128 * (t.val / 4) + (y 1).val; omega

/-- What is known along the grid, over the reals: the running sums after each point, and each point's results. -/
def idealPlan : Plan m c where
  inv n x y := n % 4 ≠ 0 → x = dkOf (headOf X Y (n / 4)) (visK1 (n % 4) 0 0) ∧ y = dvOf (headOf X Y (n / 4)) (visV1 (n % 4) 0)
  dq t Z := Z = R2 2048 128 (φ := .bf16) (fun r a => (headOf X Y (t.val / 4)).dq (2048 * (t.val % 4) + r) a)
  dk t Z := t.val % 4 = 3 → Z = R2 8192 128 (φ := .bf16) (acc (visK1 4 0 0) fun i j c => (headOf X Y (t.val / 4)).ds i j * (headOf X Y (t.val / 4)).q i c)
  dv t Z := t.val % 4 = 3 → Z = R2 8192 128 (φ := .bf16) (acc (visV1 4 0) fun i j c => (headOf X Y (t.val / 4)).w i j * (headOf X Y (t.val / 4)).d i c)
  init _ _ h := absurd rfl h
  step t σ hB hi := by
    refine step_of printed_ideal c t (idealSpec (headOf X Y (t.val / 4)) (t.val % 4) (grid0.coords t) (coords_val t))
      ⟨⟨hB.q.trans (iblk0 m X Y c hX t), hB.k.trans (iblk1 m X Y c hX t), hB.v.trans (iblk2 m X Y c hX t), hB.d.trans (iblk3 m X Y c hY t)⟩,
        fun h => (hi h).1, fun h => (hi h).2⟩ fun σ' hE => ⟨⟨hE.args.q.trans (iblk0 m X Y c hX t).symm, hE.args.k.trans (iblk1 m X Y c hX t).symm,
        hE.args.v.trans (iblk2 m X Y c hX t).symm, hE.args.d.trans (iblk3 m X Y c hY t).symm⟩, fun h => ?_, hE.dq, fun h => ?_, fun h => ?_⟩
    · rw [show (t.val + 1) / 4 = t.val / 4 by omega, show (t.val + 1) % 4 = t.val % 4 + 1 by omega]
      exact ⟨hE.dk, hE.dv⟩
    · have := hE.dko h
      rw [h] at this; exact this
    · have := hE.dvo h
      rw [h] at this; exact this

/-! ### The arrays at the end -/

open Finset in
/-- The sums over blocks are the sums over all rows, where a row adds nothing to the columns from the diagonal on. -/
theorem acc_all {vis : ℕ → ℕ → Prop} (hv : ∀ n m, n < 32 → (vis n m ↔ m ≤ n)) (f : ℕ → ℕ → ℕ → ℝ) (hf : ∀ i j c, i ≤ j → f i j c = 0) (j c : ℕ) :
    acc vis f j c = ∑ i ∈ range 8192, f i j c := by
  classical
  have h : ∀ N, ∑ i ∈ range (256 * N), f i j c = ∑ n ∈ range N, ∑ r : Fin 256, f (256 * n + r) j c := by
    intro N
    induction N with
    | zero => rfl
    | succ N ih =>
      rw [sum_range_succ, ← ih, show 256 * (N + 1) = 256 * N + 256 by omega, sum_range_add,
        Fin.sum_univ_eq_sum_range (fun r => f (256 * N + r) j c) 256]
  rw [show 8192 = 256 * 32 from rfl, h 32]
  refine sum_congr rfl fun n hn => ?_
  split
  · rfl
  · next hm =>
    rw [hv n _ (mem_range.mp hn)] at hm
    exact (sum_eq_zero fun r _ => hf _ _ _ (by have := r.isLt; omega)).symm

/-- The keys' gradient. -/
def _root_.Cert.Sb.Head.dk (H : Head) (j a : ℕ) : ℝ := ∑ i ∈ Finset.range 8192, H.ds i j * H.q i a
/-- The values' gradient. -/
def _root_.Cert.Sb.Head.dv (H : Head) (j a : ℕ) : ℝ := ∑ i ∈ Finset.range 8192, H.w i j * H.d i a

theorem acc_dk (H : Head) : (acc (visK1 4 0 0) fun i j c => H.ds i j * H.q i c) = H.dk := by
  funext j a
  refine acc_all (by intro n m _; simp only [visK1]; omega) _ (fun i j c h => ?_) j a
  rw [Head.ds, if_neg (by omega), zero_mul, zero_mul]

theorem acc_dv (H : Head) : (acc (visV1 4 0) fun i j c => H.w i j * H.d i c) = H.dv := by
  funext j a
  refine acc_all (by intro n m _; simp only [visV1]; omega) _ (fun i j c h => ?_) j a
  rw [Head.w, if_neg (by omega), zero_mul]

/-- The queries' gradient at the end, from what each grid point leaves. -/
theorem array4 (dat : Dat τ (Elt Ideal) Unit ℕ (UR sig nD τ) ℕ (cfg0 (F := Ideal)) c)
    (h4 : ∀ t, win0_4.flush t = true → dat.after 4 t = R2 2048 128 (φ := .bf16) (fun r a => (headOf X Y (t.val / 4)).dq (2048 * (t.val % 4) + r) a)) :
    dat.arrAt 4 (cfg0 (F := Ideal)).N = R2 8192 1024 (φ := .bf16) (fun i a => (headOf X Y (a / 128)).dq i (a % 128)) := by
  refine dat.arrAt_eq_of_covers 4 _ (by decide +kernel) fun t hf y => ?_
  have e0 := Window.rect_emb_val win0_4 t y 0
  have e1 := Window.rect_emb_val win0_4 t y 1
  rw [(idx t).2.2.2.2.1] at e0 e1
  have hy0 : (y 0).val < 2048 := (y 0).isLt
  have hy1 : (y 1).val < 128 := (y 1).isLt
  have e0' : ((win0_4.rect t).emb y 0).val = 2048 * (t.val % 4) + (y 0).val := e0.trans (show t.val % 4 * 2048 + (y 0).val = _ by omega)
  have e1' : ((win0_4.rect t).emb y 1).val = 128 * (t.val / 4) + (y 1).val := e1.trans (show t.val / 4 * 128 + (y 1).val = _ by omega)
  rw [h4 t hf]
  show (((headOf X Y (t.val / 4)).dq (2048 * (t.val % 4) + (y 0).val) (y 1).val : ℝ) : EReal)
    = (((headOf X Y (((win0_4.rect t).emb y 1).val / 128)).dq ((win0_4.rect t).emb y 0).val (((win0_4.rect t).emb y 1).val % 128) : ℝ) : EReal)
  rw [e0', e1', show (128 * (t.val / 4) + (y 1).val) / 128 = t.val / 4 by omega, show (128 * (t.val / 4) + (y 1).val) % 128 = (y 1).val by omega]

/-- The keys' gradient at the end, from what the last grid point of each head leaves. -/
theorem array5 (dat : Dat τ (Elt Ideal) Unit ℕ (UR sig nD τ) ℕ (cfg0 (F := Ideal)) c)
    (h : ∀ t, win0_5.flush t = true → dat.after 5 t = R2 8192 128 (φ := .bf16) (headOf X Y (t.val / 4)).dk) :
    dat.arrAt 5 (cfg0 (F := Ideal)).N = R2 8192 1024 (φ := .bf16) (fun i a => (headOf X Y (a / 128)).dk i (a % 128)) := by
  refine dat.arrAt_eq_of_covers 5 _ (by decide +kernel) fun t hf y => ?_
  have e0 := Window.rect_emb_val win0_5 t y 0
  have e1 := Window.rect_emb_val win0_5 t y 1
  rw [(idx t).2.2.2.2.2.1] at e0 e1
  have hy1 : (y 1).val < 128 := (y 1).isLt
  have e0' : ((win0_5.rect t).emb y 0).val = (y 0).val := e0.trans (show 0 * 8192 + (y 0).val = _ by omega)
  have e1' : ((win0_5.rect t).emb y 1).val = 128 * (t.val / 4) + (y 1).val := e1.trans (show t.val / 4 * 128 + (y 1).val = _ by omega)
  rw [h t hf]
  show (((headOf X Y (t.val / 4)).dk (y 0).val (y 1).val : ℝ) : EReal)
    = (((headOf X Y (((win0_5.rect t).emb y 1).val / 128)).dk ((win0_5.rect t).emb y 0).val (((win0_5.rect t).emb y 1).val % 128) : ℝ) : EReal)
  rw [e0', e1', show (128 * (t.val / 4) + (y 1).val) / 128 = t.val / 4 by omega, show (128 * (t.val / 4) + (y 1).val) % 128 = (y 1).val by omega]

/-- The values' gradient at the end, from what the last grid point of each head leaves. -/
theorem array6 (dat : Dat τ (Elt Ideal) Unit ℕ (UR sig nD τ) ℕ (cfg0 (F := Ideal)) c)
    (h : ∀ t, win0_6.flush t = true → dat.after 6 t = R2 8192 128 (φ := .bf16) (headOf X Y (t.val / 4)).dv) :
    dat.arrAt 6 (cfg0 (F := Ideal)).N = R2 8192 1024 (φ := .bf16) (fun i a => (headOf X Y (a / 128)).dv i (a % 128)) := by
  refine dat.arrAt_eq_of_covers 6 _ (by decide +kernel) fun t hf y => ?_
  have e0 := Window.rect_emb_val win0_6 t y 0
  have e1 := Window.rect_emb_val win0_6 t y 1
  rw [(idx t).2.2.2.2.2.2] at e0 e1
  have hy1 : (y 1).val < 128 := (y 1).isLt
  have e0' : ((win0_6.rect t).emb y 0).val = (y 0).val := e0.trans (show 0 * 8192 + (y 0).val = _ by omega)
  have e1' : ((win0_6.rect t).emb y 1).val = 128 * (t.val / 4) + (y 1).val := e1.trans (show t.val / 4 * 128 + (y 1).val = _ by omega)
  rw [h t hf]
  show (((headOf X Y (t.val / 4)).dv (y 0).val (y 1).val : ℝ) : EReal)
    = (((headOf X Y (((win0_6.rect t).emb y 1).val / 128)).dv ((win0_6.rect t).emb y 0).val (((win0_6.rect t).emb y 1).val % 128) : ℝ) : EReal)
  rw [e0', e1', show (128 * (t.val / 4) + (y 1).val) / 128 = t.val / 4 by omega, show (128 * (t.val / 4) + (y 1).val) % 128 = (y 1).val by omega]

theorem flush5 : ∀ t : Fin grid0.N, win0_5.flush t = true → t.val % 4 = 3 := by decide +kernel
theorem flush6 : ∀ t : Fin grid0.N, win0_6.flush t = true → t.val % 4 = 3 := by decide +kernel

end Cert.SbRun

namespace Cert.SbRun

open Idealize.ShloMosaic Idealize.ShloMosaic.TcCoe Idealize.ShloMosaic.Tactic Idealize.ShloMosaic.Pipeline
open Cert.SbKernelIdeal Cert.SbKernelIdeal.Gen Cert.Owned Cert.Sb Idealize.SL Idealize.SL.RA Idealize.SL.Sem

/-- A run over the reals: the three results are the gradients of every head, the arguments are unchanged and every counter is zero. -/
theorem run_value (m : (ℓ : Loc nD τ sig) → Buf (Elt Ideal) ℓ) (ρ : Dev nD → PrngReg) (X Y : Dev nD → ℕ → ℕ → ℝ)
    (hX : ∀ c : Dev nD, m ((c : Thread nD τ).loc main_arg0) = R2 8192 3072 (φ := .f32) (X c)) (hY : ∀ c : Dev nD, m ((c : Thread nD τ).loc main_arg1) = R2 8192 1024 (φ := .f32) (Y c)) :
    θ_run defs (onTc (τ := τ) (main (F := Ideal))) ⟨m, fun _ => 0, ρ⟩ (fun r => ∀ c : Dev nD,
      r.2.mem ((c : Thread nD τ).loc main_v2_0) = R2 8192 1024 (φ := .bf16) (fun i a => (headOf (X c) (Y c) (a / 128)).dq i (a % 128))
      ∧ r.2.mem ((c : Thread nD τ).loc main_v2_1) = R2 8192 1024 (φ := .bf16) (fun i a => (headOf (X c) (Y c) (a / 128)).dk i (a % 128))
      ∧ r.2.mem ((c : Thread nD τ).loc main_v2_2) = R2 8192 1024 (φ := .bf16) (fun i a => (headOf (X c) (Y c) (a / 128)).dv i (a % 128))
      ∧ r.2.mem ((c : Thread nD τ).loc main_arg0) = m ((c : Thread nD τ).loc main_arg0)
      ∧ r.2.mem ((c : Thread nD τ).loc main_arg1) = m ((c : Thread nD τ).loc main_arg1)) := by
  refine (θ_run defs _ _).mono (fun r h c => ?_) (run_main m ρ fun c => idealPlan m (X c) (Y c) c (hX c) (hY c))
  obtain ⟨after, hl, hA⟩ := RDat.ArrAt.exists_exact_all (h.1 c).1
  refine ⟨(hA 4).trans (array4 (X c) (Y c) c _ fun t hf => ?_), (hA 5).trans (array5 (X c) (Y c) c _ fun t hf => ?_), (hA 6).trans (array6 (X c) (Y c) c _ fun t hf => ?_),
    ((h.1 c).2 main_arg0 mem_arg0).trans (V_arg0 m c), ((h.1 c).2 main_arg1 mem_arg1).trans (V_arg1 m c)⟩
  · obtain ⟨_, _, hk⟩ := hl 4 t t.isLt hf
    exact hk
  · obtain ⟨_, _, hk⟩ := hl 5 t t.isLt hf
    exact (hk (flush5 t hf)).trans (by rw [acc_dk])
  · obtain ⟨_, _, hk⟩ := hl 6 t t.isLt hf
    exact (hk (flush6 t hf)).trans (by rw [acc_dv])

end Cert.SbRun
-- ==== Proof.SbReference.lean ====
/-
  What the plain stick-breaking gradient computes, over the reals.
-/
module

public import Idealize.ShloMosaic.Lib.Pointwise
public import Idealize.ShloMosaic.Lib.WordCmp
public import proofs.«01_k».proof.Proof.Gen.SbReferenceIdeal.Read
public import proofs.«01_k».proof.Proof.SbValue

@[expose] public section

set_option maxRecDepth 16384

noncomputable section

namespace Cert.SbRef

open Idealize.ShloMosaic Idealize.ShloMosaic.TcCoe Idealize.ShloMosaic.Tactic
open Cert.SbReferenceIdeal Cert.SbReferenceIdeal.Gen Cert.SbReferenceIdeal.Read Cert.Sb Cert.SbRun

/-- A stack of matrices of real numbers. -/
def R3 (a b c : ℕ) {φ : FTy} (f : ℕ → ℕ → ℕ → ℝ) : FVec Ideal ⟨3, ![a, b, c]⟩ φ :=
  fun x => ((f (x 0).val (x 1).val (x 2).val : ℝ) : EReal)

theorem R3_congr {a b c : ℕ} {φ : FTy} {f g : ℕ → ℕ → ℕ → ℝ} (h : ∀ i < a, ∀ j < b, ∀ k < c, f i j k = g i j k) :
    R3 a b c (φ := φ) f = R3 a b c g := by
  funext x
  exact congrArg (fun r : ℝ => (r : EReal)) (h _ (x 0).isLt _ (x 1).isLt _ (x 2).isLt)

/-- Running sums along the last axis: entry `j` is the sum of the entries of its window of width `N`, which begins `L` before it. -/
theorem windows_R3 {A B N L H : ℕ} (f : ℕ → ℕ → ℕ → ℝ) (init : (⟨0, ![]⟩ : Shape).Idx → EReal) (h0 : init ix0 = 0)
    (h : (⟨3, ![A, B, N]⟩ : Shape).ReduceWindows ![1, 1, N] ![1, 1, 1] ![0, 0, L] ![0, 0, H] ⟨3, ![A, B, N]⟩) (hu : 0 < (⟨0, ![]⟩ : Shape).numel) :
    Host.reduceWindowAdd (F := Ideal) (φ := .f32) ![1, 1, N] ![1, 1, 1] ![0, 0, L] ![0, 0, H] (R3 A B N (φ := .f32) f) init h hu
      = R3 A B N (fun p i j => ∑ n ∈ Finset.range N, if L ≤ j + n ∧ j + n - L < N then f p i (j + n - L) else 0) := by
  funext x
  have hv : init (Shape.Idx.first hu) = 0 := (congrArg init (funext fun a => a.elim0)).trans h0
  show Host.reduceWindow (s := ⟨3, ![A, B, N]⟩) (· + ·) ![1, 1, N] ![1, 1, 1] ![0, 0, L] ![0, 0, H] (R3 A B N (φ := .f32) f)
    (fun _ : (⟨0, ![]⟩ : Shape).Idx => init (Shape.Idx.first hu)) h (by decide) x = _
  rw [hv]
  unfold Host.reduceWindow
  dsimp only
  have hnum : (⟨3, ![1, 1, N]⟩ : Shape).numel = N := by
    simp [Shape.numel, Fin.prod_univ_three]
  refine Eq.trans (List.foldl_ext _ (fun (r : EReal) (n : Fin (⟨3, ![1, 1, N]⟩ : Shape).numel) => r + (((if L ≤ (x 2).val + n.val ∧ (x 2).val + n.val - L < N
    then f (x 0).val (x 1).val ((x 2).val + n.val - L) else 0 : ℝ)) : EReal)) (0 : EReal) ?_) ?_
  · intro r n _
    refine congrArg (r + ·) ?_
    set w := (⟨3, ![1, 1, N]⟩ : Shape).rowMajor.symm n with hw
    have e0 : (w 0).val = 0 := Nat.lt_one_iff.1 (w 0).isLt
    have e1 : (w 1).val = 0 := Nat.lt_one_iff.1 (w 1).isLt
    have e2 : (w 2).val = n.val := by
      have : ((⟨3, ![1, 1, N]⟩ : Shape).rowMajor w).val = n.val := by rw [hw, Equiv.apply_symm_apply]
      rw [Shape.rowMajor_val_three, e0, e1] at this
      simpa using this
    split
    · next hin =>
      have h2 := hin 2
      change L ≤ (x 2).val * 1 + (w 2).val ∧ (x 2).val * 1 + (w 2).val - L < N at h2
      rw [e2, Nat.mul_one] at h2
      rw [if_pos h2]
      show ((f ((x 0).val * 1 + (w 0).val - 0) ((x 1).val * 1 + (w 1).val - 0) ((x 2).val * 1 + (w 2).val - L) : ℝ) : EReal) = _
      rw [e0, e1, e2]
      simp only [Nat.mul_one, Nat.add_zero, Nat.sub_zero]
    · next hin =>
      rw [if_neg]
      · rfl
      · intro hh
        refine hin fun a => ?_
        match a with
        | ⟨0, _⟩ => exact ⟨Nat.zero_le _, by show (x 0).val * 1 + (w 0).val - 0 < A; have := (x 0).isLt; change (x 0).val < A at this; omega⟩
        | ⟨1, _⟩ => exact ⟨Nat.zero_le _, by show (x 1).val * 1 + (w 1).val - 0 < B; have := (x 1).isLt; change (x 1).val < B at this; omega⟩
        | ⟨2, _⟩ =>
          show L ≤ (x 2).val * 1 + (w 2).val ∧ (x 2).val * 1 + (w 2).val - L < N
          rw [e2, Nat.mul_one]; exact hh
  show _ = ((∑ n ∈ Finset.range N, (if L ≤ (x 2).val + n ∧ (x 2).val + n - L < N then f (x 0).val (x 1).val ((x 2).val + n - L) else 0) : ℝ) : EReal)
  have sums : ∀ (M : ℕ) (g : ℕ → ℝ), (List.finRange M).foldl (fun (r : EReal) (n : Fin M) => r + ((g n.val : ℝ) : EReal)) 0 = ((∑ n ∈ Finset.range M, g n : ℝ) : EReal) := by
    intro M g
    rw [← List.foldl_map (f := fun n : Fin M => ((g n.val : ℝ) : EReal)) (g := fun (r y : EReal) => r + y), ← List.sum_eq_foldl, ← List.ofFn_eq_map, List.sum_ofFn,
      Finset.sum_range]
    exact Cert.Reals.sum_coe _ _
  have := sums (⟨3, ![1, 1, N]⟩ : Shape).numel (fun n => if L ≤ (x 2).val + n ∧ (x 2).val + n - L < N then f (x 0).val (x 1).val ((x 2).val + n - L) else 0)
  rw [hnum] at this
  exact (sums _ (fun n => if L ≤ (x 2).val + n ∧ (x 2).val + n - L < N then f (x 0).val (x 1).val ((x 2).val + n - L) else 0)).trans (by rw [hnum])

/-- The running sum from the right. -/
theorem suffix_sum {N j : ℕ} (hj : j < N) (f : ℕ → ℝ) :
    (∑ n ∈ Finset.range N, if 0 ≤ j + n ∧ j + n - 0 < N then f (j + n - 0) else 0) = ∑ n ∈ Finset.Ico j N, f n := by
  rw [Finset.sum_Ico_eq_sum_range, ← Finset.sum_subset (Finset.range_mono (Nat.sub_le N j))]
  · exact Finset.sum_congr rfl fun n hn => by
      rw [Finset.mem_range] at hn
      rw [if_pos ⟨Nat.zero_le _, by omega⟩, Nat.sub_zero]
  · intro n _ hn
    rw [Finset.mem_range] at hn
    exact if_neg (by omega)

/-- The running sum from the left. -/
theorem prefix_sum {N L j : ℕ} (hN : L + 1 = N) (hj : j < N) (f : ℕ → ℝ) :
    (∑ n ∈ Finset.range N, if L ≤ j + n ∧ j + n - L < N then f (j + n - L) else 0) = ∑ n ∈ Finset.range (j + 1), f n := by
  subst hN
  have e : L + 1 = (L - j) + (j + 1) := by omega
  conv_lhs => rw [e, Finset.sum_range_add]
  rw [Finset.sum_eq_zero (s := Finset.range (L - j)), zero_add]
  · exact Finset.sum_congr rfl fun n hn => by
      rw [Finset.mem_range] at hn
      rw [if_pos ⟨by omega, by omega⟩]
      congr 1
      omega
  · intro n hn
    rw [Finset.mem_range] at hn
    exact if_neg (by omega)

variable (X Y : ℕ → ℕ → ℝ) (x0 : (⟨S8192x3072, .f32⟩ : BufTy).Contents (Elt Ideal)) (x1 : (⟨S8192x1024, .f32⟩ : BufTy).Contents (Elt Ideal))
  (hX : x0 = R2 8192 3072 (φ := .f32) X) (hY : x1 = R2 8192 1024 (φ := .f32) Y)

/-- The reference's `log(1 + e^r)`. -/
theorem softplus_at (r : ℝ) (a : Ideal .f32) (ha : a = (r : EReal)) (o : Ideal .f32) (ho : o = (0 : ℝ)) :
    Scalar.select (FloatOps.cmpf .une (FloatOps.subf a o) (FloatOps.subf a o)) (FloatOps.addf a o)
      (FloatOps.addf (FloatOps.maximumf a o)
        (FloatOps.hostUnary .log1p (FloatOps.hostUnary .exp (FloatOps.hostNegf (FloatOps.hostAbsf (FloatOps.subf a o)))))) = ((-gap r : ℝ) : EReal) := by
  rw [ha, ho]
  have e : FloatOps.subf (F := Ideal) (φ := .f32) (r : EReal) ((0 : ℝ) : EReal) = (r : EReal) := by
    show (r : EReal) - ((0 : ℝ) : EReal) = r
    rw [← EReal.coe_sub, sub_zero]
  rw [e]
  have c : FloatOps.cmpf (F := Ideal) (φ := .f32) .une (r : EReal) (r : EReal) = 0#1 := by show Ideal.cmp _ _ _ = _; simp [Ideal.cmp]
  rw [c]
  show max (r : EReal) ((0 : ℝ) : EReal) + Ideal.log (1 + Ideal.exp (-max (r : EReal) (-(r : EReal)))) = _
  rw [← EReal.coe_neg, ← EReal.coe_strictMono.monotone.map_max, ← EReal.coe_strictMono.monotone.map_max, ← EReal.coe_neg, Ideal.exp_coe, ← EReal.coe_one, ← EReal.coe_add,
    Ideal.log_coe, if_neg (not_le.2 (one_add_exp_pos _)), ← EReal.coe_add, ← gap_eq r, zero_sub, neg_neg, zero_sub]
  rfl

/-- The reference's `e^(r - s)`, with its guards against infinities. -/
theorem weight_at (r s : ℝ) (a b o p : Ideal .f32) (ha : a = (r : EReal)) (hb : b = (s : EReal)) (ho : o = ⊤) :
    FloatOps.hostUnary .exp (FloatOps.subf (Scalar.select (FloatOps.cmpf .oeq a o) p a) (Scalar.select (FloatOps.cmpf .oeq b o) p b))
      = ((Real.exp (r - s) : ℝ) : EReal) := by
  rw [ha, hb, ho]
  have c : ∀ r : ℝ, FloatOps.cmpf (F := Ideal) (φ := .f32) .oeq (r : EReal) ⊤ = 0#1 := fun r => by show Ideal.cmp _ _ _ = _; simp [Ideal.cmp]
  rw [c, c]
  show Ideal.exp ((r : EReal) - (s : EReal)) = _
  rw [← EReal.coe_sub, Ideal.exp_coe]

theorem exp_add_gap (z : ℝ) : Real.exp (z + gap z) = Sb.sig z := by
  rw [gap, Real.exp_add, Real.exp_neg, Real.exp_log (one_add_exp_pos z), Sb.sig, Real.exp_neg]
  have := Real.exp_pos z
  field_simp
  ring

theorem gap_neg (z : ℝ) : gap (-z) = z + gap z := by
  have h : 1 + Real.exp (-z) = Real.exp (-z) * (1 + Real.exp z) := by rw [mul_add, mul_one, ← Real.exp_add, neg_add_cancel, Real.exp_zero, add_comm]
  rw [gap, gap, h, Real.log_mul (Real.exp_pos _).ne' (one_add_exp_pos _).ne', Real.log_exp]
  ring

theorem exp_gap (z : ℝ) : Real.exp (gap z) = 1 - Sb.sig z := by
  rw [gap, Real.exp_neg, Real.exp_log (one_add_exp_pos z), Sb.sig, Real.exp_neg]
  have := Real.exp_pos z
  field_simp
  ring

include hX in
theorem q_eq : val_main_v3 x0 = R3 8192 8 128 (φ := .f32) (fun i h a => (headOf X Y h).q i a) := by
  funext i
  rw [val_main_v3_apply, val_main_v0_apply, hX]
  have h0 : (i 0).val < 8192 := (i 0).isLt
  have h1 : (i 1).val < 8 := (i 1).isLt
  have h2 : (i 2).val < 128 := (i 2).isLt
  refine congrArg (fun r : ℝ => (r : EReal)) (congrArg₂ X ?_ ?_)
  · show (((i 0).val * 8 + (i 1).val) * 128 + (i 2).val) / 1024 = (i 0).val
    omega
  · show (((i 0).val * 8 + (i 1).val) * 128 + (i 2).val) % 1024 = 128 * (i 1).val + (i 2).val
    omega

include hX in
theorem k_eq : val_main_v4 x0 = R3 8192 8 128 (φ := .f32) (fun i h a => (headOf X Y h).k i a) := by
  funext i
  rw [val_main_v4_apply, val_main_v1_apply, hX]
  have h0 : (i 0).val < 8192 := (i 0).isLt
  have h1 : (i 1).val < 8 := (i 1).isLt
  have h2 : (i 2).val < 128 := (i 2).isLt
  refine congrArg (fun r : ℝ => (r : EReal)) (congrArg₂ X ?_ ?_)
  · show (((i 0).val * 8 + (i 1).val) * 128 + (i 2).val) / 1024 = (i 0).val
    omega
  · show 1024 + (((i 0).val * 8 + (i 1).val) * 128 + (i 2).val) % 1024 = 1024 + 128 * (i 1).val + (i 2).val
    omega

include hX in
theorem v_eq : val_main_v5 x0 = R3 8192 8 128 (φ := .f32) (fun i h a => (headOf X Y h).v i a) := by
  funext i
  rw [val_main_v5_apply, val_main_v2_apply, hX]
  have h0 : (i 0).val < 8192 := (i 0).isLt
  have h1 : (i 1).val < 8 := (i 1).isLt
  have h2 : (i 2).val < 128 := (i 2).isLt
  refine congrArg (fun r : ℝ => (r : EReal)) (congrArg₂ X ?_ ?_)
  · show (((i 0).val * 8 + (i 1).val) * 128 + (i 2).val) / 1024 = (i 0).val
    omega
  · show 2048 + (((i 0).val * 8 + (i 1).val) * 128 + (i 2).val) % 1024 = 2048 + 128 * (i 1).val + (i 2).val
    omega

include hX in
theorem z_eq : val_main_v8 x0 = R3 8 8192 8192 (φ := .f32) (fun h i j => (headOf X Y h).z i j) := by
  funext i
  rw [val_main_v8_apply, val_main_v6_apply, val_main_v7_apply, q_eq X Y x0 hX, k_eq X Y x0 hX, val_main_cst_apply]
  show (∑ a : Fin 128, (((headOf X Y (i 0).val).q (i 1).val a.val : ℝ) : EReal) * (((headOf X Y (i 0).val).k (i 2).val a.val : ℝ) : EReal)) * Ideal.ofBits .f32 0x3DB504F3#32 = _
  rw [ofBits_scale]
  simp only [← EReal.coe_mul, Reals.sum_coe]
  rfl

include hX in
/-- `log(1 + e^z)`. -/
theorem soft_eq : val_main_call0_v1_0 x0 = R3 8 8192 8192 (φ := .f32) (fun h i j => -gap ((headOf X Y h).z i j)) := by
  funext i
  have hz : val_main_call0_v0 x0 i = (((headOf X Y (i 0).val).z (i 1).val (i 2).val : ℝ) : EReal) := by
    rw [val_main_call0_v0_apply, val_main_v15_apply, z_eq X Y x0 hX]
    exact neg_neg (_ : EReal)
  simp only [val_main_call0_v1_0_apply, val_main_call0_call0_v4_apply, val_main_call0_call0_v6_apply, val_main_call0_call0_v11_apply, val_main_call0_call0_v1_apply,
    val_main_call0_call0_v3_apply, val_main_call0_call0_v7_apply, val_main_call0_call0_v8_apply, val_main_call0_call0_v9_apply, val_main_call0_call0_v10_apply,
    val_main_call0_call0_v0_apply, val_main_call0_call0_v2_apply, val_main_call0_call0_v5_apply, val_main_call0_call0_cst_apply]
  exact softplus_at _ _ hz _ (Ideal.ofBits_zero .f32)

include hX in
/-- `β`, the derivative of `log(1 + e^z)`. -/
theorem beta_eq : val_main_v16_1 x0 = R3 8 8192 8192 (φ := .f32) (fun h i j => Sb.sig ((headOf X Y h).z i j)) := by
  funext i
  have hz : val_main_call0_v0 x0 i = (((headOf X Y (i 0).val).z (i 1).val (i 2).val : ℝ) : EReal) := by
    rw [val_main_call0_v0_apply, val_main_v15_apply, z_eq X Y x0 hX]
    exact neg_neg (_ : EReal)
  simp only [val_main_v16_1_apply, val_main_call0_call0_v21_apply, val_main_call0_call0_v20_apply, val_main_call0_call0_v19_apply, val_main_call0_call0_v18_apply,
    val_main_call0_call0_v17_apply, val_main_call0_call0_v16_apply, val_main_call0_call0_v15_apply, val_main_call0_call0_v14_apply, val_main_call0_call0_v13_apply,
    val_main_call0_call0_cst_0_apply, val_main_call0_call0_cst_1_apply, val_main_call0_call0_cst_2_apply, val_main_call0_call0_cst_3_apply]
  refine (weight_at _ _ _ _ _ _ hz (congrFun (soft_eq X Y x0 hX) i) Cert.Reals.ofBits_inf).trans ?_
  show ((Real.exp (_ - -gap _) : ℝ) : EReal) = _
  rw [sub_neg_eq_add, exp_add_gap]
  rfl

include hX in
/-- `log(1 + e^(-z))`. -/
theorem soft_neg_eq : val_main_call3_v1_0 x0 = R3 8 8192 8192 (φ := .f32) (fun h i j => -gap (-(headOf X Y h).z i j)) := by
  funext i
  have hz : val_main_call3_v0 x0 i = ((-(headOf X Y (i 0).val).z (i 1).val (i 2).val : ℝ) : EReal) := by
    rw [val_main_call3_v0_apply, z_eq X Y x0 hX]
    exact (EReal.coe_neg _).symm
  simp only [val_main_call3_v1_0_apply, val_main_call3_call0_v4_apply, val_main_call3_call0_v6_apply, val_main_call3_call0_v11_apply, val_main_call3_call0_v1_apply,
    val_main_call3_call0_v3_apply, val_main_call3_call0_v7_apply, val_main_call3_call0_v8_apply, val_main_call3_call0_v9_apply, val_main_call3_call0_v10_apply,
    val_main_call3_call0_v0_apply, val_main_call3_call0_v2_apply, val_main_call3_call0_v5_apply, val_main_call3_call0_cst_apply]
  exact softplus_at _ _ hz _ (Ideal.ofBits_zero .f32)

include hX in
/-- `1 - β`, the derivative of `log(1 + e^(-z))`. -/
theorem beta_neg_eq : val_main_v20_1 x0 = R3 8 8192 8192 (φ := .f32) (fun h i j => 1 - (headOf X Y h).β i j) := by
  funext i
  have hz : val_main_call3_v0 x0 i = ((-(headOf X Y (i 0).val).z (i 1).val (i 2).val : ℝ) : EReal) := by
    rw [val_main_call3_v0_apply, z_eq X Y x0 hX]
    exact (EReal.coe_neg _).symm
  simp only [val_main_v20_1_apply, val_main_call3_call0_v21_apply, val_main_call3_call0_v20_apply, val_main_call3_call0_v19_apply, val_main_call3_call0_v18_apply,
    val_main_call3_call0_v17_apply, val_main_call3_call0_v16_apply, val_main_call3_call0_v15_apply, val_main_call3_call0_v14_apply, val_main_call3_call0_v13_apply,
    val_main_call3_call0_cst_0_apply, val_main_call3_call0_cst_1_apply, val_main_call3_call0_cst_2_apply, val_main_call3_call0_cst_3_apply]
  refine (weight_at _ _ _ _ _ _ hz (congrFun (soft_neg_eq X Y x0 hX) i) Cert.Reals.ofBits_inf).trans ?_
  show ((Real.exp (-_ - -gap _) : ℝ) : EReal) = _
  rw [sub_neg_eq_add, gap_neg, neg_add_cancel_left, exp_gap]
  rfl

/-- The mask: a row sees the columns before it. -/
theorem mask_at (i : S8192x8192.Idx) : val_main_v14 (F := Ideal) i = if (i 1).val < (i 0).val then 1#1 else 0#1 := by
  have h0 : (i 0).val < 8192 := (i 0).isLt
  have h1 : (i 1).val < 8192 := (i 1).isLt
  rw [val_main_v14_apply, val_main_v12_apply, val_main_v13_apply, val_main_v10_apply, val_main_v11_apply, val_main_v9_apply, val_main_v9_apply]
  show IntOp.cmpi .slt (BitVec.ofNat 32 (i 1).val) (BitVec.ofNat 32 (i 0).val) = _
  rw [WordCmp.cmpi_slt_ofNat (by omega) (by omega)]
  split
  · next h => rw [decide_eq_true h]; rfl
  · next h => rw [decide_eq_false h]; rfl

/-- An entry kept by the mask, zero elsewhere. -/
theorem select_real (p : Prop) [Decidable p] (a b : ℝ) :
    Scalar.select (if p then 1#1 else 0#1) (a : EReal) (b : EReal) = (((if p then a else b : ℝ)) : EReal) := by
  split <;> rfl

include hX in
theorem gaps_eq : val_main_v17_0 x0 = R3 8 8192 8192 (φ := .f32) (fun h i j => if j < i then (headOf X Y h).g i j else 0) := by
  funext i
  rw [val_main_v17_0_apply, val_main_v17_1_apply, mask_at, val_main_v16_0_apply, soft_eq X Y x0 hX, val_main_call1_v2_apply, val_main_call1_v0_apply, val_main_cst_0_apply]
  refine Eq.trans ?_ (select_real _ _ _)
  refine congrArg₂ (Scalar.select _) ?_ (Ideal.ofBits_zero .f32)
  show -((-gap _ : ℝ) : EReal) = _
  rw [← EReal.coe_neg, neg_neg]
  rfl

include hX in
theorem suffix_eq : val_main_v19 x0 = R3 8 8192 8192 (φ := .f32) (fun h i j => ∑ n ∈ Finset.Ico (j + 1) i, (headOf X Y h).g i n) := by
  funext i
  have h1 : (i 1).val < 8192 := (i 1).isLt
  have h2 : (i 2).val < 8192 := (i 2).isLt
  rw [val_main_v19_apply, val_main_v18, gaps_eq X Y x0 hX,
    windows_R3 _ _ (by rw [val_main_call2_v0_apply, val_main_call2_cst_apply]; exact Ideal.ofBits_zero .f32)]
  show ((∑ n ∈ Finset.range 8192, _ : ℝ) : EReal) - ((_ : ℝ) : EReal) = ((_ : ℝ) : EReal)
  have hs := suffix_sum h2 (fun n => if n < (i 1).val then (headOf X Y (i 0).val).g (i 1).val n else 0)
  beta_reduce at hs
  rw [hs, ← EReal.coe_sub, Finset.sum_eq_sum_Ico_succ_bot h2, add_sub_cancel_left]
  refine congrArg (fun r : ℝ => (r : EReal)) ?_
  rw [← Finset.sum_filter]
  refine Finset.sum_congr (Finset.ext fun n => ?_) fun _ _ => rfl
  simp only [Finset.mem_filter, Finset.mem_Ico]
  omega

include hX in
theorem exps_eq : val_main_v22 x0 = R3 8 8192 8192 (φ := .f32)
    (fun h i j => Real.exp ((headOf X Y h).z i j + (headOf X Y h).g i j + ∑ n ∈ Finset.Ico (j + 1) i, (headOf X Y h).g i n)) := by
  funext i
  rw [val_main_v22_apply, val_main_v21_apply, suffix_eq X Y x0 hX, val_main_v20_0_apply, soft_neg_eq X Y x0 hX]
  show Ideal.exp (-((-gap (-_) : ℝ) : EReal) + ((_ : ℝ) : EReal)) = _
  rw [← EReal.coe_neg, neg_neg, ← EReal.coe_add, Ideal.exp_coe, gap_neg]
  rfl

theorem exp_G (H : Head) {i j : ℕ} (h : j < i) : Real.exp (H.z i j + H.g i j + ∑ n ∈ Finset.Ico (j + 1) i, H.g i n) = H.w i j := by
  rw [Head.w, if_pos h, Head.G, Finset.sum_eq_sum_Ico_succ_bot h, add_assoc]

include hX in
theorem w_eq : val_main_v23_0 x0 = R3 8 8192 8192 (φ := .f32) (fun h i j => (headOf X Y h).w i j) := by
  funext i
  rw [val_main_v23_0_apply, val_main_v23_1_apply, mask_at, exps_eq X Y x0 hX, val_main_call4_v2_apply, val_main_call4_v0_apply, val_main_cst_1_apply]
  refine (congrArg (Scalar.select _ _) (Ideal.ofBits_zero .f32)).trans ((select_real _ _ 0).trans (congrArg (fun r : ℝ => (r : EReal)) ?_))
  show (if (i 2).val < (i 1).val then Real.exp _ else 0) = (headOf X Y (i 0).val).w (i 1).val (i 2).val
  split
  · next h => exact exp_G _ h
  · next h => rw [Head.w, if_neg h]

include hY in
theorem d_eq : val_main_v27 x1 = R3 8 128 8192 (φ := .f32) (fun h a i => (headOf X Y h).d i a) := by
  funext i
  rw [val_main_v27_apply, val_main_v26_apply, hY]
  have h0 : (i 0).val < 8 := (i 0).isLt
  have h1 : (i 1).val < 128 := (i 1).isLt
  have h2 : (i 2).val < 8192 := (i 2).isLt
  refine congrArg (fun r : ℝ => (r : EReal)) (congrArg₂ Y ?_ ?_)
  · show (((i 2).val * 8 + (i 0).val) * 128 + (i 1).val) / 1024 = (i 2).val
    omega
  · show (((i 2).val * 8 + (i 0).val) * 128 + (i 1).val) % 1024 = 128 * (i 0).val + (i 1).val
    omega

include hX hY in
theorem e_eq : val_main_v32 x0 x1 = R3 8 8192 8192 (φ := .f32) (fun h i j => (headOf X Y h).e i j) := by
  funext i
  have hs : val_main_v28 x0 x1 i = ((∑ a : Fin 128, (headOf X Y (i 0).val).d (i 1).val a * (headOf X Y (i 0).val).v (i 2).val a : ℝ) : EReal) := by
    rw [val_main_v28_apply, d_eq X Y x1 hY, v_eq X Y x0 hX]
    show ∑ a : Fin 128, (((headOf X Y (i 0).val).d (i 1).val a.val : ℝ) : EReal) * (((headOf X Y (i 0).val).v (i 2).val a.val : ℝ) : EReal) = _
    simp only [← EReal.coe_mul, Reals.sum_coe]
  rw [val_main_v32_apply, val_main_v31_apply, hs, val_main_v23_1_apply, mask_at, exps_eq X Y x0 hX, val_main_call5_v0_apply, val_main_call5_cst_apply]
  have hz : FloatOps.ofBits (F := Ideal) .f32 0x00000000#32 = ((0 : ℝ) : EReal) := Ideal.ofBits_zero .f32
  rw [hz, select_real]
  refine (EReal.coe_mul _ _).symm.trans (congrArg (fun r : ℝ => (r : EReal)) ?_)
  show (if (i 2).val < (i 1).val then _ else (0 : ℝ)) * Real.exp _ = (headOf X Y (i 0).val).e (i 1).val (i 2).val
  rw [Head.e]
  split
  · next h => rw [exp_G _ h, mul_comm]
  · next h => rw [Head.w, if_neg h, zero_mul, zero_mul]

include hX hY in
theorem E_eq : val_main_v36 x0 x1 = R3 8 8192 8192 (φ := .f32) (fun h i j => (headOf X Y h).E i j) := by
  funext i
  have h2 : (i 2).val < 8192 := (i 2).isLt
  rw [val_main_v36_apply, val_main_v35, val_main_v34_apply, e_eq X Y x0 x1 hX hY,
    windows_R3 _ _ (by rw [val_main_call7_v0_apply, val_main_call7_cst_apply]; exact Ideal.ofBits_zero .f32)]
  show -((_ : ℝ) : EReal) + ((∑ n ∈ Finset.range 8192, _ : ℝ) : EReal) = ((_ : ℝ) : EReal)
  rw [prefix_sum (by norm_num) h2, ← EReal.coe_neg, ← EReal.coe_add, Finset.sum_range_succ]
  refine congrArg (fun r : ℝ => (r : EReal)) ?_
  show -(headOf X Y (i 0).val).e (i 1).val (i 2).val + (∑ n ∈ Finset.range (i 2).val, (headOf X Y (i 0).val).e (i 1).val n
    + (headOf X Y (i 0).val).e (i 1).val (i 2).val) = ∑ n ∈ Finset.range (i 2).val, (headOf X Y (i 0).val).e (i 1).val n
  ring

include hX hY in
theorem ds_eq : val_main_v42 x0 x1 = R3 8 8192 8192 (φ := .f32) (fun h i j => (headOf X Y h).ds i j) := by
  funext i
  rw [val_main_v42_apply, val_main_v40_apply, val_main_v41_apply, val_main_v33_apply, val_main_call6_v1_apply, val_main_call6_v0_apply, val_main_v39_apply,
    val_main_v38_apply, val_main_call9_v1_apply, val_main_call9_v0_apply, val_main_v37_apply, val_main_v17_1_apply, mask_at, val_main_call8_v0_apply, val_main_call8_cst_apply,
    val_main_cst_2_apply, e_eq X Y x0 x1 hX hY, E_eq X Y x0 x1 hX hY, beta_eq X Y x0 hX, beta_neg_eq X Y x0 hX]
  have hz : FloatOps.ofBits (F := Ideal) .f32 0x00000000#32 = ((0 : ℝ) : EReal) := Ideal.ofBits_zero .f32
  rw [hz]
  refine (congrArg (fun y : Ideal .f32 => FloatOps.mulf (FloatOps.addf _ (FloatOps.hostNegf (FloatOps.hostNegf (FloatOps.mulf (FloatOps.hostNegf y) _)))) _) (select_real _ _ _)).trans ?_
  show (-(-((_ : ℝ) : EReal) * ((_ : ℝ) : EReal)) + -(-(-((_ : ℝ) : EReal) * ((_ : ℝ) : EReal)))) * Ideal.ofBits .f32 0x3DB504F3#32 = ((_ : ℝ) : EReal)
  rw [ofBits_scale]
  simp only [← EReal.coe_neg, ← EReal.coe_mul, ← EReal.coe_add]
  refine congrArg (fun r : ℝ => (r : EReal)) ?_
  show (-(-(headOf X Y (i 0).val).e (i 1).val (i 2).val * (1 - (headOf X Y (i 0).val).β (i 1).val (i 2).val))
    + -(-(-(if (i 2).val < (i 1).val then (headOf X Y (i 0).val).E (i 1).val (i 2).val else 0) * (headOf X Y (i 0).val).β (i 1).val (i 2).val))) * scale = _
  rw [Head.ds]
  split
  · ring
  · next h => rw [Head.e, Head.w, if_neg h]; ring

theorem ds_zero (H : Head) {i j : ℕ} (h : ¬ j < i) : H.ds i j = 0 := by
  rw [Head.ds, if_neg h, zero_mul]

include hX hY in
theorem dq_eq : val_main_v48 x0 x1 = R2 8192 1024 (φ := .bf16) (fun i a => (headOf X Y (a / 128)).dq i (a % 128)) := by
  funext i
  have h0 : (i 0).val < 8192 := (i 0).isLt
  have h1 : (i 1).val < 1024 := (i 1).isLt
  rw [val_main_v48_apply, val_main_v47_apply, val_main_v46_apply, val_main_v45_apply, ds_eq X Y x0 x1 hX hY, k_eq X Y x0 hX]
  show ∑ j : Fin 8192, (((headOf X Y (((i 0).val * 1024 + (i 1).val) / 128 % 8)).ds (((i 0).val * 1024 + (i 1).val) / 1024) j.val : ℝ) : EReal)
    * (((headOf X Y (((i 0).val * 1024 + (i 1).val) / 128 % 8)).k j.val (((i 0).val * 1024 + (i 1).val) % 128) : ℝ) : EReal) = _
  rw [show ((i 0).val * 1024 + (i 1).val) / 128 % 8 = (i 1).val / 128 by omega, show ((i 0).val * 1024 + (i 1).val) / 1024 = (i 0).val by omega,
    show ((i 0).val * 1024 + (i 1).val) % 128 = (i 1).val % 128 by omega]
  simp only [← EReal.coe_mul, Reals.sum_coe]
  refine congrArg (fun r : ℝ => (r : EReal)) ?_
  show _ = (headOf X Y ((i 1).val / 128)).Q (i 0).val (256 * ((i 0).val / 256 + 1)) ((i 1).val % 128)
  rw [Head.Q, ← Finset.sum_range (fun j => (headOf X Y ((i 1).val / 128)).ds (i 0).val j * (headOf X Y ((i 1).val / 128)).k j ((i 1).val % 128))]
  symm
  refine Finset.sum_subset (Finset.range_mono (by omega)) fun j _ hj => ?_
  rw [Finset.mem_range] at hj
  rw [ds_zero _ (by omega), zero_mul]

include hX hY in
theorem dk_eq : val_main_v50 x0 x1 = R2 8192 1024 (φ := .bf16) (fun i a => (headOf X Y (a / 128)).dk i (a % 128)) := by
  funext i
  have h0 : (i 0).val < 8192 := (i 0).isLt
  have h1 : (i 1).val < 1024 := (i 1).isLt
  rw [val_main_v50_apply, val_main_v49_apply, val_main_v44_apply, val_main_v43_apply, ds_eq X Y x0 x1 hX hY, q_eq X Y x0 hX]
  show ∑ j : Fin 8192, (((headOf X Y (((i 0).val * 1024 + (i 1).val) / 128 % 8)).ds j.val (((i 0).val * 1024 + (i 1).val) / 1024) : ℝ) : EReal)
    * (((headOf X Y (((i 0).val * 1024 + (i 1).val) / 128 % 8)).q j.val (((i 0).val * 1024 + (i 1).val) % 128) : ℝ) : EReal) = _
  rw [show ((i 0).val * 1024 + (i 1).val) / 128 % 8 = (i 1).val / 128 by omega, show ((i 0).val * 1024 + (i 1).val) / 1024 = (i 0).val by omega,
    show ((i 0).val * 1024 + (i 1).val) % 128 = (i 1).val % 128 by omega]
  simp only [← EReal.coe_mul, Reals.sum_coe]
  exact congrArg (fun r : ℝ => (r : EReal))
    (Finset.sum_range (fun j => (headOf X Y ((i 1).val / 128)).ds j (i 0).val * (headOf X Y ((i 1).val / 128)).q j ((i 1).val % 128))).symm

include hX hY in
theorem dv_eq : val_main_v52 x0 x1 = R2 8192 1024 (φ := .bf16) (fun i a => (headOf X Y (a / 128)).dv i (a % 128)) := by
  funext i
  have h0 : (i 0).val < 8192 := (i 0).isLt
  have h1 : (i 1).val < 1024 := (i 1).isLt
  rw [val_main_v52_apply, val_main_v51_apply, val_main_v30_apply, val_main_v29_apply, w_eq X Y x0 hX, d_eq X Y x1 hY]
  show ∑ j : Fin 8192, (((headOf X Y (((i 0).val * 1024 + (i 1).val) / 128 % 8)).d j.val (((i 0).val * 1024 + (i 1).val) % 128) : ℝ) : EReal)
    * (((headOf X Y (((i 0).val * 1024 + (i 1).val) / 128 % 8)).w j.val (((i 0).val * 1024 + (i 1).val) / 1024) : ℝ) : EReal) = _
  rw [show ((i 0).val * 1024 + (i 1).val) / 128 % 8 = (i 1).val / 128 by omega, show ((i 0).val * 1024 + (i 1).val) / 1024 = (i 0).val by omega,
    show ((i 0).val * 1024 + (i 1).val) % 128 = (i 1).val % 128 by omega]
  simp only [← EReal.coe_mul, Reals.sum_coe]
  refine congrArg (fun r : ℝ => (r : EReal)) (Eq.trans ?_
    (Finset.sum_range (fun j => (headOf X Y ((i 1).val / 128)).w j (i 0).val * (headOf X Y ((i 1).val / 128)).d j ((i 1).val % 128))).symm)
  exact Finset.sum_congr rfl fun j _ => mul_comm _ _

end Cert.SbRef
-- ==== Proof.Sb.lean ====
/-
  The claims about the stick-breaking gradient.
-/
module

public import proofs.«01_k».proof.Defs
public import proofs.«01_k».proof.Proof.Gen.Pre_sb_finite
public import proofs.«01_k».proof.Proof.Gen.SbReferenceIdeal
public import proofs.«01_k».proof.Proof.Gen.SbReferenceIdeal.Run
public import proofs.«01_k».proof.Proof.SbFrame
public import proofs.«01_k».proof.Proof.SbReference

@[expose] public section

set_option maxRecDepth 16384

noncomputable section

namespace Cert.SbClaims

open Idealize.ShloMosaic Idealize.ShloMosaic.TcCoe Idealize.SL.Sem
open Cert.Reals Cert.Sb Cert.SbRun Cert.SbReferenceIdeal.Read

/-- The call terminates with its arguments unchanged and its semaphores at zero, over the extended reals. -/
theorem frame_ideal : Cert.quiescent_SbKernelIdeal := Cert.SbRun.frame_ideal

/-- The same under the precondition. -/
theorem frame_ideal_finite : Cert.quiescent_SbKernelIdeal_pre_sb_finite := fun m ρ _ => frame_ideal m ρ trivial

/-- The reference terminates with its arguments unchanged. -/
theorem frame_reference : Cert.quiescent_SbReferenceIdeal := fun m ρ _ =>
  (θ_run Cert.SbReferenceIdeal.defs _ _).mono (fun r h => ⟨fun c => (h c).2.2.2, sem_eq_zero_of_no_sems (by rfl) r.2⟩)
    (Cert.SbReferenceIdeal.Value.run m ρ)

/-- The same under the precondition. -/
theorem frame_reference_finite : Cert.quiescent_SbReferenceIdeal_pre_sb_finite := fun m ρ _ => frame_reference m ρ trivial

/-- An array of real numbers is the image of a real matrix. -/
theorem exists_R2 {a b : ℕ} (x : FVec Ideal ⟨2, ![a, b]⟩ .f32) (h : ∀ i, ∃ r : ℝ, x i = r) : ∃ X : ℕ → ℕ → ℝ, x = R2 a b (φ := .f32) X := by
  choose r hr using h
  refine ⟨fun i j => if h : i < a ∧ j < b then r (ix2 ⟨i, h.1⟩ ⟨j, h.2⟩) else 0, funext fun y => ?_⟩
  rw [hr y]
  refine congrArg (fun r : ℝ => (r : EReal)) ?_
  have h : (y 0).val < a ∧ (y 1).val < b := ⟨(y 0).isLt, (y 1).isLt⟩
  show r y = if h : (y 0).val < a ∧ (y 1).val < b then _ else (0 : ℝ)
  rw [dif_pos h]
  refine congrArg r (funext fun k => ?_)
  match k with
  | ⟨0, _⟩ => rfl
  | ⟨1, _⟩ => rfl

/-- The precondition says that the queries, keys, values and the cotangent are real numbers. -/
theorem reals_of_pre (x0 : FVec Ideal Cert.Pre_sb_finite.S8192x3072 .f32) (x1 : FVec Ideal Cert.Pre_sb_finite.S8192x1024 .f32)
    (h : Cert.Pre_sb_finite.fn (F := Ideal) x0 x1 = fun _ => 1#1) : (∀ i, ∃ r : ℝ, x0 i = r) ∧ ∀ i, ∃ r : ℝ, x1 i = r := by
  have e := congrFun h ix0
  unfold Cert.Pre_sb_finite.fn at e
  haveI : Subsingleton Cert.Pre_sb_finite.S_.Idx := ⟨fun a b => funext fun k => k.elim0⟩
  obtain ⟨e0, e1⟩ := IntOp.andi_eq_one.1 e
  exact ⟨real_of_all _ _ _ _ _ _ _ e0, real_of_all _ _ _ _ _ _ _ e1⟩

/-- For finite queries, keys, values and cotangent the call computes the three gradients of stick-breaking attention, over the extended reals. -/
theorem algebraic : Cert.algebraic_SbKernelIdeal_SbReferenceIdeal_pre_sb_finite := by
  intro m g m' g' hpre hagree
  have hX : ∀ c : Dev Cert.SbKernelIdeal.nD, ∃ X : ℕ → ℕ → ℝ, m ((c : Thread Cert.SbKernelIdeal.nD Cert.SbKernelIdeal.τ).loc Cert.SbKernelIdeal.main_arg0) = R2 8192 3072 (φ := .f32) X :=
    fun c => exists_R2 _ (reals_of_pre _ _ (hpre c)).1
  have hY : ∀ c : Dev Cert.SbKernelIdeal.nD, ∃ Y : ℕ → ℕ → ℝ, m ((c : Thread Cert.SbKernelIdeal.nD Cert.SbKernelIdeal.τ).loc Cert.SbKernelIdeal.main_arg1) = R2 8192 1024 (φ := .f32) Y :=
    fun c => exists_R2 _ (reals_of_pre _ _ (hpre c)).2
  choose X hX using hX
  choose Y hY using hY
  refine ⟨fun c => _, fun c => _, fun c => _, run_value m g X Y hX hY, ?_⟩
  refine (θ_run _ _ _).mono (fun r h c => ?_) (Cert.SbReferenceIdeal.Value.run m' g')
  obtain ⟨a0, a1⟩ := hagree c
  refine ⟨(h c).1.trans ?_, (h c).2.1.trans ?_, (h c).2.2.1.trans ?_, (h c).2.2.2⟩
  · exact (val_main_v48_eq (F := Ideal) m' c).trans (Cert.SbRef.dq_eq (X c) (Y c) _ _ (a0.trans (hX c)) (a1.trans (hY c)))
  · exact (val_main_v50_eq (F := Ideal) m' c).trans (Cert.SbRef.dk_eq (X c) (Y c) _ _ (a0.trans (hX c)) (a1.trans (hY c)))
  · exact (val_main_v52_eq (F := Ideal) m' c).trans (Cert.SbRef.dv_eq (X c) (Y c) _ _ (a0.trans (hX c)) (a1.trans (hY c)))

end Cert.SbClaims
-- ==== Proof.RealArrays.lean ====
/-
  Arrays of real numbers among arrays of extended reals, and the words of the real constants used.
-/
module

public import Idealize.ShloMosaic.Lib.Pipeline.Value
public import proofs.«01_k».proof.Proof.Reals

@[expose] public section

noncomputable section

namespace Cert.Reals

open Idealize.ShloMosaic

/-- A vector of real numbers. -/
def V1 (a : ℕ) {φ : FTy} (f : ℕ → ℝ) : FVec Ideal ⟨1, ![a]⟩ φ := fun x => ((f (x 0).val : ℝ) : EReal)

/-- A matrix of real numbers. -/
def V2 (a b : ℕ) {φ : FTy} (f : ℕ → ℕ → ℝ) : FVec Ideal ⟨2, ![a, b]⟩ φ := fun x => ((f (x 0).val (x 1).val : ℝ) : EReal)

/-- A stack of matrices of real numbers. -/
def V3 (a b c : ℕ) {φ : FTy} (f : ℕ → ℕ → ℕ → ℝ) : FVec Ideal ⟨3, ![a, b, c]⟩ φ :=
  fun x => ((f (x 0).val (x 1).val (x 2).val : ℝ) : EReal)

/-- A stack of one matrix, with its leading axis dropped. -/
theorem drop_unit {a b : ℕ} {φ : FTy} (f : ℕ → ℕ → ℕ → ℝ) (h : (⟨3, ![1, a, b]⟩ : Shape).ShapeCasts ⟨2, ![a, b]⟩) :
    shapeCast ⟨2, ![a, b]⟩ (V3 1 a b (φ := φ) f) h = V2 a b (φ := φ) (f 0) := by
  funext x
  exact shapeCast_dropUnit_apply ![a, b] (V3 1 a b (φ := φ) f) h x

/-- A matrix, seen as a stack of one. -/
theorem add_unit {a b : ℕ} {φ : FTy} (f : ℕ → ℕ → ℝ) (h : (⟨2, ![a, b]⟩ : Shape).ShapeCasts ⟨3, ![1, a, b]⟩) :
    shapeCast ⟨3, ![1, a, b]⟩ (V2 a b (φ := φ) f) h = V3 1 a b (φ := φ) fun _ => f := by
  funext x
  exact shapeCast_addUnit_apply ![a, b] (V2 a b (φ := φ) f) h x

theorem V2_congr {a b : ℕ} {φ : FTy} {f g : ℕ → ℕ → ℝ} (h : ∀ i < a, ∀ j < b, f i j = g i j) : V2 a b (φ := φ) f = V2 a b g := by
  funext x
  exact congrArg (fun r : ℝ => (r : EReal)) (h _ (x 0).isLt _ (x 1).isLt)

/-- An array of shape `a × b` whose elements are real is the array of those numbers. -/
theorem exists_V2 {a b : ℕ} {φ : FTy} (x : FVec Ideal ⟨2, ![a, b]⟩ φ) (h : ∀ i, ∃ r : ℝ, x i = r) : ∃ f, x = V2 a b f := by
  classical
  choose r hr using h
  refine ⟨fun i j => if hi : i < a then if hj : j < b then r (ix2 ⟨i, hi⟩ ⟨j, hj⟩) else 0 else 0, funext fun y => ?_⟩
  rw [hr y]
  refine congrArg (fun t : ℝ => (t : EReal)) ?_
  have e : y = ix2 (y 0) (y 1) := by funext k; fin_cases k <;> rfl
  show r y = if hi : (y 0).val < a then if hj : (y 1).val < b then r (ix2 ⟨(y 0).val, hi⟩ ⟨(y 1).val, hj⟩) else 0 else 0
  rw [dif_pos (show (y 0).val < a from (y 0).isLt), dif_pos (show (y 1).val < b from (y 1).isLt)]
  exact congrArg r e

/-- The same for a stack of matrices. -/
theorem exists_V3 {a b c : ℕ} {φ : FTy} (x : FVec Ideal ⟨3, ![a, b, c]⟩ φ) (h : ∀ i, ∃ r : ℝ, x i = r) : ∃ f, x = V3 a b c f := by
  classical
  choose r hr using h
  refine ⟨fun i j k => if hi : i < a then if hj : j < b then if hk : k < c then r (ix3 ⟨i, hi⟩ ⟨j, hj⟩ ⟨k, hk⟩) else 0 else 0 else 0, funext fun y => ?_⟩
  rw [hr y]
  refine congrArg (fun t : ℝ => (t : EReal)) ?_
  have e : y = ix3 (y 0) (y 1) (y 2) := by funext k; fin_cases k <;> rfl
  show r y = if hi : (y 0).val < a then if hj : (y 1).val < b then if hk : (y 2).val < c then r (ix3 ⟨(y 0).val, hi⟩ ⟨(y 1).val, hj⟩ ⟨(y 2).val, hk⟩) else 0 else 0 else 0
  rw [dif_pos (show (y 0).val < a from (y 0).isLt), dif_pos (show (y 1).val < b from (y 1).isLt), dif_pos (show (y 2).val < c from (y 2).isLt)]
  exact congrArg r e

/-- A single row whose elements are real. -/
theorem exists_row {b : ℕ} {φ : FTy} (x : FVec Ideal ⟨2, ![1, b]⟩ φ) (h : ∀ i, ∃ r : ℝ, x i = r) : ∃ f : ℕ → ℝ, x = V2 1 b fun _ => f := by
  obtain ⟨f, hf⟩ := exists_V2 x h
  refine ⟨f 0, hf.trans (V2_congr fun i hi j _ => ?_)⟩
  rw [Nat.lt_one_iff.1 hi]

/-- A stack of one matrix whose elements are real. -/
theorem exists_one {a b : ℕ} {φ : FTy} (x : FVec Ideal ⟨3, ![1, a, b]⟩ φ) (h : ∀ i, ∃ r : ℝ, x i = r) : ∃ f : ℕ → ℕ → ℝ, x = V3 1 a b fun _ => f := by
  obtain ⟨f, hf⟩ := exists_V3 x h
  refine ⟨f 0, hf.trans (funext fun y => ?_)⟩
  have h0 : (y 0).val = 0 := Nat.lt_one_iff.1 (y 0).isLt
  show ((f (y 0).val (y 1).val (y 2).val : ℝ) : EReal) = ((f 0 (y 1).val (y 2).val : ℝ) : EReal)
  rw [h0]

/-- The number named by the word of √2. -/
def alpha : ℝ := 11863283 * (2 ^ 23)⁻¹
theorem alpha_eq : Ideal.ofBits .f32 0x3FB504F3#32 = (alpha : EReal) := by
  simp [Ideal.ofBits, Ideal.ieee, alpha]

/-- The small number added to a variance. -/
def eps : ℝ := 10995116 * (2 ^ 40)⁻¹
theorem eps_eq : Ideal.ofBits .f32 0x3727C5AC#32 = (eps : EReal) := by
  simp [Ideal.ofBits, Ideal.ieee, eps]
theorem eps_pos : 0 < eps := by
  unfold eps
  positivity

end Cert.Reals
end
-- ==== Proof.SwaBody.lean ====
/-
  The body of the sliding-window attention's gradient, at one grid point: what it leaves in its buffers.
-/
module

public import proofs.«01_k».proof.Proof.Owned
public import proofs.«01_k».proof.Proof.Gen.SwaKernelIdeal
public import proofs.«01_k».proof.Proof.Gen.SwaKernelIdeal.Skeleton

@[expose] public section

set_option maxRecDepth 16384

noncomputable section

namespace Cert.SwaBody

open Idealize.ShloMosaic Idealize.ShloMosaic.TcCoe Idealize.ShloMosaic.Tactic
open Idealize.SL Idealize.SL.RA Idealize.SL.BI
open Idealize.SL.Sem
open Cert.SwaKernelIdeal Cert.SwaKernelIdeal.Gen Cert.Owned

variable {F : FTy → Type} [FloatOps F] [Named F]

/-- The buffers that the body works on: the sinks, the blocks of the queries and of the output's cotangent, the two blocks of keys and
    values, the three results' blocks, and the running sums of the sinks' gradient. -/
inductive B | sk | q | d | ka | kb | dq | dkv | ds | acc
  deriving DecidableEq

instance : Fintype B := ⟨{.sk, .q, .d, .ka, .kb, .dq, .dkv, .ds, .acc}, by intro x; cases x <;> decide⟩

/-- Their memories. -/
@[reducible] def spc : B → CoreSpace
  | .sk => .smem | .q => .vmem | .d => .vmem | .ka => .vmem | .kb => .vmem | .dq => .vmem | .dkv => .vmem | .ds => .vmem | .acc => .vmem

/-- Their shapes. -/
@[reducible] def shp : B → Shape
  | .sk => S16 | .q => S128x1024 | .d => S128x1024 | .ka => S128x256 | .kb => S128x256 | .dq => S128x1024 | .dkv => S8320x256 | .ds => S1x128
  | .acc => S2x1024x1

/-- Their element types. -/
@[reducible] def elt : B → EltTy
  | .sk => .f32 | .q => .bf16 | .d => .bf16 | .ka => .bf16 | .kb => .bf16 | .dq => .bf16 | .dkv => .f32 | .ds => .f32 | .acc => .f32

/-- The buffers as memory references. -/
abbrev Mems := (b : B) → Memref sig .tc (spc b) (shp b) (elt b)

/-- The same as a list of owned buffers. -/
@[reducible] def bufs (M : Mems) : Bufs sig B := ⟨spc, shp, elt, M⟩

/-- What the buffers hold. -/
abbrev St (F : FTy → Type) := (b : B) → (shp b).Idx → Elt F (elt b)

variable (defs : Defs nD τ sig (Elt F) Λ₀) (c : Dev nD) (M : Mems) (H : (b : B) → (M b).IsWhole)
variable (Ix : Type) [DecidableEq Ix] (U : Type) [URA U] (Lvl : Type) [Preorder Lvl]

/-- From the contents `σ` the program ends in a result and contents that satisfy `Q`. -/
abbrev Does {α : Type} (bd : Option ℕ) (p : Prog (TpuEff nD τ sig (Elt F) Λ₀ .tc) α) (Q : α → St F → Prop) (σ : St F) : Prop :=
  Runs (R := bufs M) Ix U Lvl defs c bd p Q σ

/-- A store. -/
abbrev wrt (σ : St F) (b : B) (r : Rect (shp b)) (w : r.shape.Idx → Elt F (elt b)) : St F := wr (sh := shp) (el := elt) σ b r w

/-- The sink of one head. -/
abbrev sinkAt (s : S16.Idx → Elt F .f32) (o : Fin 1 → ℕ) (h : ∀ a, o a + S1.size a ≤ S16.size a) : Elt F .f32 :=
  s ((Rect.unit (s := S16) o S1.size h).toLoadRect.idx (Shape.Idx.first (numel1_S1.symm ▸ Nat.one_pos)))

/-! ### The values that the body computes from its arguments' blocks -/

section Values

variable (i : grid0.Coords) (σ : St F)

/-- The queries, the cotangents, the keys and values: the blocks read whole. -/
def queries : FVec F S128x1024 .bf16 := k0_pay16 fun x => σ .q ((Rect.unit (s := S128x1024) ![0, 0] S128x1024.size inb_S128x1024_S128x1024_0_0).toLoadRect.idx x)
def cots : FVec F S128x1024 .bf16 := k0_pay17 fun x => σ .d ((Rect.unit (s := S128x1024) ![0, 0] S128x1024.size inb_S128x1024_S128x1024_0_0).toLoadRect.idx x)
def keys : FVec F S256x256 .bf16 := k0_pay18 (fun x => σ .ka ((Rect.unit (s := S128x256) ![0, 0] S128x256.size inb_S128x256_S128x256_0_0).toLoadRect.idx x))
  fun x => σ .kb ((Rect.unit (s := S128x256) ![0, 0] S128x256.size inb_S128x256_S128x256_0_0).toLoadRect.idx x)

/-- The first group's sinks (of its first four heads), its slopes, and where the fifth head's rows lie. -/
def sinks0 : FVec F S1024x1 .f32 := k0_pay36 k0_pay32 k0_pay34 (sinkAt (σ .sk) ![0] inb_S16_S1_0) (sinkAt (σ .sk) ![1] inb_S16_S1_1) (sinkAt (σ .sk) ![2] inb_S16_S1_2) (sinkAt (σ .sk) ![3] inb_S16_S1_3)
def slopes0 : FVec F S1024x1 .f32 := k0_pay37 k0_pay32 k0_pay33 k0_pay35 (Scalar.ofBits .f32 0x3F3504F3#32)

/-- The first group's exponentials, the sink's, and the sums of the former. -/
def exps0 : FVec F S1024x256 .f32 := k0_pay43 k0_pay20 (k0_pay21 i) (k0_pay25 (queries σ) (keys σ)) k0_pay32 (sinks0 σ) slopes0 (k0_pay38 k0_pay32)
  (k0_pay39 (sinkAt (σ .sk) ![4] inb_S16_S1_4)) (sinkAt (σ .sk) ![5] inb_S16_S1_5) (sinkAt (σ .sk) ![6] inb_S16_S1_6) (sinkAt (σ .sk) ![7] inb_S16_S1_7)
def sinkExps0 : FVec F S1024x1 .f32 := k0_pay44 k0_pay20 (k0_pay21 i) (k0_pay25 (queries σ) (keys σ)) k0_pay32 (sinks0 σ) slopes0 (k0_pay38 k0_pay32)
  (k0_pay39 (sinkAt (σ .sk) ![4] inb_S16_S1_4)) (sinkAt (σ .sk) ![5] inb_S16_S1_5) (sinkAt (σ .sk) ![6] inb_S16_S1_6) (sinkAt (σ .sk) ![7] inb_S16_S1_7)
def sums0 : FVec F S1024x1 .f32 := k0_pay45 k0_pay20 (k0_pay21 i) (k0_pay25 (queries σ) (keys σ)) k0_pay32 (sinks0 σ) slopes0 (k0_pay38 k0_pay32)
  (k0_pay39 (sinkAt (σ .sk) ![4] inb_S16_S1_4)) (sinkAt (σ .sk) ![5] inb_S16_S1_5) (sinkAt (σ .sk) ![6] inb_S16_S1_6) (sinkAt (σ .sk) ![7] inb_S16_S1_7)

/-- The gradient of the first group's scores and its weights. -/
def dScores0 : FVec F S1024x256 .bf16 := k0_pay50 (k0_pay26 (cots σ) (keys σ)) (exps0 i σ) (sums0 i σ)
def weights0 : FVec F S1024x256 .bf16 := k0_pay51 (exps0 i σ) (sums0 i σ)

/-- The second group's sinks and slopes. -/
def sinks1 : FVec F S1024x1 .f32 := k0_pay56 k0_pay52 (k0_pay53 (sinkAt (σ .sk) ![8] inb_S16_S1_8)) 1#32 (sinkAt (σ .sk) ![9] inb_S16_S1_9) (sinkAt (σ .sk) ![10] inb_S16_S1_10) (sinkAt (σ .sk) ![11] inb_S16_S1_11) (sinkAt (σ .sk) ![12] inb_S16_S1_12) (sinkAt (σ .sk) ![13] inb_S16_S1_13)
def slopes1 : FVec F S1024x1 .f32 := k0_pay55 k0_pay52 (k0_pay54 (F := F))

/-- The second group's weights, their products with the cotangents summed, and the sink's share. -/
def probs1 : FVec F S1024x256 .f32 := k0_pay64 k0_pay20 (k0_pay21 i) (k0_pay30 (queries σ) (keys σ)) k0_pay52 slopes1 (sinks1 σ) k0_pay57 (sinkAt (σ .sk) ![14] inb_S16_S1_14) (sinkAt (σ .sk) ![15] inb_S16_S1_15)
def sumsOf1 : FVec F S1024x1 .f32 := k0_pay65 k0_pay20 (k0_pay21 i) (k0_pay30 (queries σ) (keys σ)) (k0_pay31 (cots σ) (keys σ)) k0_pay52 slopes1 (sinks1 σ) k0_pay57 (sinkAt (σ .sk) ![14] inb_S16_S1_14) (sinkAt (σ .sk) ![15] inb_S16_S1_15)
def sinkOf1 : FVec F S1024x1 .f32 := k0_pay67 k0_pay20 (k0_pay21 i) (k0_pay30 (queries σ) (keys σ)) (k0_pay31 (cots σ) (keys σ)) k0_pay52 slopes1 (sinks1 σ) k0_pay57 (sinkAt (σ .sk) ![14] inb_S16_S1_14) (sinkAt (σ .sk) ![15] inb_S16_S1_15)

/-- The gradient of the second group's scores and its weights. -/
def dScores1 : FVec F S1024x256 .bf16 := k0_pay69 (k0_pay31 (cots σ) (keys σ)) (probs1 i σ) (sumsOf1 i σ)
def weights1 : FVec F S1024x256 .bf16 := k0_pay70 (probs1 i σ)

end Values

/-! ### What the body leaves -/

/-- The rows of a group of the running sums. -/
abbrev accRect (o : Fin 3 → ℕ) (h : ∀ a, o a + S1x1024x1.size a ≤ S2x1024x1.size a) : Rect S2x1024x1 := Rect.unit (s := S2x1024x1) o S1x1024x1.size h
/-- One head's columns of the queries' gradient. -/
abbrev dqRect (o : Fin 2 → ℕ) (h : ∀ a, o a + S128x64.size a ≤ S128x1024.size a) : Rect S128x1024 := Rect.unit (s := S128x1024) o S128x64.size h
/-- The block's rows and a group's columns of the keys' and values' gradient. -/
abbrev kvRect (o : Fin 2 → ℕ) (h : ∀ a, o a + S256x64.size a ≤ S8320x256.size a) : Rect S8320x256 := Rect.unit (s := S8320x256) o S256x64.size h

/-- The point is the first. -/
abbrev first (i : grid0.Coords) : Prop := Scalar.cmpi .ne (Scalar.extui (Scalar.cmpi .eq (BitVec.ofNat 32 (i 0).val) 0#32)) 0#32 = 1#1

/-- The first point sets the sums to zero. -/
def reset (i : grid0.Coords) (σ : St F) : St F :=
  if first i then wrt (wrt σ .dkv (Rect.unit (s := S8320x256) ![0, 0] S8320x256.size inb_S8320x256_S8320x256_0_0) (k0_pay14 (F := F))) .acc
    (Rect.unit (s := S2x1024x1) ![0, 0, 0] S2x1024x1.size inb_S2x1024x1_S2x1024x1_0_0_0) (k0_pay15 (F := F)) else σ

/-- The running sum of a group grows by the sink's weights times `x`. -/
def accA (v59 v170 : FVec F S1024x256 .f32) (v172 v175 : FVec F S1024x1 .f32) (σ : St F) : St F :=
  wrt σ .acc (accRect ![0, 0, 0] inb_S2x1024x1_S1x1024x1_0_0_0)
    (k0_pay49 v59 v170 v172 v175 fun x => σ .acc ((accRect ![0, 0, 0] inb_S2x1024x1_S1x1024x1_0_0_0).toLoadRect.idx x))
def accB (v301 v302 : FVec F S1024x1 .f32) (σ : St F) : St F :=
  wrt σ .acc (accRect ![1, 0, 0] inb_S2x1024x1_S1x1024x1_1_0_0) (k0_pay68 v301 v302)

/-- The queries' gradient: eight heads of a group, one after another. -/
def dqA (v38 : FVec F S256x64 .bf16) (v196 : FVec F S1024x256 .bf16) (σ : St F) : St F :=
  wrt (wrt (wrt (wrt (wrt (wrt (wrt (wrt (σ) .dq (dqRect ![0, 0] inb_S128x1024_S128x64_0_0) (k0_pay72 v38 v196)) .dq (dqRect ![0, 64] inb_S128x1024_S128x64_0_64) (k0_pay73 v38 v196)) .dq (dqRect ![0, 128] inb_S128x1024_S128x64_0_128) (k0_pay74 v38 v196)) .dq (dqRect ![0, 192] inb_S128x1024_S128x64_0_192) (k0_pay75 v38 v196)) .dq (dqRect ![0, 256] inb_S128x1024_S128x64_0_256) (k0_pay76 v38 v196)) .dq (dqRect ![0, 320] inb_S128x1024_S128x64_0_320) (k0_pay77 v38 v196)) .dq (dqRect ![0, 384] inb_S128x1024_S128x64_0_384) (k0_pay78 v38 v196)) .dq (dqRect ![0, 448] inb_S128x1024_S128x64_0_448) (k0_pay79 v38 v196)
def dqB (v60 : FVec F S256x64 .bf16) (v312 : FVec F S1024x256 .bf16) (σ : St F) : St F :=
  wrt (wrt (wrt (wrt (wrt (wrt (wrt (σ) .dq (dqRect ![0, 512] inb_S128x1024_S128x64_0_512) (k0_pay83 v60 v312)) .dq (dqRect ![0, 576] inb_S128x1024_S128x64_0_576) (k0_pay84 v60 v312)) .dq (dqRect ![0, 640] inb_S128x1024_S128x64_0_640) (k0_pay85 v60 v312)) .dq (dqRect ![0, 704] inb_S128x1024_S128x64_0_704) (k0_pay86 v60 v312)) .dq (dqRect ![0, 768] inb_S128x1024_S128x64_0_768) (k0_pay87 v60 v312)) .dq (dqRect ![0, 832] inb_S128x1024_S128x64_0_832) (k0_pay88 v60 v312)) .dq (dqRect ![0, 896] inb_S128x1024_S128x64_0_896) (k0_pay89 v60 v312)
def dqC (v362 : FVec F S128x64 .bf16) (σ : St F) : St F := wrt σ .dq (dqRect ![0, 960] inb_S128x1024_S128x64_0_960) v362

/-- The keys' and values' gradient: the block's rows grow by the products of a group. -/
def kvA (i : grid0.Coords) (v47 : FVec F S1024x64 .bf16) (v196 : FVec F S1024x256 .bf16) (σ : St F) : St F :=
  wrt σ .dkv (kvRect (k0_off1 i) (k0_off1_inb i)) (k0_pay80 v47 v196 fun x => σ .dkv ((kvRect (k0_off1 i) (k0_off1_inb i)).toLoadRect.idx x))
def kvB (i : grid0.Coords) (v56 : FVec F S1024x64 .bf16) (v197 : FVec F S1024x256 .bf16) (σ : St F) : St F :=
  wrt σ .dkv (kvRect (k0_off2 i) (k0_off2_inb i)) (k0_pay81 v56 v197 fun x => σ .dkv ((kvRect (k0_off2 i) (k0_off2_inb i)).toLoadRect.idx x))
def kvC (i : grid0.Coords) (v69 : FVec F S1024x64 .bf16) (v312 : FVec F S1024x256 .bf16) (σ : St F) : St F :=
  wrt σ .dkv (kvRect (k0_off3 i) (k0_off3_inb i)) (k0_pay1 v69 v312 fun x => σ .dkv ((kvRect (k0_off3 i) (k0_off3_inb i)).toLoadRect.idx x))
def kvD (i : grid0.Coords) (v78 : FVec F S1024x64 .bf16) (v313 : FVec F S1024x256 .bf16) (σ : St F) : St F :=
  wrt σ .dkv (kvRect (k0_off4 i) (k0_off4_inb i)) (k0_pay2 v78 v313 fun x => σ .dkv ((kvRect (k0_off4 i) (k0_off4_inb i)).toLoadRect.idx x))

/-- The state after the body up to the last point's work. -/
def work (i : grid0.Coords) (σ : St F) : St F :=
  kvD i (k0_pay29 (cots σ)) (weights1 i σ) (kvC i (k0_pay28 (queries σ)) (dScores1 i σ) (dqC (k0_pay90 (k0_pay27 (keys σ)) (dScores1 i σ))
    (dqB (k0_pay27 (keys σ)) (dScores1 i σ) (kvB i (k0_pay24 (cots σ)) (weights0 i σ) (kvA i (k0_pay23 (queries σ)) (dScores0 i σ)
      (dqA (k0_pay22 (keys σ)) (dScores0 i σ) (accB (k0_pay66 fun x => accA (k0_pay26 (cots σ) (keys σ)) (exps0 i σ) (sinkExps0 i σ) (sums0 i σ) σ .acc ((accRect ![1, 0, 0] inb_S2x1024x1_S1x1024x1_1_0_0).toLoadRect.idx x)) (sinkOf1 i σ)
        (accA (k0_pay26 (cots σ) (keys σ)) (exps0 i σ) (sinkExps0 i σ) (sums0 i σ) σ))))))))

/-- One head's rows of the running sums. -/
abbrev cutRect (o : Fin 3 → ℕ) (h : ∀ a, o a + S1x128x1.size a ≤ S2x1024x1.size a) : Rect S2x1024x1 := Rect.unit (s := S2x1024x1) o S1x128x1.size h

/-- The lanes of the sinks' gradient. -/
abbrev lanes : IVec S1x128 32 := iota .tc S1x128 32 [1] iota_S1x128_d1_w32

/-- The sinks' gradient after the first three, eight, eleven and thirteen heads, each from the running sums. -/
def sinkGrad2 (σ : St F) : FVec F S1x128 .f32 := k0_pay4 (fun x => σ .acc ((cutRect ![0, 0, 0] inb_S2x1024x1_S1x128x1_0_0_0).toLoadRect.idx x)) (fun x => σ .acc ((cutRect ![0, 128, 0] inb_S2x1024x1_S1x128x1_0_128_0).toLoadRect.idx x)) (fun x => σ .acc ((cutRect ![0, 256, 0] inb_S2x1024x1_S1x128x1_0_256_0).toLoadRect.idx x))
def sinkGrad5 (σ : St F) : FVec F S1x128 .f32 := k0_pay6 lanes (sinkGrad2 σ) (k0_pay5 (fun x => σ .acc ((cutRect ![0, 384, 0] inb_S2x1024x1_S1x128x1_0_384_0).toLoadRect.idx x))) (fun x => σ .acc ((cutRect ![0, 512, 0] inb_S2x1024x1_S1x128x1_0_512_0).toLoadRect.idx x)) (fun x => σ .acc ((cutRect ![0, 640, 0] inb_S2x1024x1_S1x128x1_0_640_0).toLoadRect.idx x))
def sinkGrad9 (σ : St F) : FVec F S1x128 .f32 := k0_pay9 lanes (sinkGrad5 σ) (k0_pay7 lanes) (k0_pay8 (fun x => σ .acc ((cutRect ![0, 768, 0] inb_S2x1024x1_S1x128x1_0_768_0).toLoadRect.idx x))) (fun x => σ .acc ((cutRect ![0, 896, 0] inb_S2x1024x1_S1x128x1_0_896_0).toLoadRect.idx x)) (fun x => σ .acc ((cutRect ![1, 0, 0] inb_S2x1024x1_S1x128x1_1_0_0).toLoadRect.idx x)) (fun x => σ .acc ((cutRect ![1, 128, 0] inb_S2x1024x1_S1x128x1_1_128_0).toLoadRect.idx x))
def sinkGrad12 (σ : St F) : FVec F S1x128 .f32 := k0_pay11 lanes (sinkGrad9 σ) (k0_pay10 (fun x => σ .acc ((cutRect ![1, 256, 0] inb_S2x1024x1_S1x128x1_1_256_0).toLoadRect.idx x))) (fun x => σ .acc ((cutRect ![1, 384, 0] inb_S2x1024x1_S1x128x1_1_384_0).toLoadRect.idx x)) (fun x => σ .acc ((cutRect ![1, 512, 0] inb_S2x1024x1_S1x128x1_1_512_0).toLoadRect.idx x))
def sinkGrad (σ : St F) : FVec F S1x128 .f32 := k0_pay3 lanes (sinkGrad12 σ) (k0_pay12 lanes) (k0_pay13 (fun x => σ .acc ((cutRect ![1, 640, 0] inb_S2x1024x1_S1x128x1_1_640_0).toLoadRect.idx x))) (fun x => σ .acc ((cutRect ![1, 768, 0] inb_S2x1024x1_S1x128x1_1_768_0).toLoadRect.idx x)) (fun x => σ .acc ((cutRect ![1, 896, 0] inb_S2x1024x1_S1x128x1_1_896_0).toLoadRect.idx x))

/-- The last point turns the running sums into the sinks' gradient. -/
def ends (i : grid0.Coords) (σ : St F) : St F :=
  if k0_cond2 i = 1#1 then wrt σ .ds (Rect.unit (s := S1x128) ![0, 0] S1x128.size inb_S1x128_S1x128_0_0) (sinkGrad σ) else σ

/-! ### The parts of the body -/

theorem part7_does (i : grid0.Coords) (v84 : IVec S1024x1 32) (v85 v86 : FVec F S1024x1 .f32) (v88 : IVec S1024x1 1) (cst_22 : F .f32) (bd : Option ℕ) (σ : St F) :
    Does defs c M Ix U Lvl bd (k0_part7 i (M .sk) (H .sk) (M .q) (H .q) (M .d) (H .d) (M .ka) (H .ka) (M .kb) (H .kb) (M .dq) (H .dq) (M .dkv) (H .dkv) (M .ds) (H .ds) (M .acc) (H .acc) v84 v85 v86 v88 cst_22)
      (fun b σ' => b = ⟨k0_pay36 v84 v86 (sinkAt (σ .sk) ![0] inb_S16_S1_0) (sinkAt (σ .sk) ![1] inb_S16_S1_1) (sinkAt (σ .sk) ![2] inb_S16_S1_2) (sinkAt (σ .sk) ![3] inb_S16_S1_3), k0_pay37 v84 v85 v88 cst_22, k0_pay38 v84, k0_pay39 (sinkAt (σ .sk) ![4] inb_S16_S1_4)⟩ ∧ σ' = σ) σ := by
  rw [k0_part7_eq_skeleton]
  refine Runs.load (R := bufs M) .sk ?_
  refine Runs.load (R := bufs M) .sk ?_
  refine Runs.load (R := bufs M) .sk ?_
  refine Runs.load (R := bufs M) .sk ?_
  refine Runs.load (R := bufs M) .sk ?_
  exact Runs.ret ⟨rfl, rfl⟩

theorem part8_does (i : grid0.Coords) (v33 v37 v57 : FVec F S1024x256 .f32) (v84 : IVec S1024x1 32) (v122 v126 : FVec F S1024x1 .f32) (v128 : IVec S1024x1 1) (v130 : FVec F S1024x1 .f32) (bd : Option ℕ) (σ : St F) :
    Does defs c M Ix U Lvl bd (k0_part8 i (M .sk) (H .sk) (M .q) (H .q) (M .d) (H .d) (M .ka) (H .ka) (M .kb) (H .kb) (M .dq) (H .dq) (M .dkv) (H .dkv) (M .ds) (H .ds) (M .acc) (H .acc) v33 v37 v57 v84 v122 v126 v128 v130)
      (fun b σ' => b = ⟨k0_pay43 v33 v37 v57 v84 v122 v126 v128 v130 (sinkAt (σ .sk) ![5] inb_S16_S1_5) (sinkAt (σ .sk) ![6] inb_S16_S1_6) (sinkAt (σ .sk) ![7] inb_S16_S1_7), k0_pay44 v33 v37 v57 v84 v122 v126 v128 v130 (sinkAt (σ .sk) ![5] inb_S16_S1_5) (sinkAt (σ .sk) ![6] inb_S16_S1_6) (sinkAt (σ .sk) ![7] inb_S16_S1_7), k0_pay45 v33 v37 v57 v84 v122 v126 v128 v130 (sinkAt (σ .sk) ![5] inb_S16_S1_5) (sinkAt (σ .sk) ![6] inb_S16_S1_6) (sinkAt (σ .sk) ![7] inb_S16_S1_7)⟩ ∧ σ' = σ) σ := by
  rw [k0_part8_eq_skeleton]
  refine Runs.load (R := bufs M) .sk ?_
  refine Runs.load (R := bufs M) .sk ?_
  refine Runs.load (R := bufs M) .sk ?_
  exact Runs.ret ⟨rfl, rfl⟩

theorem part9_does (i : grid0.Coords) (v59 v170 : FVec F S1024x256 .f32) (v172 v175 : FVec F S1024x1 .f32) (bd : Option ℕ) (σ : St F) :
    Does defs c M Ix U Lvl bd (k0_part9 i (M .sk) (H .sk) (M .q) (H .q) (M .d) (H .d) (M .ka) (H .ka) (M .kb) (H .kb) (M .dq) (H .dq) (M .dkv) (H .dkv) (M .ds) (H .ds) (M .acc) (H .acc) v59 v170 v172 v175)
      (fun b σ' => b = ⟨k0_pay50 v59 v170 v175, k0_pay51 v170 v175, k0_pay52, k0_pay53 (sinkAt (σ .sk) ![8] inb_S16_S1_8), k0_pay54 (F := F), 1#32⟩ ∧ σ' = accA v59 v170 v172 v175 σ) σ := by
  rw [k0_part9_eq_skeleton]
  refine Runs.load (R := bufs M) .acc ?_
  refine Runs.load (R := bufs M) .acc ?_
  refine Runs.write (R := bufs M) .acc ?_
  refine Runs.load (R := bufs M) .sk ?_
  exact Runs.ret ⟨rfl, rfl⟩

theorem part10_does (i : grid0.Coords) (v200 : IVec S1024x1 32) (v211 v215 : FVec F S1024x1 .f32) (c1_i32_61 : BitVec 32) (bd : Option ℕ) (σ : St F) (s : S16.Idx → Elt F .f32) (hs : σ .sk = s) :
    Does defs c M Ix U Lvl bd (k0_part10 i (M .sk) (H .sk) (M .q) (H .q) (M .d) (H .d) (M .ka) (H .ka) (M .kb) (H .kb) (M .dq) (H .dq) (M .dkv) (H .dkv) (M .ds) (H .ds) (M .acc) (H .acc) v200 v211 v215 c1_i32_61)
      (fun b σ' => b = ⟨k0_pay55 v200 v215, k0_pay56 v200 v211 c1_i32_61 (sinkAt s ![9] inb_S16_S1_9) (sinkAt s ![10] inb_S16_S1_10) (sinkAt s ![11] inb_S16_S1_11) (sinkAt s ![12] inb_S16_S1_12) (sinkAt s ![13] inb_S16_S1_13), k0_pay57⟩ ∧ σ' = σ) σ := by
  subst hs
  rw [k0_part10_eq_skeleton]
  refine Runs.load (R := bufs M) .sk ?_
  refine Runs.load (R := bufs M) .sk ?_
  refine Runs.load (R := bufs M) .sk ?_
  refine Runs.load (R := bufs M) .sk ?_
  refine Runs.load (R := bufs M) .sk ?_
  exact Runs.ret ⟨rfl, rfl⟩

theorem part11_does (i : grid0.Coords) (v33 v37 v79 v81 : FVec F S1024x256 .f32) (v200 : IVec S1024x1 32) (v251 v256 : FVec F S1024x1 .f32) (v257 : IVec S1024x1 32) (bd : Option ℕ) (σ : St F) (s : S16.Idx → Elt F .f32) (hs : σ .sk = s) :
    Does defs c M Ix U Lvl bd (k0_part11 i (M .sk) (H .sk) (M .q) (H .q) (M .d) (H .d) (M .ka) (H .ka) (M .kb) (H .kb) (M .dq) (H .dq) (M .dkv) (H .dkv) (M .ds) (H .ds) (M .acc) (H .acc) v33 v37 v79 v81 v200 v251 v256 v257)
      (fun b σ' => b = ⟨k0_pay64 v33 v37 v79 v200 v251 v256 v257 (sinkAt s ![14] inb_S16_S1_14) (sinkAt s ![15] inb_S16_S1_15), k0_pay65 v33 v37 v79 v81 v200 v251 v256 v257 (sinkAt s ![14] inb_S16_S1_14) (sinkAt s ![15] inb_S16_S1_15), k0_pay66 fun x => σ .acc ((accRect ![1, 0, 0] inb_S2x1024x1_S1x1024x1_1_0_0).toLoadRect.idx x), k0_pay67 v33 v37 v79 v81 v200 v251 v256 v257 (sinkAt s ![14] inb_S16_S1_14) (sinkAt s ![15] inb_S16_S1_15)⟩ ∧ σ' = σ) σ := by
  subst hs
  rw [k0_part11_eq_skeleton]
  refine Runs.load (R := bufs M) .sk ?_
  refine Runs.load (R := bufs M) .sk ?_
  refine Runs.load (R := bufs M) .acc ?_
  exact Runs.ret ⟨rfl, rfl⟩

theorem part12_does (i : grid0.Coords) (v15 : BitVec 32) (v38 : FVec F S256x64 .bf16) (v81 : FVec F S1024x256 .f32) (v196 : FVec F S1024x256 .bf16) (v295 : FVec F S1024x256 .f32) (v299 v301 v302 : FVec F S1024x1 .f32) (bd : Option ℕ) (σ : St F) :
    Does defs c M Ix U Lvl bd (k0_part12 i (M .sk) (H .sk) (M .q) (H .q) (M .d) (H .d) (M .ka) (H .ka) (M .kb) (H .kb) (M .dq) (H .dq) (M .dkv) (H .dkv) (M .ds) (H .ds) (M .acc) (H .acc) v15 v38 v81 v196 v295 v299 v301 v302)
      (fun b σ' => b = ⟨k0_pay69 v81 v295 v299, k0_pay70 v295⟩ ∧ σ' = dqA v38 v196 (accB v301 v302 σ)) σ := by
  rw [k0_part12_eq_skeleton]
  refine Runs.load (R := bufs M) .acc ?_
  refine Runs.write (R := bufs M) .acc ?_
  iterate 8
    refine Runs.load (R := bufs M) .dq ?_
    refine Runs.write (R := bufs M) .dq ?_
  exact Runs.ret ⟨rfl, rfl⟩

theorem part13_does (i : grid0.Coords) (v15 : BitVec 32) (v47 v56 : FVec F S1024x64 .bf16) (v60 : FVec F S256x64 .bf16) (v196 v197 v312 : FVec F S1024x256 .bf16) (bd : Option ℕ) (σ : St F) :
    Does defs c M Ix U Lvl bd (k0_part13 i (M .sk) (H .sk) (M .q) (H .q) (M .d) (H .d) (M .ka) (H .ka) (M .kb) (H .kb) (M .dq) (H .dq) (M .dkv) (H .dkv) (M .ds) (H .ds) (M .acc) (H .acc) v15 v47 v56 v60 v196 v197 v312)
      (fun b σ' => b = k0_pay90 v60 v312 ∧ σ' = dqB v60 v312 (kvB i v56 v197 (kvA i v47 v196 σ))) σ := by
  rw [k0_part13_eq_skeleton]
  refine Runs.load (R := bufs M) .dkv ?_
  refine Runs.load (R := bufs M) .dkv ?_
  refine Runs.write (R := bufs M) .dkv ?_
  refine Runs.load (R := bufs M) .dkv ?_
  refine Runs.load (R := bufs M) .dkv ?_
  refine Runs.write (R := bufs M) .dkv ?_
  iterate 7
    refine Runs.load (R := bufs M) .dq ?_
    refine Runs.write (R := bufs M) .dq ?_
  exact Runs.ret ⟨rfl, rfl⟩

theorem part5_does (i : grid0.Coords) (bd : Option ℕ) (σ : St F) :
    Does defs c M Ix U Lvl bd (k0_part5 i (M .sk) (H .sk) (M .q) (H .q) (M .d) (H .d) (M .ka) (H .ka) (M .kb) (H .kb) (M .dq) (H .dq) (M .dkv) (H .dkv) (M .ds) (H .ds) (M .acc) (H .acc))
      (fun b σ' => b = ⟨BitVec.ofNat 32 (i 0).val, queries (reset i σ), cots (reset i σ), keys (reset i σ),
        Scalar.muli (Scalar.addi (Scalar.muli (BitVec.ofNat 32 (i 0).val) 1#32) 0#32) 128#32, k0_pay20 (F := F), k0_pay21 (F := F) i⟩ ∧ σ' = reset i σ) σ := by
  rw [k0_part5_eq_skeleton]
  unfold k0_part5_skel
  by_cases h : first i
  · dsimp only
    rw [dif_pos h, reset, if_pos h]
    refine Runs.load (R := bufs M) .dkv ?_
    refine Runs.write (R := bufs M) .dkv ?_
    refine Runs.load (R := bufs M) .acc ?_
    refine Runs.write (R := bufs M) .acc ?_
    refine Runs.load (R := bufs M) .q ?_
    refine Runs.load (R := bufs M) .d ?_
    refine Runs.load (R := bufs M) .ka ?_
    refine Runs.load (R := bufs M) .kb ?_
    exact Runs.ret ⟨rfl, rfl⟩
  · dsimp only
    rw [dif_neg h, reset, if_neg h]
    refine Runs.load (R := bufs M) .q ?_
    refine Runs.load (R := bufs M) .d ?_
    refine Runs.load (R := bufs M) .ka ?_
    refine Runs.load (R := bufs M) .kb ?_
    exact Runs.ret ⟨rfl, rfl⟩

theorem part1_does (i : grid0.Coords) (bd : Option ℕ) (σ : St F) :
    Does defs c M Ix U Lvl bd (k0_part1 i (M .sk) (H .sk) (M .q) (H .q) (M .d) (H .d) (M .ka) (H .ka) (M .kb) (H .kb) (M .dq) (H .dq) (M .dkv) (H .dkv) (M .ds) (H .ds) (M .acc) (H .acc)) (fun b σ' => b = ⟨lanes, sinkGrad2 σ, k0_pay5 (fun x => σ .acc ((cutRect ![0, 384, 0] inb_S2x1024x1_S1x128x1_0_384_0).toLoadRect.idx x))⟩ ∧ σ' = σ) σ := by
  rw [k0_part1_eq_skeleton]
  iterate 4 refine Runs.load (R := bufs M) .acc ?_
  exact Runs.ret ⟨rfl, rfl⟩

theorem part2_does (i : grid0.Coords) (bd : Option ℕ) (σ : St F) :
    Does defs c M Ix U Lvl bd (k0_part2 i (M .sk) (H .sk) (M .q) (H .q) (M .d) (H .d) (M .ka) (H .ka) (M .kb) (H .kb) (M .dq) (H .dq) (M .dkv) (H .dkv) (M .ds) (H .ds) (M .acc) (H .acc) lanes (sinkGrad2 σ) (k0_pay5 (fun x => σ .acc ((cutRect ![0, 384, 0] inb_S2x1024x1_S1x128x1_0_384_0).toLoadRect.idx x))))
      (fun b σ' => b = ⟨sinkGrad5 σ, k0_pay7 lanes, k0_pay8 (fun x => σ .acc ((cutRect ![0, 768, 0] inb_S2x1024x1_S1x128x1_0_768_0).toLoadRect.idx x))⟩ ∧ σ' = σ) σ := by
  rw [k0_part2_eq_skeleton]
  iterate 3 refine Runs.load (R := bufs M) .acc ?_
  exact Runs.ret ⟨rfl, rfl⟩

theorem part3_does (i : grid0.Coords) (bd : Option ℕ) (σ : St F) :
    Does defs c M Ix U Lvl bd (k0_part3 i (M .sk) (H .sk) (M .q) (H .q) (M .d) (H .d) (M .ka) (H .ka) (M .kb) (H .kb) (M .dq) (H .dq) (M .dkv) (H .dkv) (M .ds) (H .ds) (M .acc) (H .acc) lanes (sinkGrad5 σ) (k0_pay7 lanes) (k0_pay8 (fun x => σ .acc ((cutRect ![0, 768, 0] inb_S2x1024x1_S1x128x1_0_768_0).toLoadRect.idx x))))
      (fun b σ' => b = ⟨sinkGrad9 σ, k0_pay10 (fun x => σ .acc ((cutRect ![1, 256, 0] inb_S2x1024x1_S1x128x1_1_256_0).toLoadRect.idx x))⟩ ∧ σ' = σ) σ := by
  rw [k0_part3_eq_skeleton]
  iterate 4 refine Runs.load (R := bufs M) .acc ?_
  exact Runs.ret ⟨rfl, rfl⟩

theorem part4_does (i : grid0.Coords) (bd : Option ℕ) (σ : St F) :
    Does defs c M Ix U Lvl bd (k0_part4 i (M .sk) (H .sk) (M .q) (H .q) (M .d) (H .d) (M .ka) (H .ka) (M .kb) (H .kb) (M .dq) (H .dq) (M .dkv) (H .dkv) (M .ds) (H .ds) (M .acc) (H .acc) lanes (sinkGrad9 σ) (k0_pay10 (fun x => σ .acc ((cutRect ![1, 256, 0] inb_S2x1024x1_S1x128x1_1_256_0).toLoadRect.idx x))))
      (fun b σ' => b = ⟨sinkGrad12 σ, k0_pay12 lanes, k0_pay13 (fun x => σ .acc ((cutRect ![1, 640, 0] inb_S2x1024x1_S1x128x1_1_640_0).toLoadRect.idx x))⟩ ∧ σ' = σ) σ := by
  rw [k0_part4_eq_skeleton]
  iterate 3 refine Runs.load (R := bufs M) .acc ?_
  exact Runs.ret ⟨rfl, rfl⟩

/-- The whole body. -/
theorem body_does (i : grid0.Coords) (bd : Option ℕ) (σ : St F) :
    Does defs c M Ix U Lvl bd (cc0_swa_bwd i (M .sk) (H .sk) (M .q) (H .q) (M .d) (H .d) (M .ka) (H .ka) (M .kb) (H .kb) (M .dq) (H .dq) (M .dkv) (H .dkv) (M .ds) (H .ds) (M .acc) (H .acc)) (fun _ σ' => σ' = ends i (work i (reset i σ))) σ := by
  rw [cc0_swa_bwd_eq_skeleton]
  unfold cc0_swa_bwd_skel
  refine Runs.bind ((part5_does defs c M H Ix U Lvl i bd σ).mono ?_)
  rintro _ σ' ⟨rfl, e⟩
  rw [e]; clear e σ'
  generalize reset i σ = σ
  rw [k0_part6_eq_skeleton]
  refine Runs.bind (Ix := Ix) (U := U) (Lvl := Lvl) (R := bufs M) (Runs.ret ?_)
  refine Runs.bind ((part7_does defs c M H Ix U Lvl i _ _ _ _ _ bd _).mono ?_)
  rintro _ σ' ⟨rfl, e⟩
  rw [e]; clear e σ'
  refine Runs.bind ((part8_does defs c M H Ix U Lvl i _ _ _ _ _ _ _ _ bd _).mono ?_)
  rintro _ σ' ⟨rfl, e⟩
  rw [e]; clear e σ'
  refine Runs.bind ((part9_does defs c M H Ix U Lvl i _ _ _ _ bd _).mono ?_)
  rintro _ σ' ⟨rfl, e⟩
  rw [e]; clear e σ'
  refine Runs.bind ((part10_does defs c M H Ix U Lvl i _ _ _ _ bd (accA (k0_pay26 (cots σ) (keys σ)) (exps0 i σ) (sinkExps0 i σ) (sums0 i σ) σ) (σ .sk) rfl).mono ?_)
  rintro _ σ' ⟨rfl, e⟩
  rw [e]; clear e σ'
  refine Runs.bind ((part11_does defs c M H Ix U Lvl i _ _ _ _ _ _ _ _ bd (accA (k0_pay26 (cots σ) (keys σ)) (exps0 i σ) (sinkExps0 i σ) (sums0 i σ) σ) (σ .sk) rfl).mono ?_)
  rintro _ σ' ⟨rfl, e⟩
  rw [e]; clear e σ'
  refine Runs.bind ((part12_does defs c M H Ix U Lvl i _ _ _ _ _ _ _ _ bd _).mono ?_)
  rintro _ σ' ⟨rfl, e⟩
  rw [e]; clear e σ'
  refine Runs.bind ((part13_does defs c M H Ix U Lvl i _ _ _ _ _ _ _ bd _).mono ?_)
  rintro _ σ' ⟨rfl, e⟩
  rw [e]; clear e σ'
  refine Runs.load (R := bufs M) .dq ?_
  refine Runs.write (R := bufs M) .dq ?_
  iterate 2
    refine Runs.load (R := bufs M) .dkv ?_
    refine Runs.load (R := bufs M) .dkv ?_
    refine Runs.write (R := bufs M) .dkv ?_
  change Does defs c M Ix U Lvl bd _ _ (work i σ)
  by_cases h : k0_cond2 i = 1#1
  · dsimp only
    rw [dif_pos h, ends, if_pos h]
    refine Runs.bind (Ix := Ix) (U := U) (Lvl := Lvl) (R := bufs M) (Runs.ret ?_)
    refine Runs.bind ((part1_does defs c M H Ix U Lvl i bd (work i σ)).mono ?_)
    rintro _ σ' ⟨rfl, e⟩
    rw [e]; clear e σ'
    refine Runs.bind ((part2_does defs c M H Ix U Lvl i bd (work i σ)).mono ?_)
    rintro _ σ' ⟨rfl, e⟩
    rw [e]; clear e σ'
    refine Runs.bind ((part3_does defs c M H Ix U Lvl i bd (work i σ)).mono ?_)
    rintro _ σ' ⟨rfl, e⟩
    rw [e]; clear e σ'
    refine Runs.bind ((part4_does defs c M H Ix U Lvl i bd (work i σ)).mono ?_)
    rintro _ σ' ⟨rfl, e⟩
    rw [e]; clear e σ'
    refine Runs.load (R := bufs M) .acc ?_
    refine Runs.load (R := bufs M) .acc ?_
    refine Runs.load (R := bufs M) .ds ?_
    refine Runs.write (R := bufs M) .ds ?_
    exact Runs.ret rfl
  · dsimp only
    rw [dif_neg h, ends, if_neg h]
    exact Runs.ret rfl

end Cert.SwaBody
-- ==== Proof.SwaMath.lean ====
/-
  The windowed attention's backward pass over the real numbers: the scores of one block of queries against its window, the weights with
  a sink, and the gradients; and what the body's operations on whole groups of heads compute of them.
-/
module

public import proofs.«01_k».proof.Proof.RealArrays
public import proofs.«01_k».proof.Proof.SwaBody

@[expose] public section

set_option maxRecDepth 16384

noncomputable section

namespace Cert.Swa

open Idealize.ShloMosaic Idealize.ShloMosaic.TcCoe
open Cert.Reals Cert.SwaKernelIdeal Cert.SwaKernelIdeal.Gen Cert.SwaBody

/-- The word of a head's slope. -/
def slopeWord (h : ℕ) : BitVec 32 := [0x3F3504F3#32, 0x3F000000#32, 0x3EB504F3#32, 0x3E800000#32, 0x3E3504F3#32, 0x3E000000#32, 0x3DB504F3#32, 0x3D800000#32,
  0x3D3504F3#32, 0x3D000000#32, 0x3CB504F3#32, 0x3C800000#32, 0x3C3504F3#32, 0x3C000000#32, 0x3BB504F3#32, 0x3B800000#32].getD h 0#32

/-- A head's slope: the rational number of its word. -/
def slope (h : ℕ) : ℝ := (Ideal.ofBits .f32 (slopeWord h)).toReal

theorem slope_word (h : ℕ) (hh : h < 16) : Ideal.ofBits .f32 (slopeWord h) = ((slope h : ℝ) : EReal) := by
  have key : ∃ r : ℝ, Ideal.ofBits .f32 (slopeWord h) = r := by
    interval_cases h <;> exact ⟨_, by simp [slopeWord, Ideal.ofBits, Ideal.ieee]; norm_cast⟩
  obtain ⟨r, hr⟩ := key
  rw [slope, hr, EReal.toReal_coe]

variable (Q D K : ℕ → ℕ → ℝ) (s : ℕ → ℝ)

/-- The keys and values with a window of zero rows before them. -/
def kp (x y : ℕ) : ℝ := if x < 128 then 0 else K (x - 128) y

/-- Row `ρ` of group `c` is query `ρ % 128` of the block and head `ρ / 128` of the group: its products with the window's keys. -/
def dot (n c ρ j : ℕ) : ℝ := ∑ d : Fin 64, Q (128 * n + ρ % 128) (64 * (8 * c + ρ / 128) + d) * kp K (128 * n + j) (64 * c + d)

/-- The cotangent's products with the window's values. -/
def dp (n c ρ j : ℕ) : ℝ := ∑ d : Fin 64, D (128 * n + ρ % 128) (64 * (8 * c + ρ / 128) + d) * kp K (128 * n + j) (128 + 64 * c + d)

/-- Query `r` of block `n` sees place `j` of its window. -/
abbrev valid (n r j : ℕ) : Prop := j ≤ r + 128 ∧ r < j ∧ (128 ≤ j ∨ 0 < n)

/-- The score. -/
def sc (n c ρ j : ℕ) : ℝ := dot Q K n c ρ j * (1 / 8) - slope (8 * c + ρ / 128) * (((ρ % 128 : ℕ) : ℝ) - j + 128)

/-- The weight before it is divided. -/
def wt (n c ρ j : ℕ) : ℝ := if valid n (ρ % 128) j then Real.exp (sc Q K n c ρ j) else 0

/-- What the weights are divided by. -/
def den (n c ρ : ℕ) : ℝ := ∑ j : Fin 256, wt Q K n c ρ j + Real.exp (s (8 * c + ρ / 128))

/-- The weight, and the sink's. -/
def W (n c ρ j : ℕ) : ℝ := wt Q K n c ρ j / den Q K s n c ρ
def WS (n c ρ : ℕ) : ℝ := Real.exp (s (8 * c + ρ / 128)) / den Q K s n c ρ

/-- The weighted cotangent's sum, and the gradient of the scaled products. -/
def dd (n c ρ : ℕ) : ℝ := ∑ j : Fin 256, W Q K s n c ρ j * dp D K n c ρ j
def dS (n c ρ j : ℕ) : ℝ := W Q K s n c ρ j * (dp D K n c ρ j - dd Q D K s n c ρ) * (1 / 8)

theorem wt_nonneg (n c ρ j : ℕ) : 0 ≤ wt Q K n c ρ j := by
  unfold wt; split
  · exact (Real.exp_pos _).le
  · exact le_rfl

theorem den_pos (n c ρ : ℕ) : 0 < den Q K s n c ρ :=
  add_pos_of_nonneg_of_pos (Finset.sum_nonneg fun _ _ => wt_nonneg Q K n c ρ _) (Real.exp_pos _)

/-- The weights do not change when a number is taken off every score and off the sink. -/
theorem shifted (n c ρ : ℕ) (M : ℝ) :
    ∑ j : Fin 256, (if valid n (ρ % 128) j then Real.exp (sc Q K n c ρ j - M) else 0) + Real.exp (s (8 * c + ρ / 128) - M)
      = den Q K s n c ρ * Real.exp (-M) := by
  unfold den
  rw [add_mul, Finset.sum_mul]
  congr 1
  · refine Finset.sum_congr rfl fun j _ => ?_
    unfold wt; split
    · rw [← Real.exp_add, sub_eq_add_neg]
    · rw [zero_mul]
  · rw [← Real.exp_add, sub_eq_add_neg]

/-! ### The body's operations on a group -/

section Vectors
variable {F : FTy → Type} [FloatOps F] [Named F]
variable (S v59 : FVec F S1024x256 .f32) (k : FVec F S1024x1 .f32)

/-- The greatest score or the sink. -/
def maxV : FVec F S1024x1 .f32 :=
  maximumf (shapeCast S1024x1 (multiReduction .maximumf [1] S1024 S 0xFF800000#32 reduces_S1024x256_S1024 (.inl rfl) rfl) shapeCasts_S1024_S1024x1) k
/-- The exponentials, the sink's, their sum and its inverse. -/
def expV : FVec F S1024x256 .f32 := exp (subf S (broadcastTo S1024x256 (maxV S k) broadcasts_S1024x1_S1024x256))
def sinkV : FVec F S1024x1 .f32 := exp (subf k (maxV S k))
def sumV : FVec F S1024x1 .f32 :=
  addf (shapeCast S1024x1 (multiReduction .add [1] S1024 (expV S k) 0x00000000#32 reduces_S1024x256_S1024 (.inl rfl) rfl) shapeCasts_S1024_S1024x1) (sinkV S k)
def invV : FVec F S1024x1 .f32 := divf (broadcast S1024x1 (Scalar.ofBits .f32 0x3F800000#32)) (sumV S k)
/-- The weights, their products with the cotangent summed, the sink's share of it. -/
def probV : FVec F S1024x256 .f32 := mulf (expV S k) (broadcastTo S1024x256 (invV S k) broadcasts_S1024x1_S1024x256)
def ddV : FVec F S1024x1 .f32 :=
  shapeCast S1024x1 (multiReduction .add [1] S1024 (mulf (probV S k) v59) 0x00000000#32 reduces_S1024x256_S1024 (.inl rfl) rfl) shapeCasts_S1024_S1024x1
def shareV : FVec F S1024x1 .f32 := mulf (mulf (sinkV S k) (invV S k)) (ddV S v59 k)
/-- The gradient of the products, and the weights, narrowed. -/
def gradV : FVec F S1024x256 .bf16 :=
  truncf .bf16 (mulf (mulf (probV S k) (subf v59 (broadcastTo S1024x256 (ddV S v59 k) broadcasts_S1024x1_S1024x256))) (broadcast S1024x256 (Scalar.ofBits .f32 0x3E000000#32))) bitsLt_bf16_f32
def narrowV : FVec F S1024x256 .bf16 := truncf .bf16 (probV S k) bitsLt_bf16_f32
end Vectors

/-- The scores of a group, those out of sight at −∞. -/
def scores (n c : ℕ) : FVec Ideal S1024x256 .f32 :=
  fun x => if valid n ((x 0).val % 128) (x 1).val then ((sc Q K n c (x 0).val (x 1).val : ℝ) : EReal) else ⊥

/-- The sinks of a group. -/
abbrev sinkCol (c : ℕ) : FVec Ideal S1024x1 .f32 := V2 1024 1 fun ρ _ => s (8 * c + ρ / 128)

theorem sinkCol_apply (c : ℕ) (x : S1024x1.Idx) : sinkCol s c x = ((s (8 * c + (x 0).val / 128) : ℝ) : EReal) := rfl

theorem maxV_real (n c : ℕ) : ∃ M : ℕ → ℝ, maxV (scores Q K n c) (sinkCol s c) = V2 1024 1 fun ρ _ => M ρ := by
  have h : ∀ x, ∃ r : ℝ, maxV (scores Q K n c) (sinkCol s c) x = r := by
    intro x
    pointwise [maxV]
    have h1 : Finset.fold max (Ideal.ofBits .f32 0xFF800000#32) (fun y => scores Q K n c (ix2 (x 0) y)) Finset.univ < ⊤ := by
      rw [Finset.fold_max_lt]
      refine ⟨?_, fun y _ => ?_⟩
      · simp [Ideal.ofBits, Ideal.ieee]
      · unfold scores; split
        · exact EReal.coe_lt_top _
        · exact bot_lt_top
    have h2 : (max (Finset.fold max (Ideal.ofBits .f32 0xFF800000#32) (fun y => scores Q K n c (ix2 (x 0) y)) Finset.univ) (sinkCol s c x) : EReal) ≠ ⊤ :=
      (max_lt h1 (by rw [sinkCol_apply]; exact EReal.coe_lt_top _)).ne
    have h3 : (max (Finset.fold max (Ideal.ofBits .f32 0xFF800000#32) (fun y => scores Q K n c (ix2 (x 0) y)) Finset.univ) (sinkCol s c x) : EReal) ≠ ⊥ :=
      (lt_of_lt_of_le (by rw [sinkCol_apply]; exact EReal.bot_lt_coe _) (le_max_right _ _)).ne'
    exact ⟨_, (EReal.coe_toReal h2 h3).symm⟩
  obtain ⟨f, hf⟩ := exists_V2 _ h
  refine ⟨fun ρ => f ρ 0, hf.trans (V2_congr fun i _ j hj => ?_)⟩
  rw [Nat.lt_one_iff.1 hj]

section
variable {Q K s}
variable {n c : ℕ} {M : ℕ → ℝ} (hM : maxV (scores Q K n c) (sinkCol s c) = V2 1024 1 fun ρ _ => M ρ)
include hM

theorem expV_eq : expV (scores Q K n c) (sinkCol s c)
    = V2 1024 256 fun ρ j => if valid n (ρ % 128) j then Real.exp (sc Q K n c ρ j - M ρ) else 0 := by
  funext x
  pointwise [expV]
  rw [hM]
  unfold scores V2
  split
  · next h =>
    rw [← EReal.coe_sub, Ideal.exp_coe]
    exact congrArg (fun r : ℝ => (r : EReal)) (if_pos h).symm
  · next h =>
    exact (show Ideal.exp ((⊥ : EReal) - ((M (x 0).val : ℝ) : EReal)) = ((0 : ℝ) : EReal) from rfl).trans
      (congrArg (fun r : ℝ => (r : EReal)) (if_neg h).symm)

theorem sinkV_eq : sinkV (scores Q K n c) (sinkCol s c) = V2 1024 1 fun ρ _ => Real.exp (s (8 * c + ρ / 128) - M ρ) := by
  funext x
  pointwise [sinkV]
  rw [hM, sinkCol_apply]
  simp only [V2]
  rw [← EReal.coe_sub, Ideal.exp_coe]

theorem sumV_eq : sumV (scores Q K n c) (sinkCol s c) = V2 1024 1 fun ρ _ => den Q K s n c ρ * Real.exp (- M ρ) := by
  funext x
  pointwise [sumV]
  rw [expV_eq hM, sinkV_eq hM]
  simp only [V2, sum_coe, ← EReal.coe_add]
  exact congrArg (fun r : ℝ => (r : EReal)) (shifted Q K s n c _ _)

theorem invV_eq : invV (scores Q K n c) (sinkCol s c) = V2 1024 1 fun ρ _ => (den Q K s n c ρ * Real.exp (- M ρ))⁻¹ := by
  funext x
  pointwise [invV]
  rw [sumV_eq hM]
  simp only [V2]
  rw [Ideal.div_coe (mul_pos (den_pos Q K s n c _) (Real.exp_pos _)).ne', one_mul, one_div]
end

theorem probV_eq (n c : ℕ) : probV (scores Q K n c) (sinkCol s c) = V2 1024 256 (W Q K s n c) := by
  obtain ⟨M, hM⟩ := maxV_real Q K s n c
  funext x
  pointwise [probV]
  rw [expV_eq hM, invV_eq hM]
  simp only [V2, ← EReal.coe_mul]
  refine congrArg (fun r : ℝ => (r : EReal)) ?_
  have hd := (den_pos Q K s n c (x 0).val).ne'
  change (if valid n ((x 0).val % 128) (x 1).val then Real.exp (sc Q K n c (x 0).val (x 1).val - M (x 0).val) else 0) * (den Q K s n c (x 0).val * Real.exp (-M (x 0).val))⁻¹
    = W Q K s n c (x 0).val (x 1).val
  unfold W wt
  split
  · rw [sub_eq_add_neg, Real.exp_add, mul_inv, div_eq_mul_inv]
    field_simp
  · simp

theorem ddV_eq (n c : ℕ) : ddV (scores Q K n c) (V2 1024 256 (dp D K n c)) (sinkCol s c) = V2 1024 1 fun ρ _ => dd Q D K s n c ρ := by
  funext x
  pointwise [ddV]
  rw [probV_eq]
  simp only [V2, ← EReal.coe_mul, sum_coe]
  rfl

theorem shareV_eq (n c : ℕ) : shareV (scores Q K n c) (V2 1024 256 (dp D K n c)) (sinkCol s c) = V2 1024 1 fun ρ _ => WS Q K s n c ρ * dd Q D K s n c ρ := by
  obtain ⟨M, hM⟩ := maxV_real Q K s n c
  funext x
  pointwise [shareV]
  rw [ddV_eq, invV_eq hM, sinkV_eq hM]
  simp only [V2, ← EReal.coe_mul]
  refine congrArg (fun r : ℝ => (r : EReal)) ?_
  have hd := (den_pos Q K s n c (x 0).val).ne'
  unfold WS
  rw [sub_eq_add_neg, Real.exp_add, mul_inv]
  field_simp

theorem gradV_eq (n c : ℕ) : gradV (scores Q K n c) (V2 1024 256 (dp D K n c)) (sinkCol s c) = V2 1024 256 (dS Q D K s n c) := by
  funext x
  pointwise [gradV]
  rw [ddV_eq, probV_eq]
  have h1 : Ideal.ofBits .f32 0x3E000000#32 = ((1 / 8 : ℝ) : EReal) := by
    simp [Ideal.ofBits, Ideal.ieee]; norm_num [← EReal.coe_mul]
  rw [h1]
  simp only [V2, ← EReal.coe_mul, ← EReal.coe_sub]
  rfl

theorem narrowV_eq (n c : ℕ) : narrowV (scores Q K n c) (sinkCol s c) = V2 1024 256 (W Q K s n c) := by
  funext x
  pointwise [narrowV]
  rw [probV_eq]
  rfl

end Cert.Swa
-- ==== Proof.SwaBlocks.lean ====
/-
  What the windowed attention's body computes at one grid point, over the extended reals: from real blocks, the two groups' scores and
  products are those of the mathematics.
-/
module

public import proofs.«01_k».proof.Proof.SwaMath
public import Idealize.ShloMosaic.Lib.Pipeline.ValueKit
public import Idealize.ShloMosaic.Lib.Pointwise
public import Idealize.ShloMosaic.Lib.WordCmp

@[expose] public section

set_option maxRecDepth 16384

noncomputable section

namespace Cert.Swa

open Idealize.ShloMosaic Idealize.ShloMosaic.TcCoe
open Cert.Reals Cert.SwaKernelIdeal Cert.SwaKernelIdeal.Gen Cert.SwaBody

variable (Q D K : ℕ → ℕ → ℝ) (s : ℕ → ℝ) (n : ℕ)

/-- The blocks of point `n` as real arrays. -/
abbrev qB : FVec Ideal S128x1024 .bf16 := V2 128 1024 fun r y => Q (128 * n + r) y
abbrev kB : FVec Ideal S256x256 .bf16 := V2 256 256 fun j y => kp K (128 * n + j) y

/-- Pieces of one shape as a list. -/
theorem stackOf {α : Type} {w : ℕ} (L : List ((s : Shape) × (s.Idx → α))) (f : Fin 8 → (⟨2, ![128, w]⟩ : Shape).Idx → α)
    (hL : L = List.ofFn fun k => (⟨⟨2, ![128, w]⟩, f k⟩ : (s : Shape) × (s.Idx → α))) (h) (x : (⟨2, ![1024, w]⟩ : Shape).Idx) (hk : (x 0).val / 128 < 8) :
    concatenate ⟨2, ![1024, w]⟩ 0 L h x = f ⟨(x 0).val / 128, hk⟩ (ix2 ⟨(x 0).val % 128, Nat.mod_lt _ (by decide)⟩ (x 1)) := by
  subst hL
  exact concatenate_ofFn_apply (t := ⟨2, ![1024, w]⟩) (s₁ := ⟨2, ![128, w]⟩) (0 : Fin 2) f h rfl 128 rfl x ⟨(x 0).val / 128, hk⟩ rfl _ rfl
    (fun b hb => by match b with | 0 => exact absurd rfl hb | 1 => rfl)

/-- Eight pieces of 128 rows laid one below another: row `ρ` is row `ρ % 128` of piece `ρ / 128`. -/
theorem stack8 {α : Type} {w : ℕ} (v0 v1 v2 v3 v4 v5 v6 v7 : (⟨2, ![128, w]⟩ : Shape).Idx → α) (h) (g : ℕ → ℕ → ℕ → α)
    (h0 : ∀ y, v0 y = g 0 (y 0).val (y 1).val) (h1 : ∀ y, v1 y = g 1 (y 0).val (y 1).val) (h2 : ∀ y, v2 y = g 2 (y 0).val (y 1).val)
    (h3 : ∀ y, v3 y = g 3 (y 0).val (y 1).val) (h4 : ∀ y, v4 y = g 4 (y 0).val (y 1).val) (h5 : ∀ y, v5 y = g 5 (y 0).val (y 1).val)
    (h6 : ∀ y, v6 y = g 6 (y 0).val (y 1).val) (h7 : ∀ y, v7 y = g 7 (y 0).val (y 1).val) (x : (⟨2, ![1024, w]⟩ : Shape).Idx) :
    concatenate ⟨2, ![1024, w]⟩ 0 [⟨⟨2, ![128, w]⟩, v0⟩, ⟨_, v1⟩, ⟨_, v2⟩, ⟨_, v3⟩, ⟨_, v4⟩, ⟨_, v5⟩, ⟨_, v6⟩, ⟨_, v7⟩] h x
      = g ((x 0).val / 128) ((x 0).val % 128) (x 1).val := by
  have hx : (x 0).val < 1024 := (x 0).isLt
  have hk : (x 0).val / 128 < 8 := by omega
  refine (stackOf _ (![v0, v1, v2, v3, v4, v5, v6, v7] : Fin 8 → _) (by simp only [List.ofFn_succ, List.ofFn_zero]; rfl) h x hk).trans ?_
  have key : ∀ k : Fin 8, (![v0, v1, v2, v3, v4, v5, v6, v7] : Fin 8 → _) k (ix2 ⟨(x 0).val % 128, Nat.mod_lt _ (by decide)⟩ (x 1))
      = g k.val ((x 0).val % 128) (x 1).val := fun k => by
    match k with
    | 0 => exact h0 _
    | 1 => exact h1 _
    | 2 => exact h2 _
    | 3 => exact h3 _
    | 4 => exact h4 _
    | 5 => exact h5 _
    | 6 => exact h6 _
    | 7 => exact h7 _
  exact key _

/-- A group's heads laid one below another. -/
theorem qHeads0 (A : ℕ → ℕ → ℝ) : k0_pay23 (V2 128 1024 A : FVec Ideal S128x1024 .bf16) = V2 1024 64 fun ρ d => A (ρ % 128) (64 * (8 * 0 + ρ / 128) + d) := by
  funext x
  refine (stack8 (w := 64) _ _ _ _ _ _ _ _ concatenates_S128x64_S128x64_S128x64_S128x64_S128x64_S128x64_S128x64_S128x64_S1024x64_d0
    (fun k r d => ((A r (64 * (8 * 0 + k) + d) : ℝ) : EReal)) ?_ ?_ ?_ ?_ ?_ ?_ ?_ ?_ x).trans rfl <;>
    (intro y; pointwise; simp only [V2]; refine congrArg (fun z : ℝ => (z : EReal)) (congrArg₂ A (by show _ = (y 0).val; simp) (by simp; try omega)))

/-- A group's heads laid one below another. -/
theorem dHeads0 (A : ℕ → ℕ → ℝ) : k0_pay24 (V2 128 1024 A : FVec Ideal S128x1024 .bf16) = V2 1024 64 fun ρ d => A (ρ % 128) (64 * (8 * 0 + ρ / 128) + d) := by
  funext x
  refine (stack8 (w := 64) _ _ _ _ _ _ _ _ concatenates_S128x64_S128x64_S128x64_S128x64_S128x64_S128x64_S128x64_S128x64_S1024x64_d0
    (fun k r d => ((A r (64 * (8 * 0 + k) + d) : ℝ) : EReal)) ?_ ?_ ?_ ?_ ?_ ?_ ?_ ?_ x).trans rfl <;>
    (intro y; pointwise; simp only [V2]; refine congrArg (fun z : ℝ => (z : EReal)) (congrArg₂ A (by show _ = (y 0).val; simp) (by simp; try omega)))

/-- A group's heads laid one below another. -/
theorem qHeads1 (A : ℕ → ℕ → ℝ) : k0_pay28 (V2 128 1024 A : FVec Ideal S128x1024 .bf16) = V2 1024 64 fun ρ d => A (ρ % 128) (64 * (8 * 1 + ρ / 128) + d) := by
  funext x
  refine (stack8 (w := 64) _ _ _ _ _ _ _ _ concatenates_S128x64_S128x64_S128x64_S128x64_S128x64_S128x64_S128x64_S128x64_S1024x64_d0
    (fun k r d => ((A r (64 * (8 * 1 + k) + d) : ℝ) : EReal)) ?_ ?_ ?_ ?_ ?_ ?_ ?_ ?_ x).trans rfl <;>
    (intro y; pointwise; simp only [V2]; refine congrArg (fun z : ℝ => (z : EReal)) (congrArg₂ A (by show _ = (y 0).val; simp) (by simp; try omega)))

/-- A group's heads laid one below another. -/
theorem dHeads1 (A : ℕ → ℕ → ℝ) : k0_pay29 (V2 128 1024 A : FVec Ideal S128x1024 .bf16) = V2 1024 64 fun ρ d => A (ρ % 128) (64 * (8 * 1 + ρ / 128) + d) := by
  funext x
  refine (stack8 (w := 64) _ _ _ _ _ _ _ _ concatenates_S128x64_S128x64_S128x64_S128x64_S128x64_S128x64_S128x64_S128x64_S1024x64_d0
    (fun k r d => ((A r (64 * (8 * 1 + k) + d) : ℝ) : EReal)) ?_ ?_ ?_ ?_ ?_ ?_ ?_ ?_ x).trans rfl <;>
    (intro y; pointwise; simp only [V2]; refine congrArg (fun z : ℝ => (z : EReal)) (congrArg₂ A (by show _ = (y 0).val; simp) (by simp; try omega)))

/-- A place of the window as a signed word. -/
theorem dist_word (r j : ℕ) (hr : r < 128) (hj : j < 256) :
    (IntOp.addi (IntOp.subi (BitVec.ofNat 32 r) (BitVec.ofNat 32 j)) 128#32).toInt = (r : ℤ) - j + 128 := by
  have e : IntOp.addi (IntOp.subi (BitVec.ofNat 32 r) (BitVec.ofNat 32 j)) 128#32 = BitVec.ofInt 32 ((r : ℤ) - j + 128) := by
    apply BitVec.eq_of_toInt_eq
    have e1 : (BitVec.ofNat 32 r).toInt = r := Idealize.ShloMosaic.WordCmp.toInt_ofNat_of_lt (by omega)
    have e2 : (BitVec.ofNat 32 j).toInt = j := Idealize.ShloMosaic.WordCmp.toInt_ofNat_of_lt (by omega)
    simp [IntOp.addi, IntOp.subi, e1, e2]
  rw [e, BitVec.toInt_ofInt, Int.bmod_def]
  omega

theorem dist_eq : k0_pay20 (F := Ideal) = V2 1024 256 fun ρ j => ((ρ % 128 : ℕ) : ℝ) - j + 128 := by
  funext x
  have hy : ∀ y : S128x256.Idx, (sitofp .f32 k0_pay19 : FVec Ideal S128x256 .f32) y = (((((y 0).val : ℕ) : ℝ) - ((y 1).val : ℕ) + 128 : ℝ) : EReal) := fun y => by
    pointwise [k0_pay19]
    refine (Idealize.ShloMosaic.Ideal.scalar_sitofp_def (φ := .f32) _).trans ?_
    rw [dist_word _ _ (y 0).isLt (y 1).isLt]
    push_cast; rfl
  exact (stack8 (w := 256) _ _ _ _ _ _ _ _ concatenates_S128x256_S128x256_S128x256_S128x256_S128x256_S128x256_S128x256_S128x256_S1024x256_d0
    (fun k r d => (((((r : ℕ) : ℝ) - (d : ℕ) + 128 : ℝ)) : EReal)) hy hy hy hy hy hy hy hy x).trans rfl

/-- The mask's word: whether the place is seen. -/
theorem mask_word (n r j : ℕ) (hn : n < 64) (hr : r < 128) (hj : j < 256) (a b : EReal) :
    Scalar.select (IntOp.andi (IntOp.andi (IntOp.cmpi .sge (IntOp.addi (IntOp.subi (BitVec.ofNat 32 r) (BitVec.ofNat 32 j)) 128#32) 0#32)
        (IntOp.cmpi .slt (IntOp.addi (IntOp.subi (BitVec.ofNat 32 r) (BitVec.ofNat 32 j)) 128#32) 128#32))
        (IntOp.ori (IntOp.cmpi .sge (BitVec.ofNat 32 j) 128#32)
          (Scalar.cmpi .sgt (Scalar.addi (Scalar.muli (BitVec.ofNat 32 n) 1#32) 0#32) 0#32))) a b
      = if valid n r j then a else b := by
  have e2 : (BitVec.ofNat 32 j).toInt = j := Idealize.ShloMosaic.WordCmp.toInt_ofNat_of_lt (by omega)
  have e3 : (BitVec.ofNat 32 n).toInt = n := Idealize.ShloMosaic.WordCmp.toInt_ofNat_of_lt (by omega)
  have e4 : Scalar.addi (Scalar.muli (BitVec.ofNat 32 n) 1#32) 0#32 = BitVec.ofNat 32 n := by
    simp [Scalar.addi, Scalar.muli, IntOp.addi, IntOp.muli]
  rw [e4, Scalar.cmpi, WordCmp.cmpi_sge_eq, WordCmp.cmpi_slt_eq, WordCmp.cmpi_sge_eq, WordCmp.cmpi_sgt_eq, dist_word r j hr hj, e2, e3]
  have z : (0#32).toInt = 0 := by decide
  have z1 : (128#32).toInt = 128 := by decide
  rw [z, z1]
  simp only [IntOp.andi, IntOp.ori, Scalar.select, valid]
  by_cases p1 : (0 : ℤ) ≤ (r : ℤ) - j + 128 <;> by_cases p2 : (r : ℤ) - j + 128 < 128 <;> by_cases p3 : (128 : ℤ) ≤ j <;> by_cases p4 : (0 : ℤ) < n <;>
    simp only [p1, p2, p3, p4, decide_true, decide_false] <;> first | (rw [if_pos (by decide), if_pos (by omega)]) | (rw [if_neg (by decide), if_neg (by omega)])

theorem mask_eq (i : grid0.Coords) (h : (i 0).val = n) (hn : n < 64) :
    k0_pay21 (F := Ideal) i = fun x => if valid n ((x 0).val % 128) (x 1).val then 0 else ⊥ := by
  funext x
  refine (stack8 (w := 256) _ _ _ _ _ _ _ _ concatenates_S128x256_S128x256_S128x256_S128x256_S128x256_S128x256_S128x256_S128x256_S1024x256_d0
    (fun k r j => if valid n r j then 0 else ⊥) ?_ ?_ ?_ ?_ ?_ ?_ ?_ ?_ x).trans rfl <;>
  · intro y
    pointwise [k0_pay19]
    rw [h]
    exact mask_word n _ _ hn (y 0).isLt (y 1).isLt _ _

/-- The word of a row's head. -/
theorem head_word (ρ : ℕ) (h : ρ < 1024) : IntOp.shrui ArithUnit.vector (BitVec.ofNat 32 ρ) 7#32 = BitVec.ofNat 32 (ρ / 128) := by
  simp only [IntOp.shrui]
  rw [if_pos (by decide)]
  apply BitVec.eq_of_toNat_eq
  simp [Nat.shiftRight_eq_div_pow]
  omega

/-- A choice among eight by a row's head. -/
theorem pick8 {α : Type} (q : ℕ) (hq : q < 8) (g : ℕ → α) (z : α) :
    (Scalar.select (IntOp.cmpi .eq (BitVec.ofNat 32 q) 7#32) (g 7) (Scalar.select (IntOp.cmpi .eq (BitVec.ofNat 32 q) 6#32) (g 6) (Scalar.select (IntOp.cmpi .eq (BitVec.ofNat 32 q) 5#32) (g 5) (Scalar.select (IntOp.cmpi .eq (BitVec.ofNat 32 q) 4#32) (g 4) (Scalar.select (IntOp.cmpi .eq (BitVec.ofNat 32 q) 3#32) (g 3) (Scalar.select (IntOp.cmpi .eq (BitVec.ofNat 32 q) 2#32) (g 2) (Scalar.select (IntOp.cmpi .eq (BitVec.ofNat 32 q) 1#32) (g 1) (Scalar.select (IntOp.cmpi .eq (BitVec.ofNat 32 q) 0#32) (g 0) z)))))))) = g q := by
  interval_cases q <;> rfl

/-- The sinks of group 0. -/
theorem sinkCol0 (σ : St Ideal) (hs : ∀ h (hh : h < 16) b, sinkAt (σ .sk) ![h] b = ((s h : ℝ) : EReal)) :
    k0_pay40 k0_pay32 (sinks0 σ) (k0_pay38 k0_pay32) (k0_pay39 (sinkAt (σ .sk) ![4] inb_S16_S1_4)) (sinkAt (σ .sk) ![5] inb_S16_S1_5) (sinkAt (σ .sk) ![6] inb_S16_S1_6) (sinkAt (σ .sk) ![7] inb_S16_S1_7) = sinkCol s 0 := by
  funext x
  have hx : (x 0).val < 1024 := (x 0).isLt
  pointwise [k0_pay40, k0_pay39, k0_pay38, sinks0, k0_pay36, k0_pay32, k0_pay34]
  rw [head_word _ hx]
  simp only [hs 0 (by decide), hs 1 (by decide), hs 2 (by decide), hs 3 (by decide), hs 4 (by decide), hs 5 (by decide), hs 6 (by decide), hs 7 (by decide)]
  exact pick8 ((x 0).val / 128) (by omega) (fun k => ((s (8 * 0 + k) : ℝ) : EReal)) _

/-- The sinks of group 1. -/
theorem sinkCol1 (σ : St Ideal) (hs : ∀ h (hh : h < 16) b, sinkAt (σ .sk) ![h] b = ((s h : ℝ) : EReal)) :
    k0_pay58 k0_pay52 (sinks1 σ) (sinkAt (σ .sk) ![14] inb_S16_S1_14) (sinkAt (σ .sk) ![15] inb_S16_S1_15) = sinkCol s 1 := by
  funext x
  have hx : (x 0).val < 1024 := (x 0).isLt
  pointwise [k0_pay58, sinks1, k0_pay56, k0_pay52, k0_pay53]
  rw [head_word _ hx]
  simp only [hs 8 (by decide), hs 9 (by decide), hs 10 (by decide), hs 11 (by decide), hs 12 (by decide), hs 13 (by decide), hs 14 (by decide), hs 15 (by decide)]
  exact pick8 ((x 0).val / 128) (by omega) (fun k => ((s (8 * 1 + k) : ℝ) : EReal)) _

theorem dot0 (q) (k) (hq : q = qB Q n) (hk : k = kB K n) : k0_pay25 q k = V2 1024 256 (dot Q K n 0) := by
  subst hq; subst hk
  funext x
  pointwise [k0_pay25, k0_pay22]
  rw [qHeads0]
  simp only [V2, ← EReal.coe_mul, sum_coe]
  rfl

theorem dot1 (q) (k) (hq : q = qB Q n) (hk : k = kB K n) : k0_pay30 q k = V2 1024 256 (dot Q K n 1) := by
  subst hq; subst hk
  funext x
  pointwise [k0_pay30, k0_pay27]
  rw [qHeads1]
  simp only [V2, ← EReal.coe_mul, sum_coe]
  rfl

theorem dp0 (q) (k) (hq : q = qB D n) (hk : k = kB K n) : k0_pay26 q k = V2 1024 256 (dp D K n 0) := by
  subst hq; subst hk
  funext x
  pointwise [k0_pay26]
  rw [dHeads0]
  simp only [V2, ← EReal.coe_mul, sum_coe]
  rfl

theorem dp1 (q) (k) (hq : q = qB D n) (hk : k = kB K n) : k0_pay31 q k = V2 1024 256 (dp D K n 1) := by
  subst hq; subst hk
  funext x
  pointwise [k0_pay31]
  rw [dHeads1]
  simp only [V2, ← EReal.coe_mul, sum_coe]
  rfl

/-- A score from its product, slope and mask. -/
theorem score_at (c ρ j : ℕ) (hc : c < 2) (hρ : ρ < 1024) :
    ((dot Q K n c ρ j : ℝ) : EReal) * Ideal.ofBits .f32 0x3E000000#32 - Ideal.ofBits .f32 (slopeWord (8 * c + ρ / 128)) * (((((ρ % 128 : ℕ) : ℝ) - j + 128 : ℝ)) : EReal)
      + (if valid n (ρ % 128) j then 0 else ⊥) = if valid n (ρ % 128) j then ((sc Q K n c ρ j : ℝ) : EReal) else ⊥ := by
  have e : Ideal.ofBits .f32 0x3E000000#32 = ((1 / 8 : ℝ) : EReal) := by
    simp [Ideal.ofBits, Ideal.ieee]; norm_num [← EReal.coe_mul]
  rw [slope_word _ (by omega), e]
  split
  · rw [add_zero, ← EReal.coe_mul, ← EReal.coe_mul, ← EReal.coe_sub]; rfl
  · exact EReal.add_bot _

/-- The scores of group 0. -/
theorem scores0 (σ : St Ideal) (i : grid0.Coords) (h : (i 0).val = n) (hn : n < 64) (hq : queries σ = qB Q n) (hk : keys σ = kB K n) :
    k0_pay41 k0_pay20 (k0_pay21 i) (k0_pay25 (queries σ) (keys σ)) k0_pay32 slopes0 = scores Q K n 0 := by
  rw [dist_eq, mask_eq n i h hn, dot0 Q K n _ _ hq hk]
  funext x
  have hx : (x 0).val < 1024 := (x 0).isLt
  pointwise [k0_pay41, slopes0, k0_pay37, k0_pay32, k0_pay33, k0_pay35]
  rw [head_word _ hx]
  exact (congrArg (fun z : EReal => V2 (φ := .f32) 1024 256 (dot Q K n 0) x * Ideal.ofBits .f32 0x3E000000#32 - z * V2 (φ := .f32) 1024 256 (fun ρ j => ((ρ % 128 : ℕ) : ℝ) - j + 128) x
    + if valid n ((x 0).val % 128) (x 1).val then 0 else ⊥) (pick8 ((x 0).val / 128) (by omega) (fun k => Ideal.ofBits .f32 (slopeWord (8 * 0 + k))) _)).trans
    (score_at Q K n 0 (x 0).val (x 1).val (by omega) hx)

/-- The scores of group 1. -/
theorem scores1 (σ : St Ideal) (i : grid0.Coords) (h : (i 0).val = n) (hn : n < 64) (hq : queries σ = qB Q n) (hk : keys σ = kB K n) :
    k0_pay59 k0_pay20 (k0_pay21 i) (k0_pay30 (queries σ) (keys σ)) k0_pay52 slopes1 k0_pay57 = scores Q K n 1 := by
  rw [dist_eq, mask_eq n i h hn, dot1 Q K n _ _ hq hk]
  funext x
  have hx : (x 0).val < 1024 := (x 0).isLt
  pointwise [k0_pay59, slopes1, k0_pay55, k0_pay52, k0_pay54, k0_pay57]
  rw [head_word _ hx]
  exact (congrArg (fun z : EReal => V2 (φ := .f32) 1024 256 (dot Q K n 1) x * Ideal.ofBits .f32 0x3E000000#32 - z * V2 (φ := .f32) 1024 256 (fun ρ j => ((ρ % 128 : ℕ) : ℝ) - j + 128) x
    + if valid n ((x 0).val % 128) (x 1).val then 0 else ⊥) (pick8 ((x 0).val / 128) (by omega) (fun k => Ideal.ofBits .f32 (slopeWord (8 * 1 + k))) _)).trans
    (score_at Q K n 1 (x 0).val (x 1).val (by omega) hx)

/-! ### A group's values -/

section Groups
variable (σ : St Ideal) (i : grid0.Coords) (h : (i 0).val = n) (hn : n < 64) (hq : queries σ = qB Q n) (hd : cots σ = qB D n) (hk : keys σ = kB K n)
  (hs : ∀ h (hh : h < 16) b, sinkAt (σ .sk) ![h] b = ((s h : ℝ) : EReal))
include h hn hq hk hs

theorem exps0_eq : exps0 i σ = expV (scores Q K n 0) (sinkCol s 0) := by
  rw [← scores0 Q K n σ i h hn hq hk, ← sinkCol0 s σ hs]; rfl
theorem sinkExps0_eq : sinkExps0 i σ = sinkV (scores Q K n 0) (sinkCol s 0) := by
  rw [← scores0 Q K n σ i h hn hq hk, ← sinkCol0 s σ hs]; rfl
theorem sums0_eq : sums0 i σ = sumV (scores Q K n 0) (sinkCol s 0) := by
  rw [← scores0 Q K n σ i h hn hq hk, ← sinkCol0 s σ hs]; rfl
theorem weights0_eq : weights0 i σ = V2 1024 256 (W Q K s n 0) := by
  rw [weights0, exps0_eq Q K s n σ i h hn hq hk hs, sums0_eq Q K s n σ i h hn hq hk hs]
  exact (show _ = narrowV _ _ from rfl).trans (narrowV_eq Q K s n 0)
theorem probs1_eq : probs1 i σ = V2 1024 256 (W Q K s n 1) := by
  refine Eq.trans ?_ (probV_eq Q K s n 1)
  rw [← scores1 Q K n σ i h hn hq hk, ← sinkCol1 s σ hs]; rfl
theorem weights1_eq : weights1 i σ = V2 1024 256 (W Q K s n 1) := by
  refine Eq.trans ?_ (narrowV_eq Q K s n 1)
  rw [← scores1 Q K n σ i h hn hq hk, ← sinkCol1 s σ hs]; rfl
include hd
theorem dScores0_eq : dScores0 i σ = V2 1024 256 (dS Q D K s n 0) := by
  rw [dScores0, exps0_eq Q K s n σ i h hn hq hk hs, sums0_eq Q K s n σ i h hn hq hk hs, dp0 D K n _ _ hd hk]
  exact (show _ = gradV _ _ _ from rfl).trans (gradV_eq Q D K s n 0)
theorem sumsOf1_eq : sumsOf1 i σ = V2 1024 1 fun ρ _ => dd Q D K s n 1 ρ := by
  refine Eq.trans ?_ (ddV_eq Q D K s n 1)
  rw [← scores1 Q K n σ i h hn hq hk, ← sinkCol1 s σ hs, ← dp1 D K n _ _ hd hk]; rfl
theorem sinkOf1_eq : sinkOf1 i σ = V2 1024 1 fun ρ _ => WS Q K s n 1 ρ * dd Q D K s n 1 ρ := by
  refine Eq.trans ?_ (shareV_eq Q D K s n 1)
  rw [← scores1 Q K n σ i h hn hq hk, ← sinkCol1 s σ hs, ← dp1 D K n _ _ hd hk]; rfl
theorem dScores1_eq : dScores1 i σ = V2 1024 256 (dS Q D K s n 1) := by
  refine Eq.trans ?_ (gradV_eq Q D K s n 1)
  rw [← scores1 Q K n σ i h hn hq hk, ← sinkCol1 s σ hs, ← dp1 D K n _ _ hd hk]; rfl
/-- The first group's sink share is added to the rows kept. -/
theorem sinkOf0_eq (a : FVec Ideal S1x1024x1 .f32) : k0_pay49 (k0_pay26 (cots σ) (keys σ)) (exps0 i σ) (sinkExps0 i σ) (sums0 i σ) a
    = fun x => a x + ((WS Q K s n 0 (x 1).val * dd Q D K s n 0 (x 1).val : ℝ) : EReal) := by
  rw [exps0_eq Q K s n σ i h hn hq hk hs, sums0_eq Q K s n σ i h hn hq hk hs, sinkExps0_eq Q K s n σ i h hn hq hk hs, dp0 D K n _ _ hd hk]
  refine Eq.trans (show _ = shapeCast S1x1024x1 (addf (shapeCast S1024x1 a shapeCasts_S1x1024x1_S1024x1) (shareV (scores Q K n 0) (V2 1024 256 (dp D K n 0)) (sinkCol s 0))) shapeCasts_S1024x1_S1x1024x1 from rfl) ?_
  rw [shareV_eq]
  funext x
  pointwise
  rfl

end Groups

end Cert.Swa
-- ==== Proof.SwaStep.lean ====
/-
  What one grid point of the windowed attention's backward pass makes of the results' blocks and of the sums kept: reading and storing
  rectangles of real arrays, and the body's stores in their order.
-/
module

public import proofs.«01_k».proof.Proof.SwaBlocks

@[expose] public section

set_option maxRecDepth 16384

noncomputable section

namespace Cert.Swa

open Idealize.ShloMosaic Idealize.ShloMosaic.TcCoe
open Cert.Reals Cert.Owned Cert.SwaKernelIdeal Cert.SwaKernelIdeal.Gen Cert.SwaBody

/-! ### Rectangles -/

/-- A store of a rectangle, read at an index. -/
theorem put2 {Val : EltTy → Type} {e : EltTy} {a b h w : ℕ} (X : (⟨2, ![a, b]⟩ : Shape).Idx → Val e) (p q : ℕ) (o : Fin 2 → ℕ)
    (hb : ∀ k, o k + (⟨2, ![h, w]⟩ : Shape).size k ≤ (⟨2, ![a, b]⟩ : Shape).size k) (ho : o = ![p, q])
    (v : (⟨2, ![h, w]⟩ : Shape).Idx → Val e) (x : (⟨2, ![a, b]⟩ : Shape).Idx) :
    put X (Rect.unit (s := ⟨2, ![a, b]⟩) o (⟨2, ![h, w]⟩ : Shape).size hb) v x
      = if hx : (p ≤ (x 0).val ∧ (x 0).val < p + h) ∧ q ≤ (x 1).val ∧ (x 1).val < q + w then v (ix2 ⟨(x 0).val - p, by omega⟩ ⟨(x 1).val - q, by omega⟩) else X x := by
  subst ho
  split
  · next hx =>
    have hy : x = (Rect.unit (s := ⟨2, ![a, b]⟩) ![p, q] (⟨2, ![h, w]⟩ : Shape).size hb).emb (ix2 ⟨(x 0).val - p, by omega⟩ ⟨(x 1).val - q, by omega⟩) := by
      funext k
      refine Fin.ext ?_
      match k with
      | 0 => show (x 0).val = p + 1 * ((x 0).val - p); omega
      | 1 => show (x 1).val = q + 1 * ((x 1).val - q); omega
    exact (congrArg (put X (Rect.unit (s := ⟨2, ![a, b]⟩) ![p, q] (⟨2, ![h, w]⟩ : Shape).size hb) v) hy).trans
      (put_emb X (Rect.unit (s := ⟨2, ![a, b]⟩) ![p, q] (⟨2, ![h, w]⟩ : Shape).size hb) v _)
  · next hx =>
    refine put_of_not_mem X (Rect.unit (s := ⟨2, ![a, b]⟩) ![p, q] (⟨2, ![h, w]⟩ : Shape).size hb) v x fun y hy => hx ?_
    have h0 : p + 1 * (y 0).val = (x 0).val := congrArg (fun z : (⟨2, ![a, b]⟩ : Shape).Idx => (z 0).val) hy
    have h1 : q + 1 * (y 1).val = (x 1).val := congrArg (fun z : (⟨2, ![a, b]⟩ : Shape).Idx => (z 1).val) hy
    have h2 : (y 0).val < h := (y 0).isLt
    have h3 : (y 1).val < w := (y 1).isLt
    omega

/-- A rectangle of a real array. -/
theorem load2 {φ : FTy} {a b h w : ℕ} (f : ℕ → ℕ → ℝ) (p q : ℕ) (o : Fin 2 → ℕ)
    (hb : ∀ k, o k + (⟨2, ![h, w]⟩ : Shape).size k ≤ (⟨2, ![a, b]⟩ : Shape).size k) (ho : o = ![p, q]) :
    (fun x => V2 a b (φ := φ) f ((Rect.unit (s := ⟨2, ![a, b]⟩) o (⟨2, ![h, w]⟩ : Shape).size hb).toLoadRect.idx x)) = V2 h w (φ := φ) fun r c => f (p + r) (q + c) := by
  subst ho
  funext x
  show ((f (p + 1 * (x 0).val) (q + 1 * (x 1).val) : ℝ) : EReal) = _
  rw [one_mul, one_mul]; rfl

/-- A store of one group's rows of the sums kept, read at an index. -/
theorem put3 (X : S2x1024x1.Idx → Elt Ideal .f32) (g : ℕ) (o : Fin 3 → ℕ) (hb) (ho : o = ![g, 0, 0]) (v : S1x1024x1.Idx → Elt Ideal .f32) (x : S2x1024x1.Idx) :
    put (Val := Elt Ideal) (e := .f32) X (accRect o hb) v x = if (x 0).val = g then v (ix3 0 (x 1) (x 2)) else X x := by
  subst ho
  split
  · next hx =>
    have hy : x = (accRect ![g, 0, 0] hb).emb (ix3 0 (x 1) (x 2)) := by
      funext k
      refine Fin.ext ?_
      match k with
      | 0 => show (x 0).val = g + 1 * 0; omega
      | 1 => show (x 1).val = 0 + 1 * (x 1).val; omega
      | 2 => show (x 2).val = 0 + 1 * (x 2).val; omega
    exact (congrArg (put (Val := Elt Ideal) (e := .f32) X (accRect ![g, 0, 0] hb) v) hy).trans (put_emb (Val := Elt Ideal) (e := .f32) X (accRect ![g, 0, 0] hb) v _)
  · next hx =>
    refine put_of_not_mem (Val := Elt Ideal) (e := .f32) X (accRect ![g, 0, 0] hb) v x fun y hy => hx ?_
    have h0 : g + 1 * (y 0).val = (x 0).val := congrArg (fun z : S2x1024x1.Idx => (z 0).val) hy
    have h2 : (y 0).val < 1 := (y 0).isLt
    omega

/-- One group's rows of the sums kept. -/
theorem load3 (a : ℕ → ℕ → ℝ) (g : ℕ) (o : Fin 3 → ℕ) (hb) (ho : o = ![g, 0, 0]) :
    (fun x => V3 2 1024 1 (φ := .f32) (fun g ρ _ => a g ρ) ((accRect o hb).toLoadRect.idx x)) = V3 1 1024 1 (φ := .f32) fun _ ρ _ => a g ρ := by
  subst ho
  funext x
  show ((a (g + 1 * (x 0).val) (0 + 1 * (x 1).val) : ℝ) : EReal) = _
  have h0 : (x 0).val < 1 := (x 0).isLt
  rw [show g + 1 * (x 0).val = g by omega, one_mul, zero_add]; rfl

/-- One head's rows of the sums kept. -/
theorem cut3 (a : ℕ → ℕ → ℝ) (τ : St Ideal) (hτ : τ .acc = V3 2 1024 1 (φ := .f32) fun g ρ _ => a g ρ) (g k : ℕ) (o : Fin 3 → ℕ) (hb) (ho : o = ![g, k, 0]) :
    (fun x : S1x128x1.Idx => τ .acc ((cutRect o hb).toLoadRect.idx x)) = V3 1 128 1 (φ := .f32) fun _ r _ => a g (k + r) := by
  subst ho
  rw [hτ]
  funext x
  show ((a (g + 1 * (x 0).val) (k + 1 * (x 1).val) : ℝ) : EReal) = _
  have h0 : (x 0).val < 1 := (x 0).isLt
  rw [show g + 1 * (x 0).val = g by omega, one_mul]; rfl

/-! ### The keys' and values' gradient -/

/-- What a group adds to its rows. -/
theorem kvPay (A : ℕ → ℕ → ℝ) (B g : ℕ → ℕ → ℝ) : k0_pay80 (F := Ideal) (V2 1024 64 A) (V2 1024 256 B) (V2 256 64 (φ := .f32) g)
    = V2 256 64 fun j d => g j d + ∑ ρ : Fin 1024, B ρ j * A ρ d := by
  funext x
  pointwise [k0_pay80]
  simp only [V2, ← EReal.coe_mul, sum_coe, ← EReal.coe_add]
  rfl

theorem kv_put (f A B : ℕ → ℕ → ℝ) (n c : ℕ) (o : Fin 2 → ℕ) (h) (ho : o = ![128 * n, c]) :
    put (Val := Elt Ideal) (e := .f32) (V2 8320 256 (φ := .f32) f) (kvRect o h)
      (k0_pay80 (F := Ideal) (V2 1024 64 A) (V2 1024 256 B) fun x => V2 8320 256 (φ := .f32) f ((kvRect o h).toLoadRect.idx x))
      = V2 8320 256 (φ := .f32) fun R y => f R y + if (128 * n ≤ R ∧ R < 128 * n + 256) ∧ c ≤ y ∧ y < c + 64 then ∑ ρ : Fin 1024, B ρ (R - 128 * n) * A ρ (y - c) else 0 := by
  have e := (congrArg (k0_pay80 (F := Ideal) (V2 1024 64 A) (V2 1024 256 B)) (load2 (φ := .f32) (h := 256) (w := 64) f (128 * n) c o h ho)).trans (kvPay A B _)
  refine (congrArg (put (Val := Elt Ideal) (e := .f32) (V2 8320 256 (φ := .f32) f) (kvRect o h)) e).trans ?_
  funext x
  refine (put2 (Val := Elt Ideal) (e := .f32) (a := 8320) (b := 256) (h := 256) (w := 64) _ (128 * n) c o h ho _ x).trans ?_
  split
  · next hx =>
    simp only [V2]
    rw [if_pos hx]
    have e0 : 128 * n + ((x 0).val - 128 * n) = (x 0).val := by omega
    have e1 : c + ((x 1).val - c) = (x 1).val := by omega
    refine congrArg (fun z : ℝ => (z : EReal)) ?_
    show f (128 * n + ((x 0).val - 128 * n)) (c + ((x 1).val - c)) + _ = _
    rw [e0, e1]
    rfl
  · next hx =>
    simp only [V2]
    rw [if_neg hx, add_zero]

section Kv
variable (i : grid0.Coords) (n : ℕ) (hn : (i 0).val = n) (f A B : ℕ → ℕ → ℝ) (τ : St Ideal) (hτ : τ .dkv = V2 8320 256 (φ := .f32) f)
include hn hτ

theorem kvA_dkv : kvA i (V2 1024 64 A) (V2 1024 256 B) τ .dkv
    = V2 8320 256 (φ := .f32) fun R y => f R y + if (128 * n ≤ R ∧ R < 128 * n + 256) ∧ 0 ≤ y ∧ y < 0 + 64 then ∑ ρ : Fin 1024, B ρ (R - 128 * n) * A ρ (y - 0) else 0 := by
  rw [kvA, wrt, wr_self, hτ]
  exact kv_put f A B n 0 _ _ (by rw [k0_off1_eq, hn])
theorem kvB_dkv : kvB i (V2 1024 64 A) (V2 1024 256 B) τ .dkv
    = V2 8320 256 (φ := .f32) fun R y => f R y + if (128 * n ≤ R ∧ R < 128 * n + 256) ∧ 128 ≤ y ∧ y < 128 + 64 then ∑ ρ : Fin 1024, B ρ (R - 128 * n) * A ρ (y - 128) else 0 := by
  rw [kvB, wrt, wr_self, hτ]
  exact kv_put f A B n 128 _ _ (by rw [k0_off2_eq, hn])
theorem kvC_dkv : kvC i (V2 1024 64 A) (V2 1024 256 B) τ .dkv
    = V2 8320 256 (φ := .f32) fun R y => f R y + if (128 * n ≤ R ∧ R < 128 * n + 256) ∧ 64 ≤ y ∧ y < 64 + 64 then ∑ ρ : Fin 1024, B ρ (R - 128 * n) * A ρ (y - 64) else 0 := by
  rw [kvC, wrt, wr_self, hτ]
  exact kv_put f A B n 64 _ _ (by rw [k0_off3_eq, hn])
theorem kvD_dkv : kvD i (V2 1024 64 A) (V2 1024 256 B) τ .dkv
    = V2 8320 256 (φ := .f32) fun R y => f R y + if (128 * n ≤ R ∧ R < 128 * n + 256) ∧ 192 ≤ y ∧ y < 192 + 64 then ∑ ρ : Fin 1024, B ρ (R - 128 * n) * A ρ (y - 192) else 0 := by
  rw [kvD, wrt, wr_self, hτ]
  exact kv_put f A B n 192 _ _ (by rw [k0_off4_eq, hn])
end Kv

/-! ### The queries' gradient -/

/-- A head's columns. -/
theorem tile_at (h : ℕ) (K S : ℕ → ℕ → ℝ) (sl) (hsl : (⟨2, ![1024, 64]⟩ : Shape).Slices sl (⟨2, ![128, 64]⟩ : Shape)) (e : sl = ![128 * h, 0]) (y : (⟨2, ![128, 64]⟩ : Shape).Idx) :
    extractStridedSlice (⟨2, ![128, 64]⟩ : Shape) sl (k0_pay71 (F := Ideal) (V2 256 64 K) (V2 1024 256 S)) hsl y
      = ((∑ j : Fin 256, S (128 * h + (y 0).val) j * K j (y 1).val : ℝ) : EReal) := by
  subst e
  have e71 : k0_pay71 (F := Ideal) (V2 256 64 K) (V2 1024 256 S) = V2 1024 64 fun ρ d => ∑ j : Fin 256, S ρ j * K j d := by
    funext x
    pointwise [k0_pay71]
    simp only [V2, ← EReal.coe_mul, sum_coe]
    rfl
  rw [e71]
  pointwise
  simp only [V2]
  refine congrArg (fun z : ℝ => (z : EReal)) ?_
  refine Finset.sum_congr rfl fun j _ => ?_
  simp

/-- One more head's columns are stored. -/
theorem dq_extend (k : ℕ) (hk : k < 16) (τ : St Ideal) (g : ℕ → ℕ → ℝ) (hP : ∀ x, (x 1).val < 64 * k → τ .dq x = ((g (x 0).val (x 1).val : ℝ) : EReal))
    (o : Fin 2 → ℕ) (h) (ho : o = ![0, 64 * k]) (w : S128x64.Idx → Elt Ideal .bf16) (hw : ∀ y, w y = ((g (y 0).val (64 * k + (y 1).val) : ℝ) : EReal)) :
    ∀ x, (x 1).val < 64 * (k + 1) → wrt τ .dq (dqRect o h) w .dq x = ((g (x 0).val (x 1).val : ℝ) : EReal) := by
  intro x hx
  rw [wrt, wr_self]
  refine (put2 (Val := Elt Ideal) (e := .bf16) (a := 128) (b := 1024) (h := 128) (w := 64) (τ .dq) 0 (64 * k) o h ho w x).trans ?_
  have h0 : (x 0).val < 128 := (x 0).isLt
  split
  · next hx' =>
    rw [hw]
    show ((g ((x 0).val - 0) (64 * k + ((x 1).val - 64 * k)) : ℝ) : EReal) = _
    rw [Nat.sub_zero, show 64 * k + ((x 1).val - 64 * k) = (x 1).val by omega]
  · next hx' => exact hP x (by omega)

/-- The gradient of the queries of a block. -/
def dqRow (Q D K : ℕ → ℕ → ℝ) (s : ℕ → ℝ) (n r y : ℕ) : ℝ :=
  ∑ j : Fin 256, dS Q D K s n (y / 512) (128 * (y % 512 / 64) + r) j * kp K (128 * n + j) (64 * (y / 512) + y % 64)

theorem dqRow_tile (Q D K : ℕ → ℕ → ℝ) (s : ℕ → ℝ) (n c h k r d : ℕ) (hk : k = 8 * c + h) (hh : h < 8) (hd : d < 64) :
    ∑ j : Fin 256, dS Q D K s n c (128 * h + r) j * kp K (128 * n + j) (64 * c + d) = dqRow Q D K s n r (64 * k + d) := by
  subst hk
  rw [dqRow, show (64 * (8 * c + h) + d) / 512 = c by omega, show (64 * (8 * c + h) + d) % 512 / 64 = h by omega, show (64 * (8 * c + h) + d) % 64 = d by omega]

/-- The keys of a group. -/
theorem keys0 (K : ℕ → ℕ → ℝ) (n : ℕ) : k0_pay22 (kB K n) = V2 256 64 fun j d => kp K (128 * n + j) (64 * 0 + d) := by
  funext x
  pointwise [k0_pay22]
  simp [V2]
theorem keys1 (K : ℕ → ℕ → ℝ) (n : ℕ) : k0_pay27 (kB K n) = V2 256 64 fun j d => kp K (128 * n + j) (64 * 1 + d) := by
  funext x
  pointwise [k0_pay27]
  simp [V2]

/-- A store into one buffer leaves the others. -/
theorem wrt_ne (τ : St Ideal) (a b : B) (r : Rect (shp a)) (w : r.shape.Idx → Elt Ideal (elt a)) (hb : b ≠ a) : wrt τ a r w b = τ b :=
  wr_ne (sh := shp) (el := elt) τ hb r w

theorem dqA_ne (v w) (τ : St Ideal) (b : B) (hb : b ≠ .dq) : dqA v w τ b = τ b := by
  unfold dqA
  rw [wrt_ne _ _ _ _ _ hb, wrt_ne _ _ _ _ _ hb, wrt_ne _ _ _ _ _ hb, wrt_ne _ _ _ _ _ hb, wrt_ne _ _ _ _ _ hb, wrt_ne _ _ _ _ _ hb, wrt_ne _ _ _ _ _ hb, wrt_ne _ _ _ _ _ hb]
theorem dqB_ne (v w) (τ : St Ideal) (b : B) (hb : b ≠ .dq) : dqB v w τ b = τ b := by
  unfold dqB
  rw [wrt_ne _ _ _ _ _ hb, wrt_ne _ _ _ _ _ hb, wrt_ne _ _ _ _ _ hb, wrt_ne _ _ _ _ _ hb, wrt_ne _ _ _ _ _ hb, wrt_ne _ _ _ _ _ hb, wrt_ne _ _ _ _ _ hb]
theorem dqC_ne (v) (τ : St Ideal) (b : B) (hb : b ≠ .dq) : dqC v τ b = τ b := wrt_ne _ _ _ _ _ hb
theorem kvA_ne (i v w) (τ : St Ideal) (b : B) (hb : b ≠ .dkv) : kvA i v w τ b = τ b := wrt_ne _ _ _ _ _ hb
theorem kvB_ne (i v w) (τ : St Ideal) (b : B) (hb : b ≠ .dkv) : kvB i v w τ b = τ b := wrt_ne _ _ _ _ _ hb
theorem kvC_ne (i v w) (τ : St Ideal) (b : B) (hb : b ≠ .dkv) : kvC i v w τ b = τ b := wrt_ne _ _ _ _ _ hb
theorem kvD_ne (i v w) (τ : St Ideal) (b : B) (hb : b ≠ .dkv) : kvD i v w τ b = τ b := wrt_ne _ _ _ _ _ hb
theorem accA_ne (u v w x) (τ : St Ideal) (b : B) (hb : b ≠ .acc) : accA u v w x τ b = τ b := wrt_ne _ _ _ _ _ hb
theorem accB_ne (v w) (τ : St Ideal) (b : B) (hb : b ≠ .acc) : accB v w τ b = τ b := wrt_ne _ _ _ _ _ hb

section Work
variable (Q D K : ℕ → ℕ → ℝ) (s : ℕ → ℝ) (n : ℕ)
variable (σ : St Ideal) (i : grid0.Coords) (h : (i 0).val = n) (hn : n < 64) (hq : queries σ = qB Q n) (hd : cots σ = qB D n) (hk : keys σ = kB K n)
  (hs : ∀ h (hh : h < 16) b, sinkAt (σ .sk) ![h] b = ((s h : ℝ) : EReal))
include h hn hq hd hk hs

theorem work_dq : work i σ .dq = V2 128 1024 (φ := .bf16) (dqRow Q D K s n) := by
  funext x
  rw [work, dScores0_eq Q D K s n σ i h hn hq hd hk hs, dScores1_eq Q D K s n σ i h hn hq hd hk hs, hk, keys0, keys1]
  rw [kvD_ne _ _ _ _ _ (by decide), kvC_ne _ _ _ _ _ (by decide)]
  refine dq_extend 15 (by decide) _ (dqRow Q D K s n) ?_ ![0, 960] _ rfl _ ?_ x (x 1).isLt
  swap
  · exact fun y => (tile_at 7 _ _ ![896, 0] slices_S1024x64_o896_0_S128x64 rfl y).trans (congrArg (fun z : ℝ => (z : EReal)) (dqRow_tile Q D K s n 1 7 15 (y 0).val (y 1).val rfl (by decide) (y 1).isLt))
  clear x; intro x hx
  refine dq_extend 14 (by decide) _ (dqRow Q D K s n) ?_ ![0, 896] _ rfl _ ?_ x hx
  swap
  · exact fun y => (tile_at 6 _ _ ![768, 0] slices_S1024x64_o768_0_S128x64 rfl y).trans (congrArg (fun z : ℝ => (z : EReal)) (dqRow_tile Q D K s n 1 6 14 (y 0).val (y 1).val rfl (by decide) (y 1).isLt))
  intro x hx
  refine dq_extend 13 (by decide) _ (dqRow Q D K s n) ?_ ![0, 832] _ rfl _ ?_ x hx
  swap
  · exact fun y => (tile_at 5 _ _ ![640, 0] slices_S1024x64_o640_0_S128x64 rfl y).trans (congrArg (fun z : ℝ => (z : EReal)) (dqRow_tile Q D K s n 1 5 13 (y 0).val (y 1).val rfl (by decide) (y 1).isLt))
  intro x hx
  refine dq_extend 12 (by decide) _ (dqRow Q D K s n) ?_ ![0, 768] _ rfl _ ?_ x hx
  swap
  · exact fun y => (tile_at 4 _ _ ![512, 0] slices_S1024x64_o512_0_S128x64 rfl y).trans (congrArg (fun z : ℝ => (z : EReal)) (dqRow_tile Q D K s n 1 4 12 (y 0).val (y 1).val rfl (by decide) (y 1).isLt))
  intro x hx
  refine dq_extend 11 (by decide) _ (dqRow Q D K s n) ?_ ![0, 704] _ rfl _ ?_ x hx
  swap
  · exact fun y => (tile_at 3 _ _ ![384, 0] slices_S1024x64_o384_0_S128x64 rfl y).trans (congrArg (fun z : ℝ => (z : EReal)) (dqRow_tile Q D K s n 1 3 11 (y 0).val (y 1).val rfl (by decide) (y 1).isLt))
  intro x hx
  refine dq_extend 10 (by decide) _ (dqRow Q D K s n) ?_ ![0, 640] _ rfl _ ?_ x hx
  swap
  · exact fun y => (tile_at 2 _ _ ![256, 0] slices_S1024x64_o256_0_S128x64 rfl y).trans (congrArg (fun z : ℝ => (z : EReal)) (dqRow_tile Q D K s n 1 2 10 (y 0).val (y 1).val rfl (by decide) (y 1).isLt))
  intro x hx
  refine dq_extend 9 (by decide) _ (dqRow Q D K s n) ?_ ![0, 576] _ rfl _ ?_ x hx
  swap
  · exact fun y => (tile_at 1 _ _ ![128, 0] slices_S1024x64_o128_0_S128x64 rfl y).trans (congrArg (fun z : ℝ => (z : EReal)) (dqRow_tile Q D K s n 1 1 9 (y 0).val (y 1).val rfl (by decide) (y 1).isLt))
  intro x hx
  refine dq_extend 8 (by decide) _ (dqRow Q D K s n) ?_ ![0, 512] _ rfl _ ?_ x hx
  swap
  · exact fun y => (tile_at 0 _ _ ![0, 0] slices_S1024x64_o0_0_S128x64 rfl y).trans (congrArg (fun z : ℝ => (z : EReal)) (dqRow_tile Q D K s n 1 0 8 (y 0).val (y 1).val rfl (by decide) (y 1).isLt))
  intro x hx
  rw [kvB_ne _ _ _ _ _ (by decide), kvA_ne _ _ _ _ _ (by decide)]
  refine dq_extend 7 (by decide) _ (dqRow Q D K s n) ?_ ![0, 448] _ rfl _ ?_ x hx
  swap
  · exact fun y => (tile_at 7 _ _ ![896, 0] slices_S1024x64_o896_0_S128x64 rfl y).trans (congrArg (fun z : ℝ => (z : EReal)) (dqRow_tile Q D K s n 0 7 7 (y 0).val (y 1).val rfl (by decide) (y 1).isLt))
  intro x hx
  refine dq_extend 6 (by decide) _ (dqRow Q D K s n) ?_ ![0, 384] _ rfl _ ?_ x hx
  swap
  · exact fun y => (tile_at 6 _ _ ![768, 0] slices_S1024x64_o768_0_S128x64 rfl y).trans (congrArg (fun z : ℝ => (z : EReal)) (dqRow_tile Q D K s n 0 6 6 (y 0).val (y 1).val rfl (by decide) (y 1).isLt))
  intro x hx
  refine dq_extend 5 (by decide) _ (dqRow Q D K s n) ?_ ![0, 320] _ rfl _ ?_ x hx
  swap
  · exact fun y => (tile_at 5 _ _ ![640, 0] slices_S1024x64_o640_0_S128x64 rfl y).trans (congrArg (fun z : ℝ => (z : EReal)) (dqRow_tile Q D K s n 0 5 5 (y 0).val (y 1).val rfl (by decide) (y 1).isLt))
  intro x hx
  refine dq_extend 4 (by decide) _ (dqRow Q D K s n) ?_ ![0, 256] _ rfl _ ?_ x hx
  swap
  · exact fun y => (tile_at 4 _ _ ![512, 0] slices_S1024x64_o512_0_S128x64 rfl y).trans (congrArg (fun z : ℝ => (z : EReal)) (dqRow_tile Q D K s n 0 4 4 (y 0).val (y 1).val rfl (by decide) (y 1).isLt))
  intro x hx
  refine dq_extend 3 (by decide) _ (dqRow Q D K s n) ?_ ![0, 192] _ rfl _ ?_ x hx
  swap
  · exact fun y => (tile_at 3 _ _ ![384, 0] slices_S1024x64_o384_0_S128x64 rfl y).trans (congrArg (fun z : ℝ => (z : EReal)) (dqRow_tile Q D K s n 0 3 3 (y 0).val (y 1).val rfl (by decide) (y 1).isLt))
  intro x hx
  refine dq_extend 2 (by decide) _ (dqRow Q D K s n) ?_ ![0, 128] _ rfl _ ?_ x hx
  swap
  · exact fun y => (tile_at 2 _ _ ![256, 0] slices_S1024x64_o256_0_S128x64 rfl y).trans (congrArg (fun z : ℝ => (z : EReal)) (dqRow_tile Q D K s n 0 2 2 (y 0).val (y 1).val rfl (by decide) (y 1).isLt))
  intro x hx
  refine dq_extend 1 (by decide) _ (dqRow Q D K s n) ?_ ![0, 64] _ rfl _ ?_ x hx
  swap
  · exact fun y => (tile_at 1 _ _ ![128, 0] slices_S1024x64_o128_0_S128x64 rfl y).trans (congrArg (fun z : ℝ => (z : EReal)) (dqRow_tile Q D K s n 0 1 1 (y 0).val (y 1).val rfl (by decide) (y 1).isLt))
  intro x hx
  refine dq_extend 0 (by decide) _ (dqRow Q D K s n) ?_ ![0, 0] _ rfl _ ?_ x hx
  swap
  · exact fun y => (tile_at 0 _ _ ![0, 0] slices_S1024x64_o0_0_S128x64 rfl y).trans (congrArg (fun z : ℝ => (z : EReal)) (dqRow_tile Q D K s n 0 0 0 (y 0).val (y 1).val rfl (by decide) (y 1).isLt))
  intro x hx
  exact absurd hx (Nat.not_lt_zero _)

/-- What a block adds to the keys' and values' gradient at a place of its window. -/
def kvShare (j y : ℕ) : ℝ :=
  if y < 128 then ∑ ρ : Fin 1024, dS Q D K s n (y / 64) ρ j * Q (128 * n + ρ % 128) (64 * (8 * (y / 64) + ρ / 128) + y % 64)
  else ∑ ρ : Fin 1024, W Q K s n ((y - 128) / 64) ρ j * D (128 * n + ρ % 128) (64 * (8 * ((y - 128) / 64) + ρ / 128) + y % 64)

theorem work_dkv (f : ℕ → ℕ → ℝ) (hf : σ .dkv = V2 8320 256 (φ := .f32) f) :
    work i σ .dkv = V2 8320 256 (φ := .f32) fun R y => f R y + if 128 * n ≤ R ∧ R < 128 * n + 256 then kvShare Q D K s n (R - 128 * n) y else 0 := by
  rw [work, dScores0_eq Q D K s n σ i h hn hq hd hk hs, dScores1_eq Q D K s n σ i h hn hq hd hk hs, weights0_eq Q K s n σ i h hn hq hk hs,
    weights1_eq Q K s n σ i h hn hq hk hs, hq, hd, qHeads0, qHeads1, dHeads0, dHeads1]
  refine (kvD_dkv i n h _ _ _ _ (kvC_dkv i n h _ _ _ _ ((dqC_ne _ _ _ (by decide)).trans ((dqB_ne _ _ _ _ (by decide)).trans (kvB_dkv i n h _ _ _ _
    (kvA_dkv i n h f _ _ _ ((dqA_ne _ _ _ _ (by decide)).trans ((accB_ne _ _ _ _ (by decide)).trans ((accA_ne _ _ _ _ _ _ (by decide)).trans hf))))))))).trans ?_
  refine V2_congr fun R hR y hy => ?_
  by_cases hw : 128 * n ≤ R ∧ R < 128 * n + 256
  · simp only [hw, true_and, if_true]
    have c4 : y < 64 ∨ (64 ≤ y ∧ y < 128) ∨ (128 ≤ y ∧ y < 192) ∨ 192 ≤ y := by omega
    rcases c4 with c | c | c | c
    · rw [if_pos (by omega), if_neg (by omega), if_neg (by omega), if_neg (by omega), add_zero, add_zero, add_zero, kvShare, if_pos (by omega),
        show y / 64 = 0 by omega, show y % 64 = y - 0 by omega]
    · rw [if_neg (by omega), if_neg (by omega), if_pos (by omega), if_neg (by omega), add_zero, add_zero, add_zero, kvShare, if_pos (by omega),
        show y / 64 = 1 by omega, show y % 64 = y - 64 by omega]
    · rw [if_neg (by omega), if_pos (by omega), if_neg (by omega), if_neg (by omega), add_zero, add_zero, add_zero, kvShare, if_neg (by omega),
        show (y - 128) / 64 = 0 by omega, show y % 64 = y - 128 by omega]
    · rw [if_neg (by omega), if_neg (by omega), if_neg (by omega), if_pos (by omega), add_zero, add_zero, add_zero, kvShare, if_neg (by omega),
        show (y - 128) / 64 = 1 by omega, show y % 64 = y - 192 by omega]
  · simp only [hw, false_and, if_false, add_zero]

theorem work_acc (a : ℕ → ℕ → ℝ) (ha : σ .acc = V3 2 1024 1 (φ := .f32) fun g ρ _ => a g ρ) :
    work i σ .acc = V3 2 1024 1 (φ := .f32) fun g ρ _ => a g ρ + WS Q K s n g ρ * dd Q D K s n g ρ := by
  rw [work, sinkOf1_eq Q D K s n σ i h hn hq hd hk hs]
  rw [kvD_ne _ _ _ _ _ (by decide), kvC_ne _ _ _ _ _ (by decide), dqC_ne _ _ _ (by decide), dqB_ne _ _ _ _ (by decide), kvB_ne _ _ _ _ _ (by decide),
    kvA_ne _ _ _ _ _ (by decide), dqA_ne _ _ _ _ (by decide)]
  have eA : accA (k0_pay26 (cots σ) (keys σ)) (exps0 i σ) (sinkExps0 i σ) (sums0 i σ) σ .acc
      = V3 2 1024 1 (φ := .f32) fun g ρ _ => a g ρ + if g = 0 then WS Q K s n 0 ρ * dd Q D K s n 0 ρ else 0 := by
    rw [accA, wrt, wr_self, sinkOf0_eq Q D K s n σ i h hn hq hd hk hs, ha]
    funext x
    refine (put3 _ 0 _ _ rfl _ x).trans ?_
    have e := congrFun (load3 a 0 ![0, 0, 0] inb_S2x1024x1_S1x1024x1_0_0_0 rfl) (ix3 0 (x 1) (x 2))
    split
    · next hx =>
      refine (congrArg (· + _) e).trans ?_
      simp only [V3, hx, if_true]
      rfl
    · next hx => simp only [V3, hx, if_false, add_zero]
  rw [accB, wrt, wr_self, eA]
  funext x
  refine (put3 _ 1 _ _ rfl _ x).trans ?_
  have e := load3 (fun g ρ => a g ρ + if g = 0 then WS Q K s n 0 ρ * dd Q D K s n 0 ρ else 0) 1 ![1, 0, 0] inb_S2x1024x1_S1x1024x1_1_0_0 rfl
  have hx2 : (x 0).val < 2 := (x 0).isLt
  split
  · next hx =>
    refine (congrArg (fun z => k0_pay68 (F := Ideal) (k0_pay66 z) (V2 1024 1 fun ρ _ => WS Q K s n 1 ρ * dd Q D K s n 1 ρ) (ix3 0 (x 1) (x 2))) e).trans ?_
    pointwise [k0_pay68, k0_pay66]
    simp only [V3, V2, hx]
    rw [← EReal.coe_add]
    rfl
  · next hx =>
    have h0 : (x 0).val = 0 := by omega
    simp only [V3, h0, if_true]

end Work

/-- A choice among sixteen by a lane. -/
theorem pick16 (y : ℕ) (hy : y < 128) (g : ℕ → ℝ) : (Scalar.select (IntOp.cmpi .eq (BitVec.ofNat 32 y) 15#32) ((g 15 : ℝ) : EReal) (Scalar.select (IntOp.cmpi .eq (BitVec.ofNat 32 y) 14#32) ((g 14 : ℝ) : EReal) (Scalar.select (IntOp.cmpi .eq (BitVec.ofNat 32 y) 13#32) ((g 13 : ℝ) : EReal) (Scalar.select (IntOp.cmpi .eq (BitVec.ofNat 32 y) 12#32) ((g 12 : ℝ) : EReal) (Scalar.select (IntOp.cmpi .eq (BitVec.ofNat 32 y) 11#32) ((g 11 : ℝ) : EReal) (Scalar.select (IntOp.cmpi .eq (BitVec.ofNat 32 y) 10#32) ((g 10 : ℝ) : EReal) (Scalar.select (IntOp.cmpi .eq (BitVec.ofNat 32 y) 9#32) ((g 9 : ℝ) : EReal) (Scalar.select (IntOp.cmpi .eq (BitVec.ofNat 32 y) 8#32) ((g 8 : ℝ) : EReal) (Scalar.select (IntOp.cmpi .eq (BitVec.ofNat 32 y) 7#32) ((g 7 : ℝ) : EReal) (Scalar.select (IntOp.cmpi .eq (BitVec.ofNat 32 y) 6#32) ((g 6 : ℝ) : EReal) (Scalar.select (IntOp.cmpi .eq (BitVec.ofNat 32 y) 5#32) ((g 5 : ℝ) : EReal) (Scalar.select (IntOp.cmpi .eq (BitVec.ofNat 32 y) 4#32) ((g 4 : ℝ) : EReal) (Scalar.select (IntOp.cmpi .eq (BitVec.ofNat 32 y) 3#32) ((g 3 : ℝ) : EReal) (Scalar.select (IntOp.cmpi .eq (BitVec.ofNat 32 y) 2#32) ((g 2 : ℝ) : EReal) (Scalar.select (IntOp.cmpi .eq (BitVec.ofNat 32 y) 1#32) ((g 1 : ℝ) : EReal) (Scalar.select (IntOp.cmpi .eq (BitVec.ofNat 32 y) 0#32) ((g 0 : ℝ) : EReal) (0 : EReal))))))))))))))))) = ((if y < 16 then g y else 0 : ℝ) : EReal) := by
  interval_cases y <;> rfl

/-- A store of all. -/
theorem put_all {Val : EltTy → Type} {e : EltTy} {s : Shape} (X v : s.Idx → Val e) (o : Fin s.rank → ℕ) (h) (ho : ∀ k, o k = 0) :
    put X (Rect.unit (s := s) o s.size h) v = v := by
  funext x
  have hy : (Rect.unit (s := s) o s.size h).emb x = x := by
    funext k
    refine Fin.ext ?_
    show o k + 1 * (x k).val = (x k).val
    rw [ho k, zero_add, one_mul]
  exact (congrArg (put X (Rect.unit (s := s) o s.size h) v) hy.symm).trans (put_emb X (Rect.unit (s := s) o s.size h) v x)

theorem first_iff : ∀ i : grid0.Coords, first i ↔ (i 0).val = 0 := by decide +kernel
theorem last_iff : ∀ i : grid0.Coords, k0_cond2 i = 1#1 ↔ (i 0).val = 63 := by decide +kernel

/-- The first point starts the sums; the others find them. -/
theorem reset_dkv (i : grid0.Coords) (σ : St Ideal) (f : ℕ → ℕ → ℝ) (h0 : (i 0).val = 0 → f = fun _ _ => 0) (h : (i 0).val = 0 ∨ σ .dkv = V2 8320 256 (φ := .f32) f) :
    reset i σ .dkv = V2 8320 256 (φ := .f32) f := by
  unfold reset
  split
  · next hf =>
    rw [wrt_ne _ _ _ _ _ (by decide), wrt, wr_self, h0 ((first_iff i).mp hf)]
    refine (put_all (Val := Elt Ideal) (e := .f32) _ _ _ _ (by decide)).trans ?_
    funext x
    pointwise [k0_pay14]
    rfl
  · next hf => exact h.resolve_left fun e => hf ((first_iff i).mpr e)
theorem reset_acc (i : grid0.Coords) (σ : St Ideal) (a : ℕ → ℕ → ℝ) (h0 : (i 0).val = 0 → a = fun _ _ => 0)
    (h : (i 0).val = 0 ∨ σ .acc = V3 2 1024 1 (φ := .f32) fun g ρ _ => a g ρ) : reset i σ .acc = V3 2 1024 1 (φ := .f32) fun g ρ _ => a g ρ := by
  unfold reset
  split
  · next hf =>
    rw [wrt, wr_self, h0 ((first_iff i).mp hf)]
    refine (put_all (Val := Elt Ideal) (e := .f32) _ _ _ _ (by decide)).trans ?_
    funext x
    pointwise [k0_pay15]
    rfl
  · next hf => exact h.resolve_left fun e => hf ((first_iff i).mpr e)
theorem reset_ne (i : grid0.Coords) (σ : St Ideal) (b : B) (hb : b ≠ .dkv) (hb' : b ≠ .acc) : reset i σ b = σ b := by
  unfold reset
  split
  · rw [wrt_ne _ _ _ _ _ hb', wrt_ne _ _ _ _ _ hb]
  · rfl
theorem ends_ne (i : grid0.Coords) (σ : St Ideal) (b : B) (hb : b ≠ .ds) : ends i σ b = σ b := by
  unfold ends
  split
  · rw [wrt_ne _ _ _ _ _ hb]
  · rfl

theorem sinkGrad_eq (a : ℕ → ℕ → ℝ) (τ : St Ideal) (hτ : τ .acc = V3 2 1024 1 (φ := .f32) fun g ρ _ => a g ρ) :
    sinkGrad τ = V2 1 128 fun _ y => if y < 16 then - ∑ r : Fin 128, a (y / 8) (128 * (y % 8) + r) else 0 := by
  unfold sinkGrad sinkGrad12 sinkGrad9 sinkGrad5 sinkGrad2
  rw [cut3 a τ hτ 0 0 ![0, 0, 0] inb_S2x1024x1_S1x128x1_0_0_0 rfl,
    cut3 a τ hτ 0 128 ![0, 128, 0] inb_S2x1024x1_S1x128x1_0_128_0 rfl,
    cut3 a τ hτ 0 256 ![0, 256, 0] inb_S2x1024x1_S1x128x1_0_256_0 rfl,
    cut3 a τ hτ 0 384 ![0, 384, 0] inb_S2x1024x1_S1x128x1_0_384_0 rfl,
    cut3 a τ hτ 0 512 ![0, 512, 0] inb_S2x1024x1_S1x128x1_0_512_0 rfl,
    cut3 a τ hτ 0 640 ![0, 640, 0] inb_S2x1024x1_S1x128x1_0_640_0 rfl,
    cut3 a τ hτ 0 768 ![0, 768, 0] inb_S2x1024x1_S1x128x1_0_768_0 rfl,
    cut3 a τ hτ 0 896 ![0, 896, 0] inb_S2x1024x1_S1x128x1_0_896_0 rfl,
    cut3 a τ hτ 1 0 ![1, 0, 0] inb_S2x1024x1_S1x128x1_1_0_0 rfl,
    cut3 a τ hτ 1 128 ![1, 128, 0] inb_S2x1024x1_S1x128x1_1_128_0 rfl,
    cut3 a τ hτ 1 256 ![1, 256, 0] inb_S2x1024x1_S1x128x1_1_256_0 rfl,
    cut3 a τ hτ 1 384 ![1, 384, 0] inb_S2x1024x1_S1x128x1_1_384_0 rfl,
    cut3 a τ hτ 1 512 ![1, 512, 0] inb_S2x1024x1_S1x128x1_1_512_0 rfl,
    cut3 a τ hτ 1 640 ![1, 640, 0] inb_S2x1024x1_S1x128x1_1_640_0 rfl,
    cut3 a τ hτ 1 768 ![1, 768, 0] inb_S2x1024x1_S1x128x1_1_768_0 rfl,
    cut3 a τ hτ 1 896 ![1, 896, 0] inb_S2x1024x1_S1x128x1_1_896_0 rfl]
  funext x
  pointwise [k0_pay3, k0_pay4, k0_pay5, k0_pay6, k0_pay7, k0_pay8, k0_pay9, k0_pay10, k0_pay11, k0_pay12, k0_pay13]
  simp only [V3, sum_coe, zero_sub, ← EReal.coe_neg]
  exact pick16 _ (x 1).isLt fun y => - ∑ r : Fin 128, a (y / 8) (128 * (y % 8) + r)

theorem ends_ds (i : grid0.Coords) (hi : (i 0).val = 63) (a : ℕ → ℕ → ℝ) (τ : St Ideal) (hτ : τ .acc = V3 2 1024 1 (φ := .f32) fun g ρ _ => a g ρ) :
    ends i τ .ds = V2 1 128 (φ := .f32) fun _ y => if y < 16 then - ∑ r : Fin 128, a (y / 8) (128 * (y % 8) + r) else 0 := by
  rw [ends, if_pos ((last_iff i).mpr hi), wrt, wr_self, sinkGrad_eq a τ hτ]
  exact put_all (Val := Elt Ideal) (e := .f32) _ _ _ _ (by decide)

/-! ### From the blocks -/

/-- The whole of a buffer, loaded. -/
theorem load_all {α : Type} {s : Shape} (X : s.Idx → α) (o : Fin s.rank → ℕ) (h) (ho : ∀ k, o k = 0) :
    (fun x => X ((Rect.unit (s := s) o s.size h).toLoadRect.idx x)) = X := by
  funext x
  refine congrArg X (funext fun k => Fin.ext ?_)
  show o k + 1 * (x k).val = (x k).val
  rw [ho k, zero_add, one_mul]

theorem queries_eq (Q : ℕ → ℕ → ℝ) (n : ℕ) (σ : St Ideal) (h : σ .q = qB Q n) : queries σ = qB Q n := by
  rw [queries, h]
  refine (congrArg (k0_pay16 (F := Ideal)) (load_all (qB Q n) _ inb_S128x1024_S128x1024_0_0 (by decide))).trans ?_
  exact shapeCast_self _ _
theorem cots_eq (D : ℕ → ℕ → ℝ) (n : ℕ) (σ : St Ideal) (h : σ .d = qB D n) : cots σ = qB D n := by
  rw [cots, h]
  refine (congrArg (k0_pay17 (F := Ideal)) (load_all (qB D n) _ inb_S128x1024_S128x1024_0_0 (by decide))).trans ?_
  exact shapeCast_self _ _
theorem keys_eq (K : ℕ → ℕ → ℝ) (n : ℕ) (σ : St Ideal) (ha : σ .ka = V2 128 256 (φ := .bf16) fun j y => kp K (128 * n + j) y)
    (hb : σ .kb = V2 128 256 (φ := .bf16) fun j y => kp K (128 * (n + 1) + j) y) : keys σ = kB K n := by
  rw [keys, ha, hb]
  refine (congrArg₂ (k0_pay18 (F := Ideal)) (load_all (V2 128 256 (φ := .bf16) fun j y => kp K (128 * n + j) y) _ inb_S128x256_S128x256_0_0 (by decide))
    (load_all (V2 128 256 (φ := .bf16) fun j y => kp K (128 * (n + 1) + j) y) _ inb_S128x256_S128x256_0_0 (by decide))).trans ?_
  funext x
  pointwise [k0_pay18]
  split
  · rfl
  · next hx =>
    show ((kp K (128 * (n + 1) + ((x 0).val - 128)) (x 1).val : ℝ) : EReal) = ((kp K (128 * n + (x 0).val) (x 1).val : ℝ) : EReal)
    rw [show 128 * (n + 1) + ((x 0).val - 128) = 128 * n + (x 0).val by omega]
theorem sink_eq (s : ℕ → ℝ) (σ : St Ideal) (h : σ .sk = V1 16 (φ := .f32) s) (k : ℕ) (hk : k < 16) (b) : sinkAt (σ .sk) ![k] b = ((s k : ℝ) : EReal) := by
  rw [h]
  rfl

end Cert.Swa
-- ==== Proof.SwaLaunch.lean ====
/-
  The launch of the windowed attention's backward pass: from what the body does at each grid point, what a run of the whole program does.
-/
module

public import proofs.«01_k».proof.Proof.SwaBody
public import proofs.«01_k».proof.Proof.Gen.SwaKernelIdeal
public import proofs.«01_k».proof.Proof.Gen.SwaKernelIdeal.Launch
public import proofs.«01_k».proof.Proof.Gen.SwaKernelIdeal.Points
public import Idealize.ShloMosaic.Lib.Pipeline.FrameBody
public import Idealize.ShloMosaic.Lib.Pipeline.ArrRel
public import Idealize.ShloMosaic.Lib.Ring
public import Idealize.ShloMosaic.Lib.Tactic

@[expose] public section

set_option maxRecDepth 16384

noncomputable section

namespace Cert.SwaRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)
open Cert.SwaKernelIdeal Cert.SwaKernelIdeal.Gen Cert.Owned Cert.SwaBody

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the region finds: the arrays after the host's casts and the zero rows put before the keys and values. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes none of the arguments. -/
theorem V_arg (c : Dev nD) (b : Ref sig .tc) (hb : b ∈ [main_arg0, main_arg1, main_arg2, main_arg3]) : V m c b = m ((c : Thread nD τ).loc b) := by
  refine StableHlo.after_of_forall_not_mem (b := Proc.devRef .tc b) _ _ (List.forall_iff_forall_mem.mp ?_)
  fin_cases hb <;>
  · simp only [hostOps0, List.Forall, StableHlo.unary_writes, StableHlo.nullary_writes, StableHlo.binary_writes, StableHlo.reshape_writes, Finset.mem_singleton]
    repeat' apply And.intro
    all_goals exact StableHlo.devRef_ne_of_ne (by decide)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffers that the body works on at point `t`. -/
def mems (t : Fin cfg0.N) : Mems
  | .sk => win0_0.stage (cfg0.slots t 0)
  | .q => win0_1.stage (cfg0.slots t 1)
  | .d => win0_2.stage (cfg0.slots t 2)
  | .ka => win0_3.stage (cfg0.slots t 3)
  | .kb => win0_4.stage (cfg0.slots t 4)
  | .dq => win0_5.stage (cfg0.slots t 5)
  | .dkv => win0_6.stage (cfg0.slots t 6)
  | .ds => win0_7.stage (cfg0.slots t 7)
  | .acc => Memref.whole cc0_scratch0

theorem whole (t : Fin cfg0.N) : (b : B) → (mems t b).IsWhole
  | .sk => hstage0_0 ((cfg0.slots t 0).cast nbuf0_0)
  | .q => hstage0_1 ((cfg0.slots t 1).cast nbuf0_1)
  | .d => hstage0_2 ((cfg0.slots t 2).cast nbuf0_2)
  | .ka => hstage0_3 ((cfg0.slots t 3).cast nbuf0_3)
  | .kb => hstage0_4 ((cfg0.slots t 4).cast nbuf0_4)
  | .dq => hstage0_5 ((cfg0.slots t 5).cast nbuf0_5)
  | .dkv => hstage0_6 ((cfg0.slots t 6).cast nbuf0_6)
  | .ds => hstage0_7 ((cfg0.slots t 7).cast nbuf0_7)
  | .acc => Memref.isWhole_whole _

/-- The contents `σ` have the arguments' blocks at point `t` in place. -/
structure Blocks (c : Dev nD) (t : Fin cfg0.N) (σ : St F) : Prop where
  sk : σ .sk = iblk m c 0 t
  q : σ .q = iblk m c 1 t
  d : σ .d = iblk m c 2 t
  ka : σ .ka = iblk m c 3 t
  kb : σ .kb = iblk m c 4 t

/-- What is known between grid points of the keys' and values' gradient and of the sinks' running sums, and what each grid point leaves
    in the other results' blocks; and that the body makes it so. -/
structure Plan (c : Dev nD) where
  kv : ℕ → (S8320x256.Idx → Elt F .f32) → Prop
  ac : ℕ → (S2x1024x1.Idx → Elt F .f32) → Prop
  dq : Fin cfg0.N → (S128x1024.Idx → Elt F .bf16) → Prop
  ds : Fin cfg0.N → (S1x128.Idx → Elt F .f32) → Prop
  kv_init : ∀ x, kv 0 x
  ac_init : ∀ y, ac 0 y
  step : ∀ (t : Fin cfg0.N) (σ : St F), Blocks m c t σ → kv t.val (σ .dkv) → ac t.val (σ .acc) →
    kv (t.val + 1) (ends (grid0.coords t) (work (grid0.coords t) (reset (grid0.coords t) σ)) .dkv)
    ∧ ac (t.val + 1) (ends (grid0.coords t) (work (grid0.coords t) (reset (grid0.coords t) σ)) .acc)
    ∧ dq t (ends (grid0.coords t) (work (grid0.coords t) (reset (grid0.coords t) σ)) .dq)
    ∧ ds t (ends (grid0.coords t) (work (grid0.coords t) (reset (grid0.coords t) σ)) .ds)

variable (p : (c : Dev nD) → Plan m c)

/-- What the program holds between grid points. -/
def Phi (c : Dev nD) (n : ℕ) : sProp 𝕄 :=
  iprop((∃ y, ⌜(p c).ac n y⌝ ∗ owns (c : Thread nD τ) (Memref.whole cc0_scratch0) fullShare y) ∗ (∃ r, prngReg c r))

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]

/-- The arguments' windows, exactly. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ t := Phi m p c t.val
  q w := Pipeline.shareOf spec0 w
  owed _ := 0

/-- The results' windows, by what is known of them. -/
def known (c : Dev nD) : (w : Fin cfg0.W) →
    Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => some fun t _ X => (p c).dq t X
  | ⟨6, _⟩ => some fun t _ X => (p c).kv (t.val + 1) X
  | ⟨7, _⟩ => some fun t _ X => (p c).ds t X

/-- All windows. -/
def rdat (c : Dev nD) : RDat τ (Elt F) Unit ℕ (UR sig nD τ) ℕ cfg0 c := (dat m p c).toR.override (known m p c)

theorem A_eq (c : Dev nD) (w : Fin cfg0.W) : (rdat m p c).A w = V m c (Pipeline.arrRef spec0 w) := by
  dsimp only [rdat, RDat.override, Dat.toR, dat]

theorem found0 (c : Dev nD) (t : Fin cfg0.N) (X) (h : (rdat m p c).Finds 0 t X) : X = iblk m c 0 t := by
  obtain ⟨d, rfl⟩ := (dat m p c).toR_finds 0 t X (((dat m p c).toR.override_finds rfl t X).mp h)
  exact ((dat m p c).before_in_eq_fetched 0 rfl (fun _ => rfl) (fun _ _ _ => rfl) (fun t => rfl) t d).trans rfl
theorem found1 (c : Dev nD) (t : Fin cfg0.N) (X) (h : (rdat m p c).Finds 1 t X) : X = iblk m c 1 t := by
  obtain ⟨d, rfl⟩ := (dat m p c).toR_finds 1 t X (((dat m p c).toR.override_finds rfl t X).mp h)
  exact ((dat m p c).before_in_eq_fetched 1 rfl (fun _ => rfl) (fun _ _ _ => rfl) (fun t => rfl) t d).trans rfl
theorem found2 (c : Dev nD) (t : Fin cfg0.N) (X) (h : (rdat m p c).Finds 2 t X) : X = iblk m c 2 t := by
  obtain ⟨d, rfl⟩ := (dat m p c).toR_finds 2 t X (((dat m p c).toR.override_finds rfl t X).mp h)
  exact ((dat m p c).before_in_eq_fetched 2 rfl (fun _ => rfl) (fun _ _ _ => rfl) (fun t => rfl) t d).trans rfl
theorem found3 (c : Dev nD) (t : Fin cfg0.N) (X) (h : (rdat m p c).Finds 3 t X) : X = iblk m c 3 t := by
  obtain ⟨d, rfl⟩ := (dat m p c).toR_finds 3 t X (((dat m p c).toR.override_finds rfl t X).mp h)
  exact ((dat m p c).before_in_eq_fetched 3 rfl (fun _ => rfl) (fun _ _ _ => rfl) (fun t => rfl) t d).trans rfl
theorem found4 (c : Dev nD) (t : Fin cfg0.N) (X) (h : (rdat m p c).Finds 4 t X) : X = iblk m c 4 t := by
  obtain ⟨d, rfl⟩ := (dat m p c).toR_finds 4 t X (((dat m p c).toR.override_finds rfl t X).mp h)
  exact ((dat m p c).before_in_eq_fetched 4 rfl (fun _ => rfl) (fun _ _ _ => rfl) (fun t => rfl) t d).trans rfl

/-- What a point finds of the keys' and values' gradient is what the point before left of it. -/
theorem found6 (c : Dev nD) (t : Fin cfg0.N) (X) (h : (rdat m p c).Finds 6 t X) : (p c).kv t.val X := by
  have hf : (cfg0.win 6).fetch t = false := rfl
  by_cases ht : t.val = 0
  · rw [ht]; exact (p c).kv_init X
  rcases ((rdat m p c).finds_of_pos hf ht X).mp h with hfl | ⟨Y, _, hY⟩
  · have e : (t.val - 1) % 64 = 63 := (flush0_6 _).mp hfl
    have hN : t.val < 64 := t.isLt
    omega
  · have hY' : (p c).kv (t.val - 1 + 1) X := hY
    rwa [Nat.sub_add_cancel (Nat.one_le_iff_ne_zero.mpr ht)] at hY'

theorem held_eq (c : Dev nD) (M : Mems) (σ : St F) :
    (held Unit (UR sig nD τ) ℕ c (bufs M) σ : sProp 𝕄) = iprop(owns (c : Thread nD τ) (M .sk) fullShare (σ .sk)
      ∗ owns (c : Thread nD τ) (M .q) fullShare (σ .q)
      ∗ owns (c : Thread nD τ) (M .d) fullShare (σ .d)
      ∗ owns (c : Thread nD τ) (M .ka) fullShare (σ .ka)
      ∗ owns (c : Thread nD τ) (M .kb) fullShare (σ .kb)
      ∗ owns (c : Thread nD τ) (M .dq) fullShare (σ .dq)
      ∗ owns (c : Thread nD τ) (M .dkv) fullShare (σ .dkv)
      ∗ owns (c : Thread nD τ) (M .ds) fullShare (σ .ds)
      ∗ owns (c : Thread nD τ) (M .acc) fullShare (σ .acc)) :=
  bigSep_univ_eq_bigSepL [B.sk, .q, .d, .ka, .kb, .dq, .dkv, .ds, .acc] (by decide) (by decide) _

theorem defs₀_row (t : Fin cfg0.N) :
    defs₀ (F := F) .tc cfg0.body (cfg0.bodyArgs t (cfg0.slots t)) = bodyAt0 t := by
  unfold defs₀; rw [Defs.onTc_tc]

/-- Contents put together. -/
def state (sk : S16.Idx → Elt F .f32) (q : S128x1024.Idx → Elt F .bf16) (d : S128x1024.Idx → Elt F .bf16) (ka : S128x256.Idx → Elt F .bf16) (kb : S128x256.Idx → Elt F .bf16) (dq : S128x1024.Idx → Elt F .bf16) (dkv : S8320x256.Idx → Elt F .f32) (ds : S1x128.Idx → Elt F .f32) (acc : S2x1024x1.Idx → Elt F .f32) : St F
  | .sk => sk | .q => q | .d => d | .ka => ka | .kb => kb | .dq => dq | .dkv => dkv | .ds => ds | .acc => acc

/-- What the program holds after the body, from the contents that the body left. -/
theorem point_end (c : Dev nD) (t : Fin cfg0.N) (R : sProp 𝕄) (σ : St F) (hB : Blocks m c t σ)
    (hσ : (p c).kv (t.val + 1) (σ .dkv) ∧ (p c).ac (t.val + 1) (σ .acc) ∧ (p c).dq t (σ .dq) ∧ (p c).ds t (σ .ds)) :
    iprop(held Unit (UR sig nD τ) ℕ c (bufs (mems t)) σ ∗ R ∗ (∃ r, prngReg c r))
    ⊢ iprop(Phi m p c (t.val + 1) ∗ R ∗ owns (c : Thread nD τ) (mems t .sk) fullShare (iblk m c 0 t)
      ∗ owns (c : Thread nD τ) (mems t .q) fullShare (iblk m c 1 t)
      ∗ owns (c : Thread nD τ) (mems t .d) fullShare (iblk m c 2 t)
      ∗ owns (c : Thread nD τ) (mems t .ka) fullShare (iblk m c 3 t)
      ∗ owns (c : Thread nD τ) (mems t .kb) fullShare (iblk m c 4 t)
      ∗ (∃ X, ⌜(p c).dq t X⌝ ∗ owns (c : Thread nD τ) (mems t .dq) fullShare X) ∗ (∃ X, ⌜(p c).kv (t.val + 1) X⌝ ∗ owns (c : Thread nD τ) (mems t .dkv) fullShare X)
      ∗ (∃ X, ⌜(p c).ds t X⌝ ∗ owns (c : Thread nD τ) (mems t .ds) fullShare X)) := by
  obtain ⟨h6, ha, h5, h7⟩ := hσ
  rw [held_eq, ← hB.sk, ← hB.q, ← hB.d, ← hB.ka, ← hB.kb]
  unfold Phi
  iintro ⟨⟨Hsk, Hq, Hd, Hka, Hkb, Hdq, Hdkv, Hds, Hacc⟩, HR, Hg⟩
  isplitl [Hacc Hg]
  · isplitr [Hg]
    · iexists _; isplitr; · ipureintro; exact ha
      iexact Hacc
    iexact Hg
  isplitl [HR]; · iexact HR
  isplitl [Hsk]; · iexact Hsk
  isplitl [Hq]; · iexact Hq
  isplitl [Hd]; · iexact Hd
  isplitl [Hka]; · iexact Hka
  isplitl [Hkb]; · iexact Hkb
  isplitl [Hdq]; · iexists _; isplitr; · ipureintro; exact h5
                   iexact Hdq
  isplitl [Hdkv]; · iexists _; isplitr; · ipureintro; exact h6
                    iexact Hdkv
  iexists _; isplitr; · ipureintro; exact h7
  iexact Hds

/-- The body changes none of the arguments' blocks. -/
theorem keeps (c : Dev nD) (t : Fin cfg0.N) (i : grid0.Coords) (σ : St F) (hB : Blocks m c t σ) : Blocks m c t (ends i (work i (reset i σ))) := by
  have h : ∀ b : B, (b = .sk ∨ b = .q ∨ b = .d ∨ b = .ka ∨ b = .kb) → ends i (work i (reset i σ)) b = σ b := by
    intro b hb
    have e1 : ends i (work i (reset i σ)) b = work i (reset i σ) b := by
      unfold ends; split
      · exact wr_ne _ (by rcases hb with rfl | rfl | rfl | rfl | rfl <;> decide) _ _
      · rfl
    have e2 : reset i σ b = σ b := by
      unfold reset; split
      · exact (wr_ne _ (by rcases hb with rfl | rfl | rfl | rfl | rfl <;> decide) _ _).trans
          (wr_ne _ (by rcases hb with rfl | rfl | rfl | rfl | rfl <;> decide) _ _)
      · rfl
    rw [e1]
    refine Eq.trans ?_ e2
    generalize reset i σ = σ
    rcases hb with rfl | rfl | rfl | rfl | rfl <;> rfl
  exact ⟨(h .sk (by decide)).trans hB.sk, (h .q (by decide)).trans hB.q, (h .d (by decide)).trans hB.d, (h .ka (by decide)).trans hB.ka, (h .kb (by decide)).trans hB.kb⟩

/-- At one grid point: from the blocks in place and what is known, the body ends with the blocks in place and what is then to be known. -/
theorem sound_body (c : Dev nD) (t : Fin cfg0.N) (R : sProp 𝕄) (dq0 : S128x1024.Idx → Elt F .bf16) (dkv0 : S8320x256.Idx → Elt F .f32) (ds0 : S1x128.Idx → Elt F .f32)
    (h6 : (p c).kv t.val dkv0) :
    iprop(Phi m p c t.val ∗ R ∗ owns (c : Thread nD τ) (mems t .sk) fullShare (iblk m c 0 t)
      ∗ owns (c : Thread nD τ) (mems t .q) fullShare (iblk m c 1 t)
      ∗ owns (c : Thread nD τ) (mems t .d) fullShare (iblk m c 2 t)
      ∗ owns (c : Thread nD τ) (mems t .ka) fullShare (iblk m c 3 t)
      ∗ owns (c : Thread nD τ) (mems t .kb) fullShare (iblk m c 4 t)
      ∗ owns (c : Thread nD τ) (mems t .dq) fullShare dq0 ∗ owns (c : Thread nD τ) (mems t .dkv) fullShare dkv0
      ∗ owns (c : Thread nD τ) (mems t .ds) fullShare ds0)
    ⊢ wp frame (wpE (defs₀ (F := F)) Variants.nat c none) Set.univ (bodyAt0 t) (fun _ =>
      iprop(Phi m p c (t.val + 1) ∗ R ∗ owns (c : Thread nD τ) (mems t .sk) fullShare (iblk m c 0 t)
      ∗ owns (c : Thread nD τ) (mems t .q) fullShare (iblk m c 1 t)
      ∗ owns (c : Thread nD τ) (mems t .d) fullShare (iblk m c 2 t)
      ∗ owns (c : Thread nD τ) (mems t .ka) fullShare (iblk m c 3 t)
      ∗ owns (c : Thread nD τ) (mems t .kb) fullShare (iblk m c 4 t)
      ∗ (∃ X, ⌜(p c).dq t X⌝ ∗ owns (c : Thread nD τ) (mems t .dq) fullShare X) ∗ (∃ X, ⌜(p c).kv (t.val + 1) X⌝ ∗ owns (c : Thread nD τ) (mems t .dkv) fullShare X)
      ∗ (∃ X, ⌜(p c).ds t X⌝ ∗ owns (c : Thread nD τ) (mems t .ds) fullShare X))) := by
  iintro ⟨HP, HR, Hsk, Hq, Hd, Hka, Hkb, Hdq, Hdkv, Hds⟩
  unfold Phi
  icases HP with ⟨⟨%y, %hy, Hacc⟩, Hg⟩
  have hB : Blocks m c t (state (iblk m c 0 t) (iblk m c 1 t) (iblk m c 2 t) (iblk m c 3 t) (iblk m c 4 t) dq0 dkv0 ds0 y) := ⟨rfl, rfl, rfl, rfl, rfl⟩
  have hd := body_does (defs₀ (F := F)) c (mems t) (whole t) Unit (UR sig nD τ) ℕ (grid0.coords t) none (state (iblk m c 0 t) (iblk m c 1 t) (iblk m c 2 t) (iblk m c 3 t) (iblk m c 4 t) dq0 dkv0 ds0 y)
  have hs := (p c).step t _ hB h6 hy
  have hk := keeps m c t (grid0.coords t) _ hB
  unfold Does Runs at hd
  iapply (wp_wand_r frame (wpE (defs₀ (F := F)) Variants.nat c none))
  isplitl [Hsk Hq Hd Hka Hkb Hdq Hdkv Hds Hacc]
  · iapply hd
    rw [held_eq]
    isplitl [Hsk]; · iexact Hsk
    isplitl [Hq]; · iexact Hq
    isplitl [Hd]; · iexact Hd
    isplitl [Hka]; · iexact Hka
    isplitl [Hkb]; · iexact Hkb
    isplitl [Hdq]; · iexact Hdq
    isplitl [Hdkv]; · iexact Hdkv
    isplitl [Hds]; · iexact Hds
    iexact Hacc
  iintro %_ ⟨%σ, %hσ, H⟩
  subst hσ
  iapply (point_end m p c t R _ hk hs)
  isplitl [H]; · iexact H
  isplitl [HR]; · iexact HR
  iexact Hg

/-- What the body of every grid point is obliged to do. -/
theorem body_obligation (c : Dev nD) : (rdat m p c).BodyObligation (defs₀ (F := F)) Variants.nat () Set.univ := by
  intro t Y hY
  have e0 := found0 m p c t _ (hY 0)
  have e1 := found1 m p c t _ (hY 1)
  have e2 := found2 m p c t _ (hY 2)
  have e3 := found3 m p c t _ (hY 3)
  have e4 := found4 m p c t _ (hY 4)
  have e6 := found6 m p c t _ (hY 6)
  rw [bigSep_W0, bigSep_W0, defs₀_row, e0, e1, e2, e3, e4]
  refine triple_restated (sound_body m p c t ((rdat m p c).owesAt () t.castSucc) (Y 5) (Y 6) (Y 7) e6) rfl .rfl fun _ => ?_
  rw [show (rdat m p c).Φ t.succ = Phi m p c (t.val + 1) from rfl]
  iintro ⟨HP, HR, Hsk, Hq, Hd, Hka, Hkb, Hdq, Hdkv, Hds⟩
  isplitl [HP]; · iexact HP
  isplitl [HR]; · iexact HR
  isplitl [Hsk]
  · iexists _; isplitr
    swap; · iexact Hsk
    ipureintro; rfl
  isplitl [Hq]
  · iexists _; isplitr
    swap; · iexact Hq
    ipureintro; rfl
  isplitl [Hd]
  · iexists _; isplitr
    swap; · iexact Hd
    ipureintro; rfl
  isplitl [Hka]
  · iexists _; isplitr
    swap; · iexact Hka
    ipureintro; rfl
  isplitl [Hkb]
  · iexists _; isplitr
    swap; · iexact Hkb
    ipureintro; rfl
  isplitl [Hdq]; · iexact Hdq
  isplitl [Hdkv]; · iexact Hdkv
  iexact Hds

theorem hin (c : Dev nD) : Pipeline.ΦA spec0 c ⊢ (rdat m p c).Φ 0 := by
  rw [show (rdat m p c).Φ 0 = Phi m p c 0 from rfl, PhiA_eq]
  unfold Phi
  iintro ⟨⟨%y, H0⟩, Hg⟩
  isplitr [Hg]
  · iexists y
    isplitr; · ipureintro; exact (p c).ac_init y
    iexact H0
  iexact Hg

theorem hout (c : Dev nD) : (rdat m p c).Φ (Fin.last cfg0.N) ⊢ Pipeline.ΦA spec0 c := by
  rw [show (rdat m p c).Φ (Fin.last cfg0.N) = Phi m p c cfg0.N from rfl, PhiA_eq]
  unfold Phi
  iintro ⟨⟨%y, %_, H0⟩, Hg⟩
  isplitr [Hg]
  · iexists y; iexact H0
  iexact Hg

set_option backward.isDefEq.respectTransparency.types false in
/-- A run of the whole program: it ends, the arrays hold what the windows' data allow, and every counter is zero. -/
theorem run_main : θ_run defs (onTc (τ := τ) (main (F := F))) (s₀ m ρ)
    (fun r => RDat.FramePost (cfgs 0) (rdat m p) (V m) r ∧ r.2.sem = fun _ => 0) :=
  RDat.θ_run_frame_track_shared cfgs (0 : Fin 1) launch₀0 defs₀ Variants.nat (rdat m p) m ρ main
    (hbody := body_obligation m p) (hq := fun _ _ _ => rfl)
    (howed := fun _ _ => rfl) (V := V m) (hmain := hmain m Variants.nat) (hA := A_eq m p) (hin := hin m p) (hout := hout m p) (Q' := _)

theorem mem_arg (b : Ref sig .tc) (hb : b ∈ [main_arg0, main_arg1, main_arg2, main_arg3]) : b ∈ Pipeline.restRefs sig spec0 := by
  fin_cases hb <;> exact Pipeline.mem_restRefs_of _ (by decide) (by decide)

include p in
/-- The frame: the arguments end unchanged and every counter is zero. -/
theorem frame_main : θ_run defs (onTc (τ := τ) (main (F := F))) ⟨m, fun _ => 0, ρ⟩ (fun r => (∀ c : Dev nD, ∀ b ∈ [main_arg0, main_arg1, main_arg2, main_arg3],
      r.2.mem ((c.tc : Thread nD τ).loc b) = m ((c.tc : Thread nD τ).loc b))
      ∧ r.2.sem = fun _ => 0) :=
  (θ_run defs _ _).mono (fun _ h => ⟨fun c b hb => ((h.1 c).2 b (mem_arg b hb)).trans (V_arg m c b hb), h.2⟩) (run_main m ρ p)

end Cert.SwaRun
-- ==== Proof.SwaValue.lean ====
/-
  The windowed attention's backward pass over the reals: from real arguments, what the three results hold at the end.
-/
module

public import Idealize.ShloMosaic.Lib.Pipeline.ArrRel
public import proofs.«01_k».proof.Proof.SwaStep
public import proofs.«01_k».proof.Proof.SwaLaunch

@[expose] public section

set_option maxRecDepth 16384

noncomputable section

namespace Cert.SwaRun

open Idealize.ShloMosaic Idealize.ShloMosaic.TcCoe Idealize.ShloMosaic.Tactic Idealize.ShloMosaic.Pipeline
open Cert.Reals Cert.SwaKernelIdeal Cert.SwaKernelIdeal.Gen Cert.Owned Cert.SwaBody Cert.Swa Idealize.SL Idealize.SL.RA Idealize.SL.Sem

theorem idx (t : Fin grid0.N) : win0_0.index t = ![0] ∧ win0_1.index t = ![t.val, 0] ∧ win0_2.index t = ![t.val, 0] ∧ win0_3.index t = ![t.val, 0]
    ∧ win0_4.index t = ![t.val + 1, 0] ∧ win0_5.index t = ![t.val, 0] ∧ win0_6.index t = ![0, 0] ∧ win0_7.index t = ![0, 0] := by
  revert t; decide +kernel

theorem coords_val (t : Fin grid0.N) : (grid0.coords t 0).val = t.val := by
  revert t; decide +kernel

theorem lt64 (t : Fin grid0.N) : t.val < 64 := t.isLt

variable (m : (ℓ : Loc nD τ sig) → Buf (Elt Ideal) ℓ) (c : Dev nD) (Q D K : ℕ → ℕ → ℝ) (s : ℕ → ℝ)

/-- The arguments are real arrays. -/
structure Args : Prop where
  q : m ((c : Thread nD τ).loc main_arg0) = V2 8192 1024 (φ := .f32) Q
  k : m ((c : Thread nD τ).loc main_arg1) = V2 8192 256 (φ := .f32) K
  s : m ((c : Thread nD τ).loc main_arg2) = V2 1 16 (φ := .f32) fun _ => s
  d : m ((c : Thread nD τ).loc main_arg3) = V2 8192 1024 (φ := .f32) D

variable (h : Args m c Q D K s)
include h

theorem V_v3 : V m c main_v3 = V2 8192 1024 (φ := .bf16) Q := by
  have : V m c main_v3 = truncf (F := Ideal) .bf16 (m ((c : Thread nD τ).loc main_arg0)) bitsLt_bf16_f32 := by
    unfold_abbrev_sides
    after_results
  rw [this, h.q]
  rfl
theorem V_v4 : V m c main_v4 = V2 8192 1024 (φ := .bf16) D := by
  have : V m c main_v4 = truncf (F := Ideal) .bf16 (m ((c : Thread nD τ).loc main_arg3)) bitsLt_bf16_f32 := by
    unfold_abbrev_sides
    after_results
  rw [this, h.d]
  rfl
theorem V_v5 : V m c main_v5 = V1 16 (φ := .f32) s := by
  have : V m c main_v5 = shapeCast S16 (m ((c : Thread nD τ).loc main_arg2)) shapeCasts_S1x16_S16 := by
    unfold_abbrev_sides
    after_results
    rfl
  rw [this, h.s]
  funext x
  pointwise
  rfl
theorem V_v2 : V m c main_v2 = V2 8320 256 (φ := .bf16) (kp K) := by
  have : V m c main_v2 = concatenate S8320x256 0 [⟨S128x256, broadcastInDim S128x256 ![] bcast_S_S128x256 (constant (F := Ideal) S_ .bf16 0x0000#16)⟩,
      ⟨S8192x256, truncf (F := Ideal) .bf16 (m ((c : Thread nD τ).loc main_arg1)) bitsLt_bf16_f32⟩] concatenates_S128x256_S8192x256_S8320x256_d0 := by
    unfold_abbrev_sides
    after_results
  rw [this, h.k]
  funext x
  pointwise
  simp only [V2, kp]
  split
  · rfl
  · rfl

theorem iblk0 (t : Fin cfg0.N) : iblk m c 0 t = V1 16 (φ := .f32) s := by
  funext y
  refine (congrFun (V_v5 m c Q D K s h) ((win0_0.blk t).view.emb y)).trans ?_
  have e0 := Window.rect_emb_val win0_0 t y 0
  rw [(idx t).1] at e0
  refine congrArg (fun r : ℝ => (r : EReal)) (congrArg s (e0.trans ?_))
  show 0 * 16 + (y 0).val = (y 0).val; omega
theorem iblk1 (t : Fin cfg0.N) : iblk m c 1 t = qB Q t.val := by
  funext y
  refine (congrFun (V_v3 m c Q D K s h) ((win0_1.blk t).view.emb y)).trans ?_
  have e0 := Window.rect_emb_val win0_1 t y 0
  have e1 := Window.rect_emb_val win0_1 t y 1
  rw [(idx t).2.1] at e0 e1
  refine congrArg (fun r : ℝ => (r : EReal)) (congrArg₂ Q (e0.trans ?_) (e1.trans ?_))
  · show t.val * 128 + (y 0).val = 128 * t.val + (y 0).val; omega
  · show 0 * 1024 + (y 1).val = (y 1).val; omega
theorem iblk2 (t : Fin cfg0.N) : iblk m c 2 t = qB D t.val := by
  funext y
  refine (congrFun (V_v4 m c Q D K s h) ((win0_2.blk t).view.emb y)).trans ?_
  have e0 := Window.rect_emb_val win0_2 t y 0
  have e1 := Window.rect_emb_val win0_2 t y 1
  rw [(idx t).2.2.1] at e0 e1
  refine congrArg (fun r : ℝ => (r : EReal)) (congrArg₂ D (e0.trans ?_) (e1.trans ?_))
  · show t.val * 128 + (y 0).val = 128 * t.val + (y 0).val; omega
  · show 0 * 1024 + (y 1).val = (y 1).val; omega
theorem iblk3 (t : Fin cfg0.N) : iblk m c 3 t = V2 128 256 (φ := .bf16) fun j y => kp K (128 * t.val + j) y := by
  funext y
  refine (congrFun (V_v2 m c Q D K s h) ((win0_3.blk t).view.emb y)).trans ?_
  have e0 := Window.rect_emb_val win0_3 t y 0
  have e1 := Window.rect_emb_val win0_3 t y 1
  rw [(idx t).2.2.2.1] at e0 e1
  refine congrArg (fun r : ℝ => (r : EReal)) (congrArg₂ (kp K) (e0.trans ?_) (e1.trans ?_))
  · show t.val * 128 + (y 0).val = 128 * t.val + (y 0).val; omega
  · show 0 * 256 + (y 1).val = (y 1).val; omega
theorem iblk4 (t : Fin cfg0.N) : iblk m c 4 t = V2 128 256 (φ := .bf16) fun j y => kp K (128 * (t.val + 1) + j) y := by
  funext y
  refine (congrFun (V_v2 m c Q D K s h) ((win0_4.blk t).view.emb y)).trans ?_
  have e0 := Window.rect_emb_val win0_4 t y 0
  have e1 := Window.rect_emb_val win0_4 t y 1
  rw [(idx t).2.2.2.2.1] at e0 e1
  refine congrArg (fun r : ℝ => (r : EReal)) (congrArg₂ (kp K) (e0.trans ?_) (e1.trans ?_))
  · show (t.val + 1) * 128 + (y 0).val = 128 * (t.val + 1) + (y 0).val; omega
  · show 0 * 256 + (y 1).val = (y 1).val; omega

omit h
/-- The keys' and values' gradient from the blocks before `n`. -/
def kvSum (n R y : ℕ) : ℝ := ∑ n' ∈ Finset.range n, if 128 * n' ≤ R ∧ R < 128 * n' + 256 then kvShare Q D K s n' (R - 128 * n') y else 0
/-- The sinks' shares, summed over the blocks before `n`. -/
def acSum (n g ρ : ℕ) : ℝ := ∑ n' ∈ Finset.range n, WS Q K s n' g ρ * dd Q D K s n' g ρ
/-- The sinks' gradient, with lanes that hold nothing. -/
def dsRow (y : ℕ) : ℝ := if y < 16 then - ∑ r : Fin 128, acSum Q D K s 64 (y / 8) (128 * (y % 8) + r) else 0

/-- What is known between the grid points. -/
def realPlan : Plan m c where
  kv n X := n = 0 ∨ X = V2 8320 256 (φ := .f32) (kvSum Q D K s n)
  ac n X := n = 0 ∨ X = V3 2 1024 1 (φ := .f32) fun g ρ _ => acSum Q D K s n g ρ
  dq t X := X = V2 128 1024 (φ := .bf16) (dqRow Q D K s t.val)
  ds t X := t.val = 63 → X = V2 1 128 (φ := .f32) fun _ => dsRow Q D K s
  kv_init _ := Or.inl rfl
  ac_init _ := Or.inl rfl
  step t σ hB hkv hac := by
    have hc := coords_val t
    have ht := lt64 t
    have rq : reset (grid0.coords t) σ .q = qB Q t.val := (reset_ne _ _ _ (by decide) (by decide)).trans (hB.q.trans (iblk1 m c Q D K s h t))
    have rd : reset (grid0.coords t) σ .d = qB D t.val := (reset_ne _ _ _ (by decide) (by decide)).trans (hB.d.trans (iblk2 m c Q D K s h t))
    have ra := (reset_ne (grid0.coords t) σ .ka (by decide) (by decide)).trans (hB.ka.trans (iblk3 m c Q D K s h t))
    have rb := (reset_ne (grid0.coords t) σ .kb (by decide) (by decide)).trans (hB.kb.trans (iblk4 m c Q D K s h t))
    have rs := (reset_ne (grid0.coords t) σ .sk (by decide) (by decide)).trans (hB.sk.trans (iblk0 m c Q D K s h t))
    have eq := queries_eq Q t.val _ rq
    have ed := cots_eq D t.val _ rd
    have ek := keys_eq K t.val _ ra rb
    have es := fun k hk b => sink_eq s _ rs k hk b
    have fkv := reset_dkv (grid0.coords t) σ (kvSum Q D K s t.val) (fun e => by rw [← hc, e]; rfl) (by rw [hc]; exact hkv)
    have fac := reset_acc (grid0.coords t) σ (acSum Q D K s t.val) (fun e => by rw [← hc, e]; rfl) (by rw [hc]; exact hac)
    have wkv := work_dkv Q D K s t.val _ (grid0.coords t) hc ht eq ed ek es _ fkv
    have wac := work_acc Q D K s t.val _ (grid0.coords t) hc ht eq ed ek es _ fac
    have nac : ∀ g ρ, acSum Q D K s t.val g ρ + WS Q K s t.val g ρ * dd Q D K s t.val g ρ = acSum Q D K s (t.val + 1) g ρ := fun g ρ =>
      (Finset.sum_range_succ _ _).symm
    have nkv : ∀ R y, (kvSum Q D K s t.val R y + if 128 * t.val ≤ R ∧ R < 128 * t.val + 256 then kvShare Q D K s t.val (R - 128 * t.val) y else 0) = kvSum Q D K s (t.val + 1) R y :=
      fun R y => (Finset.sum_range_succ _ _).symm
    simp only [nac] at wac
    simp only [nkv] at wkv
    refine ⟨Or.inr ((ends_ne _ _ _ (by decide)).trans wkv), Or.inr ((ends_ne _ _ _ (by decide)).trans wac),
      (ends_ne _ _ _ (by decide)).trans (work_dq Q D K s t.val _ (grid0.coords t) hc ht eq ed ek es), fun e => ?_⟩
    rw [e] at wac
    exact ends_ds (grid0.coords t) (hc.trans e) _ _ wac

/-! ## The results at the end -/

theorem last_of_flush6 (t : Fin cfg0.N) : win0_6.flush t = true → t.val = 63 := by
  revert t; decide +kernel
theorem last_of_flush7 (t : Fin cfg0.N) : win0_7.flush t = true → t.val = 63 := by
  revert t; decide +kernel

theorem array5 (dat : Dat τ (Elt Ideal) Unit ℕ (UR sig nD τ) ℕ cfg0 c)
    (h5 : ∀ t, win0_5.flush t = true → dat.after 5 t = V2 128 1024 (φ := .bf16) (dqRow Q D K s t.val)) :
    dat.arrAt 5 (cfg0).N = V2 8192 1024 (φ := .bf16) fun i y => dqRow Q D K s (i / 128) (i % 128) y := by
  refine dat.arrAt_eq_of_covers 5 _ (by decide +kernel) fun t hf y => ?_
  have e0 := Window.rect_emb_val win0_5 t y 0
  have e1 := Window.rect_emb_val win0_5 t y 1
  rw [(idx t).2.2.2.2.2.1] at e0 e1
  rw [h5 t hf]
  have b0 : (y 0).val < 128 := (y 0).isLt
  have e0' : (((win0_5.blk t).view.emb y) 0).val = 128 * t.val + (y 0).val := e0.trans (by show t.val * 128 + (y 0).val = _; omega)
  have e1' : (((win0_5.blk t).view.emb y) 1).val = (y 1).val := e1.trans (by show 0 * 1024 + (y 1).val = _; omega)
  show ((dqRow Q D K s t.val (y 0).val (y 1).val : ℝ) : EReal)
    = ((dqRow Q D K s ((((win0_5.blk t).view.emb y) 0).val / 128) ((((win0_5.blk t).view.emb y) 0).val % 128) (((win0_5.blk t).view.emb y) 1).val : ℝ) : EReal)
  rw [e0', e1', show (128 * t.val + (y 0).val) / 128 = t.val by omega, show (128 * t.val + (y 0).val) % 128 = (y 0).val by omega]
theorem array6 (dat : Dat τ (Elt Ideal) Unit ℕ (UR sig nD τ) ℕ cfg0 c)
    (h6 : ∀ t, win0_6.flush t = true → dat.after 6 t = V2 8320 256 (φ := .f32) (kvSum Q D K s 64)) :
    dat.arrAt 6 (cfg0).N = V2 8320 256 (φ := .f32) (kvSum Q D K s 64) := by
  refine dat.arrAt_eq_of_covers 6 _ (by decide +kernel) fun t hf y => ?_
  have e0 := Window.rect_emb_val win0_6 t y 0
  have e1 := Window.rect_emb_val win0_6 t y 1
  rw [(idx t).2.2.2.2.2.2.1] at e0 e1
  rw [h6 t hf]
  refine congrArg (fun r : ℝ => (r : EReal)) (congrArg₂ (kvSum Q D K s 64) (e0.trans ?_).symm (e1.trans ?_).symm)
  · show 0 * 8320 + (y 0).val = (y 0).val; omega
  · show 0 * 256 + (y 1).val = (y 1).val; omega
theorem array7 (dat : Dat τ (Elt Ideal) Unit ℕ (UR sig nD τ) ℕ cfg0 c)
    (h7 : ∀ t, win0_7.flush t = true → dat.after 7 t = V2 1 128 (φ := .f32) fun _ => dsRow Q D K s) :
    dat.arrAt 7 (cfg0).N = V2 1 128 (φ := .f32) fun _ => dsRow Q D K s := by
  refine dat.arrAt_eq_of_covers 7 _ (by decide +kernel) fun t hf y => ?_
  have e1 := Window.rect_emb_val win0_7 t y 1
  rw [(idx t).2.2.2.2.2.2.2] at e1
  rw [h7 t hf]
  refine congrArg (fun r : ℝ => (r : EReal)) (congrArg (dsRow Q D K s) (e1.trans ?_).symm)
  show 0 * 128 + (y 1).val = (y 1).val; omega

omit m c Q D K s in
/-- From real arguments the kernel's run ends with the three gradients, and leaves its arguments as they were. -/
theorem run_value (m : (ℓ : Loc nD τ sig) → Buf (Elt Ideal) ℓ) (ρ : Dev nD → PrngReg) (Q D K : Dev nD → ℕ → ℕ → ℝ) (s : Dev nD → ℕ → ℝ)
    (h : ∀ c : Dev nD, Args m c (Q c) (D c) (K c) (s c)) :
    θ_run defs (onTc (τ := τ) (main (F := Ideal))) ⟨m, fun _ => 0, ρ⟩ (fun r => ∀ c : Dev nD,
      r.2.mem ((c : Thread nD τ).loc main_v6_0) = V2 8192 1024 (φ := .bf16) (fun i y => dqRow (Q c) (D c) (K c) (s c) (i / 128) (i % 128) y)
      ∧ r.2.mem ((c : Thread nD τ).loc main_v6_1) = V2 8320 256 (φ := .f32) (kvSum (Q c) (D c) (K c) (s c) 64)
      ∧ r.2.mem ((c : Thread nD τ).loc main_v6_2) = V2 1 128 (φ := .f32) (fun _ => dsRow (Q c) (D c) (K c) (s c))
      ∧ ∀ b ∈ [main_arg0, main_arg1, main_arg2, main_arg3], r.2.mem ((c : Thread nD τ).loc b) = m ((c : Thread nD τ).loc b)) := by
  refine (θ_run defs _ _).mono (fun r hr c => ?_) (run_main m ρ fun c => realPlan m c (Q c) (D c) (K c) (s c) (h c))
  obtain ⟨after, hl, hA⟩ := RDat.ArrAt.exists_exact_all (hr.1 c).1
  refine ⟨(hA 5).trans (array5 c (Q c) (D c) (K c) (s c) _ fun t hf => ?_), (hA 6).trans (array6 c (Q c) (D c) (K c) (s c) _ fun t hf => ?_),
    (hA 7).trans (array7 c (Q c) (D c) (K c) (s c) _ fun t hf => ?_), fun b hb => ((hr.1 c).2 b (mem_arg b hb)).trans (V_arg m c b hb)⟩
  · obtain ⟨_, _, hk⟩ := hl 5 t t.isLt hf
    exact hk
  · obtain ⟨_, _, hk⟩ := hl 6 t t.isLt hf
    exact (hk.resolve_left (Nat.succ_ne_zero _)).trans (by rw [last_of_flush6 t hf])
  · obtain ⟨_, _, hk⟩ := hl 7 t t.isLt hf
    exact hk (last_of_flush7 t hf)

end Cert.SwaRun
-- ==== Proof.SwaRefScores.lean ====
/-
  The reference's scores, weights and cotangent products as arrays over the real numbers.
-/
module

public import Idealize.ShloMosaic.Lib.Pointwise
public import proofs.«01_k».proof.Proof.SwaBlocks
public import proofs.«01_k».proof.Proof.Gen.SwaReferenceIdeal.Read

@[expose] public section

set_option maxRecDepth 16384

noncomputable section

namespace Cert.SwaRef

open Idealize.ShloMosaic Idealize.ShloMosaic.TcCoe Idealize.ShloMosaic.Tactic
open Cert.Reals Cert.Swa Cert.SwaReferenceIdeal Cert.SwaReferenceIdeal.Read

/-- Real arrays of four and five axes. -/
def V4 (a b c d : ℕ) {φ : FTy} (f : ℕ → ℕ → ℕ → ℕ → ℝ) : FVec Ideal ⟨4, ![a, b, c, d]⟩ φ :=
  fun x => ((f (x 0).val (x 1).val (x 2).val (x 3).val : ℝ) : EReal)
def V5 (a b c d e : ℕ) {φ : FTy} (f : ℕ → ℕ → ℕ → ℕ → ℕ → ℝ) : FVec Ideal ⟨5, ![a, b, c, d, e]⟩ φ :=
  fun x => ((f (x 0).val (x 1).val (x 2).val (x 3).val (x 4).val : ℝ) : EReal)

theorem ofReal {r r' : ℝ} (h : r = r') : (r : EReal) = (r' : EReal) := congrArg _ h

theorem V2_ix {a b : ℕ} {φ : FTy} (f : ℕ → ℕ → ℝ) (i : Fin a) (j : Fin b) : V2 a b (φ := φ) f (ix2 i j) = ((f i.val j.val : ℝ) : EReal) := rfl
theorem V4_ix {a b c d : ℕ} {φ : FTy} (f : ℕ → ℕ → ℕ → ℕ → ℝ) (i : Fin a) (j : Fin b) (k : Fin c) (l : Fin d) :
    V4 a b c d (φ := φ) f (ix4 i j k l) = ((f i.val j.val k.val l.val : ℝ) : EReal) := rfl
theorem V5_ix {a b c d e : ℕ} {φ : FTy} (f : ℕ → ℕ → ℕ → ℕ → ℕ → ℝ) (i : Fin a) (j : Fin b) (k : Fin c) (l : Fin d) (m : Fin e) :
    V5 a b c d e (φ := φ) f (ix5 i j k l m) = ((f i.val j.val k.val l.val m.val : ℝ) : EReal) := rfl

/-- Arrays that agree at every index are equal. -/
theorem ext2 {α : Type} {a b : ℕ} {f g : (⟨2, ![a, b]⟩ : Shape).Idx → α} (h : ∀ (i : Fin a) (j : Fin b), f (ix2 i j) = g (ix2 i j)) : f = g := by
  funext x
  have e : x = ix2 (x 0) (x 1) := by funext i; match i with | 0 => rfl | 1 => rfl
  rw [e]; exact h _ _
theorem ext3 {α : Type} {a b c : ℕ} {f g : (⟨3, ![a, b, c]⟩ : Shape).Idx → α} (h : ∀ (i : Fin a) (j : Fin b) (k : Fin c), f (ix3 i j k) = g (ix3 i j k)) : f = g := by
  funext x
  have e : x = ix3 (x 0) (x 1) (x 2) := by funext i; match i with | 0 => rfl | 1 => rfl | 2 => rfl
  rw [e]; exact h _ _ _
theorem ext4 {α : Type} {a b c d : ℕ} {f g : (⟨4, ![a, b, c, d]⟩ : Shape).Idx → α}
    (h : ∀ (i : Fin a) (j : Fin b) (k : Fin c) (l : Fin d), f (ix4 i j k l) = g (ix4 i j k l)) : f = g := by
  funext x
  have e : x = ix4 (x 0) (x 1) (x 2) (x 3) := by funext i; match i with | 0 => rfl | 1 => rfl | 2 => rfl | 3 => rfl
  rw [e]; exact h _ _ _ _
theorem ext5 {α : Type} {a b c d e : ℕ} {f g : (⟨5, ![a, b, c, d, e]⟩ : Shape).Idx → α}
    (h : ∀ (i : Fin a) (j : Fin b) (k : Fin c) (l : Fin d) (m : Fin e), f (ix5 i j k l m) = g (ix5 i j k l m)) : f = g := by
  funext x
  have e : x = ix5 (x 0) (x 1) (x 2) (x 3) (x 4) := by funext i; match i with | 0 => rfl | 1 => rfl | 2 => rfl | 3 => rfl | 4 => rfl
  rw [e]; exact h _ _ _ _ _

variable (Q D K : ℕ → ℕ → ℝ) (s : ℕ → ℝ)

/-- The reference's arguments. -/
abbrev aq : (⟨S8192x1024, .f32⟩ : BufTy).Contents (Elt Ideal) := V2 8192 1024 (φ := .f32) Q
abbrev ak : (⟨S8192x256, .f32⟩ : BufTy).Contents (Elt Ideal) := V2 8192 256 (φ := .f32) K
abbrev ar : (⟨S1x16, .f32⟩ : BufTy).Contents (Elt Ideal) := V2 1 16 (φ := .f32) fun _ => s

/-! ### The arguments in blocks -/

theorem r6 : val_main_v6 (F := Ideal) (aq Q) = V5 64 128 2 8 64 (φ := .f32) fun n q c g d => Q (128 * n + q) (64 * (8 * c + g) + d) := by
  refine ext5 fun n q c g d => ?_
  pointwise [val_main_v6, val_main_v4]
  simp only [V2_ix, V4_ix, V5_ix]
  exact ofReal (congrArg₂ Q (by omega) (by omega))
theorem r9 : val_main_v9 (F := Ideal) (ak K) = V4 65 128 2 64 (φ := .f32) fun n j c d => kp K (128 * n + j) (64 * c + d) := by
  refine ext4 fun n j c d => ?_
  pointwise [val_main_v9, val_main_v8, val_main_v2, val_main_v0, val_main_v7, val_main_cst]
  simp only [V4_ix, kp]
  split
  · next h => exact ofReal (if_pos (by omega)).symm
  · next h => exact (V2_ix K _ _).trans <| (ofReal (congrArg₂ K (by dsimp only; omega) (by dsimp only; omega))).trans (ofReal (if_neg (by omega)).symm)
theorem r12 : val_main_v12 (F := Ideal) (ak K) = V4 65 128 2 64 (φ := .f32) fun n j c d => kp K (128 * n + j) (128 + 64 * c + d) := by
  refine ext4 fun n j c d => ?_
  pointwise [val_main_v12, val_main_v11, val_main_v3, val_main_v1, val_main_v7, val_main_cst]
  simp only [V4_ix, kp]
  split
  · next h => exact ofReal (if_pos (by omega)).symm
  · next h => exact (V2_ix K _ _).trans <| (ofReal (congrArg₂ K (by dsimp only; omega) (by dsimp only; omega))).trans (ofReal (if_neg (by omega)).symm)
theorem r16 : val_main_v16 (F := Ideal) (ak K) = V4 64 256 2 64 (φ := .f32) fun n j c d => kp K (128 * n + j) (64 * c + d) := by
  refine ext4 fun n j c d => ?_
  pointwise [val_main_v16, val_main_v14, val_main_v15]
  simp only [r9, V4_ix]
  split
  · rfl
  · exact ofReal (congrArg₂ (kp K) (by omega) rfl)
theorem r19 : val_main_v19 (F := Ideal) (ak K) = V4 64 256 2 64 (φ := .f32) fun n j c d => kp K (128 * n + j) (128 + 64 * c + d) := by
  refine ext4 fun n j c d => ?_
  pointwise [val_main_v19, val_main_v17, val_main_v18]
  simp only [r12, V4_ix]
  split
  · rfl
  · exact ofReal (congrArg₂ (kp K) (by omega) rfl)
theorem r134 : val_main_v134 (F := Ideal) (aq D) = V5 64 2 64 8 128 (φ := .f32) fun n c d g q => D (128 * n + q) (64 * (8 * c + g) + d) := by
  refine ext5 fun n c d g q => ?_
  pointwise [val_main_v134, val_main_v133, val_main_v132]
  simp only [V2_ix, V4_ix, V5_ix]
  exact ofReal (congrArg₂ D (by omega) (by omega))
theorem r85 : val_main_v85 (F := Ideal) (ar s) = V4 2 8 1 1 (φ := .f32) fun c g _ _ => s (8 * c + g) := by
  refine ext4 fun c g u2 u3 => ?_
  pointwise [val_main_v84, val_main_v85, val_main_v5]
  simp only [V2_ix, V4_ix, V5_ix]
  exact ofReal (congrArg s (by omega))

/-! ### The products -/

theorem dot_at (n c g q j : ℕ) (hq : q < 128) :
    dot Q K n c (128 * g + q) j = ∑ d : Fin 64, Q (128 * n + q) (64 * (8 * c + g) + d) * kp K (128 * n + j) (64 * c + d) := by
  rw [dot, show (128 * g + q) % 128 = q by omega, show (128 * g + q) / 128 = g by omega]
theorem dp_at (n c g q j : ℕ) (hq : q < 128) :
    dp D K n c (128 * g + q) j = ∑ d : Fin 64, D (128 * n + q) (64 * (8 * c + g) + d) * kp K (128 * n + j) (128 + 64 * c + d) := by
  rw [dp, show (128 * g + q) % 128 = q by omega, show (128 * g + q) / 128 = g by omega]

theorem eighth : Ideal.ofBits .f32 0x3E000000#32 = ((1 / 8 : ℝ) : EReal) := by
  simp [Ideal.ofBits, Ideal.ieee]; norm_num [← EReal.coe_mul]

theorem r23 : val_main_v23 (F := Ideal) (aq Q) (ak K) = V5 64 2 8 128 256 (φ := .f32) fun n c g q j => dot Q K n c (128 * g + q) j * (1 / 8) := by
  refine ext5 fun n c g q j => ?_
  pointwise [val_main_v23, val_main_v22, val_main_cst_2, val_main_v21, val_main_v20]
  simp only [r16, r6, eighth, V4_ix, V5_ix, ← EReal.coe_mul, sum_coe]
  rw [dot_at _ _ _ _ _ _ _ q.isLt]
  exact ofReal (congrArg (· * (1 / 8 : ℝ)) (Finset.sum_congr rfl fun d _ => mul_comm _ _))
theorem r135 : val_main_v135 (F := Ideal) (ak K) (aq D) = V5 64 2 8 128 256 (φ := .f32) fun n c g q j => dp D K n c (128 * g + q) j := by
  refine ext5 fun n c g q j => ?_
  pointwise [val_main_v135]
  simp only [r134, r19, V4_ix, V5_ix, ← EReal.coe_mul, sum_coe]
  rw [dp_at _ _ _ _ _ _ _ q.isLt]

/-! ### The scores -/

theorem r33 : val_main_v33 (F := Ideal) = V2 128 256 (φ := .f32) fun q j => (q : ℝ) - j + 128 := by
  refine ext2 fun q j => ?_
  pointwise [val_main_v33, val_main_v32, val_main_v31, val_main_c, val_main_v30, val_main_v29, val_main_v28, val_main_v27, val_main_v26, val_main_v25, val_main_v24]
  refine (Idealize.ShloMosaic.Ideal.scalar_sitofp_def (φ := .f32) _).trans ?_
  rw [dist_word _ _ q.isLt j.isLt]
  push_cast; rfl
end Cert.SwaRef
-- ==== Proof.SwaRefSlopes.lean ====
/-
  The reference's slopes.
-/
module

public import Idealize.ShloMosaic.Lib.Pointwise
public import proofs.«01_k».proof.Proof.SwaRefScores

@[expose] public section

set_option maxRecDepth 16384

noncomputable section

namespace Cert.SwaRef

open Idealize.ShloMosaic Idealize.ShloMosaic.TcCoe Idealize.ShloMosaic.Tactic
open Cert.Reals Cert.Swa Cert.SwaReferenceIdeal Cert.SwaReferenceIdeal.Read

/-- Sixteen single numbers side by side. -/
theorem row16 {α : Type} (L : List ((s : Shape) × (s.Idx → α))) (f : Fin 16 → (⟨1, ![1]⟩ : Shape).Idx → α)
    (hL : L = List.ofFn fun k => (⟨⟨1, ![1]⟩, f k⟩ : (s : Shape) × (s.Idx → α))) (h) (x : (⟨1, ![16]⟩ : Shape).Idx) :
    concatenate ⟨1, ![16]⟩ 0 L h x = f (x 0) (ix1 0) := by
  subst hL
  exact concatenate_ofFn_apply (t := ⟨1, ![16]⟩) (s₁ := ⟨1, ![1]⟩) (0 : Fin 1) f h rfl 1 rfl x (x 0) (Nat.div_one _) _ (Nat.mod_one _).symm
    (fun b hb => absurd (Subsingleton.elim _ _) hb)

/-- One head's slope. -/
theorem piece (w : BitVec 32) (k : ℕ) (hk : k < 16) (h : slopeWord k = w) :
    broadcastInDim S1 ![] Gen.bcast_S_S1 (constant (F := Ideal) S_ .f32 w) = fun _ => ((Swa.slope k : ℝ) : EReal) := by
  subst h
  exact funext fun _ => slope_word k hk

theorem r71 : val_main_v71 (F := Ideal) = V1 16 (φ := .f32) Swa.slope := by
  funext x
  unfold val_main_v71 val_main_v55 val_main_cst_8 val_main_v56 val_main_cst_9 val_main_v57 val_main_cst_10 val_main_v58 val_main_cst_11 val_main_v59 val_main_cst_12 val_main_v60 val_main_cst_13 val_main_v61 val_main_cst_14 val_main_v62 val_main_cst_15 val_main_v63 val_main_cst_16 val_main_v64 val_main_cst_17 val_main_v65 val_main_cst_18 val_main_v66 val_main_cst_19 val_main_v67 val_main_cst_20 val_main_v68 val_main_cst_21 val_main_v69 val_main_cst_22 val_main_v70 val_main_cst_23
  refine row16 _ (fun k _ => ((Swa.slope k.val : ℝ) : EReal)) ?_ _ x
  simp only [List.ofFn_succ, List.ofFn_zero]
  rw [piece 0x3F3504F3#32 0 (by decide) rfl, piece 0x3F000000#32 1 (by decide) rfl, piece 0x3EB504F3#32 2 (by decide) rfl, piece 0x3E800000#32 3 (by decide) rfl,
    piece 0x3E3504F3#32 4 (by decide) rfl, piece 0x3E000000#32 5 (by decide) rfl, piece 0x3DB504F3#32 6 (by decide) rfl, piece 0x3D800000#32 7 (by decide) rfl,
    piece 0x3D3504F3#32 8 (by decide) rfl, piece 0x3D000000#32 9 (by decide) rfl, piece 0x3CB504F3#32 10 (by decide) rfl, piece 0x3C800000#32 11 (by decide) rfl,
    piece 0x3C3504F3#32 12 (by decide) rfl, piece 0x3C000000#32 13 (by decide) rfl, piece 0x3BB504F3#32 14 (by decide) rfl, piece 0x3B800000#32 15 (by decide) rfl]
  rfl

end Cert.SwaRef
-- ==== Proof.SwaRefMask.lean ====
/-
  The reference's scores with what a query does not see masked.
-/
module

public import Idealize.ShloMosaic.Lib.Pointwise
public import proofs.«01_k».proof.Proof.SwaRefSlopes

@[expose] public section

set_option maxRecDepth 16384

noncomputable section

namespace Cert.SwaRef

open Idealize.ShloMosaic Idealize.ShloMosaic.TcCoe Idealize.ShloMosaic.Tactic
open Cert.Reals Cert.Swa Cert.SwaReferenceIdeal Cert.SwaReferenceIdeal.Read

variable (Q D K : ℕ → ℕ → ℝ) (s : ℕ → ℝ)

theorem r73 : val_main_v74 (F := Ideal) = V4 2 8 1 1 (φ := .f32) fun c g _ _ => Swa.slope (8 * c + g) := by
  refine (show val_main_v74 (F := Ideal) = val_main_v73 (F := Ideal) from rfl).trans (ext4 fun c g u v => ?_)
  pointwise [val_main_v73, val_main_v72]
  simp only [r71, V1, V4_ix]
  exact ofReal (congrArg Swa.slope (by show c.val * 8 + g.val = _; omega))
theorem r80 : val_main_v80 (F := Ideal) = V5 64 2 8 128 256 (φ := .f32) fun n c g q j => Swa.slope (8 * c + g) * ((q : ℝ) - j + 128) := by
  refine ext5 fun n c g q j => ?_
  pointwise [val_main_v80, val_main_v79, val_main_v78, val_main_v77, val_main_v76, val_main_v75]
  simp only [r73, r33, V2_ix, V4_ix, V5_ix, ← EReal.coe_mul]

/-- Which places a query sees, in words. -/
theorem place_word (n j : ℕ) (hn : n < 64) (hj : j < 256) :
    (IntOp.addi (IntOp.subi (IntOp.muli (BitVec.ofNat 32 n) 128#32) 128#32) (BitVec.ofNat 32 j)).toInt = (n : ℤ) * 128 - 128 + j := by
  have e : IntOp.addi (IntOp.subi (IntOp.muli (BitVec.ofNat 32 n) 128#32) 128#32) (BitVec.ofNat 32 j) = BitVec.ofInt 32 ((n : ℤ) * 128 - 128 + j) := by
    apply BitVec.eq_of_toInt_eq
    have e1 : (BitVec.ofNat 32 n).toInt = n := Idealize.ShloMosaic.WordCmp.toInt_ofNat_of_lt (by omega)
    have e2 : (BitVec.ofNat 32 j).toInt = j := Idealize.ShloMosaic.WordCmp.toInt_ofNat_of_lt (by omega)
    simp [IntOp.addi, IntOp.subi, IntOp.muli, e1, e2]
  rw [e, BitVec.toInt_ofInt, Int.bmod_def]
  omega

theorem and3 (a b c : Bool) (h : (a && b && c) = false) : BitVec.ofBool a &&& BitVec.ofBool b &&& BitVec.ofBool c = 0#1 := by
  revert h; cases a <;> cases b <;> cases c <;> decide

theorem r54 : val_main_v54 (F := Ideal) = fun x => if valid (x 0).val (x 1).val (x 2).val then 1#1 else 0#1 := by
  refine ext3 fun n q j => ?_
  pointwise [val_main_v54, val_main_v53, val_main_v52, val_main_v51, val_main_v50, val_main_v49, val_main_c_7, val_main_v48, val_main_v47, val_main_v46, val_main_cst_6, val_main_v45, val_main_v44, val_main_cst_5,
    val_main_v43, val_main_v42, val_main_v41, val_main_v40, val_main_v39, val_main_v38, val_main_c_4, val_main_v37, val_main_v36, val_main_c_3, val_main_v35, val_main_v34, val_main_v27, val_main_v26]
  simp only [r33, V2_ix]
  have w : Ideal.ofBits .f32 0x43000000#32 = ((128 : ℝ) : EReal) := by
    simp [Ideal.ofBits, Ideal.ieee]; norm_num [← EReal.coe_mul]
  have a1 : (0 ≤ (((q.val : ℝ) - j.val + 128 : ℝ) : EReal)) ↔ j.val ≤ q.val + 128 := by
    rw [← EReal.coe_zero, EReal.coe_le_coe_iff]
    constructor
    · intro h; exact_mod_cast (by linarith : (j.val : ℝ) ≤ q.val + 128)
    · intro h; have : (j.val : ℝ) ≤ q.val + 128 := by exact_mod_cast h
      linarith
  have a2 : ((((q.val : ℝ) - j.val + 128 : ℝ) : EReal) < ((128 : ℝ) : EReal)) ↔ q.val < j.val := by
    rw [EReal.coe_lt_coe_iff]
    constructor
    · intro h; exact_mod_cast (by linarith : (q.val : ℝ) < j.val)
    · intro h; have : (q.val : ℝ) < j.val := by exact_mod_cast h
      linarith
  rw [WordCmp.cmpi_sge_eq, place_word _ _ n.isLt j.isLt, w, @decide_eq_decide _ (j.val ≤ q.val + 128) _ (Nat.decLe _ _) |>.2 a1, @decide_eq_decide _ (q.val < j.val) _ (Nat.decLt _ _) |>.2 a2]
  have z : (0#32).toInt = 0 := by decide
  rw [z]
  simp only [IntOp.andi]
  show _ = (if valid n.val q.val j.val then 1#1 else 0#1)
  by_cases p4 : valid n.val q.val j.val
  · rw [if_pos p4]; rw [decide_eq_true p4.1, decide_eq_true p4.2.1, decide_eq_true (show (0 : ℤ) ≤ (n.val : ℤ) * 128 - 128 + j.val by have := p4.2.2; omega)]
    rfl
  · rw [if_neg p4]
    refine and3 _ _ _ ?_
    simp only [Bool.and_eq_false_iff, decide_eq_false_iff_not]
    by_contra h
    push Not at h
    exact p4 ⟨h.1.1, h.1.2, by have := h.2; omega⟩

theorem sc_at (n c g q j : ℕ) (hq : q < 128) :
    sc Q K n c (128 * g + q) j = dot Q K n c (128 * g + q) j * (1 / 8) - Swa.slope (8 * c + g) * ((q : ℝ) - j + 128) := by
  rw [sc, show (128 * g + q) % 128 = q by omega, show (128 * g + q) / 128 = g by omega]

/-- The scores, those out of sight at −∞. -/
theorem r83 : val_main_v83_0 (F := Ideal) (aq Q) (ak K) = fun x => if valid (x 0).val (x 3).val (x 4).val
    then ((sc Q K (x 0).val (x 1).val (128 * (x 2).val + (x 3).val) (x 4).val : ℝ) : EReal) else ⊥ := by
  have e : val_main_call0_v0 (F := Ideal) = val_main_cst_24 (F := Ideal) := rfl
  refine ext5 fun n c g q j => ?_
  pointwise [val_main_v83_0, val_main_v83_1, val_main_v82, val_main_v81, val_main_call0_v2]
  simp only [e, r54, r23, r80, V5_ix, ← EReal.coe_sub]
  rw [← sc_at _ _ _ _ _ _ _ q.isLt]
  have w : val_main_cst_24 (F := Ideal) = fun _ => ⊥ := by
    funext y
    show Ideal.ofBits .f32 0xFF800000#32 = ⊥
    simp [Ideal.ofBits, Ideal.ieee]
  rw [w]
  show Scalar.select (if valid n.val q.val j.val then 1#1 else 0#1) _ _ = if valid n.val q.val j.val then _ else _
  split <;> rfl

end Cert.SwaRef
-- ==== Proof.SwaRefMax.lean ====
/-
  The greatest score of a row.
-/
module

public import Idealize.ShloMosaic.Lib.Pointwise
public import proofs.«01_k».proof.Proof.SwaRefMask

@[expose] public section

set_option maxRecDepth 16384

noncomputable section

namespace Cert.SwaRef

open Idealize.ShloMosaic Idealize.ShloMosaic.TcCoe Idealize.ShloMosaic.Tactic
open Cert.Reals Cert.Swa Cert.SwaReferenceIdeal Cert.SwaReferenceIdeal.Read

variable (Q D K : ℕ → ℕ → ℝ) (s : ℕ → ℝ)

theorem exists_V5 {a b c d e : ℕ} {φ : FTy} (x : FVec Ideal ⟨5, ![a, b, c, d, e]⟩ φ) (h : ∀ i, ∃ r : ℝ, x i = r) : ∃ f, x = V5 a b c d e f := by
  refine ⟨fun i j k l m => if hb : i < a ∧ j < b ∧ k < c ∧ l < d ∧ m < e then (x (ix5 ⟨i, hb.1⟩ ⟨j, hb.2.1⟩ ⟨k, hb.2.2.1⟩ ⟨l, hb.2.2.2.1⟩ ⟨m, hb.2.2.2.2⟩)).toReal else 0,
    ext5 fun i j k l m => ?_⟩
  obtain ⟨r, hr⟩ := h (ix5 i j k l m)
  rw [V5_ix, dif_pos ⟨i.isLt, j.isLt, k.isLt, l.isLt, m.isLt⟩]
  show x (ix5 i j k l m) = ((x (ix5 i j k l m)).toReal : EReal)
  rw [hr, EReal.toReal_coe]

theorem word_bot : Ideal.ofBits .f32 0xFF800000#32 = (⊥ : EReal) := by simp [Ideal.ofBits, Ideal.ieee]

/-- A greatest score is below +∞, and is some place's. -/
theorem fold_lt {f : Fin 256 → EReal} (hf : ∀ k, f k < ⊤) : Finset.fold max (Ideal.ofBits .f32 0xFF800000#32) f Finset.univ < ⊤ := by
  rw [Finset.fold_max_lt, word_bot]
  exact ⟨bot_lt_top, fun y _ => hf y⟩
theorem fold_mem (f : Fin 256 → EReal) : ∃ k, f k = Finset.fold max (Ideal.ofBits .f32 0xFF800000#32) f Finset.univ := by
  rw [word_bot]
  obtain ⟨k, _, hk⟩ := Finset.exists_mem_eq_sup Finset.univ ⟨(0 : Fin 256), Finset.mem_univ _⟩ f
  exact ⟨k, hk.symm⟩

theorem r86 (n c g q) : val_main_v86 (F := Ideal) (aq Q) (ak K) (ix4 n c g q)
    = Finset.fold max (Ideal.ofBits .f32 0xFF800000#32) (fun j : Fin 256 => val_main_v83_0 (F := Ideal) (aq Q) (ak K) (ix5 n c g q j)) Finset.univ := by
  pointwise [val_main_v86, val_main_cst_25]

theorem score_lt (y) : val_main_v83_0 (F := Ideal) (aq Q) (ak K) y < ⊤ := by
  rw [r83]
  dsimp only
  split
  · exact EReal.coe_lt_top _
  · exact bot_lt_top

theorem max_coe_real {a : EReal} (b : ℝ) (h : a < ⊤) : ∃ r : ℝ, max a (b : EReal) = r :=
  ⟨_, (EReal.coe_toReal (max_lt h (EReal.coe_lt_top _)).ne (lt_of_lt_of_le (EReal.bot_lt_coe _) (le_max_right _ _)).ne').symm⟩

theorem max_at (n : Fin 64) (c : Fin 2) (g : Fin 8) (q : Fin 128) (u : Fin 1) : ∃ r : ℝ, val_main_v95 (F := Ideal) (aq Q) (ak K) (ar s) (ix5 n c g q u) = r := by
  have h : val_main_v86 (F := Ideal) (aq Q) (ak K) (ix4 n c g q) < ⊤ := by
    rw [r86]
    exact fold_lt fun j => score_lt Q K _
  rw [val_main_v95_apply, val_main_v94_apply, val_main_v93_apply, val_main_v92_apply, r85]
  have e : idx_main_v92 (ix5 n c g q u) = ix4 n c g q := by funext k; match k with | 0 => rfl | 1 => rfl | 2 => rfl | 3 => rfl
  rw [e]
  exact max_coe_real _ h

/-- The greatest score or the sink is a real number. -/
theorem max_real : ∃ M : ℕ → ℕ → ℕ → ℕ → ℝ, val_main_v95 (F := Ideal) (aq Q) (ak K) (ar s) = V5 64 2 8 128 1 (φ := .f32) fun n c g q _ => M n c g q := by
  obtain ⟨f, hf⟩ := exists_V5 (φ := .f32) (val_main_v95 (F := Ideal) (aq Q) (ak K) (ar s)) fun i => by
    have e : i = ix5 (i 0) (i 1) (i 2) (i 3) (i 4) := by funext k; match k with | 0 => rfl | 1 => rfl | 2 => rfl | 3 => rfl | 4 => rfl
    rw [e]
    exact max_at Q K s _ _ _ _ _
  refine ⟨fun n c g q => f n c g q 0, hf.trans (ext5 fun n c g q u => ?_)⟩
  rw [V5_ix, V5_ix, show u.val = 0 by omega]

theorem flag (b : Bool) : FloatOps.uitofp (F := Ideal) .f32 (BitVec.ofBool b) = ((if b then 1 else 0 : ℝ) : EReal) := by
  cases b
  · show ((((0#1 : BitVec 1).toNat : ℕ) : ℝ) : EReal) = _
    simp
  · show ((((1#1 : BitVec 1).toNat : ℕ) : ℝ) : EReal) = _
    simp

/-- Some place of the window has the greatest score, so the count of those that do is not zero. -/
theorem count_ne (n : Fin 64) (c : Fin 2) (g : Fin 8) (q : Fin 128) : ∃ r : ℝ, r ≠ 0 ∧ val_main_v91 (F := Ideal) (aq Q) (ak K) (ix4 n c g q) = r := by
  pointwise [val_main_v91, val_main_v90, val_main_v89, val_main_v88, val_main_v87, val_main_cst_26]
  simp only [flag, sum_coe]
  refine ⟨_, ?_, rfl⟩
  obtain ⟨k, hk⟩ := fold_mem fun j : Fin 256 => val_main_v83_0 (F := Ideal) (aq Q) (ak K) (ix5 n c g q j)
  refine (Finset.sum_pos' (fun j _ => by split <;> norm_num) ⟨k, Finset.mem_univ _, ?_⟩).ne'
  rw [r86, hk, decide_eq_true rfl]
  norm_num

end Cert.SwaRef
-- ==== Proof.SwaRefWeights.lean ====
/-
  The reference's weights and what they are divided by.
-/
module

public import Idealize.ShloMosaic.Lib.Pointwise
public import proofs.«01_k».proof.Proof.SwaRefMax

@[expose] public section

set_option maxRecDepth 16384

noncomputable section

namespace Cert.SwaRef

open Idealize.ShloMosaic Idealize.ShloMosaic.TcCoe Idealize.ShloMosaic.Tactic
open Cert.Reals Cert.Swa Cert.SwaReferenceIdeal Cert.SwaReferenceIdeal.Read

variable (Q D K : ℕ → ℕ → ℝ) (s : ℕ → ℝ)

/-- A score. -/
theorem r83_at (n : Fin 64) (c : Fin 2) (g : Fin 8) (q : Fin 128) (j : Fin 256) : val_main_v83_0 (F := Ideal) (aq Q) (ak K) (ix5 n c g q j)
    = if valid n.val q.val j.val then ((sc Q K n c (128 * g + q) j : ℝ) : EReal) else ⊥ :=
  congrFun (r83 Q K) _

theorem wt_at (n c g q j : ℕ) (hq : q < 128) : wt Q K n c (128 * g + q) j = if valid n q j then Real.exp (sc Q K n c (128 * g + q) j) else 0 := by
  rw [wt, show (128 * g + q) % 128 = q by omega]

section
variable {Q K s}
variable {M : ℕ → ℕ → ℕ → ℕ → ℝ} (hM : val_main_v95 (F := Ideal) (aq Q) (ak K) (ar s) = V5 64 2 8 128 1 (φ := .f32) fun n c g q _ => M n c g q)
include hM

theorem r116 : val_main_v116 (F := Ideal) (aq Q) (ak K) (ar s) = V5 64 2 8 128 256 (φ := .f32) fun n c g q j => wt Q K n c (128 * g + q) j * Real.exp (-(M n c g q)) := by
  refine ext5 fun n c g q j => ?_
  pointwise [val_main_v116, val_main_v115, val_main_v114]
  rw [hM, r83_at, V5_ix, V5_ix, wt_at _ _ _ _ _ _ _ q.isLt]
  split
  · rw [← EReal.coe_sub, Ideal.exp_coe, sub_eq_add_neg, Real.exp_add]
  · exact (show Ideal.exp ((⊥ : EReal) - ((M n c g q : ℝ) : EReal)) = ((0 : ℝ) : EReal) from rfl).trans (ofReal (zero_mul _).symm)

theorem r122 : val_main_v122 (F := Ideal) (aq Q) (ak K) (ar s) = V5 64 2 8 128 1 (φ := .f32) fun n c g q _ => Real.exp (s (8 * c + g)) * Real.exp (-(M n c g q)) := by
  refine ext5 fun n c g q u => ?_
  rw [val_main_v122_apply, val_main_v121_apply, val_main_v120_apply, val_main_v119_apply, hM, r85]
  refine (show _ = Ideal.exp (((s (8 * c + g) : ℝ) : EReal) - ((M n c g q : ℝ) : EReal)) from rfl).trans ?_
  rw [← EReal.coe_sub, Ideal.exp_coe, V5_ix, sub_eq_add_neg, Real.exp_add]

theorem r123 : val_main_v123 (F := Ideal) (aq Q) (ak K) (ar s) = V5 64 2 8 128 1 (φ := .f32) fun n c g q _ => den Q K s n c (128 * g + q) * Real.exp (-(M n c g q)) := by
  refine ext5 fun n c g q u => ?_
  pointwise [val_main_v123, val_main_v118, val_main_v117, val_main_cst_33]
  rw [r122 hM, r116 hM]
  simp only [V5_ix, sum_coe, ← EReal.coe_add]
  rw [den, add_mul, Finset.sum_mul, show (128 * g.val + q.val) / 128 = g.val by omega]

omit hM in
theorem E_ne (n c g q : ℕ) : den Q K s n c (128 * g + q) * Real.exp (-(M n c g q)) ≠ 0 := (mul_pos (den_pos Q K s n c _) (Real.exp_pos _)).ne'

theorem r125 : val_main_v125 (F := Ideal) (aq Q) (ak K) (ar s) = V5 64 2 8 128 256 (φ := .f32) fun n c g q j => W Q K s n c (128 * g + q) j := by
  refine ext5 fun n c g q j => ?_
  pointwise [val_main_v125, val_main_v124]
  rw [r116 hM, r123 hM]
  simp only [V5_ix]
  rw [Ideal.div_coe (E_ne _ _ _ _), ← EReal.coe_mul]
  have hd := (den_pos Q K s n c (128 * g.val + q.val)).ne'
  refine ofReal ?_
  rw [W]
  field_simp

theorem r128 : val_main_v128 (F := Ideal) (aq Q) (ak K) (ar s) = V5 64 2 8 128 1 (φ := .f32) fun n c g q _ =>
    1 / (den Q K s n c (128 * g + q) * Real.exp (-(M n c g q)) * (den Q K s n c (128 * g + q) * Real.exp (-(M n c g q)))) := by
  refine ext5 fun n c g q u => ?_
  pointwise [val_main_v128, val_main_v127, val_main_v126, val_main_cst_34]
  rw [r123 hM]
  simp only [V5_ix, ← EReal.coe_mul]
  rw [Ideal.div_coe (mul_ne_zero (E_ne _ _ _ _) (E_ne _ _ _ _)), one_mul]
end

end Cert.SwaRef
-- ==== Proof.SwaRefGrad.lean ====
/-
  The reference's gradients of the scores and of the sinks.
-/
module

public import Idealize.ShloMosaic.Lib.Pointwise
public import proofs.«01_k».proof.Proof.SwaRefWeights

@[expose] public section

set_option maxRecDepth 16384

noncomputable section

namespace Cert.SwaRef

open Idealize.ShloMosaic Idealize.ShloMosaic.TcCoe Idealize.ShloMosaic.Tactic
open Cert.Reals Cert.Swa Cert.SwaReferenceIdeal Cert.SwaReferenceIdeal.Read

variable (Q D K : ℕ → ℕ → ℝ) (s : ℕ → ℝ)

section
variable {Q D K s}
variable {M : ℕ → ℕ → ℕ → ℕ → ℝ} (hM : val_main_v95 (F := Ideal) (aq Q) (ak K) (ar s) = V5 64 2 8 128 1 (φ := .f32) fun n c g q _ => M n c g q)
include hM

theorem r143 : val_main_v143 (F := Ideal) (aq Q) (ak K) (ar s) (aq D) = V5 64 2 8 128 1 (φ := .f32) fun n c g q _ =>
    -(dd Q D K s n c (128 * g + q) / (den Q K s n c (128 * g + q) * Real.exp (-(M n c g q)))) := by
  refine ext5 fun n c g q u => ?_
  pointwise [val_main_v143, val_main_v142, val_main_v141, val_main_cst_35, val_main_v140, val_main_v139, val_main_v138]
  rw [r135, r128 hM, r116 hM]
  simp only [V5_ix, ← EReal.coe_mul, sum_coe, ← EReal.coe_neg]
  refine ofReal (congrArg Neg.neg ?_)
  rw [dd, Finset.sum_div]
  refine Finset.sum_congr rfl fun j _ => ?_
  have hd := (den_pos Q K s n c (128 * g.val + q.val)).ne'
  rw [W]
  field_simp

theorem r146 : val_main_v146 (F := Ideal) (aq Q) (ak K) (ar s) (aq D) = V5 64 2 8 128 1 (φ := .f32) fun n c g q _ =>
    -(WS Q K s n c (128 * g + q) * dd Q D K s n c (128 * g + q)) := by
  refine ext5 fun n c g q u => ?_
  pointwise [val_main_v146]
  rw [r143 hM, r122 hM]
  simp only [V5_ix, ← EReal.coe_mul]
  refine ofReal ?_
  have hd := (den_pos Q K s n c (128 * g.val + q.val)).ne'
  rw [WS, show (128 * g.val + q.val) / 128 = g.val by omega]
  field_simp

theorem r155 : val_main_v155 (F := Ideal) (aq Q) (ak K) (ar s) (aq D) = V5 64 2 8 128 256 (φ := .f32) fun n c g q j =>
    W Q K s n c (128 * g + q) j * (dp D K n c (128 * g + q) j - dd Q D K s n c (128 * g + q)) := by
  refine ext5 fun n c g q j => ?_
  pointwise [val_main_v155, val_main_v154, val_main_v153, val_main_v152, val_main_cst_38, val_main_v145, val_main_v144]
  rw [r143 hM, r116 hM, r135, r123 hM]
  simp only [V5_ix, Finset.univ_unique, Finset.sum_singleton]
  rw [Ideal.div_coe (E_ne _ _ _ _)]
  simp only [← EReal.coe_mul, ← EReal.coe_add]
  refine ofReal ?_
  have hd := (den_pos Q K s n c (128 * g.val + q.val)).ne'
  rw [W]
  field_simp
  ring

omit hM in
theorem r54_at (n : Fin 64) (q : Fin 128) (j : Fin 256) : val_main_v54 (F := Ideal) (ix3 n q j) = if valid n.val q.val j.val then 1#1 else 0#1 :=
  congrFun r54 _

omit hM in
/-- The weights and the sink's weight sum to one. -/
theorem weights_sum (n c ρ : ℕ) : WS Q K s n c ρ + ∑ j : Fin 256, W Q K s n c ρ j = 1 := by
  have hd := (den_pos Q K s n c ρ).ne'
  simp only [WS, W]
  rw [← Finset.sum_div, ← add_div, div_eq_one_iff_eq hd, den, add_comm]

/-- The gradient through the greatest score is zero. -/
theorem r159 : val_main_v159 (F := Ideal) (aq Q) (ak K) (ar s) (aq D) = V5 64 2 8 128 1 (φ := .f32) fun _ _ _ _ _ => 0 := by
  refine ext5 fun n c g q u => ?_
  pointwise [val_main_v159, val_main_v158, val_main_v157, val_main_cst_39, val_main_v156, val_main_v149]
  rw [r146 hM, r155 hM]
  simp only [V5_ix, ← EReal.coe_neg, sum_coe, ← EReal.coe_add]
  refine ofReal ?_
  have h := weights_sum (Q := Q) (K := K) (s := s) n c (128 * g.val + q.val)
  have e : ∀ j : Fin 256, -(W Q K s n c (128 * g + q) j * (dp D K n c (128 * g + q) j - dd Q D K s n c (128 * g + q)))
      = W Q K s n c (128 * g + q) j * dd Q D K s n c (128 * g + q) - W Q K s n c (128 * g + q) j * dp D K n c (128 * g + q) j := fun j => by ring
  simp only [e]
  rw [Finset.sum_sub_distrib, ← Finset.sum_mul, ← dd]
  linear_combination dd Q D K s n c (128 * g.val + q.val) * h

theorem r163 (y) : val_main_v163 (F := Ideal) (aq Q) (ak K) (ar s) (aq D) y = 0 := by
  rw [val_main_v163_apply, r159 hM]
  exact zero_mul _
theorem r160 (y) : val_main_v160 (F := Ideal) (aq Q) (ak K) (ar s) (aq D) y = 0 := by
  rw [val_main_v160_apply, r159 hM]
  exact zero_mul _
theorem r168 (n c g q) : val_main_v168 (F := Ideal) (aq Q) (ak K) (ar s) (aq D) (ix4 n c g q) = 0 := by
  obtain ⟨r, hr, e⟩ := count_ne Q K n c g q
  pointwise [val_main_v168, val_main_v167, val_main_cst_42]
  rw [e]
  simp only [r163 hM, Finset.sum_const_zero]
  rw [Ideal.div_coe hr, zero_mul]

theorem r176 : val_main_v176 (F := Ideal) (aq Q) (ak K) (ar s) (aq D) = V5 64 2 8 128 256 (φ := .f32) fun n c g q j => dS Q D K s n c (128 * g + q) j := by
  refine ext5 fun n c g q j => ?_
  pointwise [val_main_v176, val_main_v175, val_main_cst_44, val_main_v174, val_main_call1_v0, val_main_call1_cst, val_main_v83_1, val_main_v82, val_main_v171, val_main_v170, val_main_v169]
  rw [r168 hM, zero_mul, add_zero, r155 hM, r54_at, eighth, V5_ix, V5_ix]
  by_cases hv : valid n.val q.val j.val
  · rw [if_pos hv]
    exact (EReal.coe_mul _ _).symm
  · rw [if_neg hv]
    refine (show _ = ((0 : ℝ) : EReal) from rfl).trans (ofReal ?_)
    rw [dS, W, wt_at _ _ _ _ _ _ _ q.isLt, if_neg hv, zero_div, zero_mul, zero_mul]
end

end Cert.SwaRef
-- ==== Proof.SwaRefKeys.lean ====
/-
  The reference's three results.
-/
module

public import Idealize.ShloMosaic.Lib.Pointwise
public import proofs.«01_k».proof.Proof.SwaRefGrad
public import proofs.«01_k».proof.Proof.SwaValue

@[expose] public section

set_option maxRecDepth 16384

noncomputable section

namespace Cert.SwaRef

open Idealize.ShloMosaic Idealize.ShloMosaic.TcCoe Idealize.ShloMosaic.Tactic
open Cert.SwaRun (kvSum acSum dsRow)
open Cert.Reals Cert.Swa Cert.SwaReferenceIdeal Cert.SwaReferenceIdeal.Read

variable (Q D K : ℕ → ℕ → ℝ) (s : ℕ → ℝ)

/-! ### Sums over the rows of a group -/

theorem sum1024 (f : ℕ → ℝ) : ∑ ρ : Fin 1024, f ρ = ∑ q : Fin 128, ∑ g : Fin 8, f (128 * g + q) := by
  rw [Finset.sum_comm, ← Fintype.sum_prod_type' (f := fun (g : Fin 8) (q : Fin 128) => f (128 * g + q))]
  exact (Fintype.sum_equiv (finProdFinEquiv (m := 8) (n := 128)) _ _ fun p => by simp [finProdFinEquiv, add_comm]).symm

/-- What a block adds to the keys' gradient and to the values'. -/
def dkOf (n c j d : ℕ) : ℝ := ∑ q : Fin 128, ∑ g : Fin 8, dS Q D K s n c (128 * g + q) j * Q (128 * n + q) (64 * (8 * c + g) + d)
def dvOf (n c j d : ℕ) : ℝ := ∑ q : Fin 128, ∑ g : Fin 8, W Q K s n c (128 * g + q) j * D (128 * n + q) (64 * (8 * c + g) + d)

theorem share_dk (n j y : ℕ) (hy : y < 128) : kvShare Q D K s n j y = dkOf Q D K s n (y / 64) j (y % 64) := by
  rw [kvShare, if_pos hy, dkOf, sum1024 fun ρ => dS Q D K s n (y / 64) ρ j * Q (128 * n + ρ % 128) (64 * (8 * (y / 64) + ρ / 128) + y % 64)]
  refine Finset.sum_congr rfl fun q _ => Finset.sum_congr rfl fun g _ => ?_
  rw [show (128 * g.val + q.val) % 128 = q.val by omega, show (128 * g.val + q.val) / 128 = g.val by omega]
theorem share_dv (n j y : ℕ) (hy : ¬ y < 128) : kvShare Q D K s n j y = dvOf Q D K s n ((y - 128) / 64) j (y % 64) := by
  rw [kvShare, if_neg hy, dvOf, sum1024 fun ρ => W Q K s n ((y - 128) / 64) ρ j * D (128 * n + ρ % 128) (64 * (8 * ((y - 128) / 64) + ρ / 128) + y % 64)]
  refine Finset.sum_congr rfl fun q _ => Finset.sum_congr rfl fun g _ => ?_
  rw [show (128 * g.val + q.val) % 128 = q.val by omega, show (128 * g.val + q.val) / 128 = g.val by omega]

/-- The rows before the first key have no gradient. -/
theorem kvSum_low (R y : ℕ) (hR : R < 128) : kvSum Q D K s 64 R y = 0 := by
  have hW : ∀ c ρ, W Q K s 0 c ρ R = 0 := fun c ρ => by rw [W, wt, if_neg (fun h => by have := h.2.2; omega), zero_div]
  refine Finset.sum_eq_zero fun n _ => ?_
  split
  · next h =>
    obtain rfl : n = 0 := by omega
    rw [kvShare]
    simp only [dS, mul_zero, Nat.sub_zero, hW, zero_mul, Finset.sum_const_zero, ite_self]
  · rfl

/-- A key's gradient is what the block it belongs to and the block after it add. -/
theorem kvSum_at (m j y : ℕ) (hm : m < 64) (hj : j < 128) :
    kvSum Q D K s 64 (128 * (m + 1) + j) y = kvShare Q D K s m (128 + j) y + if m + 1 < 64 then kvShare Q D K s (m + 1) j y else 0 := by
  have e : ∀ n', (if 128 * n' ≤ 128 * (m + 1) + j ∧ 128 * (m + 1) + j < 128 * n' + 256 then kvShare Q D K s n' (128 * (m + 1) + j - 128 * n') y else 0)
      = (if n' = m then kvShare Q D K s m (128 + j) y else 0) + (if n' = m + 1 then kvShare Q D K s (m + 1) j y else 0) := by
    intro n'
    by_cases h1 : n' = m
    · subst h1
      rw [if_pos (by omega), if_pos rfl, if_neg (by omega), add_zero, show 128 * (n' + 1) + j - 128 * n' = 128 + j by omega]
    · by_cases h2 : n' = m + 1
      · subst h2
        rw [if_pos (by omega), if_neg (by omega), if_pos rfl, zero_add, show 128 * (m + 1) + j - 128 * (m + 1) = j by omega]
      · rw [if_neg (by omega), if_neg h1, if_neg h2, add_zero]
  simp only [kvSum, e]
  rw [Finset.sum_add_distrib, Finset.sum_ite_eq', Finset.sum_ite_eq', if_pos (Finset.mem_range.2 hm)]
  simp only [Finset.mem_range]

section
variable {Q D K s}
variable {M : ℕ → ℕ → ℕ → ℕ → ℝ} (hM : val_main_v95 (F := Ideal) (aq Q) (ak K) (ar s) = V5 64 2 8 128 1 (φ := .f32) fun n c g q _ => M n c g q)
include hM

/-! ### The queries -/

theorem r203 : val_main_v203 (F := Ideal) (aq Q) (ak K) (ar s) (aq D) = V2 8192 1024 (φ := .bf16) fun i y => dqRow Q D K s (i / 128) (i % 128) y := by
  refine ext2 fun i y => ?_
  pointwise [val_main_v203, val_main_v202, val_main_v198, val_main_v179, val_main_v178, val_main_v177]
  simp only [r176 hM, r16, V2_ix, V4_ix, V5_ix, ← EReal.coe_mul, sum_coe]
  refine ofReal (Finset.sum_congr rfl fun j _ => ?_)
  rw [show y.val / 64 % 8 = y.val % 512 / 64 by omega]

/-! ### The keys and the values -/

theorem r181 : val_main_v181 (F := Ideal) (aq Q) (ak K) (ar s) (aq D) = V4 64 256 2 64 (φ := .f32) fun n j c d => dkOf Q D K s n c j d := by
  refine ext4 fun n j c d => ?_
  pointwise [val_main_v181, val_main_v180, val_main_v177]
  rw [r176 hM, r6]
  simp only [V4_ix, V5_ix, ← EReal.coe_mul, sum_coe]
  rfl
theorem r137 : val_main_v137 (F := Ideal) (aq Q) (ak K) (ar s) (aq D) = V4 64 256 2 64 (φ := .f32) fun n j c d => dvOf Q D K s n c j d := by
  refine ext4 fun n j c d => ?_
  pointwise [val_main_v137, val_main_v136]
  rw [r125 hM, r134]
  simp only [V4_ix, V5_ix, ← EReal.coe_mul, sum_coe]
  refine ofReal ?_
  rw [dvOf, Finset.sum_comm]
  exact Finset.sum_congr rfl fun q _ => Finset.sum_congr rfl fun g _ => mul_comm _ _
theorem r193 : val_main_v193 (F := Ideal) (aq Q) (ak K) (ar s) (aq D) = V4 64 128 2 64 (φ := .f32) fun n j c d =>
    dvOf Q D K s n c (128 + j) d + if n + 1 < 64 then dvOf Q D K s (n + 1) c j d else 0 := by
  refine ext4 fun n j c d => ?_
  pointwise [val_main_v193, val_main_v186, val_main_v184, val_main_v183, val_main_v185, val_main_v182, val_main_cst_45, val_main_cst_46]
  simp only [r137 hM, V4_ix]
  by_cases h : n.val + 1 < 64
  · rw [dif_pos (by omega), if_pos h, ← EReal.coe_add, Nat.add_comm 1]
  · rw [dif_neg (by omega), if_neg h, add_zero, add_zero]
theorem r196 : val_main_v196 (F := Ideal) (aq Q) (ak K) (ar s) (aq D) = V4 64 128 2 64 (φ := .f32) fun n j c d =>
    dkOf Q D K s n c (128 + j) d + if n + 1 < 64 then dkOf Q D K s (n + 1) c j d else 0 := by
  refine ext4 fun n j c d => ?_
  pointwise [val_main_v196, val_main_v191, val_main_v189, val_main_v188, val_main_v190, val_main_v187, val_main_cst_47, val_main_cst_48]
  simp only [r181 hM, V4_ix]
  by_cases h : n.val + 1 < 64
  · rw [dif_pos (by omega), if_pos h, ← EReal.coe_add, Nat.add_comm 1]
  · rw [dif_neg (by omega), if_neg h, add_zero, add_zero]
theorem r204 : val_main_v204 (F := Ideal) (aq Q) (ak K) (ar s) (aq D) = V2 8320 256 (φ := .f32) (kvSum Q D K s 64) := by
  refine ext2 fun i y => ?_
  pointwise [val_main_v204, val_main_v201, val_main_v200, val_main_v194, val_main_v199, val_main_v197, val_main_call2_v0, val_main_c_49]
  simp only [r193 hM, r196 hM, V2_ix, V4_ix]
  by_cases h : i.val < 128
  · rw [dif_neg (by omega), kvSum_low Q D K s _ _ h]
    exact (Idealize.ShloMosaic.Ideal.scalar_sitofp_def (φ := .f32) _).trans (by simp)
  · rw [dif_pos (by omega)]
    have e := kvSum_at Q D K s ((i.val - 128) / 128) ((i.val - 128) % 128) y.val (by omega) (by omega)
    rw [show 128 * ((i.val - 128) / 128 + 1) + (i.val - 128) % 128 = i.val by omega] at e
    rw [e]
    by_cases hy : y.val < 128
    · rw [dif_pos hy, share_dk _ _ _ _ _ _ _ hy, share_dk _ _ _ _ _ _ _ hy]
    · rw [dif_neg hy, share_dv _ _ _ _ _ _ _ hy, share_dv _ _ _ _ _ _ _ hy, show (y.val - 128) % 64 = y.val % 64 by omega]
end

end Cert.SwaRef
-- ==== Proof.SwaRefSinks.lean ====
/-
  The reference's gradient of the sinks.
-/
module

public import Idealize.ShloMosaic.Lib.Pointwise
public import proofs.«01_k».proof.Proof.SwaRefGrad
public import proofs.«01_k».proof.Proof.SwaValue

@[expose] public section

set_option maxRecDepth 16384

noncomputable section

namespace Cert.SwaRef

open Idealize.ShloMosaic Idealize.ShloMosaic.TcCoe Idealize.ShloMosaic.Tactic
open Cert.SwaRun (kvSum acSum dsRow)
open Cert.Reals Cert.Swa Cert.SwaReferenceIdeal Cert.SwaReferenceIdeal.Read

variable (Q D K : ℕ → ℕ → ℝ) (s : ℕ → ℝ)

/-- Reductions over the blocks and the rows of a block, and over axes of one place. -/
theorem sum_blocks (v : S64x2x8x128x1.Idx → EReal) (h : S64x2x8x128x1.ReducesTo [0, 3] S2x8x1) (j : S2x8x1.Idx) :
    ∑ i ∈ Finset.univ.filter (fun i => h.drop i = j), v i = ∑ n : Fin 64, ∑ q : Fin 128, v (ix5 n (j 0) (j 1) q (j 2)) := by
  rw [← Fintype.sum_prod_type' (f := fun (n : Fin 64) (q : Fin 128) => v (ix5 n (j 0) (j 1) q (j 2)))]
  have back : ∀ i : S64x2x8x128x1.Idx, h.drop i = j → ix5 (i 0) (j 0) (j 1) (i 3) (j 2) = i := fun i e => by
    funext a; apply Fin.ext
    match a with
    | 0 => rfl
    | 1 => exact (congrArg Fin.val (congrFun e 0)).symm
    | 2 => exact (congrArg Fin.val (congrFun e 1)).symm
    | 3 => rfl
    | 4 => exact (congrArg Fin.val (congrFun e 2)).symm
  refine Finset.sum_nbij' (fun i => ((i 0, i 3) : Fin 64 × Fin 128)) (fun p => ix5 p.1 (j 0) (j 1) p.2 (j 2)) (fun _ _ => Finset.mem_univ _) (fun p _ => ?_) (fun i hi => ?_) (fun _ _ => rfl) (fun i hi => ?_)
  · refine Finset.mem_filter.2 ⟨Finset.mem_univ _, ?_⟩
    funext b; apply Fin.ext
    match b with
    | 0 => rfl
    | 1 => rfl
    | 2 => rfl
  · exact back i (Finset.mem_filter.1 hi).2
  · exact congrArg v (back i (Finset.mem_filter.1 hi).2).symm

theorem sum_units (v : S1x2x8x1x1.Idx → EReal) (h : S1x2x8x1x1.ReducesTo [0, 3, 4] S2x8) (j : S2x8.Idx) :
    ∑ i ∈ Finset.univ.filter (fun i => h.drop i = j), v i = v (ix5 0 (j 0) (j 1) 0 0) := by
  refine Finset.sum_eq_single_of_mem _ (Finset.mem_filter.2 ⟨Finset.mem_univ _, ?_⟩) fun i hi hne => absurd ?_ hne
  · funext b; apply Fin.ext
    match b with
    | 0 => rfl
    | 1 => rfl
  · have e := (Finset.mem_filter.1 hi).2
    funext a; apply Fin.ext
    match a with
    | 0 => exact Nat.lt_one_iff.1 (i 0).isLt
    | 1 => exact congrArg Fin.val (congrFun e 0)
    | 2 => exact congrArg Fin.val (congrFun e 1)
    | 3 => exact Nat.lt_one_iff.1 (i 3).isLt
    | 4 => exact Nat.lt_one_iff.1 (i 4).isLt

section
variable {Q D K s}
variable {M : ℕ → ℕ → ℕ → ℕ → ℝ} (hM : val_main_v95 (F := Ideal) (aq Q) (ak K) (ar s) = V5 64 2 8 128 1 (φ := .f32) fun n c g q _ => M n c g q)
include hM

theorem r147 (c : Fin 2) (g : Fin 8) (u : Fin 1) : val_main_v147 (F := Ideal) (aq Q) (ak K) (ar s) (aq D) (ix3 c g u)
    = ((∑ n : Fin 64, ∑ q : Fin 128, -(WS Q K s n c (128 * g + q) * dd Q D K s n c (128 * g + q)) : ℝ) : EReal) := by
  have e := sum_blocks (val_main_v146 (F := Ideal) (aq Q) (ak K) (ar s) (aq D)) Gen.reducesTo_S64x2x8x128x1_S2x8x1_d0_3 (ix3 c g u)
  rw [r146 hM] at e
  pointwise [val_main_v147, val_main_cst_36]
  rw [r146 hM]
  refine (zero_add _).trans (e.trans ?_)
  simp only [← sum_coe]
  rfl
theorem r161 (y) : val_main_v161 (F := Ideal) (aq Q) (ak K) (ar s) (aq D) y = 0 := by
  have e : val_main_v160 (F := Ideal) (aq Q) (ak K) (ar s) (aq D) = fun _ => 0 := funext fun y => r160 hM y
  rw [val_main_v161, e]
  pointwise [val_main_cst_40]
  exact (zero_add _).trans Finset.sum_const_zero
theorem r150 (c : Fin 2) (g : Fin 8) : val_main_v150 (F := Ideal) (aq Q) (ak K) (ar s) (aq D) (ix2 c g)
    = ((∑ n : Fin 64, ∑ q : Fin 128, -(WS Q K s n c (128 * g + q) * dd Q D K s n c (128 * g + q)) : ℝ) : EReal) := by
  have e := sum_units (val_main_v148 (F := Ideal) (aq Q) (ak K) (ar s) (aq D)) Gen.reducesTo_S1x2x8x1x1_S2x8_d0_3_4 (ix2 c g)
  pointwise [val_main_v150, val_main_cst_37]
  refine (zero_add _).trans (e.trans ?_)
  show val_main_v148 (F := Ideal) (aq Q) (ak K) (ar s) (aq D) (ix5 0 c g 0 0) = _
  pointwise [val_main_v148]
  exact r147 hM c g _
theorem r164 (c : Fin 2) (g : Fin 8) : val_main_v164 (F := Ideal) (aq Q) (ak K) (ar s) (aq D) (ix2 c g) = 0 := by
  have e := sum_units (val_main_v162 (F := Ideal) (aq Q) (ak K) (ar s) (aq D)) Gen.reducesTo_S1x2x8x1x1_S2x8_d0_3_4 (ix2 c g)
  pointwise [val_main_v164, val_main_cst_41]
  refine (zero_add _).trans (e.trans ?_)
  rw [val_main_v162_apply]
  exact r161 hM _
theorem r206 : val_main_v206 (F := Ideal) (aq Q) (ak K) (ar s) (aq D) = V2 1 128 (φ := .f32) fun _ => dsRow Q D K s := by
  refine ext2 fun u y => ?_
  pointwise [val_main_v206, val_main_v205, val_main_v173, val_main_v172, val_main_cst_43, val_main_v166, val_main_v165, val_main_v151, val_main_call3_v0, val_main_c_50]
  rw [V2_ix, dsRow]
  split
  · simp only [Finset.univ_unique, Finset.sum_singleton, acSum]
    refine (congrArg₂ (fun a b : EReal => a + b) (r150 hM _ _) (r164 hM _ _)).trans ((add_zero _).trans (ofReal ?_))
    rw [Finset.sum_comm, ← Finset.sum_neg_distrib]
    refine Finset.sum_congr rfl fun q _ => ?_
    rw [Finset.sum_range, ← Finset.sum_neg_distrib]
  · exact (Idealize.ShloMosaic.Ideal.scalar_sitofp_def (φ := .f32) _).trans (by simp)
end

end Cert.SwaRef
-- ==== Proof.SwaClaims.lean ====
module

public import proofs.«01_k».proof.Defs
public import proofs.«01_k».proof.Proof.Gen.Pre_swa_finite
public import proofs.«01_k».proof.Proof.Gen.SwaReferenceIdeal.Run
public import proofs.«01_k».proof.Proof.SwaValue
public import proofs.«01_k».proof.Proof.SwaRefKeys
public import proofs.«01_k».proof.Proof.SwaRefSinks

@[expose] public section

set_option maxRecDepth 16384

/-! The claims about the gradients of sliding-window attention with sinks and distance slopes. -/

noncomputable section

namespace Cert.SwaClaims

open Idealize.ShloMosaic Idealize.ShloMosaic.TcCoe Idealize.SL.Sem
open Cert.Reals Cert.Swa Cert.SwaRun Cert.SwaReferenceIdeal.Read

/-- A plan that says nothing of the arrays written. -/
def anything (m : (ℓ : Loc Cert.SwaKernelIdeal.nD Cert.SwaKernelIdeal.τ Cert.SwaKernelIdeal.sig) → Buf (Elt Ideal) ℓ)
    (c : Dev Cert.SwaKernelIdeal.nD) : Plan m c where
  kv _ _ := True
  ac _ _ := True
  dq _ _ := True
  ds _ _ := True
  kv_init _ := trivial
  ac_init _ := trivial
  step _ _ _ _ _ := ⟨trivial, trivial, trivial, trivial⟩

/-- The call terminates with its arguments unchanged and its semaphores at zero, over the extended reals. -/
theorem frame_ideal : Cert.quiescent_SwaKernelIdeal := fun m ρ _ =>
  (θ_run Cert.SwaKernelIdeal.defs _ _).mono
    (fun _ h => ⟨fun c => ⟨h.1 c _ (by simp), h.1 c _ (by simp), h.1 c _ (by simp), h.1 c _ (by simp)⟩, h.2⟩)
    (frame_main m ρ (anything m))

/-- The same under the precondition. -/
theorem frame_ideal_finite : Cert.quiescent_SwaKernelIdeal_pre_swa_finite := fun m ρ _ => frame_ideal m ρ trivial

/-- The reference terminates with its arguments unchanged. -/
theorem frame_reference : Cert.quiescent_SwaReferenceIdeal := fun m ρ _ =>
  (θ_run Cert.SwaReferenceIdeal.defs _ _).mono (fun r h => ⟨fun c => (h c).2.2.2, sem_eq_zero_of_no_sems (by rfl) r.2⟩)
    (Cert.SwaReferenceIdeal.Value.run m ρ)

/-- The same under the precondition. -/
theorem frame_reference_finite : Cert.quiescent_SwaReferenceIdeal_pre_swa_finite := fun m ρ _ => frame_reference m ρ trivial

/-- The precondition says that every argument holds real numbers. -/
theorem reals_of_pre (x0 : FVec Ideal Cert.Pre_swa_finite.S8192x1024 .f32) (x1 : FVec Ideal Cert.Pre_swa_finite.S8192x256 .f32)
    (x2 : FVec Ideal Cert.Pre_swa_finite.S1x16 .f32) (x3 : FVec Ideal Cert.Pre_swa_finite.S8192x1024 .f32)
    (h : Cert.Pre_swa_finite.fn (F := Ideal) x0 x1 x2 x3 = fun _ => 1#1) :
    (∀ i, ∃ r : ℝ, x0 i = r) ∧ (∀ i, ∃ r : ℝ, x1 i = r) ∧ (∀ i, ∃ r : ℝ, x2 i = r) ∧ ∀ i, ∃ r : ℝ, x3 i = r := by
  have e := congrFun h ix0
  unfold Cert.Pre_swa_finite.fn at e
  haveI : Subsingleton Cert.Pre_swa_finite.S_.Idx := ⟨fun a b => funext fun k => k.elim0⟩
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ _ e0, real_of_all _ _ _ _ _ _ _ e1, real_of_all _ _ _ _ _ _ _ e2, real_of_all _ _ _ _ _ _ _ e3⟩

/-- On every device the arguments are real arrays. -/
theorem exists_args (m : (ℓ : Loc Cert.SwaKernelIdeal.nD Cert.SwaKernelIdeal.τ Cert.SwaKernelIdeal.sig) → Buf (Elt Ideal) ℓ)
    (hpre : Cert.Pre_SwaKernelIdeal_swa_finite m) (c : Dev Cert.SwaKernelIdeal.nD) :
    ∃ (Q D K : ℕ → ℕ → ℝ) (s : ℕ → ℝ), Args m c Q D K s := by
  obtain ⟨h0, h1, h2, h3⟩ := reals_of_pre _ _ _ _ (hpre c)
  obtain ⟨Q, hQ⟩ := exists_V2 _ h0
  obtain ⟨K, hK⟩ := exists_V2 _ h1
  obtain ⟨s, hs⟩ := exists_row _ h2
  obtain ⟨D, hD⟩ := exists_V2 _ h3
  exact ⟨Q, D, K, s, { q := hQ, k := hK, s := hs, d := hD }⟩

section
variable {Q D K : ℕ → ℕ → ℝ} {s : ℕ → ℝ} {a0 a3 : FVec Ideal Cert.SwaReferenceIdeal.S8192x1024 .f32}
    {a1 : FVec Ideal Cert.SwaReferenceIdeal.S8192x256 .f32} {a2 : FVec Ideal Cert.SwaReferenceIdeal.S1x16 .f32}
    (h0 : a0 = Cert.SwaRef.aq Q) (h1 : a1 = Cert.SwaRef.ak K) (h2 : a2 = Cert.SwaRef.ar s) (h3 : a3 = Cert.SwaRef.aq D)
include h0 h1 h2 h3

/-- The reference's gradient with respect to the queries. -/
theorem queries : val_main_v203 (F := Ideal) a0 a1 a2 a3 = V2 8192 1024 (φ := .bf16) fun i y => dqRow Q D K s (i / 128) (i % 128) y := by
  obtain ⟨M, hM⟩ := Cert.SwaRef.max_real Q K s
  rw [h0, h1, h2, h3]
  exact Cert.SwaRef.r203 hM

/-- The reference's gradient with respect to the keys and the values. -/
theorem keys : val_main_v204 (F := Ideal) a0 a1 a2 a3 = V2 8320 256 (φ := .f32) (kvSum Q D K s 64) := by
  obtain ⟨M, hM⟩ := Cert.SwaRef.max_real Q K s
  rw [h0, h1, h2, h3]
  exact Cert.SwaRef.r204 hM

/-- The reference's gradient with respect to the sinks. -/
theorem sinks : val_main_v206 (F := Ideal) a0 a1 a2 a3 = V2 1 128 (φ := .f32) fun _ => dsRow Q D K s := by
  obtain ⟨M, hM⟩ := Cert.SwaRef.max_real Q K s
  rw [h0, h1, h2, h3]
  exact Cert.SwaRef.r206 hM

end

/-- For finite arguments the call computes the gradients of sliding-window attention with respect to the queries, the keys and
    values, and the sinks, that differentiating the forward lines gives, over the extended reals. -/
theorem algebraic : Cert.algebraic_SwaKernelIdeal_SwaReferenceIdeal_pre_swa_finite := by
  intro m g m' g' hpre hagree
  choose Q D K s h using exists_args m hpre
  refine ⟨fun c => V2 8192 1024 (φ := .bf16) fun i y => dqRow (Q c) (D c) (K c) (s c) (i / 128) (i % 128) y,
    fun c => V2 8320 256 (φ := .f32) (kvSum (Q c) (D c) (K c) (s c) 64),
    fun c => V2 1 128 (φ := .f32) fun _ => dsRow (Q c) (D c) (K c) (s c),
    (θ_run _ _ _).mono (fun r hr c => ⟨(hr c).1, (hr c).2.1, (hr c).2.2.1, (hr c).2.2.2 _ (by simp), (hr c).2.2.2 _ (by simp),
      (hr c).2.2.2 _ (by simp), (hr c).2.2.2 _ (by simp)⟩) (run_value m g Q D K s h), ?_⟩
  refine (θ_run _ _ _).mono (fun r hr c => ?_) (Cert.SwaReferenceIdeal.Value.run m' g')
  obtain ⟨a0, a1, a2, a3⟩ := hagree c
  refine ⟨(hr c).1.trans ?_, (hr c).2.1.trans ?_, (hr c).2.2.1.trans ?_, (hr c).2.2.2⟩
  · exact (val_main_v203_eq (F := Ideal) _).trans (queries (a0.trans (h c).q) (a1.trans (h c).k) (a2.trans (h c).s) (a3.trans (h c).d))
  · exact (val_main_v204_eq (F := Ideal) _).trans (keys (a0.trans (h c).q) (a1.trans (h c).k) (a2.trans (h c).s) (a3.trans (h c).d))
  · exact (val_main_v206_eq (F := Ideal) _).trans (sinks (a0.trans (h c).q) (a1.trans (h c).k) (a2.trans (h c).s) (a3.trans (h c).d))

end Cert.SwaClaims
end
-- ==== Proof.LnMath.lean ====
/-
  Layer normalisation and its gradient over the reals, row by row of 1024 numbers.
-/
module

public import proofs.«01_k».proof.Proof.RealArrays

@[expose] public section

noncomputable section

namespace Cert.Ln

open Idealize.ShloMosaic Cert.Reals

/-- The mean of a row. -/
def mean (z : ℕ → ℕ → ℝ) (i : ℕ) : ℝ := (∑ k : Fin 1024, z i k.val) / 1024

/-- A row less its mean. -/
def cen (z : ℕ → ℕ → ℝ) (i j : ℕ) : ℝ := z i j - mean z i

/-- A row's variance, with the small number added. -/
def var (z : ℕ → ℕ → ℝ) (i : ℕ) : ℝ := mean (fun i j => cen z i j * cen z i j) i + eps

/-- One over the standard deviation. -/
def rsd (z : ℕ → ℕ → ℝ) (i : ℕ) : ℝ := (√(var z i))⁻¹

/-- The normalised row. -/
def xhat (z : ℕ → ℕ → ℝ) (i j : ℕ) : ℝ := cen z i j * rsd z i

/-- The gradient of the row, from the cotangent `e` of the normalised row, as the kernel writes it. -/
def grad (z e : ℕ → ℕ → ℝ) (i j : ℕ) : ℝ :=
  rsd z i * (e i j - mean e i - xhat z i j * mean (fun i j => e i j * xhat z i j) i)

/-- What the variance hands back to the centred row, as differentiation writes it. -/
def back (z e : ℕ → ℕ → ℝ) (i j : ℕ) : ℝ :=
  (∑ k : Fin 1024, cen z i k.val * e i k.val) * (-(1 / 2) * (rsd z i / var z i)) / 1024 * (2 * cen z i j)

/-- The gradient of the row as differentiation writes it. -/
def gradD (z e : ℕ → ℕ → ℝ) (i j : ℕ) : ℝ :=
  e i j * rsd z i + back z e i j + ((∑ k : Fin 1024, -(e i k.val * rsd z i)) + ∑ k : Fin 1024, -back z e i k.val) / 1024

theorem var_pos (z : ℕ → ℕ → ℝ) (i : ℕ) : 0 < var z i := by
  unfold var mean
  have : 0 ≤ ∑ k : Fin 1024, cen z i k.val * cen z i k.val := Finset.sum_nonneg fun k _ => mul_self_nonneg _
  have := eps_pos
  positivity

/-- A centred row sums to zero. -/
theorem sum_cen (z : ℕ → ℕ → ℝ) (i : ℕ) : ∑ k : Fin 1024, cen z i k.val = 0 := by
  simp only [cen, Finset.sum_sub_distrib, Finset.sum_const, Finset.card_univ, Fintype.card_fin, nsmul_eq_mul, mean]
  push_cast
  ring

/-- The two ways to write the gradient agree. -/
theorem gradD_eq (z e : ℕ → ℕ → ℝ) (i j : ℕ) : gradD z e i j = grad z e i j := by
  have hv : rsd z i * rsd z i * var z i = 1 := by
    have h : √(var z i) * √(var z i) = var z i := Real.mul_self_sqrt (var_pos z i).le
    have h0 : √(var z i) ≠ 0 := (Real.sqrt_pos.2 (var_pos z i)).ne'
    unfold rsd
    rw [← mul_inv, h, inv_mul_cancel₀ (var_pos z i).ne']
  have hd : rsd z i / var z i = rsd z i * (rsd z i * rsd z i) := by
    rw [div_eq_iff (var_pos z i).ne']
    linear_combination -rsd z i * hv
  have hb : ∑ k : Fin 1024, -back z e i k.val = 0 := by
    unfold back
    rw [Finset.sum_neg_distrib, ← Finset.mul_sum, ← Finset.mul_sum, sum_cen]
    ring
  have hx : ∑ k : Fin 1024, e i k.val * xhat z i k.val = rsd z i * ∑ k : Fin 1024, cen z i k.val * e i k.val := by
    rw [Finset.mul_sum]
    exact Finset.sum_congr rfl fun k _ => by unfold xhat; ring
  have he : ∑ k : Fin 1024, -(e i k.val * rsd z i) = -(rsd z i * ∑ k : Fin 1024, e i k.val) := by
    rw [Finset.sum_neg_distrib, Finset.mul_sum]
    exact congrArg _ (Finset.sum_congr rfl fun k _ => mul_comm _ _)
  unfold gradD grad
  rw [hb, he]
  unfold mean
  rw [hx]
  unfold back xhat
  rw [hd]
  ring

/-- One over the root of a positive real. -/
theorem rsqrt_pos {r : ℝ} (h : 0 < r) : Ideal.rsqrt (r : EReal) = (((√r)⁻¹ : ℝ) : EReal) := by
  rw [Ideal.rsqrt_coe, if_neg h.le.not_gt, if_neg h.ne']

theorem word_1024 : Ideal.ofBits .f32 0x44800000#32 = ((1024 : ℝ) : EReal) := by
  simp [Ideal.ofBits, Ideal.ieee]; norm_num [← EReal.coe_mul]
theorem word_inv : Ideal.ofBits .f32 0x3A800000#32 = ((1 / 1024 : ℝ) : EReal) := by
  simp [Ideal.ofBits, Ideal.ieee]; norm_num [← EReal.coe_mul]
theorem word_half : Ideal.ofBits .f32 0x3F000000#32 = ((1 / 2 : ℝ) : EReal) := by
  simp [Ideal.ofBits, Ideal.ieee]; norm_num [← EReal.coe_mul]
theorem word_neg_half : Ideal.ofBits .f32 0xBF000000#32 = ((-(1 / 2) : ℝ) : EReal) := by
  simp [Ideal.ofBits, Ideal.ieee]; norm_num [← EReal.coe_mul]
theorem word_two : Ideal.ofBits .f32 0x40000000#32 = ((2 : ℝ) : EReal) := by
  simp [Ideal.ofBits, Ideal.ieee]; norm_num [← EReal.coe_mul]
theorem div_1024 (r : ℝ) : Ideal.div (r : EReal) ((1024 : ℝ) : EReal) = ((r / 1024 : ℝ) : EReal) := by
  rw [Ideal.div_coe (by norm_num), ← EReal.coe_mul, mul_one_div]

end Cert.Ln
end
-- ==== Proof.LoBlocks.lean ====
/-
  What one grid point of the last product with its layer norm, loss and their gradients computes, over the reals.
-/
module

public import proofs.«01_k».proof.Defs
public import proofs.«01_k».proof.Proof.Gen.LoKernelIdeal.Value
public import proofs.«01_k».proof.Proof.LnMath
public import Idealize.ShloMosaic.Lib.Pipeline.ValueKit
public import Idealize.ShloMosaic.Lib.Pointwise

@[expose] public section

set_option maxRecDepth 16384

noncomputable section

namespace Cert.Lo

open Idealize.ShloMosaic Idealize.ShloMosaic.TcCoe Idealize.SL.Sem
open Cert.Reals Cert.Ln Cert.LoKernelIdeal Cert.LoKernelIdeal.Gen

/-- The residual sum before the layer norm. -/
def Z (Y X W : ℕ → ℕ → ℝ) (i j : ℕ) : ℝ := alpha * X i j + ∑ k : Fin 1024, Y i k.val * W k.val j

/-- The layer norm's output less the target. -/
def err (z t : ℕ → ℕ → ℝ) (g b : ℕ → ℝ) (i j : ℕ) : ℝ := xhat z i j * g j + b j - t i j

/-- The cotangent of the layer norm's output. -/
def dy (z t : ℕ → ℕ → ℝ) (g b : ℕ → ℝ) (i j : ℕ) : ℝ := err z t g b i j * (1 / 1024)

/-- The loss of one element. -/
def loss (z t : ℕ → ℕ → ℝ) (g b : ℕ → ℝ) (i j : ℕ) : ℝ := 1 / 2 * err z t g b i j * err z t g b i j * (1 / 1024)

variable (Y X W T : ℕ → ℕ → ℝ) (G B : ℕ → ℝ)

theorem cen_block : k0_pay9 (F := Ideal) (V2 1024 1024 (φ := .bf16) W) (V2 512 1024 (φ := .bf16) Y) (V2 512 1024 (φ := .f32) X)
    = V2 512 1024 (φ := .f32) (cen (Z Y X W)) := by
  funext x
  pointwise [k0_pay9]
  simp only [V2, alpha_eq, word_1024, ← EReal.coe_mul, sum_coe, ← EReal.coe_add, div_1024, ← EReal.coe_sub]
  rfl

theorem rsd_block : k0_pay10 (F := Ideal) (V2 1024 1024 (φ := .bf16) W) (V2 512 1024 (φ := .bf16) Y) (V2 512 1024 (φ := .f32) X)
    = V2 512 1 (φ := .f32) (fun i _ => rsd (Z Y X W) i) := by
  funext x
  pointwise [k0_pay10]
  rw [cen_block]
  simp only [V2, eps_eq, word_1024, ← EReal.coe_mul, sum_coe, ← EReal.coe_add, div_1024]
  exact rsqrt_pos (var_pos (Z Y X W) (x 0).val)

theorem xhat_block : k0_pay11 (F := Ideal) (V2 1024 1024 (φ := .bf16) W) (V2 512 1024 (φ := .bf16) Y) (V2 512 1024 (φ := .f32) X)
    = V2 512 1024 (φ := .f32) (xhat (Z Y X W)) := by
  funext x
  pointwise [k0_pay11]
  rw [cen_block, rsd_block]
  simp only [V2, ← EReal.coe_mul]
  rfl

theorem err_block : k0_pay12 (F := Ideal) (V2 1024 1024 (φ := .bf16) W) (V2 512 1024 (φ := .bf16) Y) (V2 512 1024 (φ := .f32) X)
      (V2 512 1024 (φ := .f32) T) (V2 1 1024 (φ := .f32) fun _ => G) (V2 1 1024 (φ := .f32) fun _ => B)
    = V2 512 1024 (φ := .f32) (err (Z Y X W) T G B) := by
  funext x
  pointwise [k0_pay12]
  rw [xhat_block]
  simp only [V2, ← EReal.coe_mul, ← EReal.coe_add, ← EReal.coe_sub]
  rfl

theorem dy_block : k0_pay13 (F := Ideal) (V2 1024 1024 (φ := .bf16) W) (V2 512 1024 (φ := .bf16) Y) (V2 512 1024 (φ := .f32) X)
      (V2 512 1024 (φ := .f32) T) (V2 1 1024 (φ := .f32) fun _ => G) (V2 1 1024 (φ := .f32) fun _ => B)
    = V2 512 1024 (φ := .f32) (dy (Z Y X W) T G B) := by
  funext x
  pointwise [k0_pay13]
  rw [err_block]
  simp only [V2, word_inv, ← EReal.coe_mul]
  rfl

theorem dxh_block : k0_pay14 (F := Ideal) (V2 1024 1024 (φ := .bf16) W) (V2 512 1024 (φ := .bf16) Y) (V2 512 1024 (φ := .f32) X)
      (V2 512 1024 (φ := .f32) T) (V2 1 1024 (φ := .f32) fun _ => G) (V2 1 1024 (φ := .f32) fun _ => B)
    = V2 512 1024 (φ := .f32) (fun i j => dy (Z Y X W) T G B i j * G j) := by
  funext x
  pointwise [k0_pay14]
  rw [dy_block]
  simp only [V2, ← EReal.coe_mul]
  rfl

theorem grad_block (z e : ℕ → ℕ → ℝ) : k0_pay1 (F := Ideal) (V2 512 1 (φ := .f32) fun i _ => rsd z i) (V2 512 1024 (φ := .f32) (xhat z)) (V2 512 1024 (φ := .f32) e)
    = V2 512 1024 (φ := .f32) (grad z e) := by
  funext x
  pointwise [k0_pay1]
  simp only [V2, word_1024, ← EReal.coe_mul, sum_coe, div_1024, ← EReal.coe_sub]
  rfl

theorem loss_block (z : ℕ → ℕ → ℝ) : k0_pay2 (F := Ideal) (V2 512 1024 (φ := .f32) (err z T G B))
    = V2 1 1024 (φ := .f32) (fun _ j => ∑ a : Fin 512, loss z T G B a.val j) := by
  funext x
  pointwise [k0_pay2]
  simp only [V2, word_half, word_inv, ← EReal.coe_mul, sum_coe]
  rfl

theorem dg_block (u v : ℕ → ℕ → ℝ) : k0_pay3 (F := Ideal) (V2 512 1024 (φ := .f32) u) (V2 512 1024 (φ := .f32) v)
    = V2 1 1024 (φ := .f32) (fun _ j => ∑ a : Fin 512, v a.val j * u a.val j) := by
  funext x
  pointwise [k0_pay3]
  simp only [V2, ← EReal.coe_mul, sum_coe]
  rfl

theorem db_block (v : ℕ → ℕ → ℝ) : k0_pay4 (F := Ideal) (V2 512 1024 (φ := .f32) v)
    = V2 1 1024 (φ := .f32) (fun _ j => ∑ a : Fin 512, v a.val j) := by
  funext x
  pointwise [k0_pay4]
  simp only [V2, sum_coe]
  rfl

end Cert.Lo
end
-- ==== Proof.LoValue.lean ====
/-
  The arrays that the last product with its layer norm, loss and their gradients leaves, over the reals.
-/
module

public import proofs.«01_k».proof.Defs
public import proofs.«01_k».proof.Proof.Gen.LoKernelIdeal.Value
public import proofs.«01_k».proof.Proof.LnMath
public import proofs.«01_k».proof.Proof.LoBlocks
public import Idealize.ShloMosaic.Lib.Pipeline.ValueKit
public import Idealize.ShloMosaic.Lib.Pointwise

@[expose] public section

set_option maxRecDepth 16384

noncomputable section

namespace Cert.Lo

open Idealize.ShloMosaic Idealize.ShloMosaic.TcCoe Idealize.SL.Sem
open Cert.Reals Cert.Ln Cert.LoKernelIdeal Cert.LoKernelIdeal.Gen
open Idealize.ShloMosaic.Pipeline (Window Dat)

/-- Where each window's block lies. -/
theorem idx (t : Fin grid0.N) : win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0]
    ∧ win0_8.index t = ![0, 0] ∧ win0_9.index t = ![0, 0] ∧ win0_10.index t = ![0, 0] := by
  revert t; decide +kernel

/-- Rows from `o` on. -/
def down (o : ℕ) (f : ℕ → ℕ → ℝ) (i j : ℕ) : ℝ := f (o + i) j

variable (m : (ℓ : Loc nD τ sig) → Buf (Elt Ideal) ℓ) (c : Dev nD) {Y W X T : ℕ → ℕ → ℝ} {G B : ℕ → ℝ}
    (hY : m ((c : Thread nD τ).loc main_arg0) = V2 8192 1024 (φ := .f32) Y) (hW : m ((c : Thread nD τ).loc main_arg1) = V3 1 1024 1024 (φ := .f32) fun _ => W)
    (hX : m ((c : Thread nD τ).loc main_arg2) = V2 8192 1024 (φ := .f32) X) (hT : m ((c : Thread nD τ).loc main_arg3) = V2 8192 1024 (φ := .f32) T)
    (hG : m ((c : Thread nD τ).loc main_arg4) = V2 1 1024 (φ := .f32) fun _ => G) (hB : m ((c : Thread nD τ).loc main_arg5) = V2 1 1024 (φ := .f32) fun _ => B)

include hY in
theorem V_v0 : V m c main_v0 = V2 8192 1024 (φ := .bf16) Y := by
  have : V m c main_v0 = truncf (F := Ideal) .bf16 (m ((c : Thread nD τ).loc main_arg0)) bitsLt_bf16_f32 := by
    unfold_abbrev_sides
    after_results
  rw [this, hY]
  rfl

include hW in
theorem V_v2 : V m c main_v2 = V2 1024 1024 (φ := .bf16) W := by
  have : V m c main_v2 = truncf (F := Ideal) .bf16 (shapeCast S1024x1024 (m ((c : Thread nD τ).loc main_arg1)) shapeCasts_S1x1024x1024_S1024x1024) bitsLt_bf16_f32 := by
    unfold_abbrev_sides
    after_results
    rfl
  rw [this, hW]
  have h := drop_unit (a := 1024) (b := 1024) (φ := .f32) (fun _ => W) shapeCasts_S1x1024x1024_S1024x1024
  rw [show shapeCast S1024x1024 (V3 1 1024 1024 (φ := .f32) fun _ => W) shapeCasts_S1x1024x1024_S1024x1024 = _ from h]
  rfl

include hY in
theorem iblk0 (t : Fin cfg0.N) : iblk m c 0 t = V2 512 1024 (φ := .bf16) (down (512 * t.val) Y) := by
  funext y
  refine (congrFun (V_v0 m c hY) ((win0_0.blk t).view.emb y)).trans ?_
  have e0 := Window.rect_emb_val win0_0 t y 0
  have e1 := Window.rect_emb_val win0_0 t y 1
  obtain ⟨i0, i1, i2, i3, i4, i5, _⟩ := idx t
  rw [i0] at e0 e1
  refine congrArg (fun r : ℝ => (r : EReal)) (congrArg₂ Y (e0.trans ?_) (e1.trans ?_))
  · show t.val * 512 + (y 0).val = 512 * t.val + (y 0).val; omega
  · show 0 * 1024 + (y 1).val = (y 1).val; omega

include hW in
theorem iblk1 (t : Fin cfg0.N) : iblk m c 1 t = V2 1024 1024 (φ := .bf16) (W) := by
  funext y
  refine (congrFun (V_v2 m c hW) ((win0_1.blk t).view.emb y)).trans ?_
  have e0 := Window.rect_emb_val win0_1 t y 0
  have e1 := Window.rect_emb_val win0_1 t y 1
  obtain ⟨i0, i1, i2, i3, i4, i5, _⟩ := idx t
  rw [i1] at e0 e1
  refine congrArg (fun r : ℝ => (r : EReal)) (congrArg₂ W (e0.trans ?_) (e1.trans ?_))
  · show 0 * 1024 + (y 0).val = (y 0).val; omega
  · show 0 * 1024 + (y 1).val = (y 1).val; omega

include hX in
theorem iblk2 (t : Fin cfg0.N) : iblk m c 2 t = V2 512 1024 (φ := .f32) (down (512 * t.val) X) := by
  funext y
  refine (congrFun ((V_main_arg2 m c).trans hX) ((win0_2.blk t).view.emb y)).trans ?_
  have e0 := Window.rect_emb_val win0_2 t y 0
  have e1 := Window.rect_emb_val win0_2 t y 1
  obtain ⟨i0, i1, i2, i3, i4, i5, _⟩ := idx t
  rw [i2] at e0 e1
  refine congrArg (fun r : ℝ => (r : EReal)) (congrArg₂ X (e0.trans ?_) (e1.trans ?_))
  · show t.val * 512 + (y 0).val = 512 * t.val + (y 0).val; omega
  · show 0 * 1024 + (y 1).val = (y 1).val; omega

include hT in
theorem iblk3 (t : Fin cfg0.N) : iblk m c 3 t = V2 512 1024 (φ := .f32) (down (512 * t.val) T) := by
  funext y
  refine (congrFun ((V_main_arg3 m c).trans hT) ((win0_3.blk t).view.emb y)).trans ?_
  have e0 := Window.rect_emb_val win0_3 t y 0
  have e1 := Window.rect_emb_val win0_3 t y 1
  obtain ⟨i0, i1, i2, i3, i4, i5, _⟩ := idx t
  rw [i3] at e0 e1
  refine congrArg (fun r : ℝ => (r : EReal)) (congrArg₂ T (e0.trans ?_) (e1.trans ?_))
  · show t.val * 512 + (y 0).val = 512 * t.val + (y 0).val; omega
  · show 0 * 1024 + (y 1).val = (y 1).val; omega

include hG in
theorem iblk4 (t : Fin cfg0.N) : iblk m c 4 t = V2 1 1024 (φ := .f32) fun _ => G := by
  funext y
  refine (congrFun ((V_main_arg4 m c).trans hG) ((win0_4.blk t).view.emb y)).trans ?_
  have e1 := Window.rect_emb_val win0_4 t y 1
  obtain ⟨i0, i1, i2, i3, i4, i5, _⟩ := idx t
  rw [i4] at e1
  refine congrArg (fun r : ℝ => (r : EReal)) (congrArg G (e1.trans ?_))
  show 0 * 1024 + (y 1).val = (y 1).val; omega

include hB in
theorem iblk5 (t : Fin cfg0.N) : iblk m c 5 t = V2 1 1024 (φ := .f32) fun _ => B := by
  funext y
  refine (congrFun ((V_main_arg5 m c).trans hB) ((win0_5.blk t).view.emb y)).trans ?_
  have e1 := Window.rect_emb_val win0_5 t y 1
  obtain ⟨i0, i1, i2, i3, i4, i5, _⟩ := idx t
  rw [i5] at e1
  refine congrArg (fun r : ℝ => (r : EReal)) (congrArg B (e1.trans ?_))
  show 0 * 1024 + (y 1).val = (y 1).val; omega

/-- Block sums of one element's loss, and of the two vectors' gradients, added up over the first `n` blocks of rows. -/
def upto (f : ℕ → ℕ → ℝ) (n : ℕ) : FVec Ideal S1x1024 .f32 := V2 1 1024 (φ := .f32) fun _ j => ∑ k ∈ Finset.range (512 * n), f k j

theorem upto_zero (f : ℕ → ℕ → ℝ) : V2 1 1024 (φ := .f32) (fun _ j => ∑ a : Fin 512, f (0 + a.val) j) = upto f 1 := by
  unfold upto
  refine V2_congr fun i _ j _ => ?_
  simp only [Nat.zero_add, mul_one]
  exact (Finset.sum_range (n := 512) fun k => f k j).symm

theorem upto_succ (f : ℕ → ℕ → ℝ) (n : ℕ) (j : ℕ) :
    (∑ k ∈ Finset.range (512 * n), f k j) + ∑ a : Fin 512, f (512 * n + a.val) j = ∑ k ∈ Finset.range (512 * (n + 1)), f k j := by
  rw [Nat.mul_succ, Finset.sum_range_add, Finset.sum_range fun k => f (512 * n + k) j]

include hY hW hX hT hG hB in
theorem dz_at (t : Fin cfg0.N) : k0_pay1 (F := Ideal) (k0_pay10 (iblk m c 1 t) (iblk m c 0 t) (iblk m c 2 t)) (k0_pay11 (iblk m c 1 t) (iblk m c 0 t) (iblk m c 2 t))
      (k0_pay14 (iblk m c 1 t) (iblk m c 0 t) (iblk m c 2 t) (iblk m c 3 t) (iblk m c 4 t) (iblk m c 5 t))
    = V2 512 1024 (φ := .f32) (down (512 * t.val) (grad (Z Y X W) fun i j => dy (Z Y X W) T G B i j * G j)) := by
  rw [iblk0 m c hY, iblk1 m c hW, iblk2 m c hX, iblk3 m c hT, iblk4 m c hG, iblk5 m c hB, rsd_block, xhat_block, dxh_block, grad_block]
  rfl

theorem lt16 (t : Fin cfg0.N) : t.val < 16 := lt_of_lt_of_eq t.isLt (show cfg0.N = 16 from N_0)

include hY hW hX hT hG hB in
/-- Each grid point leaves its rows of the gradient of `z`. -/
theorem after6 (t : Fin cfg0.N) : (dats m 0 c).after 6 t
    = V2 512 1024 (φ := .f32) (down (512 * t.val) (grad (Z Y X W) fun i j => dy (Z Y X W) T G B i j * G j)) := by
  rw [after0_6]
  have := lt16 t
  by_cases h0 : t.val % 16 = 0
  · rw [outsAt0_A m c t h0 (by omega)]
    frame_out
    exact dz_at m c hY hW hX hT hG hB t
  · rw [outsAt0_B m c t h0 (by omega)]
    frame_out
    exact dz_at m c hY hW hX hT hG hB t

include hY hW hX hT hG hB in
/-- And the same rows cast. -/
theorem after7 (t : Fin cfg0.N) : (dats m 0 c).after 7 t
    = V2 512 1024 (φ := .bf16) (down (512 * t.val) (grad (Z Y X W) fun i j => dy (Z Y X W) T G B i j * G j)) := by
  have key := congrArg (fun v : FVec Ideal S512x1024 .f32 => truncf .bf16 v bitsLt_bf16_f32) (dz_at m c hY hW hX hT hG hB t)
  rw [after0_7]
  have := lt16 t
  by_cases h0 : t.val % 16 = 0
  · rw [outsAt0_A m c t h0 (by omega)]
    frame_out
    exact key
  · rw [outsAt0_B m c t h0 (by omega)]
    frame_out
    exact key

include hY hW hX hT hG hB in
theorem loss_at (t : Fin cfg0.N) : k0_pay2 (F := Ideal) (k0_pay12 (iblk m c 1 t) (iblk m c 0 t) (iblk m c 2 t) (iblk m c 3 t) (iblk m c 4 t) (iblk m c 5 t))
    = V2 1 1024 (φ := .f32) (fun _ j => ∑ a : Fin 512, loss (Z Y X W) T G B (512 * t.val + a.val) j) := by
  rw [iblk0 m c hY, iblk1 m c hW, iblk2 m c hX, iblk3 m c hT, iblk4 m c hG, iblk5 m c hB, err_block, loss_block]
  rfl

include hY hW hX hT hG hB in
theorem dg_at (t : Fin cfg0.N) : k0_pay3 (F := Ideal) (k0_pay11 (iblk m c 1 t) (iblk m c 0 t) (iblk m c 2 t))
      (k0_pay13 (iblk m c 1 t) (iblk m c 0 t) (iblk m c 2 t) (iblk m c 3 t) (iblk m c 4 t) (iblk m c 5 t))
    = V2 1 1024 (φ := .f32) (fun _ j => ∑ a : Fin 512, (fun k j => dy (Z Y X W) T G B k j * xhat (Z Y X W) k j) (512 * t.val + a.val) j) := by
  rw [iblk0 m c hY, iblk1 m c hW, iblk2 m c hX, iblk3 m c hT, iblk4 m c hG, iblk5 m c hB, xhat_block, dy_block, dg_block]
  rfl

include hY hW hX hT hG hB in
theorem db_at (t : Fin cfg0.N) : k0_pay4 (F := Ideal) (k0_pay13 (iblk m c 1 t) (iblk m c 0 t) (iblk m c 2 t) (iblk m c 3 t) (iblk m c 4 t) (iblk m c 5 t))
    = V2 1 1024 (φ := .f32) (fun _ j => ∑ a : Fin 512, dy (Z Y X W) T G B (512 * t.val + a.val) j) := by
  rw [iblk0 m c hY, iblk1 m c hW, iblk2 m c hX, iblk3 m c hT, iblk4 m c hG, iblk5 m c hB, dy_block, db_block]
  rfl

/-- The first block's sums are the sums over the first block. -/
theorem upto_first (f : ℕ → ℕ → ℝ) (v : FVec Ideal S1x1024 .f32) (h : v = V2 1 1024 (φ := .f32) fun _ j => ∑ a : Fin 512, f (512 * 0 + a.val) j) : v = upto f 1 :=
  h.trans (upto_zero f)

/-- A further block's sums added. -/
theorem upto_next (f : ℕ → ℕ → ℝ) (n : ℕ) (u v : FVec Ideal S1x1024 .f32) (hu : u = upto f n)
    (h : v = V2 1 1024 (φ := .f32) fun _ j => ∑ a : Fin 512, f (512 * n + a.val) j) : addf u v = upto f (n + 1) := by
  rw [hu, h]
  funext x
  refine (EReal.coe_add _ _).symm.trans (congrArg (fun r : ℝ => (r : EReal)) (upto_succ f n _))

include hY hW hX hT hG hB in
/-- What the three accumulated outputs hold after `n + 1` points. -/
theorem sums_at : ∀ (n : ℕ) (hn : n < cfg0.N), (outsAt0 m c n hn).2.2.1 = upto (loss (Z Y X W) T G B) (n + 1)
    ∧ (outsAt0 m c n hn).2.2.2.1 = upto (fun k j => dy (Z Y X W) T G B k j * xhat (Z Y X W) k j) (n + 1)
    ∧ (outsAt0 m c n hn).2.2.2.2 = upto (dy (Z Y X W) T G B) (n + 1) := by
  intro n
  induction n with
  | zero =>
    intro hn
    have e := outsAt0_A m c ⟨0, hn⟩ rfl (by simp)
    dsimp only at e
    rw [e]
    refine ⟨?_, ?_, ?_⟩
    · frame_out
      exact upto_first _ _ (loss_at m c hY hW hX hT hG hB ⟨0, hn⟩)
    · frame_out
      exact upto_first _ _ (dg_at m c hY hW hX hT hG hB ⟨0, hn⟩)
    · frame_out
      exact upto_first _ _ (db_at m c hY hW hX hT hG hB ⟨0, hn⟩)
  | succ n ih =>
    intro hn
    obtain ⟨i1, i2, i3⟩ := ih (Nat.lt_of_succ_lt hn)
    have := lt16 ⟨n + 1, hn⟩
    have e := outsAt0_B m c ⟨n + 1, hn⟩ (by simp at this ⊢; omega) (by simp)
    dsimp only at e
    rw [e]
    refine ⟨?_, ?_, ?_⟩
    · frame_out
      exact upto_next _ _ _ _ ((shapeCast_self _ _).trans i1) (loss_at m c hY hW hX hT hG hB ⟨n + 1, hn⟩)
    · frame_out
      exact upto_next _ _ _ _ ((shapeCast_self _ _).trans i2) (dg_at m c hY hW hX hT hG hB ⟨n + 1, hn⟩)
    · frame_out
      exact upto_next _ _ _ _ ((shapeCast_self _ _).trans i3) (db_at m c hY hW hX hT hG hB ⟨n + 1, hn⟩)

include hY hW hX hT hG hB in
/-- The gradient of `z` after the run. -/
theorem final6 : (dats m 0 c).arrAt 6 cfg0.N
    = V2 8192 1024 (φ := .f32) (grad (Z Y X W) fun i j => dy (Z Y X W) T G B i j * G j) := by
  refine (dats m 0 c).arrAt_eq_of_covers 6 _ (by decide +kernel) fun t hf y => ?_
  blk_simp
  rw [after6 m c hY hW hX hT hG hB]
  have e0 := Window.rect_emb_val win0_6 t y 0
  have e1 := Window.rect_emb_val win0_6 t y 1
  obtain ⟨-, -, -, -, -, -, i6, i7, -⟩ := idx t
  rw [i6] at e0 e1
  refine congrArg (fun r : ℝ => (r : EReal)) (congrArg₂ (grad (Z Y X W) fun i j => dy (Z Y X W) T G B i j * G j) (Eq.trans ?_ e0.symm) (Eq.trans ?_ e1.symm))
  · show 512 * t.val + (y 0).val = t.val * 512 + (y 0).val; omega
  · show (y 1).val = 0 * 1024 + (y 1).val; omega

include hY hW hX hT hG hB in
/-- The same, cast. -/
theorem final7 : (dats m 0 c).arrAt 7 cfg0.N
    = V2 8192 1024 (φ := .bf16) (grad (Z Y X W) fun i j => dy (Z Y X W) T G B i j * G j) := by
  refine (dats m 0 c).arrAt_eq_of_covers 7 _ (by decide +kernel) fun t hf y => ?_
  blk_simp
  rw [after7 m c hY hW hX hT hG hB]
  have e0 := Window.rect_emb_val win0_7 t y 0
  have e1 := Window.rect_emb_val win0_7 t y 1
  obtain ⟨-, -, -, -, -, -, i6, i7, -⟩ := idx t
  rw [i7] at e0 e1
  refine congrArg (fun r : ℝ => (r : EReal)) (congrArg₂ (grad (Z Y X W) fun i j => dy (Z Y X W) T G B i j * G j) (Eq.trans ?_ e0.symm) (Eq.trans ?_ e1.symm))
  · show 512 * t.val + (y 0).val = t.val * 512 + (y 0).val; omega
  · show (y 1).val = 0 * 1024 + (y 1).val; omega

include hY hW hX hT hG hB in
/-- The loss, feature by feature, after the run. -/
theorem final8 : (dats m 0 c).arrAt 8 cfg0.N = upto (loss (Z Y X W) T G B) 16 := by
  refine (dats m 0 c).arrAt_eq_of_covers 8 _ (by decide +kernel) fun t hf y => ?_
  have ht : t.val = 15 := by revert t; decide +kernel
  blk_simp
  rw [after0_8, (sums_at m c hY hW hX hT hG hB t.val t.isLt).1, ht]
  have e1 := Window.rect_emb_val win0_8 t y 1
  obtain ⟨-, -, -, -, -, -, -, -, i8, i9, i10⟩ := idx t
  rw [i8] at e1
  refine congrArg (fun r : ℝ => (r : EReal)) (congrArg (fun j : ℕ => ∑ k ∈ Finset.range (512 * 16), (loss (Z Y X W) T G B) k j) (Eq.trans ?_ e1.symm))
  show (y 1).val = 0 * 1024 + (y 1).val; omega

include hY hW hX hT hG hB in
/-- The gradient of the scale after the run. -/
theorem final9 : (dats m 0 c).arrAt 9 cfg0.N = upto (fun k j => dy (Z Y X W) T G B k j * xhat (Z Y X W) k j) 16 := by
  refine (dats m 0 c).arrAt_eq_of_covers 9 _ (by decide +kernel) fun t hf y => ?_
  have ht : t.val = 15 := by revert t; decide +kernel
  blk_simp
  rw [after0_9, (sums_at m c hY hW hX hT hG hB t.val t.isLt).2.1, ht]
  have e1 := Window.rect_emb_val win0_9 t y 1
  obtain ⟨-, -, -, -, -, -, -, -, i8, i9, i10⟩ := idx t
  rw [i9] at e1
  refine congrArg (fun r : ℝ => (r : EReal)) (congrArg (fun j : ℕ => ∑ k ∈ Finset.range (512 * 16), (fun k j => dy (Z Y X W) T G B k j * xhat (Z Y X W) k j) k j) (Eq.trans ?_ e1.symm))
  show (y 1).val = 0 * 1024 + (y 1).val; omega

include hY hW hX hT hG hB in
/-- The gradient of the shift after the run. -/
theorem final10 : (dats m 0 c).arrAt 10 cfg0.N = upto (dy (Z Y X W) T G B) 16 := by
  refine (dats m 0 c).arrAt_eq_of_covers 10 _ (by decide +kernel) fun t hf y => ?_
  have ht : t.val = 15 := by revert t; decide +kernel
  blk_simp
  rw [after0_10, (sums_at m c hY hW hX hT hG hB t.val t.isLt).2.2, ht]
  have e1 := Window.rect_emb_val win0_10 t y 1
  obtain ⟨-, -, -, -, -, -, -, -, i8, i9, i10⟩ := idx t
  rw [i10] at e1
  refine congrArg (fun r : ℝ => (r : EReal)) (congrArg (fun j : ℕ => ∑ k ∈ Finset.range (512 * 16), (dy (Z Y X W) T G B) k j) (Eq.trans ?_ e1.symm))
  show (y 1).val = 0 * 1024 + (y 1).val; omega

/-- All blocks' sums together. -/
theorem upto_all (f : ℕ → ℕ → ℝ) : upto f 16 = V2 1 1024 (φ := .f32) fun _ j => ∑ k : Fin 8192, f k.val j := by
  unfold upto
  refine V2_congr fun i _ j _ => ?_
  exact Finset.sum_range (n := 8192) fun k => f k j

end Cert.Lo
end
-- ==== Proof.LoReference.lean ====
module
public import proofs.«01_k».proof.Proof.LoBlocks
public import proofs.«01_k».proof.Proof.Gen.LoReferenceIdeal.Read
public import proofs.«01_k».proof.Proof.Gen.LoReferenceIdeal.Run
import Idealize.ShloMosaic.Lib.Pointwise

set_option maxRecDepth 16384

/-! What each line of the plain reference computes, on real arguments. -/

@[expose] public section
noncomputable section

namespace Cert.LoRef

open Idealize.ShloMosaic Idealize.ShloMosaic.TcCoe Idealize.SL.Sem
open Cert.Reals Cert.Ln Cert.Lo Cert.LoReferenceIdeal Cert.LoReferenceIdeal.Read

variable (Y X W T : ℕ → ℕ → ℝ) (G B : ℕ → ℝ)

/-- The residual sum. -/
theorem r4 : val_main_v4 (F := Ideal) (V2 8192 1024 (φ := .f32) Y) (V3 1 1024 1024 (φ := .f32) fun _ => W) (V2 8192 1024 (φ := .f32) X)
    = V2 8192 1024 (φ := .f32) (Z Y X W) := by
  funext x
  pointwise [val_main_v4, val_main_v0, val_main_v1, val_main_v2, val_main_v3, val_main_cst]
  simp only [V2, V3, ← EReal.coe_mul, sum_coe, ← EReal.coe_add, ← EReal.coe_sub, ← EReal.coe_neg, div_1024, word_1024, word_half, word_neg_half, word_two, alpha_eq, eps_eq]
  rfl

theorem r8 : val_main_v8 (F := Ideal) (V2 8192 1024 (φ := .f32) Y) (V3 1 1024 1024 (φ := .f32) fun _ => W) (V2 8192 1024 (φ := .f32) X)
    = V2 8192 1 (φ := .f32) (fun i _ => mean (Z Y X W) i) := by
  funext x
  pointwise [val_main_v8, val_main_v5, val_main_v6, val_main_v7, val_main_cst_0, val_main_cst_1]
  simp only [r4, V2, ← EReal.coe_mul, sum_coe, ← EReal.coe_add, ← EReal.coe_sub, ← EReal.coe_neg, div_1024, word_1024, word_half, word_neg_half, word_two, alpha_eq, eps_eq]
  rfl

theorem r10 : val_main_v10 (F := Ideal) (V2 8192 1024 (φ := .f32) Y) (V3 1 1024 1024 (φ := .f32) fun _ => W) (V2 8192 1024 (φ := .f32) X)
    = V2 8192 1024 (φ := .f32) (cen (Z Y X W)) := by
  funext x
  pointwise [val_main_v10, val_main_v9]
  simp only [r4, r8, V2, ← EReal.coe_mul, sum_coe, ← EReal.coe_add, ← EReal.coe_sub, ← EReal.coe_neg, div_1024, word_1024, word_half, word_neg_half, word_two, alpha_eq, eps_eq]
  rfl

theorem r13 : val_main_v13 (F := Ideal) (V2 8192 1024 (φ := .f32) Y) (V3 1 1024 1024 (φ := .f32) fun _ => W) (V2 8192 1024 (φ := .f32) X)
    = V2 8192 1024 (φ := .f32) (fun i j => 2 * cen (Z Y X W) i j) := by
  funext x
  pointwise [val_main_v13, val_main_v12, val_main_cst_2]
  simp only [r10, V2, ← EReal.coe_mul, sum_coe, ← EReal.coe_add, ← EReal.coe_sub, ← EReal.coe_neg, div_1024, word_1024, word_half, word_neg_half, word_two, alpha_eq, eps_eq]

theorem r17 : val_main_v17 (F := Ideal) (V2 8192 1024 (φ := .f32) Y) (V3 1 1024 1024 (φ := .f32) fun _ => W) (V2 8192 1024 (φ := .f32) X)
    = V2 8192 1 (φ := .f32) (fun i _ => mean (fun i j => cen (Z Y X W) i j * cen (Z Y X W) i j) i) := by
  funext x
  pointwise [val_main_v17, val_main_v11, val_main_v14, val_main_v15, val_main_v16, val_main_cst_3, val_main_cst_4]
  simp only [r10, V2, ← EReal.coe_mul, sum_coe, ← EReal.coe_add, ← EReal.coe_sub, ← EReal.coe_neg, div_1024, word_1024, word_half, word_neg_half, word_two, alpha_eq, eps_eq]
  rfl

theorem r19 : val_main_v19 (F := Ideal) (V2 8192 1024 (φ := .f32) Y) (V3 1 1024 1024 (φ := .f32) fun _ => W) (V2 8192 1024 (φ := .f32) X)
    = V2 8192 1024 (φ := .f32) (cen (Z Y X W)) := by
  funext x
  pointwise [val_main_v19, val_main_v18]
  simp only [r4, r8, V2, ← EReal.coe_mul, sum_coe, ← EReal.coe_add, ← EReal.coe_sub, ← EReal.coe_neg, div_1024, word_1024, word_half, word_neg_half, word_two, alpha_eq, eps_eq]
  rfl

theorem r21 : val_main_v21 (F := Ideal) (V2 8192 1024 (φ := .f32) Y) (V3 1 1024 1024 (φ := .f32) fun _ => W) (V2 8192 1024 (φ := .f32) X)
    = V2 8192 1 (φ := .f32) (fun i _ => var (Z Y X W) i) := by
  funext x
  pointwise [val_main_v21, val_main_v20, val_main_cst_5]
  simp only [r17, V2, ← EReal.coe_mul, sum_coe, ← EReal.coe_add, ← EReal.coe_sub, ← EReal.coe_neg, div_1024, word_1024, word_half, word_neg_half, word_two, alpha_eq, eps_eq]
  rfl

theorem r22 : val_main_v22 (F := Ideal) (V2 8192 1024 (φ := .f32) Y) (V3 1 1024 1024 (φ := .f32) fun _ => W) (V2 8192 1024 (φ := .f32) X)
    = V2 8192 1 (φ := .f32) (fun i _ => rsd (Z Y X W) i) := by
  funext x
  pointwise [val_main_v22]
  simp only [r21, V2, ← EReal.coe_mul, sum_coe, ← EReal.coe_add, ← EReal.coe_sub, ← EReal.coe_neg, div_1024, word_1024, word_half, word_neg_half, word_two, alpha_eq, eps_eq]
  exact rsqrt_pos (var_pos (Z Y X W) (x 0).val)

theorem r25 : val_main_v25 (F := Ideal) (V2 8192 1024 (φ := .f32) Y) (V3 1 1024 1024 (φ := .f32) fun _ => W) (V2 8192 1024 (φ := .f32) X)
    = V2 8192 1 (φ := .f32) (fun i _ => -(1 / 2) * (rsd (Z Y X W) i / var (Z Y X W) i)) := by
  funext x
  pointwise [val_main_v25, val_main_v24, val_main_v23, val_main_cst_6]
  simp only [r21, r22, Ideal.div_coe (var_pos (Z Y X W) _).ne', mul_one_div, V2, ← EReal.coe_mul, sum_coe, ← EReal.coe_add, ← EReal.coe_sub, ← EReal.coe_neg, div_1024, word_1024, word_half, word_neg_half, word_two, alpha_eq, eps_eq]

theorem r27 : val_main_v27 (F := Ideal) (V2 8192 1024 (φ := .f32) Y) (V3 1 1024 1024 (φ := .f32) fun _ => W) (V2 8192 1024 (φ := .f32) X)
    = V2 8192 1024 (φ := .f32) (xhat (Z Y X W)) := by
  funext x
  pointwise [val_main_v27, val_main_v26]
  simp only [r19, r22, V2, ← EReal.coe_mul, sum_coe, ← EReal.coe_add, ← EReal.coe_sub, ← EReal.coe_neg, div_1024, word_1024, word_half, word_neg_half, word_two, alpha_eq, eps_eq]
  rfl

theorem r32 : val_main_v32 (F := Ideal) (V2 8192 1024 (φ := .f32) Y) (V3 1 1024 1024 (φ := .f32) fun _ => W) (V2 8192 1024 (φ := .f32) X) (V2 8192 1024 (φ := .f32) T) (V2 1 1024 (φ := .f32) fun _ => G) (V2 1 1024 (φ := .f32) fun _ => B)
    = V2 8192 1024 (φ := .f32) (err (Z Y X W) T G B) := by
  funext x
  pointwise [val_main_v32, val_main_v28, val_main_v29, val_main_v30, val_main_v31]
  simp only [r27, V2, ← EReal.coe_mul, sum_coe, ← EReal.coe_add, ← EReal.coe_sub, ← EReal.coe_neg, div_1024, word_1024, word_half, word_neg_half, word_two, alpha_eq, eps_eq]
  rfl

theorem r35 : val_main_v35 (F := Ideal) (V2 8192 1024 (φ := .f32) Y) (V3 1 1024 1024 (φ := .f32) fun _ => W) (V2 8192 1024 (φ := .f32) X) (V2 8192 1024 (φ := .f32) T) (V2 1 1024 (φ := .f32) fun _ => G) (V2 1 1024 (φ := .f32) fun _ => B)
    = V2 8192 1024 (φ := .f32) (fun i j => 2 * err (Z Y X W) T G B i j) := by
  funext x
  pointwise [val_main_v35, val_main_v34, val_main_cst_7]
  simp only [r32, V2, ← EReal.coe_mul, sum_coe, ← EReal.coe_add, ← EReal.coe_sub, ← EReal.coe_neg, div_1024, word_1024, word_half, word_neg_half, word_two, alpha_eq, eps_eq]

/-- The loss, feature by feature. -/
theorem r41 : val_main_v41 (F := Ideal) (V2 8192 1024 (φ := .f32) Y) (V3 1 1024 1024 (φ := .f32) fun _ => W) (V2 8192 1024 (φ := .f32) X) (V2 8192 1024 (φ := .f32) T) (V2 1 1024 (φ := .f32) fun _ => G) (V2 1 1024 (φ := .f32) fun _ => B)
    = V2 1 1024 (φ := .f32) (fun _ j => ∑ k : Fin 8192, loss (Z Y X W) T G B k.val j) := by
  funext x
  pointwise [val_main_v41, val_main_v40, val_main_v39, val_main_v38, val_main_v37, val_main_v36, val_main_v33, val_main_cst_8, val_main_cst_9, val_main_cst_10]
  simp only [r32, V2, ← EReal.coe_mul, sum_coe, ← EReal.coe_add, ← EReal.coe_sub, ← EReal.coe_neg, div_1024, word_1024, word_half, word_neg_half, word_two, alpha_eq, eps_eq]
  refine congrArg (fun r : ℝ => (r : EReal)) ((Finset.mul_sum _ _ _).trans (Finset.sum_congr rfl fun k _ => ?_))
  show 1 / 2 * (err (Z Y X W) T G B k.val (x 1).val * err (Z Y X W) T G B k.val (x 1).val / 1024)
    = 1 / 2 * err (Z Y X W) T G B k.val (x 1).val * err (Z Y X W) T G B k.val (x 1).val * (1 / 1024)
  ring

theorem r49 : val_main_v49 (F := Ideal) (V2 8192 1024 (φ := .f32) Y) (V3 1 1024 1024 (φ := .f32) fun _ => W) (V2 8192 1024 (φ := .f32) X) (V2 8192 1024 (φ := .f32) T) (V2 1 1024 (φ := .f32) fun _ => G) (V2 1 1024 (φ := .f32) fun _ => B)
    = V2 8192 1024 (φ := .f32) (dy (Z Y X W) T G B) := by
  funext x
  pointwise [val_main_v49, val_main_v48, val_main_v47, val_main_v46, val_main_v45, val_main_v44, val_main_v43, val_main_v42, val_main_cst_11, val_main_cst_12, val_main_cst_13, val_main_cst_14]
  simp only [r35, V2, ← EReal.coe_mul, sum_coe, ← EReal.coe_add, ← EReal.coe_sub, ← EReal.coe_neg, div_1024, word_1024, word_half, word_neg_half, word_two, alpha_eq, eps_eq]
  refine congrArg (fun r : ℝ => (r : EReal)) ?_
  simp only [dy]
  ring

theorem r51 : val_main_v51 (F := Ideal) (V2 8192 1024 (φ := .f32) Y) (V3 1 1024 1024 (φ := .f32) fun _ => W) (V2 8192 1024 (φ := .f32) X) (V2 8192 1024 (φ := .f32) T) (V2 1 1024 (φ := .f32) fun _ => G) (V2 1 1024 (φ := .f32) fun _ => B)
    = V2 1 1024 (φ := .f32) (fun _ j => ∑ k : Fin 8192, dy (Z Y X W) T G B k.val j) := by
  funext x
  pointwise [val_main_v51, val_main_v50, val_main_cst_15]
  simp only [r49, V2, ← EReal.coe_mul, sum_coe, ← EReal.coe_add, ← EReal.coe_sub, ← EReal.coe_neg, div_1024, word_1024, word_half, word_neg_half, word_two, alpha_eq, eps_eq]
  rfl

theorem r54 : val_main_v54 (F := Ideal) (V2 8192 1024 (φ := .f32) Y) (V3 1 1024 1024 (φ := .f32) fun _ => W) (V2 8192 1024 (φ := .f32) X) (V2 8192 1024 (φ := .f32) T) (V2 1 1024 (φ := .f32) fun _ => G) (V2 1 1024 (φ := .f32) fun _ => B)
    = V2 1 1024 (φ := .f32) (fun _ j => ∑ k : Fin 8192, xhat (Z Y X W) k.val j * dy (Z Y X W) T G B k.val j) := by
  funext x
  pointwise [val_main_v54, val_main_v53, val_main_v52, val_main_cst_16]
  simp only [r49, r27, V2, ← EReal.coe_mul, sum_coe, ← EReal.coe_add, ← EReal.coe_sub, ← EReal.coe_neg, div_1024, word_1024, word_half, word_neg_half, word_two, alpha_eq, eps_eq]
  rfl

theorem r56 : val_main_v56 (F := Ideal) (V2 8192 1024 (φ := .f32) Y) (V3 1 1024 1024 (φ := .f32) fun _ => W) (V2 8192 1024 (φ := .f32) X) (V2 8192 1024 (φ := .f32) T) (V2 1 1024 (φ := .f32) fun _ => G) (V2 1 1024 (φ := .f32) fun _ => B)
    = V2 8192 1024 (φ := .f32) (fun i j => dy (Z Y X W) T G B i j * G j) := by
  funext x
  pointwise [val_main_v56, val_main_v55]
  simp only [r49, V2, ← EReal.coe_mul, sum_coe, ← EReal.coe_add, ← EReal.coe_sub, ← EReal.coe_neg, div_1024, word_1024, word_half, word_neg_half, word_two, alpha_eq, eps_eq]
  rfl

theorem r61 : val_main_v61 (F := Ideal) (V2 8192 1024 (φ := .f32) Y) (V3 1 1024 1024 (φ := .f32) fun _ => W) (V2 8192 1024 (φ := .f32) X) (V2 8192 1024 (φ := .f32) T) (V2 1 1024 (φ := .f32) fun _ => G) (V2 1 1024 (φ := .f32) fun _ => B)
    = V2 8192 1024 (φ := .f32) (fun i j => (fun i j => dy (Z Y X W) T G B i j * G j) i j * rsd (Z Y X W) i) := by
  funext x
  pointwise [val_main_v61, val_main_v60]
  simp only [r56, r22, V2, ← EReal.coe_mul, sum_coe, ← EReal.coe_add, ← EReal.coe_sub, ← EReal.coe_neg, div_1024, word_1024, word_half, word_neg_half, word_two, alpha_eq, eps_eq]
  rfl

theorem r70 : val_main_v70 (F := Ideal) (V2 8192 1024 (φ := .f32) Y) (V3 1 1024 1024 (φ := .f32) fun _ => W) (V2 8192 1024 (φ := .f32) X) (V2 8192 1024 (φ := .f32) T) (V2 1 1024 (φ := .f32) fun _ => G) (V2 1 1024 (φ := .f32) fun _ => B)
    = V2 8192 1024 (φ := .f32) (back (Z Y X W) (fun i j => dy (Z Y X W) T G B i j * G j)) := by
  funext x
  pointwise [val_main_v70, val_main_v69, val_main_v68, val_main_v67, val_main_v66, val_main_v62, val_main_v59, val_main_v58, val_main_v57, val_main_cst_17, val_main_cst_19, val_main_cst_20]
  simp only [r19, r56, r25, r13, Finset.univ_unique, Finset.sum_singleton, V2, ← EReal.coe_mul, sum_coe, ← EReal.coe_add, ← EReal.coe_sub, ← EReal.coe_neg, div_1024, word_1024, word_half, word_neg_half, word_two, alpha_eq, eps_eq]
  rfl

/-- The gradient of the residual sum, as differentiation writes it. -/
theorem r80 : val_main_v80 (F := Ideal) (V2 8192 1024 (φ := .f32) Y) (V3 1 1024 1024 (φ := .f32) fun _ => W) (V2 8192 1024 (φ := .f32) X) (V2 8192 1024 (φ := .f32) T) (V2 1 1024 (φ := .f32) fun _ => G) (V2 1 1024 (φ := .f32) fun _ => B)
    = V2 8192 1024 (φ := .f32) (gradD (Z Y X W) (fun i j => dy (Z Y X W) T G B i j * G j)) := by
  funext x
  pointwise [val_main_v80, val_main_v79, val_main_v78, val_main_v77, val_main_v76, val_main_v75, val_main_v74, val_main_v73, val_main_v72, val_main_v71, val_main_v65, val_main_v64, val_main_v63, val_main_cst_18, val_main_cst_21, val_main_cst_22, val_main_cst_23]
  simp only [r61, r70, Finset.univ_unique, Finset.sum_singleton, V2, ← EReal.coe_mul, sum_coe, ← EReal.coe_add, ← EReal.coe_sub, ← EReal.coe_neg, div_1024, word_1024, word_half, word_neg_half, word_two, alpha_eq, eps_eq]
  rfl

end Cert.LoRef
end
-- ==== Proof.Lo.lean ====
module

public import proofs.«01_k».proof.Defs
public import proofs.«01_k».proof.Proof.Gen.LoKernel.Frame
public import proofs.«01_k».proof.Proof.Gen.Pre_lo_finite
public import proofs.«01_k».proof.Proof.LoValue
public import proofs.«01_k».proof.Proof.LoReference

@[expose] public section

set_option maxRecDepth 16384

/-! The claims about the output projection of the last layer: the product, the residual sum, the layer norm and the loss, with
    the gradients through the loss and the layer norm. -/

noncomputable section

namespace Cert.LoClaims

open Idealize.ShloMosaic Idealize.ShloMosaic.TcCoe Idealize.SL.Sem
open Cert.Reals Cert.Ln Cert.Lo Cert.LoKernelIdeal Cert.LoKernelIdeal.Gen

/-- The call terminates with its arguments unchanged and its semaphores at zero, on bits. -/
theorem frame_kernel : Cert.quiescent_LoKernel := fun m ρ _ => Cert.LoKernel.Gen.frame m ρ

/-- The same over the extended reals. -/
theorem frame_ideal : Cert.quiescent_LoKernelIdeal := fun m ρ _ => Cert.LoKernelIdeal.Gen.frame m ρ

/-- The same under the precondition. -/
theorem frame_ideal_finite : Cert.quiescent_LoKernelIdeal_pre_lo_finite := fun m ρ _ => Cert.LoKernelIdeal.Gen.frame m ρ

/-- The reference terminates with its arguments unchanged. -/
theorem frame_reference : Cert.quiescent_LoReferenceIdeal := fun m ρ _ =>
  (θ_run Cert.LoReferenceIdeal.defs _ _).mono (fun r h => ⟨fun c => (h c).2.2.2.2.2, sem_eq_zero_of_no_sems (by rfl) r.2⟩)
    (Cert.LoReferenceIdeal.Value.run m ρ)

/-- The same under the precondition. -/
theorem frame_reference_finite : Cert.quiescent_LoReferenceIdeal_pre_lo_finite := fun m ρ _ => frame_reference m ρ trivial

/-- The precondition says that every argument holds real numbers. -/
theorem reals_of_pre (x0 : FVec Ideal S8192x1024 .f32) (x1 : FVec Ideal S1x1024x1024 .f32) (x2 x3 : FVec Ideal S8192x1024 .f32) (x4 x5 : FVec Ideal S1x1024 .f32)
    (h : Cert.Pre_lo_finite.fn (F := Ideal) x0 x1 x2 x3 x4 x5 = fun _ => 1#1) :
    (∀ i, ∃ r : ℝ, x0 i = r) ∧ (∀ i, ∃ r : ℝ, x1 i = r) ∧ (∀ i, ∃ r : ℝ, x2 i = r) ∧ (∀ i, ∃ r : ℝ, x3 i = r) ∧ (∀ i, ∃ r : ℝ, x4 i = r) ∧ ∀ i, ∃ r : ℝ, x5 i = r := by
  have e := congrFun h ix0
  unfold Cert.Pre_lo_finite.fn at e
  haveI : Subsingleton Cert.Pre_lo_finite.S_.Idx := ⟨fun a b => funext fun k => k.elim0⟩
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ _ e0, real_of_all _ _ _ _ _ _ _ e1, real_of_all _ _ _ _ _ _ _ e2, real_of_all _ _ _ _ _ _ _ e3,
    real_of_all _ _ _ _ _ _ _ e4, real_of_all _ _ _ _ _ _ _ e5⟩

section
variable (m' : (ℓ : Loc Cert.LoReferenceIdeal.nD Cert.LoReferenceIdeal.τ Cert.LoReferenceIdeal.sig) → Buf (Elt Ideal) ℓ) (c : Dev Cert.LoReferenceIdeal.nD) {Y W X T : ℕ → ℕ → ℝ} {G B : ℕ → ℝ}
    (hY : m' ((c.tc : Thread Cert.LoReferenceIdeal.nD Cert.LoReferenceIdeal.τ).loc Cert.LoReferenceIdeal.main_arg0) = V2 8192 1024 (φ := .f32) Y)
    (hW : m' ((c.tc : Thread Cert.LoReferenceIdeal.nD Cert.LoReferenceIdeal.τ).loc Cert.LoReferenceIdeal.main_arg1) = V3 1 1024 1024 (φ := .f32) fun _ => W)
    (hX : m' ((c.tc : Thread Cert.LoReferenceIdeal.nD Cert.LoReferenceIdeal.τ).loc Cert.LoReferenceIdeal.main_arg2) = V2 8192 1024 (φ := .f32) X)
    (hT : m' ((c.tc : Thread Cert.LoReferenceIdeal.nD Cert.LoReferenceIdeal.τ).loc Cert.LoReferenceIdeal.main_arg3) = V2 8192 1024 (φ := .f32) T)
    (hG : m' ((c.tc : Thread Cert.LoReferenceIdeal.nD Cert.LoReferenceIdeal.τ).loc Cert.LoReferenceIdeal.main_arg4) = V2 1 1024 (φ := .f32) fun _ => G)
    (hB : m' ((c.tc : Thread Cert.LoReferenceIdeal.nD Cert.LoReferenceIdeal.τ).loc Cert.LoReferenceIdeal.main_arg5) = V2 1 1024 (φ := .f32) fun _ => B)
include hY hW hX hT hG hB

theorem result80 : Cert.LoReferenceIdeal.Value.res_main_v80 m' c = V2 8192 1024 (φ := .f32) (grad (Z Y X W) fun i j => dy (Z Y X W) T G B i j * G j) := by
  have hd : gradD (Z Y X W) (fun i j => dy (Z Y X W) T G B i j * G j) = grad (Z Y X W) fun i j => dy (Z Y X W) T G B i j * G j :=
    funext fun i => funext fun j => gradD_eq _ _ i j
  rw [Cert.LoReferenceIdeal.Read.val_main_v80_eq, hY, hW, hX, hT, hG, hB, ← hd]
  exact Cert.LoRef.r80 Y X W T G B

theorem result81 : Cert.LoReferenceIdeal.Value.res_main_v81 m' c = V2 8192 1024 (φ := .bf16) (grad (Z Y X W) fun i j => dy (Z Y X W) T G B i j * G j) := by
  have hd : gradD (Z Y X W) (fun i j => dy (Z Y X W) T G B i j * G j) = grad (Z Y X W) fun i j => dy (Z Y X W) T G B i j * G j :=
    funext fun i => funext fun j => gradD_eq _ _ i j
  rw [Cert.LoReferenceIdeal.Read.val_main_v81_eq, hY, hW, hX, hT, hG, hB, ← hd]
  exact congrArg (fun v : FVec Ideal S8192x1024 .f32 => truncf .bf16 v bitsLt_bf16_f32) (Cert.LoRef.r80 Y X W T G B)

theorem result41 : Cert.LoReferenceIdeal.Value.res_main_v41 m' c = upto (loss (Z Y X W) T G B) 16 := by
  rw [Cert.LoReferenceIdeal.Read.val_main_v41_eq, hY, hW, hX, hT, hG, hB, upto_all]
  exact Cert.LoRef.r41 Y X W T G B

theorem result54 : Cert.LoReferenceIdeal.Value.res_main_v54 m' c = upto (fun k j => dy (Z Y X W) T G B k j * xhat (Z Y X W) k j) 16 := by
  rw [Cert.LoReferenceIdeal.Read.val_main_v54_eq, hY, hW, hX, hT, hG, hB, upto_all]
  refine (Cert.LoRef.r54 Y X W T G B).trans (V2_congr fun i _ j _ => ?_)
  exact Finset.sum_congr rfl fun k _ => mul_comm _ _

theorem result51 : Cert.LoReferenceIdeal.Value.res_main_v51 m' c = upto (dy (Z Y X W) T G B) 16 := by
  rw [Cert.LoReferenceIdeal.Read.val_main_v51_eq, hY, hW, hX, hT, hG, hB, upto_all]
  exact Cert.LoRef.r51 Y X W T G B

end

/-- For finite arguments the call computes the loss of every feature, and the gradients with respect to the residual sum and the
    layer norm's scale and shift, that differentiating the forward lines gives, over the extended reals. -/
theorem algebraic : Cert.algebraic_LoKernelIdeal_LoReferenceIdeal_pre_lo_finite := by
  intro m g m' g' hpre hagree
  refine ⟨fun c => _, fun c => _, fun c => _, fun c => _, fun c => _, Cert.LoKernelIdeal.Value.run_blocks m g, ?_⟩
  refine (θ_run _ _ _).mono (fun r h c => ?_) (Cert.LoReferenceIdeal.Value.run m' g')
  obtain ⟨a0, a1, a2, a3, a4, a5⟩ := hagree c
  obtain ⟨h0, h1, h2, h3, h4, h5⟩ := reals_of_pre _ _ _ _ _ _ (hpre c)
  obtain ⟨Y, hY⟩ := exists_V2 _ h0
  obtain ⟨W, hW⟩ := exists_one _ h1
  obtain ⟨X, hX⟩ := exists_V2 _ h2
  obtain ⟨T, hT⟩ := exists_V2 _ h3
  obtain ⟨G, hG⟩ := exists_row _ h4
  obtain ⟨B, hB⟩ := exists_row _ h5
  exact ⟨(h c).1.trans ((result80 m' c (a0.trans hY) (a1.trans hW) (a2.trans hX) (a3.trans hT) (a4.trans hG) (a5.trans hB)).trans (final6 m c hY hW hX hT hG hB).symm), (h c).2.1.trans ((result81 m' c (a0.trans hY) (a1.trans hW) (a2.trans hX) (a3.trans hT) (a4.trans hG) (a5.trans hB)).trans (final7 m c hY hW hX hT hG hB).symm), (h c).2.2.1.trans ((result41 m' c (a0.trans hY) (a1.trans hW) (a2.trans hX) (a3.trans hT) (a4.trans hG) (a5.trans hB)).trans (final8 m c hY hW hX hT hG hB).symm), (h c).2.2.2.1.trans ((result54 m' c (a0.trans hY) (a1.trans hW) (a2.trans hX) (a3.trans hT) (a4.trans hG) (a5.trans hB)).trans (final9 m c hY hW hX hT hG hB).symm), (h c).2.2.2.2.1.trans ((result51 m' c (a0.trans hY) (a1.trans hW) (a2.trans hX) (a3.trans hT) (a4.trans hG) (a5.trans hB)).trans (final10 m c hY hW hX hT hG hB).symm), (h c).2.2.2.2.2⟩

end Cert.LoClaims
end
-- ==== Proof.DxBlocks.lean ====
module

public import proofs.«01_k».proof.Proof.Gen.LnKernelIdeal.Value
public import proofs.«01_k».proof.Proof.LnMath
public import Idealize.ShloMosaic.Lib.Pipeline.ValueKit
public import Idealize.ShloMosaic.Lib.Pointwise

@[expose] public section

set_option maxRecDepth 16384

/-! What one block of rows of the layer norm's backward pass computes, on real arguments. -/

noncomputable section

namespace Cert.Dx

open Idealize.ShloMosaic Idealize.ShloMosaic.TcCoe Idealize.SL.Sem
open Cert.Reals Cert.Ln Cert.LnKernelIdeal Cert.LnKernelIdeal.Gen

/-- The residual sum before the layer norm. -/
def Z (Y X W : ℕ → ℕ → ℝ) (i j : ℕ) : ℝ := alpha * X i j + ∑ k : Fin 2048, Y i k.val * W k.val j

/-- The cotangent of the layer norm's output: through the projection and through the residual. -/
def E (P V R : ℕ → ℕ → ℝ) (i j : ℕ) : ℝ := alpha * R i j + ∑ k : Fin 2304, P i k.val * V j k.val

/-- Columns from `o` on. -/
def right (o : ℕ) (f : ℕ → ℕ → ℝ) (i j : ℕ) : ℝ := f i (o + j)

/-- The product in three pieces, with the residual's part, is the whole cotangent. -/
theorem E_split (P V R : ℕ → ℕ → ℝ) (i j : ℕ) :
    ∑ k : Fin 1024, P i (0 + k.val) * V j (0 + k.val) + ∑ k : Fin 1024, P i (1024 + k.val) * V j (1024 + k.val)
      + ∑ k : Fin 256, P i (2048 + k.val) * V j (2048 + k.val) + alpha * R i j = E P V R i j := by
  simp only [Nat.zero_add]
  unfold E
  rw [← Finset.sum_range (n := 1024) fun k => P i k * V j k, ← Finset.sum_range (n := 1024) fun k => P i (1024 + k) * V j (1024 + k),
    ← Finset.sum_range (n := 256) fun k => P i (2048 + k) * V j (2048 + k), ← Finset.sum_range (n := 2304) fun k => P i k * V j k,
    show 2304 = 1024 + 1024 + 256 from rfl, Finset.sum_range_add _ (1024 + 1024), Finset.sum_range_add _ 1024]
  ring

variable (P V R : ℕ → ℕ → ℝ) (G : ℕ → ℝ)

/-- The columns of a block that one of the three products reads. -/
theorem ld_right (o n : ℕ) (h : ∀ d, (![0, o] : Fin 2 → ℕ) d + (![1024, n] : Fin 2 → ℕ) d ≤ S1024x2304.size d) :
    View.ld (Val := Elt Ideal) (e' := .bf16) (V2 1024 2304 (φ := .bf16) V) (Rect.unit (s := S1024x2304) ![0, o] ![1024, n] h) = V2 1024 n (φ := .bf16) (right o V) := by
  funext x
  refine congrArg (fun r : ℝ => (r : EReal)) (congrArg₂ V ?_ ?_)
  · show 0 + 1 * (x 0).val = (x 0).val; omega
  · show o + 1 * (x 1).val = o + (x 1).val; omega

theorem e_block : k0_pay1 (F := Ideal) (V2 1024 1024 (φ := .bf16) (right 0 V)) (V2 512 1024 (φ := .bf16) (right 0 P)) (V2 1024 1024 (φ := .bf16) (right 1024 V))
      (V2 512 1024 (φ := .bf16) (right 1024 P)) (V2 1024 256 (φ := .bf16) (right 2048 V)) (V2 512 256 (φ := .bf16) (right 2048 P)) (V2 512 1024 (φ := .f32) R)
    = V2 512 1024 (φ := .f32) (E P V R) := by
  funext x
  pointwise [k0_pay1]
  simp only [V2, right, alpha_eq, ← EReal.coe_mul, sum_coe, ← EReal.coe_add]
  exact congrArg (fun r : ℝ => (r : EReal)) (E_split P V R (x 0).val (x 1).val)

variable (z e : ℕ → ℕ → ℝ)

theorem cen_block : k0_pay2 (F := Ideal) (V2 512 1024 (φ := .f32) z) = V2 512 1024 (φ := .f32) (cen z) := by
  funext x
  pointwise [k0_pay2]
  simp only [V2, word_1024, sum_coe, div_1024, ← EReal.coe_sub]
  rfl

theorem sq_block : k0_pay3 (F := Ideal) (V2 512 1024 (φ := .f32) z) = V1 512 (φ := .f32) fun i => ∑ k : Fin 1024, cen z i k.val * cen z i k.val := by
  funext x
  pointwise [k0_pay3]
  rw [cen_block]
  simp only [V2, ← EReal.coe_mul, sum_coe]
  rfl

theorem rsd_block : k0_pay4 (F := Ideal) (V1 512 (φ := .f32) fun i => ∑ k : Fin 1024, cen z i k.val * cen z i k.val) = V2 512 1 (φ := .f32) fun i _ => rsd z i := by
  funext x
  pointwise [k0_pay4]
  simp only [V1, eps_eq, word_1024, ← EReal.coe_add, div_1024]
  exact rsqrt_pos (var_pos z (x 0).val)

theorem xhat_block : k0_pay5 (F := Ideal) (V2 512 1024 (φ := .f32) (cen z)) (V1 512 (φ := .f32) fun i => ∑ k : Fin 1024, cen z i k.val * cen z i k.val)
    = V2 512 1024 (φ := .f32) (xhat z) := by
  funext x
  pointwise [k0_pay5]
  rw [rsd_block]
  simp only [V2, ← EReal.coe_mul]
  rfl

theorem grad_block : k0_pay6 (F := Ideal) (V2 1 1024 (φ := .f32) fun _ => G) (V2 512 1024 (φ := .f32) e) (V2 512 1024 (φ := .f32) (cen z))
      (V1 512 (φ := .f32) fun i => ∑ k : Fin 1024, cen z i k.val * cen z i k.val)
    = V2 512 1024 (φ := .f32) (grad z fun i j => e i j * G j) := by
  funext x
  pointwise [k0_pay6]
  rw [rsd_block, xhat_block]
  simp only [V2, word_1024, ← EReal.coe_mul, sum_coe, div_1024, ← EReal.coe_sub]
  rfl

theorem dg_block : k0_pay7 (F := Ideal) (V2 512 1024 (φ := .f32) e) (V2 512 1024 (φ := .f32) (cen z))
      (V1 512 (φ := .f32) fun i => ∑ k : Fin 1024, cen z i k.val * cen z i k.val)
    = V2 1 1024 (φ := .f32) (fun _ j => ∑ a : Fin 512, e a.val j * xhat z a.val j) := by
  funext x
  pointwise [k0_pay7]
  rw [xhat_block]
  simp only [V2, ← EReal.coe_mul, sum_coe]
  rfl

theorem db_block : k0_pay8 (F := Ideal) (V2 512 1024 (φ := .f32) e) = V2 1 1024 (φ := .f32) (fun _ j => ∑ a : Fin 512, e a.val j) := by
  funext x
  pointwise [k0_pay8]
  simp only [V2, sum_coe]
  rfl

end Cert.Dx
end
-- ==== Proof.DxValue.lean ====
module

public import proofs.«01_k».proof.Defs
public import proofs.«01_k».proof.Proof.DxBlocks

@[expose] public section

set_option maxRecDepth 16384

/-! What the layer norm's backward call leaves in its result arrays. -/

noncomputable section

namespace Cert.Dx

open Idealize.ShloMosaic Idealize.ShloMosaic.TcCoe Idealize.SL.Sem
open Cert.Reals Cert.Ln Cert.LnKernelIdeal Cert.LnKernelIdeal.Gen
open Idealize.ShloMosaic.Pipeline (Window Dat)

/-- Where each window's block lies. -/
theorem idx (t : Fin grid0.N) : win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0]
    ∧ win0_8.index t = ![t.val, 0] ∧ win0_9.index t = ![0, 0] ∧ win0_10.index t = ![0, 0] := by
  revert t; decide +kernel

/-- Rows from `o` on. -/
def down (o : ℕ) (f : ℕ → ℕ → ℝ) (i j : ℕ) : ℝ := f (o + i) j

/-- Columns of a matrix, cut out. -/
theorem slice_right {n o : ℕ} (P : ℕ → ℕ → ℝ) (h : (⟨2, ![8192, 2304]⟩ : Shape).Slices ![0, o] ⟨2, ![8192, n]⟩) :
    extractStridedSlice ⟨2, ![8192, n]⟩ ![0, o] (V2 8192 2304 (φ := .bf16) P) h = V2 8192 n (φ := .bf16) (right o P) := by
  funext x
  refine congrArg (fun r : ℝ => (r : EReal)) (congrArg₂ P ?_ ?_)
  · show 0 + (x 0).val = (x 0).val; omega
  · show o + (x 1).val = o + (x 1).val; omega

variable (m : (ℓ : Loc nD τ sig) → Buf (Elt Ideal) ℓ) (c : Dev nD) {P Q R Y W X : ℕ → ℕ → ℝ} {G : ℕ → ℝ}
    (hP : m ((c : Thread nD τ).loc main_arg0) = V2 8192 2304 (φ := .f32) P)
    (hV : m ((c : Thread nD τ).loc main_arg1) = V3 1 1024 2304 (φ := .f32) fun _ => Q)
    (hR : m ((c : Thread nD τ).loc main_arg2) = V2 8192 1024 (φ := .f32) R)
    (hY : m ((c : Thread nD τ).loc main_arg3) = V2 8192 2048 (φ := .f32) Y)
    (hW : m ((c : Thread nD τ).loc main_arg4) = V3 1 2048 1024 (φ := .f32) fun _ => W)
    (hX : m ((c : Thread nD τ).loc main_arg5) = V2 8192 1024 (φ := .f32) X)
    (hG : m ((c : Thread nD τ).loc main_arg6) = V2 1 1024 (φ := .f32) fun _ => G)

include hP in
theorem part_at {n o : ℕ} (h : (⟨2, ![8192, 2304]⟩ : Shape).Slices ![0, o] ⟨2, ![8192, n]⟩) :
    extractStridedSlice ⟨2, ![8192, n]⟩ ![0, o] (truncf (F := Ideal) (s := S8192x2304) .bf16 (m ((c : Thread nD τ).loc main_arg0)) bitsLt_bf16_f32) h = V2 8192 n (φ := .bf16) (right o P) := by
  rw [hP]
  exact slice_right P h

include hP in
theorem V_v8 : V m c main_v8 = V2 8192 1024 (φ := .bf16) (right 0 P) := by
  have : V m c main_v8 = extractStridedSlice S8192x1024 ![0, 0] (truncf (F := Ideal) (s := S8192x2304) .bf16 (m ((c : Thread nD τ).loc main_arg0)) bitsLt_bf16_f32) slices_S8192x2304_S8192x1024_0_0 := by
    unfold_abbrev_sides
    after_results
  rw [this]
  exact part_at m c hP slices_S8192x2304_S8192x1024_0_0

include hP in
theorem V_v9 : V m c main_v9 = V2 8192 1024 (φ := .bf16) (right 1024 P) := by
  have : V m c main_v9 = extractStridedSlice S8192x1024 ![0, 1024] (truncf (F := Ideal) (s := S8192x2304) .bf16 (m ((c : Thread nD τ).loc main_arg0)) bitsLt_bf16_f32) slices_S8192x2304_S8192x1024_0_1024 := by
    unfold_abbrev_sides
    after_results
  rw [this]
  exact part_at m c hP slices_S8192x2304_S8192x1024_0_1024

include hP in
theorem V_v10 : V m c main_v10 = V2 8192 256 (φ := .bf16) (right 2048 P) := by
  have : V m c main_v10 = extractStridedSlice S8192x256 ![0, 2048] (truncf (F := Ideal) (s := S8192x2304) .bf16 (m ((c : Thread nD τ).loc main_arg0)) bitsLt_bf16_f32) slices_S8192x2304_S8192x256_0_2048 := by
    unfold_abbrev_sides
    after_results
  rw [this]
  exact part_at m c hP slices_S8192x2304_S8192x256_0_2048

include hV in
theorem V_v7 : V m c main_v7 = V2 1024 2304 (φ := .bf16) Q := by
  have : V m c main_v7 = truncf (F := Ideal) .bf16 (shapeCast S1024x2304 (m ((c : Thread nD τ).loc main_arg1)) shapeCasts_S1x1024x2304_S1024x2304) bitsLt_bf16_f32 := by
    unfold_abbrev_sides
    after_results
    rfl
  have h := drop_unit (a := 1024) (b := 2304) (φ := .f32) (fun _ => Q) shapeCasts_S1x1024x2304_S1024x2304
  rw [this, hV]
  rw [show shapeCast S1024x2304 (V3 1 1024 2304 (φ := .f32) fun _ => Q) shapeCasts_S1x1024x2304_S1024x2304 = _ from h]
  rfl

include hY hW hX in
/-- The residual sum, as the host lines before the call compute it. -/
theorem V_v4 : V m c main_v4 = V2 8192 1024 (φ := .f32) (Z Y X W) := by
  have : V m c main_v4 = addf (F := Ideal) (φ := .f32) (mulf (broadcastInDim S8192x1024 ![] bcast_S_S8192x1024 (constant S_ .f32 0x3FB504F3#32)) (m ((c : Thread nD τ).loc main_arg5)))
      (Host.dotGeneral (φ₁ := .f32) (φ₂ := .f32) dot_S8192x2048_S2048x1024_S8192x1024_1_0_0_1_n_n none (m ((c : Thread nD τ).loc main_arg3))
        (shapeCast (α := Ideal .f32) S2048x1024 (m ((c : Thread nD τ).loc main_arg4)) shapeCasts_S1x2048x1024_S2048x1024)) := by
    unfold_abbrev_sides
    after_results
    rfl
  have h := drop_unit (a := 2048) (b := 1024) (φ := .f32) (fun _ => W) shapeCasts_S1x2048x1024_S2048x1024
  rw [this, hY, hW, hX]
  rw [show shapeCast S2048x1024 (V3 1 2048 1024 (φ := .f32) fun _ => W) shapeCasts_S1x2048x1024_S2048x1024 = _ from h]
  funext x
  pointwise []
  simp only [V2, alpha_eq, ← EReal.coe_mul, sum_coe, ← EReal.coe_add]
  rfl

include hP in
theorem iblk0 (t : Fin cfg0.N) : iblk m c 0 t = V2 512 1024 (φ := .bf16) (down (512 * t.val) (right 0 P)) := by
  funext y
  refine (congrFun (V_v8 m c hP) ((win0_0.blk t).view.emb y)).trans ?_
  have e0 := Window.rect_emb_val win0_0 t y 0
  have e1 := Window.rect_emb_val win0_0 t y 1
  obtain ⟨i0, i1, i2, i3, i4, i5, i6, _⟩ := idx t
  rw [i0] at e0 e1
  refine congrArg (fun r : ℝ => (r : EReal)) (congrArg₂ (right 0 P) (e0.trans ?_) (e1.trans ?_))
  · show t.val * 512 + (y 0).val = 512 * t.val + (y 0).val; omega
  · show 0 * 1024 + (y 1).val = (y 1).val; omega

include hP in
theorem iblk1 (t : Fin cfg0.N) : iblk m c 1 t = V2 512 1024 (φ := .bf16) (down (512 * t.val) (right 1024 P)) := by
  funext y
  refine (congrFun (V_v9 m c hP) ((win0_1.blk t).view.emb y)).trans ?_
  have e0 := Window.rect_emb_val win0_1 t y 0
  have e1 := Window.rect_emb_val win0_1 t y 1
  obtain ⟨i0, i1, i2, i3, i4, i5, i6, _⟩ := idx t
  rw [i1] at e0 e1
  refine congrArg (fun r : ℝ => (r : EReal)) (congrArg₂ (right 1024 P) (e0.trans ?_) (e1.trans ?_))
  · show t.val * 512 + (y 0).val = 512 * t.val + (y 0).val; omega
  · show 0 * 1024 + (y 1).val = (y 1).val; omega

include hP in
theorem iblk2 (t : Fin cfg0.N) : iblk m c 2 t = V2 512 256 (φ := .bf16) (down (512 * t.val) (right 2048 P)) := by
  funext y
  refine (congrFun (V_v10 m c hP) ((win0_2.blk t).view.emb y)).trans ?_
  have e0 := Window.rect_emb_val win0_2 t y 0
  have e1 := Window.rect_emb_val win0_2 t y 1
  obtain ⟨i0, i1, i2, i3, i4, i5, i6, _⟩ := idx t
  rw [i2] at e0 e1
  refine congrArg (fun r : ℝ => (r : EReal)) (congrArg₂ (right 2048 P) (e0.trans ?_) (e1.trans ?_))
  · show t.val * 512 + (y 0).val = 512 * t.val + (y 0).val; omega
  · show 0 * 256 + (y 1).val = (y 1).val; omega

include hV in
theorem iblk3 (t : Fin cfg0.N) : iblk m c 3 t = V2 1024 2304 (φ := .bf16) (Q) := by
  funext y
  refine (congrFun (V_v7 m c hV) ((win0_3.blk t).view.emb y)).trans ?_
  have e0 := Window.rect_emb_val win0_3 t y 0
  have e1 := Window.rect_emb_val win0_3 t y 1
  obtain ⟨i0, i1, i2, i3, i4, i5, i6, _⟩ := idx t
  rw [i3] at e0 e1
  refine congrArg (fun r : ℝ => (r : EReal)) (congrArg₂ (Q) (e0.trans ?_) (e1.trans ?_))
  · show 0 * 1024 + (y 0).val = (y 0).val; omega
  · show 0 * 2304 + (y 1).val = (y 1).val; omega

include hR in
theorem iblk4 (t : Fin cfg0.N) : iblk m c 4 t = V2 512 1024 (φ := .f32) (down (512 * t.val) (R)) := by
  funext y
  refine (congrFun ((V_main_arg2 m c).trans hR) ((win0_4.blk t).view.emb y)).trans ?_
  have e0 := Window.rect_emb_val win0_4 t y 0
  have e1 := Window.rect_emb_val win0_4 t y 1
  obtain ⟨i0, i1, i2, i3, i4, i5, i6, _⟩ := idx t
  rw [i4] at e0 e1
  refine congrArg (fun r : ℝ => (r : EReal)) (congrArg₂ (R) (e0.trans ?_) (e1.trans ?_))
  · show t.val * 512 + (y 0).val = 512 * t.val + (y 0).val; omega
  · show 0 * 1024 + (y 1).val = (y 1).val; omega

include hY hW hX in
theorem iblk5 (t : Fin cfg0.N) : iblk m c 5 t = V2 512 1024 (φ := .f32) (down (512 * t.val) (Z Y X W)) := by
  funext y
  refine (congrFun (V_v4 m c hY hW hX) ((win0_5.blk t).view.emb y)).trans ?_
  have e0 := Window.rect_emb_val win0_5 t y 0
  have e1 := Window.rect_emb_val win0_5 t y 1
  obtain ⟨i0, i1, i2, i3, i4, i5, i6, _⟩ := idx t
  rw [i5] at e0 e1
  refine congrArg (fun r : ℝ => (r : EReal)) (congrArg₂ (Z Y X W) (e0.trans ?_) (e1.trans ?_))
  · show t.val * 512 + (y 0).val = 512 * t.val + (y 0).val; omega
  · show 0 * 1024 + (y 1).val = (y 1).val; omega

include hG in
theorem iblk6 (t : Fin cfg0.N) : iblk m c 6 t = V2 1 1024 (φ := .f32) fun _ => G := by
  funext y
  refine (congrFun ((V_main_arg6 m c).trans hG) ((win0_6.blk t).view.emb y)).trans ?_
  have e1 := Window.rect_emb_val win0_6 t y 1
  obtain ⟨i0, i1, i2, i3, i4, i5, i6, _⟩ := idx t
  rw [i6] at e1
  refine congrArg (fun r : ℝ => (r : EReal)) (congrArg G (e1.trans ?_))
  show 0 * 1024 + (y 1).val = (y 1).val; omega

include hP hV hR in
theorem e_at (t : Fin cfg0.N) : k0_pay1 (F := Ideal) (View.ld (iblk m c 3 t) (Rect.unit ![0, 0] ![1024, 1024] inb_S1024x2304_S1024x1024_0_0)) (iblk m c 0 t)
        (View.ld (iblk m c 3 t) (Rect.unit ![0, 1024] ![1024, 1024] inb_S1024x2304_S1024x1024_0_1024)) (iblk m c 1 t)
        (View.ld (iblk m c 3 t) (Rect.unit ![0, 2048] ![1024, 256] inb_S1024x2304_S1024x256_0_2048)) (iblk m c 2 t)
        (iblk m c 4 t)
    = V2 512 1024 (φ := .f32) (down (512 * t.val) (E P Q R)) := by
  rw [iblk0 m c hP, iblk1 m c hP, iblk2 m c hP, iblk3 m c hV, iblk4 m c hR, ld_right, ld_right, ld_right]
  exact e_block (down (512 * t.val) P) Q (down (512 * t.val) R)

/-- The block's gradient, from the whole arrays. -/
theorem grad_down (o : ℕ) (z e : ℕ → ℕ → ℝ) (G : ℕ → ℝ) : k0_pay6 (F := Ideal) (V2 1 1024 (φ := .f32) fun _ => G) (V2 512 1024 (φ := .f32) (down o e))
      (k0_pay2 (V2 512 1024 (φ := .f32) (down o z))) (k0_pay3 (V2 512 1024 (φ := .f32) (down o z)))
    = V2 512 1024 (φ := .f32) (down o (grad z fun i j => e i j * G j)) := by
  rw [cen_block, sq_block, grad_block]
  rfl

include hP hV hR hY hW hX hG
theorem dz_at (t : Fin cfg0.N) : k0_pay6 (F := Ideal) (iblk m c 6 t) (k0_pay1 (View.ld (iblk m c 3 t) (Rect.unit ![0, 0] ![1024, 1024] inb_S1024x2304_S1024x1024_0_0)) (iblk m c 0 t)
        (View.ld (iblk m c 3 t) (Rect.unit ![0, 1024] ![1024, 1024] inb_S1024x2304_S1024x1024_0_1024)) (iblk m c 1 t)
        (View.ld (iblk m c 3 t) (Rect.unit ![0, 2048] ![1024, 256] inb_S1024x2304_S1024x256_0_2048)) (iblk m c 2 t)
        (iblk m c 4 t))
      (k0_pay2 (iblk m c 5 t)) (k0_pay3 (iblk m c 5 t))
    = V2 512 1024 (φ := .f32) (down (512 * t.val) (grad (Z Y X W) fun i j => E P Q R i j * G j)) := by
  rw [e_at m c hP hV hR, iblk5 m c hY hW hX, iblk6 m c hG]
  exact grad_down _ _ _ _

omit hP hV hR hY hW hX hG in
theorem lt16 (t : Fin cfg0.N) : t.val < 16 := lt_of_lt_of_eq t.isLt (show cfg0.N = 16 from N_0)

/-- Each grid point leaves its rows of the gradient of `z`. -/
theorem after7 (t : Fin cfg0.N) : (dats m 0 c).after 7 t
    = V2 512 1024 (φ := .f32) (down (512 * t.val) (grad (Z Y X W) fun i j => E P Q R i j * G j)) := by
  rw [after0_7]
  have := lt16 t
  by_cases h0 : t.val % 16 = 0
  · rw [outsAt0_A m c t h0 (by omega)]
    frame_out
    exact dz_at m c hP hV hR hY hW hX hG t
  · rw [outsAt0_B m c t h0 (by omega)]
    frame_out
    exact dz_at m c hP hV hR hY hW hX hG t

/-- And the same rows cast. -/
theorem after8 (t : Fin cfg0.N) : (dats m 0 c).after 8 t
    = V2 512 1024 (φ := .bf16) (down (512 * t.val) (grad (Z Y X W) fun i j => E P Q R i j * G j)) := by
  have key := congrArg (fun v : FVec Ideal S512x1024 .f32 => truncf .bf16 v bitsLt_bf16_f32) (dz_at m c hP hV hR hY hW hX hG t)
  rw [after0_8]
  have := lt16 t
  by_cases h0 : t.val % 16 = 0
  · rw [outsAt0_A m c t h0 (by omega)]
    frame_out
    exact key
  · rw [outsAt0_B m c t h0 (by omega)]
    frame_out
    exact key

theorem dg_at (t : Fin cfg0.N) : k0_pay7 (F := Ideal) (k0_pay1 (View.ld (iblk m c 3 t) (Rect.unit ![0, 0] ![1024, 1024] inb_S1024x2304_S1024x1024_0_0)) (iblk m c 0 t)
        (View.ld (iblk m c 3 t) (Rect.unit ![0, 1024] ![1024, 1024] inb_S1024x2304_S1024x1024_0_1024)) (iblk m c 1 t)
        (View.ld (iblk m c 3 t) (Rect.unit ![0, 2048] ![1024, 256] inb_S1024x2304_S1024x256_0_2048)) (iblk m c 2 t)
        (iblk m c 4 t))
      (k0_pay2 (iblk m c 5 t)) (k0_pay3 (iblk m c 5 t))
    = V2 1 1024 (φ := .f32) (fun _ j => ∑ a : Fin 512, (fun k j => E P Q R k j * xhat (Z Y X W) k j) (512 * t.val + a.val) j) := by
  rw [e_at m c hP hV hR, iblk5 m c hY hW hX, cen_block, sq_block, dg_block]
  rfl

theorem db_at (t : Fin cfg0.N) : k0_pay8 (F := Ideal) (k0_pay1 (View.ld (iblk m c 3 t) (Rect.unit ![0, 0] ![1024, 1024] inb_S1024x2304_S1024x1024_0_0)) (iblk m c 0 t)
        (View.ld (iblk m c 3 t) (Rect.unit ![0, 1024] ![1024, 1024] inb_S1024x2304_S1024x1024_0_1024)) (iblk m c 1 t)
        (View.ld (iblk m c 3 t) (Rect.unit ![0, 2048] ![1024, 256] inb_S1024x2304_S1024x256_0_2048)) (iblk m c 2 t)
        (iblk m c 4 t))
    = V2 1 1024 (φ := .f32) (fun _ j => ∑ a : Fin 512, E P Q R (512 * t.val + a.val) j) := by
  rw [e_at m c hP hV hR, db_block]
  rfl

omit hP hV hR hY hW hX hG

/-- Sums of a column's elements over the first `n` blocks of rows. -/
def upto (f : ℕ → ℕ → ℝ) (n : ℕ) : FVec Ideal S1x1024 .f32 := V2 1 1024 (φ := .f32) fun _ j => ∑ k ∈ Finset.range (512 * n), f k j

/-- The first block's sums are the sums over the first block. -/
theorem upto_first (f : ℕ → ℕ → ℝ) (v : FVec Ideal S1x1024 .f32) (h : v = V2 1 1024 (φ := .f32) fun _ j => ∑ a : Fin 512, f (512 * 0 + a.val) j) : v = upto f 1 := by
  rw [h]
  unfold upto
  refine V2_congr fun i _ j _ => ?_
  simp only [Nat.mul_zero, Nat.zero_add, mul_one]
  exact (Finset.sum_range (n := 512) fun k => f k j).symm

/-- A further block's sums added. -/
theorem upto_next (f : ℕ → ℕ → ℝ) (n : ℕ) (u v : FVec Ideal S1x1024 .f32) (hu : u = upto f n)
    (h : v = V2 1 1024 (φ := .f32) fun _ j => ∑ a : Fin 512, f (512 * n + a.val) j) : addf u v = upto f (n + 1) := by
  rw [hu, h]
  funext x
  refine (EReal.coe_add _ _).symm.trans (congrArg (fun r : ℝ => (r : EReal)) ?_)
  show _ = ∑ k ∈ Finset.range (512 * (n + 1)), f k (x 1).val
  rw [Nat.mul_succ, Finset.sum_range_add, Finset.sum_range fun k => f (512 * n + k) (x 1).val]

/-- All blocks' sums together. -/
theorem upto_all (f : ℕ → ℕ → ℝ) : upto f 16 = V2 1 1024 (φ := .f32) fun _ j => ∑ k : Fin 8192, f k.val j := by
  unfold upto
  refine V2_congr fun i _ j _ => ?_
  exact Finset.sum_range (n := 8192) fun k => f k j

include hP hV hR hY hW hX hG
/-- What the two accumulated outputs hold after `n + 1` points. -/
theorem sums_at : ∀ (n : ℕ) (hn : n < cfg0.N), (outsAt0 m c n hn).2.2.1 = upto (fun k j => E P Q R k j * xhat (Z Y X W) k j) (n + 1)
    ∧ (outsAt0 m c n hn).2.2.2 = upto (E P Q R) (n + 1) := by
  intro n
  induction n with
  | zero =>
    intro hn
    have e := outsAt0_A m c ⟨0, hn⟩ rfl (by simp)
    dsimp only at e
    rw [e]
    refine ⟨?_, ?_⟩
    · frame_out
      exact upto_first _ _ (dg_at m c hP hV hR hY hW hX hG ⟨0, hn⟩)
    · frame_out
      exact upto_first _ _ (db_at m c hP hV hR hY hW hX hG ⟨0, hn⟩)
  | succ n ih =>
    intro hn
    obtain ⟨i1, i2⟩ := ih (Nat.lt_of_succ_lt hn)
    have := lt16 ⟨n + 1, hn⟩
    have e := outsAt0_B m c ⟨n + 1, hn⟩ (by simp at this ⊢; omega) (by simp)
    dsimp only at e
    rw [e]
    refine ⟨?_, ?_⟩
    · frame_out
      exact upto_next _ _ _ _ ((shapeCast_self _ _).trans i1) (dg_at m c hP hV hR hY hW hX hG ⟨n + 1, hn⟩)
    · frame_out
      exact upto_next _ _ _ _ ((shapeCast_self _ _).trans i2) (db_at m c hP hV hR hY hW hX hG ⟨n + 1, hn⟩)

/-- The gradient of `z` after the run. -/
theorem final7 : (dats m 0 c).arrAt 7 cfg0.N = V2 8192 1024 (φ := .f32) (grad (Z Y X W) fun i j => E P Q R i j * G j) := by
  refine (dats m 0 c).arrAt_eq_of_covers 7 _ (by decide +kernel) fun t hf y => ?_
  blk_simp
  rw [after7 m c hP hV hR hY hW hX hG]
  have e0 := Window.rect_emb_val win0_7 t y 0
  have e1 := Window.rect_emb_val win0_7 t y 1
  obtain ⟨-, -, -, -, -, -, -, i7, i8, -⟩ := idx t
  rw [i7] at e0 e1
  refine congrArg (fun r : ℝ => (r : EReal)) (congrArg₂ (grad (Z Y X W) fun i j => E P Q R i j * G j) (Eq.trans ?_ e0.symm) (Eq.trans ?_ e1.symm))
  · show 512 * t.val + (y 0).val = t.val * 512 + (y 0).val; omega
  · show (y 1).val = 0 * 1024 + (y 1).val; omega

/-- The same, cast. -/
theorem final8 : (dats m 0 c).arrAt 8 cfg0.N = V2 8192 1024 (φ := .bf16) (grad (Z Y X W) fun i j => E P Q R i j * G j) := by
  refine (dats m 0 c).arrAt_eq_of_covers 8 _ (by decide +kernel) fun t hf y => ?_
  blk_simp
  rw [after8 m c hP hV hR hY hW hX hG]
  have e0 := Window.rect_emb_val win0_8 t y 0
  have e1 := Window.rect_emb_val win0_8 t y 1
  obtain ⟨-, -, -, -, -, -, -, i7, i8, -⟩ := idx t
  rw [i8] at e0 e1
  refine congrArg (fun r : ℝ => (r : EReal)) (congrArg₂ (grad (Z Y X W) fun i j => E P Q R i j * G j) (Eq.trans ?_ e0.symm) (Eq.trans ?_ e1.symm))
  · show 512 * t.val + (y 0).val = t.val * 512 + (y 0).val; omega
  · show (y 1).val = 0 * 1024 + (y 1).val; omega

/-- The gradient of the scale after the run. -/
theorem final9 : (dats m 0 c).arrAt 9 cfg0.N = upto (fun k j => E P Q R k j * xhat (Z Y X W) k j) 16 := by
  refine (dats m 0 c).arrAt_eq_of_covers 9 _ (by decide +kernel) fun t hf y => ?_
  have ht : t.val = 15 := by revert t; decide +kernel
  blk_simp
  rw [after0_9, (sums_at m c hP hV hR hY hW hX hG t.val t.isLt).1, ht]
  have e1 := Window.rect_emb_val win0_9 t y 1
  obtain ⟨-, -, -, -, -, -, -, -, -, i9, i10⟩ := idx t
  rw [i9] at e1
  refine congrArg (fun r : ℝ => (r : EReal)) (congrArg (fun j : ℕ => ∑ k ∈ Finset.range (512 * 16), (fun k j => E P Q R k j * xhat (Z Y X W) k j) k j) (Eq.trans ?_ e1.symm))
  show (y 1).val = 0 * 1024 + (y 1).val; omega

/-- The gradient of the shift after the run. -/
theorem final10 : (dats m 0 c).arrAt 10 cfg0.N = upto (E P Q R) 16 := by
  refine (dats m 0 c).arrAt_eq_of_covers 10 _ (by decide +kernel) fun t hf y => ?_
  have ht : t.val = 15 := by revert t; decide +kernel
  blk_simp
  rw [after0_10, (sums_at m c hP hV hR hY hW hX hG t.val t.isLt).2, ht]
  have e1 := Window.rect_emb_val win0_10 t y 1
  obtain ⟨-, -, -, -, -, -, -, -, -, i9, i10⟩ := idx t
  rw [i10] at e1
  refine congrArg (fun r : ℝ => (r : EReal)) (congrArg (fun j : ℕ => ∑ k ∈ Finset.range (512 * 16), (E P Q R) k j) (Eq.trans ?_ e1.symm))
  show (y 1).val = 0 * 1024 + (y 1).val; omega

end Cert.Dx
end
-- ==== Proof.DxReference.lean ====
module

public import proofs.«01_k».proof.Proof.DxBlocks
public import proofs.«01_k».proof.Proof.Gen.LnReferenceIdeal.Read
public import proofs.«01_k».proof.Proof.Gen.LnReferenceIdeal.Run
public import Idealize.ShloMosaic.Lib.Pointwise

@[expose] public section

set_option maxRecDepth 16384

/-! What each line of the plain reference of the layer norm's backward call computes, on real arguments. -/

noncomputable section

namespace Cert.DxRef

open Idealize.ShloMosaic Idealize.ShloMosaic.TcCoe Idealize.SL.Sem
open Cert.Reals Cert.Ln Cert.Dx Cert.LnReferenceIdeal Cert.LnReferenceIdeal.Read

variable (P Q R Y W X : ℕ → ℕ → ℝ) (G : ℕ → ℝ)

/-- The residual sum. -/
theorem r4 : val_main_v4 (F := Ideal) (V2 8192 2048 (φ := .f32) Y) (V3 1 2048 1024 (φ := .f32) fun _ => W) (V2 8192 1024 (φ := .f32) X)
    = V2 8192 1024 (φ := .f32) (Z Y X W) := by
  funext x
  pointwise [val_main_v4, val_main_v0, val_main_v1, val_main_v2, val_main_v3, val_main_cst]
  simp only [V2, V3, ← EReal.coe_mul, sum_coe, ← EReal.coe_add, ← EReal.coe_sub, ← EReal.coe_neg, div_1024, word_1024, word_half, word_neg_half, word_two, alpha_eq, eps_eq]
  rfl

theorem r9 : val_main_v9 (F := Ideal) (V2 8192 2048 (φ := .f32) Y) (V3 1 2048 1024 (φ := .f32) fun _ => W) (V2 8192 1024 (φ := .f32) X)
    = V2 8192 1 (φ := .f32) (fun i _ => mean (Z Y X W) i) := by
  funext x
  pointwise [val_main_v9, val_main_v6, val_main_v7, val_main_v8, val_main_cst_1, val_main_cst_2]
  simp only [r4, V2, ← EReal.coe_mul, sum_coe, ← EReal.coe_add, ← EReal.coe_sub, ← EReal.coe_neg, div_1024, word_1024, word_half, word_neg_half, word_two, alpha_eq, eps_eq]
  rfl

theorem r11 : val_main_v11 (F := Ideal) (V2 8192 2048 (φ := .f32) Y) (V3 1 2048 1024 (φ := .f32) fun _ => W) (V2 8192 1024 (φ := .f32) X)
    = V2 8192 1024 (φ := .f32) (cen (Z Y X W)) := by
  funext x
  pointwise [val_main_v11, val_main_v10]
  simp only [r4, r9, V2, ← EReal.coe_mul, sum_coe, ← EReal.coe_add, ← EReal.coe_sub, ← EReal.coe_neg, div_1024, word_1024, word_half, word_neg_half, word_two, alpha_eq, eps_eq]
  rfl

theorem r14 : val_main_v14 (F := Ideal) (V2 8192 2048 (φ := .f32) Y) (V3 1 2048 1024 (φ := .f32) fun _ => W) (V2 8192 1024 (φ := .f32) X)
    = V2 8192 1024 (φ := .f32) (fun i j => 2 * cen (Z Y X W) i j) := by
  funext x
  pointwise [val_main_v14, val_main_v13, val_main_cst_3]
  simp only [r11, V2, ← EReal.coe_mul, sum_coe, ← EReal.coe_add, ← EReal.coe_sub, ← EReal.coe_neg, div_1024, word_1024, word_half, word_neg_half, word_two, alpha_eq, eps_eq]

theorem r18 : val_main_v18 (F := Ideal) (V2 8192 2048 (φ := .f32) Y) (V3 1 2048 1024 (φ := .f32) fun _ => W) (V2 8192 1024 (φ := .f32) X)
    = V2 8192 1 (φ := .f32) (fun i _ => mean (fun i j => cen (Z Y X W) i j * cen (Z Y X W) i j) i) := by
  funext x
  pointwise [val_main_v18, val_main_v12, val_main_v15, val_main_v16, val_main_v17, val_main_cst_4, val_main_cst_5]
  simp only [r11, V2, ← EReal.coe_mul, sum_coe, ← EReal.coe_add, ← EReal.coe_sub, ← EReal.coe_neg, div_1024, word_1024, word_half, word_neg_half, word_two, alpha_eq, eps_eq]
  rfl

theorem r20 : val_main_v20 (F := Ideal) (V2 8192 2048 (φ := .f32) Y) (V3 1 2048 1024 (φ := .f32) fun _ => W) (V2 8192 1024 (φ := .f32) X)
    = V2 8192 1024 (φ := .f32) (cen (Z Y X W)) := by
  funext x
  pointwise [val_main_v20, val_main_v19]
  simp only [r4, r9, V2, ← EReal.coe_mul, sum_coe, ← EReal.coe_add, ← EReal.coe_sub, ← EReal.coe_neg, div_1024, word_1024, word_half, word_neg_half, word_two, alpha_eq, eps_eq]
  rfl

theorem r22 : val_main_v22 (F := Ideal) (V2 8192 2048 (φ := .f32) Y) (V3 1 2048 1024 (φ := .f32) fun _ => W) (V2 8192 1024 (φ := .f32) X)
    = V2 8192 1 (φ := .f32) (fun i _ => var (Z Y X W) i) := by
  funext x
  pointwise [val_main_v22, val_main_v21, val_main_cst_6]
  simp only [r18, V2, ← EReal.coe_mul, sum_coe, ← EReal.coe_add, ← EReal.coe_sub, ← EReal.coe_neg, div_1024, word_1024, word_half, word_neg_half, word_two, alpha_eq, eps_eq]
  rfl

theorem r23 : val_main_v23 (F := Ideal) (V2 8192 2048 (φ := .f32) Y) (V3 1 2048 1024 (φ := .f32) fun _ => W) (V2 8192 1024 (φ := .f32) X)
    = V2 8192 1 (φ := .f32) (fun i _ => rsd (Z Y X W) i) := by
  funext x
  pointwise [val_main_v23]
  simp only [r22, V2, ← EReal.coe_mul, sum_coe, ← EReal.coe_add, ← EReal.coe_sub, ← EReal.coe_neg, div_1024, word_1024, word_half, word_neg_half, word_two, alpha_eq, eps_eq]
  exact rsqrt_pos (var_pos (Z Y X W) (x 0).val)

theorem r26 : val_main_v26 (F := Ideal) (V2 8192 2048 (φ := .f32) Y) (V3 1 2048 1024 (φ := .f32) fun _ => W) (V2 8192 1024 (φ := .f32) X)
    = V2 8192 1 (φ := .f32) (fun i _ => -(1 / 2) * (rsd (Z Y X W) i / var (Z Y X W) i)) := by
  funext x
  pointwise [val_main_v26, val_main_v25, val_main_v24, val_main_cst_7]
  simp only [r22, r23, Ideal.div_coe (var_pos (Z Y X W) _).ne', mul_one_div, V2, ← EReal.coe_mul, sum_coe, ← EReal.coe_add, ← EReal.coe_sub, ← EReal.coe_neg, div_1024, word_1024, word_half, word_neg_half, word_two, alpha_eq, eps_eq]

theorem r28 : val_main_v28 (F := Ideal) (V2 8192 2048 (φ := .f32) Y) (V3 1 2048 1024 (φ := .f32) fun _ => W) (V2 8192 1024 (φ := .f32) X)
    = V2 8192 1024 (φ := .f32) (xhat (Z Y X W)) := by
  funext x
  pointwise [val_main_v28, val_main_v27]
  simp only [r20, r23, V2, ← EReal.coe_mul, sum_coe, ← EReal.coe_add, ← EReal.coe_sub, ← EReal.coe_neg, div_1024, word_1024, word_half, word_neg_half, word_two, alpha_eq, eps_eq]
  rfl

/-- The cotangent of the layer norm's output. -/
theorem r40 : val_main_v40 (F := Ideal) (V2 8192 2304 (φ := .f32) P) (V3 1 1024 2304 (φ := .f32) fun _ => Q) (V2 8192 1024 (φ := .f32) R)
    = V2 8192 1024 (φ := .f32) (E P Q R) := by
  funext x
  pointwise [val_main_v40, val_main_v33, val_main_v37, val_main_v38, val_main_v39, val_main_cst_9]
  simp only [V2, V3, ← EReal.coe_mul, sum_coe, ← EReal.coe_add, ← EReal.coe_sub, ← EReal.coe_neg, div_1024, word_1024, word_half, word_neg_half, word_two, alpha_eq, eps_eq]
  rfl

theorem r42 : val_main_v42 (F := Ideal) (V2 8192 2304 (φ := .f32) P) (V3 1 1024 2304 (φ := .f32) fun _ => Q) (V2 8192 1024 (φ := .f32) R)
    = V2 1 1024 (φ := .f32) (fun _ j => ∑ k : Fin 8192, E P Q R k.val j) := by
  funext x
  pointwise [val_main_v42, val_main_v41, val_main_cst_10]
  simp only [r40, V2, ← EReal.coe_mul, sum_coe, ← EReal.coe_add, ← EReal.coe_sub, ← EReal.coe_neg, div_1024, word_1024, word_half, word_neg_half, word_two, alpha_eq, eps_eq]
  rfl

theorem r45 : val_main_v45 (F := Ideal) (V2 8192 2304 (φ := .f32) P) (V3 1 1024 2304 (φ := .f32) fun _ => Q) (V2 8192 1024 (φ := .f32) R) (V2 8192 2048 (φ := .f32) Y) (V3 1 2048 1024 (φ := .f32) fun _ => W) (V2 8192 1024 (φ := .f32) X)
    = V2 1 1024 (φ := .f32) (fun _ j => ∑ k : Fin 8192, xhat (Z Y X W) k.val j * E P Q R k.val j) := by
  funext x
  pointwise [val_main_v45, val_main_v44, val_main_v43, val_main_cst_11]
  simp only [r40, r28, V2, ← EReal.coe_mul, sum_coe, ← EReal.coe_add, ← EReal.coe_sub, ← EReal.coe_neg, div_1024, word_1024, word_half, word_neg_half, word_two, alpha_eq, eps_eq]
  rfl

theorem r47 : val_main_v47 (F := Ideal) (V2 8192 2304 (φ := .f32) P) (V3 1 1024 2304 (φ := .f32) fun _ => Q) (V2 8192 1024 (φ := .f32) R) (V2 1 1024 (φ := .f32) fun _ => G)
    = V2 8192 1024 (φ := .f32) (fun i j => E P Q R i j * G j) := by
  funext x
  pointwise [val_main_v47, val_main_v46]
  simp only [r40, V2, ← EReal.coe_mul, sum_coe, ← EReal.coe_add, ← EReal.coe_sub, ← EReal.coe_neg, div_1024, word_1024, word_half, word_neg_half, word_two, alpha_eq, eps_eq]
  rfl

theorem r52 : val_main_v52 (F := Ideal) (V2 8192 2304 (φ := .f32) P) (V3 1 1024 2304 (φ := .f32) fun _ => Q) (V2 8192 1024 (φ := .f32) R) (V2 8192 2048 (φ := .f32) Y) (V3 1 2048 1024 (φ := .f32) fun _ => W) (V2 8192 1024 (φ := .f32) X) (V2 1 1024 (φ := .f32) fun _ => G)
    = V2 8192 1024 (φ := .f32) (fun i j => (fun i j => E P Q R i j * G j) i j * rsd (Z Y X W) i) := by
  funext x
  pointwise [val_main_v52, val_main_v51]
  simp only [r47, r23, V2, ← EReal.coe_mul, sum_coe, ← EReal.coe_add, ← EReal.coe_sub, ← EReal.coe_neg, div_1024, word_1024, word_half, word_neg_half, word_two, alpha_eq, eps_eq]
  rfl

theorem r61 : val_main_v61 (F := Ideal) (V2 8192 2304 (φ := .f32) P) (V3 1 1024 2304 (φ := .f32) fun _ => Q) (V2 8192 1024 (φ := .f32) R) (V2 8192 2048 (φ := .f32) Y) (V3 1 2048 1024 (φ := .f32) fun _ => W) (V2 8192 1024 (φ := .f32) X) (V2 1 1024 (φ := .f32) fun _ => G)
    = V2 8192 1024 (φ := .f32) (back (Z Y X W) (fun i j => E P Q R i j * G j)) := by
  funext x
  pointwise [val_main_v61, val_main_v60, val_main_v59, val_main_v58, val_main_v57, val_main_v53, val_main_v50, val_main_v49, val_main_v48, val_main_cst_12, val_main_cst_14, val_main_cst_15]
  simp only [r20, r47, r26, r14, Finset.univ_unique, Finset.sum_singleton, V2, ← EReal.coe_mul, sum_coe, ← EReal.coe_add, ← EReal.coe_sub, ← EReal.coe_neg, div_1024, word_1024, word_half, word_neg_half, word_two, alpha_eq, eps_eq]
  rfl

/-- The gradient of the residual sum, as differentiation writes it. -/
theorem r71 : val_main_v71 (F := Ideal) (V2 8192 2304 (φ := .f32) P) (V3 1 1024 2304 (φ := .f32) fun _ => Q) (V2 8192 1024 (φ := .f32) R) (V2 8192 2048 (φ := .f32) Y) (V3 1 2048 1024 (φ := .f32) fun _ => W) (V2 8192 1024 (φ := .f32) X) (V2 1 1024 (φ := .f32) fun _ => G)
    = V2 8192 1024 (φ := .f32) (gradD (Z Y X W) (fun i j => E P Q R i j * G j)) := by
  funext x
  pointwise [val_main_v71, val_main_v70, val_main_v69, val_main_v68, val_main_v67, val_main_v66, val_main_v65, val_main_v64, val_main_v63, val_main_v62, val_main_v56, val_main_v55, val_main_v54, val_main_cst_13, val_main_cst_16, val_main_cst_17, val_main_cst_18]
  simp only [r52, r61, Finset.univ_unique, Finset.sum_singleton, V2, ← EReal.coe_mul, sum_coe, ← EReal.coe_add, ← EReal.coe_sub, ← EReal.coe_neg, div_1024, word_1024, word_half, word_neg_half, word_two, alpha_eq, eps_eq]
  rfl

end Cert.DxRef
end
-- ==== Proof.Dx.lean ====
module

public import proofs.«01_k».proof.Defs
public import proofs.«01_k».proof.Proof.Gen.LnKernel.Frame
public import proofs.«01_k».proof.Proof.Gen.Pre_ln_finite
public import proofs.«01_k».proof.Proof.DxValue
public import proofs.«01_k».proof.Proof.DxReference

@[expose] public section

set_option maxRecDepth 16384

/-! The claims about the last layer's input projection going backward: the product of the cotangents with the weight, the residual's
    part, and the gradient through the first layer's layer norm. -/

noncomputable section

namespace Cert.DxClaims

open Idealize.ShloMosaic Idealize.ShloMosaic.TcCoe Idealize.SL.Sem
open Cert.Reals Cert.Ln Cert.Dx Cert.LnKernelIdeal Cert.LnKernelIdeal.Gen

/-- The call terminates with its arguments unchanged and its semaphores at zero, on bits. -/
theorem frame_kernel : Cert.quiescent_LnKernel := fun m ρ _ => Cert.LnKernel.Gen.frame m ρ

/-- The same over the extended reals. -/
theorem frame_ideal : Cert.quiescent_LnKernelIdeal := fun m ρ _ => Cert.LnKernelIdeal.Gen.frame m ρ

/-- The same under the precondition. -/
theorem frame_ideal_finite : Cert.quiescent_LnKernelIdeal_pre_ln_finite := fun m ρ _ => Cert.LnKernelIdeal.Gen.frame m ρ

/-- The reference terminates with its arguments unchanged. -/
theorem frame_reference : Cert.quiescent_LnReferenceIdeal := fun m ρ _ =>
  (θ_run Cert.LnReferenceIdeal.defs _ _).mono (fun r h => ⟨fun c => (h c).2.2.2.2, sem_eq_zero_of_no_sems (by rfl) r.2⟩)
    (Cert.LnReferenceIdeal.Value.run m ρ)

/-- The same under the precondition. -/
theorem frame_reference_finite : Cert.quiescent_LnReferenceIdeal_pre_ln_finite := fun m ρ _ => frame_reference m ρ trivial

/-- The precondition says that every argument holds real numbers. -/
theorem reals_of_pre (x0 : FVec Ideal S8192x2304 .f32) (x1 : FVec Ideal S1x1024x2304 .f32) (x2 : FVec Ideal S8192x1024 .f32) (x3 : FVec Ideal S8192x2048 .f32)
    (x4 : FVec Ideal S1x2048x1024 .f32) (x5 : FVec Ideal S8192x1024 .f32) (x6 : FVec Ideal S1x1024 .f32)
    (h : Cert.Pre_ln_finite.fn (F := Ideal) x0 x1 x2 x3 x4 x5 x6 = fun _ => 1#1) :
    (∀ i, ∃ r : ℝ, x0 i = r) ∧ (∀ i, ∃ r : ℝ, x1 i = r) ∧ (∀ i, ∃ r : ℝ, x2 i = r) ∧ (∀ i, ∃ r : ℝ, x3 i = r) ∧ (∀ i, ∃ r : ℝ, x4 i = r)
      ∧ (∀ i, ∃ r : ℝ, x5 i = r) ∧ ∀ i, ∃ r : ℝ, x6 i = r := by
  have e := congrFun h ix0
  unfold Cert.Pre_ln_finite.fn at e
  haveI : Subsingleton Cert.Pre_ln_finite.S_.Idx := ⟨fun a b => funext fun k => k.elim0⟩
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ _ e0, real_of_all _ _ _ _ _ _ _ e1, real_of_all _ _ _ _ _ _ _ e2, real_of_all _ _ _ _ _ _ _ e3,
    real_of_all _ _ _ _ _ _ _ e4, real_of_all _ _ _ _ _ _ _ e5, real_of_all _ _ _ _ _ _ _ e6⟩

section
variable (m' : (ℓ : Loc Cert.LnReferenceIdeal.nD Cert.LnReferenceIdeal.τ Cert.LnReferenceIdeal.sig) → Buf (Elt Ideal) ℓ) (c : Dev Cert.LnReferenceIdeal.nD) {P Q R Y W X : ℕ → ℕ → ℝ} {G : ℕ → ℝ}
    (hP : m' ((c.tc : Thread Cert.LnReferenceIdeal.nD Cert.LnReferenceIdeal.τ).loc Cert.LnReferenceIdeal.main_arg0) = V2 8192 2304 (φ := .f32) P)
    (hV : m' ((c.tc : Thread Cert.LnReferenceIdeal.nD Cert.LnReferenceIdeal.τ).loc Cert.LnReferenceIdeal.main_arg1) = V3 1 1024 2304 (φ := .f32) fun _ => Q)
    (hR : m' ((c.tc : Thread Cert.LnReferenceIdeal.nD Cert.LnReferenceIdeal.τ).loc Cert.LnReferenceIdeal.main_arg2) = V2 8192 1024 (φ := .f32) R)
    (hY : m' ((c.tc : Thread Cert.LnReferenceIdeal.nD Cert.LnReferenceIdeal.τ).loc Cert.LnReferenceIdeal.main_arg3) = V2 8192 2048 (φ := .f32) Y)
    (hW : m' ((c.tc : Thread Cert.LnReferenceIdeal.nD Cert.LnReferenceIdeal.τ).loc Cert.LnReferenceIdeal.main_arg4) = V3 1 2048 1024 (φ := .f32) fun _ => W)
    (hX : m' ((c.tc : Thread Cert.LnReferenceIdeal.nD Cert.LnReferenceIdeal.τ).loc Cert.LnReferenceIdeal.main_arg5) = V2 8192 1024 (φ := .f32) X)
    (hG : m' ((c.tc : Thread Cert.LnReferenceIdeal.nD Cert.LnReferenceIdeal.τ).loc Cert.LnReferenceIdeal.main_arg6) = V2 1 1024 (φ := .f32) fun _ => G)
include hP hV hR hY hW hX hG

theorem result71 : Cert.LnReferenceIdeal.Value.res_main_v71 m' c = V2 8192 1024 (φ := .f32) (grad (Z Y X W) (fun i j => E P Q R i j * G j)) := by
  have hd : gradD (Z Y X W) (fun i j => E P Q R i j * G j) = grad (Z Y X W) (fun i j => E P Q R i j * G j) := funext fun i => funext fun j => gradD_eq _ _ i j
  rw [Cert.LnReferenceIdeal.Read.val_main_v71_eq, hP, hV, hR, hY, hW, hX, hG, ← hd]
  exact Cert.DxRef.r71 P Q R Y W X G

theorem result72 : Cert.LnReferenceIdeal.Value.res_main_v72 m' c = V2 8192 1024 (φ := .bf16) (grad (Z Y X W) (fun i j => E P Q R i j * G j)) := by
  have hd : gradD (Z Y X W) (fun i j => E P Q R i j * G j) = grad (Z Y X W) (fun i j => E P Q R i j * G j) := funext fun i => funext fun j => gradD_eq _ _ i j
  rw [Cert.LnReferenceIdeal.Read.val_main_v72_eq, hP, hV, hR, hY, hW, hX, hG, ← hd]
  exact congrArg (fun v : FVec Ideal S8192x1024 .f32 => truncf .bf16 v bitsLt_bf16_f32) (Cert.DxRef.r71 P Q R Y W X G)

theorem result45 : Cert.LnReferenceIdeal.Read.val_main_v45 (F := Ideal) (m' ((c.tc : Thread Cert.LnReferenceIdeal.nD Cert.LnReferenceIdeal.τ).loc Cert.LnReferenceIdeal.main_arg0)) (m' ((c.tc : Thread Cert.LnReferenceIdeal.nD Cert.LnReferenceIdeal.τ).loc Cert.LnReferenceIdeal.main_arg1)) (m' ((c.tc : Thread Cert.LnReferenceIdeal.nD Cert.LnReferenceIdeal.τ).loc Cert.LnReferenceIdeal.main_arg2)) (m' ((c.tc : Thread Cert.LnReferenceIdeal.nD Cert.LnReferenceIdeal.τ).loc Cert.LnReferenceIdeal.main_arg3)) (m' ((c.tc : Thread Cert.LnReferenceIdeal.nD Cert.LnReferenceIdeal.τ).loc Cert.LnReferenceIdeal.main_arg4)) (m' ((c.tc : Thread Cert.LnReferenceIdeal.nD Cert.LnReferenceIdeal.τ).loc Cert.LnReferenceIdeal.main_arg5)) = upto (fun k j => E P Q R k j * xhat (Z Y X W) k j) 16 := by
  rw [hP, hV, hR, hY, hW, hX, upto_all]
  refine (Cert.DxRef.r45 P Q R Y W X).trans (V2_congr fun i _ j _ => ?_)
  exact Finset.sum_congr rfl fun k _ => mul_comm _ _

theorem result42 : Cert.LnReferenceIdeal.Read.val_main_v42 (F := Ideal) (m' ((c.tc : Thread Cert.LnReferenceIdeal.nD Cert.LnReferenceIdeal.τ).loc Cert.LnReferenceIdeal.main_arg0)) (m' ((c.tc : Thread Cert.LnReferenceIdeal.nD Cert.LnReferenceIdeal.τ).loc Cert.LnReferenceIdeal.main_arg1)) (m' ((c.tc : Thread Cert.LnReferenceIdeal.nD Cert.LnReferenceIdeal.τ).loc Cert.LnReferenceIdeal.main_arg2)) = upto (E P Q R) 16 := by
  rw [hP, hV, hR, upto_all]
  exact Cert.DxRef.r42 P Q R

end

/-- For finite arguments the call computes the gradients with respect to the residual sum and the layer norm's scale and shift that
    differentiating the forward lines gives, over the extended reals. -/
theorem algebraic : Cert.algebraic_LnKernelIdeal_LnReferenceIdeal_pre_ln_finite := by
  intro m g m' g' hpre hagree
  refine ⟨fun c => _, fun c => _, fun c => _, fun c => _, Cert.LnKernelIdeal.Value.run_blocks m g, ?_⟩
  refine (θ_run _ _ _).mono (fun r h c => ?_) (Cert.LnReferenceIdeal.Value.run m' g')
  obtain ⟨a0, a1, a2, a3, a4, a5, a6⟩ := hagree c
  obtain ⟨h0, h1, h2, h3, h4, h5, h6⟩ := reals_of_pre _ _ _ _ _ _ _ (hpre c)
  obtain ⟨P, hP⟩ := exists_V2 _ h0
  obtain ⟨Q, hV⟩ := exists_one _ h1
  obtain ⟨R, hR⟩ := exists_V2 _ h2
  obtain ⟨Y, hY⟩ := exists_V2 _ h3
  obtain ⟨W, hW⟩ := exists_one _ h4
  obtain ⟨X, hX⟩ := exists_V2 _ h5
  obtain ⟨G, hG⟩ := exists_row _ h6
  exact ⟨(h c).1.trans ((result71 m' c (a0.trans hP) (a1.trans hV) (a2.trans hR) (a3.trans hY) (a4.trans hW) (a5.trans hX) (a6.trans hG)).trans (final7 m c hP hV hR hY hW hX hG).symm), (h c).2.1.trans ((result72 m' c (a0.trans hP) (a1.trans hV) (a2.trans hR) (a3.trans hY) (a4.trans hW) (a5.trans hX) (a6.trans hG)).trans (final8 m c hP hV hR hY hW hX hG).symm), (h c).2.2.1.trans ((Cert.LnReferenceIdeal.Read.val_main_v45_eq (F := Ideal) _ _ _ _ _ _).trans ((result45 m' c (a0.trans hP) (a1.trans hV) (a2.trans hR) (a3.trans hY) (a4.trans hW) (a5.trans hX) (a6.trans hG)).trans (final9 m c hP hV hR hY hW hX hG).symm)), (h c).2.2.2.1.trans ((Cert.LnReferenceIdeal.Read.val_main_v42_eq (F := Ideal) _ _ _).trans ((result42 m' c (a0.trans hP) (a1.trans hV) (a2.trans hR) (a3.trans hY) (a4.trans hW) (a5.trans hX) (a6.trans hG)).trans (final10 m c hP hV hR hY hW hX hG).symm)), (h c).2.2.2.2⟩

end Cert.DxClaims
end
-- ==== Proof.RgBody.lean ====
/-
  The body of the recurrence's gradient ends at every grid point, whatever its buffers hold.
-/
module

public import proofs.«01_k».proof.Proof.Owned
public import proofs.«01_k».proof.Proof.Gen.RgKernelIdeal
public import proofs.«01_k».proof.Proof.Gen.RgKernelIdeal.Skeleton

@[expose] public section

set_option maxRecDepth 16384

noncomputable section

namespace Cert.RgBody

open Idealize.ShloMosaic Idealize.ShloMosaic.TcCoe Idealize.ShloMosaic.Tactic
open Idealize.SL Idealize.SL.RA Idealize.SL.BI
open Idealize.SL.Sem
open Cert.RgKernelIdeal Cert.RgKernelIdeal.Gen Cert.Owned

variable {F : FTy → Type} [FloatOps F]

/-- The buffers that the body works on: the blocks of the convolution's input and of the rows before it, of the states and of the rows
    before them, of the states' cotangent, the vectors and the two gates' weights; the four results' blocks; and six buffers that
    live across grid points. -/
inductive B | ax | axh | hs | hh | dh | pv | wa | wx | dax | dwa | dwx | dpv | ext | hext | dcext | al | gr | gc
  deriving DecidableEq

instance : Fintype B := ⟨{.ax, .axh, .hs, .hh, .dh, .pv, .wa, .wx, .dax, .dwa, .dwx, .dpv, .ext, .hext, .dcext, .al, .gr, .gc}, by intro x; cases x <;> decide⟩

/-- Their shapes. -/
@[reducible] def shp : B → Shape
  | .ax => S512x1024 | .axh => S8x1024 | .hs => S512x1024 | .hh => S8x1024 | .dh => S512x1024 | .pv => S8x1024 | .wa => S8x128x128 | .wx => S8x128x128
  | .dax => S512x1024 | .dwa => S8x128x128 | .dwx => S8x128x128 | .dpv => S8x1024
  | .ext => S520x1024 | .hext => S520x1024 | .dcext => S520x1024 | .al => S512x1024 | .gr => S512x1024 | .gc => S1x1024

/-- Their element types. -/
@[reducible] def elt : B → EltTy
  | .ax => .f32 | .axh => .f32 | .hs => .f32 | .hh => .f32 | .dh => .f32 | .pv => .f32 | .wa => .bf16 | .wx => .bf16
  | .dax => .bf16 | .dwa => .f32 | .dwx => .f32 | .dpv => .f32
  | .ext => .f32 | .hext => .f32 | .dcext => .f32 | .al => .f32 | .gr => .f32 | .gc => .f32

/-- The buffers as memory references. -/
abbrev Mems := (b : B) → Memref sig .tc .vmem (shp b) (elt b)

/-- The same as a list of owned buffers. -/
@[reducible] def bufs (M : Mems) : Bufs sig B := ⟨fun _ => .vmem, shp, elt, M⟩

variable (defs : Defs nD τ sig (Elt F) Λ₀) (c : Dev nD) (M : Mems) (H : (b : B) → (M b).IsWhole)
variable (Ix : Type) [DecidableEq Ix] (U : Type) [URA U] (Lvl : Type) [Preorder Lvl] (bd : Option ℕ)

/-- Whatever the buffers hold, the program ends. -/
def Ends {α : Type} (p : Prog (TpuEff nD τ sig (Elt F) Λ₀ .tc) α) : Prop :=
  ∀ σ, Runs (R := bufs M) Ix U Lvl defs c bd p (fun _ _ => True) σ

section Rules
variable {defs c M Ix U Lvl bd} {α β : Type}

theorem Ends.ret (a : α) : Ends defs c M Ix U Lvl bd (Prog.ret a) := fun _ => Runs.ret trivial

theorem Ends.load (b : B) {r : LoadRect (shp b)} {hl : (M b).view.LoadsAt r}
    {k : (r.shape.Idx → Elt F (elt b)) → Prog (TpuEff nD τ sig (Elt F) Λ₀ .tc) α} (h : ∀ v, Ends defs c M Ix U Lvl bd (k v)) :
    Ends defs c M Ix U Lvl bd (Prog.lift (.load (M b) r hl) >>= k) := fun _ => Runs.load (R := bufs M) b (h _ _)

theorem Ends.store (b : B) {r : Rect (shp b)} {w : r.shape.Idx → Elt F (elt b)} {hx : ((M b).access r).Stores Finset.univ}
    {hm : Finset.univ = Finset.univ ∨ ∀ a, r.stride a = 1} {k : PUnit → Prog (TpuEff nD τ sig (Elt F) Λ₀ .tc) α}
    (h : Ends defs c M Ix U Lvl bd (k ⟨⟩)) : Ends defs c M Ix U Lvl bd (Prog.lift (.store (M b) r w Finset.univ hx hm) >>= k) :=
  fun _ => Runs.store (R := bufs M) b (h _)

theorem Ends.assume {P : Prop} {d : Decidable P} {k : PLift P → Prog (TpuEff nD τ sig (Elt F) Λ₀ .tc) α} (hP : P)
    (h : Ends defs c M Ix U Lvl bd (k ⟨hP⟩)) : Ends defs c M Ix U Lvl bd (.op (.assume P d) k) := fun σ => Runs.assume hP (h σ)

theorem Ends.bind {p : Prog (TpuEff nD τ sig (Elt F) Λ₀ .tc) β} {k : β → Prog (TpuEff nD τ sig (Elt F) Λ₀ .tc) α}
    (h : Ends defs c M Ix U Lvl bd p) (hk : ∀ b, Ends defs c M Ix U Lvl bd (k b)) : Ends defs c M Ix U Lvl bd (p >>= k) :=
  fun σ => Runs.bind ((h σ).mono fun b σ' _ => hk b σ')

theorem Ends.loop {w : ℕ} {γ : Type} (l : Scf.Loop w) (hok : l.OK) (init : γ) (body : Fin l.trips → γ → Prog (TpuEff nD τ sig (Elt F) Λ₀ .tc) γ)
    (h : ∀ t acc, Ends defs c M Ix U Lvl bd (body t acc)) : Ends defs c M Ix U Lvl bd (Scf.Loop.for l hok init body) :=
  fun _ => Runs.loop (R := bufs M) l hok init body (fun _ _ _ => True) (fun t acc σ _ => h t acc σ) trivial

end Rules

/-- A part of the body at these buffers. -/
abbrev on {T : Type 1} (f : (a1 : Memref sig .tc .vmem S512x1024 .f32) → a1.IsWhole → (a2 : Memref sig .tc .vmem S8x1024 .f32) → a2.IsWhole
    → (a3 : Memref sig .tc .vmem S512x1024 .f32) → a3.IsWhole → (a4 : Memref sig .tc .vmem S8x1024 .f32) → a4.IsWhole
    → (a5 : Memref sig .tc .vmem S512x1024 .f32) → a5.IsWhole → (a6 : Memref sig .tc .vmem S8x1024 .f32) → a6.IsWhole
    → (a7 : Memref sig .tc .vmem S8x128x128 .bf16) → a7.IsWhole → (a8 : Memref sig .tc .vmem S8x128x128 .bf16) → a8.IsWhole
    → (a9 : Memref sig .tc .vmem S512x1024 .bf16) → a9.IsWhole → (a10 : Memref sig .tc .vmem S8x128x128 .f32) → a10.IsWhole
    → (a11 : Memref sig .tc .vmem S8x128x128 .f32) → a11.IsWhole → (a12 : Memref sig .tc .vmem S8x1024 .f32) → a12.IsWhole
    → (a13 : Memref sig .tc .vmem S520x1024 .f32) → a13.IsWhole → (a14 : Memref sig .tc .vmem S520x1024 .f32) → a14.IsWhole
    → (a15 : Memref sig .tc .vmem S520x1024 .f32) → a15.IsWhole → (a16 : Memref sig .tc .vmem S512x1024 .f32) → a16.IsWhole
    → (a17 : Memref sig .tc .vmem S512x1024 .f32) → a17.IsWhole → (a18 : Memref sig .tc .vmem S1x1024 .f32) → a18.IsWhole → T) : T :=
  f (M .ax) (H .ax) (M .axh) (H .axh) (M .hs) (H .hs) (M .hh) (H .hh) (M .dh) (H .dh) (M .pv) (H .pv) (M .wa) (H .wa) (M .wx) (H .wx)
    (M .dax) (H .dax) (M .dwa) (H .dwa) (M .dwx) (H .dwx) (M .dpv) (H .dpv) (M .ext) (H .ext) (M .hext) (H .hext) (M .dcext) (H .dcext)
    (M .al) (H .al) (M .gr) (H .gr) (M .gc) (H .gc)

variable (i : grid0.Coords)

/-! The parts of the body, one after another: the first two are those of the loop over the block's rows. -/

theorem part1 (c0_i32_98 : BitVec 32) (c1_i32 : BitVec 32) (k0_t1 : Fin k0_t1_loop.trips) (arg20 : Vec F S1x1024 .f32) :
    Ends defs c M Ix U Lvl bd (on M H (k0_part1 (F := F) i) c0_i32_98 c1_i32 k0_t1 arg20) := by
  rw [on, k0_part1_eq_skeleton]
  exact
    .load .dh fun _ => .load .gr fun _ => .store .gr <| .load .al fun _ => .load .dh fun _ => .load .gr fun _ => .store .gr <|
    .load .al fun _ => .load .dh fun _ => .load .gr fun _ => .store .gr <| .ret _

theorem part2 (k0_t1 : Fin k0_t1_loop.trips) (v511 : BitVec 32) (v541 : FVec F S1x1024 .f32) :
    Ends defs c M Ix U Lvl bd (on M H (k0_part2 (F := F) i) k0_t1 v511 v541) := by
  rw [on, k0_part2_eq_skeleton]
  exact
    .load .al fun _ => .load .dh fun _ => .load .gr fun _ => .store .gr <| .load .al fun _ => .load .dh fun _ => .load .gr fun _ =>
    .store .gr <| .load .al fun _ => .load .dh fun _ => .load .gr fun _ => .store .gr <| .ret _

/-- One trip of the loop over the block's rows. -/
theorem trip (v4 : Vec F S8x1024 .f32) (v125 : FVec F S512x1024 .f32) (k0_t1 : Fin k0_t1_loop.trips) (arg20 : Vec F S1x1024 .f32) :
    Ends defs c M Ix U Lvl bd (on M H (k0_t1_body (F := F) i) v4 v125 k0_t1 arg20) := by
  unfold on k0_t1_body
  refine .bind (part1 defs c M H Ix U Lvl bd i _ _ _ _) ?_
  rintro ⟨v511, v541⟩
  refine .bind (part2 defs c M H Ix U Lvl bd i _ _ _) fun v580 => ?_
  exact
    .load .al fun _ => .load .dh fun _ => .load .gr fun _ => .store .gr <| .load .al fun _ => .load .dh fun _ => .load .gr fun _ =>
    .store .gr <| .load .al fun _ => .ret _

theorem part3 :
    Ends defs c M Ix U Lvl bd (on M H (k0_part3 (F := F) i)) := by
  rw [on, k0_part3_eq_skeleton]
  unfold k0_part3_skel
  by_cases h : Scalar.cmpi .ne (Scalar.extui (Scalar.cmpi .eq (BitVec.ofNat 32 (i 0).val) 0#32)) 0#32 = 1#1
  · dsimp only
    rw [dif_pos h]
    exact
      .load .dwa fun _ => .store .dwa <| .load .dwx fun _ => .store .dwx <| .load .dpv fun _ => .store .dpv <| .load .gc fun _ =>
      .store .gc <| .load .dcext fun _ => .store .dcext <| .load .pv fun _ => .load .ax fun _ => .load .axh fun _ => .load .ext fun _ =>
      .store .ext <| .load .ext fun _ => .store .ext <| .load .hh fun _ => .load .hext fun _ => .store .hext <| .load .hs fun _ =>
      .load .hext fun _ => .store .hext <| .ret _
  · dsimp only
    rw [dif_neg h]
    exact
      .load .pv fun _ => .load .ax fun _ => .load .axh fun _ => .load .ext fun _ => .store .ext <| .load .ext fun _ => .store .ext <|
      .load .hh fun _ => .load .hext fun _ => .store .hext <| .load .hs fun _ => .load .hext fun _ => .store .hext <| .ret _

theorem part4 (v4 : Vec F S8x1024 .f32) (v28 : FVec F S1x1024 .f32) (v31 : FVec F S512x1024 .f32) :
    Ends defs c M Ix U Lvl bd (on M H (k0_part4 (F := F) i) v4 v28 v31) := by
  rw [on, k0_part4_eq_skeleton]
  exact
    .load .ext fun _ => .load .ext fun _ => .load .ext fun _ => .load .wa fun _ => .load .wa fun _ => .load .wa fun _ => .load .wa fun _ =>
    .ret _

theorem part5 (v49 : FVec F S512x1024 .bf16) (v53 : FVec F S512x128 .f32) (v57 : FVec F S512x128 .f32) (v61 : FVec F S512x128 .f32) (v65 : FVec F S512x128 .f32) (v66 : FVec F S512x128 .bf16) :
    Ends defs c M Ix U Lvl bd (on M H (k0_part5 (F := F) i) v49 v53 v57 v61 v65 v66) := by
  rw [on, k0_part5_eq_skeleton]
  exact
    .load .wa fun _ => .load .wa fun _ => .load .wa fun _ => .load .wa fun _ => .load .wx fun _ => .load .wx fun _ => .load .wx fun _ =>
    .load .wx fun _ => .ret _

theorem part6 (v4 : Vec F S8x1024 .f32) (v49 : FVec F S512x1024 .bf16) (v82 : FVec F S512x1024 .f32) (v86 : FVec F S512x128 .f32) (v90 : FVec F S512x128 .f32) (v94 : FVec F S512x128 .f32) (v95 : FVec F S512x128 .bf16) (v97 : FVec F S128x128 .bf16) (cst_63 : FVec F S512x128 .f32) :
    Ends defs c M Ix U Lvl bd (on M H (k0_part6 (F := F) i) v4 v49 v82 v86 v90 v94 v95 v97 cst_63) := by
  rw [on, k0_part6_eq_skeleton]
  exact
    .load .wx fun _ => .load .wx fun _ => .load .wx fun _ => .load .wx fun _ => .ret _

theorem part7 (v4 : Vec F S8x1024 .f32) (v125 : FVec F S512x1024 .f32) :
    Ends defs c M Ix U Lvl bd (on M H (k0_part7 (F := F) i) v4 v125) := by
  rw [on, k0_part7_eq_skeleton]
  refine .load .al fun _ => .store .al <| .load .gc fun _ => ?_
  exact .bind (.loop _ _ _ _ fun t acc => trip defs c M H Ix U Lvl bd i _ _ t acc) fun _ => .load .gc fun _ => .store .gc <| .ret _

theorem part8 (v48 : FVec F S512x1024 .f32) (v49 : FVec F S512x1024 .bf16) (v125 : FVec F S512x1024 .f32) (v135 : FVec F S512x1024 .f32) (v153 : FVec F S1x1024 .f32) (v158 : FVec F S512x1024 .f32) (v159 : FVec F S512x1024 .f32) (v166 : FVec F S512x1024 .f32) :
    Ends defs c M Ix U Lvl bd (on M H (k0_part8 (F := F) i) v48 v49 v125 v135 v153 v158 v159 v166) := by
  rw [on, k0_part8_eq_skeleton]
  exact
    .load .gr fun _ => .load .hext fun _ => .load .dwa fun _ => .load .dwa fun _ => .store .dwa <| .load .dwx fun _ => .ret _

theorem part9 (v49 : FVec F S512x1024 .bf16) (v200 : FVec F S512x1024 .bf16) (v201 : FVec F S512x1024 .bf16) (v216 : FVec F S128x128 .f32) :
    Ends defs c M Ix U Lvl bd (on M H (k0_part9 (F := F) i) v49 v200 v201 v216) := by
  rw [on, k0_part9_eq_skeleton]
  exact
    .load .dwx fun _ => .store .dwx <| .load .wa fun _ => .load .wx fun _ => .load .dwa fun _ => .load .dwa fun _ => .store .dwa <|
    .load .dwx fun _ => .load .dwx fun _ => .store .dwx <| .ret _

theorem part10 (v49 : FVec F S512x1024 .bf16) (v200 : FVec F S512x1024 .bf16) (v201 : FVec F S512x1024 .bf16) (v247 : FVec F S512x128 .bf16) :
    Ends defs c M Ix U Lvl bd (on M H (k0_part10 (F := F) i) v49 v200 v201 v247) := by
  rw [on, k0_part10_eq_skeleton]
  exact
    .load .wa fun _ => .load .wx fun _ => .load .dwa fun _ => .load .dwa fun _ => .store .dwa <| .load .dwx fun _ => .load .dwx fun _ =>
    .store .dwx <| .load .wa fun _ => .ret _

theorem part11 (v49 : FVec F S512x1024 .bf16) (v200 : FVec F S512x1024 .bf16) (v201 : FVec F S512x1024 .bf16) (v277 : FVec F S512x128 .f32) (v278 : FVec F S512x128 .bf16) :
    Ends defs c M Ix U Lvl bd (on M H (k0_part11 (F := F) i) v49 v200 v201 v277 v278) := by
  rw [on, k0_part11_eq_skeleton]
  exact
    .load .wx fun _ => .load .dwa fun _ => .load .dwa fun _ => .store .dwa <| .load .dwx fun _ => .load .dwx fun _ => .store .dwx <|
    .load .wa fun _ => .load .wx fun _ => .ret _

theorem part12 (v49 : FVec F S512x1024 .bf16) (v200 : FVec F S512x1024 .bf16) (v201 : FVec F S512x1024 .bf16) :
    Ends defs c M Ix U Lvl bd (on M H (k0_part12 (F := F) i) v49 v200 v201) := by
  rw [on, k0_part12_eq_skeleton]
  exact
    .load .dwa fun _ => .load .dwa fun _ => .store .dwa <| .load .dwx fun _ => .load .dwx fun _ => .store .dwx <| .load .wa fun _ =>
    .load .wx fun _ => .load .dwa fun _ => .ret _

theorem part13 (v49 : FVec F S512x1024 .bf16) (v200 : FVec F S512x1024 .bf16) (v201 : FVec F S512x1024 .bf16) (v342 : FVec F S128x128 .f32) :
    Ends defs c M Ix U Lvl bd (on M H (k0_part13 (F := F) i) v49 v200 v201 v342) := by
  rw [on, k0_part13_eq_skeleton]
  exact
    .load .dwa fun _ => .store .dwa <| .load .dwx fun _ => .load .dwx fun _ => .store .dwx <| .load .wa fun _ => .load .wx fun _ =>
    .load .dwa fun _ => .load .dwa fun _ => .store .dwa <| .load .dwx fun _ => .ret _

theorem part14 (v49 : FVec F S512x1024 .bf16) (v200 : FVec F S512x1024 .bf16) (v201 : FVec F S512x1024 .bf16) (v373 : Vec F S1x128x128 .f32) :
    Ends defs c M Ix U Lvl bd (on M H (k0_part14 (F := F) i) v49 v200 v201 v373) := by
  rw [on, k0_part14_eq_skeleton]
  exact
    .load .dwx fun _ => .store .dwx <| .load .wa fun _ => .load .wx fun _ => .load .dwa fun _ => .load .dwa fun _ => .store .dwa <|
    .load .dwx fun _ => .ret _

theorem part15 (v4 : Vec F S8x1024 .f32) (v199 : FVec F S512x1024 .f32) (v200 : FVec F S512x1024 .bf16) (v201 : FVec F S512x1024 .bf16) (v228 : FVec F S512x128 .f32) (v255 : FVec F S512x128 .f32) (v282 : FVec F S512x128 .f32) (v309 : FVec F S512x128 .f32) (v336 : FVec F S512x128 .f32) (v363 : FVec F S512x128 .f32) (v390 : FVec F S512x128 .f32) (v405 : FVec F S128x128 .f32) :
    Ends defs c M Ix U Lvl bd (on M H (k0_part15 (F := F) i) v4 v199 v200 v201 v228 v255 v282 v309 v336 v363 v390 v405) := by
  rw [on, k0_part15_eq_skeleton]
  exact
    .load .dwx fun _ => .store .dwx <| .load .wa fun _ => .load .wx fun _ => .load .dcext fun _ => .store .dcext <| .load .dcext fun _ =>
    .load .dcext fun _ => .load .dcext fun _ => .load .dax fun _ => .store .dax <| .ret _

theorem part16 (v125 : FVec F S512x1024 .f32) (v185 : FVec F S512x1024 .f32) (v193 : FVec F S512x1024 .f32) (v198 : FVec F S512x1024 .f32) (v419 : FVec F S512x1024 .f32) (v443 : FVec F S8x1024 .f32) :
    Ends defs c M Ix U Lvl bd (on M H (k0_part16 (F := F) i) v125 v185 v193 v198 v419 v443) := by
  rw [on, k0_part16_eq_skeleton]
  exact
    .load .dcext fun _ => .store .dcext <| .load .ext fun _ => .load .ext fun _ => .load .ext fun _ => .load .ext fun _ =>
    .load .dpv fun _ => .load .dpv fun _ => .store .dpv <| .ret _

theorem part17 (v454 : FVec F S1x1024 .f32) (v458 : FVec F S1x1024 .f32) (v462 : FVec F S1x1024 .f32) (v464 : FVec F S1x1024 .f32) (v466 : FVec F S1x1024 .f32) (v468 : FVec F S1x1024 .f32) (v473 : FVec F S1x1024 .f32) :
    Ends defs c M Ix U Lvl bd (on M H (k0_part17 (F := F) i) v454 v458 v462 v464 v466 v468 v473) := by
  rw [on, k0_part17_eq_skeleton]
  exact
    .load .dpv fun _ => .load .dpv fun _ => .store .dpv <| .load .dpv fun _ => .load .dpv fun _ => .store .dpv <| .load .dpv fun _ =>
    .load .dpv fun _ => .store .dpv <| .load .dpv fun _ => .load .dpv fun _ => .store .dpv <| .load .dpv fun _ => .load .dpv fun _ =>
    .store .dpv <| .load .dpv fun _ => .load .dpv fun _ => .store .dpv <| .load .dpv fun _ => .load .dpv fun _ => .ret _

/-- The body ends, whatever its buffers hold. -/
theorem body : Ends defs c M Ix U Lvl bd (on M H (cc0_rglru_bwd (F := F) i)) := by
  rw [on, cc0_rglru_bwd_eq_skeleton]
  unfold cc0_rglru_bwd_skel
  refine .bind (part3 defs c M H Ix U Lvl bd i) ?_
  rintro ⟨arg0, v4, v28, v31⟩
  refine .bind (part4 defs c M H Ix U Lvl bd i _ _ _) ?_
  rintro ⟨v48, v49, v53, v57, v61, v65, v66⟩
  refine .bind (part5 defs c M H Ix U Lvl bd i _ _ _ _ _ _) ?_
  rintro ⟨v82, v86, v90, v94, v95, v97, cst_63⟩
  refine .bind (part6 defs c M H Ix U Lvl bd i _ _ _ _ _ _ _ _ _) ?_
  rintro ⟨v125, v135⟩
  refine .bind (part7 defs c M H Ix U Lvl bd i _ _) ?_
  rintro ⟨v153, v158, v159, v166⟩
  refine .bind (part8 defs c M H Ix U Lvl bd i _ _ _ _ _ _ _ _) ?_
  rintro ⟨v185, v193, v198, v199, v200, v201, v216⟩
  refine .bind (part9 defs c M H Ix U Lvl bd i _ _ _ _) ?_
  rintro ⟨v228, v247⟩
  refine .bind (part10 defs c M H Ix U Lvl bd i _ _ _ _) ?_
  rintro ⟨v255, v277, v278⟩
  refine .bind (part11 defs c M H Ix U Lvl bd i _ _ _ _ _) ?_
  rintro ⟨v282, v309⟩
  refine .bind (part12 defs c M H Ix U Lvl bd i _ _ _) ?_
  rintro ⟨v336, v342⟩
  refine .bind (part13 defs c M H Ix U Lvl bd i _ _ _ _) ?_
  rintro ⟨v363, v373⟩
  refine .bind (part14 defs c M H Ix U Lvl bd i _ _ _ _) ?_
  rintro ⟨v390, v405⟩
  refine .bind (part15 defs c M H Ix U Lvl bd i _ _ _ _ _ _ _ _ _ _ _ _) ?_
  rintro ⟨v419, v443⟩
  refine .bind (part16 defs c M H Ix U Lvl bd i _ _ _ _ _ _) ?_
  rintro ⟨v454, v458, v462, v464, v466, v468, v473⟩
  refine .bind (part17 defs c M H Ix U Lvl bd i _ _ _ _ _ _ _) ?_
  rintro v504
  refine .store .dpv ?_
  by_cases h : Scalar.cmpi .ne (Scalar.extui (Scalar.cmpi .eq arg0 15#32)) 0#32 = 1#1
  · dsimp only
    rw [dif_pos h]
    exact .load .dpv fun _ => .load .dpv fun _ => .store .dpv <| .ret _
  · dsimp only
    rw [dif_neg h]
    exact .ret _

end Cert.RgBody
end
-- ==== Proof.RgLaunch.lean ====
/-
  The launch of the recurrence's backward pass: as the body ends at each grid point, so does the whole program, with its arguments unchanged.
-/
module

public import proofs.«01_k».proof.Proof.RgBody
public import proofs.«01_k».proof.Proof.Gen.RgKernelIdeal
public import proofs.«01_k».proof.Proof.Gen.RgKernelIdeal.Launch
public import proofs.«01_k».proof.Proof.Gen.RgKernelIdeal.Points
public import proofs.«01_k».proof.Proof.Gen.RgKernelIdeal.Frame
public import Idealize.ShloMosaic.Lib.Pipeline.FrameBody
public import Idealize.ShloMosaic.Lib.Pipeline.ArrRel
public import Idealize.ShloMosaic.Lib.Ring
public import Idealize.ShloMosaic.Lib.Tactic

@[expose] public section

set_option maxRecDepth 16384

noncomputable section

namespace Cert.RgRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)
open Cert.RgKernelIdeal Cert.RgKernelIdeal.Gen Cert.Owned Cert.RgBody

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers that the body works on at point `t`. -/
def mems (t : Fin cfg0.N) : Mems
  | .ax => win0_0.stage (cfg0.slots t 0)
  | .axh => win0_1.stage (cfg0.slots t 1)
  | .hs => win0_2.stage (cfg0.slots t 2)
  | .hh => win0_3.stage (cfg0.slots t 3)
  | .dh => win0_4.stage (cfg0.slots t 4)
  | .pv => win0_5.stage (cfg0.slots t 5)
  | .wa => win0_6.stage (cfg0.slots t 6)
  | .wx => win0_7.stage (cfg0.slots t 7)
  | .dax => win0_8.stage (cfg0.slots t 8)
  | .dwa => win0_9.stage (cfg0.slots t 9)
  | .dwx => win0_10.stage (cfg0.slots t 10)
  | .dpv => win0_11.stage (cfg0.slots t 11)
  | .ext => Memref.whole cc0_scratch0
  | .hext => Memref.whole cc0_scratch1
  | .dcext => Memref.whole cc0_scratch2
  | .al => Memref.whole cc0_scratch3
  | .gr => Memref.whole cc0_scratch4
  | .gc => Memref.whole cc0_scratch5

theorem whole (t : Fin cfg0.N) : (b : B) → (mems t b).IsWhole
  | .ax => hstage0_0 ((cfg0.slots t 0).cast nbuf0_0)
  | .axh => hstage0_1 ((cfg0.slots t 1).cast nbuf0_1)
  | .hs => hstage0_2 ((cfg0.slots t 2).cast nbuf0_2)
  | .hh => hstage0_3 ((cfg0.slots t 3).cast nbuf0_3)
  | .dh => hstage0_4 ((cfg0.slots t 4).cast nbuf0_4)
  | .pv => hstage0_5 ((cfg0.slots t 5).cast nbuf0_5)
  | .wa => hstage0_6 ((cfg0.slots t 6).cast nbuf0_6)
  | .wx => hstage0_7 ((cfg0.slots t 7).cast nbuf0_7)
  | .dax => hstage0_8 ((cfg0.slots t 8).cast nbuf0_8)
  | .dwa => hstage0_9 ((cfg0.slots t 9).cast nbuf0_9)
  | .dwx => hstage0_10 ((cfg0.slots t 10).cast nbuf0_10)
  | .dpv => hstage0_11 ((cfg0.slots t 11).cast nbuf0_11)
  | .ext => Memref.isWhole_whole _
  | .hext => Memref.isWhole_whole _
  | .dcext => Memref.isWhole_whole _
  | .al => Memref.isWhole_whole _
  | .gr => Memref.isWhole_whole _
  | .gc => Memref.isWhole_whole _

/-- What a run of the grid is described by: the arrays as they stand at its start, and nothing of what the blocks hold. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]

theorem held_eq (c : Dev nD) (M : Mems) (σ : (bufs M).State (Elt F)) :
    (held Unit (UR sig nD τ) ℕ c (bufs M) σ : sProp 𝕄) = iprop(owns (c : Thread nD τ) (M .ax) fullShare (σ .ax)
      ∗ owns (c : Thread nD τ) (M .axh) fullShare (σ .axh)
      ∗ owns (c : Thread nD τ) (M .hs) fullShare (σ .hs)
      ∗ owns (c : Thread nD τ) (M .hh) fullShare (σ .hh)
      ∗ owns (c : Thread nD τ) (M .dh) fullShare (σ .dh)
      ∗ owns (c : Thread nD τ) (M .pv) fullShare (σ .pv)
      ∗ owns (c : Thread nD τ) (M .wa) fullShare (σ .wa)
      ∗ owns (c : Thread nD τ) (M .wx) fullShare (σ .wx)
      ∗ owns (c : Thread nD τ) (M .dax) fullShare (σ .dax)
      ∗ owns (c : Thread nD τ) (M .dwa) fullShare (σ .dwa)
      ∗ owns (c : Thread nD τ) (M .dwx) fullShare (σ .dwx)
      ∗ owns (c : Thread nD τ) (M .dpv) fullShare (σ .dpv)
      ∗ owns (c : Thread nD τ) (M .ext) fullShare (σ .ext)
      ∗ owns (c : Thread nD τ) (M .hext) fullShare (σ .hext)
      ∗ owns (c : Thread nD τ) (M .dcext) fullShare (σ .dcext)
      ∗ owns (c : Thread nD τ) (M .al) fullShare (σ .al)
      ∗ owns (c : Thread nD τ) (M .gr) fullShare (σ .gr)
      ∗ owns (c : Thread nD τ) (M .gc) fullShare (σ .gc)) :=
  bigSep_univ_eq_bigSepL [B.ax, .axh, .hs, .hh, .dh, .pv, .wa, .wx, .dax, .dwa, .dwx, .dpv, .ext, .hext, .dcext, .al, .gr, .gc] (by decide) (by decide) _

theorem defs₀_row (t : Fin cfg0.N) :
    defs₀ (F := F) .tc cfg0.body (cfg0.bodyArgs t (cfg0.slots t)) = bodyAt0 t := by
  unfold defs₀; rw [Defs.onTc_tc]

/-- Contents put together. -/
def state (Xax : (shp .ax).Idx → Elt F (elt .ax)) (Xaxh : (shp .axh).Idx → Elt F (elt .axh)) (Xhs : (shp .hs).Idx → Elt F (elt .hs)) (Xhh : (shp .hh).Idx → Elt F (elt .hh)) (Xdh : (shp .dh).Idx → Elt F (elt .dh)) (Xpv : (shp .pv).Idx → Elt F (elt .pv)) (Xwa : (shp .wa).Idx → Elt F (elt .wa)) (Xwx : (shp .wx).Idx → Elt F (elt .wx)) (Xdax : (shp .dax).Idx → Elt F (elt .dax)) (Xdwa : (shp .dwa).Idx → Elt F (elt .dwa)) (Xdwx : (shp .dwx).Idx → Elt F (elt .dwx)) (Xdpv : (shp .dpv).Idx → Elt F (elt .dpv)) (Xext : (shp .ext).Idx → Elt F (elt .ext)) (Xhext : (shp .hext).Idx → Elt F (elt .hext)) (Xdcext : (shp .dcext).Idx → Elt F (elt .dcext)) (Xal : (shp .al).Idx → Elt F (elt .al)) (Xgr : (shp .gr).Idx → Elt F (elt .gr)) (Xgc : (shp .gc).Idx → Elt F (elt .gc)) : (b : B) → (shp b).Idx → Elt F (elt b)
  | .ax => Xax
  | .axh => Xaxh
  | .hs => Xhs
  | .hh => Xhh
  | .dh => Xdh
  | .pv => Xpv
  | .wa => Xwa
  | .wx => Xwx
  | .dax => Xdax
  | .dwa => Xdwa
  | .dwx => Xdwx
  | .dpv => Xdpv
  | .ext => Xext
  | .hext => Xhext
  | .dcext => Xdcext
  | .al => Xal
  | .gr => Xgr
  | .gc => Xgc

/-- What a grid point gives back, from the buffers that the body leaves. -/
theorem point_end (c : Dev nD) (t : Fin cfg0.N) (R : sProp 𝕄) (σ : (bufs (mems t)).State (Elt F)) :
    iprop(held Unit (UR sig nD τ) ℕ c (bufs (mems t)) σ ∗ R ∗ (∃ r, prngReg c r))
    ⊢ iprop(Pipeline.ΦA spec0 c ∗ R ∗ (∃ X, ⌜True⌝ ∗ owns (c : Thread nD τ) (mems t .ax) fullShare X) ∗ (∃ X, ⌜True⌝ ∗ owns (c : Thread nD τ) (mems t .axh) fullShare X) ∗ (∃ X, ⌜True⌝ ∗ owns (c : Thread nD τ) (mems t .hs) fullShare X) ∗ (∃ X, ⌜True⌝ ∗ owns (c : Thread nD τ) (mems t .hh) fullShare X) ∗ (∃ X, ⌜True⌝ ∗ owns (c : Thread nD τ) (mems t .dh) fullShare X) ∗ (∃ X, ⌜True⌝ ∗ owns (c : Thread nD τ) (mems t .pv) fullShare X) ∗ (∃ X, ⌜True⌝ ∗ owns (c : Thread nD τ) (mems t .wa) fullShare X) ∗ (∃ X, ⌜True⌝ ∗ owns (c : Thread nD τ) (mems t .wx) fullShare X) ∗ (∃ X, ⌜True⌝ ∗ owns (c : Thread nD τ) (mems t .dax) fullShare X) ∗ (∃ X, ⌜True⌝ ∗ owns (c : Thread nD τ) (mems t .dwa) fullShare X) ∗ (∃ X, ⌜True⌝ ∗ owns (c : Thread nD τ) (mems t .dwx) fullShare X) ∗ (∃ X, ⌜True⌝ ∗ owns (c : Thread nD τ) (mems t .dpv) fullShare X)) := by
  rw [held_eq, PhiA_eq]
  iintro ⟨⟨Hax, Haxh, Hhs, Hhh, Hdh, Hpv, Hwa, Hwx, Hdax, Hdwa, Hdwx, Hdpv, Hext, Hhext, Hdcext, Hal, Hgr, Hgc⟩, HR, Hg⟩
  isplitl [Hext Hhext Hdcext Hal Hgr Hgc Hg]
  · isplitr [Hg]
    · isplitl [Hext]; · iexists _; iexact Hext
      isplitl [Hhext]; · iexists _; iexact Hhext
      isplitl [Hdcext]; · iexists _; iexact Hdcext
      isplitl [Hal]; · iexists _; iexact Hal
      isplitl [Hgr]; · iexists _; iexact Hgr
      iexists _; iexact Hgc
    iexact Hg
  isplitl [HR]; · iexact HR
  isplitl [Hax]; · iexists _; isplitr; · ipureintro; trivial
                   iexact Hax
  isplitl [Haxh]; · iexists _; isplitr; · ipureintro; trivial
                    iexact Haxh
  isplitl [Hhs]; · iexists _; isplitr; · ipureintro; trivial
                   iexact Hhs
  isplitl [Hhh]; · iexists _; isplitr; · ipureintro; trivial
                   iexact Hhh
  isplitl [Hdh]; · iexists _; isplitr; · ipureintro; trivial
                   iexact Hdh
  isplitl [Hpv]; · iexists _; isplitr; · ipureintro; trivial
                   iexact Hpv
  isplitl [Hwa]; · iexists _; isplitr; · ipureintro; trivial
                   iexact Hwa
  isplitl [Hwx]; · iexists _; isplitr; · ipureintro; trivial
                   iexact Hwx
  isplitl [Hdax]; · iexists _; isplitr; · ipureintro; trivial
                    iexact Hdax
  isplitl [Hdwa]; · iexists _; isplitr; · ipureintro; trivial
                    iexact Hdwa
  isplitl [Hdwx]; · iexists _; isplitr; · ipureintro; trivial
                    iexact Hdwx
  iexists _; isplitr; · ipureintro; trivial
  iexact Hdpv

/-- At one grid point: whatever the buffers hold, the body ends and gives them back. -/
theorem sound_body (c : Dev nD) (t : Fin cfg0.N) (R : sProp 𝕄) (Xax : (shp .ax).Idx → Elt F (elt .ax)) (Xaxh : (shp .axh).Idx → Elt F (elt .axh)) (Xhs : (shp .hs).Idx → Elt F (elt .hs)) (Xhh : (shp .hh).Idx → Elt F (elt .hh)) (Xdh : (shp .dh).Idx → Elt F (elt .dh)) (Xpv : (shp .pv).Idx → Elt F (elt .pv)) (Xwa : (shp .wa).Idx → Elt F (elt .wa)) (Xwx : (shp .wx).Idx → Elt F (elt .wx)) (Xdax : (shp .dax).Idx → Elt F (elt .dax)) (Xdwa : (shp .dwa).Idx → Elt F (elt .dwa)) (Xdwx : (shp .dwx).Idx → Elt F (elt .dwx)) (Xdpv : (shp .dpv).Idx → Elt F (elt .dpv)) :
    iprop(Pipeline.ΦA spec0 c ∗ R ∗ owns (c : Thread nD τ) (mems t .ax) fullShare Xax ∗ owns (c : Thread nD τ) (mems t .axh) fullShare Xaxh ∗ owns (c : Thread nD τ) (mems t .hs) fullShare Xhs ∗ owns (c : Thread nD τ) (mems t .hh) fullShare Xhh ∗ owns (c : Thread nD τ) (mems t .dh) fullShare Xdh ∗ owns (c : Thread nD τ) (mems t .pv) fullShare Xpv ∗ owns (c : Thread nD τ) (mems t .wa) fullShare Xwa ∗ owns (c : Thread nD τ) (mems t .wx) fullShare Xwx ∗ owns (c : Thread nD τ) (mems t .dax) fullShare Xdax ∗ owns (c : Thread nD τ) (mems t .dwa) fullShare Xdwa ∗ owns (c : Thread nD τ) (mems t .dwx) fullShare Xdwx ∗ owns (c : Thread nD τ) (mems t .dpv) fullShare Xdpv)
    ⊢ wp frame (wpE (defs₀ (F := F)) Variants.nat c none) Set.univ (bodyAt0 t) (fun _ =>
      iprop(Pipeline.ΦA spec0 c ∗ R ∗ (∃ X, ⌜True⌝ ∗ owns (c : Thread nD τ) (mems t .ax) fullShare X) ∗ (∃ X, ⌜True⌝ ∗ owns (c : Thread nD τ) (mems t .axh) fullShare X) ∗ (∃ X, ⌜True⌝ ∗ owns (c : Thread nD τ) (mems t .hs) fullShare X) ∗ (∃ X, ⌜True⌝ ∗ owns (c : Thread nD τ) (mems t .hh) fullShare X) ∗ (∃ X, ⌜True⌝ ∗ owns (c : Thread nD τ) (mems t .dh) fullShare X) ∗ (∃ X, ⌜True⌝ ∗ owns (c : Thread nD τ) (mems t .pv) fullShare X) ∗ (∃ X, ⌜True⌝ ∗ owns (c : Thread nD τ) (mems t .wa) fullShare X) ∗ (∃ X, ⌜True⌝ ∗ owns (c : Thread nD τ) (mems t .wx) fullShare X) ∗ (∃ X, ⌜True⌝ ∗ owns (c : Thread nD τ) (mems t .dax) fullShare X) ∗ (∃ X, ⌜True⌝ ∗ owns (c : Thread nD τ) (mems t .dwa) fullShare X) ∗ (∃ X, ⌜True⌝ ∗ owns (c : Thread nD τ) (mems t .dwx) fullShare X) ∗ (∃ X, ⌜True⌝ ∗ owns (c : Thread nD τ) (mems t .dpv) fullShare X))) := by
  rw [PhiA_eq]
  iintro ⟨⟨⟨⟨%Xext, Hext⟩, ⟨%Xhext, Hhext⟩, ⟨%Xdcext, Hdcext⟩, ⟨%Xal, Hal⟩, ⟨%Xgr, Hgr⟩, ⟨%Xgc, Hgc⟩⟩, Hg⟩, HR, Hax, Haxh, Hhs, Hhh, Hdh, Hpv, Hwa, Hwx, Hdax, Hdwa, Hdwx, Hdpv⟩
  have hd := body (defs₀ (F := F)) c (mems t) (whole t) Unit (UR sig nD τ) ℕ none (grid0.coords t) (state Xax Xaxh Xhs Xhh Xdh Xpv Xwa Xwx Xdax Xdwa Xdwx Xdpv Xext Xhext Xdcext Xal Xgr Xgc)
  unfold Runs at hd
  iapply (wp_wand_r frame (wpE (defs₀ (F := F)) Variants.nat c none))
  isplitl [Hax Haxh Hhs Hhh Hdh Hpv Hwa Hwx Hdax Hdwa Hdwx Hdpv Hext Hhext Hdcext Hal Hgr Hgc]
  · iapply hd
    rw [held_eq]
    isplitl [Hax]; · iexact Hax
    isplitl [Haxh]; · iexact Haxh
    isplitl [Hhs]; · iexact Hhs
    isplitl [Hhh]; · iexact Hhh
    isplitl [Hdh]; · iexact Hdh
    isplitl [Hpv]; · iexact Hpv
    isplitl [Hwa]; · iexact Hwa
    isplitl [Hwx]; · iexact Hwx
    isplitl [Hdax]; · iexact Hdax
    isplitl [Hdwa]; · iexact Hdwa
    isplitl [Hdwx]; · iexact Hdwx
    isplitl [Hdpv]; · iexact Hdpv
    isplitl [Hext]; · iexact Hext
    isplitl [Hhext]; · iexact Hhext
    isplitl [Hdcext]; · iexact Hdcext
    isplitl [Hal]; · iexact Hal
    isplitl [Hgr]; · iexact Hgr
    iexact Hgc
  iintro %_ ⟨%σ, %_, H⟩
  rw [← PhiA_eq]
  iapply (point_end c t R σ)
  isplitl [H]; · iexact H
  isplitl [HR]; · iexact HR
  iexact Hg

/-- What the body of every grid point is obliged to do. -/
theorem body_obligation (c : Dev nD) : (rdat m c).BodyObligation (defs₀ (F := F)) Variants.nat () Set.univ := by
  intro t Y _
  rw [bigSep_W0, bigSep_W0, defs₀_row]
  exact triple_restated (sound_body c t ((rdat m c).owesAt () t.castSucc) (Y 0) (Y 1) (Y 2) (Y 3) (Y 4) (Y 5) (Y 6) (Y 7) (Y 8) (Y 9) (Y 10) (Y 11)) rfl .rfl fun _ => .rfl

set_option backward.isDefEq.respectTransparency.types false in
/-- A run of the whole program: it ends, each argument's array holds what it held, and every counter is zero. -/
theorem run_main : θ_run defs (onTc (τ := τ) (main (F := F))) (s₀ m ρ)
    (fun r => RDat.FramePost (cfgs 0) (rdat m) (V m) r ∧ r.2.sem = fun _ => 0) :=
  RDat.θ_run_frame_track_shared cfgs (0 : Fin 1) launch₀0 defs₀ Variants.nat (rdat m) m ρ main
    (hbody := body_obligation m) (hq := fun _ _ _ => rfl)
    (howed := fun _ _ => rfl) (V := V m) (hmain := hmain m Variants.nat) (hA := fun _ _ => rfl) (hin := fun _ => .rfl) (hout := fun _ => .rfl) (Q' := _)

/-- The frame: the program ends, its arguments are unchanged and every counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨h.1.arr_in c 1 rfl, h.1.arr_in c 3 rfl, h.1.arr_in c 4 rfl, h.1.arr_in c 5 rfl, h.1.arr_in c 6 rfl, h.1.arr_in c 7 rfl⟩, h.2⟩) (run_main m ρ)

end Cert.RgRun
end
-- ==== Proof.RgClaims.lean ====
module

public import proofs.«01_k».proof.Defs
public import proofs.«01_k».proof.Proof.Gen.RgKernel
public import proofs.«01_k».proof.Proof.RgLaunch

@[expose] public section

set_option maxRecDepth 16384

/-! The claims about the backward pass of the gated linear recurrence: that it ends and leaves its arguments alone. -/

noncomputable section

namespace Cert.RgClaims

open Idealize.ShloMosaic Idealize.ShloMosaic.TcCoe Idealize.SL.Sem

/-- The call terminates with its arguments unchanged and its semaphores at zero, over the extended reals. -/
theorem frame_ideal : Cert.quiescent_RgKernelIdeal := fun m ρ _ => Cert.RgRun.frame_main m ρ

/-- What the second of the two programs does on bits. -/
def Quiet : Prop :=
  ∀ (m : (ℓ : Loc Cert.RgKernelIdeal.nD Cert.RgKernelIdeal.τ Cert.RgKernelIdeal.sig) → Buf (Elt Bits) ℓ) (g : Dev Cert.RgKernelIdeal.nD → PrngReg),
    True → θ_run (Cert.RgKernelIdeal.defs (F := Bits)) (onTc (τ := Cert.RgKernelIdeal.τ) (Cert.RgKernelIdeal.main (F := Bits))) ⟨m, fun _ => 0, g⟩
      (fun r => (∀ c : Dev Cert.RgKernelIdeal.nD,
        r.2.mem ((c.tc : Thread Cert.RgKernelIdeal.nD Cert.RgKernelIdeal.τ).loc Cert.RgKernelIdeal.main_arg0) = m ((c.tc : Thread Cert.RgKernelIdeal.nD Cert.RgKernelIdeal.τ).loc Cert.RgKernelIdeal.main_arg0)
        ∧ r.2.mem ((c.tc : Thread Cert.RgKernelIdeal.nD Cert.RgKernelIdeal.τ).loc Cert.RgKernelIdeal.main_arg1) = m ((c.tc : Thread Cert.RgKernelIdeal.nD Cert.RgKernelIdeal.τ).loc Cert.RgKernelIdeal.main_arg1)
        ∧ r.2.mem ((c.tc : Thread Cert.RgKernelIdeal.nD Cert.RgKernelIdeal.τ).loc Cert.RgKernelIdeal.main_arg2) = m ((c.tc : Thread Cert.RgKernelIdeal.nD Cert.RgKernelIdeal.τ).loc Cert.RgKernelIdeal.main_arg2)
        ∧ r.2.mem ((c.tc : Thread Cert.RgKernelIdeal.nD Cert.RgKernelIdeal.τ).loc Cert.RgKernelIdeal.main_arg3) = m ((c.tc : Thread Cert.RgKernelIdeal.nD Cert.RgKernelIdeal.τ).loc Cert.RgKernelIdeal.main_arg3)
        ∧ r.2.mem ((c.tc : Thread Cert.RgKernelIdeal.nD Cert.RgKernelIdeal.τ).loc Cert.RgKernelIdeal.main_arg4) = m ((c.tc : Thread Cert.RgKernelIdeal.nD Cert.RgKernelIdeal.τ).loc Cert.RgKernelIdeal.main_arg4)
        ∧ r.2.mem ((c.tc : Thread Cert.RgKernelIdeal.nD Cert.RgKernelIdeal.τ).loc Cert.RgKernelIdeal.main_arg5) = m ((c.tc : Thread Cert.RgKernelIdeal.nD Cert.RgKernelIdeal.τ).loc Cert.RgKernelIdeal.main_arg5))
        ∧ r.2.sem = fun _ => 0)

theorem quiet : Quiet := fun m ρ _ => Cert.RgRun.frame_main m ρ

/-- The first program has the same text. -/
theorem same : Cert.quiescent_RgKernel = Quiet := by sl_kernel_rfl

/-- The call terminates with its arguments unchanged and its semaphores at zero, on bits. -/
theorem frame_kernel : Cert.quiescent_RgKernel := same ▸ quiet

end Cert.RgClaims
end
-- ==== Proof.lean ====
/- The proof of the certificate's claim: each call's frames, its idealization and its value claim, proved in the modules
   named below, put together. -/
module

public import proofs.«01_k».proof.Defs
public import proofs.«01_k».proof.Proof.Gen.GateKernelIdeal.Value
public import proofs.«01_k».proof.Proof.Gen.GateReferenceIdeal.Run
public import proofs.«01_k».proof.Proof.Gen.GateReferenceIdeal.Read
public import proofs.«01_k».proof.Proof.Gate
public import proofs.«01_k».proof.Proof.Gen.GateOneKernelIdeal.Value
public import proofs.«01_k».proof.Proof.Gen.GateOneReferenceIdeal.Run
public import proofs.«01_k».proof.Proof.Gen.GateOneReferenceIdeal.Read
public import proofs.«01_k».proof.Proof.GateOne
public import proofs.«01_k».proof.Proof.Gen.GateAKernelIdeal.Value
public import proofs.«01_k».proof.Proof.Gen.GateAReferenceIdeal.Run
public import proofs.«01_k».proof.Proof.Gen.GateAReferenceIdeal.Read
public import proofs.«01_k».proof.Proof.GateA
public import proofs.«01_k».proof.Proof.Gen.SbKernelIdeal
public import proofs.«01_k».proof.Proof.Gen.SbKernelIdeal.Skeleton
public import proofs.«01_k».proof.Proof.Gen.SbKernelIdeal.Loops
public import proofs.«01_k».proof.Proof.Gen.SbKernelIdeal.Launch
public import proofs.«01_k».proof.Proof.Gen.SbKernelIdeal.Points
public import proofs.«01_k».proof.Proof.Gen.SbReferenceIdeal.Run
public import proofs.«01_k».proof.Proof.Gen.SbReferenceIdeal.Read
public import proofs.«01_k».proof.Proof.Sb
public import proofs.«01_k».proof.Proof.Gen.SwaKernelIdeal
public import proofs.«01_k».proof.Proof.Gen.SwaKernelIdeal.Skeleton
public import proofs.«01_k».proof.Proof.Gen.SwaKernelIdeal.Launch
public import proofs.«01_k».proof.Proof.Gen.SwaKernelIdeal.Points
public import proofs.«01_k».proof.Proof.Gen.SwaReferenceIdeal.Run
public import proofs.«01_k».proof.Proof.Gen.SwaReferenceIdeal.Read
public import proofs.«01_k».proof.Proof.SwaClaims
public import proofs.«01_k».proof.Proof.Gen.LoKernelIdeal.Value
public import proofs.«01_k».proof.Proof.Gen.LoReferenceIdeal.Run
public import proofs.«01_k».proof.Proof.Gen.LoReferenceIdeal.Read
public import proofs.«01_k».proof.Proof.Lo
public import proofs.«01_k».proof.Proof.Gen.LnKernelIdeal.Value
public import proofs.«01_k».proof.Proof.Gen.LnReferenceIdeal.Run
public import proofs.«01_k».proof.Proof.Gen.LnReferenceIdeal.Read
public import proofs.«01_k».proof.Proof.Dx
public import proofs.«01_k».proof.Proof.Gen.RgKernel
public import proofs.«01_k».proof.Proof.Gen.RgKernelIdeal
public import proofs.«01_k».proof.Proof.Gen.RgKernelIdeal.Skeleton
public import proofs.«01_k».proof.Proof.Gen.RgKernelIdeal.Loops
public import proofs.«01_k».proof.Proof.Gen.RgKernelIdeal.Launch
public import proofs.«01_k».proof.Proof.Gen.RgKernelIdeal.Points
public import proofs.«01_k».proof.Proof.Gen.RgKernelIdeal.Frame
public import proofs.«01_k».proof.Proof.RgClaims

@[expose] public section

noncomputable section

namespace Cert.Proof

/-- Every claim of the certificate. -/
theorem claim : Cert.Claim := ⟨Cert.GateKernel.Gen.facts, Cert.GateKernelIdeal.Gen.facts, Cert.GateReferenceIdeal.Gen.facts, Cert.GateOneKernel.Gen.facts, Cert.GateOneKernelIdeal.Gen.facts, Cert.GateOneReferenceIdeal.Gen.facts, Cert.GateAKernel.Gen.facts, Cert.GateAKernelIdeal.Gen.facts, Cert.GateAReferenceIdeal.Gen.facts, Cert.SbKernelIdeal.Gen.facts, Cert.SbReferenceIdeal.Gen.facts, Cert.SwaKernelIdeal.Gen.facts, Cert.SwaReferenceIdeal.Gen.facts, Cert.LoKernel.Gen.facts, Cert.LoKernelIdeal.Gen.facts, Cert.LoReferenceIdeal.Gen.facts, Cert.LnKernel.Gen.facts, Cert.LnKernelIdeal.Gen.facts, Cert.LnReferenceIdeal.Gen.facts, Cert.RgKernel.Gen.facts, Cert.RgKernelIdeal.Gen.facts, Cert.Pre_gate_finite.Gen.facts, Cert.Pre_gate1_finite.Gen.facts, Cert.Pre_gatea_finite.Gen.facts, Cert.Pre_sb_finite.Gen.facts, Cert.Pre_swa_finite.Gen.facts, Cert.Pre_lo_finite.Gen.facts, Cert.Pre_ln_finite.Gen.facts,
  Gate.frame_kernel, Gate.frame_ideal, Gate.frame_ideal_finite, Gate.frame_reference, Gate.frame_reference_finite, GateOne.frame_kernel, GateOne.frame_ideal, GateOne.frame_ideal_finite, GateOne.frame_reference, GateOne.frame_reference_finite, GateA.frame_kernel, GateA.frame_ideal, GateA.frame_ideal_finite, GateA.frame_reference, GateA.frame_reference_finite, SbClaims.frame_ideal, SbClaims.frame_ideal_finite, SbClaims.frame_reference, SbClaims.frame_reference_finite, SwaClaims.frame_ideal, SwaClaims.frame_ideal_finite, SwaClaims.frame_reference, SwaClaims.frame_reference_finite, LoClaims.frame_kernel, LoClaims.frame_ideal, LoClaims.frame_ideal_finite, LoClaims.frame_reference, LoClaims.frame_reference_finite, DxClaims.frame_kernel, DxClaims.frame_ideal, DxClaims.frame_ideal_finite, DxClaims.frame_reference, DxClaims.frame_reference_finite, RgClaims.frame_kernel, RgClaims.frame_ideal,
  trivial, Gate.algebraic, trivial, GateOne.algebraic, trivial, GateA.algebraic, SbClaims.algebraic, SwaClaims.algebraic, trivial, LoClaims.algebraic, trivial, DxClaims.algebraic, trivial⟩

end Cert.Proof

end
